-- ==== Defs.lean ====
def Pre_Kernel [hPre_windows_inside : Cert.Pre_windows_inside.Facts] (m : (ℓ : Loc Cert.Kernel.nD Cert.Kernel.τ Cert.Kernel.sig) → Buf (Elt Bits) ℓ) : Prop :=
  ∀ c : Dev Cert.Kernel.nD,
    (Cert.Pre_windows_inside.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_windows_inside : Cert.Pre_windows_inside.Facts] (m : (ℓ : Loc Cert.KernelIdeal.nD Cert.KernelIdeal.τ Cert.KernelIdeal.sig) → Buf (Elt Ideal) ℓ) : Prop :=
  ∀ c : Dev Cert.KernelIdeal.nD,
    (Cert.Pre_windows_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_tables_sound [hPre_tables_sound : Cert.Pre_tables_sound.Facts] (m : (ℓ : Loc Cert.KernelIdeal.nD Cert.KernelIdeal.τ Cert.KernelIdeal.sig) → Buf (Elt Ideal) ℓ) : Prop :=
  ∀ c : Dev Cert.KernelIdeal.nD,
    (Cert.Pre_tables_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_sound [hPre_tables_sound : Cert.Pre_tables_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_windows_inside : Cert.Pre_windows_inside.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_windows_inside : Cert.Pre_windows_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tables_sound [hKernelIdeal : Cert.KernelIdeal.Facts] [hPre_tables_sound : Cert.Pre_tables_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables_sound [hReferenceIdeal : Cert.ReferenceIdeal.Facts] [hPre_tables_sound : Cert.Pre_tables_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tables_sound [hKernelIdeal : Cert.KernelIdeal.Facts] [hReferenceIdeal : Cert.ReferenceIdeal.Facts] [hPre_tables_sound : Cert.Pre_tables_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_windows_inside : Cert.Pre_windows_inside.Facts) (hPre_tables_sound : Cert.Pre_tables_sound.Facts),
    quiescent_Kernel (hKernel := hKernel) (hPre_windows_inside := hPre_windows_inside)
    ∧ quiescent_KernelIdeal (hKernelIdeal := hKernelIdeal) (hPre_windows_inside := hPre_windows_inside)
    ∧ quiescent_KernelIdeal_pre_tables_sound (hKernelIdeal := hKernelIdeal) (hPre_tables_sound := hPre_tables_sound)
    ∧ quiescent_ReferenceIdeal (hReferenceIdeal := hReferenceIdeal)
    ∧ quiescent_ReferenceIdeal_pre_tables_sound (hReferenceIdeal := hReferenceIdeal) (hPre_tables_sound := hPre_tables_sound)
    ∧ preserves_Kernel_KernelIdeal
    ∧ algebraic_KernelIdeal_ReferenceIdeal_pre_tables_sound (hKernelIdeal := hKernelIdeal) (hReferenceIdeal := hReferenceIdeal) (hPre_tables_sound := hPre_tables_sound)
-- ==== Pre_tables_sound.lean ====
abbrev S26112 : Shape := ⟨1, ![26112]⟩
abbrev S96x8x96 : Shape := ⟨3, ![96, 8, 96]⟩
abbrev S96x48x128 : Shape := ⟨3, ![96, 48, 128]⟩
abbrev S96x8x128 : Shape := ⟨3, ![96, 8, 128]⟩
abbrev S12x8x96x32768 : Shape := ⟨4, ![12, 8, 96, 32768]⟩
abbrev S24576x128 : Shape := ⟨2, ![24576, 128]⟩
abbrev S96x272 : Shape := ⟨2, ![96, 272]⟩
abbrev S96x1 : Shape := ⟨2, ![96, 1]⟩
abbrev S96x256 : Shape := ⟨2, ![96, 256]⟩
abbrev S_ : Shape := ⟨0, ![]⟩
abbrev S96x256x128 : Shape := ⟨3, ![96, 256, 128]⟩
abbrev S96x256x1 : Shape := ⟨3, ![96, 256, 1]⟩
abbrev S96x8 : Shape := ⟨2, ![96, 8]⟩
abbrev S96x8x1 : Shape := ⟨3, ![96, 8, 1]⟩
abbrev S96x272x128 : Shape := ⟨3, ![96, 272, 128]⟩

class Facts : Prop where
  shapeCasts_S26112_S96x272 : S26112.ShapeCasts S96x272
  slices_S96x272_S96x1_0_256 : S96x272.Slices ![0, 256] S96x1
  slices_S96x272_S96x256_0_0 : S96x272.Slices ![0, 0] S96x256
  bcast_S_S96x1 : S_.BroadcastsInDim S96x1 (![] : Fin 0 → Fin S96x1.rank)
  bcast_S_S96x256 : S_.BroadcastsInDim S96x256 (![] : Fin 0 → Fin S96x256.rank)
  bcast_S96x1_S96x256_0_1 : S96x1.BroadcastsInDim S96x256 (![0, 1] : Fin 2 → Fin S96x256.rank)
  shapeCasts_S24576x128_S96x256x128 : S24576x128.ShapeCasts S96x256x128
  bcast_S_S96x256x128 : S_.BroadcastsInDim S96x256x128 (![] : Fin 0 → Fin S96x256x128.rank)
  bcast_S96x256_S96x256x1_0_1 : S96x256.BroadcastsInDim S96x256x1 (![0, 1] : Fin 2 → Fin S96x256x1.rank)
  bcast_S96x256x1_S96x256x128_0_1_2 : S96x256x1.BroadcastsInDim S96x256x128 (![0, 1, 2] : Fin 3 → Fin S96x256x128.rank)
  reducesTo_S96x8x128_S96x8_d2 : S96x8x128.ReducesTo [2] S96x8
  h_S_ : 0 < S_.numel
  bcast_S96x8_S96x8x1_0_1 : S96x8.BroadcastsInDim S96x8x1 (![0, 1] : Fin 2 → Fin S96x8x1.rank)
  bcast_S_S96x8x1 : S_.BroadcastsInDim S96x8x1 (![] : Fin 0 → Fin S96x8x1.rank)
  bcast_S96x8x1_S96x8x128_0_1_2 : S96x8x1.BroadcastsInDim S96x8x128 (![0, 1, 2] : Fin 3 → Fin S96x8x128.rank)
  slices_S96x8x128_S96x8x1_0_0_0 : S96x8x128.Slices ![0, 0, 0] S96x8x1
  bcast_S_S96x8x128 : S_.BroadcastsInDim S96x8x128 (![] : Fin 0 → Fin S96x8x128.rank)
  concatenates_S96x256x128_S96x8x128_S96x8x128_S96x272x128_d1 : Shape.Concatenates [S96x256x128, S96x8x128, S96x8x128] S96x272x128 1

variable [Facts]

def fn_part3 {F : FTy → Type} [FloatOps F] (main_arg3 : FVec F S96x8x128 .f32) (main_v50 : IVec S96x256x128 1) (main_v55 : IVec S96x8x128 1) (main_v56 : FVec F S96x8x1 .f32) : IVec S96x272x128 1 :=
  let main_v57 : FVec F S96x8x128 .f32 := broadcastInDim S96x8x128 ![0, 1, 2] bcast_S96x8x1_S96x8x128_0_1_2 main_v56
  let main_v58 : FVec F S96x8x128 .f32 := subf main_arg3 main_v57
  let main_cst_13 : FVec F S_ .f32 := constant S_ .f32 0x00000000#32
  let main_v59 : FVec F S96x8x128 .f32 := broadcastInDim S96x8x128 ![] bcast_S_S96x8x128 main_cst_13
  let main_v60 : IVec S96x8x128 1 := cmpf .oeq main_v58 main_v59
  let main_v61 : IVec S96x272x128 1 := concatenate S96x272x128 1 [⟨S96x256x128, main_v50⟩, ⟨S96x8x128, main_v60⟩, ⟨S96x8x128, main_v55⟩] concatenates_S96x256x128_S96x8x128_S96x8x128_S96x272x128_d1
  main_v61

def fn_part2 {F : FTy → Type} [FloatOps F] (main_arg3 : FVec F S96x8x128 .f32) (main_arg4 : FVec F S96x8x128 .f32) (main_v8 : IVec S96x1 1) (main_v12 : IVec S96x256 1) (main_v17 : IVec S96x256 1) (main_v20 : IVec S96x256x128 32) (main_v27 : IVec S96x256x128 32) (main_v35 : IVec S96x256x128 1) (main_c_10 : IVec S_ 32) : IVec S96x272x128 1 :=
  let main_v36 : IVec S96x256x128 32 := broadcastInDim S96x256x128 ![] bcast_S_S96x256x128 main_c_10
  let main_v37 : IVec S96x256x128 1 := cmpi .slt main_v27 main_v36
  let main_v38 : IVec S96x256x128 1 := andi main_v35 main_v37
  let main_v39 : IVec S96x256 1 := ori main_v17 main_v12
  let main_v40 : IVec S96x256 1 := broadcastInDim S96x256 ![0, 1] bcast_S96x1_S96x256_0_1 main_v8
  let main_v41 : IVec S96x256 1 := andi main_v40 main_v39
  let main_v42 : IVec S96x256x1 1 := broadcastInDim S96x256x1 ![0, 1] bcast_S96x256_S96x256x1_0_1 main_v41
  let main_v43 : IVec S96x256x1 1 := broadcastInDim S96x256x1 ![0, 1] bcast_S96x256_S96x256x1_0_1 main_v12
  let main_c_11 : IVec S_ 32 := constantI S_ 32 511#32
  let main_v44 : IVec S96x256x128 32 := broadcastInDim S96x256x128 ![] bcast_S_S96x256x128 main_c_11
  let main_v45 : IVec S96x256x128 1 := cmpi .eq main_v20 main_v44
  let main_v46 : IVec S96x256x128 1 := broadcastInDim S96x256x128 ![0, 1, 2] bcast_S96x256x1_S96x256x128_0_1_2 main_v43
  let main_v47 : IVec S96x256x128 1 := ori main_v46 main_v45
  let main_v48 : IVec S96x256x128 1 := ori main_v47 main_v38
  let main_v49 : IVec S96x256x128 1 := broadcastInDim S96x256x128 ![0, 1, 2] bcast_S96x256x1_S96x256x128_0_1_2 main_v42
  let main_v50 : IVec S96x256x128 1 := andi main_v49 main_v48
  let main_cst : FVec F S_ .f32 := constant S_ .f32 0x00000000#32
  let main_v51 : FVec F S96x8 .f32 := (fun x v => Host.reduceAdd x v reducesTo_S96x8x128_S96x8_d2 h_S_) main_arg4 main_cst
  let main_v52 : FVec F S96x8x1 .f32 := broadcastInDim S96x8x1 ![0, 1] bcast_S96x8_S96x8x1_0_1 main_v51
  let main_cst_12 : FVec F S_ .f32 := constant S_ .f32 0x00000000#32
  let main_v53 : FVec F S96x8x1 .f32 := broadcastInDim S96x8x1 ![] bcast_S_S96x8x1 main_cst_12
  let main_v54 : IVec S96x8x1 1 := cmpf .ogt main_v52 main_v53
  let main_v55 : IVec S96x8x128 1 := broadcastInDim S96x8x128 ![0, 1, 2] bcast_S96x8x1_S96x8x128_0_1_2 main_v54
  let main_v56 : FVec F S96x8x1 .f32 := (extractStridedSlice S96x8x1 ![0, 0, 0] · slices_S96x8x128_S96x8x1_0_0_0) main_arg3
  fn_part3 (F := F) main_arg3 main_v50 main_v55 main_v56

def fn_part1 {F : FTy → Type} [FloatOps F] (main_arg3 : FVec F S96x8x128 .f32) (main_arg4 : FVec F S96x8x128 .f32) (main_v2 : IVec S96x256 32) (main_v8 : IVec S96x1 1) (main_v12 : IVec S96x256 1) (main_v17 : IVec S96x256 1) (main_v18 : IVec S96x256x128 32) : IVec S96x272x128 1 :=
  let main_c_4 : IVec S_ 32 := constantI S_ 32 511#32
  let main_v19 : IVec S96x256x128 32 := broadcastInDim S96x256x128 ![] bcast_S_S96x256x128 main_c_4
  let main_v20 : IVec S96x256x128 32 := andi main_v18 main_v19
  let main_v21 : IVec S96x256x1 32 := broadcastInDim S96x256x1 ![0, 1] bcast_S96x256_S96x256x1_0_1 main_v2
  let main_v22 : IVec S96x256x128 32 := broadcastInDim S96x256x128 ![0, 1, 2] bcast_S96x256x1_S96x256x128_0_1_2 main_v21
  let main_v23 : IVec S96x256x128 32 := subi main_v20 main_v22
  let main_c_5 : IVec S_ 32 := constantI S_ 32 9#32
  let main_v24 : IVec S96x256x128 32 := broadcastInDim S96x256x128 ![] bcast_S_S96x256x128 main_c_5
  let main_v25 : IVec S96x256x128 32 := Host.shrsi main_v18 main_v24
  let main_c_6 : IVec S_ 32 := constantI S_ 32 1#32
  let main_v26 : IVec S96x256x128 32 := broadcastInDim S96x256x128 ![] bcast_S_S96x256x128 main_c_6
  let main_v27 : IVec S96x256x128 32 := subi main_v25 main_v26
  let main_c_7 : IVec S_ 32 := constantI S_ 32 0#32
  let main_v28 : IVec S96x256x128 32 := broadcastInDim S96x256x128 ![] bcast_S_S96x256x128 main_c_7
  let main_v29 : IVec S96x256x128 1 := cmpi .sge main_v23 main_v28
  let main_c_8 : IVec S_ 32 := constantI S_ 32 16#32
  let main_v30 : IVec S96x256x128 32 := broadcastInDim S96x256x128 ![] bcast_S_S96x256x128 main_c_8
  let main_v31 : IVec S96x256x128 1 := cmpi .slt main_v23 main_v30
  let main_v32 : IVec S96x256x128 1 := andi main_v29 main_v31
  let main_c_9 : IVec S_ 32 := constantI S_ 32 0#32
  let main_v33 : IVec S96x256x128 32 := broadcastInDim S96x256x128 ![] bcast_S_S96x256x128 main_c_9
  let main_v34 : IVec S96x256x128 1 := cmpi .sge main_v27 main_v33
  let main_v35 : IVec S96x256x128 1 := andi main_v32 main_v34
  let main_c_10 : IVec S_ 32 := constantI S_ 32 128#32
  fn_part2 (F := F) main_arg3 main_arg4 main_v8 main_v12 main_v17 main_v20 main_v27 main_v35 main_c_10

def fn {F : FTy → Type} [FloatOps F] (main_arg0 : IVec S26112 32) (main_arg1 : FVec F S96x8x96 .bf16) (main_arg2 : IVec S96x48x128 32) (main_arg3 : FVec F S96x8x128 .f32) (main_arg4 : FVec F S96x8x128 .f32) (main_arg5 : FVec F S96x8x96 .f32) (main_arg6 : IVec S12x8x96x32768 8) (main_arg7 : IVec S12x8x96x32768 8) (main_arg8 : IVec S24576x128 32) (main_arg9 : FVec F S24576x128 .f32) : IVec S96x272x128 1 :=
  let main_v0 : IVec S96x272 32 := shapeCast S96x272 main_arg0 shapeCasts_S26112_S96x272
  let main_v1 : IVec S96x1 32 := (extractStridedSlice S96x1 ![0, 256] · slices_S96x272_S96x1_0_256) main_v0
  let main_v2 : IVec S96x256 32 := (extractStridedSlice S96x256 ![0, 0] · slices_S96x272_S96x256_0_0) main_v0
  let main_v3 : IVec S96x256 32 := iotaInDim S96x256 32 1
  let main_c : IVec S_ 32 := constantI S_ 32 0#32
  let main_v4 : IVec S96x1 32 := broadcastInDim S96x1 ![] bcast_S_S96x1 main_c
  let main_v5 : IVec S96x1 1 := cmpi .sge main_v1 main_v4
  let main_c_0 : IVec S_ 32 := constantI S_ 32 256#32
  let main_v6 : IVec S96x1 32 := broadcastInDim S96x1 ![] bcast_S_S96x1 main_c_0
  let main_v7 : IVec S96x1 1 := cmpi .sle main_v1 main_v6
  let main_v8 : IVec S96x1 1 := andi main_v5 main_v7
  let main_c_1 : IVec S_ 32 := constantI S_ 32 4294967288#32
  let main_v9 : IVec S96x256 32 := broadcastInDim S96x256 ![] bcast_S_S96x256 main_c_1
  let main_v10 : IVec S96x256 32 := andi main_v3 main_v9
  let main_v11 : IVec S96x256 32 := broadcastInDim S96x256 ![0, 1] bcast_S96x1_S96x256_0_1 main_v1
  let main_v12 : IVec S96x256 1 := cmpi .sge main_v10 main_v11
  let main_c_2 : IVec S_ 32 := constantI S_ 32 0#32
  let main_v13 : IVec S96x256 32 := broadcastInDim S96x256 ![] bcast_S_S96x256 main_c_2
  let main_v14 : IVec S96x256 1 := cmpi .sge main_v2 main_v13
  let main_c_3 : IVec S_ 32 := constantI S_ 32 240#32
  let main_v15 : IVec S96x256 32 := broadcastInDim S96x256 ![] bcast_S_S96x256 main_c_3
  let main_v16 : IVec S96x256 1 := cmpi .sle main_v2 main_v15
  let main_v17 : IVec S96x256 1 := andi main_v14 main_v16
  let main_v18 : IVec S96x256x128 32 := shapeCast S96x256x128 main_arg8 shapeCasts_S24576x128_S96x256x128
  fn_part1 (F := F) main_arg3 main_arg4 main_v2 main_v8 main_v12 main_v17 main_v18
-- ==== Pre_windows_inside.lean ====
abbrev S26112 : Shape := ⟨1, ![26112]⟩
abbrev S96x8x96 : Shape := ⟨3, ![96, 8, 96]⟩
abbrev S96x48x128 : Shape := ⟨3, ![96, 48, 128]⟩
abbrev S96x8x128 : Shape := ⟨3, ![96, 8, 128]⟩
abbrev S12x8x96x32768 : Shape := ⟨4, ![12, 8, 96, 32768]⟩
abbrev S24576x128 : Shape := ⟨2, ![24576, 128]⟩
abbrev S96x272 : Shape := ⟨2, ![96, 272]⟩
abbrev S96x1 : Shape := ⟨2, ![96, 1]⟩
abbrev S96x256 : Shape := ⟨2, ![96, 256]⟩
abbrev S_ : Shape := ⟨0, ![]⟩

class Facts : Prop where
  shapeCasts_S26112_S96x272 : S26112.ShapeCasts S96x272
  slices_S96x272_S96x1_0_256 : S96x272.Slices ![0, 256] S96x1
  slices_S96x272_S96x256_0_0 : S96x272.Slices ![0, 0] S96x256
  bcast_S_S96x1 : S_.BroadcastsInDim S96x1 (![] : Fin 0 → Fin S96x1.rank)
  bcast_S_S96x256 : S_.BroadcastsInDim S96x256 (![] : Fin 0 → Fin S96x256.rank)
  bcast_S96x1_S96x256_0_1 : S96x1.BroadcastsInDim S96x256 (![0, 1] : Fin 2 → Fin S96x256.rank)

variable [Facts]

def fn_part1 {F : FTy → Type} [FloatOps F] (main_v8 : IVec S96x1 1) (main_v18 : IVec S96x256 1) : IVec S96x256 1 :=
  let main_v19 : IVec S96x256 1 := broadcastInDim S96x256 ![0, 1] bcast_S96x1_S96x256_0_1 main_v8
  let main_v20 : IVec S96x256 1 := andi main_v19 main_v18
  main_v20

def fn {F : FTy → Type} [FloatOps F] (main_arg0 : IVec S26112 32) (main_arg1 : FVec F S96x8x96 .bf16) (main_arg2 : IVec S96x48x128 32) (main_arg3 : FVec F S96x8x128 .f32) (main_arg4 : FVec F S96x8x128 .f32) (main_arg5 : FVec F S96x8x96 .f32) (main_arg6 : IVec S12x8x96x32768 8) (main_arg7 : IVec S12x8x96x32768 8) (main_arg8 : IVec S24576x128 32) (main_arg9 : FVec F S24576x128 .f32) : IVec S96x256 1 :=
  let main_v0 : IVec S96x272 32 := shapeCast S96x272 main_arg0 shapeCasts_S26112_S96x272
  let main_v1 : IVec S96x1 32 := (extractStridedSlice S96x1 ![0, 256] · slices_S96x272_S96x1_0_256) main_v0
  let main_v2 : IVec S96x256 32 := (extractStridedSlice S96x256 ![0, 0] · slices_S96x272_S96x256_0_0) main_v0
  let main_v3 : IVec S96x256 32 := iotaInDim S96x256 32 1
  let main_c : IVec S_ 32 := constantI S_ 32 0#32
  let main_v4 : IVec S96x1 32 := broadcastInDim S96x1 ![] bcast_S_S96x1 main_c
  let main_v5 : IVec S96x1 1 := cmpi .sge main_v1 main_v4
  let main_c_0 : IVec S_ 32 := constantI S_ 32 256#32
  let main_v6 : IVec S96x1 32 := broadcastInDim S96x1 ![] bcast_S_S96x1 main_c_0
  let main_v7 : IVec S96x1 1 := cmpi .sle main_v1 main_v6
  let main_v8 : IVec S96x1 1 := andi main_v5 main_v7
  let main_c_1 : IVec S_ 32 := constantI S_ 32 0#32
  let main_v9 : IVec S96x256 32 := broadcastInDim S96x256 ![] bcast_S_S96x256 main_c_1
  let main_v10 : IVec S96x256 1 := cmpi .sge main_v2 main_v9
  let main_c_2 : IVec S_ 32 := constantI S_ 32 240#32
  let main_v11 : IVec S96x256 32 := broadcastInDim S96x256 ![] bcast_S_S96x256 main_c_2
  let main_v12 : IVec S96x256 1 := cmpi .sle main_v2 main_v11
  let main_v13 : IVec S96x256 1 := andi main_v10 main_v12
  let main_c_3 : IVec S_ 32 := constantI S_ 32 4294967288#32
  let main_v14 : IVec S96x256 32 := broadcastInDim S96x256 ![] bcast_S_S96x256 main_c_3
  let main_v15 : IVec S96x256 32 := andi main_v3 main_v14
  let main_v16 : IVec S96x256 32 := broadcastInDim S96x256 ![0, 1] bcast_S96x1_S96x256_0_1 main_v1
  let main_v17 : IVec S96x256 1 := cmpi .sge main_v15 main_v16
  let main_v18 : IVec S96x256 1 := ori main_v13 main_v17
  fn_part1 (F := F) main_v8 main_v18
-- ==== Kernel.lean ====
abbrev S26112 : Shape := ⟨1, ![26112]⟩
abbrev S96x8x96 : Shape := ⟨3, ![96, 8, 96]⟩
abbrev S96x48x128 : Shape := ⟨3, ![96, 48, 128]⟩
abbrev S96x8x128 : Shape := ⟨3, ![96, 8, 128]⟩
abbrev S12x8x96x32768 : Shape := ⟨4, ![12, 8, 96, 32768]⟩
abbrev S24576x128 : Shape := ⟨2, ![24576, 128]⟩
abbrev S4x96x32768 : Shape := ⟨3, ![4, 96, 32768]⟩
abbrev S4x256x128 : Shape := ⟨3, ![4, 256, 128]⟩
abbrev S4x96x256 : Shape := ⟨3, ![4, 96, 256]⟩
abbrev S4x8x24x128 : Shape := ⟨4, ![4, 8, 24, 128]⟩
abbrev S4x8x128 : Shape := ⟨3, ![4, 8, 128]⟩
abbrev S8x8x128 : Shape := ⟨3, ![8, 8, 128]⟩
abbrev S4x8x256 : Shape := ⟨3, ![4, 8, 256]⟩
abbrev S8x128 : Shape := ⟨2, ![8, 128]⟩
abbrev S97x8x128 : Shape := ⟨3, ![97, 8, 128]⟩
abbrev S97x8x96 : Shape := ⟨3, ![97, 8, 96]⟩
abbrev S4 : Shape := ⟨1, ![4]⟩
abbrev S1 : Shape := ⟨1, ![1]⟩
abbrev S_ : Shape := ⟨0, ![]⟩
abbrev S1x80x128 : Shape := ⟨3, ![1, 80, 128]⟩
abbrev S80x128 : Shape := ⟨2, ![80, 128]⟩
abbrev S1x96x32768 : Shape := ⟨3, ![1, 96, 32768]⟩
abbrev S96x32768 : Shape := ⟨2, ![96, 32768]⟩
abbrev S1x1x96x32768 : Shape := ⟨4, ![1, 1, 96, 32768]⟩
abbrev S1x176x128 : Shape := ⟨3, ![1, 176, 128]⟩
abbrev S176x128 : Shape := ⟨2, ![176, 128]⟩
abbrev S1x8x128 : Shape := ⟨3, ![1, 8, 128]⟩
abbrev S8x96 : Shape := ⟨2, ![8, 96]⟩
abbrev S1x8x96 : Shape := ⟨3, ![1, 8, 96]⟩
abbrev S1x1x8x128 : Shape := ⟨4, ![1, 1, 8, 128]⟩
abbrev S32x128 : Shape := ⟨2, ![32, 128]⟩
abbrev S96x128 : Shape := ⟨2, ![96, 128]⟩
abbrev S96x256 : Shape := ⟨2, ![96, 256]⟩
abbrev S1x8x256 : Shape := ⟨3, ![1, 8, 256]⟩
abbrev S8x256 : Shape := ⟨2, ![8, 256]⟩
abbrev S8 : Shape := ⟨1, ![8]⟩
abbrev S8x1 : Shape := ⟨2, ![8, 1]⟩
abbrev S1x1x128 : Shape := ⟨3, ![1, 1, 128]⟩
abbrev S1x128 : Shape := ⟨2, ![1, 128]⟩
abbrev S1x96x256 : Shape := ⟨3, ![1, 96, 256]⟩
abbrev S1x32x128 : Shape := ⟨3, ![1, 32, 128]⟩
abbrev S8x128x1 : Shape := ⟨3, ![8, 128, 1]⟩
abbrev S16x128 : Shape := ⟨2, ![16, 128]⟩

abbrev nBuf : Space → Nat
  | .hbm => 11
  | .vmem => 21
  | .smem => 1
  | _ => 0

abbrev bufTy : (tb : Table) → Fin (tcTables nBuf tb) → BufTy
  | .hbm, ⟨0, _⟩ => ⟨S26112, .i32⟩
  | .hbm, ⟨1, _⟩ => ⟨S96x8x96, .bf16⟩
  | .hbm, ⟨2, _⟩ => ⟨S96x48x128, .i32⟩
  | .hbm, ⟨3, _⟩ => ⟨S96x8x128, .f32⟩
  | .hbm, ⟨4, _⟩ => ⟨S96x8x128, .f32⟩
  | .hbm, ⟨5, _⟩ => ⟨S96x8x96, .f32⟩
  | .hbm, ⟨6, _⟩ => ⟨S12x8x96x32768, .i8⟩
  | .hbm, ⟨7, _⟩ => ⟨S12x8x96x32768, .i8⟩
  | .hbm, ⟨8, _⟩ => ⟨S24576x128, .i32⟩
  | .hbm, ⟨9, _⟩ => ⟨S24576x128, .f32⟩
  | .hbm, ⟨10, _⟩ => ⟨S96x8x96, .f32⟩
  | .local _ .vmem, ⟨0, _⟩ => ⟨S96x8x96, .bf16⟩
  | .local _ .vmem, ⟨1, _⟩ => ⟨S96x48x128, .i32⟩
  | .local _ .vmem, ⟨2, _⟩ => ⟨S96x8x128, .f32⟩
  | .local _ .vmem, ⟨3, _⟩ => ⟨S96x8x128, .f32⟩
  | .local _ .vmem, ⟨4, _⟩ => ⟨S96x8x96, .f32⟩
  | .local _ .vmem, ⟨5, _⟩ => ⟨S96x8x96, .f32⟩
  | .local _ .vmem, ⟨6, _⟩ => ⟨S4x96x32768, .i8⟩
  | .local _ .vmem, ⟨7, _⟩ => ⟨S4x96x32768, .i8⟩
  | .local _ .vmem, ⟨8, _⟩ => ⟨S4x256x128, .i32⟩
  | .local _ .vmem, ⟨9, _⟩ => ⟨S4x256x128, .f32⟩
  | .local _ .vmem, ⟨10, _⟩ => ⟨S4x96x256, .bf16⟩
  | .local _ .vmem, ⟨11, _⟩ => ⟨S4x8x24x128, .i32⟩
  | .local _ .vmem, ⟨12, _⟩ => ⟨S4x8x128, .i32⟩
  | .local _ .vmem, ⟨13, _⟩ => ⟨S4x8x128, .f32⟩
  | .local _ .vmem, ⟨14, _⟩ => ⟨S8x8x128, .f32⟩
  | .local _ .vmem, ⟨15, _⟩ => ⟨S4x8x256, .bf16⟩
  | .local _ .vmem, ⟨16, _⟩ => ⟨S8x128, .f32⟩
  | .local _ .vmem, ⟨17, _⟩ => ⟨S8x128, .f32⟩
  | .local _ .vmem, ⟨18, _⟩ => ⟨S97x8x128, .f32⟩
  | .local _ .vmem, ⟨19, _⟩ => ⟨S97x8x128, .f32⟩
  | .local _ .vmem, ⟨20, _⟩ => ⟨S97x8x96, .f32⟩
  | .local _ .smem, ⟨0, _⟩ => ⟨S26112, .i32⟩
  | _, _ => ⟨S26112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_off1 : Fin 2 → Nat :=
  let c0_i32 : BitVec 32 := 0#32
  let v0 : BitVec 32 := c0_i32
  let c80_i32 : BitVec 32 := 80#32
  let v1 : BitVec 32 := Scalar.addi v0 c80_i32
  let c0_i32_743 : BitVec 32 := 0#32
  ![v1.toNat, 0]
def k0_mult2 : BitVec 32 :=
  let c256_i32 : BitVec 32 := 256#32
  c256_i32
def k0_off2 : Fin 2 → Nat :=
  let c256_i32 : BitVec 32 := 256#32
  let v29 : BitVec 32 := c256_i32
  let c80_i32_32 : BitVec 32 := 80#32
  let v30 : BitVec 32 := Scalar.addi v29 c80_i32_32
  let c0_i32_743 : BitVec 32 := 0#32
  ![v30.toNat, 0]
def k0_mult3 : BitVec 32 :=
  let c512_i32 : BitVec 32 := 512#32
  c512_i32
def k0_off3 : Fin 2 → Nat :=
  let c512_i32 : BitVec 32 := 512#32
  let v58 : BitVec 32 := c512_i32
  let c80_i32_64 : BitVec 32 := 80#32
  let v59 : BitVec 32 := Scalar.addi v58 c80_i32_64
  let c0_i32_743 : BitVec 32 := 0#32
  ![v59.toNat, 0]
def k0_mult4 : BitVec 32 :=
  let c768_i32 : BitVec 32 := 768#32
  c768_i32
def k0_off4 : Fin 2 → Nat :=
  let c768_i32 : BitVec 32 := 768#32
  let v87 : BitVec 32 := c768_i32
  let c80_i32_96 : BitVec 32 := 80#32
  let v88 : BitVec 32 := Scalar.addi v87 c80_i32_96
  let c0_i32_743 : BitVec 32 := 0#32
  ![v88.toNat, 0]
@[reducible] def k0_t1_loop : Scf.Loop 32 :=
  let c0_i32_186 : BitVec 32 := 0#32
  let c96_i32_187 : BitVec 32 := 96#32
  let v168 : BitVec 32 := Scalar.addi c0_i32_186 c96_i32_187
  let c1_i32_188 : BitVec 32 := 1#32
  ⟨c0_i32_186, v168, c1_i32_188⟩
def k0_mult5 (k0_t1 : Fin k0_t1_loop.trips) : BitVec 32 :=
  let c0_i32_186 : BitVec 32 := 0#32
  let c1_i32_188 : BitVec 32 := 1#32
  let arg27 : BitVec 32 := Scf.iv c0_i32_186 c1_i32_188 k0_t1
  let c256_i32_759 : BitVec 32 := 256#32
  let v1191 : BitVec 32 := Scalar.muli arg27 c256_i32_759
  v1191
def k0_off5 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  ![v1163.toNat]
def k0_off6 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let c0_i32_762 : BitVec 32 := 0#32
  let c0_i32_763 : BitVec 32 := 0#32
  ![v1163.toNat, 0, 0]
def k0_off7 (k0_t1 : Fin k0_t1_loop.trips) : Fin 2 → Nat :=
  let c0_i32_186 : BitVec 32 := 0#32
  let c1_i32_188 : BitVec 32 := 1#32
  let arg27 : BitVec 32 := Scf.iv c0_i32_186 c1_i32_188 k0_t1
  let c256_i32_759 : BitVec 32 := 256#32
  let v1191 : BitVec 32 := Scalar.muli arg27 c256_i32_759
  let v1192 : BitVec 32 := v1191
  let c0_i32_764 : BitVec 32 := 0#32
  ![v1192.toNat, 0]
def k0_off8 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let c0_i32_768 : BitVec 32 := 0#32
  let c0_i32_769 : BitVec 32 := 0#32
  ![v1163.toNat, 0, 0]
def k0_off9 (k0_t1 : Fin k0_t1_loop.trips) : Fin 4 → Nat :=
  let c0_i32_186 : BitVec 32 := 0#32
  let c1_i32_188 : BitVec 32 := 1#32
  let arg27 : BitVec 32 := Scf.iv c0_i32_186 c1_i32_188 k0_t1
  let c0_i32_747 : BitVec 32 := 0#32
  let v1165 : BitVec 1 := Scalar.cmpi .sgt arg27 c0_i32_747
  let v1166 : BitVec 32 := Scalar.extui v1165
  let c0_i32_748 : BitVec 32 := 0#32
  let v1167 : BitVec 1 := Scalar.cmpi .slt arg27 c0_i32_748
  let v1168 : BitVec 32 := Scalar.extui v1167
  let v1169 : BitVec 32 := Scalar.subi v1166 v1168
  let c8_i32 : BitVec 32 := 8#32
  let c0_i32_749 : BitVec 32 := 0#32
  let v1170 : BitVec 1 := Scalar.cmpi .sgt c8_i32 c0_i32_749
  let v1171 : BitVec 32 := Scalar.extui v1170
  let c0_i32_750 : BitVec 32 := 0#32
  let v1172 : BitVec 1 := Scalar.cmpi .slt c8_i32 c0_i32_750
  let v1173 : BitVec 32 := Scalar.extui v1172
  let v1174 : BitVec 32 := Scalar.subi v1171 v1173
  let v1175 : BitVec 1 := Scalar.cmpi .ne v1169 v1174
  let v1176 : BitVec 32 := Scalar.remsi arg27 c8_i32
  let c0_i32_751 : BitVec 32 := 0#32
  let v1177 : BitVec 1 := Scalar.cmpi .ne v1176 c0_i32_751
  let v1178 : BitVec 1 := Scalar.andi v1175 v1177
  let v1164 : BitVec 32 := Scalar.divsi arg27 c8_i32
  let c1_i32_752 : BitVec 32 := 1#32
  let v1179 : BitVec 32 := Scalar.subi v1164 c1_i32_752
  let v1180 : BitVec 32 := Scalar.select v1178 v1179 v1164
  let c8_i32_753 : BitVec 32 := 8#32
  let c0_i32_754 : BitVec 32 := 0#32
  let v1181 : BitVec 1 := Scalar.cmpi .eq c8_i32_753 c0_i32_754
  let c1_i32_755 : BitVec 32 := 1#32
  let v1182 : BitVec 32 := Scalar.select v1181 c1_i32_755 c8_i32_753
  let v1183 : BitVec 32 := Scalar.remsi arg27 v1182
  let c0_i32_757 : BitVec 32 := 0#32
  let v1185 : BitVec 1 := Scalar.cmpi .slt v1183 c0_i32_757
  let c0_i32_758 : BitVec 32 := 0#32
  let v1186 : BitVec 1 := Scalar.cmpi .slt v1182 c0_i32_758
  let v1187 : BitVec 1 := Scalar.xori v1185 v1186
  let c0_i32_756 : BitVec 32 := 0#32
  let v1184 : BitVec 1 := Scalar.cmpi .ne v1183 c0_i32_756
  let v1188 : BitVec 1 := Scalar.andi v1187 v1184
  let v1189 : BitVec 32 := Scalar.addi v1183 v1182
  let v1190 : BitVec 32 := Scalar.select v1188 v1189 v1183
  let c0_i32_770 : BitVec 32 := 0#32
  let c0_i32_771 : BitVec 32 := 0#32
  ![v1180.toNat, v1190.toNat, 0, 0]
def k0_off10 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c272_i32 : BitVec 32 := 272#32
  let v1217 : BitVec 32 := Scalar.muli arg27 c272_i32
  let c256_i32_776 : BitVec 32 := 256#32
  let v1218 : BitVec 32 := Scalar.addi v1217 c256_i32_776
  let v1219 : Index := Scalar.indexCast v1218
  ![v1219.toNat]
def k0_off11 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  ![v1163.toNat]
def k0_off12 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let c80_i32_797 : BitVec 32 := 80#32
  let c0_i32_798 : BitVec 32 := 0#32
  ![v1163.toNat, 80, 0]
def k0_off13 (k0_t1 : Fin k0_t1_loop.trips) : Fin 2 → Nat :=
  let c0_i32_186 : BitVec 32 := 0#32
  let c1_i32_188 : BitVec 32 := 1#32
  let arg27 : BitVec 32 := Scf.iv c0_i32_186 c1_i32_188 k0_t1
  let c256_i32_759 : BitVec 32 := 256#32
  let v1191 : BitVec 32 := Scalar.muli arg27 c256_i32_759
  let v1192 : BitVec 32 := v1191
  let c80_i32_760 : BitVec 32 := 80#32
  let v1193 : BitVec 32 := Scalar.addi v1192 c80_i32_760
  let c0_i32_799 : BitVec 32 := 0#32
  ![v1193.toNat, 0]
def k0_off14 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c272_i32_779 : BitVec 32 := 272#32
  let v1224 : BitVec 32 := Scalar.muli arg27 c272_i32_779
  let c256_i32_780 : BitVec 32 := 256#32
  let v1225 : BitVec 32 := Scalar.addi v1224 c256_i32_780
  let v1226 : Index := Scalar.indexCast v1225
  ![v1226.toNat]
@[reducible] def k0_t2_loop (v1227 : BitVec 32) : Scf.Loop 32 :=
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_792 : BitVec 32 := 1#32
  ⟨c0_i32_790, v1251, c1_i32_792⟩

def k0_off15 (arg36 : BitVec 32) : Fin 3 → Nat :=
  let v1269 : Index := Scalar.indexCast arg36
  let c0_804 : Index := 0#32
  let c0_805 : Index := 0#32
  ![v1269.toNat, 0, 0]

def k0_off16 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1274 : Index := Scalar.indexCast v1268
  let c0_808 : Index := 0#32
  let c0_809 : Index := 0#32
  let c0_810 : Index := 0#32
  ![v1274.toNat, 0, 0, 0]

def k0_off17 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1279 : Index := Scalar.indexCast v1268
  let c0_811 : Index := 0#32
  let c8_812 : Index := 8#32
  let c0_813 : Index := 0#32
  ![v1279.toNat, 0, 8, 0]
def k0_off18 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1284 : Index := Scalar.indexCast v1268
  let c0_814 : Index := 0#32
  let c16_815 : Index := 16#32
  let c0_816 : Index := 0#32
  ![v1284.toNat, 0, 16, 0]
def k0_off19 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1290 : Index := Scalar.indexCast v1268
  let c1_817 : Index := 1#32
  let c0_818 : Index := 0#32
  let c0_819 : Index := 0#32
  ![v1290.toNat, 1, 0, 0]
def k0_off20 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1295 : Index := Scalar.indexCast v1268
  let c1_820 : Index := 1#32
  let c8_821 : Index := 8#32
  let c0_822 : Index := 0#32
  ![v1295.toNat, 1, 8, 0]
def k0_off21 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1300 : Index := Scalar.indexCast v1268
  let c1_823 : Index := 1#32
  let c16_824 : Index := 16#32
  let c0_825 : Index := 0#32
  ![v1300.toNat, 1, 16, 0]
def k0_off22 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1311 : Index := Scalar.indexCast v1268
  let c2_830 : Index := 2#32
  let c0_831 : Index := 0#32
  let c0_832 : Index := 0#32
  ![v1311.toNat, 2, 0, 0]
def k0_off23 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1316 : Index := Scalar.indexCast v1268
  let c2_833 : Index := 2#32
  let c8_834 : Index := 8#32
  let c0_835 : Index := 0#32
  ![v1316.toNat, 2, 8, 0]
def k0_off24 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1321 : Index := Scalar.indexCast v1268
  let c2_836 : Index := 2#32
  let c16_837 : Index := 16#32
  let c0_838 : Index := 0#32
  ![v1321.toNat, 2, 16, 0]
def k0_off25 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1327 : Index := Scalar.indexCast v1268
  let c3_839 : Index := 3#32
  let c0_840 : Index := 0#32
  let c0_841 : Index := 0#32
  ![v1327.toNat, 3, 0, 0]
def k0_off26 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1332 : Index := Scalar.indexCast v1268
  let c3_842 : Index := 3#32
  let c8_843 : Index := 8#32
  let c0_844 : Index := 0#32
  ![v1332.toNat, 3, 8, 0]
def k0_off27 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1337 : Index := Scalar.indexCast v1268
  let c3_845 : Index := 3#32
  let c16_846 : Index := 16#32
  let c0_847 : Index := 0#32
  ![v1337.toNat, 3, 16, 0]
def k0_off28 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1348 : Index := Scalar.indexCast v1268
  let c4_852 : Index := 4#32
  let c0_853 : Index := 0#32
  let c0_854 : Index := 0#32
  ![v1348.toNat, 4, 0, 0]
def k0_off29 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1353 : Index := Scalar.indexCast v1268
  let c4_855 : Index := 4#32
  let c8_856 : Index := 8#32
  let c0_857 : Index := 0#32
  ![v1353.toNat, 4, 8, 0]
def k0_off30 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1358 : Index := Scalar.indexCast v1268
  let c4_858 : Index := 4#32
  let c16_859 : Index := 16#32
  let c0_860 : Index := 0#32
  ![v1358.toNat, 4, 16, 0]
def k0_off31 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1364 : Index := Scalar.indexCast v1268
  let c5_861 : Index := 5#32
  let c0_862 : Index := 0#32
  let c0_863 : Index := 0#32
  ![v1364.toNat, 5, 0, 0]
def k0_off32 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1369 : Index := Scalar.indexCast v1268
  let c5_864 : Index := 5#32
  let c8_865 : Index := 8#32
  let c0_866 : Index := 0#32
  ![v1369.toNat, 5, 8, 0]
def k0_off33 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1374 : Index := Scalar.indexCast v1268
  let c5_867 : Index := 5#32
  let c16_868 : Index := 16#32
  let c0_869 : Index := 0#32
  ![v1374.toNat, 5, 16, 0]
def k0_off34 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1385 : Index := Scalar.indexCast v1268
  let c6_874 : Index := 6#32
  let c0_875 : Index := 0#32
  let c0_876 : Index := 0#32
  ![v1385.toNat, 6, 0, 0]
def k0_off35 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1390 : Index := Scalar.indexCast v1268
  let c6_877 : Index := 6#32
  let c8_878 : Index := 8#32
  let c0_879 : Index := 0#32
  ![v1390.toNat, 6, 8, 0]
def k0_off36 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1395 : Index := Scalar.indexCast v1268
  let c6_880 : Index := 6#32
  let c16_881 : Index := 16#32
  let c0_882 : Index := 0#32
  ![v1395.toNat, 6, 16, 0]
def k0_off37 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1401 : Index := Scalar.indexCast v1268
  let c7_883 : Index := 7#32
  let c0_884 : Index := 0#32
  let c0_885 : Index := 0#32
  ![v1401.toNat, 7, 0, 0]
def k0_off38 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1406 : Index := Scalar.indexCast v1268
  let c7_886 : Index := 7#32
  let c8_887 : Index := 8#32
  let c0_888 : Index := 0#32
  ![v1406.toNat, 7, 8, 0]
def k0_off39 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1411 : Index := Scalar.indexCast v1268
  let c7_889 : Index := 7#32
  let c16_890 : Index := 16#32
  let c0_891 : Index := 0#32
  ![v1411.toNat, 7, 16, 0]
def k0_off40 (arg36 : BitVec 32) : Fin 3 → Nat :=
  let v1422 : Index := Scalar.indexCast arg36
  let c0_896 : Index := 0#32
  let c0_897 : Index := 0#32
  ![v1422.toNat, 0, 0]

def k0_chk2 (arg36 : BitVec 32) : Prop :=
  (∀ a, (k0_off15 arg36) a + S1x8x96.size a ≤ S97x8x96.size a) ∧
  (∀ a, (k0_off40 arg36) a + S1x8x96.size a ≤ S97x8x96.size a)
theorem k0_off15_inb : ∀ (arg36 : BitVec 32) (k0_hw2 : k0_chk2 arg36), ∀ a, (k0_off15 arg36) a + S1x8x96.size a ≤ S97x8x96.size a := fun arg36 k0_hw2 => k0_hw2.1
theorem k0_off40_inb : ∀ (arg36 : BitVec 32) (k0_hw2 : k0_chk2 arg36), ∀ a, (k0_off40 arg36) a + S1x8x96.size a ≤ S97x8x96.size a := fun arg36 k0_hw2 => k0_hw2.2

def k0_off41 (arg35 : BitVec 32) : Fin 3 → Nat :=
  let v1460 : Index := Scalar.indexCast arg35
  let c0_929 : Index := 0#32
  let c0_930 : Index := 0#32
  ![v1460.toNat, 0, 0]

def k0_chk4 (arg35 : BitVec 32) : Prop :=
  (∀ a, (k0_off41 arg35) a + S1x8x128.size a ≤ S97x8x128.size a)
theorem k0_off41_inb : ∀ (arg35 : BitVec 32) (k0_hw4 : k0_chk4 arg35), ∀ a, (k0_off41 arg35) a + S1x8x128.size a ≤ S97x8x128.size a := fun arg35 k0_hw4 => k0_hw4

def k0_off42 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1476 : Index := Scalar.indexCast v1436
  let c0_934 : Index := 0#32
  let c0_935 : Index := 0#32
  ![v1476.toNat, 0, 0]
def k0_off43 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1489 : Index := Scalar.indexCast v1436
  let c1_939 : Index := 1#32
  let c0_940 : Index := 0#32
  ![v1489.toNat, 1, 0]
def k0_off44 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1502 : Index := Scalar.indexCast v1436
  let c2_944 : Index := 2#32
  let c0_945 : Index := 0#32
  ![v1502.toNat, 2, 0]
def k0_off45 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1515 : Index := Scalar.indexCast v1436
  let c3_949 : Index := 3#32
  let c0_950 : Index := 0#32
  ![v1515.toNat, 3, 0]
def k0_off46 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1528 : Index := Scalar.indexCast v1436
  let c4_954 : Index := 4#32
  let c0_955 : Index := 0#32
  ![v1528.toNat, 4, 0]
def k0_off47 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1541 : Index := Scalar.indexCast v1436
  let c5_959 : Index := 5#32
  let c0_960 : Index := 0#32
  ![v1541.toNat, 5, 0]
def k0_off48 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1554 : Index := Scalar.indexCast v1436
  let c6_964 : Index := 6#32
  let c0_965 : Index := 0#32
  ![v1554.toNat, 6, 0]
def k0_off49 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1567 : Index := Scalar.indexCast v1436
  let c7_969 : Index := 7#32
  let c0_970 : Index := 0#32
  ![v1567.toNat, 7, 0]
def k0_off50 (arg34 : BitVec 32) : Fin 3 → Nat :=
  let c95_i32_987 : BitVec 32 := 95#32
  let v1599 : BitVec 32 := Scalar.minsi arg34 c95_i32_987
  let v1600 : Index := Scalar.indexCast v1599
  let c0_988 : Index := 0#32
  let c0_989 : Index := 0#32
  ![v1600.toNat, 0, 0]

def k0_chk5 (arg34 : BitVec 32) : Prop :=
  (∀ a, (k0_off50 arg34) a + S1x8x96.size a ≤ S96x8x96.size a)
theorem k0_off50_inb : ∀ (arg34 : BitVec 32) (k0_hw5 : k0_chk5 arg34), ∀ a, (k0_off50 arg34) a + S1x8x96.size a ≤ S96x8x96.size a := fun arg34 k0_hw5 => k0_hw5

def k0_off51 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1608 : Index := Scalar.indexCast v1598
  let c0_995 : Index := 0#32
  let c0_996 : Index := 0#32
  ![v1608.toNat, 0, 0]
def k0_off52 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1623 : Index := Scalar.indexCast v1598
  let c1_1003 : Index := 1#32
  let c0_1004 : Index := 0#32
  ![v1623.toNat, 1, 0]
def k0_off53 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1643 : Index := Scalar.indexCast v1598
  let c2_1016 : Index := 2#32
  let c0_1017 : Index := 0#32
  ![v1643.toNat, 2, 0]
def k0_off54 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1658 : Index := Scalar.indexCast v1598
  let c3_1024 : Index := 3#32
  let c0_1025 : Index := 0#32
  ![v1658.toNat, 3, 0]
def k0_off55 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1678 : Index := Scalar.indexCast v1598
  let c4_1037 : Index := 4#32
  let c0_1038 : Index := 0#32
  ![v1678.toNat, 4, 0]
def k0_off56 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1693 : Index := Scalar.indexCast v1598
  let c5_1045 : Index := 5#32
  let c0_1046 : Index := 0#32
  ![v1693.toNat, 5, 0]
def k0_off57 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1713 : Index := Scalar.indexCast v1598
  let c6_1058 : Index := 6#32
  let c0_1059 : Index := 0#32
  ![v1713.toNat, 6, 0]
def k0_off58 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1728 : Index := Scalar.indexCast v1598
  let c7_1066 : Index := 7#32
  let c0_1067 : Index := 0#32
  ![v1728.toNat, 7, 0]
def k0_mult6 (v1227 : BitVec 32) (k0_t2 : Fin (k0_t2_loop v1227).trips) : BitVec 32 :=
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  v1743
def k0_off59 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1745 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v1746 : Index := Scalar.indexCast v1744
  let c0_1075 : Index := 0#32
  ![v1745.toNat, v1746.toNat, 0]
def k0_off60 (arg33 : BitVec 32) : Fin 3 → Nat :=
  let v1749 : Index := Scalar.indexCast arg33
  let c0_1076 : Index := 0#32
  let c0_1077 : Index := 0#32
  ![v1749.toNat, 0, 0]
def k0_off61 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_1081 : BitVec 32 := 272#32
  let v1761 : BitVec 32 := Scalar.muli arg27 c272_i32_1081
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v1762 : BitVec 32 := Scalar.addi v1761 v1744
  let c0_i32_1082 : BitVec 32 := 0#32
  let v1763 : BitVec 32 := Scalar.addi v1762 c0_i32_1082
  let v1764 : Index := Scalar.indexCast v1763
  ![v1764.toNat]
def k0_off62 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1767 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c0_i32_1083 : BitVec 32 := 0#32
  let v1766 : BitVec 32 := Scalar.addi v1744 c0_i32_1083
  let v1768 : Index := Scalar.indexCast v1766
  let c0_1084 : Index := 0#32
  ![v1767.toNat, v1768.toNat, 0]
def k0_mult7 (v1765 : BitVec 32) : BitVec 32 :=
  let c0_i32_1087 : BitVec 32 := 0#32
  let v1781 : BitVec 32 := Scalar.addi v1765 c0_i32_1087
  let c128_i32 : BitVec 32 := 128#32
  let v1782 : BitVec 32 := Scalar.muli v1781 c128_i32
  v1782

def k0_off63 (k0_t1 : Fin k0_t1_loop.trips) (v1765 : BitVec 32) (c0_i32_1087 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1786 : Index := Scalar.indexCast v1163
  let c0_1089 : Index := 0#32
  let v1781 : BitVec 32 := Scalar.addi v1765 c0_i32_1087
  let c128_i32 : BitVec 32 := 128#32
  let v1782 : BitVec 32 := Scalar.muli v1781 c128_i32
  let v1783 : BitVec 32 := v1782
  let v1787 : Index := Scalar.indexCast v1783
  ![v1786.toNat, 0, v1787.toNat]
def k0_off64 (k0_t1 : Fin k0_t1_loop.trips) (v1765 : BitVec 32) (c0_i32_1087 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1791 : Index := Scalar.indexCast v1163
  let c32 : Index := 32#32
  let v1781 : BitVec 32 := Scalar.addi v1765 c0_i32_1087
  let c128_i32 : BitVec 32 := 128#32
  let v1782 : BitVec 32 := Scalar.muli v1781 c128_i32
  let v1783 : BitVec 32 := v1782
  let v1792 : Index := Scalar.indexCast v1783
  ![v1791.toNat, 32, v1792.toNat]
def k0_off65 (k0_t1 : Fin k0_t1_loop.trips) (v1765 : BitVec 32) (c0_i32_1087 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1796 : Index := Scalar.indexCast v1163
  let c64 : Index := 64#32
  let v1781 : BitVec 32 := Scalar.addi v1765 c0_i32_1087
  let c128_i32 : BitVec 32 := 128#32
  let v1782 : BitVec 32 := Scalar.muli v1781 c128_i32
  let v1783 : BitVec 32 := v1782
  let v1797 : Index := Scalar.indexCast v1783
  ![v1796.toNat, 64, v1797.toNat]
def k0_mult8 (v1765 : BitVec 32) : BitVec 32 :=
  let c1_i32_1093 : BitVec 32 := 1#32
  let v1816 : BitVec 32 := Scalar.addi v1765 c1_i32_1093
  let c128_i32_1094 : BitVec 32 := 128#32
  let v1817 : BitVec 32 := Scalar.muli v1816 c128_i32_1094
  v1817
def k0_mult9 (v1765 : BitVec 32) : BitVec 32 :=
  let c2_i32_1102 : BitVec 32 := 2#32
  let v1857 : BitVec 32 := Scalar.addi v1765 c2_i32_1102
  let c128_i32_1103 : BitVec 32 := 128#32
  let v1858 : BitVec 32 := Scalar.muli v1857 c128_i32_1103
  v1858
def k0_mult10 (v1765 : BitVec 32) : BitVec 32 :=
  let c3_i32_1111 : BitVec 32 := 3#32
  let v1898 : BitVec 32 := Scalar.addi v1765 c3_i32_1111
  let c128_i32_1112 : BitVec 32 := 128#32
  let v1899 : BitVec 32 := Scalar.muli v1898 c128_i32_1112
  v1899
def k0_mult11 (v1765 : BitVec 32) : BitVec 32 :=
  let c4_i32_1120 : BitVec 32 := 4#32
  let v1939 : BitVec 32 := Scalar.addi v1765 c4_i32_1120
  let c128_i32_1121 : BitVec 32 := 128#32
  let v1940 : BitVec 32 := Scalar.muli v1939 c128_i32_1121
  v1940
def k0_mult12 (v1765 : BitVec 32) : BitVec 32 :=
  let c5_i32 : BitVec 32 := 5#32
  let v1980 : BitVec 32 := Scalar.addi v1765 c5_i32
  let c128_i32_1129 : BitVec 32 := 128#32
  let v1981 : BitVec 32 := Scalar.muli v1980 c128_i32_1129
  v1981
def k0_mult13 (v1765 : BitVec 32) : BitVec 32 :=
  let c6_i32 : BitVec 32 := 6#32
  let v2021 : BitVec 32 := Scalar.addi v1765 c6_i32
  let c128_i32_1137 : BitVec 32 := 128#32
  let v2022 : BitVec 32 := Scalar.muli v2021 c128_i32_1137
  v2022
def k0_mult14 (v1765 : BitVec 32) : BitVec 32 :=
  let c7_i32 : BitVec 32 := 7#32
  let v2062 : BitVec 32 := Scalar.addi v1765 c7_i32
  let c128_i32_1145 : BitVec 32 := 128#32
  let v2063 : BitVec 32 := Scalar.muli v2062 c128_i32_1145
  v2063
def k0_mult15 (v1765 : BitVec 32) : BitVec 32 :=
  let c8_i32_1153 : BitVec 32 := 8#32
  let v2103 : BitVec 32 := Scalar.addi v1765 c8_i32_1153
  let c128_i32_1154 : BitVec 32 := 128#32
  let v2104 : BitVec 32 := Scalar.muli v2103 c128_i32_1154
  v2104
def k0_mult16 (v1765 : BitVec 32) : BitVec 32 :=
  let c9_i32_1162 : BitVec 32 := 9#32
  let v2144 : BitVec 32 := Scalar.addi v1765 c9_i32_1162
  let c128_i32_1163 : BitVec 32 := 128#32
  let v2145 : BitVec 32 := Scalar.muli v2144 c128_i32_1163
  v2145
def k0_mult17 (v1765 : BitVec 32) : BitVec 32 :=
  let c10_i32 : BitVec 32 := 10#32
  let v2185 : BitVec 32 := Scalar.addi v1765 c10_i32
  let c128_i32_1171 : BitVec 32 := 128#32
  let v2186 : BitVec 32 := Scalar.muli v2185 c128_i32_1171
  v2186
def k0_mult18 (v1765 : BitVec 32) : BitVec 32 :=
  let c11_i32 : BitVec 32 := 11#32
  let v2226 : BitVec 32 := Scalar.addi v1765 c11_i32
  let c128_i32_1179 : BitVec 32 := 128#32
  let v2227 : BitVec 32 := Scalar.muli v2226 c128_i32_1179
  v2227
def k0_mult19 (v1765 : BitVec 32) : BitVec 32 :=
  let c12_i32_1187 : BitVec 32 := 12#32
  let v2267 : BitVec 32 := Scalar.addi v1765 c12_i32_1187
  let c128_i32_1188 : BitVec 32 := 128#32
  let v2268 : BitVec 32 := Scalar.muli v2267 c128_i32_1188
  v2268
def k0_mult20 (v1765 : BitVec 32) : BitVec 32 :=
  let c13_i32 : BitVec 32 := 13#32
  let v2308 : BitVec 32 := Scalar.addi v1765 c13_i32
  let c128_i32_1196 : BitVec 32 := 128#32
  let v2309 : BitVec 32 := Scalar.muli v2308 c128_i32_1196
  v2309
def k0_mult21 (v1765 : BitVec 32) : BitVec 32 :=
  let c14_i32 : BitVec 32 := 14#32
  let v2349 : BitVec 32 := Scalar.addi v1765 c14_i32
  let c128_i32_1204 : BitVec 32 := 128#32
  let v2350 : BitVec 32 := Scalar.muli v2349 c128_i32_1204
  v2350
def k0_mult22 (v1765 : BitVec 32) : BitVec 32 :=
  let c15_i32 : BitVec 32 := 15#32
  let v2390 : BitVec 32 := Scalar.addi v1765 c15_i32
  let c128_i32_1212 : BitVec 32 := 128#32
  let v2391 : BitVec 32 := Scalar.muli v2390 c128_i32_1212
  v2391

def k0_chk6 (k0_t1 : Fin k0_t1_loop.trips) (v1765 : BitVec 32) : Prop :=
  (128 ∣ (k0_mult7 v1765).toNat) ∧
  (∀ (r : Fin 16), ∀ a, (k0_off63 k0_t1 v1765 (BitVec.ofNat 32 r.val)) a + S1x32x128.size a ≤ S4x96x32768.size a) ∧
  (∀ (r : Fin 16), ∀ a, (k0_off64 k0_t1 v1765 (BitVec.ofNat 32 r.val)) a + S1x32x128.size a ≤ S4x96x32768.size a) ∧
  (∀ (r : Fin 16), ∀ a, (k0_off65 k0_t1 v1765 (BitVec.ofNat 32 r.val)) a + S1x32x128.size a ≤ S4x96x32768.size a) ∧
  (128 ∣ (k0_mult8 v1765).toNat) ∧
  (128 ∣ (k0_mult9 v1765).toNat) ∧
  (128 ∣ (k0_mult10 v1765).toNat) ∧
  (128 ∣ (k0_mult11 v1765).toNat) ∧
  (128 ∣ (k0_mult12 v1765).toNat) ∧
  (128 ∣ (k0_mult13 v1765).toNat) ∧
  (128 ∣ (k0_mult14 v1765).toNat) ∧
  (128 ∣ (k0_mult15 v1765).toNat) ∧
  (128 ∣ (k0_mult16 v1765).toNat) ∧
  (128 ∣ (k0_mult17 v1765).toNat) ∧
  (128 ∣ (k0_mult18 v1765).toNat) ∧
  (128 ∣ (k0_mult19 v1765).toNat) ∧
  (128 ∣ (k0_mult20 v1765).toNat) ∧
  (128 ∣ (k0_mult21 v1765).toNat) ∧
  (128 ∣ (k0_mult22 v1765).toNat)
theorem k0_mult7_dvd : ∀ (k0_t1 : Fin k0_t1_loop.trips) (v1765 : BitVec 32) (k0_hw6 : k0_chk6 k0_t1 v1765), 128 ∣ (k0_mult7 v1765).toNat := fun k0_t1 v1765 k0_hw6 => k0_hw6.1
theorem k0_off63_inb : ∀ (k0_t1 : Fin k0_t1_loop.trips) (v1765 : BitVec 32) (k0_hw6 : k0_chk6 k0_t1 v1765), ∀ (r : Fin 16), ∀ a, (k0_off63 k0_t1 v1765 (BitVec.ofNat 32 r.val)) a + S1x32x128.size a ≤ S4x96x32768.size a := fun k0_t1 v1765 k0_hw6 r => k0_hw6.2.1 r
theorem k0_off64_inb : ∀ (k0_t1 : Fin k0_t1_loop.trips) (v1765 : BitVec 32) (k0_hw6 : k0_chk6 k0_t1 v1765), ∀ (r : Fin 16), ∀ a, (k0_off64 k0_t1 v1765 (BitVec.ofNat 32 r.val)) a + S1x32x128.size a ≤ S4x96x32768.size a := fun k0_t1 v1765 k0_hw6 r => k0_hw6.2.2.1 r
theorem k0_off65_inb : ∀ (k0_t1 : Fin k0_t1_loop.trips) (v1765 : BitVec 32) (k0_hw6 : k0_chk6 k0_t1 v1765), ∀ (r : Fin 16), ∀ a, (k0_off65 k0_t1 v1765 (BitVec.ofNat 32 r.val)) a + S1x32x128.size a ≤ S4x96x32768.size a := fun k0_t1 v1765 k0_hw6 r => k0_hw6.2.2.2.1 r
theorem k0_mult8_dvd : ∀ (k0_t1 : Fin k0_t1_loop.trips) (v1765 : BitVec 32) (k0_hw6 : k0_chk6 k0_t1 v1765), 128 ∣ (k0_mult8 v1765).toNat := fun k0_t1 v1765 k0_hw6 => k0_hw6.2.2.2.2.1
theorem k0_mult9_dvd : ∀ (k0_t1 : Fin k0_t1_loop.trips) (v1765 : BitVec 32) (k0_hw6 : k0_chk6 k0_t1 v1765), 128 ∣ (k0_mult9 v1765).toNat := fun k0_t1 v1765 k0_hw6 => k0_hw6.2.2.2.2.2.1
theorem k0_mult10_dvd : ∀ (k0_t1 : Fin k0_t1_loop.trips) (v1765 : BitVec 32) (k0_hw6 : k0_chk6 k0_t1 v1765), 128 ∣ (k0_mult10 v1765).toNat := fun k0_t1 v1765 k0_hw6 => k0_hw6.2.2.2.2.2.2.1
theorem k0_mult11_dvd : ∀ (k0_t1 : Fin k0_t1_loop.trips) (v1765 : BitVec 32) (k0_hw6 : k0_chk6 k0_t1 v1765), 128 ∣ (k0_mult11 v1765).toNat := fun k0_t1 v1765 k0_hw6 => k0_hw6.2.2.2.2.2.2.2.1
theorem k0_mult12_dvd : ∀ (k0_t1 : Fin k0_t1_loop.trips) (v1765 : BitVec 32) (k0_hw6 : k0_chk6 k0_t1 v1765), 128 ∣ (k0_mult12 v1765).toNat := fun k0_t1 v1765 k0_hw6 => k0_hw6.2.2.2.2.2.2.2.2.1
theorem k0_mult13_dvd : ∀ (k0_t1 : Fin k0_t1_loop.trips) (v1765 : BitVec 32) (k0_hw6 : k0_chk6 k0_t1 v1765), 128 ∣ (k0_mult13 v1765).toNat := fun k0_t1 v1765 k0_hw6 => k0_hw6.2.2.2.2.2.2.2.2.2.1
theorem k0_mult14_dvd : ∀ (k0_t1 : Fin k0_t1_loop.trips) (v1765 : BitVec 32) (k0_hw6 : k0_chk6 k0_t1 v1765), 128 ∣ (k0_mult14 v1765).toNat := fun k0_t1 v1765 k0_hw6 => k0_hw6.2.2.2.2.2.2.2.2.2.2.1
theorem k0_mult15_dvd : ∀ (k0_t1 : Fin k0_t1_loop.trips) (v1765 : BitVec 32) (k0_hw6 : k0_chk6 k0_t1 v1765), 128 ∣ (k0_mult15 v1765).toNat := fun k0_t1 v1765 k0_hw6 => k0_hw6.2.2.2.2.2.2.2.2.2.2.2.1
theorem k0_mult16_dvd : ∀ (k0_t1 : Fin k0_t1_loop.trips) (v1765 : BitVec 32) (k0_hw6 : k0_chk6 k0_t1 v1765), 128 ∣ (k0_mult16 v1765).toNat := fun k0_t1 v1765 k0_hw6 => k0_hw6.2.2.2.2.2.2.2.2.2.2.2.2.1
theorem k0_mult17_dvd : ∀ (k0_t1 : Fin k0_t1_loop.trips) (v1765 : BitVec 32) (k0_hw6 : k0_chk6 k0_t1 v1765), 128 ∣ (k0_mult17 v1765).toNat := fun k0_t1 v1765 k0_hw6 => k0_hw6.2.2.2.2.2.2.2.2.2.2.2.2.2.1
theorem k0_mult18_dvd : ∀ (k0_t1 : Fin k0_t1_loop.trips) (v1765 : BitVec 32) (k0_hw6 : k0_chk6 k0_t1 v1765), 128 ∣ (k0_mult18 v1765).toNat := fun k0_t1 v1765 k0_hw6 => k0_hw6.2.2.2.2.2.2.2.2.2.2.2.2.2.2.1
theorem k0_mult19_dvd : ∀ (k0_t1 : Fin k0_t1_loop.trips) (v1765 : BitVec 32) (k0_hw6 : k0_chk6 k0_t1 v1765), 128 ∣ (k0_mult19 v1765).toNat := fun k0_t1 v1765 k0_hw6 => k0_hw6.2.2.2.2.2.2.2.2.2.2.2.2.2.2.2.1
theorem k0_mult20_dvd : ∀ (k0_t1 : Fin k0_t1_loop.trips) (v1765 : BitVec 32) (k0_hw6 : k0_chk6 k0_t1 v1765), 128 ∣ (k0_mult20 v1765).toNat := fun k0_t1 v1765 k0_hw6 => k0_hw6.2.2.2.2.2.2.2.2.2.2.2.2.2.2.2.2.1
theorem k0_mult21_dvd : ∀ (k0_t1 : Fin k0_t1_loop.trips) (v1765 : BitVec 32) (k0_hw6 : k0_chk6 k0_t1 v1765), 128 ∣ (k0_mult21 v1765).toNat := fun k0_t1 v1765 k0_hw6 => k0_hw6.2.2.2.2.2.2.2.2.2.2.2.2.2.2.2.2.2.1
theorem k0_mult22_dvd : ∀ (k0_t1 : Fin k0_t1_loop.trips) (v1765 : BitVec 32) (k0_hw6 : k0_chk6 k0_t1 v1765), 128 ∣ (k0_mult22 v1765).toNat := fun k0_t1 v1765 k0_hw6 => k0_hw6.2.2.2.2.2.2.2.2.2.2.2.2.2.2.2.2.2.2

def k0_off66 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2431 : Index := Scalar.indexCast arg27
  let c0_1220 : Index := 0#32
  let c0_1221 : Index := 0#32
  ![v2431.toNat, 0, 0]
def k0_off67 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2442 : Index := Scalar.indexCast arg27
  let c8_1224 : Index := 8#32
  let c0_1225 : Index := 0#32
  ![v2442.toNat, 8, 0]
def k0_off68 (arg33 : BitVec 32) : Fin 4 → Nat :=
  let v2462 : Index := Scalar.indexCast arg33
  let c0_1231 : Index := 0#32
  let c0_1232 : Index := 0#32
  let c0_1233 : Index := 0#32
  ![v2462.toNat, 0, 0, 0]
def k0_off69 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2466 : Index := Scalar.indexCast arg27
  let c16_1234 : Index := 16#32
  let c0_1235 : Index := 0#32
  ![v2466.toNat, 16, 0]
def k0_off70 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2477 : Index := Scalar.indexCast arg27
  let c24 : Index := 24#32
  let c0_1238 : Index := 0#32
  ![v2477.toNat, 24, 0]
def k0_off71 (arg33 : BitVec 32) : Fin 4 → Nat :=
  let v2497 : Index := Scalar.indexCast arg33
  let c0_1244 : Index := 0#32
  let c8_1245 : Index := 8#32
  let c0_1246 : Index := 0#32
  ![v2497.toNat, 0, 8, 0]
def k0_off72 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2501 : Index := Scalar.indexCast arg27
  let c32_1247 : Index := 32#32
  let c0_1248 : Index := 0#32
  ![v2501.toNat, 32, 0]
def k0_off73 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2512 : Index := Scalar.indexCast arg27
  let c40 : Index := 40#32
  let c0_1251 : Index := 0#32
  ![v2512.toNat, 40, 0]
def k0_off74 (arg33 : BitVec 32) : Fin 4 → Nat :=
  let v2532 : Index := Scalar.indexCast arg33
  let c0_1257 : Index := 0#32
  let c16_1258 : Index := 16#32
  let c0_1259 : Index := 0#32
  ![v2532.toNat, 0, 16, 0]
def k0_off75 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_1260 : BitVec 32 := 272#32
  let v2536 : BitVec 32 := Scalar.muli arg27 c272_i32_1260
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v2537 : BitVec 32 := Scalar.addi v2536 v1744
  let c1_i32_1261 : BitVec 32 := 1#32
  let v2538 : BitVec 32 := Scalar.addi v2537 c1_i32_1261
  let v2539 : Index := Scalar.indexCast v2538
  ![v2539.toNat]
def k0_off76 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2542 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c1_i32_1262 : BitVec 32 := 1#32
  let v2541 : BitVec 32 := Scalar.addi v1744 c1_i32_1262
  let v2543 : Index := Scalar.indexCast v2541
  let c0_1263 : Index := 0#32
  ![v2542.toNat, v2543.toNat, 0]
def k0_mult23 (v2540 : BitVec 32) : BitVec 32 :=
  let c0_i32_1267 : BitVec 32 := 0#32
  let v2556 : BitVec 32 := Scalar.addi v2540 c0_i32_1267
  let c128_i32_1268 : BitVec 32 := 128#32
  let v2557 : BitVec 32 := Scalar.muli v2556 c128_i32_1268
  v2557

def k0_off77 (k0_t1 : Fin k0_t1_loop.trips) (v2540 : BitVec 32) (c0_i32_1267 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2561 : Index := Scalar.indexCast v1163
  let c0_1270 : Index := 0#32
  let v2556 : BitVec 32 := Scalar.addi v2540 c0_i32_1267
  let c128_i32_1268 : BitVec 32 := 128#32
  let v2557 : BitVec 32 := Scalar.muli v2556 c128_i32_1268
  let v2558 : BitVec 32 := v2557
  let v2562 : Index := Scalar.indexCast v2558
  ![v2561.toNat, 0, v2562.toNat]
def k0_off78 (k0_t1 : Fin k0_t1_loop.trips) (v2540 : BitVec 32) (c0_i32_1267 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2566 : Index := Scalar.indexCast v1163
  let c32_1271 : Index := 32#32
  let v2556 : BitVec 32 := Scalar.addi v2540 c0_i32_1267
  let c128_i32_1268 : BitVec 32 := 128#32
  let v2557 : BitVec 32 := Scalar.muli v2556 c128_i32_1268
  let v2558 : BitVec 32 := v2557
  let v2567 : Index := Scalar.indexCast v2558
  ![v2566.toNat, 32, v2567.toNat]
def k0_off79 (k0_t1 : Fin k0_t1_loop.trips) (v2540 : BitVec 32) (c0_i32_1267 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2571 : Index := Scalar.indexCast v1163
  let c64_1272 : Index := 64#32
  let v2556 : BitVec 32 := Scalar.addi v2540 c0_i32_1267
  let c128_i32_1268 : BitVec 32 := 128#32
  let v2557 : BitVec 32 := Scalar.muli v2556 c128_i32_1268
  let v2558 : BitVec 32 := v2557
  let v2572 : Index := Scalar.indexCast v2558
  ![v2571.toNat, 64, v2572.toNat]
def k0_mult24 (v2540 : BitVec 32) : BitVec 32 :=
  let c1_i32_1276 : BitVec 32 := 1#32
  let v2591 : BitVec 32 := Scalar.addi v2540 c1_i32_1276
  let c128_i32_1277 : BitVec 32 := 128#32
  let v2592 : BitVec 32 := Scalar.muli v2591 c128_i32_1277
  v2592
def k0_mult25 (v2540 : BitVec 32) : BitVec 32 :=
  let c2_i32_1285 : BitVec 32 := 2#32
  let v2632 : BitVec 32 := Scalar.addi v2540 c2_i32_1285
  let c128_i32_1286 : BitVec 32 := 128#32
  let v2633 : BitVec 32 := Scalar.muli v2632 c128_i32_1286
  v2633
def k0_mult26 (v2540 : BitVec 32) : BitVec 32 :=
  let c3_i32_1294 : BitVec 32 := 3#32
  let v2673 : BitVec 32 := Scalar.addi v2540 c3_i32_1294
  let c128_i32_1295 : BitVec 32 := 128#32
  let v2674 : BitVec 32 := Scalar.muli v2673 c128_i32_1295
  v2674
def k0_mult27 (v2540 : BitVec 32) : BitVec 32 :=
  let c4_i32_1303 : BitVec 32 := 4#32
  let v2714 : BitVec 32 := Scalar.addi v2540 c4_i32_1303
  let c128_i32_1304 : BitVec 32 := 128#32
  let v2715 : BitVec 32 := Scalar.muli v2714 c128_i32_1304
  v2715
def k0_mult28 (v2540 : BitVec 32) : BitVec 32 :=
  let c5_i32_1312 : BitVec 32 := 5#32
  let v2755 : BitVec 32 := Scalar.addi v2540 c5_i32_1312
  let c128_i32_1313 : BitVec 32 := 128#32
  let v2756 : BitVec 32 := Scalar.muli v2755 c128_i32_1313
  v2756
def k0_mult29 (v2540 : BitVec 32) : BitVec 32 :=
  let c6_i32_1321 : BitVec 32 := 6#32
  let v2796 : BitVec 32 := Scalar.addi v2540 c6_i32_1321
  let c128_i32_1322 : BitVec 32 := 128#32
  let v2797 : BitVec 32 := Scalar.muli v2796 c128_i32_1322
  v2797
def k0_mult30 (v2540 : BitVec 32) : BitVec 32 :=
  let c7_i32_1330 : BitVec 32 := 7#32
  let v2837 : BitVec 32 := Scalar.addi v2540 c7_i32_1330
  let c128_i32_1331 : BitVec 32 := 128#32
  let v2838 : BitVec 32 := Scalar.muli v2837 c128_i32_1331
  v2838
def k0_mult31 (v2540 : BitVec 32) : BitVec 32 :=
  let c8_i32_1339 : BitVec 32 := 8#32
  let v2878 : BitVec 32 := Scalar.addi v2540 c8_i32_1339
  let c128_i32_1340 : BitVec 32 := 128#32
  let v2879 : BitVec 32 := Scalar.muli v2878 c128_i32_1340
  v2879
def k0_mult32 (v2540 : BitVec 32) : BitVec 32 :=
  let c9_i32_1348 : BitVec 32 := 9#32
  let v2919 : BitVec 32 := Scalar.addi v2540 c9_i32_1348
  let c128_i32_1349 : BitVec 32 := 128#32
  let v2920 : BitVec 32 := Scalar.muli v2919 c128_i32_1349
  v2920
def k0_mult33 (v2540 : BitVec 32) : BitVec 32 :=
  let c10_i32_1357 : BitVec 32 := 10#32
  let v2960 : BitVec 32 := Scalar.addi v2540 c10_i32_1357
  let c128_i32_1358 : BitVec 32 := 128#32
  let v2961 : BitVec 32 := Scalar.muli v2960 c128_i32_1358
  v2961
def k0_mult34 (v2540 : BitVec 32) : BitVec 32 :=
  let c11_i32_1366 : BitVec 32 := 11#32
  let v3001 : BitVec 32 := Scalar.addi v2540 c11_i32_1366
  let c128_i32_1367 : BitVec 32 := 128#32
  let v3002 : BitVec 32 := Scalar.muli v3001 c128_i32_1367
  v3002
def k0_mult35 (v2540 : BitVec 32) : BitVec 32 :=
  let c12_i32_1375 : BitVec 32 := 12#32
  let v3042 : BitVec 32 := Scalar.addi v2540 c12_i32_1375
  let c128_i32_1376 : BitVec 32 := 128#32
  let v3043 : BitVec 32 := Scalar.muli v3042 c128_i32_1376
  v3043
def k0_mult36 (v2540 : BitVec 32) : BitVec 32 :=
  let c13_i32_1384 : BitVec 32 := 13#32
  let v3083 : BitVec 32 := Scalar.addi v2540 c13_i32_1384
  let c128_i32_1385 : BitVec 32 := 128#32
  let v3084 : BitVec 32 := Scalar.muli v3083 c128_i32_1385
  v3084
def k0_mult37 (v2540 : BitVec 32) : BitVec 32 :=
  let c14_i32_1393 : BitVec 32 := 14#32
  let v3124 : BitVec 32 := Scalar.addi v2540 c14_i32_1393
  let c128_i32_1394 : BitVec 32 := 128#32
  let v3125 : BitVec 32 := Scalar.muli v3124 c128_i32_1394
  v3125
def k0_mult38 (v2540 : BitVec 32) : BitVec 32 :=
  let c15_i32_1402 : BitVec 32 := 15#32
  let v3165 : BitVec 32 := Scalar.addi v2540 c15_i32_1402
  let c128_i32_1403 : BitVec 32 := 128#32
  let v3166 : BitVec 32 := Scalar.muli v3165 c128_i32_1403
  v3166

def k0_chk7 (k0_t1 : Fin k0_t1_loop.trips) (v2540 : BitVec 32) : Prop :=
  (128 ∣ (k0_mult23 v2540).toNat) ∧
  (∀ (r : Fin 16), ∀ a, (k0_off77 k0_t1 v2540 (BitVec.ofNat 32 r.val)) a + S1x32x128.size a ≤ S4x96x32768.size a) ∧
  (∀ (r : Fin 16), ∀ a, (k0_off78 k0_t1 v2540 (BitVec.ofNat 32 r.val)) a + S1x32x128.size a ≤ S4x96x32768.size a) ∧
  (∀ (r : Fin 16), ∀ a, (k0_off79 k0_t1 v2540 (BitVec.ofNat 32 r.val)) a + S1x32x128.size a ≤ S4x96x32768.size a) ∧
  (128 ∣ (k0_mult24 v2540).toNat) ∧
  (128 ∣ (k0_mult25 v2540).toNat) ∧
  (128 ∣ (k0_mult26 v2540).toNat) ∧
  (128 ∣ (k0_mult27 v2540).toNat) ∧
  (128 ∣ (k0_mult28 v2540).toNat) ∧
  (128 ∣ (k0_mult29 v2540).toNat) ∧
  (128 ∣ (k0_mult30 v2540).toNat) ∧
  (128 ∣ (k0_mult31 v2540).toNat) ∧
  (128 ∣ (k0_mult32 v2540).toNat) ∧
  (128 ∣ (k0_mult33 v2540).toNat) ∧
  (128 ∣ (k0_mult34 v2540).toNat) ∧
  (128 ∣ (k0_mult35 v2540).toNat) ∧
  (128 ∣ (k0_mult36 v2540).toNat) ∧
  (128 ∣ (k0_mult37 v2540).toNat) ∧
  (128 ∣ (k0_mult38 v2540).toNat)
theorem k0_mult23_dvd : ∀ (k0_t1 : Fin k0_t1_loop.trips) (v2540 : BitVec 32) (k0_hw7 : k0_chk7 k0_t1 v2540), 128 ∣ (k0_mult23 v2540).toNat := fun k0_t1 v2540 k0_hw7 => k0_hw7.1
theorem k0_off77_inb : ∀ (k0_t1 : Fin k0_t1_loop.trips) (v2540 : BitVec 32) (k0_hw7 : k0_chk7 k0_t1 v2540), ∀ (r : Fin 16), ∀ a, (k0_off77 k0_t1 v2540 (BitVec.ofNat 32 r.val)) a + S1x32x128.size a ≤ S4x96x32768.size a := fun k0_t1 v2540 k0_hw7 r => k0_hw7.2.1 r
theorem k0_off78_inb : ∀ (k0_t1 : Fin k0_t1_loop.trips) (v2540 : BitVec 32) (k0_hw7 : k0_chk7 k0_t1 v2540), ∀ (r : Fin 16), ∀ a, (k0_off78 k0_t1 v2540 (BitVec.ofNat 32 r.val)) a + S1x32x128.size a ≤ S4x96x32768.size a := fun k0_t1 v2540 k0_hw7 r => k0_hw7.2.2.1 r
theorem k0_off79_inb : ∀ (k0_t1 : Fin k0_t1_loop.trips) (v2540 : BitVec 32) (k0_hw7 : k0_chk7 k0_t1 v2540), ∀ (r : Fin 16), ∀ a, (k0_off79 k0_t1 v2540 (BitVec.ofNat 32 r.val)) a + S1x32x128.size a ≤ S4x96x32768.size a := fun k0_t1 v2540 k0_hw7 r => k0_hw7.2.2.2.1 r
theorem k0_mult24_dvd : ∀ (k0_t1 : Fin k0_t1_loop.trips) (v2540 : BitVec 32) (k0_hw7 : k0_chk7 k0_t1 v2540), 128 ∣ (k0_mult24 v2540).toNat := fun k0_t1 v2540 k0_hw7 => k0_hw7.2.2.2.2.1
theorem k0_mult25_dvd : ∀ (k0_t1 : Fin k0_t1_loop.trips) (v2540 : BitVec 32) (k0_hw7 : k0_chk7 k0_t1 v2540), 128 ∣ (k0_mult25 v2540).toNat := fun k0_t1 v2540 k0_hw7 => k0_hw7.2.2.2.2.2.1
theorem k0_mult26_dvd : ∀ (k0_t1 : Fin k0_t1_loop.trips) (v2540 : BitVec 32) (k0_hw7 : k0_chk7 k0_t1 v2540), 128 ∣ (k0_mult26 v2540).toNat := fun k0_t1 v2540 k0_hw7 => k0_hw7.2.2.2.2.2.2.1
theorem k0_mult27_dvd : ∀ (k0_t1 : Fin k0_t1_loop.trips) (v2540 : BitVec 32) (k0_hw7 : k0_chk7 k0_t1 v2540), 128 ∣ (k0_mult27 v2540).toNat := fun k0_t1 v2540 k0_hw7 => k0_hw7.2.2.2.2.2.2.2.1
theorem k0_mult28_dvd : ∀ (k0_t1 : Fin k0_t1_loop.trips) (v2540 : BitVec 32) (k0_hw7 : k0_chk7 k0_t1 v2540), 128 ∣ (k0_mult28 v2540).toNat := fun k0_t1 v2540 k0_hw7 => k0_hw7.2.2.2.2.2.2.2.2.1
theorem k0_mult29_dvd : ∀ (k0_t1 : Fin k0_t1_loop.trips) (v2540 : BitVec 32) (k0_hw7 : k0_chk7 k0_t1 v2540), 128 ∣ (k0_mult29 v2540).toNat := fun k0_t1 v2540 k0_hw7 => k0_hw7.2.2.2.2.2.2.2.2.2.1
theorem k0_mult30_dvd : ∀ (k0_t1 : Fin k0_t1_loop.trips) (v2540 : BitVec 32) (k0_hw7 : k0_chk7 k0_t1 v2540), 128 ∣ (k0_mult30 v2540).toNat := fun k0_t1 v2540 k0_hw7 => k0_hw7.2.2.2.2.2.2.2.2.2.2.1
theorem k0_mult31_dvd : ∀ (k0_t1 : Fin k0_t1_loop.trips) (v2540 : BitVec 32) (k0_hw7 : k0_chk7 k0_t1 v2540), 128 ∣ (k0_mult31 v2540).toNat := fun k0_t1 v2540 k0_hw7 => k0_hw7.2.2.2.2.2.2.2.2.2.2.2.1
theorem k0_mult32_dvd : ∀ (k0_t1 : Fin k0_t1_loop.trips) (v2540 : BitVec 32) (k0_hw7 : k0_chk7 k0_t1 v2540), 128 ∣ (k0_mult32 v2540).toNat := fun k0_t1 v2540 k0_hw7 => k0_hw7.2.2.2.2.2.2.2.2.2.2.2.2.1
theorem k0_mult33_dvd : ∀ (k0_t1 : Fin k0_t1_loop.trips) (v2540 : BitVec 32) (k0_hw7 : k0_chk7 k0_t1 v2540), 128 ∣ (k0_mult33 v2540).toNat := fun k0_t1 v2540 k0_hw7 => k0_hw7.2.2.2.2.2.2.2.2.2.2.2.2.2.1
theorem k0_mult34_dvd : ∀ (k0_t1 : Fin k0_t1_loop.trips) (v2540 : BitVec 32) (k0_hw7 : k0_chk7 k0_t1 v2540), 128 ∣ (k0_mult34 v2540).toNat := fun k0_t1 v2540 k0_hw7 => k0_hw7.2.2.2.2.2.2.2.2.2.2.2.2.2.2.1
theorem k0_mult35_dvd : ∀ (k0_t1 : Fin k0_t1_loop.trips) (v2540 : BitVec 32) (k0_hw7 : k0_chk7 k0_t1 v2540), 128 ∣ (k0_mult35 v2540).toNat := fun k0_t1 v2540 k0_hw7 => k0_hw7.2.2.2.2.2.2.2.2.2.2.2.2.2.2.2.1
theorem k0_mult36_dvd : ∀ (k0_t1 : Fin k0_t1_loop.trips) (v2540 : BitVec 32) (k0_hw7 : k0_chk7 k0_t1 v2540), 128 ∣ (k0_mult36 v2540).toNat := fun k0_t1 v2540 k0_hw7 => k0_hw7.2.2.2.2.2.2.2.2.2.2.2.2.2.2.2.2.1
theorem k0_mult37_dvd : ∀ (k0_t1 : Fin k0_t1_loop.trips) (v2540 : BitVec 32) (k0_hw7 : k0_chk7 k0_t1 v2540), 128 ∣ (k0_mult37 v2540).toNat := fun k0_t1 v2540 k0_hw7 => k0_hw7.2.2.2.2.2.2.2.2.2.2.2.2.2.2.2.2.2.1
theorem k0_mult38_dvd : ∀ (k0_t1 : Fin k0_t1_loop.trips) (v2540 : BitVec 32) (k0_hw7 : k0_chk7 k0_t1 v2540), 128 ∣ (k0_mult38 v2540).toNat := fun k0_t1 v2540 k0_hw7 => k0_hw7.2.2.2.2.2.2.2.2.2.2.2.2.2.2.2.2.2.2

def k0_off80 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3206 : Index := Scalar.indexCast arg27
  let c0_1411 : Index := 0#32
  let c0_1412 : Index := 0#32
  ![v3206.toNat, 0, 0]
def k0_off81 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3217 : Index := Scalar.indexCast arg27
  let c8_1415 : Index := 8#32
  let c0_1416 : Index := 0#32
  ![v3217.toNat, 8, 0]
def k0_off82 (arg33 : BitVec 32) : Fin 4 → Nat :=
  let v3237 : Index := Scalar.indexCast arg33
  let c1_1422 : Index := 1#32
  let c0_1423 : Index := 0#32
  let c0_1424 : Index := 0#32
  ![v3237.toNat, 1, 0, 0]
def k0_off83 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3241 : Index := Scalar.indexCast arg27
  let c16_1425 : Index := 16#32
  let c0_1426 : Index := 0#32
  ![v3241.toNat, 16, 0]
def k0_off84 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3252 : Index := Scalar.indexCast arg27
  let c24_1429 : Index := 24#32
  let c0_1430 : Index := 0#32
  ![v3252.toNat, 24, 0]
def k0_off85 (arg33 : BitVec 32) : Fin 4 → Nat :=
  let v3272 : Index := Scalar.indexCast arg33
  let c1_1436 : Index := 1#32
  let c8_1437 : Index := 8#32
  let c0_1438 : Index := 0#32
  ![v3272.toNat, 1, 8, 0]
def k0_off86 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3276 : Index := Scalar.indexCast arg27
  let c32_1439 : Index := 32#32
  let c0_1440 : Index := 0#32
  ![v3276.toNat, 32, 0]
def k0_off87 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3287 : Index := Scalar.indexCast arg27
  let c40_1443 : Index := 40#32
  let c0_1444 : Index := 0#32
  ![v3287.toNat, 40, 0]
def k0_off88 (arg33 : BitVec 32) : Fin 4 → Nat :=
  let v3307 : Index := Scalar.indexCast arg33
  let c1_1450 : Index := 1#32
  let c16_1451 : Index := 16#32
  let c0_1452 : Index := 0#32
  ![v3307.toNat, 1, 16, 0]
def k0_off89 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_1453 : BitVec 32 := 272#32
  let v3311 : BitVec 32 := Scalar.muli arg27 c272_i32_1453
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v3312 : BitVec 32 := Scalar.addi v3311 v1744
  let c2_i32_1454 : BitVec 32 := 2#32
  let v3313 : BitVec 32 := Scalar.addi v3312 c2_i32_1454
  let v3314 : Index := Scalar.indexCast v3313
  ![v3314.toNat]
def k0_off90 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3317 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c2_i32_1455 : BitVec 32 := 2#32
  let v3316 : BitVec 32 := Scalar.addi v1744 c2_i32_1455
  let v3318 : Index := Scalar.indexCast v3316
  let c0_1456 : Index := 0#32
  ![v3317.toNat, v3318.toNat, 0]
def k0_mult39 (v3315 : BitVec 32) : BitVec 32 :=
  let c0_i32_1460 : BitVec 32 := 0#32
  let v3331 : BitVec 32 := Scalar.addi v3315 c0_i32_1460
  let c128_i32_1461 : BitVec 32 := 128#32
  let v3332 : BitVec 32 := Scalar.muli v3331 c128_i32_1461
  v3332

def k0_off91 (k0_t1 : Fin k0_t1_loop.trips) (v3315 : BitVec 32) (c0_i32_1460 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3336 : Index := Scalar.indexCast v1163
  let c0_1463 : Index := 0#32
  let v3331 : BitVec 32 := Scalar.addi v3315 c0_i32_1460
  let c128_i32_1461 : BitVec 32 := 128#32
  let v3332 : BitVec 32 := Scalar.muli v3331 c128_i32_1461
  let v3333 : BitVec 32 := v3332
  let v3337 : Index := Scalar.indexCast v3333
  ![v3336.toNat, 0, v3337.toNat]
def k0_off92 (k0_t1 : Fin k0_t1_loop.trips) (v3315 : BitVec 32) (c0_i32_1460 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3341 : Index := Scalar.indexCast v1163
  let c32_1464 : Index := 32#32
  let v3331 : BitVec 32 := Scalar.addi v3315 c0_i32_1460
  let c128_i32_1461 : BitVec 32 := 128#32
  let v3332 : BitVec 32 := Scalar.muli v3331 c128_i32_1461
  let v3333 : BitVec 32 := v3332
  let v3342 : Index := Scalar.indexCast v3333
  ![v3341.toNat, 32, v3342.toNat]
def k0_off93 (k0_t1 : Fin k0_t1_loop.trips) (v3315 : BitVec 32) (c0_i32_1460 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3346 : Index := Scalar.indexCast v1163
  let c64_1465 : Index := 64#32
  let v3331 : BitVec 32 := Scalar.addi v3315 c0_i32_1460
  let c128_i32_1461 : BitVec 32 := 128#32
  let v3332 : BitVec 32 := Scalar.muli v3331 c128_i32_1461
  let v3333 : BitVec 32 := v3332
  let v3347 : Index := Scalar.indexCast v3333
  ![v3346.toNat, 64, v3347.toNat]
def k0_mult40 (v3315 : BitVec 32) : BitVec 32 :=
  let c1_i32_1469 : BitVec 32 := 1#32
  let v3366 : BitVec 32 := Scalar.addi v3315 c1_i32_1469
  let c128_i32_1470 : BitVec 32 := 128#32
  let v3367 : BitVec 32 := Scalar.muli v3366 c128_i32_1470
  v3367
def k0_mult41 (v3315 : BitVec 32) : BitVec 32 :=
  let c2_i32_1478 : BitVec 32 := 2#32
  let v3407 : BitVec 32 := Scalar.addi v3315 c2_i32_1478
  let c128_i32_1479 : BitVec 32 := 128#32
  let v3408 : BitVec 32 := Scalar.muli v3407 c128_i32_1479
  v3408
def k0_mult42 (v3315 : BitVec 32) : BitVec 32 :=
  let c3_i32_1487 : BitVec 32 := 3#32
  let v3448 : BitVec 32 := Scalar.addi v3315 c3_i32_1487
  let c128_i32_1488 : BitVec 32 := 128#32
  let v3449 : BitVec 32 := Scalar.muli v3448 c128_i32_1488
  v3449
def k0_mult43 (v3315 : BitVec 32) : BitVec 32 :=
  let c4_i32_1496 : BitVec 32 := 4#32
  let v3489 : BitVec 32 := Scalar.addi v3315 c4_i32_1496
  let c128_i32_1497 : BitVec 32 := 128#32
  let v3490 : BitVec 32 := Scalar.muli v3489 c128_i32_1497
  v3490
def k0_mult44 (v3315 : BitVec 32) : BitVec 32 :=
  let c5_i32_1505 : BitVec 32 := 5#32
  let v3530 : BitVec 32 := Scalar.addi v3315 c5_i32_1505
  let c128_i32_1506 : BitVec 32 := 128#32
  let v3531 : BitVec 32 := Scalar.muli v3530 c128_i32_1506
  v3531
def k0_mult45 (v3315 : BitVec 32) : BitVec 32 :=
  let c6_i32_1514 : BitVec 32 := 6#32
  let v3571 : BitVec 32 := Scalar.addi v3315 c6_i32_1514
  let c128_i32_1515 : BitVec 32 := 128#32
  let v3572 : BitVec 32 := Scalar.muli v3571 c128_i32_1515
  v3572
def k0_mult46 (v3315 : BitVec 32) : BitVec 32 :=
  let c7_i32_1523 : BitVec 32 := 7#32
  let v3612 : BitVec 32 := Scalar.addi v3315 c7_i32_1523
  let c128_i32_1524 : BitVec 32 := 128#32
  let v3613 : BitVec 32 := Scalar.muli v3612 c128_i32_1524
  v3613
def k0_mult47 (v3315 : BitVec 32) : BitVec 32 :=
  let c8_i32_1532 : BitVec 32 := 8#32
  let v3653 : BitVec 32 := Scalar.addi v3315 c8_i32_1532
  let c128_i32_1533 : BitVec 32 := 128#32
  let v3654 : BitVec 32 := Scalar.muli v3653 c128_i32_1533
  v3654
def k0_mult48 (v3315 : BitVec 32) : BitVec 32 :=
  let c9_i32_1541 : BitVec 32 := 9#32
  let v3694 : BitVec 32 := Scalar.addi v3315 c9_i32_1541
  let c128_i32_1542 : BitVec 32 := 128#32
  let v3695 : BitVec 32 := Scalar.muli v3694 c128_i32_1542
  v3695
def k0_mult49 (v3315 : BitVec 32) : BitVec 32 :=
  let c10_i32_1550 : BitVec 32 := 10#32
  let v3735 : BitVec 32 := Scalar.addi v3315 c10_i32_1550
  let c128_i32_1551 : BitVec 32 := 128#32
  let v3736 : BitVec 32 := Scalar.muli v3735 c128_i32_1551
  v3736
def k0_mult50 (v3315 : BitVec 32) : BitVec 32 :=
  let c11_i32_1559 : BitVec 32 := 11#32
  let v3776 : BitVec 32 := Scalar.addi v3315 c11_i32_1559
  let c128_i32_1560 : BitVec 32 := 128#32
  let v3777 : BitVec 32 := Scalar.muli v3776 c128_i32_1560
  v3777
def k0_mult51 (v3315 : BitVec 32) : BitVec 32 :=
  let c12_i32_1568 : BitVec 32 := 12#32
  let v3817 : BitVec 32 := Scalar.addi v3315 c12_i32_1568
  let c128_i32_1569 : BitVec 32 := 128#32
  let v3818 : BitVec 32 := Scalar.muli v3817 c128_i32_1569
  v3818
def k0_mult52 (v3315 : BitVec 32) : BitVec 32 :=
  let c13_i32_1577 : BitVec 32 := 13#32
  let v3858 : BitVec 32 := Scalar.addi v3315 c13_i32_1577
  let c128_i32_1578 : BitVec 32 := 128#32
  let v3859 : BitVec 32 := Scalar.muli v3858 c128_i32_1578
  v3859
def k0_mult53 (v3315 : BitVec 32) : BitVec 32 :=
  let c14_i32_1586 : BitVec 32 := 14#32
  let v3899 : BitVec 32 := Scalar.addi v3315 c14_i32_1586
  let c128_i32_1587 : BitVec 32 := 128#32
  let v3900 : BitVec 32 := Scalar.muli v3899 c128_i32_1587
  v3900
def k0_mult54 (v3315 : BitVec 32) : BitVec 32 :=
  let c15_i32_1595 : BitVec 32 := 15#32
  let v3940 : BitVec 32 := Scalar.addi v3315 c15_i32_1595
  let c128_i32_1596 : BitVec 32 := 128#32
  let v3941 : BitVec 32 := Scalar.muli v3940 c128_i32_1596
  v3941

def k0_chk8 (k0_t1 : Fin k0_t1_loop.trips) (v3315 : BitVec 32) : Prop :=
  (128 ∣ (k0_mult39 v3315).toNat) ∧
  (∀ (r : Fin 16), ∀ a, (k0_off91 k0_t1 v3315 (BitVec.ofNat 32 r.val)) a + S1x32x128.size a ≤ S4x96x32768.size a) ∧
  (∀ (r : Fin 16), ∀ a, (k0_off92 k0_t1 v3315 (BitVec.ofNat 32 r.val)) a + S1x32x128.size a ≤ S4x96x32768.size a) ∧
  (∀ (r : Fin 16), ∀ a, (k0_off93 k0_t1 v3315 (BitVec.ofNat 32 r.val)) a + S1x32x128.size a ≤ S4x96x32768.size a) ∧
  (128 ∣ (k0_mult40 v3315).toNat) ∧
  (128 ∣ (k0_mult41 v3315).toNat) ∧
  (128 ∣ (k0_mult42 v3315).toNat) ∧
  (128 ∣ (k0_mult43 v3315).toNat) ∧
  (128 ∣ (k0_mult44 v3315).toNat) ∧
  (128 ∣ (k0_mult45 v3315).toNat) ∧
  (128 ∣ (k0_mult46 v3315).toNat) ∧
  (128 ∣ (k0_mult47 v3315).toNat) ∧
  (128 ∣ (k0_mult48 v3315).toNat) ∧
  (128 ∣ (k0_mult49 v3315).toNat) ∧
  (128 ∣ (k0_mult50 v3315).toNat) ∧
  (128 ∣ (k0_mult51 v3315).toNat) ∧
  (128 ∣ (k0_mult52 v3315).toNat) ∧
  (128 ∣ (k0_mult53 v3315).toNat) ∧
  (128 ∣ (k0_mult54 v3315).toNat)
theorem k0_mult39_dvd : ∀ (k0_t1 : Fin k0_t1_loop.trips) (v3315 : BitVec 32) (k0_hw8 : k0_chk8 k0_t1 v3315), 128 ∣ (k0_mult39 v3315).toNat := fun k0_t1 v3315 k0_hw8 => k0_hw8.1
theorem k0_off91_inb : ∀ (k0_t1 : Fin k0_t1_loop.trips) (v3315 : BitVec 32) (k0_hw8 : k0_chk8 k0_t1 v3315), ∀ (r : Fin 16), ∀ a, (k0_off91 k0_t1 v3315 (BitVec.ofNat 32 r.val)) a + S1x32x128.size a ≤ S4x96x32768.size a := fun k0_t1 v3315 k0_hw8 r => k0_hw8.2.1 r
theorem k0_off92_inb : ∀ (k0_t1 : Fin k0_t1_loop.trips) (v3315 : BitVec 32) (k0_hw8 : k0_chk8 k0_t1 v3315), ∀ (r : Fin 16), ∀ a, (k0_off92 k0_t1 v3315 (BitVec.ofNat 32 r.val)) a + S1x32x128.size a ≤ S4x96x32768.size a := fun k0_t1 v3315 k0_hw8 r => k0_hw8.2.2.1 r
theorem k0_off93_inb : ∀ (k0_t1 : Fin k0_t1_loop.trips) (v3315 : BitVec 32) (k0_hw8 : k0_chk8 k0_t1 v3315), ∀ (r : Fin 16), ∀ a, (k0_off93 k0_t1 v3315 (BitVec.ofNat 32 r.val)) a + S1x32x128.size a ≤ S4x96x32768.size a := fun k0_t1 v3315 k0_hw8 r => k0_hw8.2.2.2.1 r
theorem k0_mult40_dvd : ∀ (k0_t1 : Fin k0_t1_loop.trips) (v3315 : BitVec 32) (k0_hw8 : k0_chk8 k0_t1 v3315), 128 ∣ (k0_mult40 v3315).toNat := fun k0_t1 v3315 k0_hw8 => k0_hw8.2.2.2.2.1
theorem k0_mult41_dvd : ∀ (k0_t1 : Fin k0_t1_loop.trips) (v3315 : BitVec 32) (k0_hw8 : k0_chk8 k0_t1 v3315), 128 ∣ (k0_mult41 v3315).toNat := fun k0_t1 v3315 k0_hw8 => k0_hw8.2.2.2.2.2.1
theorem k0_mult42_dvd : ∀ (k0_t1 : Fin k0_t1_loop.trips) (v3315 : BitVec 32) (k0_hw8 : k0_chk8 k0_t1 v3315), 128 ∣ (k0_mult42 v3315).toNat := fun k0_t1 v3315 k0_hw8 => k0_hw8.2.2.2.2.2.2.1
theorem k0_mult43_dvd : ∀ (k0_t1 : Fin k0_t1_loop.trips) (v3315 : BitVec 32) (k0_hw8 : k0_chk8 k0_t1 v3315), 128 ∣ (k0_mult43 v3315).toNat := fun k0_t1 v3315 k0_hw8 => k0_hw8.2.2.2.2.2.2.2.1
theorem k0_mult44_dvd : ∀ (k0_t1 : Fin k0_t1_loop.trips) (v3315 : BitVec 32) (k0_hw8 : k0_chk8 k0_t1 v3315), 128 ∣ (k0_mult44 v3315).toNat := fun k0_t1 v3315 k0_hw8 => k0_hw8.2.2.2.2.2.2.2.2.1
theorem k0_mult45_dvd : ∀ (k0_t1 : Fin k0_t1_loop.trips) (v3315 : BitVec 32) (k0_hw8 : k0_chk8 k0_t1 v3315), 128 ∣ (k0_mult45 v3315).toNat := fun k0_t1 v3315 k0_hw8 => k0_hw8.2.2.2.2.2.2.2.2.2.1
theorem k0_mult46_dvd : ∀ (k0_t1 : Fin k0_t1_loop.trips) (v3315 : BitVec 32) (k0_hw8 : k0_chk8 k0_t1 v3315), 128 ∣ (k0_mult46 v3315).toNat := fun k0_t1 v3315 k0_hw8 => k0_hw8.2.2.2.2.2.2.2.2.2.2.1
theorem k0_mult47_dvd : ∀ (k0_t1 : Fin k0_t1_loop.trips) (v3315 : BitVec 32) (k0_hw8 : k0_chk8 k0_t1 v3315), 128 ∣ (k0_mult47 v3315).toNat := fun k0_t1 v3315 k0_hw8 => k0_hw8.2.2.2.2.2.2.2.2.2.2.2.1
theorem k0_mult48_dvd : ∀ (k0_t1 : Fin k0_t1_loop.trips) (v3315 : BitVec 32) (k0_hw8 : k0_chk8 k0_t1 v3315), 128 ∣ (k0_mult48 v3315).toNat := fun k0_t1 v3315 k0_hw8 => k0_hw8.2.2.2.2.2.2.2.2.2.2.2.2.1
theorem k0_mult49_dvd : ∀ (k0_t1 : Fin k0_t1_loop.trips) (v3315 : BitVec 32) (k0_hw8 : k0_chk8 k0_t1 v3315), 128 ∣ (k0_mult49 v3315).toNat := fun k0_t1 v3315 k0_hw8 => k0_hw8.2.2.2.2.2.2.2.2.2.2.2.2.2.1
theorem k0_mult50_dvd : ∀ (k0_t1 : Fin k0_t1_loop.trips) (v3315 : BitVec 32) (k0_hw8 : k0_chk8 k0_t1 v3315), 128 ∣ (k0_mult50 v3315).toNat := fun k0_t1 v3315 k0_hw8 => k0_hw8.2.2.2.2.2.2.2.2.2.2.2.2.2.2.1
theorem k0_mult51_dvd : ∀ (k0_t1 : Fin k0_t1_loop.trips) (v3315 : BitVec 32) (k0_hw8 : k0_chk8 k0_t1 v3315), 128 ∣ (k0_mult51 v3315).toNat := fun k0_t1 v3315 k0_hw8 => k0_hw8.2.2.2.2.2.2.2.2.2.2.2.2.2.2.2.1
theorem k0_mult52_dvd : ∀ (k0_t1 : Fin k0_t1_loop.trips) (v3315 : BitVec 32) (k0_hw8 : k0_chk8 k0_t1 v3315), 128 ∣ (k0_mult52 v3315).toNat := fun k0_t1 v3315 k0_hw8 => k0_hw8.2.2.2.2.2.2.2.2.2.2.2.2.2.2.2.2.1
theorem k0_mult53_dvd : ∀ (k0_t1 : Fin k0_t1_loop.trips) (v3315 : BitVec 32) (k0_hw8 : k0_chk8 k0_t1 v3315), 128 ∣ (k0_mult53 v3315).toNat := fun k0_t1 v3315 k0_hw8 => k0_hw8.2.2.2.2.2.2.2.2.2.2.2.2.2.2.2.2.2.1
theorem k0_mult54_dvd : ∀ (k0_t1 : Fin k0_t1_loop.trips) (v3315 : BitVec 32) (k0_hw8 : k0_chk8 k0_t1 v3315), 128 ∣ (k0_mult54 v3315).toNat := fun k0_t1 v3315 k0_hw8 => k0_hw8.2.2.2.2.2.2.2.2.2.2.2.2.2.2.2.2.2.2

def k0_off94 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3981 : Index := Scalar.indexCast arg27
  let c0_1604 : Index := 0#32
  let c0_1605 : Index := 0#32
  ![v3981.toNat, 0, 0]
def k0_off95 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3992 : Index := Scalar.indexCast arg27
  let c8_1608 : Index := 8#32
  let c0_1609 : Index := 0#32
  ![v3992.toNat, 8, 0]
def k0_off96 (arg33 : BitVec 32) : Fin 4 → Nat :=
  let v4012 : Index := Scalar.indexCast arg33
  let c2_1615 : Index := 2#32
  let c0_1616 : Index := 0#32
  let c0_1617 : Index := 0#32
  ![v4012.toNat, 2, 0, 0]
def k0_off97 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4016 : Index := Scalar.indexCast arg27
  let c16_1618 : Index := 16#32
  let c0_1619 : Index := 0#32
  ![v4016.toNat, 16, 0]
def k0_off98 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4027 : Index := Scalar.indexCast arg27
  let c24_1622 : Index := 24#32
  let c0_1623 : Index := 0#32
  ![v4027.toNat, 24, 0]
def k0_off99 (arg33 : BitVec 32) : Fin 4 → Nat :=
  let v4047 : Index := Scalar.indexCast arg33
  let c2_1629 : Index := 2#32
  let c8_1630 : Index := 8#32
  let c0_1631 : Index := 0#32
  ![v4047.toNat, 2, 8, 0]
def k0_off100 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4051 : Index := Scalar.indexCast arg27
  let c32_1632 : Index := 32#32
  let c0_1633 : Index := 0#32
  ![v4051.toNat, 32, 0]
def k0_off101 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4062 : Index := Scalar.indexCast arg27
  let c40_1636 : Index := 40#32
  let c0_1637 : Index := 0#32
  ![v4062.toNat, 40, 0]
def k0_off102 (arg33 : BitVec 32) : Fin 4 → Nat :=
  let v4082 : Index := Scalar.indexCast arg33
  let c2_1643 : Index := 2#32
  let c16_1644 : Index := 16#32
  let c0_1645 : Index := 0#32
  ![v4082.toNat, 2, 16, 0]
def k0_off103 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_1646 : BitVec 32 := 272#32
  let v4086 : BitVec 32 := Scalar.muli arg27 c272_i32_1646
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v4087 : BitVec 32 := Scalar.addi v4086 v1744
  let c3_i32_1647 : BitVec 32 := 3#32
  let v4088 : BitVec 32 := Scalar.addi v4087 c3_i32_1647
  let v4089 : Index := Scalar.indexCast v4088
  ![v4089.toNat]
def k0_off104 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4092 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c3_i32_1648 : BitVec 32 := 3#32
  let v4091 : BitVec 32 := Scalar.addi v1744 c3_i32_1648
  let v4093 : Index := Scalar.indexCast v4091
  let c0_1649 : Index := 0#32
  ![v4092.toNat, v4093.toNat, 0]
def k0_mult55 (v4090 : BitVec 32) : BitVec 32 :=
  let c0_i32_1653 : BitVec 32 := 0#32
  let v4106 : BitVec 32 := Scalar.addi v4090 c0_i32_1653
  let c128_i32_1654 : BitVec 32 := 128#32
  let v4107 : BitVec 32 := Scalar.muli v4106 c128_i32_1654
  v4107

def k0_off105 (k0_t1 : Fin k0_t1_loop.trips) (v4090 : BitVec 32) (c0_i32_1653 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4111 : Index := Scalar.indexCast v1163
  let c0_1656 : Index := 0#32
  let v4106 : BitVec 32 := Scalar.addi v4090 c0_i32_1653
  let c128_i32_1654 : BitVec 32 := 128#32
  let v4107 : BitVec 32 := Scalar.muli v4106 c128_i32_1654
  let v4108 : BitVec 32 := v4107
  let v4112 : Index := Scalar.indexCast v4108
  ![v4111.toNat, 0, v4112.toNat]
def k0_off106 (k0_t1 : Fin k0_t1_loop.trips) (v4090 : BitVec 32) (c0_i32_1653 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4116 : Index := Scalar.indexCast v1163
  let c32_1657 : Index := 32#32
  let v4106 : BitVec 32 := Scalar.addi v4090 c0_i32_1653
  let c128_i32_1654 : BitVec 32 := 128#32
  let v4107 : BitVec 32 := Scalar.muli v4106 c128_i32_1654
  let v4108 : BitVec 32 := v4107
  let v4117 : Index := Scalar.indexCast v4108
  ![v4116.toNat, 32, v4117.toNat]
def k0_off107 (k0_t1 : Fin k0_t1_loop.trips) (v4090 : BitVec 32) (c0_i32_1653 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4121 : Index := Scalar.indexCast v1163
  let c64_1658 : Index := 64#32
  let v4106 : BitVec 32 := Scalar.addi v4090 c0_i32_1653
  let c128_i32_1654 : BitVec 32 := 128#32
  let v4107 : BitVec 32 := Scalar.muli v4106 c128_i32_1654
  let v4108 : BitVec 32 := v4107
  let v4122 : Index := Scalar.indexCast v4108
  ![v4121.toNat, 64, v4122.toNat]
def k0_mult56 (v4090 : BitVec 32) : BitVec 32 :=
  let c1_i32_1662 : BitVec 32 := 1#32
  let v4141 : BitVec 32 := Scalar.addi v4090 c1_i32_1662
  let c128_i32_1663 : BitVec 32 := 128#32
  let v4142 : BitVec 32 := Scalar.muli v4141 c128_i32_1663
  v4142
def k0_mult57 (v4090 : BitVec 32) : BitVec 32 :=
  let c2_i32_1671 : BitVec 32 := 2#32
  let v4182 : BitVec 32 := Scalar.addi v4090 c2_i32_1671
  let c128_i32_1672 : BitVec 32 := 128#32
  let v4183 : BitVec 32 := Scalar.muli v4182 c128_i32_1672
  v4183
def k0_mult58 (v4090 : BitVec 32) : BitVec 32 :=
  let c3_i32_1680 : BitVec 32 := 3#32
  let v4223 : BitVec 32 := Scalar.addi v4090 c3_i32_1680
  let c128_i32_1681 : BitVec 32 := 128#32
  let v4224 : BitVec 32 := Scalar.muli v4223 c128_i32_1681
  v4224
def k0_mult59 (v4090 : BitVec 32) : BitVec 32 :=
  let c4_i32_1689 : BitVec 32 := 4#32
  let v4264 : BitVec 32 := Scalar.addi v4090 c4_i32_1689
  let c128_i32_1690 : BitVec 32 := 128#32
  let v4265 : BitVec 32 := Scalar.muli v4264 c128_i32_1690
  v4265
def k0_mult60 (v4090 : BitVec 32) : BitVec 32 :=
  let c5_i32_1698 : BitVec 32 := 5#32
  let v4305 : BitVec 32 := Scalar.addi v4090 c5_i32_1698
  let c128_i32_1699 : BitVec 32 := 128#32
  let v4306 : BitVec 32 := Scalar.muli v4305 c128_i32_1699
  v4306
def k0_mult61 (v4090 : BitVec 32) : BitVec 32 :=
  let c6_i32_1707 : BitVec 32 := 6#32
  let v4346 : BitVec 32 := Scalar.addi v4090 c6_i32_1707
  let c128_i32_1708 : BitVec 32 := 128#32
  let v4347 : BitVec 32 := Scalar.muli v4346 c128_i32_1708
  v4347
def k0_mult62 (v4090 : BitVec 32) : BitVec 32 :=
  let c7_i32_1716 : BitVec 32 := 7#32
  let v4387 : BitVec 32 := Scalar.addi v4090 c7_i32_1716
  let c128_i32_1717 : BitVec 32 := 128#32
  let v4388 : BitVec 32 := Scalar.muli v4387 c128_i32_1717
  v4388
def k0_mult63 (v4090 : BitVec 32) : BitVec 32 :=
  let c8_i32_1725 : BitVec 32 := 8#32
  let v4428 : BitVec 32 := Scalar.addi v4090 c8_i32_1725
  let c128_i32_1726 : BitVec 32 := 128#32
  let v4429 : BitVec 32 := Scalar.muli v4428 c128_i32_1726
  v4429
def k0_mult64 (v4090 : BitVec 32) : BitVec 32 :=
  let c9_i32_1734 : BitVec 32 := 9#32
  let v4469 : BitVec 32 := Scalar.addi v4090 c9_i32_1734
  let c128_i32_1735 : BitVec 32 := 128#32
  let v4470 : BitVec 32 := Scalar.muli v4469 c128_i32_1735
  v4470
def k0_mult65 (v4090 : BitVec 32) : BitVec 32 :=
  let c10_i32_1743 : BitVec 32 := 10#32
  let v4510 : BitVec 32 := Scalar.addi v4090 c10_i32_1743
  let c128_i32_1744 : BitVec 32 := 128#32
  let v4511 : BitVec 32 := Scalar.muli v4510 c128_i32_1744
  v4511
def k0_mult66 (v4090 : BitVec 32) : BitVec 32 :=
  let c11_i32_1752 : BitVec 32 := 11#32
  let v4551 : BitVec 32 := Scalar.addi v4090 c11_i32_1752
  let c128_i32_1753 : BitVec 32 := 128#32
  let v4552 : BitVec 32 := Scalar.muli v4551 c128_i32_1753
  v4552
def k0_mult67 (v4090 : BitVec 32) : BitVec 32 :=
  let c12_i32_1761 : BitVec 32 := 12#32
  let v4592 : BitVec 32 := Scalar.addi v4090 c12_i32_1761
  let c128_i32_1762 : BitVec 32 := 128#32
  let v4593 : BitVec 32 := Scalar.muli v4592 c128_i32_1762
  v4593
def k0_mult68 (v4090 : BitVec 32) : BitVec 32 :=
  let c13_i32_1770 : BitVec 32 := 13#32
  let v4633 : BitVec 32 := Scalar.addi v4090 c13_i32_1770
  let c128_i32_1771 : BitVec 32 := 128#32
  let v4634 : BitVec 32 := Scalar.muli v4633 c128_i32_1771
  v4634
def k0_mult69 (v4090 : BitVec 32) : BitVec 32 :=
  let c14_i32_1779 : BitVec 32 := 14#32
  let v4674 : BitVec 32 := Scalar.addi v4090 c14_i32_1779
  let c128_i32_1780 : BitVec 32 := 128#32
  let v4675 : BitVec 32 := Scalar.muli v4674 c128_i32_1780
  v4675
def k0_mult70 (v4090 : BitVec 32) : BitVec 32 :=
  let c15_i32_1788 : BitVec 32 := 15#32
  let v4715 : BitVec 32 := Scalar.addi v4090 c15_i32_1788
  let c128_i32_1789 : BitVec 32 := 128#32
  let v4716 : BitVec 32 := Scalar.muli v4715 c128_i32_1789
  v4716

def k0_chk9 (k0_t1 : Fin k0_t1_loop.trips) (v4090 : BitVec 32) : Prop :=
  (128 ∣ (k0_mult55 v4090).toNat) ∧
  (∀ (r : Fin 16), ∀ a, (k0_off105 k0_t1 v4090 (BitVec.ofNat 32 r.val)) a + S1x32x128.size a ≤ S4x96x32768.size a) ∧
  (∀ (r : Fin 16), ∀ a, (k0_off106 k0_t1 v4090 (BitVec.ofNat 32 r.val)) a + S1x32x128.size a ≤ S4x96x32768.size a) ∧
  (∀ (r : Fin 16), ∀ a, (k0_off107 k0_t1 v4090 (BitVec.ofNat 32 r.val)) a + S1x32x128.size a ≤ S4x96x32768.size a) ∧
  (128 ∣ (k0_mult56 v4090).toNat) ∧
  (128 ∣ (k0_mult57 v4090).toNat) ∧
  (128 ∣ (k0_mult58 v4090).toNat) ∧
  (128 ∣ (k0_mult59 v4090).toNat) ∧
  (128 ∣ (k0_mult60 v4090).toNat) ∧
  (128 ∣ (k0_mult61 v4090).toNat) ∧
  (128 ∣ (k0_mult62 v4090).toNat) ∧
  (128 ∣ (k0_mult63 v4090).toNat) ∧
  (128 ∣ (k0_mult64 v4090).toNat) ∧
  (128 ∣ (k0_mult65 v4090).toNat) ∧
  (128 ∣ (k0_mult66 v4090).toNat) ∧
  (128 ∣ (k0_mult67 v4090).toNat) ∧
  (128 ∣ (k0_mult68 v4090).toNat) ∧
  (128 ∣ (k0_mult69 v4090).toNat) ∧
  (128 ∣ (k0_mult70 v4090).toNat)
theorem k0_mult55_dvd : ∀ (k0_t1 : Fin k0_t1_loop.trips) (v4090 : BitVec 32) (k0_hw9 : k0_chk9 k0_t1 v4090), 128 ∣ (k0_mult55 v4090).toNat := fun k0_t1 v4090 k0_hw9 => k0_hw9.1
theorem k0_off105_inb : ∀ (k0_t1 : Fin k0_t1_loop.trips) (v4090 : BitVec 32) (k0_hw9 : k0_chk9 k0_t1 v4090), ∀ (r : Fin 16), ∀ a, (k0_off105 k0_t1 v4090 (BitVec.ofNat 32 r.val)) a + S1x32x128.size a ≤ S4x96x32768.size a := fun k0_t1 v4090 k0_hw9 r => k0_hw9.2.1 r
theorem k0_off106_inb : ∀ (k0_t1 : Fin k0_t1_loop.trips) (v4090 : BitVec 32) (k0_hw9 : k0_chk9 k0_t1 v4090), ∀ (r : Fin 16), ∀ a, (k0_off106 k0_t1 v4090 (BitVec.ofNat 32 r.val)) a + S1x32x128.size a ≤ S4x96x32768.size a := fun k0_t1 v4090 k0_hw9 r => k0_hw9.2.2.1 r
theorem k0_off107_inb : ∀ (k0_t1 : Fin k0_t1_loop.trips) (v4090 : BitVec 32) (k0_hw9 : k0_chk9 k0_t1 v4090), ∀ (r : Fin 16), ∀ a, (k0_off107 k0_t1 v4090 (BitVec.ofNat 32 r.val)) a + S1x32x128.size a ≤ S4x96x32768.size a := fun k0_t1 v4090 k0_hw9 r => k0_hw9.2.2.2.1 r
theorem k0_mult56_dvd : ∀ (k0_t1 : Fin k0_t1_loop.trips) (v4090 : BitVec 32) (k0_hw9 : k0_chk9 k0_t1 v4090), 128 ∣ (k0_mult56 v4090).toNat := fun k0_t1 v4090 k0_hw9 => k0_hw9.2.2.2.2.1
theorem k0_mult57_dvd : ∀ (k0_t1 : Fin k0_t1_loop.trips) (v4090 : BitVec 32) (k0_hw9 : k0_chk9 k0_t1 v4090), 128 ∣ (k0_mult57 v4090).toNat := fun k0_t1 v4090 k0_hw9 => k0_hw9.2.2.2.2.2.1
theorem k0_mult58_dvd : ∀ (k0_t1 : Fin k0_t1_loop.trips) (v4090 : BitVec 32) (k0_hw9 : k0_chk9 k0_t1 v4090), 128 ∣ (k0_mult58 v4090).toNat := fun k0_t1 v4090 k0_hw9 => k0_hw9.2.2.2.2.2.2.1
theorem k0_mult59_dvd : ∀ (k0_t1 : Fin k0_t1_loop.trips) (v4090 : BitVec 32) (k0_hw9 : k0_chk9 k0_t1 v4090), 128 ∣ (k0_mult59 v4090).toNat := fun k0_t1 v4090 k0_hw9 => k0_hw9.2.2.2.2.2.2.2.1
theorem k0_mult60_dvd : ∀ (k0_t1 : Fin k0_t1_loop.trips) (v4090 : BitVec 32) (k0_hw9 : k0_chk9 k0_t1 v4090), 128 ∣ (k0_mult60 v4090).toNat := fun k0_t1 v4090 k0_hw9 => k0_hw9.2.2.2.2.2.2.2.2.1
theorem k0_mult61_dvd : ∀ (k0_t1 : Fin k0_t1_loop.trips) (v4090 : BitVec 32) (k0_hw9 : k0_chk9 k0_t1 v4090), 128 ∣ (k0_mult61 v4090).toNat := fun k0_t1 v4090 k0_hw9 => k0_hw9.2.2.2.2.2.2.2.2.2.1
theorem k0_mult62_dvd : ∀ (k0_t1 : Fin k0_t1_loop.trips) (v4090 : BitVec 32) (k0_hw9 : k0_chk9 k0_t1 v4090), 128 ∣ (k0_mult62 v4090).toNat := fun k0_t1 v4090 k0_hw9 => k0_hw9.2.2.2.2.2.2.2.2.2.2.1
theorem k0_mult63_dvd : ∀ (k0_t1 : Fin k0_t1_loop.trips) (v4090 : BitVec 32) (k0_hw9 : k0_chk9 k0_t1 v4090), 128 ∣ (k0_mult63 v4090).toNat := fun k0_t1 v4090 k0_hw9 => k0_hw9.2.2.2.2.2.2.2.2.2.2.2.1
theorem k0_mult64_dvd : ∀ (k0_t1 : Fin k0_t1_loop.trips) (v4090 : BitVec 32) (k0_hw9 : k0_chk9 k0_t1 v4090), 128 ∣ (k0_mult64 v4090).toNat := fun k0_t1 v4090 k0_hw9 => k0_hw9.2.2.2.2.2.2.2.2.2.2.2.2.1
theorem k0_mult65_dvd : ∀ (k0_t1 : Fin k0_t1_loop.trips) (v4090 : BitVec 32) (k0_hw9 : k0_chk9 k0_t1 v4090), 128 ∣ (k0_mult65 v4090).toNat := fun k0_t1 v4090 k0_hw9 => k0_hw9.2.2.2.2.2.2.2.2.2.2.2.2.2.1
theorem k0_mult66_dvd : ∀ (k0_t1 : Fin k0_t1_loop.trips) (v4090 : BitVec 32) (k0_hw9 : k0_chk9 k0_t1 v4090), 128 ∣ (k0_mult66 v4090).toNat := fun k0_t1 v4090 k0_hw9 => k0_hw9.2.2.2.2.2.2.2.2.2.2.2.2.2.2.1
theorem k0_mult67_dvd : ∀ (k0_t1 : Fin k0_t1_loop.trips) (v4090 : BitVec 32) (k0_hw9 : k0_chk9 k0_t1 v4090), 128 ∣ (k0_mult67 v4090).toNat := fun k0_t1 v4090 k0_hw9 => k0_hw9.2.2.2.2.2.2.2.2.2.2.2.2.2.2.2.1
theorem k0_mult68_dvd : ∀ (k0_t1 : Fin k0_t1_loop.trips) (v4090 : BitVec 32) (k0_hw9 : k0_chk9 k0_t1 v4090), 128 ∣ (k0_mult68 v4090).toNat := fun k0_t1 v4090 k0_hw9 => k0_hw9.2.2.2.2.2.2.2.2.2.2.2.2.2.2.2.2.1
theorem k0_mult69_dvd : ∀ (k0_t1 : Fin k0_t1_loop.trips) (v4090 : BitVec 32) (k0_hw9 : k0_chk9 k0_t1 v4090), 128 ∣ (k0_mult69 v4090).toNat := fun k0_t1 v4090 k0_hw9 => k0_hw9.2.2.2.2.2.2.2.2.2.2.2.2.2.2.2.2.2.1
theorem k0_mult70_dvd : ∀ (k0_t1 : Fin k0_t1_loop.trips) (v4090 : BitVec 32) (k0_hw9 : k0_chk9 k0_t1 v4090), 128 ∣ (k0_mult70 v4090).toNat := fun k0_t1 v4090 k0_hw9 => k0_hw9.2.2.2.2.2.2.2.2.2.2.2.2.2.2.2.2.2.2

def k0_off108 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4756 : Index := Scalar.indexCast arg27
  let c0_1797 : Index := 0#32
  let c0_1798 : Index := 0#32
  ![v4756.toNat, 0, 0]
def k0_off109 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4767 : Index := Scalar.indexCast arg27
  let c8_1801 : Index := 8#32
  let c0_1802 : Index := 0#32
  ![v4767.toNat, 8, 0]
def k0_off110 (arg33 : BitVec 32) : Fin 4 → Nat :=
  let v4787 : Index := Scalar.indexCast arg33
  let c3_1808 : Index := 3#32
  let c0_1809 : Index := 0#32
  let c0_1810 : Index := 0#32
  ![v4787.toNat, 3, 0, 0]
def k0_off111 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4791 : Index := Scalar.indexCast arg27
  let c16_1811 : Index := 16#32
  let c0_1812 : Index := 0#32
  ![v4791.toNat, 16, 0]
def k0_off112 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4802 : Index := Scalar.indexCast arg27
  let c24_1815 : Index := 24#32
  let c0_1816 : Index := 0#32
  ![v4802.toNat, 24, 0]
def k0_off113 (arg33 : BitVec 32) : Fin 4 → Nat :=
  let v4822 : Index := Scalar.indexCast arg33
  let c3_1822 : Index := 3#32
  let c8_1823 : Index := 8#32
  let c0_1824 : Index := 0#32
  ![v4822.toNat, 3, 8, 0]
def k0_off114 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4826 : Index := Scalar.indexCast arg27
  let c32_1825 : Index := 32#32
  let c0_1826 : Index := 0#32
  ![v4826.toNat, 32, 0]
def k0_off115 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4837 : Index := Scalar.indexCast arg27
  let c40_1829 : Index := 40#32
  let c0_1830 : Index := 0#32
  ![v4837.toNat, 40, 0]
def k0_off116 (arg33 : BitVec 32) : Fin 4 → Nat :=
  let v4857 : Index := Scalar.indexCast arg33
  let c3_1836 : Index := 3#32
  let c16_1837 : Index := 16#32
  let c0_1838 : Index := 0#32
  ![v4857.toNat, 3, 16, 0]
def k0_off117 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_1839 : BitVec 32 := 272#32
  let v4861 : BitVec 32 := Scalar.muli arg27 c272_i32_1839
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v4862 : BitVec 32 := Scalar.addi v4861 v1744
  let c4_i32_1840 : BitVec 32 := 4#32
  let v4863 : BitVec 32 := Scalar.addi v4862 c4_i32_1840
  let v4864 : Index := Scalar.indexCast v4863
  ![v4864.toNat]
def k0_off118 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4867 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c4_i32_1841 : BitVec 32 := 4#32
  let v4866 : BitVec 32 := Scalar.addi v1744 c4_i32_1841
  let v4868 : Index := Scalar.indexCast v4866
  let c0_1842 : Index := 0#32
  ![v4867.toNat, v4868.toNat, 0]
def k0_mult71 (v4865 : BitVec 32) : BitVec 32 :=
  let c0_i32_1846 : BitVec 32 := 0#32
  let v4881 : BitVec 32 := Scalar.addi v4865 c0_i32_1846
  let c128_i32_1847 : BitVec 32 := 128#32
  let v4882 : BitVec 32 := Scalar.muli v4881 c128_i32_1847
  v4882

def k0_off119 (k0_t1 : Fin k0_t1_loop.trips) (v4865 : BitVec 32) (c0_i32_1846 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4886 : Index := Scalar.indexCast v1163
  let c0_1849 : Index := 0#32
  let v4881 : BitVec 32 := Scalar.addi v4865 c0_i32_1846
  let c128_i32_1847 : BitVec 32 := 128#32
  let v4882 : BitVec 32 := Scalar.muli v4881 c128_i32_1847
  let v4883 : BitVec 32 := v4882
  let v4887 : Index := Scalar.indexCast v4883
  ![v4886.toNat, 0, v4887.toNat]
def k0_off120 (k0_t1 : Fin k0_t1_loop.trips) (v4865 : BitVec 32) (c0_i32_1846 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4891 : Index := Scalar.indexCast v1163
  let c32_1850 : Index := 32#32
  let v4881 : BitVec 32 := Scalar.addi v4865 c0_i32_1846
  let c128_i32_1847 : BitVec 32 := 128#32
  let v4882 : BitVec 32 := Scalar.muli v4881 c128_i32_1847
  let v4883 : BitVec 32 := v4882
  let v4892 : Index := Scalar.indexCast v4883
  ![v4891.toNat, 32, v4892.toNat]
def k0_off121 (k0_t1 : Fin k0_t1_loop.trips) (v4865 : BitVec 32) (c0_i32_1846 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4896 : Index := Scalar.indexCast v1163
  let c64_1851 : Index := 64#32
  let v4881 : BitVec 32 := Scalar.addi v4865 c0_i32_1846
  let c128_i32_1847 : BitVec 32 := 128#32
  let v4882 : BitVec 32 := Scalar.muli v4881 c128_i32_1847
  let v4883 : BitVec 32 := v4882
  let v4897 : Index := Scalar.indexCast v4883
  ![v4896.toNat, 64, v4897.toNat]
def k0_mult72 (v4865 : BitVec 32) : BitVec 32 :=
  let c1_i32_1855 : BitVec 32 := 1#32
  let v4916 : BitVec 32 := Scalar.addi v4865 c1_i32_1855
  let c128_i32_1856 : BitVec 32 := 128#32
  let v4917 : BitVec 32 := Scalar.muli v4916 c128_i32_1856
  v4917
def k0_mult73 (v4865 : BitVec 32) : BitVec 32 :=
  let c2_i32_1864 : BitVec 32 := 2#32
  let v4957 : BitVec 32 := Scalar.addi v4865 c2_i32_1864
  let c128_i32_1865 : BitVec 32 := 128#32
  let v4958 : BitVec 32 := Scalar.muli v4957 c128_i32_1865
  v4958
def k0_mult74 (v4865 : BitVec 32) : BitVec 32 :=
  let c3_i32_1873 : BitVec 32 := 3#32
  let v4998 : BitVec 32 := Scalar.addi v4865 c3_i32_1873
  let c128_i32_1874 : BitVec 32 := 128#32
  let v4999 : BitVec 32 := Scalar.muli v4998 c128_i32_1874
  v4999
def k0_mult75 (v4865 : BitVec 32) : BitVec 32 :=
  let c4_i32_1882 : BitVec 32 := 4#32
  let v5039 : BitVec 32 := Scalar.addi v4865 c4_i32_1882
  let c128_i32_1883 : BitVec 32 := 128#32
  let v5040 : BitVec 32 := Scalar.muli v5039 c128_i32_1883
  v5040
def k0_mult76 (v4865 : BitVec 32) : BitVec 32 :=
  let c5_i32_1891 : BitVec 32 := 5#32
  let v5080 : BitVec 32 := Scalar.addi v4865 c5_i32_1891
  let c128_i32_1892 : BitVec 32 := 128#32
  let v5081 : BitVec 32 := Scalar.muli v5080 c128_i32_1892
  v5081
def k0_mult77 (v4865 : BitVec 32) : BitVec 32 :=
  let c6_i32_1900 : BitVec 32 := 6#32
  let v5121 : BitVec 32 := Scalar.addi v4865 c6_i32_1900
  let c128_i32_1901 : BitVec 32 := 128#32
  let v5122 : BitVec 32 := Scalar.muli v5121 c128_i32_1901
  v5122
def k0_mult78 (v4865 : BitVec 32) : BitVec 32 :=
  let c7_i32_1909 : BitVec 32 := 7#32
  let v5162 : BitVec 32 := Scalar.addi v4865 c7_i32_1909
  let c128_i32_1910 : BitVec 32 := 128#32
  let v5163 : BitVec 32 := Scalar.muli v5162 c128_i32_1910
  v5163
def k0_mult79 (v4865 : BitVec 32) : BitVec 32 :=
  let c8_i32_1918 : BitVec 32 := 8#32
  let v5203 : BitVec 32 := Scalar.addi v4865 c8_i32_1918
  let c128_i32_1919 : BitVec 32 := 128#32
  let v5204 : BitVec 32 := Scalar.muli v5203 c128_i32_1919
  v5204
def k0_mult80 (v4865 : BitVec 32) : BitVec 32 :=
  let c9_i32_1927 : BitVec 32 := 9#32
  let v5244 : BitVec 32 := Scalar.addi v4865 c9_i32_1927
  let c128_i32_1928 : BitVec 32 := 128#32
  let v5245 : BitVec 32 := Scalar.muli v5244 c128_i32_1928
  v5245
def k0_mult81 (v4865 : BitVec 32) : BitVec 32 :=
  let c10_i32_1936 : BitVec 32 := 10#32
  let v5285 : BitVec 32 := Scalar.addi v4865 c10_i32_1936
  let c128_i32_1937 : BitVec 32 := 128#32
  let v5286 : BitVec 32 := Scalar.muli v5285 c128_i32_1937
  v5286
def k0_mult82 (v4865 : BitVec 32) : BitVec 32 :=
  let c11_i32_1945 : BitVec 32 := 11#32
  let v5326 : BitVec 32 := Scalar.addi v4865 c11_i32_1945
  let c128_i32_1946 : BitVec 32 := 128#32
  let v5327 : BitVec 32 := Scalar.muli v5326 c128_i32_1946
  v5327
def k0_mult83 (v4865 : BitVec 32) : BitVec 32 :=
  let c12_i32_1954 : BitVec 32 := 12#32
  let v5367 : BitVec 32 := Scalar.addi v4865 c12_i32_1954
  let c128_i32_1955 : BitVec 32 := 128#32
  let v5368 : BitVec 32 := Scalar.muli v5367 c128_i32_1955
  v5368
def k0_mult84 (v4865 : BitVec 32) : BitVec 32 :=
  let c13_i32_1963 : BitVec 32 := 13#32
  let v5408 : BitVec 32 := Scalar.addi v4865 c13_i32_1963
  let c128_i32_1964 : BitVec 32 := 128#32
  let v5409 : BitVec 32 := Scalar.muli v5408 c128_i32_1964
  v5409
def k0_mult85 (v4865 : BitVec 32) : BitVec 32 :=
  let c14_i32_1972 : BitVec 32 := 14#32
  let v5449 : BitVec 32 := Scalar.addi v4865 c14_i32_1972
  let c128_i32_1973 : BitVec 32 := 128#32
  let v5450 : BitVec 32 := Scalar.muli v5449 c128_i32_1973
  v5450
def k0_mult86 (v4865 : BitVec 32) : BitVec 32 :=
  let c15_i32_1981 : BitVec 32 := 15#32
  let v5490 : BitVec 32 := Scalar.addi v4865 c15_i32_1981
  let c128_i32_1982 : BitVec 32 := 128#32
  let v5491 : BitVec 32 := Scalar.muli v5490 c128_i32_1982
  v5491

def k0_chk10 (k0_t1 : Fin k0_t1_loop.trips) (v4865 : BitVec 32) : Prop :=
  (128 ∣ (k0_mult71 v4865).toNat) ∧
  (∀ (r : Fin 16), ∀ a, (k0_off119 k0_t1 v4865 (BitVec.ofNat 32 r.val)) a + S1x32x128.size a ≤ S4x96x32768.size a) ∧
  (∀ (r : Fin 16), ∀ a, (k0_off120 k0_t1 v4865 (BitVec.ofNat 32 r.val)) a + S1x32x128.size a ≤ S4x96x32768.size a) ∧
  (∀ (r : Fin 16), ∀ a, (k0_off121 k0_t1 v4865 (BitVec.ofNat 32 r.val)) a + S1x32x128.size a ≤ S4x96x32768.size a) ∧
  (128 ∣ (k0_mult72 v4865).toNat) ∧
  (128 ∣ (k0_mult73 v4865).toNat) ∧
  (128 ∣ (k0_mult74 v4865).toNat) ∧
  (128 ∣ (k0_mult75 v4865).toNat) ∧
  (128 ∣ (k0_mult76 v4865).toNat) ∧
  (128 ∣ (k0_mult77 v4865).toNat) ∧
  (128 ∣ (k0_mult78 v4865).toNat) ∧
  (128 ∣ (k0_mult79 v4865).toNat) ∧
  (128 ∣ (k0_mult80 v4865).toNat) ∧
  (128 ∣ (k0_mult81 v4865).toNat) ∧
  (128 ∣ (k0_mult82 v4865).toNat) ∧
  (128 ∣ (k0_mult83 v4865).toNat) ∧
  (128 ∣ (k0_mult84 v4865).toNat) ∧
  (128 ∣ (k0_mult85 v4865).toNat) ∧
  (128 ∣ (k0_mult86 v4865).toNat)
theorem k0_mult71_dvd : ∀ (k0_t1 : Fin k0_t1_loop.trips) (v4865 : BitVec 32) (k0_hw10 : k0_chk10 k0_t1 v4865), 128 ∣ (k0_mult71 v4865).toNat := fun k0_t1 v4865 k0_hw10 => k0_hw10.1
theorem k0_off119_inb : ∀ (k0_t1 : Fin k0_t1_loop.trips) (v4865 : BitVec 32) (k0_hw10 : k0_chk10 k0_t1 v4865), ∀ (r : Fin 16), ∀ a, (k0_off119 k0_t1 v4865 (BitVec.ofNat 32 r.val)) a + S1x32x128.size a ≤ S4x96x32768.size a := fun k0_t1 v4865 k0_hw10 r => k0_hw10.2.1 r
theorem k0_off120_inb : ∀ (k0_t1 : Fin k0_t1_loop.trips) (v4865 : BitVec 32) (k0_hw10 : k0_chk10 k0_t1 v4865), ∀ (r : Fin 16), ∀ a, (k0_off120 k0_t1 v4865 (BitVec.ofNat 32 r.val)) a + S1x32x128.size a ≤ S4x96x32768.size a := fun k0_t1 v4865 k0_hw10 r => k0_hw10.2.2.1 r
theorem k0_off121_inb : ∀ (k0_t1 : Fin k0_t1_loop.trips) (v4865 : BitVec 32) (k0_hw10 : k0_chk10 k0_t1 v4865), ∀ (r : Fin 16), ∀ a, (k0_off121 k0_t1 v4865 (BitVec.ofNat 32 r.val)) a + S1x32x128.size a ≤ S4x96x32768.size a := fun k0_t1 v4865 k0_hw10 r => k0_hw10.2.2.2.1 r
theorem k0_mult72_dvd : ∀ (k0_t1 : Fin k0_t1_loop.trips) (v4865 : BitVec 32) (k0_hw10 : k0_chk10 k0_t1 v4865), 128 ∣ (k0_mult72 v4865).toNat := fun k0_t1 v4865 k0_hw10 => k0_hw10.2.2.2.2.1
theorem k0_mult73_dvd : ∀ (k0_t1 : Fin k0_t1_loop.trips) (v4865 : BitVec 32) (k0_hw10 : k0_chk10 k0_t1 v4865), 128 ∣ (k0_mult73 v4865).toNat := fun k0_t1 v4865 k0_hw10 => k0_hw10.2.2.2.2.2.1
theorem k0_mult74_dvd : ∀ (k0_t1 : Fin k0_t1_loop.trips) (v4865 : BitVec 32) (k0_hw10 : k0_chk10 k0_t1 v4865), 128 ∣ (k0_mult74 v4865).toNat := fun k0_t1 v4865 k0_hw10 => k0_hw10.2.2.2.2.2.2.1
theorem k0_mult75_dvd : ∀ (k0_t1 : Fin k0_t1_loop.trips) (v4865 : BitVec 32) (k0_hw10 : k0_chk10 k0_t1 v4865), 128 ∣ (k0_mult75 v4865).toNat := fun k0_t1 v4865 k0_hw10 => k0_hw10.2.2.2.2.2.2.2.1
theorem k0_mult76_dvd : ∀ (k0_t1 : Fin k0_t1_loop.trips) (v4865 : BitVec 32) (k0_hw10 : k0_chk10 k0_t1 v4865), 128 ∣ (k0_mult76 v4865).toNat := fun k0_t1 v4865 k0_hw10 => k0_hw10.2.2.2.2.2.2.2.2.1
theorem k0_mult77_dvd : ∀ (k0_t1 : Fin k0_t1_loop.trips) (v4865 : BitVec 32) (k0_hw10 : k0_chk10 k0_t1 v4865), 128 ∣ (k0_mult77 v4865).toNat := fun k0_t1 v4865 k0_hw10 => k0_hw10.2.2.2.2.2.2.2.2.2.1
theorem k0_mult78_dvd : ∀ (k0_t1 : Fin k0_t1_loop.trips) (v4865 : BitVec 32) (k0_hw10 : k0_chk10 k0_t1 v4865), 128 ∣ (k0_mult78 v4865).toNat := fun k0_t1 v4865 k0_hw10 => k0_hw10.2.2.2.2.2.2.2.2.2.2.1
theorem k0_mult79_dvd : ∀ (k0_t1 : Fin k0_t1_loop.trips) (v4865 : BitVec 32) (k0_hw10 : k0_chk10 k0_t1 v4865), 128 ∣ (k0_mult79 v4865).toNat := fun k0_t1 v4865 k0_hw10 => k0_hw10.2.2.2.2.2.2.2.2.2.2.2.1
theorem k0_mult80_dvd : ∀ (k0_t1 : Fin k0_t1_loop.trips) (v4865 : BitVec 32) (k0_hw10 : k0_chk10 k0_t1 v4865), 128 ∣ (k0_mult80 v4865).toNat := fun k0_t1 v4865 k0_hw10 => k0_hw10.2.2.2.2.2.2.2.2.2.2.2.2.1
theorem k0_mult81_dvd : ∀ (k0_t1 : Fin k0_t1_loop.trips) (v4865 : BitVec 32) (k0_hw10 : k0_chk10 k0_t1 v4865), 128 ∣ (k0_mult81 v4865).toNat := fun k0_t1 v4865 k0_hw10 => k0_hw10.2.2.2.2.2.2.2.2.2.2.2.2.2.1
theorem k0_mult82_dvd : ∀ (k0_t1 : Fin k0_t1_loop.trips) (v4865 : BitVec 32) (k0_hw10 : k0_chk10 k0_t1 v4865), 128 ∣ (k0_mult82 v4865).toNat := fun k0_t1 v4865 k0_hw10 => k0_hw10.2.2.2.2.2.2.2.2.2.2.2.2.2.2.1
theorem k0_mult83_dvd : ∀ (k0_t1 : Fin k0_t1_loop.trips) (v4865 : BitVec 32) (k0_hw10 : k0_chk10 k0_t1 v4865), 128 ∣ (k0_mult83 v4865).toNat := fun k0_t1 v4865 k0_hw10 => k0_hw10.2.2.2.2.2.2.2.2.2.2.2.2.2.2.2.1
theorem k0_mult84_dvd : ∀ (k0_t1 : Fin k0_t1_loop.trips) (v4865 : BitVec 32) (k0_hw10 : k0_chk10 k0_t1 v4865), 128 ∣ (k0_mult84 v4865).toNat := fun k0_t1 v4865 k0_hw10 => k0_hw10.2.2.2.2.2.2.2.2.2.2.2.2.2.2.2.2.1
theorem k0_mult85_dvd : ∀ (k0_t1 : Fin k0_t1_loop.trips) (v4865 : BitVec 32) (k0_hw10 : k0_chk10 k0_t1 v4865), 128 ∣ (k0_mult85 v4865).toNat := fun k0_t1 v4865 k0_hw10 => k0_hw10.2.2.2.2.2.2.2.2.2.2.2.2.2.2.2.2.2.1
theorem k0_mult86_dvd : ∀ (k0_t1 : Fin k0_t1_loop.trips) (v4865 : BitVec 32) (k0_hw10 : k0_chk10 k0_t1 v4865), 128 ∣ (k0_mult86 v4865).toNat := fun k0_t1 v4865 k0_hw10 => k0_hw10.2.2.2.2.2.2.2.2.2.2.2.2.2.2.2.2.2.2

def k0_off122 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5531 : Index := Scalar.indexCast arg27
  let c0_1990 : Index := 0#32
  let c0_1991 : Index := 0#32
  ![v5531.toNat, 0, 0]
def k0_off123 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5542 : Index := Scalar.indexCast arg27
  let c8_1994 : Index := 8#32
  let c0_1995 : Index := 0#32
  ![v5542.toNat, 8, 0]
def k0_off124 (arg33 : BitVec 32) : Fin 4 → Nat :=
  let v5562 : Index := Scalar.indexCast arg33
  let c4_2001 : Index := 4#32
  let c0_2002 : Index := 0#32
  let c0_2003 : Index := 0#32
  ![v5562.toNat, 4, 0, 0]
def k0_off125 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5566 : Index := Scalar.indexCast arg27
  let c16_2004 : Index := 16#32
  let c0_2005 : Index := 0#32
  ![v5566.toNat, 16, 0]
def k0_off126 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5577 : Index := Scalar.indexCast arg27
  let c24_2008 : Index := 24#32
  let c0_2009 : Index := 0#32
  ![v5577.toNat, 24, 0]
def k0_off127 (arg33 : BitVec 32) : Fin 4 → Nat :=
  let v5597 : Index := Scalar.indexCast arg33
  let c4_2015 : Index := 4#32
  let c8_2016 : Index := 8#32
  let c0_2017 : Index := 0#32
  ![v5597.toNat, 4, 8, 0]
def k0_off128 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5601 : Index := Scalar.indexCast arg27
  let c32_2018 : Index := 32#32
  let c0_2019 : Index := 0#32
  ![v5601.toNat, 32, 0]
def k0_off129 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5612 : Index := Scalar.indexCast arg27
  let c40_2022 : Index := 40#32
  let c0_2023 : Index := 0#32
  ![v5612.toNat, 40, 0]
def k0_off130 (arg33 : BitVec 32) : Fin 4 → Nat :=
  let v5632 : Index := Scalar.indexCast arg33
  let c4_2029 : Index := 4#32
  let c16_2030 : Index := 16#32
  let c0_2031 : Index := 0#32
  ![v5632.toNat, 4, 16, 0]
def k0_off131 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_2032 : BitVec 32 := 272#32
  let v5636 : BitVec 32 := Scalar.muli arg27 c272_i32_2032
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v5637 : BitVec 32 := Scalar.addi v5636 v1744
  let c5_i32_2033 : BitVec 32 := 5#32
  let v5638 : BitVec 32 := Scalar.addi v5637 c5_i32_2033
  let v5639 : Index := Scalar.indexCast v5638
  ![v5639.toNat]
def k0_off132 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5642 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c5_i32_2034 : BitVec 32 := 5#32
  let v5641 : BitVec 32 := Scalar.addi v1744 c5_i32_2034
  let v5643 : Index := Scalar.indexCast v5641
  let c0_2035 : Index := 0#32
  ![v5642.toNat, v5643.toNat, 0]
def k0_mult87 (v5640 : BitVec 32) : BitVec 32 :=
  let c0_i32_2039 : BitVec 32 := 0#32
  let v5656 : BitVec 32 := Scalar.addi v5640 c0_i32_2039
  let c128_i32_2040 : BitVec 32 := 128#32
  let v5657 : BitVec 32 := Scalar.muli v5656 c128_i32_2040
  v5657

def k0_off133 (k0_t1 : Fin k0_t1_loop.trips) (v5640 : BitVec 32) (c0_i32_2039 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5661 : Index := Scalar.indexCast v1163
  let c0_2042 : Index := 0#32
  let v5656 : BitVec 32 := Scalar.addi v5640 c0_i32_2039
  let c128_i32_2040 : BitVec 32 := 128#32
  let v5657 : BitVec 32 := Scalar.muli v5656 c128_i32_2040
  let v5658 : BitVec 32 := v5657
  let v5662 : Index := Scalar.indexCast v5658
  ![v5661.toNat, 0, v5662.toNat]
def k0_off134 (k0_t1 : Fin k0_t1_loop.trips) (v5640 : BitVec 32) (c0_i32_2039 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5666 : Index := Scalar.indexCast v1163
  let c32_2043 : Index := 32#32
  let v5656 : BitVec 32 := Scalar.addi v5640 c0_i32_2039
  let c128_i32_2040 : BitVec 32 := 128#32
  let v5657 : BitVec 32 := Scalar.muli v5656 c128_i32_2040
  let v5658 : BitVec 32 := v5657
  let v5667 : Index := Scalar.indexCast v5658
  ![v5666.toNat, 32, v5667.toNat]
def k0_off135 (k0_t1 : Fin k0_t1_loop.trips) (v5640 : BitVec 32) (c0_i32_2039 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5671 : Index := Scalar.indexCast v1163
  let c64_2044 : Index := 64#32
  let v5656 : BitVec 32 := Scalar.addi v5640 c0_i32_2039
  let c128_i32_2040 : BitVec 32 := 128#32
  let v5657 : BitVec 32 := Scalar.muli v5656 c128_i32_2040
  let v5658 : BitVec 32 := v5657
  let v5672 : Index := Scalar.indexCast v5658
  ![v5671.toNat, 64, v5672.toNat]
def k0_mult88 (v5640 : BitVec 32) : BitVec 32 :=
  let c1_i32_2048 : BitVec 32 := 1#32
  let v5691 : BitVec 32 := Scalar.addi v5640 c1_i32_2048
  let c128_i32_2049 : BitVec 32 := 128#32
  let v5692 : BitVec 32 := Scalar.muli v5691 c128_i32_2049
  v5692
def k0_mult89 (v5640 : BitVec 32) : BitVec 32 :=
  let c2_i32_2057 : BitVec 32 := 2#32
  let v5732 : BitVec 32 := Scalar.addi v5640 c2_i32_2057
  let c128_i32_2058 : BitVec 32 := 128#32
  let v5733 : BitVec 32 := Scalar.muli v5732 c128_i32_2058
  v5733
def k0_mult90 (v5640 : BitVec 32) : BitVec 32 :=
  let c3_i32_2066 : BitVec 32 := 3#32
  let v5773 : BitVec 32 := Scalar.addi v5640 c3_i32_2066
  let c128_i32_2067 : BitVec 32 := 128#32
  let v5774 : BitVec 32 := Scalar.muli v5773 c128_i32_2067
  v5774
def k0_mult91 (v5640 : BitVec 32) : BitVec 32 :=
  let c4_i32_2075 : BitVec 32 := 4#32
  let v5814 : BitVec 32 := Scalar.addi v5640 c4_i32_2075
  let c128_i32_2076 : BitVec 32 := 128#32
  let v5815 : BitVec 32 := Scalar.muli v5814 c128_i32_2076
  v5815
def k0_mult92 (v5640 : BitVec 32) : BitVec 32 :=
  let c5_i32_2084 : BitVec 32 := 5#32
  let v5855 : BitVec 32 := Scalar.addi v5640 c5_i32_2084
  let c128_i32_2085 : BitVec 32 := 128#32
  let v5856 : BitVec 32 := Scalar.muli v5855 c128_i32_2085
  v5856
def k0_mult93 (v5640 : BitVec 32) : BitVec 32 :=
  let c6_i32_2093 : BitVec 32 := 6#32
  let v5896 : BitVec 32 := Scalar.addi v5640 c6_i32_2093
  let c128_i32_2094 : BitVec 32 := 128#32
  let v5897 : BitVec 32 := Scalar.muli v5896 c128_i32_2094
  v5897
def k0_mult94 (v5640 : BitVec 32) : BitVec 32 :=
  let c7_i32_2102 : BitVec 32 := 7#32
  let v5937 : BitVec 32 := Scalar.addi v5640 c7_i32_2102
  let c128_i32_2103 : BitVec 32 := 128#32
  let v5938 : BitVec 32 := Scalar.muli v5937 c128_i32_2103
  v5938
def k0_mult95 (v5640 : BitVec 32) : BitVec 32 :=
  let c8_i32_2111 : BitVec 32 := 8#32
  let v5978 : BitVec 32 := Scalar.addi v5640 c8_i32_2111
  let c128_i32_2112 : BitVec 32 := 128#32
  let v5979 : BitVec 32 := Scalar.muli v5978 c128_i32_2112
  v5979
def k0_mult96 (v5640 : BitVec 32) : BitVec 32 :=
  let c9_i32_2120 : BitVec 32 := 9#32
  let v6019 : BitVec 32 := Scalar.addi v5640 c9_i32_2120
  let c128_i32_2121 : BitVec 32 := 128#32
  let v6020 : BitVec 32 := Scalar.muli v6019 c128_i32_2121
  v6020
def k0_mult97 (v5640 : BitVec 32) : BitVec 32 :=
  let c10_i32_2129 : BitVec 32 := 10#32
  let v6060 : BitVec 32 := Scalar.addi v5640 c10_i32_2129
  let c128_i32_2130 : BitVec 32 := 128#32
  let v6061 : BitVec 32 := Scalar.muli v6060 c128_i32_2130
  v6061
def k0_mult98 (v5640 : BitVec 32) : BitVec 32 :=
  let c11_i32_2138 : BitVec 32 := 11#32
  let v6101 : BitVec 32 := Scalar.addi v5640 c11_i32_2138
  let c128_i32_2139 : BitVec 32 := 128#32
  let v6102 : BitVec 32 := Scalar.muli v6101 c128_i32_2139
  v6102
def k0_mult99 (v5640 : BitVec 32) : BitVec 32 :=
  let c12_i32_2147 : BitVec 32 := 12#32
  let v6142 : BitVec 32 := Scalar.addi v5640 c12_i32_2147
  let c128_i32_2148 : BitVec 32 := 128#32
  let v6143 : BitVec 32 := Scalar.muli v6142 c128_i32_2148
  v6143
def k0_mult100 (v5640 : BitVec 32) : BitVec 32 :=
  let c13_i32_2156 : BitVec 32 := 13#32
  let v6183 : BitVec 32 := Scalar.addi v5640 c13_i32_2156
  let c128_i32_2157 : BitVec 32 := 128#32
  let v6184 : BitVec 32 := Scalar.muli v6183 c128_i32_2157
  v6184
def k0_mult101 (v5640 : BitVec 32) : BitVec 32 :=
  let c14_i32_2165 : BitVec 32 := 14#32
  let v6224 : BitVec 32 := Scalar.addi v5640 c14_i32_2165
  let c128_i32_2166 : BitVec 32 := 128#32
  let v6225 : BitVec 32 := Scalar.muli v6224 c128_i32_2166
  v6225
def k0_mult102 (v5640 : BitVec 32) : BitVec 32 :=
  let c15_i32_2174 : BitVec 32 := 15#32
  let v6265 : BitVec 32 := Scalar.addi v5640 c15_i32_2174
  let c128_i32_2175 : BitVec 32 := 128#32
  let v6266 : BitVec 32 := Scalar.muli v6265 c128_i32_2175
  v6266

def k0_chk11 (k0_t1 : Fin k0_t1_loop.trips) (v5640 : BitVec 32) : Prop :=
  (128 ∣ (k0_mult87 v5640).toNat) ∧
  (∀ (r : Fin 16), ∀ a, (k0_off133 k0_t1 v5640 (BitVec.ofNat 32 r.val)) a + S1x32x128.size a ≤ S4x96x32768.size a) ∧
  (∀ (r : Fin 16), ∀ a, (k0_off134 k0_t1 v5640 (BitVec.ofNat 32 r.val)) a + S1x32x128.size a ≤ S4x96x32768.size a) ∧
  (∀ (r : Fin 16), ∀ a, (k0_off135 k0_t1 v5640 (BitVec.ofNat 32 r.val)) a + S1x32x128.size a ≤ S4x96x32768.size a) ∧
  (128 ∣ (k0_mult88 v5640).toNat) ∧
  (128 ∣ (k0_mult89 v5640).toNat) ∧
  (128 ∣ (k0_mult90 v5640).toNat) ∧
  (128 ∣ (k0_mult91 v5640).toNat) ∧
  (128 ∣ (k0_mult92 v5640).toNat) ∧
  (128 ∣ (k0_mult93 v5640).toNat) ∧
  (128 ∣ (k0_mult94 v5640).toNat) ∧
  (128 ∣ (k0_mult95 v5640).toNat) ∧
  (128 ∣ (k0_mult96 v5640).toNat) ∧
  (128 ∣ (k0_mult97 v5640).toNat) ∧
  (128 ∣ (k0_mult98 v5640).toNat) ∧
  (128 ∣ (k0_mult99 v5640).toNat) ∧
  (128 ∣ (k0_mult100 v5640).toNat) ∧
  (128 ∣ (k0_mult101 v5640).toNat) ∧
  (128 ∣ (k0_mult102 v5640).toNat)
theorem k0_mult87_dvd : ∀ (k0_t1 : Fin k0_t1_loop.trips) (v5640 : BitVec 32) (k0_hw11 : k0_chk11 k0_t1 v5640), 128 ∣ (k0_mult87 v5640).toNat := fun k0_t1 v5640 k0_hw11 => k0_hw11.1
theorem k0_off133_inb : ∀ (k0_t1 : Fin k0_t1_loop.trips) (v5640 : BitVec 32) (k0_hw11 : k0_chk11 k0_t1 v5640), ∀ (r : Fin 16), ∀ a, (k0_off133 k0_t1 v5640 (BitVec.ofNat 32 r.val)) a + S1x32x128.size a ≤ S4x96x32768.size a := fun k0_t1 v5640 k0_hw11 r => k0_hw11.2.1 r
theorem k0_off134_inb : ∀ (k0_t1 : Fin k0_t1_loop.trips) (v5640 : BitVec 32) (k0_hw11 : k0_chk11 k0_t1 v5640), ∀ (r : Fin 16), ∀ a, (k0_off134 k0_t1 v5640 (BitVec.ofNat 32 r.val)) a + S1x32x128.size a ≤ S4x96x32768.size a := fun k0_t1 v5640 k0_hw11 r => k0_hw11.2.2.1 r
theorem k0_off135_inb : ∀ (k0_t1 : Fin k0_t1_loop.trips) (v5640 : BitVec 32) (k0_hw11 : k0_chk11 k0_t1 v5640), ∀ (r : Fin 16), ∀ a, (k0_off135 k0_t1 v5640 (BitVec.ofNat 32 r.val)) a + S1x32x128.size a ≤ S4x96x32768.size a := fun k0_t1 v5640 k0_hw11 r => k0_hw11.2.2.2.1 r
theorem k0_mult88_dvd : ∀ (k0_t1 : Fin k0_t1_loop.trips) (v5640 : BitVec 32) (k0_hw11 : k0_chk11 k0_t1 v5640), 128 ∣ (k0_mult88 v5640).toNat := fun k0_t1 v5640 k0_hw11 => k0_hw11.2.2.2.2.1
theorem k0_mult89_dvd : ∀ (k0_t1 : Fin k0_t1_loop.trips) (v5640 : BitVec 32) (k0_hw11 : k0_chk11 k0_t1 v5640), 128 ∣ (k0_mult89 v5640).toNat := fun k0_t1 v5640 k0_hw11 => k0_hw11.2.2.2.2.2.1
theorem k0_mult90_dvd : ∀ (k0_t1 : Fin k0_t1_loop.trips) (v5640 : BitVec 32) (k0_hw11 : k0_chk11 k0_t1 v5640), 128 ∣ (k0_mult90 v5640).toNat := fun k0_t1 v5640 k0_hw11 => k0_hw11.2.2.2.2.2.2.1
theorem k0_mult91_dvd : ∀ (k0_t1 : Fin k0_t1_loop.trips) (v5640 : BitVec 32) (k0_hw11 : k0_chk11 k0_t1 v5640), 128 ∣ (k0_mult91 v5640).toNat := fun k0_t1 v5640 k0_hw11 => k0_hw11.2.2.2.2.2.2.2.1
theorem k0_mult92_dvd : ∀ (k0_t1 : Fin k0_t1_loop.trips) (v5640 : BitVec 32) (k0_hw11 : k0_chk11 k0_t1 v5640), 128 ∣ (k0_mult92 v5640).toNat := fun k0_t1 v5640 k0_hw11 => k0_hw11.2.2.2.2.2.2.2.2.1
theorem k0_mult93_dvd : ∀ (k0_t1 : Fin k0_t1_loop.trips) (v5640 : BitVec 32) (k0_hw11 : k0_chk11 k0_t1 v5640), 128 ∣ (k0_mult93 v5640).toNat := fun k0_t1 v5640 k0_hw11 => k0_hw11.2.2.2.2.2.2.2.2.2.1
theorem k0_mult94_dvd : ∀ (k0_t1 : Fin k0_t1_loop.trips) (v5640 : BitVec 32) (k0_hw11 : k0_chk11 k0_t1 v5640), 128 ∣ (k0_mult94 v5640).toNat := fun k0_t1 v5640 k0_hw11 => k0_hw11.2.2.2.2.2.2.2.2.2.2.1
theorem k0_mult95_dvd : ∀ (k0_t1 : Fin k0_t1_loop.trips) (v5640 : BitVec 32) (k0_hw11 : k0_chk11 k0_t1 v5640), 128 ∣ (k0_mult95 v5640).toNat := fun k0_t1 v5640 k0_hw11 => k0_hw11.2.2.2.2.2.2.2.2.2.2.2.1
theorem k0_mult96_dvd : ∀ (k0_t1 : Fin k0_t1_loop.trips) (v5640 : BitVec 32) (k0_hw11 : k0_chk11 k0_t1 v5640), 128 ∣ (k0_mult96 v5640).toNat := fun k0_t1 v5640 k0_hw11 => k0_hw11.2.2.2.2.2.2.2.2.2.2.2.2.1
theorem k0_mult97_dvd : ∀ (k0_t1 : Fin k0_t1_loop.trips) (v5640 : BitVec 32) (k0_hw11 : k0_chk11 k0_t1 v5640), 128 ∣ (k0_mult97 v5640).toNat := fun k0_t1 v5640 k0_hw11 => k0_hw11.2.2.2.2.2.2.2.2.2.2.2.2.2.1
theorem k0_mult98_dvd : ∀ (k0_t1 : Fin k0_t1_loop.trips) (v5640 : BitVec 32) (k0_hw11 : k0_chk11 k0_t1 v5640), 128 ∣ (k0_mult98 v5640).toNat := fun k0_t1 v5640 k0_hw11 => k0_hw11.2.2.2.2.2.2.2.2.2.2.2.2.2.2.1
theorem k0_mult99_dvd : ∀ (k0_t1 : Fin k0_t1_loop.trips) (v5640 : BitVec 32) (k0_hw11 : k0_chk11 k0_t1 v5640), 128 ∣ (k0_mult99 v5640).toNat := fun k0_t1 v5640 k0_hw11 => k0_hw11.2.2.2.2.2.2.2.2.2.2.2.2.2.2.2.1
theorem k0_mult100_dvd : ∀ (k0_t1 : Fin k0_t1_loop.trips) (v5640 : BitVec 32) (k0_hw11 : k0_chk11 k0_t1 v5640), 128 ∣ (k0_mult100 v5640).toNat := fun k0_t1 v5640 k0_hw11 => k0_hw11.2.2.2.2.2.2.2.2.2.2.2.2.2.2.2.2.1
theorem k0_mult101_dvd : ∀ (k0_t1 : Fin k0_t1_loop.trips) (v5640 : BitVec 32) (k0_hw11 : k0_chk11 k0_t1 v5640), 128 ∣ (k0_mult101 v5640).toNat := fun k0_t1 v5640 k0_hw11 => k0_hw11.2.2.2.2.2.2.2.2.2.2.2.2.2.2.2.2.2.1
theorem k0_mult102_dvd : ∀ (k0_t1 : Fin k0_t1_loop.trips) (v5640 : BitVec 32) (k0_hw11 : k0_chk11 k0_t1 v5640), 128 ∣ (k0_mult102 v5640).toNat := fun k0_t1 v5640 k0_hw11 => k0_hw11.2.2.2.2.2.2.2.2.2.2.2.2.2.2.2.2.2.2

def k0_off136 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6306 : Index := Scalar.indexCast arg27
  let c0_2183 : Index := 0#32
  let c0_2184 : Index := 0#32
  ![v6306.toNat, 0, 0]
def k0_off137 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6317 : Index := Scalar.indexCast arg27
  let c8_2187 : Index := 8#32
  let c0_2188 : Index := 0#32
  ![v6317.toNat, 8, 0]
def k0_off138 (arg33 : BitVec 32) : Fin 4 → Nat :=
  let v6337 : Index := Scalar.indexCast arg33
  let c5_2194 : Index := 5#32
  let c0_2195 : Index := 0#32
  let c0_2196 : Index := 0#32
  ![v6337.toNat, 5, 0, 0]
def k0_off139 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6341 : Index := Scalar.indexCast arg27
  let c16_2197 : Index := 16#32
  let c0_2198 : Index := 0#32
  ![v6341.toNat, 16, 0]
def k0_off140 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6352 : Index := Scalar.indexCast arg27
  let c24_2201 : Index := 24#32
  let c0_2202 : Index := 0#32
  ![v6352.toNat, 24, 0]
def k0_off141 (arg33 : BitVec 32) : Fin 4 → Nat :=
  let v6372 : Index := Scalar.indexCast arg33
  let c5_2208 : Index := 5#32
  let c8_2209 : Index := 8#32
  let c0_2210 : Index := 0#32
  ![v6372.toNat, 5, 8, 0]
def k0_off142 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6376 : Index := Scalar.indexCast arg27
  let c32_2211 : Index := 32#32
  let c0_2212 : Index := 0#32
  ![v6376.toNat, 32, 0]
def k0_off143 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6387 : Index := Scalar.indexCast arg27
  let c40_2215 : Index := 40#32
  let c0_2216 : Index := 0#32
  ![v6387.toNat, 40, 0]
def k0_off144 (arg33 : BitVec 32) : Fin 4 → Nat :=
  let v6407 : Index := Scalar.indexCast arg33
  let c5_2222 : Index := 5#32
  let c16_2223 : Index := 16#32
  let c0_2224 : Index := 0#32
  ![v6407.toNat, 5, 16, 0]
def k0_off145 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_2225 : BitVec 32 := 272#32
  let v6411 : BitVec 32 := Scalar.muli arg27 c272_i32_2225
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v6412 : BitVec 32 := Scalar.addi v6411 v1744
  let c6_i32_2226 : BitVec 32 := 6#32
  let v6413 : BitVec 32 := Scalar.addi v6412 c6_i32_2226
  let v6414 : Index := Scalar.indexCast v6413
  ![v6414.toNat]
def k0_off146 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6417 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c6_i32_2227 : BitVec 32 := 6#32
  let v6416 : BitVec 32 := Scalar.addi v1744 c6_i32_2227
  let v6418 : Index := Scalar.indexCast v6416
  let c0_2228 : Index := 0#32
  ![v6417.toNat, v6418.toNat, 0]
def k0_mult103 (v6415 : BitVec 32) : BitVec 32 :=
  let c0_i32_2232 : BitVec 32 := 0#32
  let v6431 : BitVec 32 := Scalar.addi v6415 c0_i32_2232
  let c128_i32_2233 : BitVec 32 := 128#32
  let v6432 : BitVec 32 := Scalar.muli v6431 c128_i32_2233
  v6432

def k0_off147 (k0_t1 : Fin k0_t1_loop.trips) (v6415 : BitVec 32) (c0_i32_2232 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6436 : Index := Scalar.indexCast v1163
  let c0_2235 : Index := 0#32
  let v6431 : BitVec 32 := Scalar.addi v6415 c0_i32_2232
  let c128_i32_2233 : BitVec 32 := 128#32
  let v6432 : BitVec 32 := Scalar.muli v6431 c128_i32_2233
  let v6433 : BitVec 32 := v6432
  let v6437 : Index := Scalar.indexCast v6433
  ![v6436.toNat, 0, v6437.toNat]
def k0_off148 (k0_t1 : Fin k0_t1_loop.trips) (v6415 : BitVec 32) (c0_i32_2232 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6441 : Index := Scalar.indexCast v1163
  let c32_2236 : Index := 32#32
  let v6431 : BitVec 32 := Scalar.addi v6415 c0_i32_2232
  let c128_i32_2233 : BitVec 32 := 128#32
  let v6432 : BitVec 32 := Scalar.muli v6431 c128_i32_2233
  let v6433 : BitVec 32 := v6432
  let v6442 : Index := Scalar.indexCast v6433
  ![v6441.toNat, 32, v6442.toNat]
def k0_off149 (k0_t1 : Fin k0_t1_loop.trips) (v6415 : BitVec 32) (c0_i32_2232 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6446 : Index := Scalar.indexCast v1163
  let c64_2237 : Index := 64#32
  let v6431 : BitVec 32 := Scalar.addi v6415 c0_i32_2232
  let c128_i32_2233 : BitVec 32 := 128#32
  let v6432 : BitVec 32 := Scalar.muli v6431 c128_i32_2233
  let v6433 : BitVec 32 := v6432
  let v6447 : Index := Scalar.indexCast v6433
  ![v6446.toNat, 64, v6447.toNat]
def k0_mult104 (v6415 : BitVec 32) : BitVec 32 :=
  let c1_i32_2241 : BitVec 32 := 1#32
  let v6466 : BitVec 32 := Scalar.addi v6415 c1_i32_2241
  let c128_i32_2242 : BitVec 32 := 128#32
  let v6467 : BitVec 32 := Scalar.muli v6466 c128_i32_2242
  v6467
def k0_mult105 (v6415 : BitVec 32) : BitVec 32 :=
  let c2_i32_2250 : BitVec 32 := 2#32
  let v6507 : BitVec 32 := Scalar.addi v6415 c2_i32_2250
  let c128_i32_2251 : BitVec 32 := 128#32
  let v6508 : BitVec 32 := Scalar.muli v6507 c128_i32_2251
  v6508
def k0_mult106 (v6415 : BitVec 32) : BitVec 32 :=
  let c3_i32_2259 : BitVec 32 := 3#32
  let v6548 : BitVec 32 := Scalar.addi v6415 c3_i32_2259
  let c128_i32_2260 : BitVec 32 := 128#32
  let v6549 : BitVec 32 := Scalar.muli v6548 c128_i32_2260
  v6549
def k0_mult107 (v6415 : BitVec 32) : BitVec 32 :=
  let c4_i32_2268 : BitVec 32 := 4#32
  let v6589 : BitVec 32 := Scalar.addi v6415 c4_i32_2268
  let c128_i32_2269 : BitVec 32 := 128#32
  let v6590 : BitVec 32 := Scalar.muli v6589 c128_i32_2269
  v6590
def k0_mult108 (v6415 : BitVec 32) : BitVec 32 :=
  let c5_i32_2277 : BitVec 32 := 5#32
  let v6630 : BitVec 32 := Scalar.addi v6415 c5_i32_2277
  let c128_i32_2278 : BitVec 32 := 128#32
  let v6631 : BitVec 32 := Scalar.muli v6630 c128_i32_2278
  v6631
def k0_mult109 (v6415 : BitVec 32) : BitVec 32 :=
  let c6_i32_2286 : BitVec 32 := 6#32
  let v6671 : BitVec 32 := Scalar.addi v6415 c6_i32_2286
  let c128_i32_2287 : BitVec 32 := 128#32
  let v6672 : BitVec 32 := Scalar.muli v6671 c128_i32_2287
  v6672
def k0_mult110 (v6415 : BitVec 32) : BitVec 32 :=
  let c7_i32_2295 : BitVec 32 := 7#32
  let v6712 : BitVec 32 := Scalar.addi v6415 c7_i32_2295
  let c128_i32_2296 : BitVec 32 := 128#32
  let v6713 : BitVec 32 := Scalar.muli v6712 c128_i32_2296
  v6713
def k0_mult111 (v6415 : BitVec 32) : BitVec 32 :=
  let c8_i32_2304 : BitVec 32 := 8#32
  let v6753 : BitVec 32 := Scalar.addi v6415 c8_i32_2304
  let c128_i32_2305 : BitVec 32 := 128#32
  let v6754 : BitVec 32 := Scalar.muli v6753 c128_i32_2305
  v6754
def k0_mult112 (v6415 : BitVec 32) : BitVec 32 :=
  let c9_i32_2313 : BitVec 32 := 9#32
  let v6794 : BitVec 32 := Scalar.addi v6415 c9_i32_2313
  let c128_i32_2314 : BitVec 32 := 128#32
  let v6795 : BitVec 32 := Scalar.muli v6794 c128_i32_2314
  v6795
def k0_mult113 (v6415 : BitVec 32) : BitVec 32 :=
  let c10_i32_2322 : BitVec 32 := 10#32
  let v6835 : BitVec 32 := Scalar.addi v6415 c10_i32_2322
  let c128_i32_2323 : BitVec 32 := 128#32
  let v6836 : BitVec 32 := Scalar.muli v6835 c128_i32_2323
  v6836
def k0_mult114 (v6415 : BitVec 32) : BitVec 32 :=
  let c11_i32_2331 : BitVec 32 := 11#32
  let v6876 : BitVec 32 := Scalar.addi v6415 c11_i32_2331
  let c128_i32_2332 : BitVec 32 := 128#32
  let v6877 : BitVec 32 := Scalar.muli v6876 c128_i32_2332
  v6877
def k0_mult115 (v6415 : BitVec 32) : BitVec 32 :=
  let c12_i32_2340 : BitVec 32 := 12#32
  let v6917 : BitVec 32 := Scalar.addi v6415 c12_i32_2340
  let c128_i32_2341 : BitVec 32 := 128#32
  let v6918 : BitVec 32 := Scalar.muli v6917 c128_i32_2341
  v6918
def k0_mult116 (v6415 : BitVec 32) : BitVec 32 :=
  let c13_i32_2349 : BitVec 32 := 13#32
  let v6958 : BitVec 32 := Scalar.addi v6415 c13_i32_2349
  let c128_i32_2350 : BitVec 32 := 128#32
  let v6959 : BitVec 32 := Scalar.muli v6958 c128_i32_2350
  v6959
def k0_mult117 (v6415 : BitVec 32) : BitVec 32 :=
  let c14_i32_2358 : BitVec 32 := 14#32
  let v6999 : BitVec 32 := Scalar.addi v6415 c14_i32_2358
  let c128_i32_2359 : BitVec 32 := 128#32
  let v7000 : BitVec 32 := Scalar.muli v6999 c128_i32_2359
  v7000
def k0_mult118 (v6415 : BitVec 32) : BitVec 32 :=
  let c15_i32_2367 : BitVec 32 := 15#32
  let v7040 : BitVec 32 := Scalar.addi v6415 c15_i32_2367
  let c128_i32_2368 : BitVec 32 := 128#32
  let v7041 : BitVec 32 := Scalar.muli v7040 c128_i32_2368
  v7041

def k0_chk12 (k0_t1 : Fin k0_t1_loop.trips) (v6415 : BitVec 32) : Prop :=
  (128 ∣ (k0_mult103 v6415).toNat) ∧
  (∀ (r : Fin 16), ∀ a, (k0_off147 k0_t1 v6415 (BitVec.ofNat 32 r.val)) a + S1x32x128.size a ≤ S4x96x32768.size a) ∧
  (∀ (r : Fin 16), ∀ a, (k0_off148 k0_t1 v6415 (BitVec.ofNat 32 r.val)) a + S1x32x128.size a ≤ S4x96x32768.size a) ∧
  (∀ (r : Fin 16), ∀ a, (k0_off149 k0_t1 v6415 (BitVec.ofNat 32 r.val)) a + S1x32x128.size a ≤ S4x96x32768.size a) ∧
  (128 ∣ (k0_mult104 v6415).toNat) ∧
  (128 ∣ (k0_mult105 v6415).toNat) ∧
  (128 ∣ (k0_mult106 v6415).toNat) ∧
  (128 ∣ (k0_mult107 v6415).toNat) ∧
  (128 ∣ (k0_mult108 v6415).toNat) ∧
  (128 ∣ (k0_mult109 v6415).toNat) ∧
  (128 ∣ (k0_mult110 v6415).toNat) ∧
  (128 ∣ (k0_mult111 v6415).toNat) ∧
  (128 ∣ (k0_mult112 v6415).toNat) ∧
  (128 ∣ (k0_mult113 v6415).toNat) ∧
  (128 ∣ (k0_mult114 v6415).toNat) ∧
  (128 ∣ (k0_mult115 v6415).toNat) ∧
  (128 ∣ (k0_mult116 v6415).toNat) ∧
  (128 ∣ (k0_mult117 v6415).toNat) ∧
  (128 ∣ (k0_mult118 v6415).toNat)
theorem k0_mult103_dvd : ∀ (k0_t1 : Fin k0_t1_loop.trips) (v6415 : BitVec 32) (k0_hw12 : k0_chk12 k0_t1 v6415), 128 ∣ (k0_mult103 v6415).toNat := fun k0_t1 v6415 k0_hw12 => k0_hw12.1
theorem k0_off147_inb : ∀ (k0_t1 : Fin k0_t1_loop.trips) (v6415 : BitVec 32) (k0_hw12 : k0_chk12 k0_t1 v6415), ∀ (r : Fin 16), ∀ a, (k0_off147 k0_t1 v6415 (BitVec.ofNat 32 r.val)) a + S1x32x128.size a ≤ S4x96x32768.size a := fun k0_t1 v6415 k0_hw12 r => k0_hw12.2.1 r
theorem k0_off148_inb : ∀ (k0_t1 : Fin k0_t1_loop.trips) (v6415 : BitVec 32) (k0_hw12 : k0_chk12 k0_t1 v6415), ∀ (r : Fin 16), ∀ a, (k0_off148 k0_t1 v6415 (BitVec.ofNat 32 r.val)) a + S1x32x128.size a ≤ S4x96x32768.size a := fun k0_t1 v6415 k0_hw12 r => k0_hw12.2.2.1 r
theorem k0_off149_inb : ∀ (k0_t1 : Fin k0_t1_loop.trips) (v6415 : BitVec 32) (k0_hw12 : k0_chk12 k0_t1 v6415), ∀ (r : Fin 16), ∀ a, (k0_off149 k0_t1 v6415 (BitVec.ofNat 32 r.val)) a + S1x32x128.size a ≤ S4x96x32768.size a := fun k0_t1 v6415 k0_hw12 r => k0_hw12.2.2.2.1 r
theorem k0_mult104_dvd : ∀ (k0_t1 : Fin k0_t1_loop.trips) (v6415 : BitVec 32) (k0_hw12 : k0_chk12 k0_t1 v6415), 128 ∣ (k0_mult104 v6415).toNat := fun k0_t1 v6415 k0_hw12 => k0_hw12.2.2.2.2.1
theorem k0_mult105_dvd : ∀ (k0_t1 : Fin k0_t1_loop.trips) (v6415 : BitVec 32) (k0_hw12 : k0_chk12 k0_t1 v6415), 128 ∣ (k0_mult105 v6415).toNat := fun k0_t1 v6415 k0_hw12 => k0_hw12.2.2.2.2.2.1
theorem k0_mult106_dvd : ∀ (k0_t1 : Fin k0_t1_loop.trips) (v6415 : BitVec 32) (k0_hw12 : k0_chk12 k0_t1 v6415), 128 ∣ (k0_mult106 v6415).toNat := fun k0_t1 v6415 k0_hw12 => k0_hw12.2.2.2.2.2.2.1
theorem k0_mult107_dvd : ∀ (k0_t1 : Fin k0_t1_loop.trips) (v6415 : BitVec 32) (k0_hw12 : k0_chk12 k0_t1 v6415), 128 ∣ (k0_mult107 v6415).toNat := fun k0_t1 v6415 k0_hw12 => k0_hw12.2.2.2.2.2.2.2.1
theorem k0_mult108_dvd : ∀ (k0_t1 : Fin k0_t1_loop.trips) (v6415 : BitVec 32) (k0_hw12 : k0_chk12 k0_t1 v6415), 128 ∣ (k0_mult108 v6415).toNat := fun k0_t1 v6415 k0_hw12 => k0_hw12.2.2.2.2.2.2.2.2.1
theorem k0_mult109_dvd : ∀ (k0_t1 : Fin k0_t1_loop.trips) (v6415 : BitVec 32) (k0_hw12 : k0_chk12 k0_t1 v6415), 128 ∣ (k0_mult109 v6415).toNat := fun k0_t1 v6415 k0_hw12 => k0_hw12.2.2.2.2.2.2.2.2.2.1
theorem k0_mult110_dvd : ∀ (k0_t1 : Fin k0_t1_loop.trips) (v6415 : BitVec 32) (k0_hw12 : k0_chk12 k0_t1 v6415), 128 ∣ (k0_mult110 v6415).toNat := fun k0_t1 v6415 k0_hw12 => k0_hw12.2.2.2.2.2.2.2.2.2.2.1
theorem k0_mult111_dvd : ∀ (k0_t1 : Fin k0_t1_loop.trips) (v6415 : BitVec 32) (k0_hw12 : k0_chk12 k0_t1 v6415), 128 ∣ (k0_mult111 v6415).toNat := fun k0_t1 v6415 k0_hw12 => k0_hw12.2.2.2.2.2.2.2.2.2.2.2.1
theorem k0_mult112_dvd : ∀ (k0_t1 : Fin k0_t1_loop.trips) (v6415 : BitVec 32) (k0_hw12 : k0_chk12 k0_t1 v6415), 128 ∣ (k0_mult112 v6415).toNat := fun k0_t1 v6415 k0_hw12 => k0_hw12.2.2.2.2.2.2.2.2.2.2.2.2.1
theorem k0_mult113_dvd : ∀ (k0_t1 : Fin k0_t1_loop.trips) (v6415 : BitVec 32) (k0_hw12 : k0_chk12 k0_t1 v6415), 128 ∣ (k0_mult113 v6415).toNat := fun k0_t1 v6415 k0_hw12 => k0_hw12.2.2.2.2.2.2.2.2.2.2.2.2.2.1
theorem k0_mult114_dvd : ∀ (k0_t1 : Fin k0_t1_loop.trips) (v6415 : BitVec 32) (k0_hw12 : k0_chk12 k0_t1 v6415), 128 ∣ (k0_mult114 v6415).toNat := fun k0_t1 v6415 k0_hw12 => k0_hw12.2.2.2.2.2.2.2.2.2.2.2.2.2.2.1
theorem k0_mult115_dvd : ∀ (k0_t1 : Fin k0_t1_loop.trips) (v6415 : BitVec 32) (k0_hw12 : k0_chk12 k0_t1 v6415), 128 ∣ (k0_mult115 v6415).toNat := fun k0_t1 v6415 k0_hw12 => k0_hw12.2.2.2.2.2.2.2.2.2.2.2.2.2.2.2.1
theorem k0_mult116_dvd : ∀ (k0_t1 : Fin k0_t1_loop.trips) (v6415 : BitVec 32) (k0_hw12 : k0_chk12 k0_t1 v6415), 128 ∣ (k0_mult116 v6415).toNat := fun k0_t1 v6415 k0_hw12 => k0_hw12.2.2.2.2.2.2.2.2.2.2.2.2.2.2.2.2.1
theorem k0_mult117_dvd : ∀ (k0_t1 : Fin k0_t1_loop.trips) (v6415 : BitVec 32) (k0_hw12 : k0_chk12 k0_t1 v6415), 128 ∣ (k0_mult117 v6415).toNat := fun k0_t1 v6415 k0_hw12 => k0_hw12.2.2.2.2.2.2.2.2.2.2.2.2.2.2.2.2.2.1
theorem k0_mult118_dvd : ∀ (k0_t1 : Fin k0_t1_loop.trips) (v6415 : BitVec 32) (k0_hw12 : k0_chk12 k0_t1 v6415), 128 ∣ (k0_mult118 v6415).toNat := fun k0_t1 v6415 k0_hw12 => k0_hw12.2.2.2.2.2.2.2.2.2.2.2.2.2.2.2.2.2.2

def k0_off150 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7081 : Index := Scalar.indexCast arg27
  let c0_2376 : Index := 0#32
  let c0_2377 : Index := 0#32
  ![v7081.toNat, 0, 0]
def k0_off151 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7092 : Index := Scalar.indexCast arg27
  let c8_2380 : Index := 8#32
  let c0_2381 : Index := 0#32
  ![v7092.toNat, 8, 0]
def k0_off152 (arg33 : BitVec 32) : Fin 4 → Nat :=
  let v7112 : Index := Scalar.indexCast arg33
  let c6_2387 : Index := 6#32
  let c0_2388 : Index := 0#32
  let c0_2389 : Index := 0#32
  ![v7112.toNat, 6, 0, 0]
def k0_off153 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7116 : Index := Scalar.indexCast arg27
  let c16_2390 : Index := 16#32
  let c0_2391 : Index := 0#32
  ![v7116.toNat, 16, 0]
def k0_off154 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7127 : Index := Scalar.indexCast arg27
  let c24_2394 : Index := 24#32
  let c0_2395 : Index := 0#32
  ![v7127.toNat, 24, 0]
def k0_off155 (arg33 : BitVec 32) : Fin 4 → Nat :=
  let v7147 : Index := Scalar.indexCast arg33
  let c6_2401 : Index := 6#32
  let c8_2402 : Index := 8#32
  let c0_2403 : Index := 0#32
  ![v7147.toNat, 6, 8, 0]
def k0_off156 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7151 : Index := Scalar.indexCast arg27
  let c32_2404 : Index := 32#32
  let c0_2405 : Index := 0#32
  ![v7151.toNat, 32, 0]
def k0_off157 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7162 : Index := Scalar.indexCast arg27
  let c40_2408 : Index := 40#32
  let c0_2409 : Index := 0#32
  ![v7162.toNat, 40, 0]
def k0_off158 (arg33 : BitVec 32) : Fin 4 → Nat :=
  let v7182 : Index := Scalar.indexCast arg33
  let c6_2415 : Index := 6#32
  let c16_2416 : Index := 16#32
  let c0_2417 : Index := 0#32
  ![v7182.toNat, 6, 16, 0]
def k0_off159 (k0_t1 : Fin k0_t1_loop.trips) (v1227 : BitVec 32) (k0_t2 : Fin (k0_t2_loop v1227).trips) : Fin 1 → Nat :=
  let c0_i32_186 : BitVec 32 := 0#32
  let c1_i32_188 : BitVec 32 := 1#32
  let arg27 : BitVec 32 := Scf.iv c0_i32_186 c1_i32_188 k0_t1
  let c272_i32_2418 : BitVec 32 := 272#32
  let v7186 : BitVec 32 := Scalar.muli arg27 c272_i32_2418
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let v7187 : BitVec 32 := Scalar.addi v7186 v1744
  let c7_i32_2419 : BitVec 32 := 7#32
  let v7188 : BitVec 32 := Scalar.addi v7187 c7_i32_2419
  let v7189 : Index := Scalar.indexCast v7188
  ![v7189.toNat]
def k0_off160 (k0_t1 : Fin k0_t1_loop.trips) (v1227 : BitVec 32) (k0_t2 : Fin (k0_t2_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7192 : Index := Scalar.indexCast v1163
  let c0_i32_790 : BitVec 32 := 0#32
  let c1_i32_792 : BitVec 32 := 1#32
  let arg32 : BitVec 32 := Scf.iv c0_i32_790 c1_i32_792 k0_t2
  let c8_i32_1074 : BitVec 32 := 8#32
  let v1743 : BitVec 32 := Scalar.muli arg32 c8_i32_1074
  let v1744 : BitVec 32 := v1743
  let c7_i32_2420 : BitVec 32 := 7#32
  let v7191 : BitVec 32 := Scalar.addi v1744 c7_i32_2420
  let v7193 : Index := Scalar.indexCast v7191
  let c0_2421 : Index := 0#32
  ![v7192.toNat, v7193.toNat, 0]
def k0_mult119 (v7190 : BitVec 32) : BitVec 32 :=
  let c0_i32_2425 : BitVec 32 := 0#32
  let v7206 : BitVec 32 := Scalar.addi v7190 c0_i32_2425
  let c128_i32_2426 : BitVec 32 := 128#32
  let v7207 : BitVec 32 := Scalar.muli v7206 c128_i32_2426
  v7207

def k0_off161 (k0_t1 : Fin k0_t1_loop.trips) (v7190 : BitVec 32) (c0_i32_2425 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7211 : Index := Scalar.indexCast v1163
  let c0_2428 : Index := 0#32
  let v7206 : BitVec 32 := Scalar.addi v7190 c0_i32_2425
  let c128_i32_2426 : BitVec 32 := 128#32
  let v7207 : BitVec 32 := Scalar.muli v7206 c128_i32_2426
  let v7208 : BitVec 32 := v7207
  let v7212 : Index := Scalar.indexCast v7208
  ![v7211.toNat, 0, v7212.toNat]
def k0_off162 (k0_t1 : Fin k0_t1_loop.trips) (v7190 : BitVec 32) (c0_i32_2425 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7216 : Index := Scalar.indexCast v1163
  let c32_2429 : Index := 32#32
  let v7206 : BitVec 32 := Scalar.addi v7190 c0_i32_2425
  let c128_i32_2426 : BitVec 32 := 128#32
  let v7207 : BitVec 32 := Scalar.muli v7206 c128_i32_2426
  let v7208 : BitVec 32 := v7207
  let v7217 : Index := Scalar.indexCast v7208
  ![v7216.toNat, 32, v7217.toNat]
def k0_off163 (k0_t1 : Fin k0_t1_loop.trips) (v7190 : BitVec 32) (c0_i32_2425 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7221 : Index := Scalar.indexCast v1163
  let c64_2430 : Index := 64#32
  let v7206 : BitVec 32 := Scalar.addi v7190 c0_i32_2425
  let c128_i32_2426 : BitVec 32 := 128#32
  let v7207 : BitVec 32 := Scalar.muli v7206 c128_i32_2426
  let v7208 : BitVec 32 := v7207
  let v7222 : Index := Scalar.indexCast v7208
  ![v7221.toNat, 64, v7222.toNat]
def k0_mult120 (v7190 : BitVec 32) : BitVec 32 :=
  let c1_i32_2434 : BitVec 32 := 1#32
  let v7241 : BitVec 32 := Scalar.addi v7190 c1_i32_2434
  let c128_i32_2435 : BitVec 32 := 128#32
  let v7242 : BitVec 32 := Scalar.muli v7241 c128_i32_2435
  v7242
def k0_mult121 (v7190 : BitVec 32) : BitVec 32 :=
  let c2_i32_2443 : BitVec 32 := 2#32
  let v7282 : BitVec 32 := Scalar.addi v7190 c2_i32_2443
  let c128_i32_2444 : BitVec 32 := 128#32
  let v7283 : BitVec 32 := Scalar.muli v7282 c128_i32_2444
  v7283
def k0_mult122 (v7190 : BitVec 32) : BitVec 32 :=
  let c3_i32_2452 : BitVec 32 := 3#32
  let v7323 : BitVec 32 := Scalar.addi v7190 c3_i32_2452
  let c128_i32_2453 : BitVec 32 := 128#32
  let v7324 : BitVec 32 := Scalar.muli v7323 c128_i32_2453
  v7324
def k0_mult123 (v7190 : BitVec 32) : BitVec 32 :=
  let c4_i32_2461 : BitVec 32 := 4#32
  let v7364 : BitVec 32 := Scalar.addi v7190 c4_i32_2461
  let c128_i32_2462 : BitVec 32 := 128#32
  let v7365 : BitVec 32 := Scalar.muli v7364 c128_i32_2462
  v7365
def k0_mult124 (v7190 : BitVec 32) : BitVec 32 :=
  let c5_i32_2470 : BitVec 32 := 5#32
  let v7405 : BitVec 32 := Scalar.addi v7190 c5_i32_2470
  let c128_i32_2471 : BitVec 32 := 128#32
  let v7406 : BitVec 32 := Scalar.muli v7405 c128_i32_2471
  v7406
def k0_mult125 (v7190 : BitVec 32) : BitVec 32 :=
  let c6_i32_2479 : BitVec 32 := 6#32
  let v7446 : BitVec 32 := Scalar.addi v7190 c6_i32_2479
  let c128_i32_2480 : BitVec 32 := 128#32
  let v7447 : BitVec 32 := Scalar.muli v7446 c128_i32_2480
  v7447
def k0_mult126 (v7190 : BitVec 32) : BitVec 32 :=
  let c7_i32_2488 : BitVec 32 := 7#32
  let v7487 : BitVec 32 := Scalar.addi v7190 c7_i32_2488
  let c128_i32_2489 : BitVec 32 := 128#32
  let v7488 : BitVec 32 := Scalar.muli v7487 c128_i32_2489
  v7488
def k0_mult127 (v7190 : BitVec 32) : BitVec 32 :=
  let c8_i32_2497 : BitVec 32 := 8#32
  let v7528 : BitVec 32 := Scalar.addi v7190 c8_i32_2497
  let c128_i32_2498 : BitVec 32 := 128#32
  let v7529 : BitVec 32 := Scalar.muli v7528 c128_i32_2498
  v7529
def k0_mult128 (v7190 : BitVec 32) : BitVec 32 :=
  let c9_i32_2506 : BitVec 32 := 9#32
  let v7569 : BitVec 32 := Scalar.addi v7190 c9_i32_2506
  let c128_i32_2507 : BitVec 32 := 128#32
  let v7570 : BitVec 32 := Scalar.muli v7569 c128_i32_2507
  v7570
def k0_mult129 (v7190 : BitVec 32) : BitVec 32 :=
  let c10_i32_2515 : BitVec 32 := 10#32
  let v7610 : BitVec 32 := Scalar.addi v7190 c10_i32_2515
  let c128_i32_2516 : BitVec 32 := 128#32
  let v7611 : BitVec 32 := Scalar.muli v7610 c128_i32_2516
  v7611
def k0_mult130 (v7190 : BitVec 32) : BitVec 32 :=
  let c11_i32_2524 : BitVec 32 := 11#32
  let v7651 : BitVec 32 := Scalar.addi v7190 c11_i32_2524
  let c128_i32_2525 : BitVec 32 := 128#32
  let v7652 : BitVec 32 := Scalar.muli v7651 c128_i32_2525
  v7652
def k0_mult131 (v7190 : BitVec 32) : BitVec 32 :=
  let c12_i32_2533 : BitVec 32 := 12#32
  let v7692 : BitVec 32 := Scalar.addi v7190 c12_i32_2533
  let c128_i32_2534 : BitVec 32 := 128#32
  let v7693 : BitVec 32 := Scalar.muli v7692 c128_i32_2534
  v7693
def k0_mult132 (v7190 : BitVec 32) : BitVec 32 :=
  let c13_i32_2542 : BitVec 32 := 13#32
  let v7733 : BitVec 32 := Scalar.addi v7190 c13_i32_2542
  let c128_i32_2543 : BitVec 32 := 128#32
  let v7734 : BitVec 32 := Scalar.muli v7733 c128_i32_2543
  v7734
def k0_mult133 (v7190 : BitVec 32) : BitVec 32 :=
  let c14_i32_2551 : BitVec 32 := 14#32
  let v7774 : BitVec 32 := Scalar.addi v7190 c14_i32_2551
  let c128_i32_2552 : BitVec 32 := 128#32
  let v7775 : BitVec 32 := Scalar.muli v7774 c128_i32_2552
  v7775
def k0_mult134 (v7190 : BitVec 32) : BitVec 32 :=
  let c15_i32_2560 : BitVec 32 := 15#32
  let v7815 : BitVec 32 := Scalar.addi v7190 c15_i32_2560
  let c128_i32_2561 : BitVec 32 := 128#32
  let v7816 : BitVec 32 := Scalar.muli v7815 c128_i32_2561
  v7816

def k0_chk13 (k0_t1 : Fin k0_t1_loop.trips) (v7190 : BitVec 32) : Prop :=
  (128 ∣ (k0_mult119 v7190).toNat) ∧
  (∀ (r : Fin 16), ∀ a, (k0_off161 k0_t1 v7190 (BitVec.ofNat 32 r.val)) a + S1x32x128.size a ≤ S4x96x32768.size a) ∧
  (∀ (r : Fin 16), ∀ a, (k0_off162 k0_t1 v7190 (BitVec.ofNat 32 r.val)) a + S1x32x128.size a ≤ S4x96x32768.size a) ∧
  (∀ (r : Fin 16), ∀ a, (k0_off163 k0_t1 v7190 (BitVec.ofNat 32 r.val)) a + S1x32x128.size a ≤ S4x96x32768.size a) ∧
  (128 ∣ (k0_mult120 v7190).toNat) ∧
  (128 ∣ (k0_mult121 v7190).toNat) ∧
  (128 ∣ (k0_mult122 v7190).toNat) ∧
  (128 ∣ (k0_mult123 v7190).toNat) ∧
  (128 ∣ (k0_mult124 v7190).toNat) ∧
  (128 ∣ (k0_mult125 v7190).toNat) ∧
  (128 ∣ (k0_mult126 v7190).toNat) ∧
  (128 ∣ (k0_mult127 v7190).toNat) ∧
  (128 ∣ (k0_mult128 v7190).toNat) ∧
  (128 ∣ (k0_mult129 v7190).toNat) ∧
  (128 ∣ (k0_mult130 v7190).toNat) ∧
  (128 ∣ (k0_mult131 v7190).toNat) ∧
  (128 ∣ (k0_mult132 v7190).toNat) ∧
  (128 ∣ (k0_mult133 v7190).toNat) ∧
  (128 ∣ (k0_mult134 v7190).toNat)
theorem k0_mult119_dvd : ∀ (k0_t1 : Fin k0_t1_loop.trips) (v7190 : BitVec 32) (k0_hw13 : k0_chk13 k0_t1 v7190), 128 ∣ (k0_mult119 v7190).toNat := fun k0_t1 v7190 k0_hw13 => k0_hw13.1
theorem k0_off161_inb : ∀ (k0_t1 : Fin k0_t1_loop.trips) (v7190 : BitVec 32) (k0_hw13 : k0_chk13 k0_t1 v7190), ∀ (r : Fin 16), ∀ a, (k0_off161 k0_t1 v7190 (BitVec.ofNat 32 r.val)) a + S1x32x128.size a ≤ S4x96x32768.size a := fun k0_t1 v7190 k0_hw13 r => k0_hw13.2.1 r
theorem k0_off162_inb : ∀ (k0_t1 : Fin k0_t1_loop.trips) (v7190 : BitVec 32) (k0_hw13 : k0_chk13 k0_t1 v7190), ∀ (r : Fin 16), ∀ a, (k0_off162 k0_t1 v7190 (BitVec.ofNat 32 r.val)) a + S1x32x128.size a ≤ S4x96x32768.size a := fun k0_t1 v7190 k0_hw13 r => k0_hw13.2.2.1 r
theorem k0_off163_inb : ∀ (k0_t1 : Fin k0_t1_loop.trips) (v7190 : BitVec 32) (k0_hw13 : k0_chk13 k0_t1 v7190), ∀ (r : Fin 16), ∀ a, (k0_off163 k0_t1 v7190 (BitVec.ofNat 32 r.val)) a + S1x32x128.size a ≤ S4x96x32768.size a := fun k0_t1 v7190 k0_hw13 r => k0_hw13.2.2.2.1 r
theorem k0_mult120_dvd : ∀ (k0_t1 : Fin k0_t1_loop.trips) (v7190 : BitVec 32) (k0_hw13 : k0_chk13 k0_t1 v7190), 128 ∣ (k0_mult120 v7190).toNat := fun k0_t1 v7190 k0_hw13 => k0_hw13.2.2.2.2.1
theorem k0_mult121_dvd : ∀ (k0_t1 : Fin k0_t1_loop.trips) (v7190 : BitVec 32) (k0_hw13 : k0_chk13 k0_t1 v7190), 128 ∣ (k0_mult121 v7190).toNat := fun k0_t1 v7190 k0_hw13 => k0_hw13.2.2.2.2.2.1
theorem k0_mult122_dvd : ∀ (k0_t1 : Fin k0_t1_loop.trips) (v7190 : BitVec 32) (k0_hw13 : k0_chk13 k0_t1 v7190), 128 ∣ (k0_mult122 v7190).toNat := fun k0_t1 v7190 k0_hw13 => k0_hw13.2.2.2.2.2.2.1
theorem k0_mult123_dvd : ∀ (k0_t1 : Fin k0_t1_loop.trips) (v7190 : BitVec 32) (k0_hw13 : k0_chk13 k0_t1 v7190), 128 ∣ (k0_mult123 v7190).toNat := fun k0_t1 v7190 k0_hw13 => k0_hw13.2.2.2.2.2.2.2.1
theorem k0_mult124_dvd : ∀ (k0_t1 : Fin k0_t1_loop.trips) (v7190 : BitVec 32) (k0_hw13 : k0_chk13 k0_t1 v7190), 128 ∣ (k0_mult124 v7190).toNat := fun k0_t1 v7190 k0_hw13 => k0_hw13.2.2.2.2.2.2.2.2.1
theorem k0_mult125_dvd : ∀ (k0_t1 : Fin k0_t1_loop.trips) (v7190 : BitVec 32) (k0_hw13 : k0_chk13 k0_t1 v7190), 128 ∣ (k0_mult125 v7190).toNat := fun k0_t1 v7190 k0_hw13 => k0_hw13.2.2.2.2.2.2.2.2.2.1
theorem k0_mult126_dvd : ∀ (k0_t1 : Fin k0_t1_loop.trips) (v7190 : BitVec 32) (k0_hw13 : k0_chk13 k0_t1 v7190), 128 ∣ (k0_mult126 v7190).toNat := fun k0_t1 v7190 k0_hw13 => k0_hw13.2.2.2.2.2.2.2.2.2.2.1
theorem k0_mult127_dvd : ∀ (k0_t1 : Fin k0_t1_loop.trips) (v7190 : BitVec 32) (k0_hw13 : k0_chk13 k0_t1 v7190), 128 ∣ (k0_mult127 v7190).toNat := fun k0_t1 v7190 k0_hw13 => k0_hw13.2.2.2.2.2.2.2.2.2.2.2.1
theorem k0_mult128_dvd : ∀ (k0_t1 : Fin k0_t1_loop.trips) (v7190 : BitVec 32) (k0_hw13 : k0_chk13 k0_t1 v7190), 128 ∣ (k0_mult128 v7190).toNat := fun k0_t1 v7190 k0_hw13 => k0_hw13.2.2.2.2.2.2.2.2.2.2.2.2.1
theorem k0_mult129_dvd : ∀ (k0_t1 : Fin k0_t1_loop.trips) (v7190 : BitVec 32) (k0_hw13 : k0_chk13 k0_t1 v7190), 128 ∣ (k0_mult129 v7190).toNat := fun k0_t1 v7190 k0_hw13 => k0_hw13.2.2.2.2.2.2.2.2.2.2.2.2.2.1
theorem k0_mult130_dvd : ∀ (k0_t1 : Fin k0_t1_loop.trips) (v7190 : BitVec 32) (k0_hw13 : k0_chk13 k0_t1 v7190), 128 ∣ (k0_mult130 v7190).toNat := fun k0_t1 v7190 k0_hw13 => k0_hw13.2.2.2.2.2.2.2.2.2.2.2.2.2.2.1
theorem k0_mult131_dvd : ∀ (k0_t1 : Fin k0_t1_loop.trips) (v7190 : BitVec 32) (k0_hw13 : k0_chk13 k0_t1 v7190), 128 ∣ (k0_mult131 v7190).toNat := fun k0_t1 v7190 k0_hw13 => k0_hw13.2.2.2.2.2.2.2.2.2.2.2.2.2.2.2.1
theorem k0_mult132_dvd : ∀ (k0_t1 : Fin k0_t1_loop.trips) (v7190 : BitVec 32) (k0_hw13 : k0_chk13 k0_t1 v7190), 128 ∣ (k0_mult132 v7190).toNat := fun k0_t1 v7190 k0_hw13 => k0_hw13.2.2.2.2.2.2.2.2.2.2.2.2.2.2.2.2.1
theorem k0_mult133_dvd : ∀ (k0_t1 : Fin k0_t1_loop.trips) (v7190 : BitVec 32) (k0_hw13 : k0_chk13 k0_t1 v7190), 128 ∣ (k0_mult133 v7190).toNat := fun k0_t1 v7190 k0_hw13 => k0_hw13.2.2.2.2.2.2.2.2.2.2.2.2.2.2.2.2.2.1
theorem k0_mult134_dvd : ∀ (k0_t1 : Fin k0_t1_loop.trips) (v7190 : BitVec 32) (k0_hw13 : k0_chk13 k0_t1 v7190), 128 ∣ (k0_mult134 v7190).toNat := fun k0_t1 v7190 k0_hw13 => k0_hw13.2.2.2.2.2.2.2.2.2.2.2.2.2.2.2.2.2.2

def k0_off164 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7856 : Index := Scalar.indexCast arg27
  let c0_2569 : Index := 0#32
  let c0_2570 : Index := 0#32
  ![v7856.toNat, 0, 0]
def k0_off165 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7867 : Index := Scalar.indexCast arg27
  let c8_2573 : Index := 8#32
  let c0_2574 : Index := 0#32
  ![v7867.toNat, 8, 0]
def k0_off166 (arg33 : BitVec 32) : Fin 4 → Nat :=
  let v7887 : Index := Scalar.indexCast arg33
  let c7_2580 : Index := 7#32
  let c0_2581 : Index := 0#32
  let c0_2582 : Index := 0#32
  ![v7887.toNat, 7, 0, 0]
def k0_off167 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7891 : Index := Scalar.indexCast arg27
  let c16_2583 : Index := 16#32
  let c0_2584 : Index := 0#32
  ![v7891.toNat, 16, 0]
def k0_off168 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7902 : Index := Scalar.indexCast arg27
  let c24_2587 : Index := 24#32
  let c0_2588 : Index := 0#32
  ![v7902.toNat, 24, 0]
def k0_off169 (arg33 : BitVec 32) : Fin 4 → Nat :=
  let v7922 : Index := Scalar.indexCast arg33
  let c7_2594 : Index := 7#32
  let c8_2595 : Index := 8#32
  let c0_2596 : Index := 0#32
  ![v7922.toNat, 7, 8, 0]
def k0_off170 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7926 : Index := Scalar.indexCast arg27
  let c32_2597 : Index := 32#32
  let c0_2598 : Index := 0#32
  ![v7926.toNat, 32, 0]
def k0_off171 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7937 : Index := Scalar.indexCast arg27
  let c40_2601 : Index := 40#32
  let c0_2602 : Index := 0#32
  ![v7937.toNat, 40, 0]
def k0_off172 (arg33 : BitVec 32) : Fin 4 → Nat :=
  let v7957 : Index := Scalar.indexCast arg33
  let c7_2608 : Index := 7#32
  let c16_2609 : Index := 16#32
  let c0_2610 : Index := 0#32
  ![v7957.toNat, 7, 16, 0]

def k0_chk3_0 (arg33 : BitVec 32) : Prop :=
  (∀ a, (k0_off16 arg33) a + S1x1x8x128.size a ≤ S4x8x24x128.size a) ∧
  (∀ a, (k0_off17 arg33) a + S1x1x8x128.size a ≤ S4x8x24x128.size a) ∧
  (∀ a, (k0_off18 arg33) a + S1x1x8x128.size a ≤ S4x8x24x128.size a) ∧
  (∀ a, (k0_off19 arg33) a + S1x1x8x128.size a ≤ S4x8x24x128.size a) ∧
  (∀ a, (k0_off20 arg33) a + S1x1x8x128.size a ≤ S4x8x24x128.size a) ∧
  (∀ a, (k0_off21 arg33) a + S1x1x8x128.size a ≤ S4x8x24x128.size a) ∧
  (∀ a, (k0_off22 arg33) a + S1x1x8x128.size a ≤ S4x8x24x128.size a) ∧
  (∀ a, (k0_off23 arg33) a + S1x1x8x128.size a ≤ S4x8x24x128.size a) ∧
  (∀ a, (k0_off24 arg33) a + S1x1x8x128.size a ≤ S4x8x24x128.size a) ∧
  (∀ a, (k0_off25 arg33) a + S1x1x8x128.size a ≤ S4x8x24x128.size a) ∧
  (∀ a, (k0_off26 arg33) a + S1x1x8x128.size a ≤ S4x8x24x128.size a) ∧
  (∀ a, (k0_off27 arg33) a + S1x1x8x128.size a ≤ S4x8x24x128.size a) ∧
  (∀ a, (k0_off28 arg33) a + S1x1x8x128.size a ≤ S4x8x24x128.size a) ∧
  (∀ a, (k0_off29 arg33) a + S1x1x8x128.size a ≤ S4x8x24x128.size a) ∧
  (∀ a, (k0_off30 arg33) a + S1x1x8x128.size a ≤ S4x8x24x128.size a) ∧
  (∀ a, (k0_off31 arg33) a + S1x1x8x128.size a ≤ S4x8x24x128.size a) ∧
  (∀ a, (k0_off32 arg33) a + S1x1x8x128.size a ≤ S4x8x24x128.size a) ∧
  (∀ a, (k0_off33 arg33) a + S1x1x8x128.size a ≤ S4x8x24x128.size a) ∧
  (∀ a, (k0_off34 arg33) a + S1x1x8x128.size a ≤ S4x8x24x128.size a) ∧
  (∀ a, (k0_off35 arg33) a + S1x1x8x128.size a ≤ S4x8x24x128.size a) ∧
  (∀ a, (k0_off36 arg33) a + S1x1x8x128.size a ≤ S4x8x24x128.size a) ∧
  (∀ a, (k0_off37 arg33) a + S1x1x8x128.size a ≤ S4x8x24x128.size a) ∧
  (∀ a, (k0_off38 arg33) a + S1x1x8x128.size a ≤ S4x8x24x128.size a) ∧
  (∀ a, (k0_off39 arg33) a + S1x1x8x128.size a ≤ S4x8x24x128.size a) ∧
  (∀ a, (k0_off42 arg33) a + S1x1x128.size a ≤ S4x8x128.size a) ∧
  (∀ a, (k0_off43 arg33) a + S1x1x128.size a ≤ S4x8x128.size a) ∧
  (∀ a, (k0_off44 arg33) a + S1x1x128.size a ≤ S4x8x128.size a) ∧
  (∀ a, (k0_off45 arg33) a + S1x1x128.size a ≤ S4x8x128.size a) ∧
  (∀ a, (k0_off46 arg33) a + S1x1x128.size a ≤ S4x8x128.size a) ∧
  (∀ a, (k0_off47 arg33) a + S1x1x128.size a ≤ S4x8x128.size a) ∧
  (∀ a, (k0_off48 arg33) a + S1x1x128.size a ≤ S4x8x128.size a) ∧
  (∀ a, (k0_off49 arg33) a + S1x1x128.size a ≤ S4x8x128.size a)
def k0_chk3_1 (arg33 : BitVec 32) : Prop :=
  (∀ a, (k0_off51 arg33) a + S1x1x128.size a ≤ S4x8x128.size a) ∧
  (∀ a, (k0_off52 arg33) a + S1x1x128.size a ≤ S4x8x128.size a) ∧
  (∀ a, (k0_off53 arg33) a + S1x1x128.size a ≤ S4x8x128.size a) ∧
  (∀ a, (k0_off54 arg33) a + S1x1x128.size a ≤ S4x8x128.size a) ∧
  (∀ a, (k0_off55 arg33) a + S1x1x128.size a ≤ S4x8x128.size a) ∧
  (∀ a, (k0_off56 arg33) a + S1x1x128.size a ≤ S4x8x128.size a) ∧
  (∀ a, (k0_off57 arg33) a + S1x1x128.size a ≤ S4x8x128.size a) ∧
  (∀ a, (k0_off58 arg33) a + S1x1x128.size a ≤ S4x8x128.size a) ∧
  (∀ a, (k0_off60 arg33) a + S1x8x128.size a ≤ S4x8x128.size a) ∧
  (∀ a, (k0_off68 arg33) a + S1x1x8x128.size a ≤ S4x8x24x128.size a) ∧
  (∀ a, (k0_off71 arg33) a + S1x1x8x128.size a ≤ S4x8x24x128.size a) ∧
  (∀ a, (k0_off74 arg33) a + S1x1x8x128.size a ≤ S4x8x24x128.size a) ∧
  (∀ a, (k0_off82 arg33) a + S1x1x8x128.size a ≤ S4x8x24x128.size a) ∧
  (∀ a, (k0_off85 arg33) a + S1x1x8x128.size a ≤ S4x8x24x128.size a) ∧
  (∀ a, (k0_off88 arg33) a + S1x1x8x128.size a ≤ S4x8x24x128.size a) ∧
  (∀ a, (k0_off96 arg33) a + S1x1x8x128.size a ≤ S4x8x24x128.size a) ∧
  (∀ a, (k0_off99 arg33) a + S1x1x8x128.size a ≤ S4x8x24x128.size a) ∧
  (∀ a, (k0_off102 arg33) a + S1x1x8x128.size a ≤ S4x8x24x128.size a) ∧
  (∀ a, (k0_off110 arg33) a + S1x1x8x128.size a ≤ S4x8x24x128.size a) ∧
  (∀ a, (k0_off113 arg33) a + S1x1x8x128.size a ≤ S4x8x24x128.size a) ∧
  (∀ a, (k0_off116 arg33) a + S1x1x8x128.size a ≤ S4x8x24x128.size a) ∧
  (∀ a, (k0_off124 arg33) a + S1x1x8x128.size a ≤ S4x8x24x128.size a) ∧
  (∀ a, (k0_off127 arg33) a + S1x1x8x128.size a ≤ S4x8x24x128.size a) ∧
  (∀ a, (k0_off130 arg33) a + S1x1x8x128.size a ≤ S4x8x24x128.size a) ∧
  (∀ a, (k0_off138 arg33) a + S1x1x8x128.size a ≤ S4x8x24x128.size a) ∧
  (∀ a, (k0_off141 arg33) a + S1x1x8x128.size a ≤ S4x8x24x128.size a) ∧
  (∀ a, (k0_off144 arg33) a + S1x1x8x128.size a ≤ S4x8x24x128.size a) ∧
  (∀ a, (k0_off152 arg33) a + S1x1x8x128.size a ≤ S4x8x24x128.size a) ∧
  (∀ a, (k0_off155 arg33) a + S1x1x8x128.size a ≤ S4x8x24x128.size a) ∧
  (∀ a, (k0_off158 arg33) a + S1x1x8x128.size a ≤ S4x8x24x128.size a) ∧
  (∀ a, (k0_off166 arg33) a + S1x1x8x128.size a ≤ S4x8x24x128.size a) ∧
  (∀ a, (k0_off169 arg33) a + S1x1x8x128.size a ≤ S4x8x24x128.size a)
def k0_chk3_2 (arg33 : BitVec 32) : Prop :=
  (∀ a, (k0_off172 arg33) a + S1x1x8x128.size a ≤ S4x8x24x128.size a)
def k0_chk3 (arg33 : BitVec 32) : Prop :=
  k0_chk3_0 arg33 ∧
  k0_chk3_1 arg33 ∧
  k0_chk3_2 arg33
theorem k0_off16_inb : ∀ (arg33 : BitVec 32) (k0_hw3 : k0_chk3 arg33), ∀ a, (k0_off16 arg33) a + S1x1x8x128.size a ≤ S4x8x24x128.size a := fun arg33 k0_hw3 => k0_hw3.1.1
theorem k0_off17_inb : ∀ (arg33 : BitVec 32) (k0_hw3 : k0_chk3 arg33), ∀ a, (k0_off17 arg33) a + S1x1x8x128.size a ≤ S4x8x24x128.size a := fun arg33 k0_hw3 => k0_hw3.1.2.1
theorem k0_off18_inb : ∀ (arg33 : BitVec 32) (k0_hw3 : k0_chk3 arg33), ∀ a, (k0_off18 arg33) a + S1x1x8x128.size a ≤ S4x8x24x128.size a := fun arg33 k0_hw3 => k0_hw3.1.2.2.1
theorem k0_off19_inb : ∀ (arg33 : BitVec 32) (k0_hw3 : k0_chk3 arg33), ∀ a, (k0_off19 arg33) a + S1x1x8x128.size a ≤ S4x8x24x128.size a := fun arg33 k0_hw3 => k0_hw3.1.2.2.2.1
theorem k0_off20_inb : ∀ (arg33 : BitVec 32) (k0_hw3 : k0_chk3 arg33), ∀ a, (k0_off20 arg33) a + S1x1x8x128.size a ≤ S4x8x24x128.size a := fun arg33 k0_hw3 => k0_hw3.1.2.2.2.2.1
theorem k0_off21_inb : ∀ (arg33 : BitVec 32) (k0_hw3 : k0_chk3 arg33), ∀ a, (k0_off21 arg33) a + S1x1x8x128.size a ≤ S4x8x24x128.size a := fun arg33 k0_hw3 => k0_hw3.1.2.2.2.2.2.1
theorem k0_off22_inb : ∀ (arg33 : BitVec 32) (k0_hw3 : k0_chk3 arg33), ∀ a, (k0_off22 arg33) a + S1x1x8x128.size a ≤ S4x8x24x128.size a := fun arg33 k0_hw3 => k0_hw3.1.2.2.2.2.2.2.1
theorem k0_off23_inb : ∀ (arg33 : BitVec 32) (k0_hw3 : k0_chk3 arg33), ∀ a, (k0_off23 arg33) a + S1x1x8x128.size a ≤ S4x8x24x128.size a := fun arg33 k0_hw3 => k0_hw3.1.2.2.2.2.2.2.2.1
theorem k0_off24_inb : ∀ (arg33 : BitVec 32) (k0_hw3 : k0_chk3 arg33), ∀ a, (k0_off24 arg33) a + S1x1x8x128.size a ≤ S4x8x24x128.size a := fun arg33 k0_hw3 => k0_hw3.1.2.2.2.2.2.2.2.2.1
theorem k0_off25_inb : ∀ (arg33 : BitVec 32) (k0_hw3 : k0_chk3 arg33), ∀ a, (k0_off25 arg33) a + S1x1x8x128.size a ≤ S4x8x24x128.size a := fun arg33 k0_hw3 => k0_hw3.1.2.2.2.2.2.2.2.2.2.1
theorem k0_off26_inb : ∀ (arg33 : BitVec 32) (k0_hw3 : k0_chk3 arg33), ∀ a, (k0_off26 arg33) a + S1x1x8x128.size a ≤ S4x8x24x128.size a := fun arg33 k0_hw3 => k0_hw3.1.2.2.2.2.2.2.2.2.2.2.1
theorem k0_off27_inb : ∀ (arg33 : BitVec 32) (k0_hw3 : k0_chk3 arg33), ∀ a, (k0_off27 arg33) a + S1x1x8x128.size a ≤ S4x8x24x128.size a := fun arg33 k0_hw3 => k0_hw3.1.2.2.2.2.2.2.2.2.2.2.2.1
theorem k0_off28_inb : ∀ (arg33 : BitVec 32) (k0_hw3 : k0_chk3 arg33), ∀ a, (k0_off28 arg33) a + S1x1x8x128.size a ≤ S4x8x24x128.size a := fun arg33 k0_hw3 => k0_hw3.1.2.2.2.2.2.2.2.2.2.2.2.2.1
theorem k0_off29_inb : ∀ (arg33 : BitVec 32) (k0_hw3 : k0_chk3 arg33), ∀ a, (k0_off29 arg33) a + S1x1x8x128.size a ≤ S4x8x24x128.size a := fun arg33 k0_hw3 => k0_hw3.1.2.2.2.2.2.2.2.2.2.2.2.2.2.1
theorem k0_off30_inb : ∀ (arg33 : BitVec 32) (k0_hw3 : k0_chk3 arg33), ∀ a, (k0_off30 arg33) a + S1x1x8x128.size a ≤ S4x8x24x128.size a := fun arg33 k0_hw3 => k0_hw3.1.2.2.2.2.2.2.2.2.2.2.2.2.2.2.1
theorem k0_off31_inb : ∀ (arg33 : BitVec 32) (k0_hw3 : k0_chk3 arg33), ∀ a, (k0_off31 arg33) a + S1x1x8x128.size a ≤ S4x8x24x128.size a := fun arg33 k0_hw3 => k0_hw3.1.2.2.2.2.2.2.2.2.2.2.2.2.2.2.2.1
theorem k0_off32_inb : ∀ (arg33 : BitVec 32) (k0_hw3 : k0_chk3 arg33), ∀ a, (k0_off32 arg33) a + S1x1x8x128.size a ≤ S4x8x24x128.size a := fun arg33 k0_hw3 => k0_hw3.1.2.2.2.2.2.2.2.2.2.2.2.2.2.2.2.2.1
theorem k0_off33_inb : ∀ (arg33 : BitVec 32) (k0_hw3 : k0_chk3 arg33), ∀ a, (k0_off33 arg33) a + S1x1x8x128.size a ≤ S4x8x24x128.size a := fun arg33 k0_hw3 => k0_hw3.1.2.2.2.2.2.2.2.2.2.2.2.2.2.2.2.2.2.1
theorem k0_off34_inb : ∀ (arg33 : BitVec 32) (k0_hw3 : k0_chk3 arg33), ∀ a, (k0_off34 arg33) a + S1x1x8x128.size a ≤ S4x8x24x128.size a := fun arg33 k0_hw3 => k0_hw3.1.2.2.2.2.2.2.2.2.2.2.2.2.2.2.2.2.2.2.1
theorem k0_off35_inb : ∀ (arg33 : BitVec 32) (k0_hw3 : k0_chk3 arg33), ∀ a, (k0_off35 arg33) a + S1x1x8x128.size a ≤ S4x8x24x128.size a := fun arg33 k0_hw3 => k0_hw3.1.2.2.2.2.2.2.2.2.2.2.2.2.2.2.2.2.2.2.2.1
theorem k0_off36_inb : ∀ (arg33 : BitVec 32) (k0_hw3 : k0_chk3 arg33), ∀ a, (k0_off36 arg33) a + S1x1x8x128.size a ≤ S4x8x24x128.size a := fun arg33 k0_hw3 => k0_hw3.1.2.2.2.2.2.2.2.2.2.2.2.2.2.2.2.2.2.2.2.2.1
theorem k0_off37_inb : ∀ (arg33 : BitVec 32) (k0_hw3 : k0_chk3 arg33), ∀ a, (k0_off37 arg33) a + S1x1x8x128.size a ≤ S4x8x24x128.size a := fun arg33 k0_hw3 => k0_hw3.1.2.2.2.2.2.2.2.2.2.2.2.2.2.2.2.2.2.2.2.2.2.1
theorem k0_off38_inb : ∀ (arg33 : BitVec 32) (k0_hw3 : k0_chk3 arg33), ∀ a, (k0_off38 arg33) a + S1x1x8x128.size a ≤ S4x8x24x128.size a := fun arg33 k0_hw3 => k0_hw3.1.2.2.2.2.2.2.2.2.2.2.2.2.2.2.2.2.2.2.2.2.2.2.1
theorem k0_off39_inb : ∀ (arg33 : BitVec 32) (k0_hw3 : k0_chk3 arg33), ∀ a, (k0_off39 arg33) a + S1x1x8x128.size a ≤ S4x8x24x128.size a := fun arg33 k0_hw3 => k0_hw3.1.2.2.2.2.2.2.2.2.2.2.2.2.2.2.2.2.2.2.2.2.2.2.2.1
theorem k0_off42_inb : ∀ (arg33 : BitVec 32) (k0_hw3 : k0_chk3 arg33), ∀ a, (k0_off42 arg33) a + S1x1x128.size a ≤ S4x8x128.size a := fun arg33 k0_hw3 => k0_hw3.1.2.2.2.2.2.2.2.2.2.2.2.2.2.2.2.2.2.2.2.2.2.2.2.2.1
theorem k0_off43_inb : ∀ (arg33 : BitVec 32) (k0_hw3 : k0_chk3 arg33), ∀ a, (k0_off43 arg33) a + S1x1x128.size a ≤ S4x8x128.size a := fun arg33 k0_hw3 => k0_hw3.1.2.2.2.2.2.2.2.2.2.2.2.2.2.2.2.2.2.2.2.2.2.2.2.2.2.1
theorem k0_off44_inb : ∀ (arg33 : BitVec 32) (k0_hw3 : k0_chk3 arg33), ∀ a, (k0_off44 arg33) a + S1x1x128.size a ≤ S4x8x128.size a := fun arg33 k0_hw3 => k0_hw3.1.2.2.2.2.2.2.2.2.2.2.2.2.2.2.2.2.2.2.2.2.2.2.2.2.2.2.1
theorem k0_off45_inb : ∀ (arg33 : BitVec 32) (k0_hw3 : k0_chk3 arg33), ∀ a, (k0_off45 arg33) a + S1x1x128.size a ≤ S4x8x128.size a := fun arg33 k0_hw3 => k0_hw3.1.2.2.2.2.2.2.2.2.2.2.2.2.2.2.2.2.2.2.2.2.2.2.2.2.2.2.2.1
theorem k0_off46_inb : ∀ (arg33 : BitVec 32) (k0_hw3 : k0_chk3 arg33), ∀ a, (k0_off46 arg33) a + S1x1x128.size a ≤ S4x8x128.size a := fun arg33 k0_hw3 => k0_hw3.1.2.2.2.2.2.2.2.2.2.2.2.2.2.2.2.2.2.2.2.2.2.2.2.2.2.2.2.2.1
theorem k0_off47_inb : ∀ (arg33 : BitVec 32) (k0_hw3 : k0_chk3 arg33), ∀ a, (k0_off47 arg33) a + S1x1x128.size a ≤ S4x8x128.size a := fun arg33 k0_hw3 => k0_hw3.1.2.2.2.2.2.2.2.2.2.2.2.2.2.2.2.2.2.2.2.2.2.2.2.2.2.2.2.2.2.1
theorem k0_off48_inb : ∀ (arg33 : BitVec 32) (k0_hw3 : k0_chk3 arg33), ∀ a, (k0_off48 arg33) a + S1x1x128.size a ≤ S4x8x128.size a := fun arg33 k0_hw3 => k0_hw3.1.2.2.2.2.2.2.2.2.2.2.2.2.2.2.2.2.2.2.2.2.2.2.2.2.2.2.2.2.2.2.1
theorem k0_off49_inb : ∀ (arg33 : BitVec 32) (k0_hw3 : k0_chk3 arg33), ∀ a, (k0_off49 arg33) a + S1x1x128.size a ≤ S4x8x128.size a := fun arg33 k0_hw3 => k0_hw3.1.2.2.2.2.2.2.2.2.2.2.2.2.2.2.2.2.2.2.2.2.2.2.2.2.2.2.2.2.2.2.2
theorem k0_off51_inb : ∀ (arg33 : BitVec 32) (k0_hw3 : k0_chk3 arg33), ∀ a, (k0_off51 arg33) a + S1x1x128.size a ≤ S4x8x128.size a := fun arg33 k0_hw3 => k0_hw3.2.1.1
theorem k0_off52_inb : ∀ (arg33 : BitVec 32) (k0_hw3 : k0_chk3 arg33), ∀ a, (k0_off52 arg33) a + S1x1x128.size a ≤ S4x8x128.size a := fun arg33 k0_hw3 => k0_hw3.2.1.2.1
theorem k0_off53_inb : ∀ (arg33 : BitVec 32) (k0_hw3 : k0_chk3 arg33), ∀ a, (k0_off53 arg33) a + S1x1x128.size a ≤ S4x8x128.size a := fun arg33 k0_hw3 => k0_hw3.2.1.2.2.1
theorem k0_off54_inb : ∀ (arg33 : BitVec 32) (k0_hw3 : k0_chk3 arg33), ∀ a, (k0_off54 arg33) a + S1x1x128.size a ≤ S4x8x128.size a := fun arg33 k0_hw3 => k0_hw3.2.1.2.2.2.1
theorem k0_off55_inb : ∀ (arg33 : BitVec 32) (k0_hw3 : k0_chk3 arg33), ∀ a, (k0_off55 arg33) a + S1x1x128.size a ≤ S4x8x128.size a := fun arg33 k0_hw3 => k0_hw3.2.1.2.2.2.2.1
theorem k0_off56_inb : ∀ (arg33 : BitVec 32) (k0_hw3 : k0_chk3 arg33), ∀ a, (k0_off56 arg33) a + S1x1x128.size a ≤ S4x8x128.size a := fun arg33 k0_hw3 => k0_hw3.2.1.2.2.2.2.2.1
theorem k0_off57_inb : ∀ (arg33 : BitVec 32) (k0_hw3 : k0_chk3 arg33), ∀ a, (k0_off57 arg33) a + S1x1x128.size a ≤ S4x8x128.size a := fun arg33 k0_hw3 => k0_hw3.2.1.2.2.2.2.2.2.1
theorem k0_off58_inb : ∀ (arg33 : BitVec 32) (k0_hw3 : k0_chk3 arg33), ∀ a, (k0_off58 arg33) a + S1x1x128.size a ≤ S4x8x128.size a := fun arg33 k0_hw3 => k0_hw3.2.1.2.2.2.2.2.2.2.1
theorem k0_off60_inb : ∀ (arg33 : BitVec 32) (k0_hw3 : k0_chk3 arg33), ∀ a, (k0_off60 arg33) a + S1x8x128.size a ≤ S4x8x128.size a := fun arg33 k0_hw3 => k0_hw3.2.1.2.2.2.2.2.2.2.2.1
theorem k0_off68_inb : ∀ (arg33 : BitVec 32) (k0_hw3 : k0_chk3 arg33), ∀ a, (k0_off68 arg33) a + S1x1x8x128.size a ≤ S4x8x24x128.size a := fun arg33 k0_hw3 => k0_hw3.2.1.2.2.2.2.2.2.2.2.2.1
theorem k0_off71_inb : ∀ (arg33 : BitVec 32) (k0_hw3 : k0_chk3 arg33), ∀ a, (k0_off71 arg33) a + S1x1x8x128.size a ≤ S4x8x24x128.size a := fun arg33 k0_hw3 => k0_hw3.2.1.2.2.2.2.2.2.2.2.2.2.1
theorem k0_off74_inb : ∀ (arg33 : BitVec 32) (k0_hw3 : k0_chk3 arg33), ∀ a, (k0_off74 arg33) a + S1x1x8x128.size a ≤ S4x8x24x128.size a := fun arg33 k0_hw3 => k0_hw3.2.1.2.2.2.2.2.2.2.2.2.2.2.1
theorem k0_off82_inb : ∀ (arg33 : BitVec 32) (k0_hw3 : k0_chk3 arg33), ∀ a, (k0_off82 arg33) a + S1x1x8x128.size a ≤ S4x8x24x128.size a := fun arg33 k0_hw3 => k0_hw3.2.1.2.2.2.2.2.2.2.2.2.2.2.2.1
theorem k0_off85_inb : ∀ (arg33 : BitVec 32) (k0_hw3 : k0_chk3 arg33), ∀ a, (k0_off85 arg33) a + S1x1x8x128.size a ≤ S4x8x24x128.size a := fun arg33 k0_hw3 => k0_hw3.2.1.2.2.2.2.2.2.2.2.2.2.2.2.2.1
theorem k0_off88_inb : ∀ (arg33 : BitVec 32) (k0_hw3 : k0_chk3 arg33), ∀ a, (k0_off88 arg33) a + S1x1x8x128.size a ≤ S4x8x24x128.size a := fun arg33 k0_hw3 => k0_hw3.2.1.2.2.2.2.2.2.2.2.2.2.2.2.2.2.1
theorem k0_off96_inb : ∀ (arg33 : BitVec 32) (k0_hw3 : k0_chk3 arg33), ∀ a, (k0_off96 arg33) a + S1x1x8x128.size a ≤ S4x8x24x128.size a := fun arg33 k0_hw3 => k0_hw3.2.1.2.2.2.2.2.2.2.2.2.2.2.2.2.2.2.1
theorem k0_off99_inb : ∀ (arg33 : BitVec 32) (k0_hw3 : k0_chk3 arg33), ∀ a, (k0_off99 arg33) a + S1x1x8x128.size a ≤ S4x8x24x128.size a := fun arg33 k0_hw3 => k0_hw3.2.1.2.2.2.2.2.2.2.2.2.2.2.2.2.2.2.2.1
theorem k0_off102_inb : ∀ (arg33 : BitVec 32) (k0_hw3 : k0_chk3 arg33), ∀ a, (k0_off102 arg33) a + S1x1x8x128.size a ≤ S4x8x24x128.size a := fun arg33 k0_hw3 => k0_hw3.2.1.2.2.2.2.2.2.2.2.2.2.2.2.2.2.2.2.2.1
theorem k0_off110_inb : ∀ (arg33 : BitVec 32) (k0_hw3 : k0_chk3 arg33), ∀ a, (k0_off110 arg33) a + S1x1x8x128.size a ≤ S4x8x24x128.size a := fun arg33 k0_hw3 => k0_hw3.2.1.2.2.2.2.2.2.2.2.2.2.2.2.2.2.2.2.2.2.1
theorem k0_off113_inb : ∀ (arg33 : BitVec 32) (k0_hw3 : k0_chk3 arg33), ∀ a, (k0_off113 arg33) a + S1x1x8x128.size a ≤ S4x8x24x128.size a := fun arg33 k0_hw3 => k0_hw3.2.1.2.2.2.2.2.2.2.2.2.2.2.2.2.2.2.2.2.2.2.1
theorem k0_off116_inb : ∀ (arg33 : BitVec 32) (k0_hw3 : k0_chk3 arg33), ∀ a, (k0_off116 arg33) a + S1x1x8x128.size a ≤ S4x8x24x128.size a := fun arg33 k0_hw3 => k0_hw3.2.1.2.2.2.2.2.2.2.2.2.2.2.2.2.2.2.2.2.2.2.2.1
theorem k0_off124_inb : ∀ (arg33 : BitVec 32) (k0_hw3 : k0_chk3 arg33), ∀ a, (k0_off124 arg33) a + S1x1x8x128.size a ≤ S4x8x24x128.size a := fun arg33 k0_hw3 => k0_hw3.2.1.2.2.2.2.2.2.2.2.2.2.2.2.2.2.2.2.2.2.2.2.2.1
theorem k0_off127_inb : ∀ (arg33 : BitVec 32) (k0_hw3 : k0_chk3 arg33), ∀ a, (k0_off127 arg33) a + S1x1x8x128.size a ≤ S4x8x24x128.size a := fun arg33 k0_hw3 => k0_hw3.2.1.2.2.2.2.2.2.2.2.2.2.2.2.2.2.2.2.2.2.2.2.2.2.1
theorem k0_off130_inb : ∀ (arg33 : BitVec 32) (k0_hw3 : k0_chk3 arg33), ∀ a, (k0_off130 arg33) a + S1x1x8x128.size a ≤ S4x8x24x128.size a := fun arg33 k0_hw3 => k0_hw3.2.1.2.2.2.2.2.2.2.2.2.2.2.2.2.2.2.2.2.2.2.2.2.2.2.1
theorem k0_off138_inb : ∀ (arg33 : BitVec 32) (k0_hw3 : k0_chk3 arg33), ∀ a, (k0_off138 arg33) a + S1x1x8x128.size a ≤ S4x8x24x128.size a := fun arg33 k0_hw3 => k0_hw3.2.1.2.2.2.2.2.2.2.2.2.2.2.2.2.2.2.2.2.2.2.2.2.2.2.2.1
theorem k0_off141_inb : ∀ (arg33 : BitVec 32) (k0_hw3 : k0_chk3 arg33), ∀ a, (k0_off141 arg33) a + S1x1x8x128.size a ≤ S4x8x24x128.size a := fun arg33 k0_hw3 => k0_hw3.2.1.2.2.2.2.2.2.2.2.2.2.2.2.2.2.2.2.2.2.2.2.2.2.2.2.2.1
theorem k0_off144_inb : ∀ (arg33 : BitVec 32) (k0_hw3 : k0_chk3 arg33), ∀ a, (k0_off144 arg33) a + S1x1x8x128.size a ≤ S4x8x24x128.size a := fun arg33 k0_hw3 => k0_hw3.2.1.2.2.2.2.2.2.2.2.2.2.2.2.2.2.2.2.2.2.2.2.2.2.2.2.2.2.1
theorem k0_off152_inb : ∀ (arg33 : BitVec 32) (k0_hw3 : k0_chk3 arg33), ∀ a, (k0_off152 arg33) a + S1x1x8x128.size a ≤ S4x8x24x128.size a := fun arg33 k0_hw3 => k0_hw3.2.1.2.2.2.2.2.2.2.2.2.2.2.2.2.2.2.2.2.2.2.2.2.2.2.2.2.2.2.1
theorem k0_off155_inb : ∀ (arg33 : BitVec 32) (k0_hw3 : k0_chk3 arg33), ∀ a, (k0_off155 arg33) a + S1x1x8x128.size a ≤ S4x8x24x128.size a := fun arg33 k0_hw3 => k0_hw3.2.1.2.2.2.2.2.2.2.2.2.2.2.2.2.2.2.2.2.2.2.2.2.2.2.2.2.2.2.2.1
theorem k0_off158_inb : ∀ (arg33 : BitVec 32) (k0_hw3 : k0_chk3 arg33), ∀ a, (k0_off158 arg33) a + S1x1x8x128.size a ≤ S4x8x24x128.size a := fun arg33 k0_hw3 => k0_hw3.2.1.2.2.2.2.2.2.2.2.2.2.2.2.2.2.2.2.2.2.2.2.2.2.2.2.2.2.2.2.2.1
theorem k0_off166_inb : ∀ (arg33 : BitVec 32) (k0_hw3 : k0_chk3 arg33), ∀ a, (k0_off166 arg33) a + S1x1x8x128.size a ≤ S4x8x24x128.size a := fun arg33 k0_hw3 => k0_hw3.2.1.2.2.2.2.2.2.2.2.2.2.2.2.2.2.2.2.2.2.2.2.2.2.2.2.2.2.2.2.2.2.1
theorem k0_off169_inb : ∀ (arg33 : BitVec 32) (k0_hw3 : k0_chk3 arg33), ∀ a, (k0_off169 arg33) a + S1x1x8x128.size a ≤ S4x8x24x128.size a := fun arg33 k0_hw3 => k0_hw3.2.1.2.2.2.2.2.2.2.2.2.2.2.2.2.2.2.2.2.2.2.2.2.2.2.2.2.2.2.2.2.2.2
theorem k0_off172_inb : ∀ (arg33 : BitVec 32) (k0_hw3 : k0_chk3 arg33), ∀ a, (k0_off172 arg33) a + S1x1x8x128.size a ≤ S4x8x24x128.size a := fun arg33 k0_hw3 => k0_hw3.2.2

@[reducible] def k0_t3_loop (v1227 : BitVec 32) : Scf.Loop 32 :=
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let v1248 : BitVec 32 := Scalar.addi c0_i32_790 v1247
  let c1_i32_793 : BitVec 32 := 1#32
  ⟨v1251, v1248, c1_i32_793⟩
def k0_off173 (arg36 : BitVec 32) : Fin 3 → Nat :=
  let v1269 : Index := Scalar.indexCast arg36
  let c0_804 : Index := 0#32
  let c0_805 : Index := 0#32
  ![v1269.toNat, 0, 0]

def k0_off174 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1274 : Index := Scalar.indexCast v1268
  let c0_808 : Index := 0#32
  let c0_809 : Index := 0#32
  let c0_810 : Index := 0#32
  ![v1274.toNat, 0, 0, 0]

def k0_off175 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1279 : Index := Scalar.indexCast v1268
  let c0_811 : Index := 0#32
  let c8_812 : Index := 8#32
  let c0_813 : Index := 0#32
  ![v1279.toNat, 0, 8, 0]
def k0_off176 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1284 : Index := Scalar.indexCast v1268
  let c0_814 : Index := 0#32
  let c16_815 : Index := 16#32
  let c0_816 : Index := 0#32
  ![v1284.toNat, 0, 16, 0]
def k0_off177 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1290 : Index := Scalar.indexCast v1268
  let c1_817 : Index := 1#32
  let c0_818 : Index := 0#32
  let c0_819 : Index := 0#32
  ![v1290.toNat, 1, 0, 0]
def k0_off178 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1295 : Index := Scalar.indexCast v1268
  let c1_820 : Index := 1#32
  let c8_821 : Index := 8#32
  let c0_822 : Index := 0#32
  ![v1295.toNat, 1, 8, 0]
def k0_off179 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1300 : Index := Scalar.indexCast v1268
  let c1_823 : Index := 1#32
  let c16_824 : Index := 16#32
  let c0_825 : Index := 0#32
  ![v1300.toNat, 1, 16, 0]
def k0_off180 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1311 : Index := Scalar.indexCast v1268
  let c2_830 : Index := 2#32
  let c0_831 : Index := 0#32
  let c0_832 : Index := 0#32
  ![v1311.toNat, 2, 0, 0]
def k0_off181 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1316 : Index := Scalar.indexCast v1268
  let c2_833 : Index := 2#32
  let c8_834 : Index := 8#32
  let c0_835 : Index := 0#32
  ![v1316.toNat, 2, 8, 0]
def k0_off182 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1321 : Index := Scalar.indexCast v1268
  let c2_836 : Index := 2#32
  let c16_837 : Index := 16#32
  let c0_838 : Index := 0#32
  ![v1321.toNat, 2, 16, 0]
def k0_off183 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1327 : Index := Scalar.indexCast v1268
  let c3_839 : Index := 3#32
  let c0_840 : Index := 0#32
  let c0_841 : Index := 0#32
  ![v1327.toNat, 3, 0, 0]
def k0_off184 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1332 : Index := Scalar.indexCast v1268
  let c3_842 : Index := 3#32
  let c8_843 : Index := 8#32
  let c0_844 : Index := 0#32
  ![v1332.toNat, 3, 8, 0]
def k0_off185 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1337 : Index := Scalar.indexCast v1268
  let c3_845 : Index := 3#32
  let c16_846 : Index := 16#32
  let c0_847 : Index := 0#32
  ![v1337.toNat, 3, 16, 0]
def k0_off186 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1348 : Index := Scalar.indexCast v1268
  let c4_852 : Index := 4#32
  let c0_853 : Index := 0#32
  let c0_854 : Index := 0#32
  ![v1348.toNat, 4, 0, 0]
def k0_off187 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1353 : Index := Scalar.indexCast v1268
  let c4_855 : Index := 4#32
  let c8_856 : Index := 8#32
  let c0_857 : Index := 0#32
  ![v1353.toNat, 4, 8, 0]
def k0_off188 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1358 : Index := Scalar.indexCast v1268
  let c4_858 : Index := 4#32
  let c16_859 : Index := 16#32
  let c0_860 : Index := 0#32
  ![v1358.toNat, 4, 16, 0]
def k0_off189 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1364 : Index := Scalar.indexCast v1268
  let c5_861 : Index := 5#32
  let c0_862 : Index := 0#32
  let c0_863 : Index := 0#32
  ![v1364.toNat, 5, 0, 0]
def k0_off190 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1369 : Index := Scalar.indexCast v1268
  let c5_864 : Index := 5#32
  let c8_865 : Index := 8#32
  let c0_866 : Index := 0#32
  ![v1369.toNat, 5, 8, 0]
def k0_off191 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1374 : Index := Scalar.indexCast v1268
  let c5_867 : Index := 5#32
  let c16_868 : Index := 16#32
  let c0_869 : Index := 0#32
  ![v1374.toNat, 5, 16, 0]
def k0_off192 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1385 : Index := Scalar.indexCast v1268
  let c6_874 : Index := 6#32
  let c0_875 : Index := 0#32
  let c0_876 : Index := 0#32
  ![v1385.toNat, 6, 0, 0]
def k0_off193 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1390 : Index := Scalar.indexCast v1268
  let c6_877 : Index := 6#32
  let c8_878 : Index := 8#32
  let c0_879 : Index := 0#32
  ![v1390.toNat, 6, 8, 0]
def k0_off194 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1395 : Index := Scalar.indexCast v1268
  let c6_880 : Index := 6#32
  let c16_881 : Index := 16#32
  let c0_882 : Index := 0#32
  ![v1395.toNat, 6, 16, 0]
def k0_off195 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1401 : Index := Scalar.indexCast v1268
  let c7_883 : Index := 7#32
  let c0_884 : Index := 0#32
  let c0_885 : Index := 0#32
  ![v1401.toNat, 7, 0, 0]
def k0_off196 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1406 : Index := Scalar.indexCast v1268
  let c7_886 : Index := 7#32
  let c8_887 : Index := 8#32
  let c0_888 : Index := 0#32
  ![v1406.toNat, 7, 8, 0]
def k0_off197 (arg33 : BitVec 32) : Fin 4 → Nat :=
  let c1_i32_797 : BitVec 32 := 1#32
  let v1258 : BitVec 32 := Scalar.addi arg33 c1_i32_797
  let c4_i32_798 : BitVec 32 := 4#32
  let c0_i32_799 : BitVec 32 := 0#32
  let v1259 : BitVec 1 := Scalar.cmpi .eq c4_i32_798 c0_i32_799
  let c1_i32_800 : BitVec 32 := 1#32
  let v1260 : BitVec 32 := Scalar.select v1259 c1_i32_800 c4_i32_798
  let v1261 : BitVec 32 := Scalar.remsi v1258 v1260
  let c0_i32_802 : BitVec 32 := 0#32
  let v1263 : BitVec 1 := Scalar.cmpi .slt v1261 c0_i32_802
  let c0_i32_803 : BitVec 32 := 0#32
  let v1264 : BitVec 1 := Scalar.cmpi .slt v1260 c0_i32_803
  let v1265 : BitVec 1 := Scalar.xori v1263 v1264
  let c0_i32_801 : BitVec 32 := 0#32
  let v1262 : BitVec 1 := Scalar.cmpi .ne v1261 c0_i32_801
  let v1266 : BitVec 1 := Scalar.andi v1265 v1262
  let v1267 : BitVec 32 := Scalar.addi v1261 v1260
  let v1268 : BitVec 32 := Scalar.select v1266 v1267 v1261
  let v1411 : Index := Scalar.indexCast v1268
  let c7_889 : Index := 7#32
  let c16_890 : Index := 16#32
  let c0_891 : Index := 0#32
  ![v1411.toNat, 7, 16, 0]
def k0_off198 (arg36 : BitVec 32) : Fin 3 → Nat :=
  let v1422 : Index := Scalar.indexCast arg36
  let c0_896 : Index := 0#32
  let c0_897 : Index := 0#32
  ![v1422.toNat, 0, 0]

def k0_chk14 (arg36 : BitVec 32) : Prop :=
  (∀ a, (k0_off173 arg36) a + S1x8x96.size a ≤ S97x8x96.size a) ∧
  (∀ a, (k0_off198 arg36) a + S1x8x96.size a ≤ S97x8x96.size a)
theorem k0_off173_inb : ∀ (arg36 : BitVec 32) (k0_hw14 : k0_chk14 arg36), ∀ a, (k0_off173 arg36) a + S1x8x96.size a ≤ S97x8x96.size a := fun arg36 k0_hw14 => k0_hw14.1
theorem k0_off198_inb : ∀ (arg36 : BitVec 32) (k0_hw14 : k0_chk14 arg36), ∀ a, (k0_off198 arg36) a + S1x8x96.size a ≤ S97x8x96.size a := fun arg36 k0_hw14 => k0_hw14.2

def k0_off199 (arg35 : BitVec 32) : Fin 3 → Nat :=
  let v1460 : Index := Scalar.indexCast arg35
  let c0_929 : Index := 0#32
  let c0_930 : Index := 0#32
  ![v1460.toNat, 0, 0]

def k0_chk16 (arg35 : BitVec 32) : Prop :=
  (∀ a, (k0_off199 arg35) a + S1x8x128.size a ≤ S97x8x128.size a)
theorem k0_off199_inb : ∀ (arg35 : BitVec 32) (k0_hw16 : k0_chk16 arg35), ∀ a, (k0_off199 arg35) a + S1x8x128.size a ≤ S97x8x128.size a := fun arg35 k0_hw16 => k0_hw16

def k0_off200 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1476 : Index := Scalar.indexCast v1436
  let c0_934 : Index := 0#32
  let c0_935 : Index := 0#32
  ![v1476.toNat, 0, 0]
def k0_off201 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1489 : Index := Scalar.indexCast v1436
  let c1_939 : Index := 1#32
  let c0_940 : Index := 0#32
  ![v1489.toNat, 1, 0]
def k0_off202 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1502 : Index := Scalar.indexCast v1436
  let c2_944 : Index := 2#32
  let c0_945 : Index := 0#32
  ![v1502.toNat, 2, 0]
def k0_off203 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1515 : Index := Scalar.indexCast v1436
  let c3_949 : Index := 3#32
  let c0_950 : Index := 0#32
  ![v1515.toNat, 3, 0]
def k0_off204 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1528 : Index := Scalar.indexCast v1436
  let c4_954 : Index := 4#32
  let c0_955 : Index := 0#32
  ![v1528.toNat, 4, 0]
def k0_off205 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1541 : Index := Scalar.indexCast v1436
  let c5_959 : Index := 5#32
  let c0_960 : Index := 0#32
  ![v1541.toNat, 5, 0]
def k0_off206 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1554 : Index := Scalar.indexCast v1436
  let c6_964 : Index := 6#32
  let c0_965 : Index := 0#32
  ![v1554.toNat, 6, 0]
def k0_off207 (arg33 : BitVec 32) : Fin 3 → Nat :=
  let c2_i32_898 : BitVec 32 := 2#32
  let v1426 : BitVec 32 := Scalar.addi arg33 c2_i32_898
  let c4_i32_899 : BitVec 32 := 4#32
  let c0_i32_900 : BitVec 32 := 0#32
  let v1427 : BitVec 1 := Scalar.cmpi .eq c4_i32_899 c0_i32_900
  let c1_i32_901 : BitVec 32 := 1#32
  let v1428 : BitVec 32 := Scalar.select v1427 c1_i32_901 c4_i32_899
  let v1429 : BitVec 32 := Scalar.remsi v1426 v1428
  let c0_i32_903 : BitVec 32 := 0#32
  let v1431 : BitVec 1 := Scalar.cmpi .slt v1429 c0_i32_903
  let c0_i32_904 : BitVec 32 := 0#32
  let v1432 : BitVec 1 := Scalar.cmpi .slt v1428 c0_i32_904
  let v1433 : BitVec 1 := Scalar.xori v1431 v1432
  let c0_i32_902 : BitVec 32 := 0#32
  let v1430 : BitVec 1 := Scalar.cmpi .ne v1429 c0_i32_902
  let v1434 : BitVec 1 := Scalar.andi v1433 v1430
  let v1435 : BitVec 32 := Scalar.addi v1429 v1428
  let v1436 : BitVec 32 := Scalar.select v1434 v1435 v1429
  let v1567 : Index := Scalar.indexCast v1436
  let c7_969 : Index := 7#32
  let c0_970 : Index := 0#32
  ![v1567.toNat, 7, 0]
def k0_off208 (arg34 : BitVec 32) : Fin 3 → Nat :=
  let c95_i32_987 : BitVec 32 := 95#32
  let v1599 : BitVec 32 := Scalar.minsi arg34 c95_i32_987
  let v1600 : Index := Scalar.indexCast v1599
  let c0_988 : Index := 0#32
  let c0_989 : Index := 0#32
  ![v1600.toNat, 0, 0]

def k0_chk17 (arg34 : BitVec 32) : Prop :=
  (∀ a, (k0_off208 arg34) a + S1x8x96.size a ≤ S96x8x96.size a)
theorem k0_off208_inb : ∀ (arg34 : BitVec 32) (k0_hw17 : k0_chk17 arg34), ∀ a, (k0_off208 arg34) a + S1x8x96.size a ≤ S96x8x96.size a := fun arg34 k0_hw17 => k0_hw17

def k0_off209 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1608 : Index := Scalar.indexCast v1598
  let c0_995 : Index := 0#32
  let c0_996 : Index := 0#32
  ![v1608.toNat, 0, 0]
def k0_off210 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1623 : Index := Scalar.indexCast v1598
  let c1_1003 : Index := 1#32
  let c0_1004 : Index := 0#32
  ![v1623.toNat, 1, 0]
def k0_off211 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1643 : Index := Scalar.indexCast v1598
  let c2_1016 : Index := 2#32
  let c0_1017 : Index := 0#32
  ![v1643.toNat, 2, 0]
def k0_off212 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1658 : Index := Scalar.indexCast v1598
  let c3_1024 : Index := 3#32
  let c0_1025 : Index := 0#32
  ![v1658.toNat, 3, 0]
def k0_off213 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1678 : Index := Scalar.indexCast v1598
  let c4_1037 : Index := 4#32
  let c0_1038 : Index := 0#32
  ![v1678.toNat, 4, 0]
def k0_off214 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1693 : Index := Scalar.indexCast v1598
  let c5_1045 : Index := 5#32
  let c0_1046 : Index := 0#32
  ![v1693.toNat, 5, 0]
def k0_off215 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1713 : Index := Scalar.indexCast v1598
  let c6_1058 : Index := 6#32
  let c0_1059 : Index := 0#32
  ![v1713.toNat, 6, 0]
def k0_off216 (arg33 : BitVec 32) : Fin 3 → Nat :=
  let c3_i32_980 : BitVec 32 := 3#32
  let v1588 : BitVec 32 := Scalar.addi arg33 c3_i32_980
  let c4_i32_981 : BitVec 32 := 4#32
  let c0_i32_982 : BitVec 32 := 0#32
  let v1589 : BitVec 1 := Scalar.cmpi .eq c4_i32_981 c0_i32_982
  let c1_i32_983 : BitVec 32 := 1#32
  let v1590 : BitVec 32 := Scalar.select v1589 c1_i32_983 c4_i32_981
  let v1591 : BitVec 32 := Scalar.remsi v1588 v1590
  let c0_i32_985 : BitVec 32 := 0#32
  let v1593 : BitVec 1 := Scalar.cmpi .slt v1591 c0_i32_985
  let c0_i32_986 : BitVec 32 := 0#32
  let v1594 : BitVec 1 := Scalar.cmpi .slt v1590 c0_i32_986
  let v1595 : BitVec 1 := Scalar.xori v1593 v1594
  let c0_i32_984 : BitVec 32 := 0#32
  let v1592 : BitVec 1 := Scalar.cmpi .ne v1591 c0_i32_984
  let v1596 : BitVec 1 := Scalar.andi v1595 v1592
  let v1597 : BitVec 32 := Scalar.addi v1591 v1590
  let v1598 : BitVec 32 := Scalar.select v1596 v1597 v1591
  let v1728 : Index := Scalar.indexCast v1598
  let c7_1066 : Index := 7#32
  let c0_1067 : Index := 0#32
  ![v1728.toNat, 7, 0]
def k0_mult135 (v1227 : BitVec 32) (k0_t3 : Fin (k0_t3_loop v1227).trips) : BitVec 32 :=
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  v1743
def k0_off217 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1745 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v1746 : Index := Scalar.indexCast v1744
  let c0_1075 : Index := 0#32
  ![v1745.toNat, v1746.toNat, 0]
def k0_off218 (arg33 : BitVec 32) : Fin 3 → Nat :=
  let v1749 : Index := Scalar.indexCast arg33
  let c0_1076 : Index := 0#32
  let c0_1077 : Index := 0#32
  ![v1749.toNat, 0, 0]
def k0_off219 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_1081 : BitVec 32 := 272#32
  let v1761 : BitVec 32 := Scalar.muli arg27 c272_i32_1081
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v1762 : BitVec 32 := Scalar.addi v1761 v1744
  let c0_i32_1082 : BitVec 32 := 0#32
  let v1763 : BitVec 32 := Scalar.addi v1762 c0_i32_1082
  let v1764 : Index := Scalar.indexCast v1763
  ![v1764.toNat]
def k0_off220 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1767 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c0_i32_1083 : BitVec 32 := 0#32
  let v1766 : BitVec 32 := Scalar.addi v1744 c0_i32_1083
  let v1768 : Index := Scalar.indexCast v1766
  let c0_1084 : Index := 0#32
  ![v1767.toNat, v1768.toNat, 0]
def k0_mult136 (v1765 : BitVec 32) : BitVec 32 :=
  let c0_i32_1087 : BitVec 32 := 0#32
  let v1781 : BitVec 32 := Scalar.addi v1765 c0_i32_1087
  let c128_i32 : BitVec 32 := 128#32
  let v1782 : BitVec 32 := Scalar.muli v1781 c128_i32
  v1782

def k0_off221 (k0_t1 : Fin k0_t1_loop.trips) (v1765 : BitVec 32) (c0_i32_1087 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1786 : Index := Scalar.indexCast v1163
  let c0_1089 : Index := 0#32
  let v1781 : BitVec 32 := Scalar.addi v1765 c0_i32_1087
  let c128_i32 : BitVec 32 := 128#32
  let v1782 : BitVec 32 := Scalar.muli v1781 c128_i32
  let v1783 : BitVec 32 := v1782
  let v1787 : Index := Scalar.indexCast v1783
  ![v1786.toNat, 0, v1787.toNat]
def k0_off222 (k0_t1 : Fin k0_t1_loop.trips) (v1765 : BitVec 32) (c0_i32_1087 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1791 : Index := Scalar.indexCast v1163
  let c32 : Index := 32#32
  let v1781 : BitVec 32 := Scalar.addi v1765 c0_i32_1087
  let c128_i32 : BitVec 32 := 128#32
  let v1782 : BitVec 32 := Scalar.muli v1781 c128_i32
  let v1783 : BitVec 32 := v1782
  let v1792 : Index := Scalar.indexCast v1783
  ![v1791.toNat, 32, v1792.toNat]
def k0_off223 (k0_t1 : Fin k0_t1_loop.trips) (v1765 : BitVec 32) (c0_i32_1087 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v1796 : Index := Scalar.indexCast v1163
  let c64 : Index := 64#32
  let v1781 : BitVec 32 := Scalar.addi v1765 c0_i32_1087
  let c128_i32 : BitVec 32 := 128#32
  let v1782 : BitVec 32 := Scalar.muli v1781 c128_i32
  let v1783 : BitVec 32 := v1782
  let v1797 : Index := Scalar.indexCast v1783
  ![v1796.toNat, 64, v1797.toNat]
def k0_mult137 (v1765 : BitVec 32) : BitVec 32 :=
  let c1_i32_1093 : BitVec 32 := 1#32
  let v1816 : BitVec 32 := Scalar.addi v1765 c1_i32_1093
  let c128_i32_1094 : BitVec 32 := 128#32
  let v1817 : BitVec 32 := Scalar.muli v1816 c128_i32_1094
  v1817
def k0_mult138 (v1765 : BitVec 32) : BitVec 32 :=
  let c2_i32_1102 : BitVec 32 := 2#32
  let v1857 : BitVec 32 := Scalar.addi v1765 c2_i32_1102
  let c128_i32_1103 : BitVec 32 := 128#32
  let v1858 : BitVec 32 := Scalar.muli v1857 c128_i32_1103
  v1858
def k0_mult139 (v1765 : BitVec 32) : BitVec 32 :=
  let c3_i32_1111 : BitVec 32 := 3#32
  let v1898 : BitVec 32 := Scalar.addi v1765 c3_i32_1111
  let c128_i32_1112 : BitVec 32 := 128#32
  let v1899 : BitVec 32 := Scalar.muli v1898 c128_i32_1112
  v1899
def k0_mult140 (v1765 : BitVec 32) : BitVec 32 :=
  let c4_i32_1120 : BitVec 32 := 4#32
  let v1939 : BitVec 32 := Scalar.addi v1765 c4_i32_1120
  let c128_i32_1121 : BitVec 32 := 128#32
  let v1940 : BitVec 32 := Scalar.muli v1939 c128_i32_1121
  v1940
def k0_mult141 (v1765 : BitVec 32) : BitVec 32 :=
  let c5_i32 : BitVec 32 := 5#32
  let v1980 : BitVec 32 := Scalar.addi v1765 c5_i32
  let c128_i32_1129 : BitVec 32 := 128#32
  let v1981 : BitVec 32 := Scalar.muli v1980 c128_i32_1129
  v1981
def k0_mult142 (v1765 : BitVec 32) : BitVec 32 :=
  let c6_i32 : BitVec 32 := 6#32
  let v2021 : BitVec 32 := Scalar.addi v1765 c6_i32
  let c128_i32_1137 : BitVec 32 := 128#32
  let v2022 : BitVec 32 := Scalar.muli v2021 c128_i32_1137
  v2022
def k0_mult143 (v1765 : BitVec 32) : BitVec 32 :=
  let c7_i32 : BitVec 32 := 7#32
  let v2062 : BitVec 32 := Scalar.addi v1765 c7_i32
  let c128_i32_1145 : BitVec 32 := 128#32
  let v2063 : BitVec 32 := Scalar.muli v2062 c128_i32_1145
  v2063
def k0_mult144 (v1765 : BitVec 32) : BitVec 32 :=
  let c8_i32_1153 : BitVec 32 := 8#32
  let v2103 : BitVec 32 := Scalar.addi v1765 c8_i32_1153
  let c128_i32_1154 : BitVec 32 := 128#32
  let v2104 : BitVec 32 := Scalar.muli v2103 c128_i32_1154
  v2104
def k0_mult145 (v1765 : BitVec 32) : BitVec 32 :=
  let c9_i32_1162 : BitVec 32 := 9#32
  let v2144 : BitVec 32 := Scalar.addi v1765 c9_i32_1162
  let c128_i32_1163 : BitVec 32 := 128#32
  let v2145 : BitVec 32 := Scalar.muli v2144 c128_i32_1163
  v2145
def k0_mult146 (v1765 : BitVec 32) : BitVec 32 :=
  let c10_i32 : BitVec 32 := 10#32
  let v2185 : BitVec 32 := Scalar.addi v1765 c10_i32
  let c128_i32_1171 : BitVec 32 := 128#32
  let v2186 : BitVec 32 := Scalar.muli v2185 c128_i32_1171
  v2186
def k0_mult147 (v1765 : BitVec 32) : BitVec 32 :=
  let c11_i32 : BitVec 32 := 11#32
  let v2226 : BitVec 32 := Scalar.addi v1765 c11_i32
  let c128_i32_1179 : BitVec 32 := 128#32
  let v2227 : BitVec 32 := Scalar.muli v2226 c128_i32_1179
  v2227
def k0_mult148 (v1765 : BitVec 32) : BitVec 32 :=
  let c12_i32_1187 : BitVec 32 := 12#32
  let v2267 : BitVec 32 := Scalar.addi v1765 c12_i32_1187
  let c128_i32_1188 : BitVec 32 := 128#32
  let v2268 : BitVec 32 := Scalar.muli v2267 c128_i32_1188
  v2268
def k0_mult149 (v1765 : BitVec 32) : BitVec 32 :=
  let c13_i32 : BitVec 32 := 13#32
  let v2308 : BitVec 32 := Scalar.addi v1765 c13_i32
  let c128_i32_1196 : BitVec 32 := 128#32
  let v2309 : BitVec 32 := Scalar.muli v2308 c128_i32_1196
  v2309
def k0_mult150 (v1765 : BitVec 32) : BitVec 32 :=
  let c14_i32 : BitVec 32 := 14#32
  let v2349 : BitVec 32 := Scalar.addi v1765 c14_i32
  let c128_i32_1204 : BitVec 32 := 128#32
  let v2350 : BitVec 32 := Scalar.muli v2349 c128_i32_1204
  v2350
def k0_mult151 (v1765 : BitVec 32) : BitVec 32 :=
  let c15_i32 : BitVec 32 := 15#32
  let v2390 : BitVec 32 := Scalar.addi v1765 c15_i32
  let c128_i32_1212 : BitVec 32 := 128#32
  let v2391 : BitVec 32 := Scalar.muli v2390 c128_i32_1212
  v2391

def k0_chk18 (k0_t1 : Fin k0_t1_loop.trips) (v1765 : BitVec 32) : Prop :=
  (128 ∣ (k0_mult136 v1765).toNat) ∧
  (∀ (r : Fin 16), ∀ a, (k0_off221 k0_t1 v1765 (BitVec.ofNat 32 r.val)) a + S1x32x128.size a ≤ S4x96x32768.size a) ∧
  (∀ (r : Fin 16), ∀ a, (k0_off222 k0_t1 v1765 (BitVec.ofNat 32 r.val)) a + S1x32x128.size a ≤ S4x96x32768.size a) ∧
  (∀ (r : Fin 16), ∀ a, (k0_off223 k0_t1 v1765 (BitVec.ofNat 32 r.val)) a + S1x32x128.size a ≤ S4x96x32768.size a) ∧
  (128 ∣ (k0_mult137 v1765).toNat) ∧
  (128 ∣ (k0_mult138 v1765).toNat) ∧
  (128 ∣ (k0_mult139 v1765).toNat) ∧
  (128 ∣ (k0_mult140 v1765).toNat) ∧
  (128 ∣ (k0_mult141 v1765).toNat) ∧
  (128 ∣ (k0_mult142 v1765).toNat) ∧
  (128 ∣ (k0_mult143 v1765).toNat) ∧
  (128 ∣ (k0_mult144 v1765).toNat) ∧
  (128 ∣ (k0_mult145 v1765).toNat) ∧
  (128 ∣ (k0_mult146 v1765).toNat) ∧
  (128 ∣ (k0_mult147 v1765).toNat) ∧
  (128 ∣ (k0_mult148 v1765).toNat) ∧
  (128 ∣ (k0_mult149 v1765).toNat) ∧
  (128 ∣ (k0_mult150 v1765).toNat) ∧
  (128 ∣ (k0_mult151 v1765).toNat)
theorem k0_mult136_dvd : ∀ (k0_t1 : Fin k0_t1_loop.trips) (v1765 : BitVec 32) (k0_hw18 : k0_chk18 k0_t1 v1765), 128 ∣ (k0_mult136 v1765).toNat := fun k0_t1 v1765 k0_hw18 => k0_hw18.1
theorem k0_off221_inb : ∀ (k0_t1 : Fin k0_t1_loop.trips) (v1765 : BitVec 32) (k0_hw18 : k0_chk18 k0_t1 v1765), ∀ (r : Fin 16), ∀ a, (k0_off221 k0_t1 v1765 (BitVec.ofNat 32 r.val)) a + S1x32x128.size a ≤ S4x96x32768.size a := fun k0_t1 v1765 k0_hw18 r => k0_hw18.2.1 r
theorem k0_off222_inb : ∀ (k0_t1 : Fin k0_t1_loop.trips) (v1765 : BitVec 32) (k0_hw18 : k0_chk18 k0_t1 v1765), ∀ (r : Fin 16), ∀ a, (k0_off222 k0_t1 v1765 (BitVec.ofNat 32 r.val)) a + S1x32x128.size a ≤ S4x96x32768.size a := fun k0_t1 v1765 k0_hw18 r => k0_hw18.2.2.1 r
theorem k0_off223_inb : ∀ (k0_t1 : Fin k0_t1_loop.trips) (v1765 : BitVec 32) (k0_hw18 : k0_chk18 k0_t1 v1765), ∀ (r : Fin 16), ∀ a, (k0_off223 k0_t1 v1765 (BitVec.ofNat 32 r.val)) a + S1x32x128.size a ≤ S4x96x32768.size a := fun k0_t1 v1765 k0_hw18 r => k0_hw18.2.2.2.1 r
theorem k0_mult137_dvd : ∀ (k0_t1 : Fin k0_t1_loop.trips) (v1765 : BitVec 32) (k0_hw18 : k0_chk18 k0_t1 v1765), 128 ∣ (k0_mult137 v1765).toNat := fun k0_t1 v1765 k0_hw18 => k0_hw18.2.2.2.2.1
theorem k0_mult138_dvd : ∀ (k0_t1 : Fin k0_t1_loop.trips) (v1765 : BitVec 32) (k0_hw18 : k0_chk18 k0_t1 v1765), 128 ∣ (k0_mult138 v1765).toNat := fun k0_t1 v1765 k0_hw18 => k0_hw18.2.2.2.2.2.1
theorem k0_mult139_dvd : ∀ (k0_t1 : Fin k0_t1_loop.trips) (v1765 : BitVec 32) (k0_hw18 : k0_chk18 k0_t1 v1765), 128 ∣ (k0_mult139 v1765).toNat := fun k0_t1 v1765 k0_hw18 => k0_hw18.2.2.2.2.2.2.1
theorem k0_mult140_dvd : ∀ (k0_t1 : Fin k0_t1_loop.trips) (v1765 : BitVec 32) (k0_hw18 : k0_chk18 k0_t1 v1765), 128 ∣ (k0_mult140 v1765).toNat := fun k0_t1 v1765 k0_hw18 => k0_hw18.2.2.2.2.2.2.2.1
theorem k0_mult141_dvd : ∀ (k0_t1 : Fin k0_t1_loop.trips) (v1765 : BitVec 32) (k0_hw18 : k0_chk18 k0_t1 v1765), 128 ∣ (k0_mult141 v1765).toNat := fun k0_t1 v1765 k0_hw18 => k0_hw18.2.2.2.2.2.2.2.2.1
theorem k0_mult142_dvd : ∀ (k0_t1 : Fin k0_t1_loop.trips) (v1765 : BitVec 32) (k0_hw18 : k0_chk18 k0_t1 v1765), 128 ∣ (k0_mult142 v1765).toNat := fun k0_t1 v1765 k0_hw18 => k0_hw18.2.2.2.2.2.2.2.2.2.1
theorem k0_mult143_dvd : ∀ (k0_t1 : Fin k0_t1_loop.trips) (v1765 : BitVec 32) (k0_hw18 : k0_chk18 k0_t1 v1765), 128 ∣ (k0_mult143 v1765).toNat := fun k0_t1 v1765 k0_hw18 => k0_hw18.2.2.2.2.2.2.2.2.2.2.1
theorem k0_mult144_dvd : ∀ (k0_t1 : Fin k0_t1_loop.trips) (v1765 : BitVec 32) (k0_hw18 : k0_chk18 k0_t1 v1765), 128 ∣ (k0_mult144 v1765).toNat := fun k0_t1 v1765 k0_hw18 => k0_hw18.2.2.2.2.2.2.2.2.2.2.2.1
theorem k0_mult145_dvd : ∀ (k0_t1 : Fin k0_t1_loop.trips) (v1765 : BitVec 32) (k0_hw18 : k0_chk18 k0_t1 v1765), 128 ∣ (k0_mult145 v1765).toNat := fun k0_t1 v1765 k0_hw18 => k0_hw18.2.2.2.2.2.2.2.2.2.2.2.2.1
theorem k0_mult146_dvd : ∀ (k0_t1 : Fin k0_t1_loop.trips) (v1765 : BitVec 32) (k0_hw18 : k0_chk18 k0_t1 v1765), 128 ∣ (k0_mult146 v1765).toNat := fun k0_t1 v1765 k0_hw18 => k0_hw18.2.2.2.2.2.2.2.2.2.2.2.2.2.1
theorem k0_mult147_dvd : ∀ (k0_t1 : Fin k0_t1_loop.trips) (v1765 : BitVec 32) (k0_hw18 : k0_chk18 k0_t1 v1765), 128 ∣ (k0_mult147 v1765).toNat := fun k0_t1 v1765 k0_hw18 => k0_hw18.2.2.2.2.2.2.2.2.2.2.2.2.2.2.1
theorem k0_mult148_dvd : ∀ (k0_t1 : Fin k0_t1_loop.trips) (v1765 : BitVec 32) (k0_hw18 : k0_chk18 k0_t1 v1765), 128 ∣ (k0_mult148 v1765).toNat := fun k0_t1 v1765 k0_hw18 => k0_hw18.2.2.2.2.2.2.2.2.2.2.2.2.2.2.2.1
theorem k0_mult149_dvd : ∀ (k0_t1 : Fin k0_t1_loop.trips) (v1765 : BitVec 32) (k0_hw18 : k0_chk18 k0_t1 v1765), 128 ∣ (k0_mult149 v1765).toNat := fun k0_t1 v1765 k0_hw18 => k0_hw18.2.2.2.2.2.2.2.2.2.2.2.2.2.2.2.2.1
theorem k0_mult150_dvd : ∀ (k0_t1 : Fin k0_t1_loop.trips) (v1765 : BitVec 32) (k0_hw18 : k0_chk18 k0_t1 v1765), 128 ∣ (k0_mult150 v1765).toNat := fun k0_t1 v1765 k0_hw18 => k0_hw18.2.2.2.2.2.2.2.2.2.2.2.2.2.2.2.2.2.1
theorem k0_mult151_dvd : ∀ (k0_t1 : Fin k0_t1_loop.trips) (v1765 : BitVec 32) (k0_hw18 : k0_chk18 k0_t1 v1765), 128 ∣ (k0_mult151 v1765).toNat := fun k0_t1 v1765 k0_hw18 => k0_hw18.2.2.2.2.2.2.2.2.2.2.2.2.2.2.2.2.2.2

def k0_off224 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2431 : Index := Scalar.indexCast arg27
  let c0_1220 : Index := 0#32
  let c0_1221 : Index := 0#32
  ![v2431.toNat, 0, 0]
def k0_off225 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2442 : Index := Scalar.indexCast arg27
  let c8_1224 : Index := 8#32
  let c0_1225 : Index := 0#32
  ![v2442.toNat, 8, 0]
def k0_off226 (arg33 : BitVec 32) : Fin 4 → Nat :=
  let v2462 : Index := Scalar.indexCast arg33
  let c0_1231 : Index := 0#32
  let c0_1232 : Index := 0#32
  let c0_1233 : Index := 0#32
  ![v2462.toNat, 0, 0, 0]
def k0_off227 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2466 : Index := Scalar.indexCast arg27
  let c16_1234 : Index := 16#32
  let c0_1235 : Index := 0#32
  ![v2466.toNat, 16, 0]
def k0_off228 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2477 : Index := Scalar.indexCast arg27
  let c24 : Index := 24#32
  let c0_1238 : Index := 0#32
  ![v2477.toNat, 24, 0]
def k0_off229 (arg33 : BitVec 32) : Fin 4 → Nat :=
  let v2497 : Index := Scalar.indexCast arg33
  let c0_1244 : Index := 0#32
  let c8_1245 : Index := 8#32
  let c0_1246 : Index := 0#32
  ![v2497.toNat, 0, 8, 0]
def k0_off230 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2501 : Index := Scalar.indexCast arg27
  let c32_1247 : Index := 32#32
  let c0_1248 : Index := 0#32
  ![v2501.toNat, 32, 0]
def k0_off231 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v2512 : Index := Scalar.indexCast arg27
  let c40 : Index := 40#32
  let c0_1251 : Index := 0#32
  ![v2512.toNat, 40, 0]
def k0_off232 (arg33 : BitVec 32) : Fin 4 → Nat :=
  let v2532 : Index := Scalar.indexCast arg33
  let c0_1257 : Index := 0#32
  let c16_1258 : Index := 16#32
  let c0_1259 : Index := 0#32
  ![v2532.toNat, 0, 16, 0]
def k0_off233 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_1260 : BitVec 32 := 272#32
  let v2536 : BitVec 32 := Scalar.muli arg27 c272_i32_1260
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v2537 : BitVec 32 := Scalar.addi v2536 v1744
  let c1_i32_1261 : BitVec 32 := 1#32
  let v2538 : BitVec 32 := Scalar.addi v2537 c1_i32_1261
  let v2539 : Index := Scalar.indexCast v2538
  ![v2539.toNat]
def k0_off234 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2542 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c1_i32_1262 : BitVec 32 := 1#32
  let v2541 : BitVec 32 := Scalar.addi v1744 c1_i32_1262
  let v2543 : Index := Scalar.indexCast v2541
  let c0_1263 : Index := 0#32
  ![v2542.toNat, v2543.toNat, 0]
def k0_mult152 (v2540 : BitVec 32) : BitVec 32 :=
  let c0_i32_1267 : BitVec 32 := 0#32
  let v2556 : BitVec 32 := Scalar.addi v2540 c0_i32_1267
  let c128_i32_1268 : BitVec 32 := 128#32
  let v2557 : BitVec 32 := Scalar.muli v2556 c128_i32_1268
  v2557

def k0_off235 (k0_t1 : Fin k0_t1_loop.trips) (v2540 : BitVec 32) (c0_i32_1267 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2561 : Index := Scalar.indexCast v1163
  let c0_1270 : Index := 0#32
  let v2556 : BitVec 32 := Scalar.addi v2540 c0_i32_1267
  let c128_i32_1268 : BitVec 32 := 128#32
  let v2557 : BitVec 32 := Scalar.muli v2556 c128_i32_1268
  let v2558 : BitVec 32 := v2557
  let v2562 : Index := Scalar.indexCast v2558
  ![v2561.toNat, 0, v2562.toNat]
def k0_off236 (k0_t1 : Fin k0_t1_loop.trips) (v2540 : BitVec 32) (c0_i32_1267 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2566 : Index := Scalar.indexCast v1163
  let c32_1271 : Index := 32#32
  let v2556 : BitVec 32 := Scalar.addi v2540 c0_i32_1267
  let c128_i32_1268 : BitVec 32 := 128#32
  let v2557 : BitVec 32 := Scalar.muli v2556 c128_i32_1268
  let v2558 : BitVec 32 := v2557
  let v2567 : Index := Scalar.indexCast v2558
  ![v2566.toNat, 32, v2567.toNat]
def k0_off237 (k0_t1 : Fin k0_t1_loop.trips) (v2540 : BitVec 32) (c0_i32_1267 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v2571 : Index := Scalar.indexCast v1163
  let c64_1272 : Index := 64#32
  let v2556 : BitVec 32 := Scalar.addi v2540 c0_i32_1267
  let c128_i32_1268 : BitVec 32 := 128#32
  let v2557 : BitVec 32 := Scalar.muli v2556 c128_i32_1268
  let v2558 : BitVec 32 := v2557
  let v2572 : Index := Scalar.indexCast v2558
  ![v2571.toNat, 64, v2572.toNat]
def k0_mult153 (v2540 : BitVec 32) : BitVec 32 :=
  let c1_i32_1276 : BitVec 32 := 1#32
  let v2591 : BitVec 32 := Scalar.addi v2540 c1_i32_1276
  let c128_i32_1277 : BitVec 32 := 128#32
  let v2592 : BitVec 32 := Scalar.muli v2591 c128_i32_1277
  v2592
def k0_mult154 (v2540 : BitVec 32) : BitVec 32 :=
  let c2_i32_1285 : BitVec 32 := 2#32
  let v2632 : BitVec 32 := Scalar.addi v2540 c2_i32_1285
  let c128_i32_1286 : BitVec 32 := 128#32
  let v2633 : BitVec 32 := Scalar.muli v2632 c128_i32_1286
  v2633
def k0_mult155 (v2540 : BitVec 32) : BitVec 32 :=
  let c3_i32_1294 : BitVec 32 := 3#32
  let v2673 : BitVec 32 := Scalar.addi v2540 c3_i32_1294
  let c128_i32_1295 : BitVec 32 := 128#32
  let v2674 : BitVec 32 := Scalar.muli v2673 c128_i32_1295
  v2674
def k0_mult156 (v2540 : BitVec 32) : BitVec 32 :=
  let c4_i32_1303 : BitVec 32 := 4#32
  let v2714 : BitVec 32 := Scalar.addi v2540 c4_i32_1303
  let c128_i32_1304 : BitVec 32 := 128#32
  let v2715 : BitVec 32 := Scalar.muli v2714 c128_i32_1304
  v2715
def k0_mult157 (v2540 : BitVec 32) : BitVec 32 :=
  let c5_i32_1312 : BitVec 32 := 5#32
  let v2755 : BitVec 32 := Scalar.addi v2540 c5_i32_1312
  let c128_i32_1313 : BitVec 32 := 128#32
  let v2756 : BitVec 32 := Scalar.muli v2755 c128_i32_1313
  v2756
def k0_mult158 (v2540 : BitVec 32) : BitVec 32 :=
  let c6_i32_1321 : BitVec 32 := 6#32
  let v2796 : BitVec 32 := Scalar.addi v2540 c6_i32_1321
  let c128_i32_1322 : BitVec 32 := 128#32
  let v2797 : BitVec 32 := Scalar.muli v2796 c128_i32_1322
  v2797
def k0_mult159 (v2540 : BitVec 32) : BitVec 32 :=
  let c7_i32_1330 : BitVec 32 := 7#32
  let v2837 : BitVec 32 := Scalar.addi v2540 c7_i32_1330
  let c128_i32_1331 : BitVec 32 := 128#32
  let v2838 : BitVec 32 := Scalar.muli v2837 c128_i32_1331
  v2838
def k0_mult160 (v2540 : BitVec 32) : BitVec 32 :=
  let c8_i32_1339 : BitVec 32 := 8#32
  let v2878 : BitVec 32 := Scalar.addi v2540 c8_i32_1339
  let c128_i32_1340 : BitVec 32 := 128#32
  let v2879 : BitVec 32 := Scalar.muli v2878 c128_i32_1340
  v2879
def k0_mult161 (v2540 : BitVec 32) : BitVec 32 :=
  let c9_i32_1348 : BitVec 32 := 9#32
  let v2919 : BitVec 32 := Scalar.addi v2540 c9_i32_1348
  let c128_i32_1349 : BitVec 32 := 128#32
  let v2920 : BitVec 32 := Scalar.muli v2919 c128_i32_1349
  v2920
def k0_mult162 (v2540 : BitVec 32) : BitVec 32 :=
  let c10_i32_1357 : BitVec 32 := 10#32
  let v2960 : BitVec 32 := Scalar.addi v2540 c10_i32_1357
  let c128_i32_1358 : BitVec 32 := 128#32
  let v2961 : BitVec 32 := Scalar.muli v2960 c128_i32_1358
  v2961
def k0_mult163 (v2540 : BitVec 32) : BitVec 32 :=
  let c11_i32_1366 : BitVec 32 := 11#32
  let v3001 : BitVec 32 := Scalar.addi v2540 c11_i32_1366
  let c128_i32_1367 : BitVec 32 := 128#32
  let v3002 : BitVec 32 := Scalar.muli v3001 c128_i32_1367
  v3002
def k0_mult164 (v2540 : BitVec 32) : BitVec 32 :=
  let c12_i32_1375 : BitVec 32 := 12#32
  let v3042 : BitVec 32 := Scalar.addi v2540 c12_i32_1375
  let c128_i32_1376 : BitVec 32 := 128#32
  let v3043 : BitVec 32 := Scalar.muli v3042 c128_i32_1376
  v3043
def k0_mult165 (v2540 : BitVec 32) : BitVec 32 :=
  let c13_i32_1384 : BitVec 32 := 13#32
  let v3083 : BitVec 32 := Scalar.addi v2540 c13_i32_1384
  let c128_i32_1385 : BitVec 32 := 128#32
  let v3084 : BitVec 32 := Scalar.muli v3083 c128_i32_1385
  v3084
def k0_mult166 (v2540 : BitVec 32) : BitVec 32 :=
  let c14_i32_1393 : BitVec 32 := 14#32
  let v3124 : BitVec 32 := Scalar.addi v2540 c14_i32_1393
  let c128_i32_1394 : BitVec 32 := 128#32
  let v3125 : BitVec 32 := Scalar.muli v3124 c128_i32_1394
  v3125
def k0_mult167 (v2540 : BitVec 32) : BitVec 32 :=
  let c15_i32_1402 : BitVec 32 := 15#32
  let v3165 : BitVec 32 := Scalar.addi v2540 c15_i32_1402
  let c128_i32_1403 : BitVec 32 := 128#32
  let v3166 : BitVec 32 := Scalar.muli v3165 c128_i32_1403
  v3166

def k0_chk19 (k0_t1 : Fin k0_t1_loop.trips) (v2540 : BitVec 32) : Prop :=
  (128 ∣ (k0_mult152 v2540).toNat) ∧
  (∀ (r : Fin 16), ∀ a, (k0_off235 k0_t1 v2540 (BitVec.ofNat 32 r.val)) a + S1x32x128.size a ≤ S4x96x32768.size a) ∧
  (∀ (r : Fin 16), ∀ a, (k0_off236 k0_t1 v2540 (BitVec.ofNat 32 r.val)) a + S1x32x128.size a ≤ S4x96x32768.size a) ∧
  (∀ (r : Fin 16), ∀ a, (k0_off237 k0_t1 v2540 (BitVec.ofNat 32 r.val)) a + S1x32x128.size a ≤ S4x96x32768.size a) ∧
  (128 ∣ (k0_mult153 v2540).toNat) ∧
  (128 ∣ (k0_mult154 v2540).toNat) ∧
  (128 ∣ (k0_mult155 v2540).toNat) ∧
  (128 ∣ (k0_mult156 v2540).toNat) ∧
  (128 ∣ (k0_mult157 v2540).toNat) ∧
  (128 ∣ (k0_mult158 v2540).toNat) ∧
  (128 ∣ (k0_mult159 v2540).toNat) ∧
  (128 ∣ (k0_mult160 v2540).toNat) ∧
  (128 ∣ (k0_mult161 v2540).toNat) ∧
  (128 ∣ (k0_mult162 v2540).toNat) ∧
  (128 ∣ (k0_mult163 v2540).toNat) ∧
  (128 ∣ (k0_mult164 v2540).toNat) ∧
  (128 ∣ (k0_mult165 v2540).toNat) ∧
  (128 ∣ (k0_mult166 v2540).toNat) ∧
  (128 ∣ (k0_mult167 v2540).toNat)
theorem k0_mult152_dvd : ∀ (k0_t1 : Fin k0_t1_loop.trips) (v2540 : BitVec 32) (k0_hw19 : k0_chk19 k0_t1 v2540), 128 ∣ (k0_mult152 v2540).toNat := fun k0_t1 v2540 k0_hw19 => k0_hw19.1
theorem k0_off235_inb : ∀ (k0_t1 : Fin k0_t1_loop.trips) (v2540 : BitVec 32) (k0_hw19 : k0_chk19 k0_t1 v2540), ∀ (r : Fin 16), ∀ a, (k0_off235 k0_t1 v2540 (BitVec.ofNat 32 r.val)) a + S1x32x128.size a ≤ S4x96x32768.size a := fun k0_t1 v2540 k0_hw19 r => k0_hw19.2.1 r
theorem k0_off236_inb : ∀ (k0_t1 : Fin k0_t1_loop.trips) (v2540 : BitVec 32) (k0_hw19 : k0_chk19 k0_t1 v2540), ∀ (r : Fin 16), ∀ a, (k0_off236 k0_t1 v2540 (BitVec.ofNat 32 r.val)) a + S1x32x128.size a ≤ S4x96x32768.size a := fun k0_t1 v2540 k0_hw19 r => k0_hw19.2.2.1 r
theorem k0_off237_inb : ∀ (k0_t1 : Fin k0_t1_loop.trips) (v2540 : BitVec 32) (k0_hw19 : k0_chk19 k0_t1 v2540), ∀ (r : Fin 16), ∀ a, (k0_off237 k0_t1 v2540 (BitVec.ofNat 32 r.val)) a + S1x32x128.size a ≤ S4x96x32768.size a := fun k0_t1 v2540 k0_hw19 r => k0_hw19.2.2.2.1 r
theorem k0_mult153_dvd : ∀ (k0_t1 : Fin k0_t1_loop.trips) (v2540 : BitVec 32) (k0_hw19 : k0_chk19 k0_t1 v2540), 128 ∣ (k0_mult153 v2540).toNat := fun k0_t1 v2540 k0_hw19 => k0_hw19.2.2.2.2.1
theorem k0_mult154_dvd : ∀ (k0_t1 : Fin k0_t1_loop.trips) (v2540 : BitVec 32) (k0_hw19 : k0_chk19 k0_t1 v2540), 128 ∣ (k0_mult154 v2540).toNat := fun k0_t1 v2540 k0_hw19 => k0_hw19.2.2.2.2.2.1
theorem k0_mult155_dvd : ∀ (k0_t1 : Fin k0_t1_loop.trips) (v2540 : BitVec 32) (k0_hw19 : k0_chk19 k0_t1 v2540), 128 ∣ (k0_mult155 v2540).toNat := fun k0_t1 v2540 k0_hw19 => k0_hw19.2.2.2.2.2.2.1
theorem k0_mult156_dvd : ∀ (k0_t1 : Fin k0_t1_loop.trips) (v2540 : BitVec 32) (k0_hw19 : k0_chk19 k0_t1 v2540), 128 ∣ (k0_mult156 v2540).toNat := fun k0_t1 v2540 k0_hw19 => k0_hw19.2.2.2.2.2.2.2.1
theorem k0_mult157_dvd : ∀ (k0_t1 : Fin k0_t1_loop.trips) (v2540 : BitVec 32) (k0_hw19 : k0_chk19 k0_t1 v2540), 128 ∣ (k0_mult157 v2540).toNat := fun k0_t1 v2540 k0_hw19 => k0_hw19.2.2.2.2.2.2.2.2.1
theorem k0_mult158_dvd : ∀ (k0_t1 : Fin k0_t1_loop.trips) (v2540 : BitVec 32) (k0_hw19 : k0_chk19 k0_t1 v2540), 128 ∣ (k0_mult158 v2540).toNat := fun k0_t1 v2540 k0_hw19 => k0_hw19.2.2.2.2.2.2.2.2.2.1
theorem k0_mult159_dvd : ∀ (k0_t1 : Fin k0_t1_loop.trips) (v2540 : BitVec 32) (k0_hw19 : k0_chk19 k0_t1 v2540), 128 ∣ (k0_mult159 v2540).toNat := fun k0_t1 v2540 k0_hw19 => k0_hw19.2.2.2.2.2.2.2.2.2.2.1
theorem k0_mult160_dvd : ∀ (k0_t1 : Fin k0_t1_loop.trips) (v2540 : BitVec 32) (k0_hw19 : k0_chk19 k0_t1 v2540), 128 ∣ (k0_mult160 v2540).toNat := fun k0_t1 v2540 k0_hw19 => k0_hw19.2.2.2.2.2.2.2.2.2.2.2.1
theorem k0_mult161_dvd : ∀ (k0_t1 : Fin k0_t1_loop.trips) (v2540 : BitVec 32) (k0_hw19 : k0_chk19 k0_t1 v2540), 128 ∣ (k0_mult161 v2540).toNat := fun k0_t1 v2540 k0_hw19 => k0_hw19.2.2.2.2.2.2.2.2.2.2.2.2.1
theorem k0_mult162_dvd : ∀ (k0_t1 : Fin k0_t1_loop.trips) (v2540 : BitVec 32) (k0_hw19 : k0_chk19 k0_t1 v2540), 128 ∣ (k0_mult162 v2540).toNat := fun k0_t1 v2540 k0_hw19 => k0_hw19.2.2.2.2.2.2.2.2.2.2.2.2.2.1
theorem k0_mult163_dvd : ∀ (k0_t1 : Fin k0_t1_loop.trips) (v2540 : BitVec 32) (k0_hw19 : k0_chk19 k0_t1 v2540), 128 ∣ (k0_mult163 v2540).toNat := fun k0_t1 v2540 k0_hw19 => k0_hw19.2.2.2.2.2.2.2.2.2.2.2.2.2.2.1
theorem k0_mult164_dvd : ∀ (k0_t1 : Fin k0_t1_loop.trips) (v2540 : BitVec 32) (k0_hw19 : k0_chk19 k0_t1 v2540), 128 ∣ (k0_mult164 v2540).toNat := fun k0_t1 v2540 k0_hw19 => k0_hw19.2.2.2.2.2.2.2.2.2.2.2.2.2.2.2.1
theorem k0_mult165_dvd : ∀ (k0_t1 : Fin k0_t1_loop.trips) (v2540 : BitVec 32) (k0_hw19 : k0_chk19 k0_t1 v2540), 128 ∣ (k0_mult165 v2540).toNat := fun k0_t1 v2540 k0_hw19 => k0_hw19.2.2.2.2.2.2.2.2.2.2.2.2.2.2.2.2.1
theorem k0_mult166_dvd : ∀ (k0_t1 : Fin k0_t1_loop.trips) (v2540 : BitVec 32) (k0_hw19 : k0_chk19 k0_t1 v2540), 128 ∣ (k0_mult166 v2540).toNat := fun k0_t1 v2540 k0_hw19 => k0_hw19.2.2.2.2.2.2.2.2.2.2.2.2.2.2.2.2.2.1
theorem k0_mult167_dvd : ∀ (k0_t1 : Fin k0_t1_loop.trips) (v2540 : BitVec 32) (k0_hw19 : k0_chk19 k0_t1 v2540), 128 ∣ (k0_mult167 v2540).toNat := fun k0_t1 v2540 k0_hw19 => k0_hw19.2.2.2.2.2.2.2.2.2.2.2.2.2.2.2.2.2.2

def k0_off238 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3206 : Index := Scalar.indexCast arg27
  let c0_1411 : Index := 0#32
  let c0_1412 : Index := 0#32
  ![v3206.toNat, 0, 0]
def k0_off239 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3217 : Index := Scalar.indexCast arg27
  let c8_1415 : Index := 8#32
  let c0_1416 : Index := 0#32
  ![v3217.toNat, 8, 0]
def k0_off240 (arg33 : BitVec 32) : Fin 4 → Nat :=
  let v3237 : Index := Scalar.indexCast arg33
  let c1_1422 : Index := 1#32
  let c0_1423 : Index := 0#32
  let c0_1424 : Index := 0#32
  ![v3237.toNat, 1, 0, 0]
def k0_off241 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3241 : Index := Scalar.indexCast arg27
  let c16_1425 : Index := 16#32
  let c0_1426 : Index := 0#32
  ![v3241.toNat, 16, 0]
def k0_off242 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3252 : Index := Scalar.indexCast arg27
  let c24_1429 : Index := 24#32
  let c0_1430 : Index := 0#32
  ![v3252.toNat, 24, 0]
def k0_off243 (arg33 : BitVec 32) : Fin 4 → Nat :=
  let v3272 : Index := Scalar.indexCast arg33
  let c1_1436 : Index := 1#32
  let c8_1437 : Index := 8#32
  let c0_1438 : Index := 0#32
  ![v3272.toNat, 1, 8, 0]
def k0_off244 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3276 : Index := Scalar.indexCast arg27
  let c32_1439 : Index := 32#32
  let c0_1440 : Index := 0#32
  ![v3276.toNat, 32, 0]
def k0_off245 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3287 : Index := Scalar.indexCast arg27
  let c40_1443 : Index := 40#32
  let c0_1444 : Index := 0#32
  ![v3287.toNat, 40, 0]
def k0_off246 (arg33 : BitVec 32) : Fin 4 → Nat :=
  let v3307 : Index := Scalar.indexCast arg33
  let c1_1450 : Index := 1#32
  let c16_1451 : Index := 16#32
  let c0_1452 : Index := 0#32
  ![v3307.toNat, 1, 16, 0]
def k0_off247 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_1453 : BitVec 32 := 272#32
  let v3311 : BitVec 32 := Scalar.muli arg27 c272_i32_1453
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v3312 : BitVec 32 := Scalar.addi v3311 v1744
  let c2_i32_1454 : BitVec 32 := 2#32
  let v3313 : BitVec 32 := Scalar.addi v3312 c2_i32_1454
  let v3314 : Index := Scalar.indexCast v3313
  ![v3314.toNat]
def k0_off248 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3317 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c2_i32_1455 : BitVec 32 := 2#32
  let v3316 : BitVec 32 := Scalar.addi v1744 c2_i32_1455
  let v3318 : Index := Scalar.indexCast v3316
  let c0_1456 : Index := 0#32
  ![v3317.toNat, v3318.toNat, 0]
def k0_mult168 (v3315 : BitVec 32) : BitVec 32 :=
  let c0_i32_1460 : BitVec 32 := 0#32
  let v3331 : BitVec 32 := Scalar.addi v3315 c0_i32_1460
  let c128_i32_1461 : BitVec 32 := 128#32
  let v3332 : BitVec 32 := Scalar.muli v3331 c128_i32_1461
  v3332

def k0_off249 (k0_t1 : Fin k0_t1_loop.trips) (v3315 : BitVec 32) (c0_i32_1460 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3336 : Index := Scalar.indexCast v1163
  let c0_1463 : Index := 0#32
  let v3331 : BitVec 32 := Scalar.addi v3315 c0_i32_1460
  let c128_i32_1461 : BitVec 32 := 128#32
  let v3332 : BitVec 32 := Scalar.muli v3331 c128_i32_1461
  let v3333 : BitVec 32 := v3332
  let v3337 : Index := Scalar.indexCast v3333
  ![v3336.toNat, 0, v3337.toNat]
def k0_off250 (k0_t1 : Fin k0_t1_loop.trips) (v3315 : BitVec 32) (c0_i32_1460 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3341 : Index := Scalar.indexCast v1163
  let c32_1464 : Index := 32#32
  let v3331 : BitVec 32 := Scalar.addi v3315 c0_i32_1460
  let c128_i32_1461 : BitVec 32 := 128#32
  let v3332 : BitVec 32 := Scalar.muli v3331 c128_i32_1461
  let v3333 : BitVec 32 := v3332
  let v3342 : Index := Scalar.indexCast v3333
  ![v3341.toNat, 32, v3342.toNat]
def k0_off251 (k0_t1 : Fin k0_t1_loop.trips) (v3315 : BitVec 32) (c0_i32_1460 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v3346 : Index := Scalar.indexCast v1163
  let c64_1465 : Index := 64#32
  let v3331 : BitVec 32 := Scalar.addi v3315 c0_i32_1460
  let c128_i32_1461 : BitVec 32 := 128#32
  let v3332 : BitVec 32 := Scalar.muli v3331 c128_i32_1461
  let v3333 : BitVec 32 := v3332
  let v3347 : Index := Scalar.indexCast v3333
  ![v3346.toNat, 64, v3347.toNat]
def k0_mult169 (v3315 : BitVec 32) : BitVec 32 :=
  let c1_i32_1469 : BitVec 32 := 1#32
  let v3366 : BitVec 32 := Scalar.addi v3315 c1_i32_1469
  let c128_i32_1470 : BitVec 32 := 128#32
  let v3367 : BitVec 32 := Scalar.muli v3366 c128_i32_1470
  v3367
def k0_mult170 (v3315 : BitVec 32) : BitVec 32 :=
  let c2_i32_1478 : BitVec 32 := 2#32
  let v3407 : BitVec 32 := Scalar.addi v3315 c2_i32_1478
  let c128_i32_1479 : BitVec 32 := 128#32
  let v3408 : BitVec 32 := Scalar.muli v3407 c128_i32_1479
  v3408
def k0_mult171 (v3315 : BitVec 32) : BitVec 32 :=
  let c3_i32_1487 : BitVec 32 := 3#32
  let v3448 : BitVec 32 := Scalar.addi v3315 c3_i32_1487
  let c128_i32_1488 : BitVec 32 := 128#32
  let v3449 : BitVec 32 := Scalar.muli v3448 c128_i32_1488
  v3449
def k0_mult172 (v3315 : BitVec 32) : BitVec 32 :=
  let c4_i32_1496 : BitVec 32 := 4#32
  let v3489 : BitVec 32 := Scalar.addi v3315 c4_i32_1496
  let c128_i32_1497 : BitVec 32 := 128#32
  let v3490 : BitVec 32 := Scalar.muli v3489 c128_i32_1497
  v3490
def k0_mult173 (v3315 : BitVec 32) : BitVec 32 :=
  let c5_i32_1505 : BitVec 32 := 5#32
  let v3530 : BitVec 32 := Scalar.addi v3315 c5_i32_1505
  let c128_i32_1506 : BitVec 32 := 128#32
  let v3531 : BitVec 32 := Scalar.muli v3530 c128_i32_1506
  v3531
def k0_mult174 (v3315 : BitVec 32) : BitVec 32 :=
  let c6_i32_1514 : BitVec 32 := 6#32
  let v3571 : BitVec 32 := Scalar.addi v3315 c6_i32_1514
  let c128_i32_1515 : BitVec 32 := 128#32
  let v3572 : BitVec 32 := Scalar.muli v3571 c128_i32_1515
  v3572
def k0_mult175 (v3315 : BitVec 32) : BitVec 32 :=
  let c7_i32_1523 : BitVec 32 := 7#32
  let v3612 : BitVec 32 := Scalar.addi v3315 c7_i32_1523
  let c128_i32_1524 : BitVec 32 := 128#32
  let v3613 : BitVec 32 := Scalar.muli v3612 c128_i32_1524
  v3613
def k0_mult176 (v3315 : BitVec 32) : BitVec 32 :=
  let c8_i32_1532 : BitVec 32 := 8#32
  let v3653 : BitVec 32 := Scalar.addi v3315 c8_i32_1532
  let c128_i32_1533 : BitVec 32 := 128#32
  let v3654 : BitVec 32 := Scalar.muli v3653 c128_i32_1533
  v3654
def k0_mult177 (v3315 : BitVec 32) : BitVec 32 :=
  let c9_i32_1541 : BitVec 32 := 9#32
  let v3694 : BitVec 32 := Scalar.addi v3315 c9_i32_1541
  let c128_i32_1542 : BitVec 32 := 128#32
  let v3695 : BitVec 32 := Scalar.muli v3694 c128_i32_1542
  v3695
def k0_mult178 (v3315 : BitVec 32) : BitVec 32 :=
  let c10_i32_1550 : BitVec 32 := 10#32
  let v3735 : BitVec 32 := Scalar.addi v3315 c10_i32_1550
  let c128_i32_1551 : BitVec 32 := 128#32
  let v3736 : BitVec 32 := Scalar.muli v3735 c128_i32_1551
  v3736
def k0_mult179 (v3315 : BitVec 32) : BitVec 32 :=
  let c11_i32_1559 : BitVec 32 := 11#32
  let v3776 : BitVec 32 := Scalar.addi v3315 c11_i32_1559
  let c128_i32_1560 : BitVec 32 := 128#32
  let v3777 : BitVec 32 := Scalar.muli v3776 c128_i32_1560
  v3777
def k0_mult180 (v3315 : BitVec 32) : BitVec 32 :=
  let c12_i32_1568 : BitVec 32 := 12#32
  let v3817 : BitVec 32 := Scalar.addi v3315 c12_i32_1568
  let c128_i32_1569 : BitVec 32 := 128#32
  let v3818 : BitVec 32 := Scalar.muli v3817 c128_i32_1569
  v3818
def k0_mult181 (v3315 : BitVec 32) : BitVec 32 :=
  let c13_i32_1577 : BitVec 32 := 13#32
  let v3858 : BitVec 32 := Scalar.addi v3315 c13_i32_1577
  let c128_i32_1578 : BitVec 32 := 128#32
  let v3859 : BitVec 32 := Scalar.muli v3858 c128_i32_1578
  v3859
def k0_mult182 (v3315 : BitVec 32) : BitVec 32 :=
  let c14_i32_1586 : BitVec 32 := 14#32
  let v3899 : BitVec 32 := Scalar.addi v3315 c14_i32_1586
  let c128_i32_1587 : BitVec 32 := 128#32
  let v3900 : BitVec 32 := Scalar.muli v3899 c128_i32_1587
  v3900
def k0_mult183 (v3315 : BitVec 32) : BitVec 32 :=
  let c15_i32_1595 : BitVec 32 := 15#32
  let v3940 : BitVec 32 := Scalar.addi v3315 c15_i32_1595
  let c128_i32_1596 : BitVec 32 := 128#32
  let v3941 : BitVec 32 := Scalar.muli v3940 c128_i32_1596
  v3941

def k0_chk20 (k0_t1 : Fin k0_t1_loop.trips) (v3315 : BitVec 32) : Prop :=
  (128 ∣ (k0_mult168 v3315).toNat) ∧
  (∀ (r : Fin 16), ∀ a, (k0_off249 k0_t1 v3315 (BitVec.ofNat 32 r.val)) a + S1x32x128.size a ≤ S4x96x32768.size a) ∧
  (∀ (r : Fin 16), ∀ a, (k0_off250 k0_t1 v3315 (BitVec.ofNat 32 r.val)) a + S1x32x128.size a ≤ S4x96x32768.size a) ∧
  (∀ (r : Fin 16), ∀ a, (k0_off251 k0_t1 v3315 (BitVec.ofNat 32 r.val)) a + S1x32x128.size a ≤ S4x96x32768.size a) ∧
  (128 ∣ (k0_mult169 v3315).toNat) ∧
  (128 ∣ (k0_mult170 v3315).toNat) ∧
  (128 ∣ (k0_mult171 v3315).toNat) ∧
  (128 ∣ (k0_mult172 v3315).toNat) ∧
  (128 ∣ (k0_mult173 v3315).toNat) ∧
  (128 ∣ (k0_mult174 v3315).toNat) ∧
  (128 ∣ (k0_mult175 v3315).toNat) ∧
  (128 ∣ (k0_mult176 v3315).toNat) ∧
  (128 ∣ (k0_mult177 v3315).toNat) ∧
  (128 ∣ (k0_mult178 v3315).toNat) ∧
  (128 ∣ (k0_mult179 v3315).toNat) ∧
  (128 ∣ (k0_mult180 v3315).toNat) ∧
  (128 ∣ (k0_mult181 v3315).toNat) ∧
  (128 ∣ (k0_mult182 v3315).toNat) ∧
  (128 ∣ (k0_mult183 v3315).toNat)
theorem k0_mult168_dvd : ∀ (k0_t1 : Fin k0_t1_loop.trips) (v3315 : BitVec 32) (k0_hw20 : k0_chk20 k0_t1 v3315), 128 ∣ (k0_mult168 v3315).toNat := fun k0_t1 v3315 k0_hw20 => k0_hw20.1
theorem k0_off249_inb : ∀ (k0_t1 : Fin k0_t1_loop.trips) (v3315 : BitVec 32) (k0_hw20 : k0_chk20 k0_t1 v3315), ∀ (r : Fin 16), ∀ a, (k0_off249 k0_t1 v3315 (BitVec.ofNat 32 r.val)) a + S1x32x128.size a ≤ S4x96x32768.size a := fun k0_t1 v3315 k0_hw20 r => k0_hw20.2.1 r
theorem k0_off250_inb : ∀ (k0_t1 : Fin k0_t1_loop.trips) (v3315 : BitVec 32) (k0_hw20 : k0_chk20 k0_t1 v3315), ∀ (r : Fin 16), ∀ a, (k0_off250 k0_t1 v3315 (BitVec.ofNat 32 r.val)) a + S1x32x128.size a ≤ S4x96x32768.size a := fun k0_t1 v3315 k0_hw20 r => k0_hw20.2.2.1 r
theorem k0_off251_inb : ∀ (k0_t1 : Fin k0_t1_loop.trips) (v3315 : BitVec 32) (k0_hw20 : k0_chk20 k0_t1 v3315), ∀ (r : Fin 16), ∀ a, (k0_off251 k0_t1 v3315 (BitVec.ofNat 32 r.val)) a + S1x32x128.size a ≤ S4x96x32768.size a := fun k0_t1 v3315 k0_hw20 r => k0_hw20.2.2.2.1 r
theorem k0_mult169_dvd : ∀ (k0_t1 : Fin k0_t1_loop.trips) (v3315 : BitVec 32) (k0_hw20 : k0_chk20 k0_t1 v3315), 128 ∣ (k0_mult169 v3315).toNat := fun k0_t1 v3315 k0_hw20 => k0_hw20.2.2.2.2.1
theorem k0_mult170_dvd : ∀ (k0_t1 : Fin k0_t1_loop.trips) (v3315 : BitVec 32) (k0_hw20 : k0_chk20 k0_t1 v3315), 128 ∣ (k0_mult170 v3315).toNat := fun k0_t1 v3315 k0_hw20 => k0_hw20.2.2.2.2.2.1
theorem k0_mult171_dvd : ∀ (k0_t1 : Fin k0_t1_loop.trips) (v3315 : BitVec 32) (k0_hw20 : k0_chk20 k0_t1 v3315), 128 ∣ (k0_mult171 v3315).toNat := fun k0_t1 v3315 k0_hw20 => k0_hw20.2.2.2.2.2.2.1
theorem k0_mult172_dvd : ∀ (k0_t1 : Fin k0_t1_loop.trips) (v3315 : BitVec 32) (k0_hw20 : k0_chk20 k0_t1 v3315), 128 ∣ (k0_mult172 v3315).toNat := fun k0_t1 v3315 k0_hw20 => k0_hw20.2.2.2.2.2.2.2.1
theorem k0_mult173_dvd : ∀ (k0_t1 : Fin k0_t1_loop.trips) (v3315 : BitVec 32) (k0_hw20 : k0_chk20 k0_t1 v3315), 128 ∣ (k0_mult173 v3315).toNat := fun k0_t1 v3315 k0_hw20 => k0_hw20.2.2.2.2.2.2.2.2.1
theorem k0_mult174_dvd : ∀ (k0_t1 : Fin k0_t1_loop.trips) (v3315 : BitVec 32) (k0_hw20 : k0_chk20 k0_t1 v3315), 128 ∣ (k0_mult174 v3315).toNat := fun k0_t1 v3315 k0_hw20 => k0_hw20.2.2.2.2.2.2.2.2.2.1
theorem k0_mult175_dvd : ∀ (k0_t1 : Fin k0_t1_loop.trips) (v3315 : BitVec 32) (k0_hw20 : k0_chk20 k0_t1 v3315), 128 ∣ (k0_mult175 v3315).toNat := fun k0_t1 v3315 k0_hw20 => k0_hw20.2.2.2.2.2.2.2.2.2.2.1
theorem k0_mult176_dvd : ∀ (k0_t1 : Fin k0_t1_loop.trips) (v3315 : BitVec 32) (k0_hw20 : k0_chk20 k0_t1 v3315), 128 ∣ (k0_mult176 v3315).toNat := fun k0_t1 v3315 k0_hw20 => k0_hw20.2.2.2.2.2.2.2.2.2.2.2.1
theorem k0_mult177_dvd : ∀ (k0_t1 : Fin k0_t1_loop.trips) (v3315 : BitVec 32) (k0_hw20 : k0_chk20 k0_t1 v3315), 128 ∣ (k0_mult177 v3315).toNat := fun k0_t1 v3315 k0_hw20 => k0_hw20.2.2.2.2.2.2.2.2.2.2.2.2.1
theorem k0_mult178_dvd : ∀ (k0_t1 : Fin k0_t1_loop.trips) (v3315 : BitVec 32) (k0_hw20 : k0_chk20 k0_t1 v3315), 128 ∣ (k0_mult178 v3315).toNat := fun k0_t1 v3315 k0_hw20 => k0_hw20.2.2.2.2.2.2.2.2.2.2.2.2.2.1
theorem k0_mult179_dvd : ∀ (k0_t1 : Fin k0_t1_loop.trips) (v3315 : BitVec 32) (k0_hw20 : k0_chk20 k0_t1 v3315), 128 ∣ (k0_mult179 v3315).toNat := fun k0_t1 v3315 k0_hw20 => k0_hw20.2.2.2.2.2.2.2.2.2.2.2.2.2.2.1
theorem k0_mult180_dvd : ∀ (k0_t1 : Fin k0_t1_loop.trips) (v3315 : BitVec 32) (k0_hw20 : k0_chk20 k0_t1 v3315), 128 ∣ (k0_mult180 v3315).toNat := fun k0_t1 v3315 k0_hw20 => k0_hw20.2.2.2.2.2.2.2.2.2.2.2.2.2.2.2.1
theorem k0_mult181_dvd : ∀ (k0_t1 : Fin k0_t1_loop.trips) (v3315 : BitVec 32) (k0_hw20 : k0_chk20 k0_t1 v3315), 128 ∣ (k0_mult181 v3315).toNat := fun k0_t1 v3315 k0_hw20 => k0_hw20.2.2.2.2.2.2.2.2.2.2.2.2.2.2.2.2.1
theorem k0_mult182_dvd : ∀ (k0_t1 : Fin k0_t1_loop.trips) (v3315 : BitVec 32) (k0_hw20 : k0_chk20 k0_t1 v3315), 128 ∣ (k0_mult182 v3315).toNat := fun k0_t1 v3315 k0_hw20 => k0_hw20.2.2.2.2.2.2.2.2.2.2.2.2.2.2.2.2.2.1
theorem k0_mult183_dvd : ∀ (k0_t1 : Fin k0_t1_loop.trips) (v3315 : BitVec 32) (k0_hw20 : k0_chk20 k0_t1 v3315), 128 ∣ (k0_mult183 v3315).toNat := fun k0_t1 v3315 k0_hw20 => k0_hw20.2.2.2.2.2.2.2.2.2.2.2.2.2.2.2.2.2.2

def k0_off252 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3981 : Index := Scalar.indexCast arg27
  let c0_1604 : Index := 0#32
  let c0_1605 : Index := 0#32
  ![v3981.toNat, 0, 0]
def k0_off253 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v3992 : Index := Scalar.indexCast arg27
  let c8_1608 : Index := 8#32
  let c0_1609 : Index := 0#32
  ![v3992.toNat, 8, 0]
def k0_off254 (arg33 : BitVec 32) : Fin 4 → Nat :=
  let v4012 : Index := Scalar.indexCast arg33
  let c2_1615 : Index := 2#32
  let c0_1616 : Index := 0#32
  let c0_1617 : Index := 0#32
  ![v4012.toNat, 2, 0, 0]
def k0_off255 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4016 : Index := Scalar.indexCast arg27
  let c16_1618 : Index := 16#32
  let c0_1619 : Index := 0#32
  ![v4016.toNat, 16, 0]
def k0_off256 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4027 : Index := Scalar.indexCast arg27
  let c24_1622 : Index := 24#32
  let c0_1623 : Index := 0#32
  ![v4027.toNat, 24, 0]
def k0_off257 (arg33 : BitVec 32) : Fin 4 → Nat :=
  let v4047 : Index := Scalar.indexCast arg33
  let c2_1629 : Index := 2#32
  let c8_1630 : Index := 8#32
  let c0_1631 : Index := 0#32
  ![v4047.toNat, 2, 8, 0]
def k0_off258 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4051 : Index := Scalar.indexCast arg27
  let c32_1632 : Index := 32#32
  let c0_1633 : Index := 0#32
  ![v4051.toNat, 32, 0]
def k0_off259 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4062 : Index := Scalar.indexCast arg27
  let c40_1636 : Index := 40#32
  let c0_1637 : Index := 0#32
  ![v4062.toNat, 40, 0]
def k0_off260 (arg33 : BitVec 32) : Fin 4 → Nat :=
  let v4082 : Index := Scalar.indexCast arg33
  let c2_1643 : Index := 2#32
  let c16_1644 : Index := 16#32
  let c0_1645 : Index := 0#32
  ![v4082.toNat, 2, 16, 0]
def k0_off261 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_1646 : BitVec 32 := 272#32
  let v4086 : BitVec 32 := Scalar.muli arg27 c272_i32_1646
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v4087 : BitVec 32 := Scalar.addi v4086 v1744
  let c3_i32_1647 : BitVec 32 := 3#32
  let v4088 : BitVec 32 := Scalar.addi v4087 c3_i32_1647
  let v4089 : Index := Scalar.indexCast v4088
  ![v4089.toNat]
def k0_off262 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4092 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c3_i32_1648 : BitVec 32 := 3#32
  let v4091 : BitVec 32 := Scalar.addi v1744 c3_i32_1648
  let v4093 : Index := Scalar.indexCast v4091
  let c0_1649 : Index := 0#32
  ![v4092.toNat, v4093.toNat, 0]
def k0_mult184 (v4090 : BitVec 32) : BitVec 32 :=
  let c0_i32_1653 : BitVec 32 := 0#32
  let v4106 : BitVec 32 := Scalar.addi v4090 c0_i32_1653
  let c128_i32_1654 : BitVec 32 := 128#32
  let v4107 : BitVec 32 := Scalar.muli v4106 c128_i32_1654
  v4107

def k0_off263 (k0_t1 : Fin k0_t1_loop.trips) (v4090 : BitVec 32) (c0_i32_1653 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4111 : Index := Scalar.indexCast v1163
  let c0_1656 : Index := 0#32
  let v4106 : BitVec 32 := Scalar.addi v4090 c0_i32_1653
  let c128_i32_1654 : BitVec 32 := 128#32
  let v4107 : BitVec 32 := Scalar.muli v4106 c128_i32_1654
  let v4108 : BitVec 32 := v4107
  let v4112 : Index := Scalar.indexCast v4108
  ![v4111.toNat, 0, v4112.toNat]
def k0_off264 (k0_t1 : Fin k0_t1_loop.trips) (v4090 : BitVec 32) (c0_i32_1653 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4116 : Index := Scalar.indexCast v1163
  let c32_1657 : Index := 32#32
  let v4106 : BitVec 32 := Scalar.addi v4090 c0_i32_1653
  let c128_i32_1654 : BitVec 32 := 128#32
  let v4107 : BitVec 32 := Scalar.muli v4106 c128_i32_1654
  let v4108 : BitVec 32 := v4107
  let v4117 : Index := Scalar.indexCast v4108
  ![v4116.toNat, 32, v4117.toNat]
def k0_off265 (k0_t1 : Fin k0_t1_loop.trips) (v4090 : BitVec 32) (c0_i32_1653 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4121 : Index := Scalar.indexCast v1163
  let c64_1658 : Index := 64#32
  let v4106 : BitVec 32 := Scalar.addi v4090 c0_i32_1653
  let c128_i32_1654 : BitVec 32 := 128#32
  let v4107 : BitVec 32 := Scalar.muli v4106 c128_i32_1654
  let v4108 : BitVec 32 := v4107
  let v4122 : Index := Scalar.indexCast v4108
  ![v4121.toNat, 64, v4122.toNat]
def k0_mult185 (v4090 : BitVec 32) : BitVec 32 :=
  let c1_i32_1662 : BitVec 32 := 1#32
  let v4141 : BitVec 32 := Scalar.addi v4090 c1_i32_1662
  let c128_i32_1663 : BitVec 32 := 128#32
  let v4142 : BitVec 32 := Scalar.muli v4141 c128_i32_1663
  v4142
def k0_mult186 (v4090 : BitVec 32) : BitVec 32 :=
  let c2_i32_1671 : BitVec 32 := 2#32
  let v4182 : BitVec 32 := Scalar.addi v4090 c2_i32_1671
  let c128_i32_1672 : BitVec 32 := 128#32
  let v4183 : BitVec 32 := Scalar.muli v4182 c128_i32_1672
  v4183
def k0_mult187 (v4090 : BitVec 32) : BitVec 32 :=
  let c3_i32_1680 : BitVec 32 := 3#32
  let v4223 : BitVec 32 := Scalar.addi v4090 c3_i32_1680
  let c128_i32_1681 : BitVec 32 := 128#32
  let v4224 : BitVec 32 := Scalar.muli v4223 c128_i32_1681
  v4224
def k0_mult188 (v4090 : BitVec 32) : BitVec 32 :=
  let c4_i32_1689 : BitVec 32 := 4#32
  let v4264 : BitVec 32 := Scalar.addi v4090 c4_i32_1689
  let c128_i32_1690 : BitVec 32 := 128#32
  let v4265 : BitVec 32 := Scalar.muli v4264 c128_i32_1690
  v4265
def k0_mult189 (v4090 : BitVec 32) : BitVec 32 :=
  let c5_i32_1698 : BitVec 32 := 5#32
  let v4305 : BitVec 32 := Scalar.addi v4090 c5_i32_1698
  let c128_i32_1699 : BitVec 32 := 128#32
  let v4306 : BitVec 32 := Scalar.muli v4305 c128_i32_1699
  v4306
def k0_mult190 (v4090 : BitVec 32) : BitVec 32 :=
  let c6_i32_1707 : BitVec 32 := 6#32
  let v4346 : BitVec 32 := Scalar.addi v4090 c6_i32_1707
  let c128_i32_1708 : BitVec 32 := 128#32
  let v4347 : BitVec 32 := Scalar.muli v4346 c128_i32_1708
  v4347
def k0_mult191 (v4090 : BitVec 32) : BitVec 32 :=
  let c7_i32_1716 : BitVec 32 := 7#32
  let v4387 : BitVec 32 := Scalar.addi v4090 c7_i32_1716
  let c128_i32_1717 : BitVec 32 := 128#32
  let v4388 : BitVec 32 := Scalar.muli v4387 c128_i32_1717
  v4388
def k0_mult192 (v4090 : BitVec 32) : BitVec 32 :=
  let c8_i32_1725 : BitVec 32 := 8#32
  let v4428 : BitVec 32 := Scalar.addi v4090 c8_i32_1725
  let c128_i32_1726 : BitVec 32 := 128#32
  let v4429 : BitVec 32 := Scalar.muli v4428 c128_i32_1726
  v4429
def k0_mult193 (v4090 : BitVec 32) : BitVec 32 :=
  let c9_i32_1734 : BitVec 32 := 9#32
  let v4469 : BitVec 32 := Scalar.addi v4090 c9_i32_1734
  let c128_i32_1735 : BitVec 32 := 128#32
  let v4470 : BitVec 32 := Scalar.muli v4469 c128_i32_1735
  v4470
def k0_mult194 (v4090 : BitVec 32) : BitVec 32 :=
  let c10_i32_1743 : BitVec 32 := 10#32
  let v4510 : BitVec 32 := Scalar.addi v4090 c10_i32_1743
  let c128_i32_1744 : BitVec 32 := 128#32
  let v4511 : BitVec 32 := Scalar.muli v4510 c128_i32_1744
  v4511
def k0_mult195 (v4090 : BitVec 32) : BitVec 32 :=
  let c11_i32_1752 : BitVec 32 := 11#32
  let v4551 : BitVec 32 := Scalar.addi v4090 c11_i32_1752
  let c128_i32_1753 : BitVec 32 := 128#32
  let v4552 : BitVec 32 := Scalar.muli v4551 c128_i32_1753
  v4552
def k0_mult196 (v4090 : BitVec 32) : BitVec 32 :=
  let c12_i32_1761 : BitVec 32 := 12#32
  let v4592 : BitVec 32 := Scalar.addi v4090 c12_i32_1761
  let c128_i32_1762 : BitVec 32 := 128#32
  let v4593 : BitVec 32 := Scalar.muli v4592 c128_i32_1762
  v4593
def k0_mult197 (v4090 : BitVec 32) : BitVec 32 :=
  let c13_i32_1770 : BitVec 32 := 13#32
  let v4633 : BitVec 32 := Scalar.addi v4090 c13_i32_1770
  let c128_i32_1771 : BitVec 32 := 128#32
  let v4634 : BitVec 32 := Scalar.muli v4633 c128_i32_1771
  v4634
def k0_mult198 (v4090 : BitVec 32) : BitVec 32 :=
  let c14_i32_1779 : BitVec 32 := 14#32
  let v4674 : BitVec 32 := Scalar.addi v4090 c14_i32_1779
  let c128_i32_1780 : BitVec 32 := 128#32
  let v4675 : BitVec 32 := Scalar.muli v4674 c128_i32_1780
  v4675
def k0_mult199 (v4090 : BitVec 32) : BitVec 32 :=
  let c15_i32_1788 : BitVec 32 := 15#32
  let v4715 : BitVec 32 := Scalar.addi v4090 c15_i32_1788
  let c128_i32_1789 : BitVec 32 := 128#32
  let v4716 : BitVec 32 := Scalar.muli v4715 c128_i32_1789
  v4716

def k0_chk21 (k0_t1 : Fin k0_t1_loop.trips) (v4090 : BitVec 32) : Prop :=
  (128 ∣ (k0_mult184 v4090).toNat) ∧
  (∀ (r : Fin 16), ∀ a, (k0_off263 k0_t1 v4090 (BitVec.ofNat 32 r.val)) a + S1x32x128.size a ≤ S4x96x32768.size a) ∧
  (∀ (r : Fin 16), ∀ a, (k0_off264 k0_t1 v4090 (BitVec.ofNat 32 r.val)) a + S1x32x128.size a ≤ S4x96x32768.size a) ∧
  (∀ (r : Fin 16), ∀ a, (k0_off265 k0_t1 v4090 (BitVec.ofNat 32 r.val)) a + S1x32x128.size a ≤ S4x96x32768.size a) ∧
  (128 ∣ (k0_mult185 v4090).toNat) ∧
  (128 ∣ (k0_mult186 v4090).toNat) ∧
  (128 ∣ (k0_mult187 v4090).toNat) ∧
  (128 ∣ (k0_mult188 v4090).toNat) ∧
  (128 ∣ (k0_mult189 v4090).toNat) ∧
  (128 ∣ (k0_mult190 v4090).toNat) ∧
  (128 ∣ (k0_mult191 v4090).toNat) ∧
  (128 ∣ (k0_mult192 v4090).toNat) ∧
  (128 ∣ (k0_mult193 v4090).toNat) ∧
  (128 ∣ (k0_mult194 v4090).toNat) ∧
  (128 ∣ (k0_mult195 v4090).toNat) ∧
  (128 ∣ (k0_mult196 v4090).toNat) ∧
  (128 ∣ (k0_mult197 v4090).toNat) ∧
  (128 ∣ (k0_mult198 v4090).toNat) ∧
  (128 ∣ (k0_mult199 v4090).toNat)
theorem k0_mult184_dvd : ∀ (k0_t1 : Fin k0_t1_loop.trips) (v4090 : BitVec 32) (k0_hw21 : k0_chk21 k0_t1 v4090), 128 ∣ (k0_mult184 v4090).toNat := fun k0_t1 v4090 k0_hw21 => k0_hw21.1
theorem k0_off263_inb : ∀ (k0_t1 : Fin k0_t1_loop.trips) (v4090 : BitVec 32) (k0_hw21 : k0_chk21 k0_t1 v4090), ∀ (r : Fin 16), ∀ a, (k0_off263 k0_t1 v4090 (BitVec.ofNat 32 r.val)) a + S1x32x128.size a ≤ S4x96x32768.size a := fun k0_t1 v4090 k0_hw21 r => k0_hw21.2.1 r
theorem k0_off264_inb : ∀ (k0_t1 : Fin k0_t1_loop.trips) (v4090 : BitVec 32) (k0_hw21 : k0_chk21 k0_t1 v4090), ∀ (r : Fin 16), ∀ a, (k0_off264 k0_t1 v4090 (BitVec.ofNat 32 r.val)) a + S1x32x128.size a ≤ S4x96x32768.size a := fun k0_t1 v4090 k0_hw21 r => k0_hw21.2.2.1 r
theorem k0_off265_inb : ∀ (k0_t1 : Fin k0_t1_loop.trips) (v4090 : BitVec 32) (k0_hw21 : k0_chk21 k0_t1 v4090), ∀ (r : Fin 16), ∀ a, (k0_off265 k0_t1 v4090 (BitVec.ofNat 32 r.val)) a + S1x32x128.size a ≤ S4x96x32768.size a := fun k0_t1 v4090 k0_hw21 r => k0_hw21.2.2.2.1 r
theorem k0_mult185_dvd : ∀ (k0_t1 : Fin k0_t1_loop.trips) (v4090 : BitVec 32) (k0_hw21 : k0_chk21 k0_t1 v4090), 128 ∣ (k0_mult185 v4090).toNat := fun k0_t1 v4090 k0_hw21 => k0_hw21.2.2.2.2.1
theorem k0_mult186_dvd : ∀ (k0_t1 : Fin k0_t1_loop.trips) (v4090 : BitVec 32) (k0_hw21 : k0_chk21 k0_t1 v4090), 128 ∣ (k0_mult186 v4090).toNat := fun k0_t1 v4090 k0_hw21 => k0_hw21.2.2.2.2.2.1
theorem k0_mult187_dvd : ∀ (k0_t1 : Fin k0_t1_loop.trips) (v4090 : BitVec 32) (k0_hw21 : k0_chk21 k0_t1 v4090), 128 ∣ (k0_mult187 v4090).toNat := fun k0_t1 v4090 k0_hw21 => k0_hw21.2.2.2.2.2.2.1
theorem k0_mult188_dvd : ∀ (k0_t1 : Fin k0_t1_loop.trips) (v4090 : BitVec 32) (k0_hw21 : k0_chk21 k0_t1 v4090), 128 ∣ (k0_mult188 v4090).toNat := fun k0_t1 v4090 k0_hw21 => k0_hw21.2.2.2.2.2.2.2.1
theorem k0_mult189_dvd : ∀ (k0_t1 : Fin k0_t1_loop.trips) (v4090 : BitVec 32) (k0_hw21 : k0_chk21 k0_t1 v4090), 128 ∣ (k0_mult189 v4090).toNat := fun k0_t1 v4090 k0_hw21 => k0_hw21.2.2.2.2.2.2.2.2.1
theorem k0_mult190_dvd : ∀ (k0_t1 : Fin k0_t1_loop.trips) (v4090 : BitVec 32) (k0_hw21 : k0_chk21 k0_t1 v4090), 128 ∣ (k0_mult190 v4090).toNat := fun k0_t1 v4090 k0_hw21 => k0_hw21.2.2.2.2.2.2.2.2.2.1
theorem k0_mult191_dvd : ∀ (k0_t1 : Fin k0_t1_loop.trips) (v4090 : BitVec 32) (k0_hw21 : k0_chk21 k0_t1 v4090), 128 ∣ (k0_mult191 v4090).toNat := fun k0_t1 v4090 k0_hw21 => k0_hw21.2.2.2.2.2.2.2.2.2.2.1
theorem k0_mult192_dvd : ∀ (k0_t1 : Fin k0_t1_loop.trips) (v4090 : BitVec 32) (k0_hw21 : k0_chk21 k0_t1 v4090), 128 ∣ (k0_mult192 v4090).toNat := fun k0_t1 v4090 k0_hw21 => k0_hw21.2.2.2.2.2.2.2.2.2.2.2.1
theorem k0_mult193_dvd : ∀ (k0_t1 : Fin k0_t1_loop.trips) (v4090 : BitVec 32) (k0_hw21 : k0_chk21 k0_t1 v4090), 128 ∣ (k0_mult193 v4090).toNat := fun k0_t1 v4090 k0_hw21 => k0_hw21.2.2.2.2.2.2.2.2.2.2.2.2.1
theorem k0_mult194_dvd : ∀ (k0_t1 : Fin k0_t1_loop.trips) (v4090 : BitVec 32) (k0_hw21 : k0_chk21 k0_t1 v4090), 128 ∣ (k0_mult194 v4090).toNat := fun k0_t1 v4090 k0_hw21 => k0_hw21.2.2.2.2.2.2.2.2.2.2.2.2.2.1
theorem k0_mult195_dvd : ∀ (k0_t1 : Fin k0_t1_loop.trips) (v4090 : BitVec 32) (k0_hw21 : k0_chk21 k0_t1 v4090), 128 ∣ (k0_mult195 v4090).toNat := fun k0_t1 v4090 k0_hw21 => k0_hw21.2.2.2.2.2.2.2.2.2.2.2.2.2.2.1
theorem k0_mult196_dvd : ∀ (k0_t1 : Fin k0_t1_loop.trips) (v4090 : BitVec 32) (k0_hw21 : k0_chk21 k0_t1 v4090), 128 ∣ (k0_mult196 v4090).toNat := fun k0_t1 v4090 k0_hw21 => k0_hw21.2.2.2.2.2.2.2.2.2.2.2.2.2.2.2.1
theorem k0_mult197_dvd : ∀ (k0_t1 : Fin k0_t1_loop.trips) (v4090 : BitVec 32) (k0_hw21 : k0_chk21 k0_t1 v4090), 128 ∣ (k0_mult197 v4090).toNat := fun k0_t1 v4090 k0_hw21 => k0_hw21.2.2.2.2.2.2.2.2.2.2.2.2.2.2.2.2.1
theorem k0_mult198_dvd : ∀ (k0_t1 : Fin k0_t1_loop.trips) (v4090 : BitVec 32) (k0_hw21 : k0_chk21 k0_t1 v4090), 128 ∣ (k0_mult198 v4090).toNat := fun k0_t1 v4090 k0_hw21 => k0_hw21.2.2.2.2.2.2.2.2.2.2.2.2.2.2.2.2.2.1
theorem k0_mult199_dvd : ∀ (k0_t1 : Fin k0_t1_loop.trips) (v4090 : BitVec 32) (k0_hw21 : k0_chk21 k0_t1 v4090), 128 ∣ (k0_mult199 v4090).toNat := fun k0_t1 v4090 k0_hw21 => k0_hw21.2.2.2.2.2.2.2.2.2.2.2.2.2.2.2.2.2.2

def k0_off266 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4756 : Index := Scalar.indexCast arg27
  let c0_1797 : Index := 0#32
  let c0_1798 : Index := 0#32
  ![v4756.toNat, 0, 0]
def k0_off267 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4767 : Index := Scalar.indexCast arg27
  let c8_1801 : Index := 8#32
  let c0_1802 : Index := 0#32
  ![v4767.toNat, 8, 0]
def k0_off268 (arg33 : BitVec 32) : Fin 4 → Nat :=
  let v4787 : Index := Scalar.indexCast arg33
  let c3_1808 : Index := 3#32
  let c0_1809 : Index := 0#32
  let c0_1810 : Index := 0#32
  ![v4787.toNat, 3, 0, 0]
def k0_off269 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4791 : Index := Scalar.indexCast arg27
  let c16_1811 : Index := 16#32
  let c0_1812 : Index := 0#32
  ![v4791.toNat, 16, 0]
def k0_off270 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4802 : Index := Scalar.indexCast arg27
  let c24_1815 : Index := 24#32
  let c0_1816 : Index := 0#32
  ![v4802.toNat, 24, 0]
def k0_off271 (arg33 : BitVec 32) : Fin 4 → Nat :=
  let v4822 : Index := Scalar.indexCast arg33
  let c3_1822 : Index := 3#32
  let c8_1823 : Index := 8#32
  let c0_1824 : Index := 0#32
  ![v4822.toNat, 3, 8, 0]
def k0_off272 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4826 : Index := Scalar.indexCast arg27
  let c32_1825 : Index := 32#32
  let c0_1826 : Index := 0#32
  ![v4826.toNat, 32, 0]
def k0_off273 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v4837 : Index := Scalar.indexCast arg27
  let c40_1829 : Index := 40#32
  let c0_1830 : Index := 0#32
  ![v4837.toNat, 40, 0]
def k0_off274 (arg33 : BitVec 32) : Fin 4 → Nat :=
  let v4857 : Index := Scalar.indexCast arg33
  let c3_1836 : Index := 3#32
  let c16_1837 : Index := 16#32
  let c0_1838 : Index := 0#32
  ![v4857.toNat, 3, 16, 0]
def k0_off275 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_1839 : BitVec 32 := 272#32
  let v4861 : BitVec 32 := Scalar.muli arg27 c272_i32_1839
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v4862 : BitVec 32 := Scalar.addi v4861 v1744
  let c4_i32_1840 : BitVec 32 := 4#32
  let v4863 : BitVec 32 := Scalar.addi v4862 c4_i32_1840
  let v4864 : Index := Scalar.indexCast v4863
  ![v4864.toNat]
def k0_off276 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4867 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c4_i32_1841 : BitVec 32 := 4#32
  let v4866 : BitVec 32 := Scalar.addi v1744 c4_i32_1841
  let v4868 : Index := Scalar.indexCast v4866
  let c0_1842 : Index := 0#32
  ![v4867.toNat, v4868.toNat, 0]
def k0_mult200 (v4865 : BitVec 32) : BitVec 32 :=
  let c0_i32_1846 : BitVec 32 := 0#32
  let v4881 : BitVec 32 := Scalar.addi v4865 c0_i32_1846
  let c128_i32_1847 : BitVec 32 := 128#32
  let v4882 : BitVec 32 := Scalar.muli v4881 c128_i32_1847
  v4882

def k0_off277 (k0_t1 : Fin k0_t1_loop.trips) (v4865 : BitVec 32) (c0_i32_1846 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4886 : Index := Scalar.indexCast v1163
  let c0_1849 : Index := 0#32
  let v4881 : BitVec 32 := Scalar.addi v4865 c0_i32_1846
  let c128_i32_1847 : BitVec 32 := 128#32
  let v4882 : BitVec 32 := Scalar.muli v4881 c128_i32_1847
  let v4883 : BitVec 32 := v4882
  let v4887 : Index := Scalar.indexCast v4883
  ![v4886.toNat, 0, v4887.toNat]
def k0_off278 (k0_t1 : Fin k0_t1_loop.trips) (v4865 : BitVec 32) (c0_i32_1846 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4891 : Index := Scalar.indexCast v1163
  let c32_1850 : Index := 32#32
  let v4881 : BitVec 32 := Scalar.addi v4865 c0_i32_1846
  let c128_i32_1847 : BitVec 32 := 128#32
  let v4882 : BitVec 32 := Scalar.muli v4881 c128_i32_1847
  let v4883 : BitVec 32 := v4882
  let v4892 : Index := Scalar.indexCast v4883
  ![v4891.toNat, 32, v4892.toNat]
def k0_off279 (k0_t1 : Fin k0_t1_loop.trips) (v4865 : BitVec 32) (c0_i32_1846 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v4896 : Index := Scalar.indexCast v1163
  let c64_1851 : Index := 64#32
  let v4881 : BitVec 32 := Scalar.addi v4865 c0_i32_1846
  let c128_i32_1847 : BitVec 32 := 128#32
  let v4882 : BitVec 32 := Scalar.muli v4881 c128_i32_1847
  let v4883 : BitVec 32 := v4882
  let v4897 : Index := Scalar.indexCast v4883
  ![v4896.toNat, 64, v4897.toNat]
def k0_mult201 (v4865 : BitVec 32) : BitVec 32 :=
  let c1_i32_1855 : BitVec 32 := 1#32
  let v4916 : BitVec 32 := Scalar.addi v4865 c1_i32_1855
  let c128_i32_1856 : BitVec 32 := 128#32
  let v4917 : BitVec 32 := Scalar.muli v4916 c128_i32_1856
  v4917
def k0_mult202 (v4865 : BitVec 32) : BitVec 32 :=
  let c2_i32_1864 : BitVec 32 := 2#32
  let v4957 : BitVec 32 := Scalar.addi v4865 c2_i32_1864
  let c128_i32_1865 : BitVec 32 := 128#32
  let v4958 : BitVec 32 := Scalar.muli v4957 c128_i32_1865
  v4958
def k0_mult203 (v4865 : BitVec 32) : BitVec 32 :=
  let c3_i32_1873 : BitVec 32 := 3#32
  let v4998 : BitVec 32 := Scalar.addi v4865 c3_i32_1873
  let c128_i32_1874 : BitVec 32 := 128#32
  let v4999 : BitVec 32 := Scalar.muli v4998 c128_i32_1874
  v4999
def k0_mult204 (v4865 : BitVec 32) : BitVec 32 :=
  let c4_i32_1882 : BitVec 32 := 4#32
  let v5039 : BitVec 32 := Scalar.addi v4865 c4_i32_1882
  let c128_i32_1883 : BitVec 32 := 128#32
  let v5040 : BitVec 32 := Scalar.muli v5039 c128_i32_1883
  v5040
def k0_mult205 (v4865 : BitVec 32) : BitVec 32 :=
  let c5_i32_1891 : BitVec 32 := 5#32
  let v5080 : BitVec 32 := Scalar.addi v4865 c5_i32_1891
  let c128_i32_1892 : BitVec 32 := 128#32
  let v5081 : BitVec 32 := Scalar.muli v5080 c128_i32_1892
  v5081
def k0_mult206 (v4865 : BitVec 32) : BitVec 32 :=
  let c6_i32_1900 : BitVec 32 := 6#32
  let v5121 : BitVec 32 := Scalar.addi v4865 c6_i32_1900
  let c128_i32_1901 : BitVec 32 := 128#32
  let v5122 : BitVec 32 := Scalar.muli v5121 c128_i32_1901
  v5122
def k0_mult207 (v4865 : BitVec 32) : BitVec 32 :=
  let c7_i32_1909 : BitVec 32 := 7#32
  let v5162 : BitVec 32 := Scalar.addi v4865 c7_i32_1909
  let c128_i32_1910 : BitVec 32 := 128#32
  let v5163 : BitVec 32 := Scalar.muli v5162 c128_i32_1910
  v5163
def k0_mult208 (v4865 : BitVec 32) : BitVec 32 :=
  let c8_i32_1918 : BitVec 32 := 8#32
  let v5203 : BitVec 32 := Scalar.addi v4865 c8_i32_1918
  let c128_i32_1919 : BitVec 32 := 128#32
  let v5204 : BitVec 32 := Scalar.muli v5203 c128_i32_1919
  v5204
def k0_mult209 (v4865 : BitVec 32) : BitVec 32 :=
  let c9_i32_1927 : BitVec 32 := 9#32
  let v5244 : BitVec 32 := Scalar.addi v4865 c9_i32_1927
  let c128_i32_1928 : BitVec 32 := 128#32
  let v5245 : BitVec 32 := Scalar.muli v5244 c128_i32_1928
  v5245
def k0_mult210 (v4865 : BitVec 32) : BitVec 32 :=
  let c10_i32_1936 : BitVec 32 := 10#32
  let v5285 : BitVec 32 := Scalar.addi v4865 c10_i32_1936
  let c128_i32_1937 : BitVec 32 := 128#32
  let v5286 : BitVec 32 := Scalar.muli v5285 c128_i32_1937
  v5286
def k0_mult211 (v4865 : BitVec 32) : BitVec 32 :=
  let c11_i32_1945 : BitVec 32 := 11#32
  let v5326 : BitVec 32 := Scalar.addi v4865 c11_i32_1945
  let c128_i32_1946 : BitVec 32 := 128#32
  let v5327 : BitVec 32 := Scalar.muli v5326 c128_i32_1946
  v5327
def k0_mult212 (v4865 : BitVec 32) : BitVec 32 :=
  let c12_i32_1954 : BitVec 32 := 12#32
  let v5367 : BitVec 32 := Scalar.addi v4865 c12_i32_1954
  let c128_i32_1955 : BitVec 32 := 128#32
  let v5368 : BitVec 32 := Scalar.muli v5367 c128_i32_1955
  v5368
def k0_mult213 (v4865 : BitVec 32) : BitVec 32 :=
  let c13_i32_1963 : BitVec 32 := 13#32
  let v5408 : BitVec 32 := Scalar.addi v4865 c13_i32_1963
  let c128_i32_1964 : BitVec 32 := 128#32
  let v5409 : BitVec 32 := Scalar.muli v5408 c128_i32_1964
  v5409
def k0_mult214 (v4865 : BitVec 32) : BitVec 32 :=
  let c14_i32_1972 : BitVec 32 := 14#32
  let v5449 : BitVec 32 := Scalar.addi v4865 c14_i32_1972
  let c128_i32_1973 : BitVec 32 := 128#32
  let v5450 : BitVec 32 := Scalar.muli v5449 c128_i32_1973
  v5450
def k0_mult215 (v4865 : BitVec 32) : BitVec 32 :=
  let c15_i32_1981 : BitVec 32 := 15#32
  let v5490 : BitVec 32 := Scalar.addi v4865 c15_i32_1981
  let c128_i32_1982 : BitVec 32 := 128#32
  let v5491 : BitVec 32 := Scalar.muli v5490 c128_i32_1982
  v5491

def k0_chk22 (k0_t1 : Fin k0_t1_loop.trips) (v4865 : BitVec 32) : Prop :=
  (128 ∣ (k0_mult200 v4865).toNat) ∧
  (∀ (r : Fin 16), ∀ a, (k0_off277 k0_t1 v4865 (BitVec.ofNat 32 r.val)) a + S1x32x128.size a ≤ S4x96x32768.size a) ∧
  (∀ (r : Fin 16), ∀ a, (k0_off278 k0_t1 v4865 (BitVec.ofNat 32 r.val)) a + S1x32x128.size a ≤ S4x96x32768.size a) ∧
  (∀ (r : Fin 16), ∀ a, (k0_off279 k0_t1 v4865 (BitVec.ofNat 32 r.val)) a + S1x32x128.size a ≤ S4x96x32768.size a) ∧
  (128 ∣ (k0_mult201 v4865).toNat) ∧
  (128 ∣ (k0_mult202 v4865).toNat) ∧
  (128 ∣ (k0_mult203 v4865).toNat) ∧
  (128 ∣ (k0_mult204 v4865).toNat) ∧
  (128 ∣ (k0_mult205 v4865).toNat) ∧
  (128 ∣ (k0_mult206 v4865).toNat) ∧
  (128 ∣ (k0_mult207 v4865).toNat) ∧
  (128 ∣ (k0_mult208 v4865).toNat) ∧
  (128 ∣ (k0_mult209 v4865).toNat) ∧
  (128 ∣ (k0_mult210 v4865).toNat) ∧
  (128 ∣ (k0_mult211 v4865).toNat) ∧
  (128 ∣ (k0_mult212 v4865).toNat) ∧
  (128 ∣ (k0_mult213 v4865).toNat) ∧
  (128 ∣ (k0_mult214 v4865).toNat) ∧
  (128 ∣ (k0_mult215 v4865).toNat)
theorem k0_mult200_dvd : ∀ (k0_t1 : Fin k0_t1_loop.trips) (v4865 : BitVec 32) (k0_hw22 : k0_chk22 k0_t1 v4865), 128 ∣ (k0_mult200 v4865).toNat := fun k0_t1 v4865 k0_hw22 => k0_hw22.1
theorem k0_off277_inb : ∀ (k0_t1 : Fin k0_t1_loop.trips) (v4865 : BitVec 32) (k0_hw22 : k0_chk22 k0_t1 v4865), ∀ (r : Fin 16), ∀ a, (k0_off277 k0_t1 v4865 (BitVec.ofNat 32 r.val)) a + S1x32x128.size a ≤ S4x96x32768.size a := fun k0_t1 v4865 k0_hw22 r => k0_hw22.2.1 r
theorem k0_off278_inb : ∀ (k0_t1 : Fin k0_t1_loop.trips) (v4865 : BitVec 32) (k0_hw22 : k0_chk22 k0_t1 v4865), ∀ (r : Fin 16), ∀ a, (k0_off278 k0_t1 v4865 (BitVec.ofNat 32 r.val)) a + S1x32x128.size a ≤ S4x96x32768.size a := fun k0_t1 v4865 k0_hw22 r => k0_hw22.2.2.1 r
theorem k0_off279_inb : ∀ (k0_t1 : Fin k0_t1_loop.trips) (v4865 : BitVec 32) (k0_hw22 : k0_chk22 k0_t1 v4865), ∀ (r : Fin 16), ∀ a, (k0_off279 k0_t1 v4865 (BitVec.ofNat 32 r.val)) a + S1x32x128.size a ≤ S4x96x32768.size a := fun k0_t1 v4865 k0_hw22 r => k0_hw22.2.2.2.1 r
theorem k0_mult201_dvd : ∀ (k0_t1 : Fin k0_t1_loop.trips) (v4865 : BitVec 32) (k0_hw22 : k0_chk22 k0_t1 v4865), 128 ∣ (k0_mult201 v4865).toNat := fun k0_t1 v4865 k0_hw22 => k0_hw22.2.2.2.2.1
theorem k0_mult202_dvd : ∀ (k0_t1 : Fin k0_t1_loop.trips) (v4865 : BitVec 32) (k0_hw22 : k0_chk22 k0_t1 v4865), 128 ∣ (k0_mult202 v4865).toNat := fun k0_t1 v4865 k0_hw22 => k0_hw22.2.2.2.2.2.1
theorem k0_mult203_dvd : ∀ (k0_t1 : Fin k0_t1_loop.trips) (v4865 : BitVec 32) (k0_hw22 : k0_chk22 k0_t1 v4865), 128 ∣ (k0_mult203 v4865).toNat := fun k0_t1 v4865 k0_hw22 => k0_hw22.2.2.2.2.2.2.1
theorem k0_mult204_dvd : ∀ (k0_t1 : Fin k0_t1_loop.trips) (v4865 : BitVec 32) (k0_hw22 : k0_chk22 k0_t1 v4865), 128 ∣ (k0_mult204 v4865).toNat := fun k0_t1 v4865 k0_hw22 => k0_hw22.2.2.2.2.2.2.2.1
theorem k0_mult205_dvd : ∀ (k0_t1 : Fin k0_t1_loop.trips) (v4865 : BitVec 32) (k0_hw22 : k0_chk22 k0_t1 v4865), 128 ∣ (k0_mult205 v4865).toNat := fun k0_t1 v4865 k0_hw22 => k0_hw22.2.2.2.2.2.2.2.2.1
theorem k0_mult206_dvd : ∀ (k0_t1 : Fin k0_t1_loop.trips) (v4865 : BitVec 32) (k0_hw22 : k0_chk22 k0_t1 v4865), 128 ∣ (k0_mult206 v4865).toNat := fun k0_t1 v4865 k0_hw22 => k0_hw22.2.2.2.2.2.2.2.2.2.1
theorem k0_mult207_dvd : ∀ (k0_t1 : Fin k0_t1_loop.trips) (v4865 : BitVec 32) (k0_hw22 : k0_chk22 k0_t1 v4865), 128 ∣ (k0_mult207 v4865).toNat := fun k0_t1 v4865 k0_hw22 => k0_hw22.2.2.2.2.2.2.2.2.2.2.1
theorem k0_mult208_dvd : ∀ (k0_t1 : Fin k0_t1_loop.trips) (v4865 : BitVec 32) (k0_hw22 : k0_chk22 k0_t1 v4865), 128 ∣ (k0_mult208 v4865).toNat := fun k0_t1 v4865 k0_hw22 => k0_hw22.2.2.2.2.2.2.2.2.2.2.2.1
theorem k0_mult209_dvd : ∀ (k0_t1 : Fin k0_t1_loop.trips) (v4865 : BitVec 32) (k0_hw22 : k0_chk22 k0_t1 v4865), 128 ∣ (k0_mult209 v4865).toNat := fun k0_t1 v4865 k0_hw22 => k0_hw22.2.2.2.2.2.2.2.2.2.2.2.2.1
theorem k0_mult210_dvd : ∀ (k0_t1 : Fin k0_t1_loop.trips) (v4865 : BitVec 32) (k0_hw22 : k0_chk22 k0_t1 v4865), 128 ∣ (k0_mult210 v4865).toNat := fun k0_t1 v4865 k0_hw22 => k0_hw22.2.2.2.2.2.2.2.2.2.2.2.2.2.1
theorem k0_mult211_dvd : ∀ (k0_t1 : Fin k0_t1_loop.trips) (v4865 : BitVec 32) (k0_hw22 : k0_chk22 k0_t1 v4865), 128 ∣ (k0_mult211 v4865).toNat := fun k0_t1 v4865 k0_hw22 => k0_hw22.2.2.2.2.2.2.2.2.2.2.2.2.2.2.1
theorem k0_mult212_dvd : ∀ (k0_t1 : Fin k0_t1_loop.trips) (v4865 : BitVec 32) (k0_hw22 : k0_chk22 k0_t1 v4865), 128 ∣ (k0_mult212 v4865).toNat := fun k0_t1 v4865 k0_hw22 => k0_hw22.2.2.2.2.2.2.2.2.2.2.2.2.2.2.2.1
theorem k0_mult213_dvd : ∀ (k0_t1 : Fin k0_t1_loop.trips) (v4865 : BitVec 32) (k0_hw22 : k0_chk22 k0_t1 v4865), 128 ∣ (k0_mult213 v4865).toNat := fun k0_t1 v4865 k0_hw22 => k0_hw22.2.2.2.2.2.2.2.2.2.2.2.2.2.2.2.2.1
theorem k0_mult214_dvd : ∀ (k0_t1 : Fin k0_t1_loop.trips) (v4865 : BitVec 32) (k0_hw22 : k0_chk22 k0_t1 v4865), 128 ∣ (k0_mult214 v4865).toNat := fun k0_t1 v4865 k0_hw22 => k0_hw22.2.2.2.2.2.2.2.2.2.2.2.2.2.2.2.2.2.1
theorem k0_mult215_dvd : ∀ (k0_t1 : Fin k0_t1_loop.trips) (v4865 : BitVec 32) (k0_hw22 : k0_chk22 k0_t1 v4865), 128 ∣ (k0_mult215 v4865).toNat := fun k0_t1 v4865 k0_hw22 => k0_hw22.2.2.2.2.2.2.2.2.2.2.2.2.2.2.2.2.2.2

def k0_off280 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5531 : Index := Scalar.indexCast arg27
  let c0_1990 : Index := 0#32
  let c0_1991 : Index := 0#32
  ![v5531.toNat, 0, 0]
def k0_off281 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5542 : Index := Scalar.indexCast arg27
  let c8_1994 : Index := 8#32
  let c0_1995 : Index := 0#32
  ![v5542.toNat, 8, 0]
def k0_off282 (arg33 : BitVec 32) : Fin 4 → Nat :=
  let v5562 : Index := Scalar.indexCast arg33
  let c4_2001 : Index := 4#32
  let c0_2002 : Index := 0#32
  let c0_2003 : Index := 0#32
  ![v5562.toNat, 4, 0, 0]
def k0_off283 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5566 : Index := Scalar.indexCast arg27
  let c16_2004 : Index := 16#32
  let c0_2005 : Index := 0#32
  ![v5566.toNat, 16, 0]
def k0_off284 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5577 : Index := Scalar.indexCast arg27
  let c24_2008 : Index := 24#32
  let c0_2009 : Index := 0#32
  ![v5577.toNat, 24, 0]
def k0_off285 (arg33 : BitVec 32) : Fin 4 → Nat :=
  let v5597 : Index := Scalar.indexCast arg33
  let c4_2015 : Index := 4#32
  let c8_2016 : Index := 8#32
  let c0_2017 : Index := 0#32
  ![v5597.toNat, 4, 8, 0]
def k0_off286 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5601 : Index := Scalar.indexCast arg27
  let c32_2018 : Index := 32#32
  let c0_2019 : Index := 0#32
  ![v5601.toNat, 32, 0]
def k0_off287 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v5612 : Index := Scalar.indexCast arg27
  let c40_2022 : Index := 40#32
  let c0_2023 : Index := 0#32
  ![v5612.toNat, 40, 0]
def k0_off288 (arg33 : BitVec 32) : Fin 4 → Nat :=
  let v5632 : Index := Scalar.indexCast arg33
  let c4_2029 : Index := 4#32
  let c16_2030 : Index := 16#32
  let c0_2031 : Index := 0#32
  ![v5632.toNat, 4, 16, 0]
def k0_off289 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_2032 : BitVec 32 := 272#32
  let v5636 : BitVec 32 := Scalar.muli arg27 c272_i32_2032
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v5637 : BitVec 32 := Scalar.addi v5636 v1744
  let c5_i32_2033 : BitVec 32 := 5#32
  let v5638 : BitVec 32 := Scalar.addi v5637 c5_i32_2033
  let v5639 : Index := Scalar.indexCast v5638
  ![v5639.toNat]
def k0_off290 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5642 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c5_i32_2034 : BitVec 32 := 5#32
  let v5641 : BitVec 32 := Scalar.addi v1744 c5_i32_2034
  let v5643 : Index := Scalar.indexCast v5641
  let c0_2035 : Index := 0#32
  ![v5642.toNat, v5643.toNat, 0]
def k0_mult216 (v5640 : BitVec 32) : BitVec 32 :=
  let c0_i32_2039 : BitVec 32 := 0#32
  let v5656 : BitVec 32 := Scalar.addi v5640 c0_i32_2039
  let c128_i32_2040 : BitVec 32 := 128#32
  let v5657 : BitVec 32 := Scalar.muli v5656 c128_i32_2040
  v5657

def k0_off291 (k0_t1 : Fin k0_t1_loop.trips) (v5640 : BitVec 32) (c0_i32_2039 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5661 : Index := Scalar.indexCast v1163
  let c0_2042 : Index := 0#32
  let v5656 : BitVec 32 := Scalar.addi v5640 c0_i32_2039
  let c128_i32_2040 : BitVec 32 := 128#32
  let v5657 : BitVec 32 := Scalar.muli v5656 c128_i32_2040
  let v5658 : BitVec 32 := v5657
  let v5662 : Index := Scalar.indexCast v5658
  ![v5661.toNat, 0, v5662.toNat]
def k0_off292 (k0_t1 : Fin k0_t1_loop.trips) (v5640 : BitVec 32) (c0_i32_2039 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5666 : Index := Scalar.indexCast v1163
  let c32_2043 : Index := 32#32
  let v5656 : BitVec 32 := Scalar.addi v5640 c0_i32_2039
  let c128_i32_2040 : BitVec 32 := 128#32
  let v5657 : BitVec 32 := Scalar.muli v5656 c128_i32_2040
  let v5658 : BitVec 32 := v5657
  let v5667 : Index := Scalar.indexCast v5658
  ![v5666.toNat, 32, v5667.toNat]
def k0_off293 (k0_t1 : Fin k0_t1_loop.trips) (v5640 : BitVec 32) (c0_i32_2039 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v5671 : Index := Scalar.indexCast v1163
  let c64_2044 : Index := 64#32
  let v5656 : BitVec 32 := Scalar.addi v5640 c0_i32_2039
  let c128_i32_2040 : BitVec 32 := 128#32
  let v5657 : BitVec 32 := Scalar.muli v5656 c128_i32_2040
  let v5658 : BitVec 32 := v5657
  let v5672 : Index := Scalar.indexCast v5658
  ![v5671.toNat, 64, v5672.toNat]
def k0_mult217 (v5640 : BitVec 32) : BitVec 32 :=
  let c1_i32_2048 : BitVec 32 := 1#32
  let v5691 : BitVec 32 := Scalar.addi v5640 c1_i32_2048
  let c128_i32_2049 : BitVec 32 := 128#32
  let v5692 : BitVec 32 := Scalar.muli v5691 c128_i32_2049
  v5692
def k0_mult218 (v5640 : BitVec 32) : BitVec 32 :=
  let c2_i32_2057 : BitVec 32 := 2#32
  let v5732 : BitVec 32 := Scalar.addi v5640 c2_i32_2057
  let c128_i32_2058 : BitVec 32 := 128#32
  let v5733 : BitVec 32 := Scalar.muli v5732 c128_i32_2058
  v5733
def k0_mult219 (v5640 : BitVec 32) : BitVec 32 :=
  let c3_i32_2066 : BitVec 32 := 3#32
  let v5773 : BitVec 32 := Scalar.addi v5640 c3_i32_2066
  let c128_i32_2067 : BitVec 32 := 128#32
  let v5774 : BitVec 32 := Scalar.muli v5773 c128_i32_2067
  v5774
def k0_mult220 (v5640 : BitVec 32) : BitVec 32 :=
  let c4_i32_2075 : BitVec 32 := 4#32
  let v5814 : BitVec 32 := Scalar.addi v5640 c4_i32_2075
  let c128_i32_2076 : BitVec 32 := 128#32
  let v5815 : BitVec 32 := Scalar.muli v5814 c128_i32_2076
  v5815
def k0_mult221 (v5640 : BitVec 32) : BitVec 32 :=
  let c5_i32_2084 : BitVec 32 := 5#32
  let v5855 : BitVec 32 := Scalar.addi v5640 c5_i32_2084
  let c128_i32_2085 : BitVec 32 := 128#32
  let v5856 : BitVec 32 := Scalar.muli v5855 c128_i32_2085
  v5856
def k0_mult222 (v5640 : BitVec 32) : BitVec 32 :=
  let c6_i32_2093 : BitVec 32 := 6#32
  let v5896 : BitVec 32 := Scalar.addi v5640 c6_i32_2093
  let c128_i32_2094 : BitVec 32 := 128#32
  let v5897 : BitVec 32 := Scalar.muli v5896 c128_i32_2094
  v5897
def k0_mult223 (v5640 : BitVec 32) : BitVec 32 :=
  let c7_i32_2102 : BitVec 32 := 7#32
  let v5937 : BitVec 32 := Scalar.addi v5640 c7_i32_2102
  let c128_i32_2103 : BitVec 32 := 128#32
  let v5938 : BitVec 32 := Scalar.muli v5937 c128_i32_2103
  v5938
def k0_mult224 (v5640 : BitVec 32) : BitVec 32 :=
  let c8_i32_2111 : BitVec 32 := 8#32
  let v5978 : BitVec 32 := Scalar.addi v5640 c8_i32_2111
  let c128_i32_2112 : BitVec 32 := 128#32
  let v5979 : BitVec 32 := Scalar.muli v5978 c128_i32_2112
  v5979
def k0_mult225 (v5640 : BitVec 32) : BitVec 32 :=
  let c9_i32_2120 : BitVec 32 := 9#32
  let v6019 : BitVec 32 := Scalar.addi v5640 c9_i32_2120
  let c128_i32_2121 : BitVec 32 := 128#32
  let v6020 : BitVec 32 := Scalar.muli v6019 c128_i32_2121
  v6020
def k0_mult226 (v5640 : BitVec 32) : BitVec 32 :=
  let c10_i32_2129 : BitVec 32 := 10#32
  let v6060 : BitVec 32 := Scalar.addi v5640 c10_i32_2129
  let c128_i32_2130 : BitVec 32 := 128#32
  let v6061 : BitVec 32 := Scalar.muli v6060 c128_i32_2130
  v6061
def k0_mult227 (v5640 : BitVec 32) : BitVec 32 :=
  let c11_i32_2138 : BitVec 32 := 11#32
  let v6101 : BitVec 32 := Scalar.addi v5640 c11_i32_2138
  let c128_i32_2139 : BitVec 32 := 128#32
  let v6102 : BitVec 32 := Scalar.muli v6101 c128_i32_2139
  v6102
def k0_mult228 (v5640 : BitVec 32) : BitVec 32 :=
  let c12_i32_2147 : BitVec 32 := 12#32
  let v6142 : BitVec 32 := Scalar.addi v5640 c12_i32_2147
  let c128_i32_2148 : BitVec 32 := 128#32
  let v6143 : BitVec 32 := Scalar.muli v6142 c128_i32_2148
  v6143
def k0_mult229 (v5640 : BitVec 32) : BitVec 32 :=
  let c13_i32_2156 : BitVec 32 := 13#32
  let v6183 : BitVec 32 := Scalar.addi v5640 c13_i32_2156
  let c128_i32_2157 : BitVec 32 := 128#32
  let v6184 : BitVec 32 := Scalar.muli v6183 c128_i32_2157
  v6184
def k0_mult230 (v5640 : BitVec 32) : BitVec 32 :=
  let c14_i32_2165 : BitVec 32 := 14#32
  let v6224 : BitVec 32 := Scalar.addi v5640 c14_i32_2165
  let c128_i32_2166 : BitVec 32 := 128#32
  let v6225 : BitVec 32 := Scalar.muli v6224 c128_i32_2166
  v6225
def k0_mult231 (v5640 : BitVec 32) : BitVec 32 :=
  let c15_i32_2174 : BitVec 32 := 15#32
  let v6265 : BitVec 32 := Scalar.addi v5640 c15_i32_2174
  let c128_i32_2175 : BitVec 32 := 128#32
  let v6266 : BitVec 32 := Scalar.muli v6265 c128_i32_2175
  v6266

def k0_chk23 (k0_t1 : Fin k0_t1_loop.trips) (v5640 : BitVec 32) : Prop :=
  (128 ∣ (k0_mult216 v5640).toNat) ∧
  (∀ (r : Fin 16), ∀ a, (k0_off291 k0_t1 v5640 (BitVec.ofNat 32 r.val)) a + S1x32x128.size a ≤ S4x96x32768.size a) ∧
  (∀ (r : Fin 16), ∀ a, (k0_off292 k0_t1 v5640 (BitVec.ofNat 32 r.val)) a + S1x32x128.size a ≤ S4x96x32768.size a) ∧
  (∀ (r : Fin 16), ∀ a, (k0_off293 k0_t1 v5640 (BitVec.ofNat 32 r.val)) a + S1x32x128.size a ≤ S4x96x32768.size a) ∧
  (128 ∣ (k0_mult217 v5640).toNat) ∧
  (128 ∣ (k0_mult218 v5640).toNat) ∧
  (128 ∣ (k0_mult219 v5640).toNat) ∧
  (128 ∣ (k0_mult220 v5640).toNat) ∧
  (128 ∣ (k0_mult221 v5640).toNat) ∧
  (128 ∣ (k0_mult222 v5640).toNat) ∧
  (128 ∣ (k0_mult223 v5640).toNat) ∧
  (128 ∣ (k0_mult224 v5640).toNat) ∧
  (128 ∣ (k0_mult225 v5640).toNat) ∧
  (128 ∣ (k0_mult226 v5640).toNat) ∧
  (128 ∣ (k0_mult227 v5640).toNat) ∧
  (128 ∣ (k0_mult228 v5640).toNat) ∧
  (128 ∣ (k0_mult229 v5640).toNat) ∧
  (128 ∣ (k0_mult230 v5640).toNat) ∧
  (128 ∣ (k0_mult231 v5640).toNat)
theorem k0_mult216_dvd : ∀ (k0_t1 : Fin k0_t1_loop.trips) (v5640 : BitVec 32) (k0_hw23 : k0_chk23 k0_t1 v5640), 128 ∣ (k0_mult216 v5640).toNat := fun k0_t1 v5640 k0_hw23 => k0_hw23.1
theorem k0_off291_inb : ∀ (k0_t1 : Fin k0_t1_loop.trips) (v5640 : BitVec 32) (k0_hw23 : k0_chk23 k0_t1 v5640), ∀ (r : Fin 16), ∀ a, (k0_off291 k0_t1 v5640 (BitVec.ofNat 32 r.val)) a + S1x32x128.size a ≤ S4x96x32768.size a := fun k0_t1 v5640 k0_hw23 r => k0_hw23.2.1 r
theorem k0_off292_inb : ∀ (k0_t1 : Fin k0_t1_loop.trips) (v5640 : BitVec 32) (k0_hw23 : k0_chk23 k0_t1 v5640), ∀ (r : Fin 16), ∀ a, (k0_off292 k0_t1 v5640 (BitVec.ofNat 32 r.val)) a + S1x32x128.size a ≤ S4x96x32768.size a := fun k0_t1 v5640 k0_hw23 r => k0_hw23.2.2.1 r
theorem k0_off293_inb : ∀ (k0_t1 : Fin k0_t1_loop.trips) (v5640 : BitVec 32) (k0_hw23 : k0_chk23 k0_t1 v5640), ∀ (r : Fin 16), ∀ a, (k0_off293 k0_t1 v5640 (BitVec.ofNat 32 r.val)) a + S1x32x128.size a ≤ S4x96x32768.size a := fun k0_t1 v5640 k0_hw23 r => k0_hw23.2.2.2.1 r
theorem k0_mult217_dvd : ∀ (k0_t1 : Fin k0_t1_loop.trips) (v5640 : BitVec 32) (k0_hw23 : k0_chk23 k0_t1 v5640), 128 ∣ (k0_mult217 v5640).toNat := fun k0_t1 v5640 k0_hw23 => k0_hw23.2.2.2.2.1
theorem k0_mult218_dvd : ∀ (k0_t1 : Fin k0_t1_loop.trips) (v5640 : BitVec 32) (k0_hw23 : k0_chk23 k0_t1 v5640), 128 ∣ (k0_mult218 v5640).toNat := fun k0_t1 v5640 k0_hw23 => k0_hw23.2.2.2.2.2.1
theorem k0_mult219_dvd : ∀ (k0_t1 : Fin k0_t1_loop.trips) (v5640 : BitVec 32) (k0_hw23 : k0_chk23 k0_t1 v5640), 128 ∣ (k0_mult219 v5640).toNat := fun k0_t1 v5640 k0_hw23 => k0_hw23.2.2.2.2.2.2.1
theorem k0_mult220_dvd : ∀ (k0_t1 : Fin k0_t1_loop.trips) (v5640 : BitVec 32) (k0_hw23 : k0_chk23 k0_t1 v5640), 128 ∣ (k0_mult220 v5640).toNat := fun k0_t1 v5640 k0_hw23 => k0_hw23.2.2.2.2.2.2.2.1
theorem k0_mult221_dvd : ∀ (k0_t1 : Fin k0_t1_loop.trips) (v5640 : BitVec 32) (k0_hw23 : k0_chk23 k0_t1 v5640), 128 ∣ (k0_mult221 v5640).toNat := fun k0_t1 v5640 k0_hw23 => k0_hw23.2.2.2.2.2.2.2.2.1
theorem k0_mult222_dvd : ∀ (k0_t1 : Fin k0_t1_loop.trips) (v5640 : BitVec 32) (k0_hw23 : k0_chk23 k0_t1 v5640), 128 ∣ (k0_mult222 v5640).toNat := fun k0_t1 v5640 k0_hw23 => k0_hw23.2.2.2.2.2.2.2.2.2.1
theorem k0_mult223_dvd : ∀ (k0_t1 : Fin k0_t1_loop.trips) (v5640 : BitVec 32) (k0_hw23 : k0_chk23 k0_t1 v5640), 128 ∣ (k0_mult223 v5640).toNat := fun k0_t1 v5640 k0_hw23 => k0_hw23.2.2.2.2.2.2.2.2.2.2.1
theorem k0_mult224_dvd : ∀ (k0_t1 : Fin k0_t1_loop.trips) (v5640 : BitVec 32) (k0_hw23 : k0_chk23 k0_t1 v5640), 128 ∣ (k0_mult224 v5640).toNat := fun k0_t1 v5640 k0_hw23 => k0_hw23.2.2.2.2.2.2.2.2.2.2.2.1
theorem k0_mult225_dvd : ∀ (k0_t1 : Fin k0_t1_loop.trips) (v5640 : BitVec 32) (k0_hw23 : k0_chk23 k0_t1 v5640), 128 ∣ (k0_mult225 v5640).toNat := fun k0_t1 v5640 k0_hw23 => k0_hw23.2.2.2.2.2.2.2.2.2.2.2.2.1
theorem k0_mult226_dvd : ∀ (k0_t1 : Fin k0_t1_loop.trips) (v5640 : BitVec 32) (k0_hw23 : k0_chk23 k0_t1 v5640), 128 ∣ (k0_mult226 v5640).toNat := fun k0_t1 v5640 k0_hw23 => k0_hw23.2.2.2.2.2.2.2.2.2.2.2.2.2.1
theorem k0_mult227_dvd : ∀ (k0_t1 : Fin k0_t1_loop.trips) (v5640 : BitVec 32) (k0_hw23 : k0_chk23 k0_t1 v5640), 128 ∣ (k0_mult227 v5640).toNat := fun k0_t1 v5640 k0_hw23 => k0_hw23.2.2.2.2.2.2.2.2.2.2.2.2.2.2.1
theorem k0_mult228_dvd : ∀ (k0_t1 : Fin k0_t1_loop.trips) (v5640 : BitVec 32) (k0_hw23 : k0_chk23 k0_t1 v5640), 128 ∣ (k0_mult228 v5640).toNat := fun k0_t1 v5640 k0_hw23 => k0_hw23.2.2.2.2.2.2.2.2.2.2.2.2.2.2.2.1
theorem k0_mult229_dvd : ∀ (k0_t1 : Fin k0_t1_loop.trips) (v5640 : BitVec 32) (k0_hw23 : k0_chk23 k0_t1 v5640), 128 ∣ (k0_mult229 v5640).toNat := fun k0_t1 v5640 k0_hw23 => k0_hw23.2.2.2.2.2.2.2.2.2.2.2.2.2.2.2.2.1
theorem k0_mult230_dvd : ∀ (k0_t1 : Fin k0_t1_loop.trips) (v5640 : BitVec 32) (k0_hw23 : k0_chk23 k0_t1 v5640), 128 ∣ (k0_mult230 v5640).toNat := fun k0_t1 v5640 k0_hw23 => k0_hw23.2.2.2.2.2.2.2.2.2.2.2.2.2.2.2.2.2.1
theorem k0_mult231_dvd : ∀ (k0_t1 : Fin k0_t1_loop.trips) (v5640 : BitVec 32) (k0_hw23 : k0_chk23 k0_t1 v5640), 128 ∣ (k0_mult231 v5640).toNat := fun k0_t1 v5640 k0_hw23 => k0_hw23.2.2.2.2.2.2.2.2.2.2.2.2.2.2.2.2.2.2

def k0_off294 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6306 : Index := Scalar.indexCast arg27
  let c0_2183 : Index := 0#32
  let c0_2184 : Index := 0#32
  ![v6306.toNat, 0, 0]
def k0_off295 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6317 : Index := Scalar.indexCast arg27
  let c8_2187 : Index := 8#32
  let c0_2188 : Index := 0#32
  ![v6317.toNat, 8, 0]
def k0_off296 (arg33 : BitVec 32) : Fin 4 → Nat :=
  let v6337 : Index := Scalar.indexCast arg33
  let c5_2194 : Index := 5#32
  let c0_2195 : Index := 0#32
  let c0_2196 : Index := 0#32
  ![v6337.toNat, 5, 0, 0]
def k0_off297 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6341 : Index := Scalar.indexCast arg27
  let c16_2197 : Index := 16#32
  let c0_2198 : Index := 0#32
  ![v6341.toNat, 16, 0]
def k0_off298 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6352 : Index := Scalar.indexCast arg27
  let c24_2201 : Index := 24#32
  let c0_2202 : Index := 0#32
  ![v6352.toNat, 24, 0]
def k0_off299 (arg33 : BitVec 32) : Fin 4 → Nat :=
  let v6372 : Index := Scalar.indexCast arg33
  let c5_2208 : Index := 5#32
  let c8_2209 : Index := 8#32
  let c0_2210 : Index := 0#32
  ![v6372.toNat, 5, 8, 0]
def k0_off300 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6376 : Index := Scalar.indexCast arg27
  let c32_2211 : Index := 32#32
  let c0_2212 : Index := 0#32
  ![v6376.toNat, 32, 0]
def k0_off301 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v6387 : Index := Scalar.indexCast arg27
  let c40_2215 : Index := 40#32
  let c0_2216 : Index := 0#32
  ![v6387.toNat, 40, 0]
def k0_off302 (arg33 : BitVec 32) : Fin 4 → Nat :=
  let v6407 : Index := Scalar.indexCast arg33
  let c5_2222 : Index := 5#32
  let c16_2223 : Index := 16#32
  let c0_2224 : Index := 0#32
  ![v6407.toNat, 5, 16, 0]
def k0_off303 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_2225 : BitVec 32 := 272#32
  let v6411 : BitVec 32 := Scalar.muli arg27 c272_i32_2225
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v6412 : BitVec 32 := Scalar.addi v6411 v1744
  let c6_i32_2226 : BitVec 32 := 6#32
  let v6413 : BitVec 32 := Scalar.addi v6412 c6_i32_2226
  let v6414 : Index := Scalar.indexCast v6413
  ![v6414.toNat]
def k0_off304 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6417 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c6_i32_2227 : BitVec 32 := 6#32
  let v6416 : BitVec 32 := Scalar.addi v1744 c6_i32_2227
  let v6418 : Index := Scalar.indexCast v6416
  let c0_2228 : Index := 0#32
  ![v6417.toNat, v6418.toNat, 0]
def k0_mult232 (v6415 : BitVec 32) : BitVec 32 :=
  let c0_i32_2232 : BitVec 32 := 0#32
  let v6431 : BitVec 32 := Scalar.addi v6415 c0_i32_2232
  let c128_i32_2233 : BitVec 32 := 128#32
  let v6432 : BitVec 32 := Scalar.muli v6431 c128_i32_2233
  v6432

def k0_off305 (k0_t1 : Fin k0_t1_loop.trips) (v6415 : BitVec 32) (c0_i32_2232 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6436 : Index := Scalar.indexCast v1163
  let c0_2235 : Index := 0#32
  let v6431 : BitVec 32 := Scalar.addi v6415 c0_i32_2232
  let c128_i32_2233 : BitVec 32 := 128#32
  let v6432 : BitVec 32 := Scalar.muli v6431 c128_i32_2233
  let v6433 : BitVec 32 := v6432
  let v6437 : Index := Scalar.indexCast v6433
  ![v6436.toNat, 0, v6437.toNat]
def k0_off306 (k0_t1 : Fin k0_t1_loop.trips) (v6415 : BitVec 32) (c0_i32_2232 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6441 : Index := Scalar.indexCast v1163
  let c32_2236 : Index := 32#32
  let v6431 : BitVec 32 := Scalar.addi v6415 c0_i32_2232
  let c128_i32_2233 : BitVec 32 := 128#32
  let v6432 : BitVec 32 := Scalar.muli v6431 c128_i32_2233
  let v6433 : BitVec 32 := v6432
  let v6442 : Index := Scalar.indexCast v6433
  ![v6441.toNat, 32, v6442.toNat]
def k0_off307 (k0_t1 : Fin k0_t1_loop.trips) (v6415 : BitVec 32) (c0_i32_2232 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v6446 : Index := Scalar.indexCast v1163
  let c64_2237 : Index := 64#32
  let v6431 : BitVec 32 := Scalar.addi v6415 c0_i32_2232
  let c128_i32_2233 : BitVec 32 := 128#32
  let v6432 : BitVec 32 := Scalar.muli v6431 c128_i32_2233
  let v6433 : BitVec 32 := v6432
  let v6447 : Index := Scalar.indexCast v6433
  ![v6446.toNat, 64, v6447.toNat]
def k0_mult233 (v6415 : BitVec 32) : BitVec 32 :=
  let c1_i32_2241 : BitVec 32 := 1#32
  let v6466 : BitVec 32 := Scalar.addi v6415 c1_i32_2241
  let c128_i32_2242 : BitVec 32 := 128#32
  let v6467 : BitVec 32 := Scalar.muli v6466 c128_i32_2242
  v6467
def k0_mult234 (v6415 : BitVec 32) : BitVec 32 :=
  let c2_i32_2250 : BitVec 32 := 2#32
  let v6507 : BitVec 32 := Scalar.addi v6415 c2_i32_2250
  let c128_i32_2251 : BitVec 32 := 128#32
  let v6508 : BitVec 32 := Scalar.muli v6507 c128_i32_2251
  v6508
def k0_mult235 (v6415 : BitVec 32) : BitVec 32 :=
  let c3_i32_2259 : BitVec 32 := 3#32
  let v6548 : BitVec 32 := Scalar.addi v6415 c3_i32_2259
  let c128_i32_2260 : BitVec 32 := 128#32
  let v6549 : BitVec 32 := Scalar.muli v6548 c128_i32_2260
  v6549
def k0_mult236 (v6415 : BitVec 32) : BitVec 32 :=
  let c4_i32_2268 : BitVec 32 := 4#32
  let v6589 : BitVec 32 := Scalar.addi v6415 c4_i32_2268
  let c128_i32_2269 : BitVec 32 := 128#32
  let v6590 : BitVec 32 := Scalar.muli v6589 c128_i32_2269
  v6590
def k0_mult237 (v6415 : BitVec 32) : BitVec 32 :=
  let c5_i32_2277 : BitVec 32 := 5#32
  let v6630 : BitVec 32 := Scalar.addi v6415 c5_i32_2277
  let c128_i32_2278 : BitVec 32 := 128#32
  let v6631 : BitVec 32 := Scalar.muli v6630 c128_i32_2278
  v6631
def k0_mult238 (v6415 : BitVec 32) : BitVec 32 :=
  let c6_i32_2286 : BitVec 32 := 6#32
  let v6671 : BitVec 32 := Scalar.addi v6415 c6_i32_2286
  let c128_i32_2287 : BitVec 32 := 128#32
  let v6672 : BitVec 32 := Scalar.muli v6671 c128_i32_2287
  v6672
def k0_mult239 (v6415 : BitVec 32) : BitVec 32 :=
  let c7_i32_2295 : BitVec 32 := 7#32
  let v6712 : BitVec 32 := Scalar.addi v6415 c7_i32_2295
  let c128_i32_2296 : BitVec 32 := 128#32
  let v6713 : BitVec 32 := Scalar.muli v6712 c128_i32_2296
  v6713
def k0_mult240 (v6415 : BitVec 32) : BitVec 32 :=
  let c8_i32_2304 : BitVec 32 := 8#32
  let v6753 : BitVec 32 := Scalar.addi v6415 c8_i32_2304
  let c128_i32_2305 : BitVec 32 := 128#32
  let v6754 : BitVec 32 := Scalar.muli v6753 c128_i32_2305
  v6754
def k0_mult241 (v6415 : BitVec 32) : BitVec 32 :=
  let c9_i32_2313 : BitVec 32 := 9#32
  let v6794 : BitVec 32 := Scalar.addi v6415 c9_i32_2313
  let c128_i32_2314 : BitVec 32 := 128#32
  let v6795 : BitVec 32 := Scalar.muli v6794 c128_i32_2314
  v6795
def k0_mult242 (v6415 : BitVec 32) : BitVec 32 :=
  let c10_i32_2322 : BitVec 32 := 10#32
  let v6835 : BitVec 32 := Scalar.addi v6415 c10_i32_2322
  let c128_i32_2323 : BitVec 32 := 128#32
  let v6836 : BitVec 32 := Scalar.muli v6835 c128_i32_2323
  v6836
def k0_mult243 (v6415 : BitVec 32) : BitVec 32 :=
  let c11_i32_2331 : BitVec 32 := 11#32
  let v6876 : BitVec 32 := Scalar.addi v6415 c11_i32_2331
  let c128_i32_2332 : BitVec 32 := 128#32
  let v6877 : BitVec 32 := Scalar.muli v6876 c128_i32_2332
  v6877
def k0_mult244 (v6415 : BitVec 32) : BitVec 32 :=
  let c12_i32_2340 : BitVec 32 := 12#32
  let v6917 : BitVec 32 := Scalar.addi v6415 c12_i32_2340
  let c128_i32_2341 : BitVec 32 := 128#32
  let v6918 : BitVec 32 := Scalar.muli v6917 c128_i32_2341
  v6918
def k0_mult245 (v6415 : BitVec 32) : BitVec 32 :=
  let c13_i32_2349 : BitVec 32 := 13#32
  let v6958 : BitVec 32 := Scalar.addi v6415 c13_i32_2349
  let c128_i32_2350 : BitVec 32 := 128#32
  let v6959 : BitVec 32 := Scalar.muli v6958 c128_i32_2350
  v6959
def k0_mult246 (v6415 : BitVec 32) : BitVec 32 :=
  let c14_i32_2358 : BitVec 32 := 14#32
  let v6999 : BitVec 32 := Scalar.addi v6415 c14_i32_2358
  let c128_i32_2359 : BitVec 32 := 128#32
  let v7000 : BitVec 32 := Scalar.muli v6999 c128_i32_2359
  v7000
def k0_mult247 (v6415 : BitVec 32) : BitVec 32 :=
  let c15_i32_2367 : BitVec 32 := 15#32
  let v7040 : BitVec 32 := Scalar.addi v6415 c15_i32_2367
  let c128_i32_2368 : BitVec 32 := 128#32
  let v7041 : BitVec 32 := Scalar.muli v7040 c128_i32_2368
  v7041

def k0_chk24 (k0_t1 : Fin k0_t1_loop.trips) (v6415 : BitVec 32) : Prop :=
  (128 ∣ (k0_mult232 v6415).toNat) ∧
  (∀ (r : Fin 16), ∀ a, (k0_off305 k0_t1 v6415 (BitVec.ofNat 32 r.val)) a + S1x32x128.size a ≤ S4x96x32768.size a) ∧
  (∀ (r : Fin 16), ∀ a, (k0_off306 k0_t1 v6415 (BitVec.ofNat 32 r.val)) a + S1x32x128.size a ≤ S4x96x32768.size a) ∧
  (∀ (r : Fin 16), ∀ a, (k0_off307 k0_t1 v6415 (BitVec.ofNat 32 r.val)) a + S1x32x128.size a ≤ S4x96x32768.size a) ∧
  (128 ∣ (k0_mult233 v6415).toNat) ∧
  (128 ∣ (k0_mult234 v6415).toNat) ∧
  (128 ∣ (k0_mult235 v6415).toNat) ∧
  (128 ∣ (k0_mult236 v6415).toNat) ∧
  (128 ∣ (k0_mult237 v6415).toNat) ∧
  (128 ∣ (k0_mult238 v6415).toNat) ∧
  (128 ∣ (k0_mult239 v6415).toNat) ∧
  (128 ∣ (k0_mult240 v6415).toNat) ∧
  (128 ∣ (k0_mult241 v6415).toNat) ∧
  (128 ∣ (k0_mult242 v6415).toNat) ∧
  (128 ∣ (k0_mult243 v6415).toNat) ∧
  (128 ∣ (k0_mult244 v6415).toNat) ∧
  (128 ∣ (k0_mult245 v6415).toNat) ∧
  (128 ∣ (k0_mult246 v6415).toNat) ∧
  (128 ∣ (k0_mult247 v6415).toNat)
theorem k0_mult232_dvd : ∀ (k0_t1 : Fin k0_t1_loop.trips) (v6415 : BitVec 32) (k0_hw24 : k0_chk24 k0_t1 v6415), 128 ∣ (k0_mult232 v6415).toNat := fun k0_t1 v6415 k0_hw24 => k0_hw24.1
theorem k0_off305_inb : ∀ (k0_t1 : Fin k0_t1_loop.trips) (v6415 : BitVec 32) (k0_hw24 : k0_chk24 k0_t1 v6415), ∀ (r : Fin 16), ∀ a, (k0_off305 k0_t1 v6415 (BitVec.ofNat 32 r.val)) a + S1x32x128.size a ≤ S4x96x32768.size a := fun k0_t1 v6415 k0_hw24 r => k0_hw24.2.1 r
theorem k0_off306_inb : ∀ (k0_t1 : Fin k0_t1_loop.trips) (v6415 : BitVec 32) (k0_hw24 : k0_chk24 k0_t1 v6415), ∀ (r : Fin 16), ∀ a, (k0_off306 k0_t1 v6415 (BitVec.ofNat 32 r.val)) a + S1x32x128.size a ≤ S4x96x32768.size a := fun k0_t1 v6415 k0_hw24 r => k0_hw24.2.2.1 r
theorem k0_off307_inb : ∀ (k0_t1 : Fin k0_t1_loop.trips) (v6415 : BitVec 32) (k0_hw24 : k0_chk24 k0_t1 v6415), ∀ (r : Fin 16), ∀ a, (k0_off307 k0_t1 v6415 (BitVec.ofNat 32 r.val)) a + S1x32x128.size a ≤ S4x96x32768.size a := fun k0_t1 v6415 k0_hw24 r => k0_hw24.2.2.2.1 r
theorem k0_mult233_dvd : ∀ (k0_t1 : Fin k0_t1_loop.trips) (v6415 : BitVec 32) (k0_hw24 : k0_chk24 k0_t1 v6415), 128 ∣ (k0_mult233 v6415).toNat := fun k0_t1 v6415 k0_hw24 => k0_hw24.2.2.2.2.1
theorem k0_mult234_dvd : ∀ (k0_t1 : Fin k0_t1_loop.trips) (v6415 : BitVec 32) (k0_hw24 : k0_chk24 k0_t1 v6415), 128 ∣ (k0_mult234 v6415).toNat := fun k0_t1 v6415 k0_hw24 => k0_hw24.2.2.2.2.2.1
theorem k0_mult235_dvd : ∀ (k0_t1 : Fin k0_t1_loop.trips) (v6415 : BitVec 32) (k0_hw24 : k0_chk24 k0_t1 v6415), 128 ∣ (k0_mult235 v6415).toNat := fun k0_t1 v6415 k0_hw24 => k0_hw24.2.2.2.2.2.2.1
theorem k0_mult236_dvd : ∀ (k0_t1 : Fin k0_t1_loop.trips) (v6415 : BitVec 32) (k0_hw24 : k0_chk24 k0_t1 v6415), 128 ∣ (k0_mult236 v6415).toNat := fun k0_t1 v6415 k0_hw24 => k0_hw24.2.2.2.2.2.2.2.1
theorem k0_mult237_dvd : ∀ (k0_t1 : Fin k0_t1_loop.trips) (v6415 : BitVec 32) (k0_hw24 : k0_chk24 k0_t1 v6415), 128 ∣ (k0_mult237 v6415).toNat := fun k0_t1 v6415 k0_hw24 => k0_hw24.2.2.2.2.2.2.2.2.1
theorem k0_mult238_dvd : ∀ (k0_t1 : Fin k0_t1_loop.trips) (v6415 : BitVec 32) (k0_hw24 : k0_chk24 k0_t1 v6415), 128 ∣ (k0_mult238 v6415).toNat := fun k0_t1 v6415 k0_hw24 => k0_hw24.2.2.2.2.2.2.2.2.2.1
theorem k0_mult239_dvd : ∀ (k0_t1 : Fin k0_t1_loop.trips) (v6415 : BitVec 32) (k0_hw24 : k0_chk24 k0_t1 v6415), 128 ∣ (k0_mult239 v6415).toNat := fun k0_t1 v6415 k0_hw24 => k0_hw24.2.2.2.2.2.2.2.2.2.2.1
theorem k0_mult240_dvd : ∀ (k0_t1 : Fin k0_t1_loop.trips) (v6415 : BitVec 32) (k0_hw24 : k0_chk24 k0_t1 v6415), 128 ∣ (k0_mult240 v6415).toNat := fun k0_t1 v6415 k0_hw24 => k0_hw24.2.2.2.2.2.2.2.2.2.2.2.1
theorem k0_mult241_dvd : ∀ (k0_t1 : Fin k0_t1_loop.trips) (v6415 : BitVec 32) (k0_hw24 : k0_chk24 k0_t1 v6415), 128 ∣ (k0_mult241 v6415).toNat := fun k0_t1 v6415 k0_hw24 => k0_hw24.2.2.2.2.2.2.2.2.2.2.2.2.1
theorem k0_mult242_dvd : ∀ (k0_t1 : Fin k0_t1_loop.trips) (v6415 : BitVec 32) (k0_hw24 : k0_chk24 k0_t1 v6415), 128 ∣ (k0_mult242 v6415).toNat := fun k0_t1 v6415 k0_hw24 => k0_hw24.2.2.2.2.2.2.2.2.2.2.2.2.2.1
theorem k0_mult243_dvd : ∀ (k0_t1 : Fin k0_t1_loop.trips) (v6415 : BitVec 32) (k0_hw24 : k0_chk24 k0_t1 v6415), 128 ∣ (k0_mult243 v6415).toNat := fun k0_t1 v6415 k0_hw24 => k0_hw24.2.2.2.2.2.2.2.2.2.2.2.2.2.2.1
theorem k0_mult244_dvd : ∀ (k0_t1 : Fin k0_t1_loop.trips) (v6415 : BitVec 32) (k0_hw24 : k0_chk24 k0_t1 v6415), 128 ∣ (k0_mult244 v6415).toNat := fun k0_t1 v6415 k0_hw24 => k0_hw24.2.2.2.2.2.2.2.2.2.2.2.2.2.2.2.1
theorem k0_mult245_dvd : ∀ (k0_t1 : Fin k0_t1_loop.trips) (v6415 : BitVec 32) (k0_hw24 : k0_chk24 k0_t1 v6415), 128 ∣ (k0_mult245 v6415).toNat := fun k0_t1 v6415 k0_hw24 => k0_hw24.2.2.2.2.2.2.2.2.2.2.2.2.2.2.2.2.1
theorem k0_mult246_dvd : ∀ (k0_t1 : Fin k0_t1_loop.trips) (v6415 : BitVec 32) (k0_hw24 : k0_chk24 k0_t1 v6415), 128 ∣ (k0_mult246 v6415).toNat := fun k0_t1 v6415 k0_hw24 => k0_hw24.2.2.2.2.2.2.2.2.2.2.2.2.2.2.2.2.2.1
theorem k0_mult247_dvd : ∀ (k0_t1 : Fin k0_t1_loop.trips) (v6415 : BitVec 32) (k0_hw24 : k0_chk24 k0_t1 v6415), 128 ∣ (k0_mult247 v6415).toNat := fun k0_t1 v6415 k0_hw24 => k0_hw24.2.2.2.2.2.2.2.2.2.2.2.2.2.2.2.2.2.2

def k0_off308 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7081 : Index := Scalar.indexCast arg27
  let c0_2376 : Index := 0#32
  let c0_2377 : Index := 0#32
  ![v7081.toNat, 0, 0]
def k0_off309 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7092 : Index := Scalar.indexCast arg27
  let c8_2380 : Index := 8#32
  let c0_2381 : Index := 0#32
  ![v7092.toNat, 8, 0]
def k0_off310 (arg33 : BitVec 32) : Fin 4 → Nat :=
  let v7112 : Index := Scalar.indexCast arg33
  let c6_2387 : Index := 6#32
  let c0_2388 : Index := 0#32
  let c0_2389 : Index := 0#32
  ![v7112.toNat, 6, 0, 0]
def k0_off311 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7116 : Index := Scalar.indexCast arg27
  let c16_2390 : Index := 16#32
  let c0_2391 : Index := 0#32
  ![v7116.toNat, 16, 0]
def k0_off312 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7127 : Index := Scalar.indexCast arg27
  let c24_2394 : Index := 24#32
  let c0_2395 : Index := 0#32
  ![v7127.toNat, 24, 0]
def k0_off313 (arg33 : BitVec 32) : Fin 4 → Nat :=
  let v7147 : Index := Scalar.indexCast arg33
  let c6_2401 : Index := 6#32
  let c8_2402 : Index := 8#32
  let c0_2403 : Index := 0#32
  ![v7147.toNat, 6, 8, 0]
def k0_off314 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7151 : Index := Scalar.indexCast arg27
  let c32_2404 : Index := 32#32
  let c0_2405 : Index := 0#32
  ![v7151.toNat, 32, 0]
def k0_off315 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7162 : Index := Scalar.indexCast arg27
  let c40_2408 : Index := 40#32
  let c0_2409 : Index := 0#32
  ![v7162.toNat, 40, 0]
def k0_off316 (arg33 : BitVec 32) : Fin 4 → Nat :=
  let v7182 : Index := Scalar.indexCast arg33
  let c6_2415 : Index := 6#32
  let c16_2416 : Index := 16#32
  let c0_2417 : Index := 0#32
  ![v7182.toNat, 6, 16, 0]
def k0_off317 (k0_t1 : Fin k0_t1_loop.trips) (v1227 : BitVec 32) (k0_t3 : Fin (k0_t3_loop v1227).trips) : Fin 1 → Nat :=
  let c0_i32_186 : BitVec 32 := 0#32
  let c1_i32_188 : BitVec 32 := 1#32
  let arg27 : BitVec 32 := Scf.iv c0_i32_186 c1_i32_188 k0_t1
  let c272_i32_2418 : BitVec 32 := 272#32
  let v7186 : BitVec 32 := Scalar.muli arg27 c272_i32_2418
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let v7187 : BitVec 32 := Scalar.addi v7186 v1744
  let c7_i32_2419 : BitVec 32 := 7#32
  let v7188 : BitVec 32 := Scalar.addi v7187 c7_i32_2419
  let v7189 : Index := Scalar.indexCast v7188
  ![v7189.toNat]
def k0_off318 (k0_t1 : Fin k0_t1_loop.trips) (v1227 : BitVec 32) (k0_t3 : Fin (k0_t3_loop v1227).trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7192 : Index := Scalar.indexCast v1163
  let c0_i32_790 : BitVec 32 := 0#32
  let c8_i32_781 : BitVec 32 := 8#32
  let v1228 : BitVec 32 := Scalar.addi v1227 c8_i32_781
  let c1_i32_782 : BitVec 32 := 1#32
  let v1229 : BitVec 32 := Scalar.subi v1228 c1_i32_782
  let c0_i32_784 : BitVec 32 := 0#32
  let v1231 : BitVec 1 := Scalar.cmpi .sgt v1229 c0_i32_784
  let v1232 : BitVec 32 := Scalar.extui v1231
  let c0_i32_785 : BitVec 32 := 0#32
  let v1233 : BitVec 1 := Scalar.cmpi .slt v1229 c0_i32_785
  let v1234 : BitVec 32 := Scalar.extui v1233
  let v1235 : BitVec 32 := Scalar.subi v1232 v1234
  let c8_i32_783 : BitVec 32 := 8#32
  let c0_i32_786 : BitVec 32 := 0#32
  let v1236 : BitVec 1 := Scalar.cmpi .sgt c8_i32_783 c0_i32_786
  let v1237 : BitVec 32 := Scalar.extui v1236
  let c0_i32_787 : BitVec 32 := 0#32
  let v1238 : BitVec 1 := Scalar.cmpi .slt c8_i32_783 c0_i32_787
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_783
  let c0_i32_788 : BitVec 32 := 0#32
  let v1243 : BitVec 1 := Scalar.cmpi .ne v1242 c0_i32_788
  let v1244 : BitVec 1 := Scalar.andi v1241 v1243
  let v1230 : BitVec 32 := Scalar.divsi v1229 c8_i32_783
  let c1_i32_789 : BitVec 32 := 1#32
  let v1245 : BitVec 32 := Scalar.subi v1230 c1_i32_789
  let v1246 : BitVec 32 := Scalar.select v1244 v1245 v1230
  let v1247 : BitVec 32 := Scalar.subi v1246 c0_i32_790
  let c1_i32_791 : BitVec 32 := 1#32
  let v1249 : BitVec 32 := Scalar.divsi v1247 c1_i32_791
  let v1250 : BitVec 32 := Scalar.muli v1249 c1_i32_791
  let v1251 : BitVec 32 := Scalar.addi c0_i32_790 v1250
  let c1_i32_793 : BitVec 32 := 1#32
  let arg32 : BitVec 32 := Scf.iv v1251 c1_i32_793 k0_t3
  let c8_i32_1074 : BitVec 32 := 8#32
  let v1743 : BitVec 32 := Scalar.muli arg32 c8_i32_1074
  let v1744 : BitVec 32 := v1743
  let c7_i32_2420 : BitVec 32 := 7#32
  let v7191 : BitVec 32 := Scalar.addi v1744 c7_i32_2420
  let v7193 : Index := Scalar.indexCast v7191
  let c0_2421 : Index := 0#32
  ![v7192.toNat, v7193.toNat, 0]

def k0_chk1_0 (k0_t1 : Fin k0_t1_loop.trips) (v1227 : BitVec 32) : Prop :=
  ((k0_t2_loop v1227).OK) ∧
  (∀ k0_t2 : Fin (k0_t2_loop v1227).trips, 8 ∣ (k0_mult6 v1227 k0_t2).toNat) ∧
  (∀ k0_t2 : Fin (k0_t2_loop v1227).trips, ∀ a, (k0_off59 k0_t1 v1227 k0_t2) a + S1x8x128.size a ≤ S4x256x128.size a) ∧
  (∀ k0_t2 : Fin (k0_t2_loop v1227).trips, ∀ a, (k0_off61 k0_t1 v1227 k0_t2) a + S1.size a ≤ S26112.size a) ∧
  (∀ k0_t2 : Fin (k0_t2_loop v1227).trips, ∀ a, (k0_off62 k0_t1 v1227 k0_t2) a + S1x1x128.size a ≤ S4x256x128.size a) ∧
  (∀ k0_t2 : Fin (k0_t2_loop v1227).trips, ∀ a, (k0_off75 k0_t1 v1227 k0_t2) a + S1.size a ≤ S26112.size a) ∧
  (∀ k0_t2 : Fin (k0_t2_loop v1227).trips, ∀ a, (k0_off76 k0_t1 v1227 k0_t2) a + S1x1x128.size a ≤ S4x256x128.size a) ∧
  (∀ k0_t2 : Fin (k0_t2_loop v1227).trips, ∀ a, (k0_off89 k0_t1 v1227 k0_t2) a + S1.size a ≤ S26112.size a) ∧
  (∀ k0_t2 : Fin (k0_t2_loop v1227).trips, ∀ a, (k0_off90 k0_t1 v1227 k0_t2) a + S1x1x128.size a ≤ S4x256x128.size a) ∧
  (∀ k0_t2 : Fin (k0_t2_loop v1227).trips, ∀ a, (k0_off103 k0_t1 v1227 k0_t2) a + S1.size a ≤ S26112.size a) ∧
  (∀ k0_t2 : Fin (k0_t2_loop v1227).trips, ∀ a, (k0_off104 k0_t1 v1227 k0_t2) a + S1x1x128.size a ≤ S4x256x128.size a) ∧
  (∀ k0_t2 : Fin (k0_t2_loop v1227).trips, ∀ a, (k0_off117 k0_t1 v1227 k0_t2) a + S1.size a ≤ S26112.size a) ∧
  (∀ k0_t2 : Fin (k0_t2_loop v1227).trips, ∀ a, (k0_off118 k0_t1 v1227 k0_t2) a + S1x1x128.size a ≤ S4x256x128.size a) ∧
  (∀ k0_t2 : Fin (k0_t2_loop v1227).trips, ∀ a, (k0_off131 k0_t1 v1227 k0_t2) a + S1.size a ≤ S26112.size a) ∧
  (∀ k0_t2 : Fin (k0_t2_loop v1227).trips, ∀ a, (k0_off132 k0_t1 v1227 k0_t2) a + S1x1x128.size a ≤ S4x256x128.size a) ∧
  (∀ k0_t2 : Fin (k0_t2_loop v1227).trips, ∀ a, (k0_off145 k0_t1 v1227 k0_t2) a + S1.size a ≤ S26112.size a) ∧
  (∀ k0_t2 : Fin (k0_t2_loop v1227).trips, ∀ a, (k0_off146 k0_t1 v1227 k0_t2) a + S1x1x128.size a ≤ S4x256x128.size a) ∧
  (∀ k0_t2 : Fin (k0_t2_loop v1227).trips, ∀ a, (k0_off159 k0_t1 v1227 k0_t2) a + S1.size a ≤ S26112.size a) ∧
  (∀ k0_t2 : Fin (k0_t2_loop v1227).trips, ∀ a, (k0_off160 k0_t1 v1227 k0_t2) a + S1x1x128.size a ≤ S4x256x128.size a) ∧
  ((k0_t3_loop v1227).OK) ∧
  (∀ k0_t3 : Fin (k0_t3_loop v1227).trips, 8 ∣ (k0_mult135 v1227 k0_t3).toNat) ∧
  (∀ k0_t3 : Fin (k0_t3_loop v1227).trips, ∀ a, (k0_off217 k0_t1 v1227 k0_t3) a + S1x8x128.size a ≤ S4x256x128.size a) ∧
  (∀ k0_t3 : Fin (k0_t3_loop v1227).trips, ∀ a, (k0_off219 k0_t1 v1227 k0_t3) a + S1.size a ≤ S26112.size a) ∧
  (∀ k0_t3 : Fin (k0_t3_loop v1227).trips, ∀ a, (k0_off220 k0_t1 v1227 k0_t3) a + S1x1x128.size a ≤ S4x256x128.size a) ∧
  (∀ k0_t3 : Fin (k0_t3_loop v1227).trips, ∀ a, (k0_off233 k0_t1 v1227 k0_t3) a + S1.size a ≤ S26112.size a) ∧
  (∀ k0_t3 : Fin (k0_t3_loop v1227).trips, ∀ a, (k0_off234 k0_t1 v1227 k0_t3) a + S1x1x128.size a ≤ S4x256x128.size a) ∧
  (∀ k0_t3 : Fin (k0_t3_loop v1227).trips, ∀ a, (k0_off247 k0_t1 v1227 k0_t3) a + S1.size a ≤ S26112.size a) ∧
  (∀ k0_t3 : Fin (k0_t3_loop v1227).trips, ∀ a, (k0_off248 k0_t1 v1227 k0_t3) a + S1x1x128.size a ≤ S4x256x128.size a) ∧
  (∀ k0_t3 : Fin (k0_t3_loop v1227).trips, ∀ a, (k0_off261 k0_t1 v1227 k0_t3) a + S1.size a ≤ S26112.size a) ∧
  (∀ k0_t3 : Fin (k0_t3_loop v1227).trips, ∀ a, (k0_off262 k0_t1 v1227 k0_t3) a + S1x1x128.size a ≤ S4x256x128.size a) ∧
  (∀ k0_t3 : Fin (k0_t3_loop v1227).trips, ∀ a, (k0_off275 k0_t1 v1227 k0_t3) a + S1.size a ≤ S26112.size a) ∧
  (∀ k0_t3 : Fin (k0_t3_loop v1227).trips, ∀ a, (k0_off276 k0_t1 v1227 k0_t3) a + S1x1x128.size a ≤ S4x256x128.size a)
def k0_chk1_1 (k0_t1 : Fin k0_t1_loop.trips) (v1227 : BitVec 32) : Prop :=
  (∀ k0_t3 : Fin (k0_t3_loop v1227).trips, ∀ a, (k0_off289 k0_t1 v1227 k0_t3) a + S1.size a ≤ S26112.size a) ∧
  (∀ k0_t3 : Fin (k0_t3_loop v1227).trips, ∀ a, (k0_off290 k0_t1 v1227 k0_t3) a + S1x1x128.size a ≤ S4x256x128.size a) ∧
  (∀ k0_t3 : Fin (k0_t3_loop v1227).trips, ∀ a, (k0_off303 k0_t1 v1227 k0_t3) a + S1.size a ≤ S26112.size a) ∧
  (∀ k0_t3 : Fin (k0_t3_loop v1227).trips, ∀ a, (k0_off304 k0_t1 v1227 k0_t3) a + S1x1x128.size a ≤ S4x256x128.size a) ∧
  (∀ k0_t3 : Fin (k0_t3_loop v1227).trips, ∀ a, (k0_off317 k0_t1 v1227 k0_t3) a + S1.size a ≤ S26112.size a) ∧
  (∀ k0_t3 : Fin (k0_t3_loop v1227).trips, ∀ a, (k0_off318 k0_t1 v1227 k0_t3) a + S1x1x128.size a ≤ S4x256x128.size a)
def k0_chk1 (k0_t1 : Fin k0_t1_loop.trips) (v1227 : BitVec 32) : Prop :=
  k0_chk1_0 k0_t1 v1227 ∧
  k0_chk1_1 k0_t1 v1227
theorem k0_t2_ok : ∀ (k0_t1 : Fin k0_t1_loop.trips) (v1227 : BitVec 32) (k0_hw1 : k0_chk1 k0_t1 v1227), (k0_t2_loop v1227).OK := fun k0_t1 v1227 k0_hw1 => k0_hw1.1.1
theorem k0_mult6_dvd : ∀ (k0_t1 : Fin k0_t1_loop.trips) (v1227 : BitVec 32) (k0_hw1 : k0_chk1 k0_t1 v1227) (k0_t2 : Fin (k0_t2_loop v1227).trips), 8 ∣ (k0_mult6 v1227 k0_t2).toNat := fun k0_t1 v1227 k0_hw1 k0_t2 => k0_hw1.1.2.1 k0_t2
theorem k0_off59_inb : ∀ (k0_t1 : Fin k0_t1_loop.trips) (v1227 : BitVec 32) (k0_hw1 : k0_chk1 k0_t1 v1227) (k0_t2 : Fin (k0_t2_loop v1227).trips), ∀ a, (k0_off59 k0_t1 v1227 k0_t2) a + S1x8x128.size a ≤ S4x256x128.size a := fun k0_t1 v1227 k0_hw1 k0_t2 => k0_hw1.1.2.2.1 k0_t2
theorem k0_off61_inb : ∀ (k0_t1 : Fin k0_t1_loop.trips) (v1227 : BitVec 32) (k0_hw1 : k0_chk1 k0_t1 v1227) (k0_t2 : Fin (k0_t2_loop v1227).trips), ∀ a, (k0_off61 k0_t1 v1227 k0_t2) a + S1.size a ≤ S26112.size a := fun k0_t1 v1227 k0_hw1 k0_t2 => k0_hw1.1.2.2.2.1 k0_t2
theorem k0_off62_inb : ∀ (k0_t1 : Fin k0_t1_loop.trips) (v1227 : BitVec 32) (k0_hw1 : k0_chk1 k0_t1 v1227) (k0_t2 : Fin (k0_t2_loop v1227).trips), ∀ a, (k0_off62 k0_t1 v1227 k0_t2) a + S1x1x128.size a ≤ S4x256x128.size a := fun k0_t1 v1227 k0_hw1 k0_t2 => k0_hw1.1.2.2.2.2.1 k0_t2
theorem k0_off75_inb : ∀ (k0_t1 : Fin k0_t1_loop.trips) (v1227 : BitVec 32) (k0_hw1 : k0_chk1 k0_t1 v1227) (k0_t2 : Fin (k0_t2_loop v1227).trips), ∀ a, (k0_off75 k0_t1 v1227 k0_t2) a + S1.size a ≤ S26112.size a := fun k0_t1 v1227 k0_hw1 k0_t2 => k0_hw1.1.2.2.2.2.2.1 k0_t2
theorem k0_off76_inb : ∀ (k0_t1 : Fin k0_t1_loop.trips) (v1227 : BitVec 32) (k0_hw1 : k0_chk1 k0_t1 v1227) (k0_t2 : Fin (k0_t2_loop v1227).trips), ∀ a, (k0_off76 k0_t1 v1227 k0_t2) a + S1x1x128.size a ≤ S4x256x128.size a := fun k0_t1 v1227 k0_hw1 k0_t2 => k0_hw1.1.2.2.2.2.2.2.1 k0_t2
theorem k0_off89_inb : ∀ (k0_t1 : Fin k0_t1_loop.trips) (v1227 : BitVec 32) (k0_hw1 : k0_chk1 k0_t1 v1227) (k0_t2 : Fin (k0_t2_loop v1227).trips), ∀ a, (k0_off89 k0_t1 v1227 k0_t2) a + S1.size a ≤ S26112.size a := fun k0_t1 v1227 k0_hw1 k0_t2 => k0_hw1.1.2.2.2.2.2.2.2.1 k0_t2
theorem k0_off90_inb : ∀ (k0_t1 : Fin k0_t1_loop.trips) (v1227 : BitVec 32) (k0_hw1 : k0_chk1 k0_t1 v1227) (k0_t2 : Fin (k0_t2_loop v1227).trips), ∀ a, (k0_off90 k0_t1 v1227 k0_t2) a + S1x1x128.size a ≤ S4x256x128.size a := fun k0_t1 v1227 k0_hw1 k0_t2 => k0_hw1.1.2.2.2.2.2.2.2.2.1 k0_t2
theorem k0_off103_inb : ∀ (k0_t1 : Fin k0_t1_loop.trips) (v1227 : BitVec 32) (k0_hw1 : k0_chk1 k0_t1 v1227) (k0_t2 : Fin (k0_t2_loop v1227).trips), ∀ a, (k0_off103 k0_t1 v1227 k0_t2) a + S1.size a ≤ S26112.size a := fun k0_t1 v1227 k0_hw1 k0_t2 => k0_hw1.1.2.2.2.2.2.2.2.2.2.1 k0_t2
theorem k0_off104_inb : ∀ (k0_t1 : Fin k0_t1_loop.trips) (v1227 : BitVec 32) (k0_hw1 : k0_chk1 k0_t1 v1227) (k0_t2 : Fin (k0_t2_loop v1227).trips), ∀ a, (k0_off104 k0_t1 v1227 k0_t2) a + S1x1x128.size a ≤ S4x256x128.size a := fun k0_t1 v1227 k0_hw1 k0_t2 => k0_hw1.1.2.2.2.2.2.2.2.2.2.2.1 k0_t2
theorem k0_off117_inb : ∀ (k0_t1 : Fin k0_t1_loop.trips) (v1227 : BitVec 32) (k0_hw1 : k0_chk1 k0_t1 v1227) (k0_t2 : Fin (k0_t2_loop v1227).trips), ∀ a, (k0_off117 k0_t1 v1227 k0_t2) a + S1.size a ≤ S26112.size a := fun k0_t1 v1227 k0_hw1 k0_t2 => k0_hw1.1.2.2.2.2.2.2.2.2.2.2.2.1 k0_t2
theorem k0_off118_inb : ∀ (k0_t1 : Fin k0_t1_loop.trips) (v1227 : BitVec 32) (k0_hw1 : k0_chk1 k0_t1 v1227) (k0_t2 : Fin (k0_t2_loop v1227).trips), ∀ a, (k0_off118 k0_t1 v1227 k0_t2) a + S1x1x128.size a ≤ S4x256x128.size a := fun k0_t1 v1227 k0_hw1 k0_t2 => k0_hw1.1.2.2.2.2.2.2.2.2.2.2.2.2.1 k0_t2
theorem k0_off131_inb : ∀ (k0_t1 : Fin k0_t1_loop.trips) (v1227 : BitVec 32) (k0_hw1 : k0_chk1 k0_t1 v1227) (k0_t2 : Fin (k0_t2_loop v1227).trips), ∀ a, (k0_off131 k0_t1 v1227 k0_t2) a + S1.size a ≤ S26112.size a := fun k0_t1 v1227 k0_hw1 k0_t2 => k0_hw1.1.2.2.2.2.2.2.2.2.2.2.2.2.2.1 k0_t2
theorem k0_off132_inb : ∀ (k0_t1 : Fin k0_t1_loop.trips) (v1227 : BitVec 32) (k0_hw1 : k0_chk1 k0_t1 v1227) (k0_t2 : Fin (k0_t2_loop v1227).trips), ∀ a, (k0_off132 k0_t1 v1227 k0_t2) a + S1x1x128.size a ≤ S4x256x128.size a := fun k0_t1 v1227 k0_hw1 k0_t2 => k0_hw1.1.2.2.2.2.2.2.2.2.2.2.2.2.2.2.1 k0_t2
theorem k0_off145_inb : ∀ (k0_t1 : Fin k0_t1_loop.trips) (v1227 : BitVec 32) (k0_hw1 : k0_chk1 k0_t1 v1227) (k0_t2 : Fin (k0_t2_loop v1227).trips), ∀ a, (k0_off145 k0_t1 v1227 k0_t2) a + S1.size a ≤ S26112.size a := fun k0_t1 v1227 k0_hw1 k0_t2 => k0_hw1.1.2.2.2.2.2.2.2.2.2.2.2.2.2.2.2.1 k0_t2
theorem k0_off146_inb : ∀ (k0_t1 : Fin k0_t1_loop.trips) (v1227 : BitVec 32) (k0_hw1 : k0_chk1 k0_t1 v1227) (k0_t2 : Fin (k0_t2_loop v1227).trips), ∀ a, (k0_off146 k0_t1 v1227 k0_t2) a + S1x1x128.size a ≤ S4x256x128.size a := fun k0_t1 v1227 k0_hw1 k0_t2 => k0_hw1.1.2.2.2.2.2.2.2.2.2.2.2.2.2.2.2.2.1 k0_t2
theorem k0_off159_inb : ∀ (k0_t1 : Fin k0_t1_loop.trips) (v1227 : BitVec 32) (k0_hw1 : k0_chk1 k0_t1 v1227) (k0_t2 : Fin (k0_t2_loop v1227).trips), ∀ a, (k0_off159 k0_t1 v1227 k0_t2) a + S1.size a ≤ S26112.size a := fun k0_t1 v1227 k0_hw1 k0_t2 => k0_hw1.1.2.2.2.2.2.2.2.2.2.2.2.2.2.2.2.2.2.1 k0_t2
theorem k0_off160_inb : ∀ (k0_t1 : Fin k0_t1_loop.trips) (v1227 : BitVec 32) (k0_hw1 : k0_chk1 k0_t1 v1227) (k0_t2 : Fin (k0_t2_loop v1227).trips), ∀ a, (k0_off160 k0_t1 v1227 k0_t2) a + S1x1x128.size a ≤ S4x256x128.size a := fun k0_t1 v1227 k0_hw1 k0_t2 => k0_hw1.1.2.2.2.2.2.2.2.2.2.2.2.2.2.2.2.2.2.2.1 k0_t2
theorem k0_t3_ok : ∀ (k0_t1 : Fin k0_t1_loop.trips) (v1227 : BitVec 32) (k0_hw1 : k0_chk1 k0_t1 v1227), (k0_t3_loop v1227).OK := fun k0_t1 v1227 k0_hw1 => k0_hw1.1.2.2.2.2.2.2.2.2.2.2.2.2.2.2.2.2.2.2.2.1
theorem k0_mult135_dvd : ∀ (k0_t1 : Fin k0_t1_loop.trips) (v1227 : BitVec 32) (k0_hw1 : k0_chk1 k0_t1 v1227) (k0_t3 : Fin (k0_t3_loop v1227).trips), 8 ∣ (k0_mult135 v1227 k0_t3).toNat := fun k0_t1 v1227 k0_hw1 k0_t3 => k0_hw1.1.2.2.2.2.2.2.2.2.2.2.2.2.2.2.2.2.2.2.2.2.1 k0_t3
theorem k0_off217_inb : ∀ (k0_t1 : Fin k0_t1_loop.trips) (v1227 : BitVec 32) (k0_hw1 : k0_chk1 k0_t1 v1227) (k0_t3 : Fin (k0_t3_loop v1227).trips), ∀ a, (k0_off217 k0_t1 v1227 k0_t3) a + S1x8x128.size a ≤ S4x256x128.size a := fun k0_t1 v1227 k0_hw1 k0_t3 => k0_hw1.1.2.2.2.2.2.2.2.2.2.2.2.2.2.2.2.2.2.2.2.2.2.1 k0_t3
theorem k0_off219_inb : ∀ (k0_t1 : Fin k0_t1_loop.trips) (v1227 : BitVec 32) (k0_hw1 : k0_chk1 k0_t1 v1227) (k0_t3 : Fin (k0_t3_loop v1227).trips), ∀ a, (k0_off219 k0_t1 v1227 k0_t3) a + S1.size a ≤ S26112.size a := fun k0_t1 v1227 k0_hw1 k0_t3 => k0_hw1.1.2.2.2.2.2.2.2.2.2.2.2.2.2.2.2.2.2.2.2.2.2.2.1 k0_t3
theorem k0_off220_inb : ∀ (k0_t1 : Fin k0_t1_loop.trips) (v1227 : BitVec 32) (k0_hw1 : k0_chk1 k0_t1 v1227) (k0_t3 : Fin (k0_t3_loop v1227).trips), ∀ a, (k0_off220 k0_t1 v1227 k0_t3) a + S1x1x128.size a ≤ S4x256x128.size a := fun k0_t1 v1227 k0_hw1 k0_t3 => k0_hw1.1.2.2.2.2.2.2.2.2.2.2.2.2.2.2.2.2.2.2.2.2.2.2.2.1 k0_t3
theorem k0_off233_inb : ∀ (k0_t1 : Fin k0_t1_loop.trips) (v1227 : BitVec 32) (k0_hw1 : k0_chk1 k0_t1 v1227) (k0_t3 : Fin (k0_t3_loop v1227).trips), ∀ a, (k0_off233 k0_t1 v1227 k0_t3) a + S1.size a ≤ S26112.size a := fun k0_t1 v1227 k0_hw1 k0_t3 => k0_hw1.1.2.2.2.2.2.2.2.2.2.2.2.2.2.2.2.2.2.2.2.2.2.2.2.2.1 k0_t3
theorem k0_off234_inb : ∀ (k0_t1 : Fin k0_t1_loop.trips) (v1227 : BitVec 32) (k0_hw1 : k0_chk1 k0_t1 v1227) (k0_t3 : Fin (k0_t3_loop v1227).trips), ∀ a, (k0_off234 k0_t1 v1227 k0_t3) a + S1x1x128.size a ≤ S4x256x128.size a := fun k0_t1 v1227 k0_hw1 k0_t3 => k0_hw1.1.2.2.2.2.2.2.2.2.2.2.2.2.2.2.2.2.2.2.2.2.2.2.2.2.2.1 k0_t3
theorem k0_off247_inb : ∀ (k0_t1 : Fin k0_t1_loop.trips) (v1227 : BitVec 32) (k0_hw1 : k0_chk1 k0_t1 v1227) (k0_t3 : Fin (k0_t3_loop v1227).trips), ∀ a, (k0_off247 k0_t1 v1227 k0_t3) a + S1.size a ≤ S26112.size a := fun k0_t1 v1227 k0_hw1 k0_t3 => k0_hw1.1.2.2.2.2.2.2.2.2.2.2.2.2.2.2.2.2.2.2.2.2.2.2.2.2.2.2.1 k0_t3
theorem k0_off248_inb : ∀ (k0_t1 : Fin k0_t1_loop.trips) (v1227 : BitVec 32) (k0_hw1 : k0_chk1 k0_t1 v1227) (k0_t3 : Fin (k0_t3_loop v1227).trips), ∀ a, (k0_off248 k0_t1 v1227 k0_t3) a + S1x1x128.size a ≤ S4x256x128.size a := fun k0_t1 v1227 k0_hw1 k0_t3 => k0_hw1.1.2.2.2.2.2.2.2.2.2.2.2.2.2.2.2.2.2.2.2.2.2.2.2.2.2.2.2.1 k0_t3
theorem k0_off261_inb : ∀ (k0_t1 : Fin k0_t1_loop.trips) (v1227 : BitVec 32) (k0_hw1 : k0_chk1 k0_t1 v1227) (k0_t3 : Fin (k0_t3_loop v1227).trips), ∀ a, (k0_off261 k0_t1 v1227 k0_t3) a + S1.size a ≤ S26112.size a := fun k0_t1 v1227 k0_hw1 k0_t3 => k0_hw1.1.2.2.2.2.2.2.2.2.2.2.2.2.2.2.2.2.2.2.2.2.2.2.2.2.2.2.2.2.1 k0_t3
theorem k0_off262_inb : ∀ (k0_t1 : Fin k0_t1_loop.trips) (v1227 : BitVec 32) (k0_hw1 : k0_chk1 k0_t1 v1227) (k0_t3 : Fin (k0_t3_loop v1227).trips), ∀ a, (k0_off262 k0_t1 v1227 k0_t3) a + S1x1x128.size a ≤ S4x256x128.size a := fun k0_t1 v1227 k0_hw1 k0_t3 => k0_hw1.1.2.2.2.2.2.2.2.2.2.2.2.2.2.2.2.2.2.2.2.2.2.2.2.2.2.2.2.2.2.1 k0_t3
theorem k0_off275_inb : ∀ (k0_t1 : Fin k0_t1_loop.trips) (v1227 : BitVec 32) (k0_hw1 : k0_chk1 k0_t1 v1227) (k0_t3 : Fin (k0_t3_loop v1227).trips), ∀ a, (k0_off275 k0_t1 v1227 k0_t3) a + S1.size a ≤ S26112.size a := fun k0_t1 v1227 k0_hw1 k0_t3 => k0_hw1.1.2.2.2.2.2.2.2.2.2.2.2.2.2.2.2.2.2.2.2.2.2.2.2.2.2.2.2.2.2.2.1 k0_t3
theorem k0_off276_inb : ∀ (k0_t1 : Fin k0_t1_loop.trips) (v1227 : BitVec 32) (k0_hw1 : k0_chk1 k0_t1 v1227) (k0_t3 : Fin (k0_t3_loop v1227).trips), ∀ a, (k0_off276 k0_t1 v1227 k0_t3) a + S1x1x128.size a ≤ S4x256x128.size a := fun k0_t1 v1227 k0_hw1 k0_t3 => k0_hw1.1.2.2.2.2.2.2.2.2.2.2.2.2.2.2.2.2.2.2.2.2.2.2.2.2.2.2.2.2.2.2.2 k0_t3
theorem k0_off289_inb : ∀ (k0_t1 : Fin k0_t1_loop.trips) (v1227 : BitVec 32) (k0_hw1 : k0_chk1 k0_t1 v1227) (k0_t3 : Fin (k0_t3_loop v1227).trips), ∀ a, (k0_off289 k0_t1 v1227 k0_t3) a + S1.size a ≤ S26112.size a := fun k0_t1 v1227 k0_hw1 k0_t3 => k0_hw1.2.1 k0_t3
theorem k0_off290_inb : ∀ (k0_t1 : Fin k0_t1_loop.trips) (v1227 : BitVec 32) (k0_hw1 : k0_chk1 k0_t1 v1227) (k0_t3 : Fin (k0_t3_loop v1227).trips), ∀ a, (k0_off290 k0_t1 v1227 k0_t3) a + S1x1x128.size a ≤ S4x256x128.size a := fun k0_t1 v1227 k0_hw1 k0_t3 => k0_hw1.2.2.1 k0_t3
theorem k0_off303_inb : ∀ (k0_t1 : Fin k0_t1_loop.trips) (v1227 : BitVec 32) (k0_hw1 : k0_chk1 k0_t1 v1227) (k0_t3 : Fin (k0_t3_loop v1227).trips), ∀ a, (k0_off303 k0_t1 v1227 k0_t3) a + S1.size a ≤ S26112.size a := fun k0_t1 v1227 k0_hw1 k0_t3 => k0_hw1.2.2.2.1 k0_t3
theorem k0_off304_inb : ∀ (k0_t1 : Fin k0_t1_loop.trips) (v1227 : BitVec 32) (k0_hw1 : k0_chk1 k0_t1 v1227) (k0_t3 : Fin (k0_t3_loop v1227).trips), ∀ a, (k0_off304 k0_t1 v1227 k0_t3) a + S1x1x128.size a ≤ S4x256x128.size a := fun k0_t1 v1227 k0_hw1 k0_t3 => k0_hw1.2.2.2.2.1 k0_t3
theorem k0_off317_inb : ∀ (k0_t1 : Fin k0_t1_loop.trips) (v1227 : BitVec 32) (k0_hw1 : k0_chk1 k0_t1 v1227) (k0_t3 : Fin (k0_t3_loop v1227).trips), ∀ a, (k0_off317 k0_t1 v1227 k0_t3) a + S1.size a ≤ S26112.size a := fun k0_t1 v1227 k0_hw1 k0_t3 => k0_hw1.2.2.2.2.2.1 k0_t3
theorem k0_off318_inb : ∀ (k0_t1 : Fin k0_t1_loop.trips) (v1227 : BitVec 32) (k0_hw1 : k0_chk1 k0_t1 v1227) (k0_t3 : Fin (k0_t3_loop v1227).trips), ∀ a, (k0_off318 k0_t1 v1227 k0_t3) a + S1x1x128.size a ≤ S4x256x128.size a := fun k0_t1 v1227 k0_hw1 k0_t3 => k0_hw1.2.2.2.2.2.2 k0_t3

def k0_mult248 (v7190 : BitVec 32) : BitVec 32 :=
  let c0_i32_2425 : BitVec 32 := 0#32
  let v7206 : BitVec 32 := Scalar.addi v7190 c0_i32_2425
  let c128_i32_2426 : BitVec 32 := 128#32
  let v7207 : BitVec 32 := Scalar.muli v7206 c128_i32_2426
  v7207

def k0_off319 (k0_t1 : Fin k0_t1_loop.trips) (v7190 : BitVec 32) (c0_i32_2425 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7211 : Index := Scalar.indexCast v1163
  let c0_2428 : Index := 0#32
  let v7206 : BitVec 32 := Scalar.addi v7190 c0_i32_2425
  let c128_i32_2426 : BitVec 32 := 128#32
  let v7207 : BitVec 32 := Scalar.muli v7206 c128_i32_2426
  let v7208 : BitVec 32 := v7207
  let v7212 : Index := Scalar.indexCast v7208
  ![v7211.toNat, 0, v7212.toNat]
def k0_off320 (k0_t1 : Fin k0_t1_loop.trips) (v7190 : BitVec 32) (c0_i32_2425 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7216 : Index := Scalar.indexCast v1163
  let c32_2429 : Index := 32#32
  let v7206 : BitVec 32 := Scalar.addi v7190 c0_i32_2425
  let c128_i32_2426 : BitVec 32 := 128#32
  let v7207 : BitVec 32 := Scalar.muli v7206 c128_i32_2426
  let v7208 : BitVec 32 := v7207
  let v7217 : Index := Scalar.indexCast v7208
  ![v7216.toNat, 32, v7217.toNat]
def k0_off321 (k0_t1 : Fin k0_t1_loop.trips) (v7190 : BitVec 32) (c0_i32_2425 : BitVec 32) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let v7221 : Index := Scalar.indexCast v1163
  let c64_2430 : Index := 64#32
  let v7206 : BitVec 32 := Scalar.addi v7190 c0_i32_2425
  let c128_i32_2426 : BitVec 32 := 128#32
  let v7207 : BitVec 32 := Scalar.muli v7206 c128_i32_2426
  let v7208 : BitVec 32 := v7207
  let v7222 : Index := Scalar.indexCast v7208
  ![v7221.toNat, 64, v7222.toNat]
def k0_mult249 (v7190 : BitVec 32) : BitVec 32 :=
  let c1_i32_2434 : BitVec 32 := 1#32
  let v7241 : BitVec 32 := Scalar.addi v7190 c1_i32_2434
  let c128_i32_2435 : BitVec 32 := 128#32
  let v7242 : BitVec 32 := Scalar.muli v7241 c128_i32_2435
  v7242
def k0_mult250 (v7190 : BitVec 32) : BitVec 32 :=
  let c2_i32_2443 : BitVec 32 := 2#32
  let v7282 : BitVec 32 := Scalar.addi v7190 c2_i32_2443
  let c128_i32_2444 : BitVec 32 := 128#32
  let v7283 : BitVec 32 := Scalar.muli v7282 c128_i32_2444
  v7283
def k0_mult251 (v7190 : BitVec 32) : BitVec 32 :=
  let c3_i32_2452 : BitVec 32 := 3#32
  let v7323 : BitVec 32 := Scalar.addi v7190 c3_i32_2452
  let c128_i32_2453 : BitVec 32 := 128#32
  let v7324 : BitVec 32 := Scalar.muli v7323 c128_i32_2453
  v7324
def k0_mult252 (v7190 : BitVec 32) : BitVec 32 :=
  let c4_i32_2461 : BitVec 32 := 4#32
  let v7364 : BitVec 32 := Scalar.addi v7190 c4_i32_2461
  let c128_i32_2462 : BitVec 32 := 128#32
  let v7365 : BitVec 32 := Scalar.muli v7364 c128_i32_2462
  v7365
def k0_mult253 (v7190 : BitVec 32) : BitVec 32 :=
  let c5_i32_2470 : BitVec 32 := 5#32
  let v7405 : BitVec 32 := Scalar.addi v7190 c5_i32_2470
  let c128_i32_2471 : BitVec 32 := 128#32
  let v7406 : BitVec 32 := Scalar.muli v7405 c128_i32_2471
  v7406
def k0_mult254 (v7190 : BitVec 32) : BitVec 32 :=
  let c6_i32_2479 : BitVec 32 := 6#32
  let v7446 : BitVec 32 := Scalar.addi v7190 c6_i32_2479
  let c128_i32_2480 : BitVec 32 := 128#32
  let v7447 : BitVec 32 := Scalar.muli v7446 c128_i32_2480
  v7447
def k0_mult255 (v7190 : BitVec 32) : BitVec 32 :=
  let c7_i32_2488 : BitVec 32 := 7#32
  let v7487 : BitVec 32 := Scalar.addi v7190 c7_i32_2488
  let c128_i32_2489 : BitVec 32 := 128#32
  let v7488 : BitVec 32 := Scalar.muli v7487 c128_i32_2489
  v7488
def k0_mult256 (v7190 : BitVec 32) : BitVec 32 :=
  let c8_i32_2497 : BitVec 32 := 8#32
  let v7528 : BitVec 32 := Scalar.addi v7190 c8_i32_2497
  let c128_i32_2498 : BitVec 32 := 128#32
  let v7529 : BitVec 32 := Scalar.muli v7528 c128_i32_2498
  v7529
def k0_mult257 (v7190 : BitVec 32) : BitVec 32 :=
  let c9_i32_2506 : BitVec 32 := 9#32
  let v7569 : BitVec 32 := Scalar.addi v7190 c9_i32_2506
  let c128_i32_2507 : BitVec 32 := 128#32
  let v7570 : BitVec 32 := Scalar.muli v7569 c128_i32_2507
  v7570
def k0_mult258 (v7190 : BitVec 32) : BitVec 32 :=
  let c10_i32_2515 : BitVec 32 := 10#32
  let v7610 : BitVec 32 := Scalar.addi v7190 c10_i32_2515
  let c128_i32_2516 : BitVec 32 := 128#32
  let v7611 : BitVec 32 := Scalar.muli v7610 c128_i32_2516
  v7611
def k0_mult259 (v7190 : BitVec 32) : BitVec 32 :=
  let c11_i32_2524 : BitVec 32 := 11#32
  let v7651 : BitVec 32 := Scalar.addi v7190 c11_i32_2524
  let c128_i32_2525 : BitVec 32 := 128#32
  let v7652 : BitVec 32 := Scalar.muli v7651 c128_i32_2525
  v7652
def k0_mult260 (v7190 : BitVec 32) : BitVec 32 :=
  let c12_i32_2533 : BitVec 32 := 12#32
  let v7692 : BitVec 32 := Scalar.addi v7190 c12_i32_2533
  let c128_i32_2534 : BitVec 32 := 128#32
  let v7693 : BitVec 32 := Scalar.muli v7692 c128_i32_2534
  v7693
def k0_mult261 (v7190 : BitVec 32) : BitVec 32 :=
  let c13_i32_2542 : BitVec 32 := 13#32
  let v7733 : BitVec 32 := Scalar.addi v7190 c13_i32_2542
  let c128_i32_2543 : BitVec 32 := 128#32
  let v7734 : BitVec 32 := Scalar.muli v7733 c128_i32_2543
  v7734
def k0_mult262 (v7190 : BitVec 32) : BitVec 32 :=
  let c14_i32_2551 : BitVec 32 := 14#32
  let v7774 : BitVec 32 := Scalar.addi v7190 c14_i32_2551
  let c128_i32_2552 : BitVec 32 := 128#32
  let v7775 : BitVec 32 := Scalar.muli v7774 c128_i32_2552
  v7775
def k0_mult263 (v7190 : BitVec 32) : BitVec 32 :=
  let c15_i32_2560 : BitVec 32 := 15#32
  let v7815 : BitVec 32 := Scalar.addi v7190 c15_i32_2560
  let c128_i32_2561 : BitVec 32 := 128#32
  let v7816 : BitVec 32 := Scalar.muli v7815 c128_i32_2561
  v7816

def k0_chk25 (k0_t1 : Fin k0_t1_loop.trips) (v7190 : BitVec 32) : Prop :=
  (128 ∣ (k0_mult248 v7190).toNat) ∧
  (∀ (r : Fin 16), ∀ a, (k0_off319 k0_t1 v7190 (BitVec.ofNat 32 r.val)) a + S1x32x128.size a ≤ S4x96x32768.size a) ∧
  (∀ (r : Fin 16), ∀ a, (k0_off320 k0_t1 v7190 (BitVec.ofNat 32 r.val)) a + S1x32x128.size a ≤ S4x96x32768.size a) ∧
  (∀ (r : Fin 16), ∀ a, (k0_off321 k0_t1 v7190 (BitVec.ofNat 32 r.val)) a + S1x32x128.size a ≤ S4x96x32768.size a) ∧
  (128 ∣ (k0_mult249 v7190).toNat) ∧
  (128 ∣ (k0_mult250 v7190).toNat) ∧
  (128 ∣ (k0_mult251 v7190).toNat) ∧
  (128 ∣ (k0_mult252 v7190).toNat) ∧
  (128 ∣ (k0_mult253 v7190).toNat) ∧
  (128 ∣ (k0_mult254 v7190).toNat) ∧
  (128 ∣ (k0_mult255 v7190).toNat) ∧
  (128 ∣ (k0_mult256 v7190).toNat) ∧
  (128 ∣ (k0_mult257 v7190).toNat) ∧
  (128 ∣ (k0_mult258 v7190).toNat) ∧
  (128 ∣ (k0_mult259 v7190).toNat) ∧
  (128 ∣ (k0_mult260 v7190).toNat) ∧
  (128 ∣ (k0_mult261 v7190).toNat) ∧
  (128 ∣ (k0_mult262 v7190).toNat) ∧
  (128 ∣ (k0_mult263 v7190).toNat)
theorem k0_mult248_dvd : ∀ (k0_t1 : Fin k0_t1_loop.trips) (v7190 : BitVec 32) (k0_hw25 : k0_chk25 k0_t1 v7190), 128 ∣ (k0_mult248 v7190).toNat := fun k0_t1 v7190 k0_hw25 => k0_hw25.1
theorem k0_off319_inb : ∀ (k0_t1 : Fin k0_t1_loop.trips) (v7190 : BitVec 32) (k0_hw25 : k0_chk25 k0_t1 v7190), ∀ (r : Fin 16), ∀ a, (k0_off319 k0_t1 v7190 (BitVec.ofNat 32 r.val)) a + S1x32x128.size a ≤ S4x96x32768.size a := fun k0_t1 v7190 k0_hw25 r => k0_hw25.2.1 r
theorem k0_off320_inb : ∀ (k0_t1 : Fin k0_t1_loop.trips) (v7190 : BitVec 32) (k0_hw25 : k0_chk25 k0_t1 v7190), ∀ (r : Fin 16), ∀ a, (k0_off320 k0_t1 v7190 (BitVec.ofNat 32 r.val)) a + S1x32x128.size a ≤ S4x96x32768.size a := fun k0_t1 v7190 k0_hw25 r => k0_hw25.2.2.1 r
theorem k0_off321_inb : ∀ (k0_t1 : Fin k0_t1_loop.trips) (v7190 : BitVec 32) (k0_hw25 : k0_chk25 k0_t1 v7190), ∀ (r : Fin 16), ∀ a, (k0_off321 k0_t1 v7190 (BitVec.ofNat 32 r.val)) a + S1x32x128.size a ≤ S4x96x32768.size a := fun k0_t1 v7190 k0_hw25 r => k0_hw25.2.2.2.1 r
theorem k0_mult249_dvd : ∀ (k0_t1 : Fin k0_t1_loop.trips) (v7190 : BitVec 32) (k0_hw25 : k0_chk25 k0_t1 v7190), 128 ∣ (k0_mult249 v7190).toNat := fun k0_t1 v7190 k0_hw25 => k0_hw25.2.2.2.2.1
theorem k0_mult250_dvd : ∀ (k0_t1 : Fin k0_t1_loop.trips) (v7190 : BitVec 32) (k0_hw25 : k0_chk25 k0_t1 v7190), 128 ∣ (k0_mult250 v7190).toNat := fun k0_t1 v7190 k0_hw25 => k0_hw25.2.2.2.2.2.1
theorem k0_mult251_dvd : ∀ (k0_t1 : Fin k0_t1_loop.trips) (v7190 : BitVec 32) (k0_hw25 : k0_chk25 k0_t1 v7190), 128 ∣ (k0_mult251 v7190).toNat := fun k0_t1 v7190 k0_hw25 => k0_hw25.2.2.2.2.2.2.1
theorem k0_mult252_dvd : ∀ (k0_t1 : Fin k0_t1_loop.trips) (v7190 : BitVec 32) (k0_hw25 : k0_chk25 k0_t1 v7190), 128 ∣ (k0_mult252 v7190).toNat := fun k0_t1 v7190 k0_hw25 => k0_hw25.2.2.2.2.2.2.2.1
theorem k0_mult253_dvd : ∀ (k0_t1 : Fin k0_t1_loop.trips) (v7190 : BitVec 32) (k0_hw25 : k0_chk25 k0_t1 v7190), 128 ∣ (k0_mult253 v7190).toNat := fun k0_t1 v7190 k0_hw25 => k0_hw25.2.2.2.2.2.2.2.2.1
theorem k0_mult254_dvd : ∀ (k0_t1 : Fin k0_t1_loop.trips) (v7190 : BitVec 32) (k0_hw25 : k0_chk25 k0_t1 v7190), 128 ∣ (k0_mult254 v7190).toNat := fun k0_t1 v7190 k0_hw25 => k0_hw25.2.2.2.2.2.2.2.2.2.1
theorem k0_mult255_dvd : ∀ (k0_t1 : Fin k0_t1_loop.trips) (v7190 : BitVec 32) (k0_hw25 : k0_chk25 k0_t1 v7190), 128 ∣ (k0_mult255 v7190).toNat := fun k0_t1 v7190 k0_hw25 => k0_hw25.2.2.2.2.2.2.2.2.2.2.1
theorem k0_mult256_dvd : ∀ (k0_t1 : Fin k0_t1_loop.trips) (v7190 : BitVec 32) (k0_hw25 : k0_chk25 k0_t1 v7190), 128 ∣ (k0_mult256 v7190).toNat := fun k0_t1 v7190 k0_hw25 => k0_hw25.2.2.2.2.2.2.2.2.2.2.2.1
theorem k0_mult257_dvd : ∀ (k0_t1 : Fin k0_t1_loop.trips) (v7190 : BitVec 32) (k0_hw25 : k0_chk25 k0_t1 v7190), 128 ∣ (k0_mult257 v7190).toNat := fun k0_t1 v7190 k0_hw25 => k0_hw25.2.2.2.2.2.2.2.2.2.2.2.2.1
theorem k0_mult258_dvd : ∀ (k0_t1 : Fin k0_t1_loop.trips) (v7190 : BitVec 32) (k0_hw25 : k0_chk25 k0_t1 v7190), 128 ∣ (k0_mult258 v7190).toNat := fun k0_t1 v7190 k0_hw25 => k0_hw25.2.2.2.2.2.2.2.2.2.2.2.2.2.1
theorem k0_mult259_dvd : ∀ (k0_t1 : Fin k0_t1_loop.trips) (v7190 : BitVec 32) (k0_hw25 : k0_chk25 k0_t1 v7190), 128 ∣ (k0_mult259 v7190).toNat := fun k0_t1 v7190 k0_hw25 => k0_hw25.2.2.2.2.2.2.2.2.2.2.2.2.2.2.1
theorem k0_mult260_dvd : ∀ (k0_t1 : Fin k0_t1_loop.trips) (v7190 : BitVec 32) (k0_hw25 : k0_chk25 k0_t1 v7190), 128 ∣ (k0_mult260 v7190).toNat := fun k0_t1 v7190 k0_hw25 => k0_hw25.2.2.2.2.2.2.2.2.2.2.2.2.2.2.2.1
theorem k0_mult261_dvd : ∀ (k0_t1 : Fin k0_t1_loop.trips) (v7190 : BitVec 32) (k0_hw25 : k0_chk25 k0_t1 v7190), 128 ∣ (k0_mult261 v7190).toNat := fun k0_t1 v7190 k0_hw25 => k0_hw25.2.2.2.2.2.2.2.2.2.2.2.2.2.2.2.2.1
theorem k0_mult262_dvd : ∀ (k0_t1 : Fin k0_t1_loop.trips) (v7190 : BitVec 32) (k0_hw25 : k0_chk25 k0_t1 v7190), 128 ∣ (k0_mult262 v7190).toNat := fun k0_t1 v7190 k0_hw25 => k0_hw25.2.2.2.2.2.2.2.2.2.2.2.2.2.2.2.2.2.1
theorem k0_mult263_dvd : ∀ (k0_t1 : Fin k0_t1_loop.trips) (v7190 : BitVec 32) (k0_hw25 : k0_chk25 k0_t1 v7190), 128 ∣ (k0_mult263 v7190).toNat := fun k0_t1 v7190 k0_hw25 => k0_hw25.2.2.2.2.2.2.2.2.2.2.2.2.2.2.2.2.2.2

def k0_off322 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7856 : Index := Scalar.indexCast arg27
  let c0_2569 : Index := 0#32
  let c0_2570 : Index := 0#32
  ![v7856.toNat, 0, 0]
def k0_off323 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7867 : Index := Scalar.indexCast arg27
  let c8_2573 : Index := 8#32
  let c0_2574 : Index := 0#32
  ![v7867.toNat, 8, 0]
def k0_off324 (arg33 : BitVec 32) : Fin 4 → Nat :=
  let v7887 : Index := Scalar.indexCast arg33
  let c7_2580 : Index := 7#32
  let c0_2581 : Index := 0#32
  let c0_2582 : Index := 0#32
  ![v7887.toNat, 7, 0, 0]
def k0_off325 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7891 : Index := Scalar.indexCast arg27
  let c16_2583 : Index := 16#32
  let c0_2584 : Index := 0#32
  ![v7891.toNat, 16, 0]
def k0_off326 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7902 : Index := Scalar.indexCast arg27
  let c24_2587 : Index := 24#32
  let c0_2588 : Index := 0#32
  ![v7902.toNat, 24, 0]
def k0_off327 (arg33 : BitVec 32) : Fin 4 → Nat :=
  let v7922 : Index := Scalar.indexCast arg33
  let c7_2594 : Index := 7#32
  let c8_2595 : Index := 8#32
  let c0_2596 : Index := 0#32
  ![v7922.toNat, 7, 8, 0]
def k0_off328 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7926 : Index := Scalar.indexCast arg27
  let c32_2597 : Index := 32#32
  let c0_2598 : Index := 0#32
  ![v7926.toNat, 32, 0]
def k0_off329 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let v7937 : Index := Scalar.indexCast arg27
  let c40_2601 : Index := 40#32
  let c0_2602 : Index := 0#32
  ![v7937.toNat, 40, 0]
def k0_off330 (arg33 : BitVec 32) : Fin 4 → Nat :=
  let v7957 : Index := Scalar.indexCast arg33
  let c7_2608 : Index := 7#32
  let c16_2609 : Index := 16#32
  let c0_2610 : Index := 0#32
  ![v7957.toNat, 7, 16, 0]

def k0_chk15_0 (arg33 : BitVec 32) : Prop :=
  (∀ a, (k0_off174 arg33) a + S1x1x8x128.size a ≤ S4x8x24x128.size a) ∧
  (∀ a, (k0_off175 arg33) a + S1x1x8x128.size a ≤ S4x8x24x128.size a) ∧
  (∀ a, (k0_off176 arg33) a + S1x1x8x128.size a ≤ S4x8x24x128.size a) ∧
  (∀ a, (k0_off177 arg33) a + S1x1x8x128.size a ≤ S4x8x24x128.size a) ∧
  (∀ a, (k0_off178 arg33) a + S1x1x8x128.size a ≤ S4x8x24x128.size a) ∧
  (∀ a, (k0_off179 arg33) a + S1x1x8x128.size a ≤ S4x8x24x128.size a) ∧
  (∀ a, (k0_off180 arg33) a + S1x1x8x128.size a ≤ S4x8x24x128.size a) ∧
  (∀ a, (k0_off181 arg33) a + S1x1x8x128.size a ≤ S4x8x24x128.size a) ∧
  (∀ a, (k0_off182 arg33) a + S1x1x8x128.size a ≤ S4x8x24x128.size a) ∧
  (∀ a, (k0_off183 arg33) a + S1x1x8x128.size a ≤ S4x8x24x128.size a) ∧
  (∀ a, (k0_off184 arg33) a + S1x1x8x128.size a ≤ S4x8x24x128.size a) ∧
  (∀ a, (k0_off185 arg33) a + S1x1x8x128.size a ≤ S4x8x24x128.size a) ∧
  (∀ a, (k0_off186 arg33) a + S1x1x8x128.size a ≤ S4x8x24x128.size a) ∧
  (∀ a, (k0_off187 arg33) a + S1x1x8x128.size a ≤ S4x8x24x128.size a) ∧
  (∀ a, (k0_off188 arg33) a + S1x1x8x128.size a ≤ S4x8x24x128.size a) ∧
  (∀ a, (k0_off189 arg33) a + S1x1x8x128.size a ≤ S4x8x24x128.size a) ∧
  (∀ a, (k0_off190 arg33) a + S1x1x8x128.size a ≤ S4x8x24x128.size a) ∧
  (∀ a, (k0_off191 arg33) a + S1x1x8x128.size a ≤ S4x8x24x128.size a) ∧
  (∀ a, (k0_off192 arg33) a + S1x1x8x128.size a ≤ S4x8x24x128.size a) ∧
  (∀ a, (k0_off193 arg33) a + S1x1x8x128.size a ≤ S4x8x24x128.size a) ∧
  (∀ a, (k0_off194 arg33) a + S1x1x8x128.size a ≤ S4x8x24x128.size a) ∧
  (∀ a, (k0_off195 arg33) a + S1x1x8x128.size a ≤ S4x8x24x128.size a) ∧
  (∀ a, (k0_off196 arg33) a + S1x1x8x128.size a ≤ S4x8x24x128.size a) ∧
  (∀ a, (k0_off197 arg33) a + S1x1x8x128.size a ≤ S4x8x24x128.size a) ∧
  (∀ a, (k0_off200 arg33) a + S1x1x128.size a ≤ S4x8x128.size a) ∧
  (∀ a, (k0_off201 arg33) a + S1x1x128.size a ≤ S4x8x128.size a) ∧
  (∀ a, (k0_off202 arg33) a + S1x1x128.size a ≤ S4x8x128.size a) ∧
  (∀ a, (k0_off203 arg33) a + S1x1x128.size a ≤ S4x8x128.size a) ∧
  (∀ a, (k0_off204 arg33) a + S1x1x128.size a ≤ S4x8x128.size a) ∧
  (∀ a, (k0_off205 arg33) a + S1x1x128.size a ≤ S4x8x128.size a) ∧
  (∀ a, (k0_off206 arg33) a + S1x1x128.size a ≤ S4x8x128.size a) ∧
  (∀ a, (k0_off207 arg33) a + S1x1x128.size a ≤ S4x8x128.size a)
def k0_chk15_1 (arg33 : BitVec 32) : Prop :=
  (∀ a, (k0_off209 arg33) a + S1x1x128.size a ≤ S4x8x128.size a) ∧
  (∀ a, (k0_off210 arg33) a + S1x1x128.size a ≤ S4x8x128.size a) ∧
  (∀ a, (k0_off211 arg33) a + S1x1x128.size a ≤ S4x8x128.size a) ∧
  (∀ a, (k0_off212 arg33) a + S1x1x128.size a ≤ S4x8x128.size a) ∧
  (∀ a, (k0_off213 arg33) a + S1x1x128.size a ≤ S4x8x128.size a) ∧
  (∀ a, (k0_off214 arg33) a + S1x1x128.size a ≤ S4x8x128.size a) ∧
  (∀ a, (k0_off215 arg33) a + S1x1x128.size a ≤ S4x8x128.size a) ∧
  (∀ a, (k0_off216 arg33) a + S1x1x128.size a ≤ S4x8x128.size a) ∧
  (∀ a, (k0_off218 arg33) a + S1x8x128.size a ≤ S4x8x128.size a) ∧
  (∀ a, (k0_off226 arg33) a + S1x1x8x128.size a ≤ S4x8x24x128.size a) ∧
  (∀ a, (k0_off229 arg33) a + S1x1x8x128.size a ≤ S4x8x24x128.size a) ∧
  (∀ a, (k0_off232 arg33) a + S1x1x8x128.size a ≤ S4x8x24x128.size a) ∧
  (∀ a, (k0_off240 arg33) a + S1x1x8x128.size a ≤ S4x8x24x128.size a) ∧
  (∀ a, (k0_off243 arg33) a + S1x1x8x128.size a ≤ S4x8x24x128.size a) ∧
  (∀ a, (k0_off246 arg33) a + S1x1x8x128.size a ≤ S4x8x24x128.size a) ∧
  (∀ a, (k0_off254 arg33) a + S1x1x8x128.size a ≤ S4x8x24x128.size a) ∧
  (∀ a, (k0_off257 arg33) a + S1x1x8x128.size a ≤ S4x8x24x128.size a) ∧
  (∀ a, (k0_off260 arg33) a + S1x1x8x128.size a ≤ S4x8x24x128.size a) ∧
  (∀ a, (k0_off268 arg33) a + S1x1x8x128.size a ≤ S4x8x24x128.size a) ∧
  (∀ a, (k0_off271 arg33) a + S1x1x8x128.size a ≤ S4x8x24x128.size a) ∧
  (∀ a, (k0_off274 arg33) a + S1x1x8x128.size a ≤ S4x8x24x128.size a) ∧
  (∀ a, (k0_off282 arg33) a + S1x1x8x128.size a ≤ S4x8x24x128.size a) ∧
  (∀ a, (k0_off285 arg33) a + S1x1x8x128.size a ≤ S4x8x24x128.size a) ∧
  (∀ a, (k0_off288 arg33) a + S1x1x8x128.size a ≤ S4x8x24x128.size a) ∧
  (∀ a, (k0_off296 arg33) a + S1x1x8x128.size a ≤ S4x8x24x128.size a) ∧
  (∀ a, (k0_off299 arg33) a + S1x1x8x128.size a ≤ S4x8x24x128.size a) ∧
  (∀ a, (k0_off302 arg33) a + S1x1x8x128.size a ≤ S4x8x24x128.size a) ∧
  (∀ a, (k0_off310 arg33) a + S1x1x8x128.size a ≤ S4x8x24x128.size a) ∧
  (∀ a, (k0_off313 arg33) a + S1x1x8x128.size a ≤ S4x8x24x128.size a) ∧
  (∀ a, (k0_off316 arg33) a + S1x1x8x128.size a ≤ S4x8x24x128.size a) ∧
  (∀ a, (k0_off324 arg33) a + S1x1x8x128.size a ≤ S4x8x24x128.size a) ∧
  (∀ a, (k0_off327 arg33) a + S1x1x8x128.size a ≤ S4x8x24x128.size a)
def k0_chk15_2 (arg33 : BitVec 32) : Prop :=
  (∀ a, (k0_off330 arg33) a + S1x1x8x128.size a ≤ S4x8x24x128.size a)
def k0_chk15 (arg33 : BitVec 32) : Prop :=
  k0_chk15_0 arg33 ∧
  k0_chk15_1 arg33 ∧
  k0_chk15_2 arg33
theorem k0_off174_inb : ∀ (arg33 : BitVec 32) (k0_hw15 : k0_chk15 arg33), ∀ a, (k0_off174 arg33) a + S1x1x8x128.size a ≤ S4x8x24x128.size a := fun arg33 k0_hw15 => k0_hw15.1.1
theorem k0_off175_inb : ∀ (arg33 : BitVec 32) (k0_hw15 : k0_chk15 arg33), ∀ a, (k0_off175 arg33) a + S1x1x8x128.size a ≤ S4x8x24x128.size a := fun arg33 k0_hw15 => k0_hw15.1.2.1
theorem k0_off176_inb : ∀ (arg33 : BitVec 32) (k0_hw15 : k0_chk15 arg33), ∀ a, (k0_off176 arg33) a + S1x1x8x128.size a ≤ S4x8x24x128.size a := fun arg33 k0_hw15 => k0_hw15.1.2.2.1
theorem k0_off177_inb : ∀ (arg33 : BitVec 32) (k0_hw15 : k0_chk15 arg33), ∀ a, (k0_off177 arg33) a + S1x1x8x128.size a ≤ S4x8x24x128.size a := fun arg33 k0_hw15 => k0_hw15.1.2.2.2.1
theorem k0_off178_inb : ∀ (arg33 : BitVec 32) (k0_hw15 : k0_chk15 arg33), ∀ a, (k0_off178 arg33) a + S1x1x8x128.size a ≤ S4x8x24x128.size a := fun arg33 k0_hw15 => k0_hw15.1.2.2.2.2.1
theorem k0_off179_inb : ∀ (arg33 : BitVec 32) (k0_hw15 : k0_chk15 arg33), ∀ a, (k0_off179 arg33) a + S1x1x8x128.size a ≤ S4x8x24x128.size a := fun arg33 k0_hw15 => k0_hw15.1.2.2.2.2.2.1
theorem k0_off180_inb : ∀ (arg33 : BitVec 32) (k0_hw15 : k0_chk15 arg33), ∀ a, (k0_off180 arg33) a + S1x1x8x128.size a ≤ S4x8x24x128.size a := fun arg33 k0_hw15 => k0_hw15.1.2.2.2.2.2.2.1
theorem k0_off181_inb : ∀ (arg33 : BitVec 32) (k0_hw15 : k0_chk15 arg33), ∀ a, (k0_off181 arg33) a + S1x1x8x128.size a ≤ S4x8x24x128.size a := fun arg33 k0_hw15 => k0_hw15.1.2.2.2.2.2.2.2.1
theorem k0_off182_inb : ∀ (arg33 : BitVec 32) (k0_hw15 : k0_chk15 arg33), ∀ a, (k0_off182 arg33) a + S1x1x8x128.size a ≤ S4x8x24x128.size a := fun arg33 k0_hw15 => k0_hw15.1.2.2.2.2.2.2.2.2.1
theorem k0_off183_inb : ∀ (arg33 : BitVec 32) (k0_hw15 : k0_chk15 arg33), ∀ a, (k0_off183 arg33) a + S1x1x8x128.size a ≤ S4x8x24x128.size a := fun arg33 k0_hw15 => k0_hw15.1.2.2.2.2.2.2.2.2.2.1
theorem k0_off184_inb : ∀ (arg33 : BitVec 32) (k0_hw15 : k0_chk15 arg33), ∀ a, (k0_off184 arg33) a + S1x1x8x128.size a ≤ S4x8x24x128.size a := fun arg33 k0_hw15 => k0_hw15.1.2.2.2.2.2.2.2.2.2.2.1
theorem k0_off185_inb : ∀ (arg33 : BitVec 32) (k0_hw15 : k0_chk15 arg33), ∀ a, (k0_off185 arg33) a + S1x1x8x128.size a ≤ S4x8x24x128.size a := fun arg33 k0_hw15 => k0_hw15.1.2.2.2.2.2.2.2.2.2.2.2.1
theorem k0_off186_inb : ∀ (arg33 : BitVec 32) (k0_hw15 : k0_chk15 arg33), ∀ a, (k0_off186 arg33) a + S1x1x8x128.size a ≤ S4x8x24x128.size a := fun arg33 k0_hw15 => k0_hw15.1.2.2.2.2.2.2.2.2.2.2.2.2.1
theorem k0_off187_inb : ∀ (arg33 : BitVec 32) (k0_hw15 : k0_chk15 arg33), ∀ a, (k0_off187 arg33) a + S1x1x8x128.size a ≤ S4x8x24x128.size a := fun arg33 k0_hw15 => k0_hw15.1.2.2.2.2.2.2.2.2.2.2.2.2.2.1
theorem k0_off188_inb : ∀ (arg33 : BitVec 32) (k0_hw15 : k0_chk15 arg33), ∀ a, (k0_off188 arg33) a + S1x1x8x128.size a ≤ S4x8x24x128.size a := fun arg33 k0_hw15 => k0_hw15.1.2.2.2.2.2.2.2.2.2.2.2.2.2.2.1
theorem k0_off189_inb : ∀ (arg33 : BitVec 32) (k0_hw15 : k0_chk15 arg33), ∀ a, (k0_off189 arg33) a + S1x1x8x128.size a ≤ S4x8x24x128.size a := fun arg33 k0_hw15 => k0_hw15.1.2.2.2.2.2.2.2.2.2.2.2.2.2.2.2.1
theorem k0_off190_inb : ∀ (arg33 : BitVec 32) (k0_hw15 : k0_chk15 arg33), ∀ a, (k0_off190 arg33) a + S1x1x8x128.size a ≤ S4x8x24x128.size a := fun arg33 k0_hw15 => k0_hw15.1.2.2.2.2.2.2.2.2.2.2.2.2.2.2.2.2.1
theorem k0_off191_inb : ∀ (arg33 : BitVec 32) (k0_hw15 : k0_chk15 arg33), ∀ a, (k0_off191 arg33) a + S1x1x8x128.size a ≤ S4x8x24x128.size a := fun arg33 k0_hw15 => k0_hw15.1.2.2.2.2.2.2.2.2.2.2.2.2.2.2.2.2.2.1
theorem k0_off192_inb : ∀ (arg33 : BitVec 32) (k0_hw15 : k0_chk15 arg33), ∀ a, (k0_off192 arg33) a + S1x1x8x128.size a ≤ S4x8x24x128.size a := fun arg33 k0_hw15 => k0_hw15.1.2.2.2.2.2.2.2.2.2.2.2.2.2.2.2.2.2.2.1
theorem k0_off193_inb : ∀ (arg33 : BitVec 32) (k0_hw15 : k0_chk15 arg33), ∀ a, (k0_off193 arg33) a + S1x1x8x128.size a ≤ S4x8x24x128.size a := fun arg33 k0_hw15 => k0_hw15.1.2.2.2.2.2.2.2.2.2.2.2.2.2.2.2.2.2.2.2.1
theorem k0_off194_inb : ∀ (arg33 : BitVec 32) (k0_hw15 : k0_chk15 arg33), ∀ a, (k0_off194 arg33) a + S1x1x8x128.size a ≤ S4x8x24x128.size a := fun arg33 k0_hw15 => k0_hw15.1.2.2.2.2.2.2.2.2.2.2.2.2.2.2.2.2.2.2.2.2.1
theorem k0_off195_inb : ∀ (arg33 : BitVec 32) (k0_hw15 : k0_chk15 arg33), ∀ a, (k0_off195 arg33) a + S1x1x8x128.size a ≤ S4x8x24x128.size a := fun arg33 k0_hw15 => k0_hw15.1.2.2.2.2.2.2.2.2.2.2.2.2.2.2.2.2.2.2.2.2.2.1
theorem k0_off196_inb : ∀ (arg33 : BitVec 32) (k0_hw15 : k0_chk15 arg33), ∀ a, (k0_off196 arg33) a + S1x1x8x128.size a ≤ S4x8x24x128.size a := fun arg33 k0_hw15 => k0_hw15.1.2.2.2.2.2.2.2.2.2.2.2.2.2.2.2.2.2.2.2.2.2.2.1
theorem k0_off197_inb : ∀ (arg33 : BitVec 32) (k0_hw15 : k0_chk15 arg33), ∀ a, (k0_off197 arg33) a + S1x1x8x128.size a ≤ S4x8x24x128.size a := fun arg33 k0_hw15 => k0_hw15.1.2.2.2.2.2.2.2.2.2.2.2.2.2.2.2.2.2.2.2.2.2.2.2.1
theorem k0_off200_inb : ∀ (arg33 : BitVec 32) (k0_hw15 : k0_chk15 arg33), ∀ a, (k0_off200 arg33) a + S1x1x128.size a ≤ S4x8x128.size a := fun arg33 k0_hw15 => k0_hw15.1.2.2.2.2.2.2.2.2.2.2.2.2.2.2.2.2.2.2.2.2.2.2.2.2.1
theorem k0_off201_inb : ∀ (arg33 : BitVec 32) (k0_hw15 : k0_chk15 arg33), ∀ a, (k0_off201 arg33) a + S1x1x128.size a ≤ S4x8x128.size a := fun arg33 k0_hw15 => k0_hw15.1.2.2.2.2.2.2.2.2.2.2.2.2.2.2.2.2.2.2.2.2.2.2.2.2.2.1
theorem k0_off202_inb : ∀ (arg33 : BitVec 32) (k0_hw15 : k0_chk15 arg33), ∀ a, (k0_off202 arg33) a + S1x1x128.size a ≤ S4x8x128.size a := fun arg33 k0_hw15 => k0_hw15.1.2.2.2.2.2.2.2.2.2.2.2.2.2.2.2.2.2.2.2.2.2.2.2.2.2.2.1
theorem k0_off203_inb : ∀ (arg33 : BitVec 32) (k0_hw15 : k0_chk15 arg33), ∀ a, (k0_off203 arg33) a + S1x1x128.size a ≤ S4x8x128.size a := fun arg33 k0_hw15 => k0_hw15.1.2.2.2.2.2.2.2.2.2.2.2.2.2.2.2.2.2.2.2.2.2.2.2.2.2.2.2.1
theorem k0_off204_inb : ∀ (arg33 : BitVec 32) (k0_hw15 : k0_chk15 arg33), ∀ a, (k0_off204 arg33) a + S1x1x128.size a ≤ S4x8x128.size a := fun arg33 k0_hw15 => k0_hw15.1.2.2.2.2.2.2.2.2.2.2.2.2.2.2.2.2.2.2.2.2.2.2.2.2.2.2.2.2.1
theorem k0_off205_inb : ∀ (arg33 : BitVec 32) (k0_hw15 : k0_chk15 arg33), ∀ a, (k0_off205 arg33) a + S1x1x128.size a ≤ S4x8x128.size a := fun arg33 k0_hw15 => k0_hw15.1.2.2.2.2.2.2.2.2.2.2.2.2.2.2.2.2.2.2.2.2.2.2.2.2.2.2.2.2.2.1
theorem k0_off206_inb : ∀ (arg33 : BitVec 32) (k0_hw15 : k0_chk15 arg33), ∀ a, (k0_off206 arg33) a + S1x1x128.size a ≤ S4x8x128.size a := fun arg33 k0_hw15 => k0_hw15.1.2.2.2.2.2.2.2.2.2.2.2.2.2.2.2.2.2.2.2.2.2.2.2.2.2.2.2.2.2.2.1
theorem k0_off207_inb : ∀ (arg33 : BitVec 32) (k0_hw15 : k0_chk15 arg33), ∀ a, (k0_off207 arg33) a + S1x1x128.size a ≤ S4x8x128.size a := fun arg33 k0_hw15 => k0_hw15.1.2.2.2.2.2.2.2.2.2.2.2.2.2.2.2.2.2.2.2.2.2.2.2.2.2.2.2.2.2.2.2
theorem k0_off209_inb : ∀ (arg33 : BitVec 32) (k0_hw15 : k0_chk15 arg33), ∀ a, (k0_off209 arg33) a + S1x1x128.size a ≤ S4x8x128.size a := fun arg33 k0_hw15 => k0_hw15.2.1.1
theorem k0_off210_inb : ∀ (arg33 : BitVec 32) (k0_hw15 : k0_chk15 arg33), ∀ a, (k0_off210 arg33) a + S1x1x128.size a ≤ S4x8x128.size a := fun arg33 k0_hw15 => k0_hw15.2.1.2.1
theorem k0_off211_inb : ∀ (arg33 : BitVec 32) (k0_hw15 : k0_chk15 arg33), ∀ a, (k0_off211 arg33) a + S1x1x128.size a ≤ S4x8x128.size a := fun arg33 k0_hw15 => k0_hw15.2.1.2.2.1
theorem k0_off212_inb : ∀ (arg33 : BitVec 32) (k0_hw15 : k0_chk15 arg33), ∀ a, (k0_off212 arg33) a + S1x1x128.size a ≤ S4x8x128.size a := fun arg33 k0_hw15 => k0_hw15.2.1.2.2.2.1
theorem k0_off213_inb : ∀ (arg33 : BitVec 32) (k0_hw15 : k0_chk15 arg33), ∀ a, (k0_off213 arg33) a + S1x1x128.size a ≤ S4x8x128.size a := fun arg33 k0_hw15 => k0_hw15.2.1.2.2.2.2.1
theorem k0_off214_inb : ∀ (arg33 : BitVec 32) (k0_hw15 : k0_chk15 arg33), ∀ a, (k0_off214 arg33) a + S1x1x128.size a ≤ S4x8x128.size a := fun arg33 k0_hw15 => k0_hw15.2.1.2.2.2.2.2.1
theorem k0_off215_inb : ∀ (arg33 : BitVec 32) (k0_hw15 : k0_chk15 arg33), ∀ a, (k0_off215 arg33) a + S1x1x128.size a ≤ S4x8x128.size a := fun arg33 k0_hw15 => k0_hw15.2.1.2.2.2.2.2.2.1
theorem k0_off216_inb : ∀ (arg33 : BitVec 32) (k0_hw15 : k0_chk15 arg33), ∀ a, (k0_off216 arg33) a + S1x1x128.size a ≤ S4x8x128.size a := fun arg33 k0_hw15 => k0_hw15.2.1.2.2.2.2.2.2.2.1
theorem k0_off218_inb : ∀ (arg33 : BitVec 32) (k0_hw15 : k0_chk15 arg33), ∀ a, (k0_off218 arg33) a + S1x8x128.size a ≤ S4x8x128.size a := fun arg33 k0_hw15 => k0_hw15.2.1.2.2.2.2.2.2.2.2.1
theorem k0_off226_inb : ∀ (arg33 : BitVec 32) (k0_hw15 : k0_chk15 arg33), ∀ a, (k0_off226 arg33) a + S1x1x8x128.size a ≤ S4x8x24x128.size a := fun arg33 k0_hw15 => k0_hw15.2.1.2.2.2.2.2.2.2.2.2.1
theorem k0_off229_inb : ∀ (arg33 : BitVec 32) (k0_hw15 : k0_chk15 arg33), ∀ a, (k0_off229 arg33) a + S1x1x8x128.size a ≤ S4x8x24x128.size a := fun arg33 k0_hw15 => k0_hw15.2.1.2.2.2.2.2.2.2.2.2.2.1
theorem k0_off232_inb : ∀ (arg33 : BitVec 32) (k0_hw15 : k0_chk15 arg33), ∀ a, (k0_off232 arg33) a + S1x1x8x128.size a ≤ S4x8x24x128.size a := fun arg33 k0_hw15 => k0_hw15.2.1.2.2.2.2.2.2.2.2.2.2.2.1
theorem k0_off240_inb : ∀ (arg33 : BitVec 32) (k0_hw15 : k0_chk15 arg33), ∀ a, (k0_off240 arg33) a + S1x1x8x128.size a ≤ S4x8x24x128.size a := fun arg33 k0_hw15 => k0_hw15.2.1.2.2.2.2.2.2.2.2.2.2.2.2.1
theorem k0_off243_inb : ∀ (arg33 : BitVec 32) (k0_hw15 : k0_chk15 arg33), ∀ a, (k0_off243 arg33) a + S1x1x8x128.size a ≤ S4x8x24x128.size a := fun arg33 k0_hw15 => k0_hw15.2.1.2.2.2.2.2.2.2.2.2.2.2.2.2.1
theorem k0_off246_inb : ∀ (arg33 : BitVec 32) (k0_hw15 : k0_chk15 arg33), ∀ a, (k0_off246 arg33) a + S1x1x8x128.size a ≤ S4x8x24x128.size a := fun arg33 k0_hw15 => k0_hw15.2.1.2.2.2.2.2.2.2.2.2.2.2.2.2.2.1
theorem k0_off254_inb : ∀ (arg33 : BitVec 32) (k0_hw15 : k0_chk15 arg33), ∀ a, (k0_off254 arg33) a + S1x1x8x128.size a ≤ S4x8x24x128.size a := fun arg33 k0_hw15 => k0_hw15.2.1.2.2.2.2.2.2.2.2.2.2.2.2.2.2.2.1
theorem k0_off257_inb : ∀ (arg33 : BitVec 32) (k0_hw15 : k0_chk15 arg33), ∀ a, (k0_off257 arg33) a + S1x1x8x128.size a ≤ S4x8x24x128.size a := fun arg33 k0_hw15 => k0_hw15.2.1.2.2.2.2.2.2.2.2.2.2.2.2.2.2.2.2.1
theorem k0_off260_inb : ∀ (arg33 : BitVec 32) (k0_hw15 : k0_chk15 arg33), ∀ a, (k0_off260 arg33) a + S1x1x8x128.size a ≤ S4x8x24x128.size a := fun arg33 k0_hw15 => k0_hw15.2.1.2.2.2.2.2.2.2.2.2.2.2.2.2.2.2.2.2.1
theorem k0_off268_inb : ∀ (arg33 : BitVec 32) (k0_hw15 : k0_chk15 arg33), ∀ a, (k0_off268 arg33) a + S1x1x8x128.size a ≤ S4x8x24x128.size a := fun arg33 k0_hw15 => k0_hw15.2.1.2.2.2.2.2.2.2.2.2.2.2.2.2.2.2.2.2.2.1
theorem k0_off271_inb : ∀ (arg33 : BitVec 32) (k0_hw15 : k0_chk15 arg33), ∀ a, (k0_off271 arg33) a + S1x1x8x128.size a ≤ S4x8x24x128.size a := fun arg33 k0_hw15 => k0_hw15.2.1.2.2.2.2.2.2.2.2.2.2.2.2.2.2.2.2.2.2.2.1
theorem k0_off274_inb : ∀ (arg33 : BitVec 32) (k0_hw15 : k0_chk15 arg33), ∀ a, (k0_off274 arg33) a + S1x1x8x128.size a ≤ S4x8x24x128.size a := fun arg33 k0_hw15 => k0_hw15.2.1.2.2.2.2.2.2.2.2.2.2.2.2.2.2.2.2.2.2.2.2.1
theorem k0_off282_inb : ∀ (arg33 : BitVec 32) (k0_hw15 : k0_chk15 arg33), ∀ a, (k0_off282 arg33) a + S1x1x8x128.size a ≤ S4x8x24x128.size a := fun arg33 k0_hw15 => k0_hw15.2.1.2.2.2.2.2.2.2.2.2.2.2.2.2.2.2.2.2.2.2.2.2.1
theorem k0_off285_inb : ∀ (arg33 : BitVec 32) (k0_hw15 : k0_chk15 arg33), ∀ a, (k0_off285 arg33) a + S1x1x8x128.size a ≤ S4x8x24x128.size a := fun arg33 k0_hw15 => k0_hw15.2.1.2.2.2.2.2.2.2.2.2.2.2.2.2.2.2.2.2.2.2.2.2.2.1
theorem k0_off288_inb : ∀ (arg33 : BitVec 32) (k0_hw15 : k0_chk15 arg33), ∀ a, (k0_off288 arg33) a + S1x1x8x128.size a ≤ S4x8x24x128.size a := fun arg33 k0_hw15 => k0_hw15.2.1.2.2.2.2.2.2.2.2.2.2.2.2.2.2.2.2.2.2.2.2.2.2.2.1
theorem k0_off296_inb : ∀ (arg33 : BitVec 32) (k0_hw15 : k0_chk15 arg33), ∀ a, (k0_off296 arg33) a + S1x1x8x128.size a ≤ S4x8x24x128.size a := fun arg33 k0_hw15 => k0_hw15.2.1.2.2.2.2.2.2.2.2.2.2.2.2.2.2.2.2.2.2.2.2.2.2.2.2.1
theorem k0_off299_inb : ∀ (arg33 : BitVec 32) (k0_hw15 : k0_chk15 arg33), ∀ a, (k0_off299 arg33) a + S1x1x8x128.size a ≤ S4x8x24x128.size a := fun arg33 k0_hw15 => k0_hw15.2.1.2.2.2.2.2.2.2.2.2.2.2.2.2.2.2.2.2.2.2.2.2.2.2.2.2.1
theorem k0_off302_inb : ∀ (arg33 : BitVec 32) (k0_hw15 : k0_chk15 arg33), ∀ a, (k0_off302 arg33) a + S1x1x8x128.size a ≤ S4x8x24x128.size a := fun arg33 k0_hw15 => k0_hw15.2.1.2.2.2.2.2.2.2.2.2.2.2.2.2.2.2.2.2.2.2.2.2.2.2.2.2.2.1
theorem k0_off310_inb : ∀ (arg33 : BitVec 32) (k0_hw15 : k0_chk15 arg33), ∀ a, (k0_off310 arg33) a + S1x1x8x128.size a ≤ S4x8x24x128.size a := fun arg33 k0_hw15 => k0_hw15.2.1.2.2.2.2.2.2.2.2.2.2.2.2.2.2.2.2.2.2.2.2.2.2.2.2.2.2.2.1
theorem k0_off313_inb : ∀ (arg33 : BitVec 32) (k0_hw15 : k0_chk15 arg33), ∀ a, (k0_off313 arg33) a + S1x1x8x128.size a ≤ S4x8x24x128.size a := fun arg33 k0_hw15 => k0_hw15.2.1.2.2.2.2.2.2.2.2.2.2.2.2.2.2.2.2.2.2.2.2.2.2.2.2.2.2.2.2.1
theorem k0_off316_inb : ∀ (arg33 : BitVec 32) (k0_hw15 : k0_chk15 arg33), ∀ a, (k0_off316 arg33) a + S1x1x8x128.size a ≤ S4x8x24x128.size a := fun arg33 k0_hw15 => k0_hw15.2.1.2.2.2.2.2.2.2.2.2.2.2.2.2.2.2.2.2.2.2.2.2.2.2.2.2.2.2.2.2.1
theorem k0_off324_inb : ∀ (arg33 : BitVec 32) (k0_hw15 : k0_chk15 arg33), ∀ a, (k0_off324 arg33) a + S1x1x8x128.size a ≤ S4x8x24x128.size a := fun arg33 k0_hw15 => k0_hw15.2.1.2.2.2.2.2.2.2.2.2.2.2.2.2.2.2.2.2.2.2.2.2.2.2.2.2.2.2.2.2.2.1
theorem k0_off327_inb : ∀ (arg33 : BitVec 32) (k0_hw15 : k0_chk15 arg33), ∀ a, (k0_off327 arg33) a + S1x1x8x128.size a ≤ S4x8x24x128.size a := fun arg33 k0_hw15 => k0_hw15.2.1.2.2.2.2.2.2.2.2.2.2.2.2.2.2.2.2.2.2.2.2.2.2.2.2.2.2.2.2.2.2.2
theorem k0_off330_inb : ∀ (arg33 : BitVec 32) (k0_hw15 : k0_chk15 arg33), ∀ a, (k0_off330 arg33) a + S1x1x8x128.size a ≤ S4x8x24x128.size a := fun arg33 k0_hw15 => k0_hw15.2.2

def k0_cond6 (k0_t1 : Fin k0_t1_loop.trips) : BitVec 1 :=
  let c0_i32_186 : BitVec 32 := 0#32
  let c1_i32_188 : BitVec 32 := 1#32
  let arg27 : BitVec 32 := Scf.iv c0_i32_186 c1_i32_188 k0_t1
  let c4_i32_794 : BitVec 32 := 4#32
  let v1254 : BitVec 32 := Scalar.addi arg27 c4_i32_794
  let c96_i32_795 : BitVec 32 := 96#32
  let v1255 : BitVec 1 := Scalar.cmpi .slt v1254 c96_i32_795
  let v1256 : BitVec 32 := Scalar.extui v1255
  let c0_i32_796 : BitVec 32 := 0#32
  let v1257 : BitVec 1 := Scalar.cmpi .ne v1256 c0_i32_796
  v1257

def k0_mult264 (k0_t1 : Fin k0_t1_loop.trips) : BitVec 32 :=
  let c0_i32_186 : BitVec 32 := 0#32
  let c1_i32_188 : BitVec 32 := 1#32
  let arg27 : BitVec 32 := Scf.iv c0_i32_186 c1_i32_188 k0_t1
  let c4_i32_797 : BitVec 32 := 4#32
  let v1258 : BitVec 32 := Scalar.addi arg27 c4_i32_797
  let c256_i32_811 : BitVec 32 := 256#32
  let v1286 : BitVec 32 := Scalar.muli v1258 c256_i32_811
  v1286
def k0_off331 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  ![v1163.toNat]
def k0_off332 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let c0_i32_814 : BitVec 32 := 0#32
  let c0_i32_815 : BitVec 32 := 0#32
  ![v1163.toNat, 0, 0]
def k0_off333 (k0_t1 : Fin k0_t1_loop.trips) : Fin 2 → Nat :=
  let c0_i32_186 : BitVec 32 := 0#32
  let c1_i32_188 : BitVec 32 := 1#32
  let arg27 : BitVec 32 := Scf.iv c0_i32_186 c1_i32_188 k0_t1
  let c4_i32_797 : BitVec 32 := 4#32
  let v1258 : BitVec 32 := Scalar.addi arg27 c4_i32_797
  let c256_i32_811 : BitVec 32 := 256#32
  let v1286 : BitVec 32 := Scalar.muli v1258 c256_i32_811
  let v1287 : BitVec 32 := v1286
  let c0_i32_816 : BitVec 32 := 0#32
  ![v1287.toNat, 0]
def k0_off334 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let c0_i32_820 : BitVec 32 := 0#32
  let c0_i32_821 : BitVec 32 := 0#32
  ![v1163.toNat, 0, 0]
def k0_off335 (k0_t1 : Fin k0_t1_loop.trips) : Fin 4 → Nat :=
  let c0_i32_186 : BitVec 32 := 0#32
  let c1_i32_188 : BitVec 32 := 1#32
  let arg27 : BitVec 32 := Scf.iv c0_i32_186 c1_i32_188 k0_t1
  let c4_i32_797 : BitVec 32 := 4#32
  let v1258 : BitVec 32 := Scalar.addi arg27 c4_i32_797
  let c0_i32_799 : BitVec 32 := 0#32
  let v1260 : BitVec 1 := Scalar.cmpi .sgt v1258 c0_i32_799
  let v1261 : BitVec 32 := Scalar.extui v1260
  let c0_i32_800 : BitVec 32 := 0#32
  let v1262 : BitVec 1 := Scalar.cmpi .slt v1258 c0_i32_800
  let v1263 : BitVec 32 := Scalar.extui v1262
  let v1264 : BitVec 32 := Scalar.subi v1261 v1263
  let c8_i32_798 : BitVec 32 := 8#32
  let c0_i32_801 : BitVec 32 := 0#32
  let v1265 : BitVec 1 := Scalar.cmpi .sgt c8_i32_798 c0_i32_801
  let v1266 : BitVec 32 := Scalar.extui v1265
  let c0_i32_802 : BitVec 32 := 0#32
  let v1267 : BitVec 1 := Scalar.cmpi .slt c8_i32_798 c0_i32_802
  let v1268 : BitVec 32 := Scalar.extui v1267
  let v1269 : BitVec 32 := Scalar.subi v1266 v1268
  let v1270 : BitVec 1 := Scalar.cmpi .ne v1264 v1269
  let v1271 : BitVec 32 := Scalar.remsi v1258 c8_i32_798
  let c0_i32_803 : BitVec 32 := 0#32
  let v1272 : BitVec 1 := Scalar.cmpi .ne v1271 c0_i32_803
  let v1273 : BitVec 1 := Scalar.andi v1270 v1272
  let v1259 : BitVec 32 := Scalar.divsi v1258 c8_i32_798
  let c1_i32_804 : BitVec 32 := 1#32
  let v1274 : BitVec 32 := Scalar.subi v1259 c1_i32_804
  let v1275 : BitVec 32 := Scalar.select v1273 v1274 v1259
  let c8_i32_805 : BitVec 32 := 8#32
  let c0_i32_806 : BitVec 32 := 0#32
  let v1276 : BitVec 1 := Scalar.cmpi .eq c8_i32_805 c0_i32_806
  let c1_i32_807 : BitVec 32 := 1#32
  let v1277 : BitVec 32 := Scalar.select v1276 c1_i32_807 c8_i32_805
  let v1278 : BitVec 32 := Scalar.remsi v1258 v1277
  let c0_i32_809 : BitVec 32 := 0#32
  let v1280 : BitVec 1 := Scalar.cmpi .slt v1278 c0_i32_809
  let c0_i32_810 : BitVec 32 := 0#32
  let v1281 : BitVec 1 := Scalar.cmpi .slt v1277 c0_i32_810
  let v1282 : BitVec 1 := Scalar.xori v1280 v1281
  let c0_i32_808 : BitVec 32 := 0#32
  let v1279 : BitVec 1 := Scalar.cmpi .ne v1278 c0_i32_808
  let v1283 : BitVec 1 := Scalar.andi v1282 v1279
  let v1284 : BitVec 32 := Scalar.addi v1278 v1277
  let v1285 : BitVec 32 := Scalar.select v1283 v1284 v1278
  let c0_i32_822 : BitVec 32 := 0#32
  let c0_i32_823 : BitVec 32 := 0#32
  ![v1275.toNat, v1285.toNat, 0, 0]
def k0_off336 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c4_i32_797 : BitVec 32 := 4#32
  let v1258 : BitVec 32 := Scalar.addi arg27 c4_i32_797
  let c272_i32_828 : BitVec 32 := 272#32
  let v1312 : BitVec 32 := Scalar.muli v1258 c272_i32_828
  let c256_i32_829 : BitVec 32 := 256#32
  let v1313 : BitVec 32 := Scalar.addi v1312 c256_i32_829
  let v1314 : Index := Scalar.indexCast v1313
  ![v1314.toNat]
def k0_off337 (k0_t1 : Fin k0_t1_loop.trips) : Fin 1 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  ![v1163.toNat]
def k0_off338 (k0_t1 : Fin k0_t1_loop.trips) : Fin 3 → Nat :=
  let c0_i32_186 : BitVec 32 := 0#32
  let c1_i32_188 : BitVec 32 := 1#32
  let arg27 : BitVec 32 := Scf.iv c0_i32_186 c1_i32_188 k0_t1
  let c4_i32_741 : BitVec 32 := 4#32
  let c0_i32_742 : BitVec 32 := 0#32
  let v1154 : BitVec 1 := Scalar.cmpi .eq c4_i32_741 c0_i32_742
  let c1_i32_743 : BitVec 32 := 1#32
  let v1155 : BitVec 32 := Scalar.select v1154 c1_i32_743 c4_i32_741
  let v1156 : BitVec 32 := Scalar.remsi arg27 v1155
  let c0_i32_745 : BitVec 32 := 0#32
  let v1158 : BitVec 1 := Scalar.cmpi .slt v1156 c0_i32_745
  let c0_i32_746 : BitVec 32 := 0#32
  let v1159 : BitVec 1 := Scalar.cmpi .slt v1155 c0_i32_746
  let v1160 : BitVec 1 := Scalar.xori v1158 v1159
  let c0_i32_744 : BitVec 32 := 0#32
  let v1157 : BitVec 1 := Scalar.cmpi .ne v1156 c0_i32_744
  let v1161 : BitVec 1 := Scalar.andi v1160 v1157
  let v1162 : BitVec 32 := Scalar.addi v1156 v1155
  let v1163 : BitVec 32 := Scalar.select v1161 v1162 v1156
  let c80_i32_832 : BitVec 32 := 80#32
  let c0_i32_833 : BitVec 32 := 0#32
  ![v1163.toNat, 80, 0]
def k0_off339 (k0_t1 : Fin k0_t1_loop.trips) : Fin 2 → Nat :=
  let c0_i32_186 : BitVec 32 := 0#32
  let c1_i32_188 : BitVec 32 := 1#32
  let arg27 : BitVec 32 := Scf.iv c0_i32_186 c1_i32_188 k0_t1
  let c4_i32_797 : BitVec 32 := 4#32
  let v1258 : BitVec 32 := Scalar.addi arg27 c4_i32_797
  let c256_i32_811 : BitVec 32 := 256#32
  let v1286 : BitVec 32 := Scalar.muli v1258 c256_i32_811
  let v1287 : BitVec 32 := v1286
  let c80_i32_812 : BitVec 32 := 80#32
  let v1288 : BitVec 32 := Scalar.addi v1287 c80_i32_812
  let c0_i32_834 : BitVec 32 := 0#32
  ![v1288.toNat, 0]
def k0_off340 (v169_3 : BitVec 32) : Fin 3 → Nat :=
  let v181 : Index := Scalar.indexCast v169_3
  let c0_196 : Index := 0#32
  let c0_197 : Index := 0#32
  ![v181.toNat, 0, 0]

def k0_off341 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v186 : Index := Scalar.indexCast v180
  let c0_200 : Index := 0#32
  let c0_201 : Index := 0#32
  let c0_202 : Index := 0#32
  ![v186.toNat, 0, 0, 0]

def k0_off342 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v191 : Index := Scalar.indexCast v180
  let c0_203 : Index := 0#32
  let c8 : Index := 8#32
  let c0_204 : Index := 0#32
  ![v191.toNat, 0, 8, 0]
def k0_off343 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v196 : Index := Scalar.indexCast v180
  let c0_205 : Index := 0#32
  let c16 : Index := 16#32
  let c0_206 : Index := 0#32
  ![v196.toNat, 0, 16, 0]
def k0_off344 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v202 : Index := Scalar.indexCast v180
  let c1 : Index := 1#32
  let c0_207 : Index := 0#32
  let c0_208 : Index := 0#32
  ![v202.toNat, 1, 0, 0]
def k0_off345 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v207 : Index := Scalar.indexCast v180
  let c1_209 : Index := 1#32
  let c8_210 : Index := 8#32
  let c0_211 : Index := 0#32
  ![v207.toNat, 1, 8, 0]
def k0_off346 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v212 : Index := Scalar.indexCast v180
  let c1_212 : Index := 1#32
  let c16_213 : Index := 16#32
  let c0_214 : Index := 0#32
  ![v212.toNat, 1, 16, 0]
def k0_off347 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v223 : Index := Scalar.indexCast v180
  let c2 : Index := 2#32
  let c0_219 : Index := 0#32
  let c0_220 : Index := 0#32
  ![v223.toNat, 2, 0, 0]
def k0_off348 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v228 : Index := Scalar.indexCast v180
  let c2_221 : Index := 2#32
  let c8_222 : Index := 8#32
  let c0_223 : Index := 0#32
  ![v228.toNat, 2, 8, 0]
def k0_off349 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v233 : Index := Scalar.indexCast v180
  let c2_224 : Index := 2#32
  let c16_225 : Index := 16#32
  let c0_226 : Index := 0#32
  ![v233.toNat, 2, 16, 0]
def k0_off350 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v239 : Index := Scalar.indexCast v180
  let c3 : Index := 3#32
  let c0_227 : Index := 0#32
  let c0_228 : Index := 0#32
  ![v239.toNat, 3, 0, 0]
def k0_off351 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v244 : Index := Scalar.indexCast v180
  let c3_229 : Index := 3#32
  let c8_230 : Index := 8#32
  let c0_231 : Index := 0#32
  ![v244.toNat, 3, 8, 0]
def k0_off352 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v249 : Index := Scalar.indexCast v180
  let c3_232 : Index := 3#32
  let c16_233 : Index := 16#32
  let c0_234 : Index := 0#32
  ![v249.toNat, 3, 16, 0]
def k0_off353 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v260 : Index := Scalar.indexCast v180
  let c4 : Index := 4#32
  let c0_239 : Index := 0#32
  let c0_240 : Index := 0#32
  ![v260.toNat, 4, 0, 0]
def k0_off354 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v265 : Index := Scalar.indexCast v180
  let c4_241 : Index := 4#32
  let c8_242 : Index := 8#32
  let c0_243 : Index := 0#32
  ![v265.toNat, 4, 8, 0]
def k0_off355 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v270 : Index := Scalar.indexCast v180
  let c4_244 : Index := 4#32
  let c16_245 : Index := 16#32
  let c0_246 : Index := 0#32
  ![v270.toNat, 4, 16, 0]
def k0_off356 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v276 : Index := Scalar.indexCast v180
  let c5 : Index := 5#32
  let c0_247 : Index := 0#32
  let c0_248 : Index := 0#32
  ![v276.toNat, 5, 0, 0]
def k0_off357 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v281 : Index := Scalar.indexCast v180
  let c5_249 : Index := 5#32
  let c8_250 : Index := 8#32
  let c0_251 : Index := 0#32
  ![v281.toNat, 5, 8, 0]
def k0_off358 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v286 : Index := Scalar.indexCast v180
  let c5_252 : Index := 5#32
  let c16_253 : Index := 16#32
  let c0_254 : Index := 0#32
  ![v286.toNat, 5, 16, 0]
def k0_off359 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v297 : Index := Scalar.indexCast v180
  let c6 : Index := 6#32
  let c0_259 : Index := 0#32
  let c0_260 : Index := 0#32
  ![v297.toNat, 6, 0, 0]
def k0_off360 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v302 : Index := Scalar.indexCast v180
  let c6_261 : Index := 6#32
  let c8_262 : Index := 8#32
  let c0_263 : Index := 0#32
  ![v302.toNat, 6, 8, 0]
def k0_off361 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v307 : Index := Scalar.indexCast v180
  let c6_264 : Index := 6#32
  let c16_265 : Index := 16#32
  let c0_266 : Index := 0#32
  ![v307.toNat, 6, 16, 0]
def k0_off362 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v313 : Index := Scalar.indexCast v180
  let c7 : Index := 7#32
  let c0_267 : Index := 0#32
  let c0_268 : Index := 0#32
  ![v313.toNat, 7, 0, 0]
def k0_off363 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v318 : Index := Scalar.indexCast v180
  let c7_269 : Index := 7#32
  let c8_270 : Index := 8#32
  let c0_271 : Index := 0#32
  ![v318.toNat, 7, 8, 0]
def k0_off364 (v169_0 : BitVec 32) : Fin 4 → Nat :=
  let c1_i32_190 : BitVec 32 := 1#32
  let v170 : BitVec 32 := Scalar.addi v169_0 c1_i32_190
  let c4_i32 : BitVec 32 := 4#32
  let c0_i32_191 : BitVec 32 := 0#32
  let v171 : BitVec 1 := Scalar.cmpi .eq c4_i32 c0_i32_191
  let c1_i32_192 : BitVec 32 := 1#32
  let v172 : BitVec 32 := Scalar.select v171 c1_i32_192 c4_i32
  let v173 : BitVec 32 := Scalar.remsi v170 v172
  let c0_i32_194 : BitVec 32 := 0#32
  let v175 : BitVec 1 := Scalar.cmpi .slt v173 c0_i32_194
  let c0_i32_195 : BitVec 32 := 0#32
  let v176 : BitVec 1 := Scalar.cmpi .slt v172 c0_i32_195
  let v177 : BitVec 1 := Scalar.xori v175 v176
  let c0_i32_193 : BitVec 32 := 0#32
  let v174 : BitVec 1 := Scalar.cmpi .ne v173 c0_i32_193
  let v178 : BitVec 1 := Scalar.andi v177 v174
  let v179 : BitVec 32 := Scalar.addi v173 v172
  let v180 : BitVec 32 := Scalar.select v178 v179 v173
  let v323 : Index := Scalar.indexCast v180
  let c7_272 : Index := 7#32
  let c16_273 : Index := 16#32
  let c0_274 : Index := 0#32
  ![v323.toNat, 7, 16, 0]
def k0_off365 (v169_3 : BitVec 32) : Fin 3 → Nat :=
  let v334 : Index := Scalar.indexCast v169_3
  let c0_279 : Index := 0#32
  let c0_280 : Index := 0#32
  ![v334.toNat, 0, 0]

def k0_chk26 (v169_3 : BitVec 32) : Prop :=
  (∀ a, (k0_off340 v169_3) a + S1x8x96.size a ≤ S97x8x96.size a) ∧
  (∀ a, (k0_off365 v169_3) a + S1x8x96.size a ≤ S97x8x96.size a)
theorem k0_off340_inb : ∀ (v169_3 : BitVec 32) (k0_hw26 : k0_chk26 v169_3), ∀ a, (k0_off340 v169_3) a + S1x8x96.size a ≤ S97x8x96.size a := fun v169_3 k0_hw26 => k0_hw26.1
theorem k0_off365_inb : ∀ (v169_3 : BitVec 32) (k0_hw26 : k0_chk26 v169_3), ∀ a, (k0_off365 v169_3) a + S1x8x96.size a ≤ S97x8x96.size a := fun v169_3 k0_hw26 => k0_hw26.2

def k0_off366 (v169_2 : BitVec 32) : Fin 3 → Nat :=
  let v372 : Index := Scalar.indexCast v169_2
  let c0_312 : Index := 0#32
  let c0_313 : Index := 0#32
  ![v372.toNat, 0, 0]

def k0_off367 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v388 : Index := Scalar.indexCast v348
  let c0_317 : Index := 0#32
  let c0_318 : Index := 0#32
  ![v388.toNat, 0, 0]
def k0_off368 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v401 : Index := Scalar.indexCast v348
  let c1_322 : Index := 1#32
  let c0_323 : Index := 0#32
  ![v401.toNat, 1, 0]
def k0_off369 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v414 : Index := Scalar.indexCast v348
  let c2_326 : Index := 2#32
  let c0_327 : Index := 0#32
  ![v414.toNat, 2, 0]
def k0_off370 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v427 : Index := Scalar.indexCast v348
  let c3_331 : Index := 3#32
  let c0_332 : Index := 0#32
  ![v427.toNat, 3, 0]
def k0_off371 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v440 : Index := Scalar.indexCast v348
  let c4_336 : Index := 4#32
  let c0_337 : Index := 0#32
  ![v440.toNat, 4, 0]
def k0_off372 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v453 : Index := Scalar.indexCast v348
  let c5_341 : Index := 5#32
  let c0_342 : Index := 0#32
  ![v453.toNat, 5, 0]
def k0_off373 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v466 : Index := Scalar.indexCast v348
  let c6_346 : Index := 6#32
  let c0_347 : Index := 0#32
  ![v466.toNat, 6, 0]
def k0_off374 (v169_0 : BitVec 32) : Fin 3 → Nat :=
  let c2_i32_281 : BitVec 32 := 2#32
  let v338 : BitVec 32 := Scalar.addi v169_0 c2_i32_281
  let c4_i32_282 : BitVec 32 := 4#32
  let c0_i32_283 : BitVec 32 := 0#32
  let v339 : BitVec 1 := Scalar.cmpi .eq c4_i32_282 c0_i32_283
  let c1_i32_284 : BitVec 32 := 1#32
  let v340 : BitVec 32 := Scalar.select v339 c1_i32_284 c4_i32_282
  let v341 : BitVec 32 := Scalar.remsi v338 v340
  let c0_i32_286 : BitVec 32 := 0#32
  let v343 : BitVec 1 := Scalar.cmpi .slt v341 c0_i32_286
  let c0_i32_287 : BitVec 32 := 0#32
  let v344 : BitVec 1 := Scalar.cmpi .slt v340 c0_i32_287
  let v345 : BitVec 1 := Scalar.xori v343 v344
  let c0_i32_285 : BitVec 32 := 0#32
  let v342 : BitVec 1 := Scalar.cmpi .ne v341 c0_i32_285
  let v346 : BitVec 1 := Scalar.andi v345 v342
  let v347 : BitVec 32 := Scalar.addi v341 v340
  let v348 : BitVec 32 := Scalar.select v346 v347 v341
  let v479 : Index := Scalar.indexCast v348
  let c7_351 : Index := 7#32
  let c0_352 : Index := 0#32
  ![v479.toNat, 7, 0]
def k0_off375 (v169_1 : BitVec 32) : Fin 3 → Nat :=
  let c95_i32 : BitVec 32 := 95#32
  let v511 : BitVec 32 := Scalar.minsi v169_1 c95_i32
  let v512 : Index := Scalar.indexCast v511
  let c0_369 : Index := 0#32
  let c0_370 : Index := 0#32
  ![v512.toNat, 0, 0]

def k0_off376 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v520 : Index := Scalar.indexCast v510
  let c0_376 : Index := 0#32
  let c0_377 : Index := 0#32
  ![v520.toNat, 0, 0]
def k0_off377 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v535 : Index := Scalar.indexCast v510
  let c1_383 : Index := 1#32
  let c0_384 : Index := 0#32
  ![v535.toNat, 1, 0]
def k0_off378 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v555 : Index := Scalar.indexCast v510
  let c2_396 : Index := 2#32
  let c0_397 : Index := 0#32
  ![v555.toNat, 2, 0]
def k0_off379 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v570 : Index := Scalar.indexCast v510
  let c3_404 : Index := 3#32
  let c0_405 : Index := 0#32
  ![v570.toNat, 3, 0]
def k0_off380 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v590 : Index := Scalar.indexCast v510
  let c4_417 : Index := 4#32
  let c0_418 : Index := 0#32
  ![v590.toNat, 4, 0]
def k0_off381 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v605 : Index := Scalar.indexCast v510
  let c5_425 : Index := 5#32
  let c0_426 : Index := 0#32
  ![v605.toNat, 5, 0]
def k0_off382 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v625 : Index := Scalar.indexCast v510
  let c6_438 : Index := 6#32
  let c0_439 : Index := 0#32
  ![v625.toNat, 6, 0]
def k0_off383 (v169_0 : BitVec 32) : Fin 3 → Nat :=
  let c3_i32_362 : BitVec 32 := 3#32
  let v500 : BitVec 32 := Scalar.addi v169_0 c3_i32_362
  let c4_i32_363 : BitVec 32 := 4#32
  let c0_i32_364 : BitVec 32 := 0#32
  let v501 : BitVec 1 := Scalar.cmpi .eq c4_i32_363 c0_i32_364
  let c1_i32_365 : BitVec 32 := 1#32
  let v502 : BitVec 32 := Scalar.select v501 c1_i32_365 c4_i32_363
  let v503 : BitVec 32 := Scalar.remsi v500 v502
  let c0_i32_367 : BitVec 32 := 0#32
  let v505 : BitVec 1 := Scalar.cmpi .slt v503 c0_i32_367
  let c0_i32_368 : BitVec 32 := 0#32
  let v506 : BitVec 1 := Scalar.cmpi .slt v502 c0_i32_368
  let v507 : BitVec 1 := Scalar.xori v505 v506
  let c0_i32_366 : BitVec 32 := 0#32
  let v504 : BitVec 1 := Scalar.cmpi .ne v503 c0_i32_366
  let v508 : BitVec 1 := Scalar.andi v507 v504
  let v509 : BitVec 32 := Scalar.addi v503 v502
  let v510 : BitVec 32 := Scalar.select v508 v509 v503
  let v640 : Index := Scalar.indexCast v510
  let c7_446 : Index := 7#32
  let c0_447 : Index := 0#32
  ![v640.toNat, 7, 0]
def k0_off384 (v169_2 : BitVec 32) : Fin 3 → Nat :=
  let v666 : Index := Scalar.indexCast v169_2
  let c0_461 : Index := 0#32
  let c0_462 : Index := 0#32
  ![v666.toNat, 0, 0]

def k0_chk28 (v169_2 : BitVec 32) : Prop :=
  (∀ a, (k0_off366 v169_2) a + S1x8x128.size a ≤ S97x8x128.size a) ∧
  (∀ a, (k0_off384 v169_2) a + S1x8x96.size a ≤ S97x8x96.size a)
theorem k0_off366_inb : ∀ (v169_2 : BitVec 32) (k0_hw28 : k0_chk28 v169_2), ∀ a, (k0_off366 v169_2) a + S1x8x128.size a ≤ S97x8x128.size a := fun v169_2 k0_hw28 => k0_hw28.1
theorem k0_off384_inb : ∀ (v169_2 : BitVec 32) (k0_hw28 : k0_chk28 v169_2), ∀ a, (k0_off384 v169_2) a + S1x8x96.size a ≤ S97x8x96.size a := fun v169_2 k0_hw28 => k0_hw28.2

def k0_off385 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v671 : Index := Scalar.indexCast v665
  let c0_465 : Index := 0#32
  let c0_466 : Index := 0#32
  let c0_467 : Index := 0#32
  ![v671.toNat, 0, 0, 0]
def k0_off386 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v676 : Index := Scalar.indexCast v665
  let c0_468 : Index := 0#32
  let c8_469 : Index := 8#32
  let c0_470 : Index := 0#32
  ![v676.toNat, 0, 8, 0]
def k0_off387 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v681 : Index := Scalar.indexCast v665
  let c0_471 : Index := 0#32
  let c16_472 : Index := 16#32
  let c0_473 : Index := 0#32
  ![v681.toNat, 0, 16, 0]
def k0_off388 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v687 : Index := Scalar.indexCast v665
  let c1_474 : Index := 1#32
  let c0_475 : Index := 0#32
  let c0_476 : Index := 0#32
  ![v687.toNat, 1, 0, 0]
def k0_off389 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v692 : Index := Scalar.indexCast v665
  let c1_477 : Index := 1#32
  let c8_478 : Index := 8#32
  let c0_479 : Index := 0#32
  ![v692.toNat, 1, 8, 0]
def k0_off390 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v697 : Index := Scalar.indexCast v665
  let c1_480 : Index := 1#32
  let c16_481 : Index := 16#32
  let c0_482 : Index := 0#32
  ![v697.toNat, 1, 16, 0]
def k0_off391 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v708 : Index := Scalar.indexCast v665
  let c2_487 : Index := 2#32
  let c0_488 : Index := 0#32
  let c0_489 : Index := 0#32
  ![v708.toNat, 2, 0, 0]
def k0_off392 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v713 : Index := Scalar.indexCast v665
  let c2_490 : Index := 2#32
  let c8_491 : Index := 8#32
  let c0_492 : Index := 0#32
  ![v713.toNat, 2, 8, 0]
def k0_off393 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v718 : Index := Scalar.indexCast v665
  let c2_493 : Index := 2#32
  let c16_494 : Index := 16#32
  let c0_495 : Index := 0#32
  ![v718.toNat, 2, 16, 0]
def k0_off394 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v724 : Index := Scalar.indexCast v665
  let c3_496 : Index := 3#32
  let c0_497 : Index := 0#32
  let c0_498 : Index := 0#32
  ![v724.toNat, 3, 0, 0]
def k0_off395 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v729 : Index := Scalar.indexCast v665
  let c3_499 : Index := 3#32
  let c8_500 : Index := 8#32
  let c0_501 : Index := 0#32
  ![v729.toNat, 3, 8, 0]
def k0_off396 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v734 : Index := Scalar.indexCast v665
  let c3_502 : Index := 3#32
  let c16_503 : Index := 16#32
  let c0_504 : Index := 0#32
  ![v734.toNat, 3, 16, 0]
def k0_off397 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v745 : Index := Scalar.indexCast v665
  let c4_509 : Index := 4#32
  let c0_510 : Index := 0#32
  let c0_511 : Index := 0#32
  ![v745.toNat, 4, 0, 0]
def k0_off398 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v750 : Index := Scalar.indexCast v665
  let c4_512 : Index := 4#32
  let c8_513 : Index := 8#32
  let c0_514 : Index := 0#32
  ![v750.toNat, 4, 8, 0]
def k0_off399 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v755 : Index := Scalar.indexCast v665
  let c4_515 : Index := 4#32
  let c16_516 : Index := 16#32
  let c0_517 : Index := 0#32
  ![v755.toNat, 4, 16, 0]
def k0_off400 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v761 : Index := Scalar.indexCast v665
  let c5_518 : Index := 5#32
  let c0_519 : Index := 0#32
  let c0_520 : Index := 0#32
  ![v761.toNat, 5, 0, 0]
def k0_off401 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v766 : Index := Scalar.indexCast v665
  let c5_521 : Index := 5#32
  let c8_522 : Index := 8#32
  let c0_523 : Index := 0#32
  ![v766.toNat, 5, 8, 0]
def k0_off402 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v771 : Index := Scalar.indexCast v665
  let c5_524 : Index := 5#32
  let c16_525 : Index := 16#32
  let c0_526 : Index := 0#32
  ![v771.toNat, 5, 16, 0]
def k0_off403 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v782 : Index := Scalar.indexCast v665
  let c6_531 : Index := 6#32
  let c0_532 : Index := 0#32
  let c0_533 : Index := 0#32
  ![v782.toNat, 6, 0, 0]
def k0_off404 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v787 : Index := Scalar.indexCast v665
  let c6_534 : Index := 6#32
  let c8_535 : Index := 8#32
  let c0_536 : Index := 0#32
  ![v787.toNat, 6, 8, 0]
def k0_off405 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v792 : Index := Scalar.indexCast v665
  let c6_537 : Index := 6#32
  let c16_538 : Index := 16#32
  let c0_539 : Index := 0#32
  ![v792.toNat, 6, 16, 0]
def k0_off406 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v798 : Index := Scalar.indexCast v665
  let c7_540 : Index := 7#32
  let c0_541 : Index := 0#32
  let c0_542 : Index := 0#32
  ![v798.toNat, 7, 0, 0]
def k0_off407 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v803 : Index := Scalar.indexCast v665
  let c7_543 : Index := 7#32
  let c8_544 : Index := 8#32
  let c0_545 : Index := 0#32
  ![v803.toNat, 7, 8, 0]
def k0_off408 (v169_0 : BitVec 32) (c2_i32_454 : BitVec 32) : Fin 4 → Nat :=
  let v655 : BitVec 32 := Scalar.addi v169_0 c2_i32_454
  let c4_i32_455 : BitVec 32 := 4#32
  let c0_i32_456 : BitVec 32 := 0#32
  let v656 : BitVec 1 := Scalar.cmpi .eq c4_i32_455 c0_i32_456
  let c1_i32_457 : BitVec 32 := 1#32
  let v657 : BitVec 32 := Scalar.select v656 c1_i32_457 c4_i32_455
  let v658 : BitVec 32 := Scalar.remsi v655 v657
  let c0_i32_459 : BitVec 32 := 0#32
  let v660 : BitVec 1 := Scalar.cmpi .slt v658 c0_i32_459
  let c0_i32_460 : BitVec 32 := 0#32
  let v661 : BitVec 1 := Scalar.cmpi .slt v657 c0_i32_460
  let v662 : BitVec 1 := Scalar.xori v660 v661
  let c0_i32_458 : BitVec 32 := 0#32
  let v659 : BitVec 1 := Scalar.cmpi .ne v658 c0_i32_458
  let v663 : BitVec 1 := Scalar.andi v662 v659
  let v664 : BitVec 32 := Scalar.addi v658 v657
  let v665 : BitVec 32 := Scalar.select v663 v664 v658
  let v808 : Index := Scalar.indexCast v665
  let c7_546 : Index := 7#32
  let c16_547 : Index := 16#32
  let c0_548 : Index := 0#32
  ![v808.toNat, 7, 16, 0]

def k0_chk27_0 (v169_0 : BitVec 32) : Prop :=
  (∀ a, (k0_off341 v169_0) a + S1x1x8x128.size a ≤ S4x8x24x128.size a) ∧
  (∀ a, (k0_off342 v169_0) a + S1x1x8x128.size a ≤ S4x8x24x128.size a) ∧
  (∀ a, (k0_off343 v169_0) a + S1x1x8x128.size a ≤ S4x8x24x128.size a) ∧
  (∀ a, (k0_off344 v169_0) a + S1x1x8x128.size a ≤ S4x8x24x128.size a) ∧
  (∀ a, (k0_off345 v169_0) a + S1x1x8x128.size a ≤ S4x8x24x128.size a) ∧
  (∀ a, (k0_off346 v169_0) a + S1x1x8x128.size a ≤ S4x8x24x128.size a) ∧
  (∀ a, (k0_off347 v169_0) a + S1x1x8x128.size a ≤ S4x8x24x128.size a) ∧
  (∀ a, (k0_off348 v169_0) a + S1x1x8x128.size a ≤ S4x8x24x128.size a) ∧
  (∀ a, (k0_off349 v169_0) a + S1x1x8x128.size a ≤ S4x8x24x128.size a) ∧
  (∀ a, (k0_off350 v169_0) a + S1x1x8x128.size a ≤ S4x8x24x128.size a) ∧
  (∀ a, (k0_off351 v169_0) a + S1x1x8x128.size a ≤ S4x8x24x128.size a) ∧
  (∀ a, (k0_off352 v169_0) a + S1x1x8x128.size a ≤ S4x8x24x128.size a) ∧
  (∀ a, (k0_off353 v169_0) a + S1x1x8x128.size a ≤ S4x8x24x128.size a) ∧
  (∀ a, (k0_off354 v169_0) a + S1x1x8x128.size a ≤ S4x8x24x128.size a) ∧
  (∀ a, (k0_off355 v169_0) a + S1x1x8x128.size a ≤ S4x8x24x128.size a) ∧
  (∀ a, (k0_off356 v169_0) a + S1x1x8x128.size a ≤ S4x8x24x128.size a) ∧
  (∀ a, (k0_off357 v169_0) a + S1x1x8x128.size a ≤ S4x8x24x128.size a) ∧
  (∀ a, (k0_off358 v169_0) a + S1x1x8x128.size a ≤ S4x8x24x128.size a) ∧
  (∀ a, (k0_off359 v169_0) a + S1x1x8x128.size a ≤ S4x8x24x128.size a) ∧
  (∀ a, (k0_off360 v169_0) a + S1x1x8x128.size a ≤ S4x8x24x128.size a) ∧
  (∀ a, (k0_off361 v169_0) a + S1x1x8x128.size a ≤ S4x8x24x128.size a) ∧
  (∀ a, (k0_off362 v169_0) a + S1x1x8x128.size a ≤ S4x8x24x128.size a) ∧
  (∀ a, (k0_off363 v169_0) a + S1x1x8x128.size a ≤ S4x8x24x128.size a) ∧
  (∀ a, (k0_off364 v169_0) a + S1x1x8x128.size a ≤ S4x8x24x128.size a) ∧
  (∀ a, (k0_off367 v169_0) a + S1x1x128.size a ≤ S4x8x128.size a) ∧
  (∀ a, (k0_off368 v169_0) a + S1x1x128.size a ≤ S4x8x128.size a) ∧
  (∀ a, (k0_off369 v169_0) a + S1x1x128.size a ≤ S4x8x128.size a) ∧
  (∀ a, (k0_off370 v169_0) a + S1x1x128.size a ≤ S4x8x128.size a) ∧
  (∀ a, (k0_off371 v169_0) a + S1x1x128.size a ≤ S4x8x128.size a) ∧
  (∀ a, (k0_off372 v169_0) a + S1x1x128.size a ≤ S4x8x128.size a) ∧
  (∀ a, (k0_off373 v169_0) a + S1x1x128.size a ≤ S4x8x128.size a) ∧
  (∀ a, (k0_off374 v169_0) a + S1x1x128.size a ≤ S4x8x128.size a)
def k0_chk27_1 (v169_0 : BitVec 32) : Prop :=
  (∀ a, (k0_off376 v169_0) a + S1x1x128.size a ≤ S4x8x128.size a) ∧
  (∀ a, (k0_off377 v169_0) a + S1x1x128.size a ≤ S4x8x128.size a) ∧
  (∀ a, (k0_off378 v169_0) a + S1x1x128.size a ≤ S4x8x128.size a) ∧
  (∀ a, (k0_off379 v169_0) a + S1x1x128.size a ≤ S4x8x128.size a) ∧
  (∀ a, (k0_off380 v169_0) a + S1x1x128.size a ≤ S4x8x128.size a) ∧
  (∀ a, (k0_off381 v169_0) a + S1x1x128.size a ≤ S4x8x128.size a) ∧
  (∀ a, (k0_off382 v169_0) a + S1x1x128.size a ≤ S4x8x128.size a) ∧
  (∀ a, (k0_off383 v169_0) a + S1x1x128.size a ≤ S4x8x128.size a) ∧
  (∀ (r : Fin 2), ∀ a, (k0_off385 v169_0 (BitVec.ofNat 32 (2 + r.val))) a + S1x1x8x128.size a ≤ S4x8x24x128.size a) ∧
  (∀ (r : Fin 2), ∀ a, (k0_off386 v169_0 (BitVec.ofNat 32 (2 + r.val))) a + S1x1x8x128.size a ≤ S4x8x24x128.size a) ∧
  (∀ (r : Fin 2), ∀ a, (k0_off387 v169_0 (BitVec.ofNat 32 (2 + r.val))) a + S1x1x8x128.size a ≤ S4x8x24x128.size a) ∧
  (∀ (r : Fin 2), ∀ a, (k0_off388 v169_0 (BitVec.ofNat 32 (2 + r.val))) a + S1x1x8x128.size a ≤ S4x8x24x128.size a) ∧
  (∀ (r : Fin 2), ∀ a, (k0_off389 v169_0 (BitVec.ofNat 32 (2 + r.val))) a + S1x1x8x128.size a ≤ S4x8x24x128.size a) ∧
  (∀ (r : Fin 2), ∀ a, (k0_off390 v169_0 (BitVec.ofNat 32 (2 + r.val))) a + S1x1x8x128.size a ≤ S4x8x24x128.size a) ∧
  (∀ (r : Fin 2), ∀ a, (k0_off391 v169_0 (BitVec.ofNat 32 (2 + r.val))) a + S1x1x8x128.size a ≤ S4x8x24x128.size a) ∧
  (∀ (r : Fin 2), ∀ a, (k0_off392 v169_0 (BitVec.ofNat 32 (2 + r.val))) a + S1x1x8x128.size a ≤ S4x8x24x128.size a) ∧
  (∀ (r : Fin 2), ∀ a, (k0_off393 v169_0 (BitVec.ofNat 32 (2 + r.val))) a + S1x1x8x128.size a ≤ S4x8x24x128.size a) ∧
  (∀ (r : Fin 2), ∀ a, (k0_off394 v169_0 (BitVec.ofNat 32 (2 + r.val))) a + S1x1x8x128.size a ≤ S4x8x24x128.size a) ∧
  (∀ (r : Fin 2), ∀ a, (k0_off395 v169_0 (BitVec.ofNat 32 (2 + r.val))) a + S1x1x8x128.size a ≤ S4x8x24x128.size a) ∧
  (∀ (r : Fin 2), ∀ a, (k0_off396 v169_0 (BitVec.ofNat 32 (2 + r.val))) a + S1x1x8x128.size a ≤ S4x8x24x128.size a) ∧
  (∀ (r : Fin 2), ∀ a, (k0_off397 v169_0 (BitVec.ofNat 32 (2 + r.val))) a + S1x1x8x128.size a ≤ S4x8x24x128.size a) ∧
  (∀ (r : Fin 2), ∀ a, (k0_off398 v169_0 (BitVec.ofNat 32 (2 + r.val))) a + S1x1x8x128.size a ≤ S4x8x24x128.size a) ∧
  (∀ (r : Fin 2), ∀ a, (k0_off399 v169_0 (BitVec.ofNat 32 (2 + r.val))) a + S1x1x8x128.size a ≤ S4x8x24x128.size a) ∧
  (∀ (r : Fin 2), ∀ a, (k0_off400 v169_0 (BitVec.ofNat 32 (2 + r.val))) a + S1x1x8x128.size a ≤ S4x8x24x128.size a) ∧
  (∀ (r : Fin 2), ∀ a, (k0_off401 v169_0 (BitVec.ofNat 32 (2 + r.val))) a + S1x1x8x128.size a ≤ S4x8x24x128.size a) ∧
  (∀ (r : Fin 2), ∀ a, (k0_off402 v169_0 (BitVec.ofNat 32 (2 + r.val))) a + S1x1x8x128.size a ≤ S4x8x24x128.size a) ∧
  (∀ (r : Fin 2), ∀ a, (k0_off403 v169_0 (BitVec.ofNat 32 (2 + r.val))) a + S1x1x8x128.size a ≤ S4x8x24x128.size a) ∧
  (∀ (r : Fin 2), ∀ a, (k0_off404 v169_0 (BitVec.ofNat 32 (2 + r.val))) a + S1x1x8x128.size a ≤ S4x8x24x128.size a) ∧
  (∀ (r : Fin 2), ∀ a, (k0_off405 v169_0 (BitVec.ofNat 32 (2 + r.val))) a + S1x1x8x128.size a ≤ S4x8x24x128.size a) ∧
  (∀ (r : Fin 2), ∀ a, (k0_off406 v169_0 (BitVec.ofNat 32 (2 + r.val))) a + S1x1x8x128.size a ≤ S4x8x24x128.size a) ∧
  (∀ (r : Fin 2), ∀ a, (k0_off407 v169_0 (BitVec.ofNat 32 (2 + r.val))) a + S1x1x8x128.size a ≤ S4x8x24x128.size a) ∧
  (∀ (r : Fin 2), ∀ a, (k0_off408 v169_0 (BitVec.ofNat 32 (2 + r.val))) a + S1x1x8x128.size a ≤ S4x8x24x128.size a)
def k0_chk27 (v169_0 : BitVec 32) : Prop :=
  k0_chk27_0 v169_0 ∧
  k0_chk27_1 v169_0
theorem k0_off341_inb : ∀ (v169_0 : BitVec 32) (k0_hw27 : k0_chk27 v169_0), ∀ a, (k0_off341 v169_0) a + S1x1x8x128.size a ≤ S4x8x24x128.size a := fun v169_0 k0_hw27 => k0_hw27.1.1
theorem k0_off342_inb : ∀ (v169_0 : BitVec 32) (k0_hw27 : k0_chk27 v169_0), ∀ a, (k0_off342 v169_0) a + S1x1x8x128.size a ≤ S4x8x24x128.size a := fun v169_0 k0_hw27 => k0_hw27.1.2.1
theorem k0_off343_inb : ∀ (v169_0 : BitVec 32) (k0_hw27 : k0_chk27 v169_0), ∀ a, (k0_off343 v169_0) a + S1x1x8x128.size a ≤ S4x8x24x128.size a := fun v169_0 k0_hw27 => k0_hw27.1.2.2.1
theorem k0_off344_inb : ∀ (v169_0 : BitVec 32) (k0_hw27 : k0_chk27 v169_0), ∀ a, (k0_off344 v169_0) a + S1x1x8x128.size a ≤ S4x8x24x128.size a := fun v169_0 k0_hw27 => k0_hw27.1.2.2.2.1
theorem k0_off345_inb : ∀ (v169_0 : BitVec 32) (k0_hw27 : k0_chk27 v169_0), ∀ a, (k0_off345 v169_0) a + S1x1x8x128.size a ≤ S4x8x24x128.size a := fun v169_0 k0_hw27 => k0_hw27.1.2.2.2.2.1
theorem k0_off346_inb : ∀ (v169_0 : BitVec 32) (k0_hw27 : k0_chk27 v169_0), ∀ a, (k0_off346 v169_0) a + S1x1x8x128.size a ≤ S4x8x24x128.size a := fun v169_0 k0_hw27 => k0_hw27.1.2.2.2.2.2.1
theorem k0_off347_inb : ∀ (v169_0 : BitVec 32) (k0_hw27 : k0_chk27 v169_0), ∀ a, (k0_off347 v169_0) a + S1x1x8x128.size a ≤ S4x8x24x128.size a := fun v169_0 k0_hw27 => k0_hw27.1.2.2.2.2.2.2.1
theorem k0_off348_inb : ∀ (v169_0 : BitVec 32) (k0_hw27 : k0_chk27 v169_0), ∀ a, (k0_off348 v169_0) a + S1x1x8x128.size a ≤ S4x8x24x128.size a := fun v169_0 k0_hw27 => k0_hw27.1.2.2.2.2.2.2.2.1
theorem k0_off349_inb : ∀ (v169_0 : BitVec 32) (k0_hw27 : k0_chk27 v169_0), ∀ a, (k0_off349 v169_0) a + S1x1x8x128.size a ≤ S4x8x24x128.size a := fun v169_0 k0_hw27 => k0_hw27.1.2.2.2.2.2.2.2.2.1
theorem k0_off350_inb : ∀ (v169_0 : BitVec 32) (k0_hw27 : k0_chk27 v169_0), ∀ a, (k0_off350 v169_0) a + S1x1x8x128.size a ≤ S4x8x24x128.size a := fun v169_0 k0_hw27 => k0_hw27.1.2.2.2.2.2.2.2.2.2.1
theorem k0_off351_inb : ∀ (v169_0 : BitVec 32) (k0_hw27 : k0_chk27 v169_0), ∀ a, (k0_off351 v169_0) a + S1x1x8x128.size a ≤ S4x8x24x128.size a := fun v169_0 k0_hw27 => k0_hw27.1.2.2.2.2.2.2.2.2.2.2.1
theorem k0_off352_inb : ∀ (v169_0 : BitVec 32) (k0_hw27 : k0_chk27 v169_0), ∀ a, (k0_off352 v169_0) a + S1x1x8x128.size a ≤ S4x8x24x128.size a := fun v169_0 k0_hw27 => k0_hw27.1.2.2.2.2.2.2.2.2.2.2.2.1
theorem k0_off353_inb : ∀ (v169_0 : BitVec 32) (k0_hw27 : k0_chk27 v169_0), ∀ a, (k0_off353 v169_0) a + S1x1x8x128.size a ≤ S4x8x24x128.size a := fun v169_0 k0_hw27 => k0_hw27.1.2.2.2.2.2.2.2.2.2.2.2.2.1
theorem k0_off354_inb : ∀ (v169_0 : BitVec 32) (k0_hw27 : k0_chk27 v169_0), ∀ a, (k0_off354 v169_0) a + S1x1x8x128.size a ≤ S4x8x24x128.size a := fun v169_0 k0_hw27 => k0_hw27.1.2.2.2.2.2.2.2.2.2.2.2.2.2.1
theorem k0_off355_inb : ∀ (v169_0 : BitVec 32) (k0_hw27 : k0_chk27 v169_0), ∀ a, (k0_off355 v169_0) a + S1x1x8x128.size a ≤ S4x8x24x128.size a := fun v169_0 k0_hw27 => k0_hw27.1.2.2.2.2.2.2.2.2.2.2.2.2.2.2.1
theorem k0_off356_inb : ∀ (v169_0 : BitVec 32) (k0_hw27 : k0_chk27 v169_0), ∀ a, (k0_off356 v169_0) a + S1x1x8x128.size a ≤ S4x8x24x128.size a := fun v169_0 k0_hw27 => k0_hw27.1.2.2.2.2.2.2.2.2.2.2.2.2.2.2.2.1
theorem k0_off357_inb : ∀ (v169_0 : BitVec 32) (k0_hw27 : k0_chk27 v169_0), ∀ a, (k0_off357 v169_0) a + S1x1x8x128.size a ≤ S4x8x24x128.size a := fun v169_0 k0_hw27 => k0_hw27.1.2.2.2.2.2.2.2.2.2.2.2.2.2.2.2.2.1
theorem k0_off358_inb : ∀ (v169_0 : BitVec 32) (k0_hw27 : k0_chk27 v169_0), ∀ a, (k0_off358 v169_0) a + S1x1x8x128.size a ≤ S4x8x24x128.size a := fun v169_0 k0_hw27 => k0_hw27.1.2.2.2.2.2.2.2.2.2.2.2.2.2.2.2.2.2.1
theorem k0_off359_inb : ∀ (v169_0 : BitVec 32) (k0_hw27 : k0_chk27 v169_0), ∀ a, (k0_off359 v169_0) a + S1x1x8x128.size a ≤ S4x8x24x128.size a := fun v169_0 k0_hw27 => k0_hw27.1.2.2.2.2.2.2.2.2.2.2.2.2.2.2.2.2.2.2.1
theorem k0_off360_inb : ∀ (v169_0 : BitVec 32) (k0_hw27 : k0_chk27 v169_0), ∀ a, (k0_off360 v169_0) a + S1x1x8x128.size a ≤ S4x8x24x128.size a := fun v169_0 k0_hw27 => k0_hw27.1.2.2.2.2.2.2.2.2.2.2.2.2.2.2.2.2.2.2.2.1
theorem k0_off361_inb : ∀ (v169_0 : BitVec 32) (k0_hw27 : k0_chk27 v169_0), ∀ a, (k0_off361 v169_0) a + S1x1x8x128.size a ≤ S4x8x24x128.size a := fun v169_0 k0_hw27 => k0_hw27.1.2.2.2.2.2.2.2.2.2.2.2.2.2.2.2.2.2.2.2.2.1
theorem k0_off362_inb : ∀ (v169_0 : BitVec 32) (k0_hw27 : k0_chk27 v169_0), ∀ a, (k0_off362 v169_0) a + S1x1x8x128.size a ≤ S4x8x24x128.size a := fun v169_0 k0_hw27 => k0_hw27.1.2.2.2.2.2.2.2.2.2.2.2.2.2.2.2.2.2.2.2.2.2.1
theorem k0_off363_inb : ∀ (v169_0 : BitVec 32) (k0_hw27 : k0_chk27 v169_0), ∀ a, (k0_off363 v169_0) a + S1x1x8x128.size a ≤ S4x8x24x128.size a := fun v169_0 k0_hw27 => k0_hw27.1.2.2.2.2.2.2.2.2.2.2.2.2.2.2.2.2.2.2.2.2.2.2.1
theorem k0_off364_inb : ∀ (v169_0 : BitVec 32) (k0_hw27 : k0_chk27 v169_0), ∀ a, (k0_off364 v169_0) a + S1x1x8x128.size a ≤ S4x8x24x128.size a := fun v169_0 k0_hw27 => k0_hw27.1.2.2.2.2.2.2.2.2.2.2.2.2.2.2.2.2.2.2.2.2.2.2.2.1
theorem k0_off367_inb : ∀ (v169_0 : BitVec 32) (k0_hw27 : k0_chk27 v169_0), ∀ a, (k0_off367 v169_0) a + S1x1x128.size a ≤ S4x8x128.size a := fun v169_0 k0_hw27 => k0_hw27.1.2.2.2.2.2.2.2.2.2.2.2.2.2.2.2.2.2.2.2.2.2.2.2.2.1
theorem k0_off368_inb : ∀ (v169_0 : BitVec 32) (k0_hw27 : k0_chk27 v169_0), ∀ a, (k0_off368 v169_0) a + S1x1x128.size a ≤ S4x8x128.size a := fun v169_0 k0_hw27 => k0_hw27.1.2.2.2.2.2.2.2.2.2.2.2.2.2.2.2.2.2.2.2.2.2.2.2.2.2.1
theorem k0_off369_inb : ∀ (v169_0 : BitVec 32) (k0_hw27 : k0_chk27 v169_0), ∀ a, (k0_off369 v169_0) a + S1x1x128.size a ≤ S4x8x128.size a := fun v169_0 k0_hw27 => k0_hw27.1.2.2.2.2.2.2.2.2.2.2.2.2.2.2.2.2.2.2.2.2.2.2.2.2.2.2.1
theorem k0_off370_inb : ∀ (v169_0 : BitVec 32) (k0_hw27 : k0_chk27 v169_0), ∀ a, (k0_off370 v169_0) a + S1x1x128.size a ≤ S4x8x128.size a := fun v169_0 k0_hw27 => k0_hw27.1.2.2.2.2.2.2.2.2.2.2.2.2.2.2.2.2.2.2.2.2.2.2.2.2.2.2.2.1
theorem k0_off371_inb : ∀ (v169_0 : BitVec 32) (k0_hw27 : k0_chk27 v169_0), ∀ a, (k0_off371 v169_0) a + S1x1x128.size a ≤ S4x8x128.size a := fun v169_0 k0_hw27 => k0_hw27.1.2.2.2.2.2.2.2.2.2.2.2.2.2.2.2.2.2.2.2.2.2.2.2.2.2.2.2.2.1
theorem k0_off372_inb : ∀ (v169_0 : BitVec 32) (k0_hw27 : k0_chk27 v169_0), ∀ a, (k0_off372 v169_0) a + S1x1x128.size a ≤ S4x8x128.size a := fun v169_0 k0_hw27 => k0_hw27.1.2.2.2.2.2.2.2.2.2.2.2.2.2.2.2.2.2.2.2.2.2.2.2.2.2.2.2.2.2.1
theorem k0_off373_inb : ∀ (v169_0 : BitVec 32) (k0_hw27 : k0_chk27 v169_0), ∀ a, (k0_off373 v169_0) a + S1x1x128.size a ≤ S4x8x128.size a := fun v169_0 k0_hw27 => k0_hw27.1.2.2.2.2.2.2.2.2.2.2.2.2.2.2.2.2.2.2.2.2.2.2.2.2.2.2.2.2.2.2.1
theorem k0_off374_inb : ∀ (v169_0 : BitVec 32) (k0_hw27 : k0_chk27 v169_0), ∀ a, (k0_off374 v169_0) a + S1x1x128.size a ≤ S4x8x128.size a := fun v169_0 k0_hw27 => k0_hw27.1.2.2.2.2.2.2.2.2.2.2.2.2.2.2.2.2.2.2.2.2.2.2.2.2.2.2.2.2.2.2.2
theorem k0_off376_inb : ∀ (v169_0 : BitVec 32) (k0_hw27 : k0_chk27 v169_0), ∀ a, (k0_off376 v169_0) a + S1x1x128.size a ≤ S4x8x128.size a := fun v169_0 k0_hw27 => k0_hw27.2.1
theorem k0_off377_inb : ∀ (v169_0 : BitVec 32) (k0_hw27 : k0_chk27 v169_0), ∀ a, (k0_off377 v169_0) a + S1x1x128.size a ≤ S4x8x128.size a := fun v169_0 k0_hw27 => k0_hw27.2.2.1
theorem k0_off378_inb : ∀ (v169_0 : BitVec 32) (k0_hw27 : k0_chk27 v169_0), ∀ a, (k0_off378 v169_0) a + S1x1x128.size a ≤ S4x8x128.size a := fun v169_0 k0_hw27 => k0_hw27.2.2.2.1
theorem k0_off379_inb : ∀ (v169_0 : BitVec 32) (k0_hw27 : k0_chk27 v169_0), ∀ a, (k0_off379 v169_0) a + S1x1x128.size a ≤ S4x8x128.size a := fun v169_0 k0_hw27 => k0_hw27.2.2.2.2.1
theorem k0_off380_inb : ∀ (v169_0 : BitVec 32) (k0_hw27 : k0_chk27 v169_0), ∀ a, (k0_off380 v169_0) a + S1x1x128.size a ≤ S4x8x128.size a := fun v169_0 k0_hw27 => k0_hw27.2.2.2.2.2.1
theorem k0_off381_inb : ∀ (v169_0 : BitVec 32) (k0_hw27 : k0_chk27 v169_0), ∀ a, (k0_off381 v169_0) a + S1x1x128.size a ≤ S4x8x128.size a := fun v169_0 k0_hw27 => k0_hw27.2.2.2.2.2.2.1
theorem k0_off382_inb : ∀ (v169_0 : BitVec 32) (k0_hw27 : k0_chk27 v169_0), ∀ a, (k0_off382 v169_0) a + S1x1x128.size a ≤ S4x8x128.size a := fun v169_0 k0_hw27 => k0_hw27.2.2.2.2.2.2.2.1
theorem k0_off383_inb : ∀ (v169_0 : BitVec 32) (k0_hw27 : k0_chk27 v169_0), ∀ a, (k0_off383 v169_0) a + S1x1x128.size a ≤ S4x8x128.size a := fun v169_0 k0_hw27 => k0_hw27.2.2.2.2.2.2.2.2.1
theorem k0_off385_inb : ∀ (v169_0 : BitVec 32) (k0_hw27 : k0_chk27 v169_0), ∀ (r : Fin 2), ∀ a, (k0_off385 v169_0 (BitVec.ofNat 32 (2 + r.val))) a + S1x1x8x128.size a ≤ S4x8x24x128.size a := fun v169_0 k0_hw27 r => k0_hw27.2.2.2.2.2.2.2.2.2.1 r
theorem k0_off386_inb : ∀ (v169_0 : BitVec 32) (k0_hw27 : k0_chk27 v169_0), ∀ (r : Fin 2), ∀ a, (k0_off386 v169_0 (BitVec.ofNat 32 (2 + r.val))) a + S1x1x8x128.size a ≤ S4x8x24x128.size a := fun v169_0 k0_hw27 r => k0_hw27.2.2.2.2.2.2.2.2.2.2.1 r
theorem k0_off387_inb : ∀ (v169_0 : BitVec 32) (k0_hw27 : k0_chk27 v169_0), ∀ (r : Fin 2), ∀ a, (k0_off387 v169_0 (BitVec.ofNat 32 (2 + r.val))) a + S1x1x8x128.size a ≤ S4x8x24x128.size a := fun v169_0 k0_hw27 r => k0_hw27.2.2.2.2.2.2.2.2.2.2.2.1 r
theorem k0_off388_inb : ∀ (v169_0 : BitVec 32) (k0_hw27 : k0_chk27 v169_0), ∀ (r : Fin 2), ∀ a, (k0_off388 v169_0 (BitVec.ofNat 32 (2 + r.val))) a + S1x1x8x128.size a ≤ S4x8x24x128.size a := fun v169_0 k0_hw27 r => k0_hw27.2.2.2.2.2.2.2.2.2.2.2.2.1 r
theorem k0_off389_inb : ∀ (v169_0 : BitVec 32) (k0_hw27 : k0_chk27 v169_0), ∀ (r : Fin 2), ∀ a, (k0_off389 v169_0 (BitVec.ofNat 32 (2 + r.val))) a + S1x1x8x128.size a ≤ S4x8x24x128.size a := fun v169_0 k0_hw27 r => k0_hw27.2.2.2.2.2.2.2.2.2.2.2.2.2.1 r
theorem k0_off390_inb : ∀ (v169_0 : BitVec 32) (k0_hw27 : k0_chk27 v169_0), ∀ (r : Fin 2), ∀ a, (k0_off390 v169_0 (BitVec.ofNat 32 (2 + r.val))) a + S1x1x8x128.size a ≤ S4x8x24x128.size a := fun v169_0 k0_hw27 r => k0_hw27.2.2.2.2.2.2.2.2.2.2.2.2.2.2.1 r
theorem k0_off391_inb : ∀ (v169_0 : BitVec 32) (k0_hw27 : k0_chk27 v169_0), ∀ (r : Fin 2), ∀ a, (k0_off391 v169_0 (BitVec.ofNat 32 (2 + r.val))) a + S1x1x8x128.size a ≤ S4x8x24x128.size a := fun v169_0 k0_hw27 r => k0_hw27.2.2.2.2.2.2.2.2.2.2.2.2.2.2.2.1 r
theorem k0_off392_inb : ∀ (v169_0 : BitVec 32) (k0_hw27 : k0_chk27 v169_0), ∀ (r : Fin 2), ∀ a, (k0_off392 v169_0 (BitVec.ofNat 32 (2 + r.val))) a + S1x1x8x128.size a ≤ S4x8x24x128.size a := fun v169_0 k0_hw27 r => k0_hw27.2.2.2.2.2.2.2.2.2.2.2.2.2.2.2.2.1 r
theorem k0_off393_inb : ∀ (v169_0 : BitVec 32) (k0_hw27 : k0_chk27 v169_0), ∀ (r : Fin 2), ∀ a, (k0_off393 v169_0 (BitVec.ofNat 32 (2 + r.val))) a + S1x1x8x128.size a ≤ S4x8x24x128.size a := fun v169_0 k0_hw27 r => k0_hw27.2.2.2.2.2.2.2.2.2.2.2.2.2.2.2.2.2.1 r
theorem k0_off394_inb : ∀ (v169_0 : BitVec 32) (k0_hw27 : k0_chk27 v169_0), ∀ (r : Fin 2), ∀ a, (k0_off394 v169_0 (BitVec.ofNat 32 (2 + r.val))) a + S1x1x8x128.size a ≤ S4x8x24x128.size a := fun v169_0 k0_hw27 r => k0_hw27.2.2.2.2.2.2.2.2.2.2.2.2.2.2.2.2.2.2.1 r
theorem k0_off395_inb : ∀ (v169_0 : BitVec 32) (k0_hw27 : k0_chk27 v169_0), ∀ (r : Fin 2), ∀ a, (k0_off395 v169_0 (BitVec.ofNat 32 (2 + r.val))) a + S1x1x8x128.size a ≤ S4x8x24x128.size a := fun v169_0 k0_hw27 r => k0_hw27.2.2.2.2.2.2.2.2.2.2.2.2.2.2.2.2.2.2.2.1 r
theorem k0_off396_inb : ∀ (v169_0 : BitVec 32) (k0_hw27 : k0_chk27 v169_0), ∀ (r : Fin 2), ∀ a, (k0_off396 v169_0 (BitVec.ofNat 32 (2 + r.val))) a + S1x1x8x128.size a ≤ S4x8x24x128.size a := fun v169_0 k0_hw27 r => k0_hw27.2.2.2.2.2.2.2.2.2.2.2.2.2.2.2.2.2.2.2.2.1 r
theorem k0_off397_inb : ∀ (v169_0 : BitVec 32) (k0_hw27 : k0_chk27 v169_0), ∀ (r : Fin 2), ∀ a, (k0_off397 v169_0 (BitVec.ofNat 32 (2 + r.val))) a + S1x1x8x128.size a ≤ S4x8x24x128.size a := fun v169_0 k0_hw27 r => k0_hw27.2.2.2.2.2.2.2.2.2.2.2.2.2.2.2.2.2.2.2.2.2.1 r
theorem k0_off398_inb : ∀ (v169_0 : BitVec 32) (k0_hw27 : k0_chk27 v169_0), ∀ (r : Fin 2), ∀ a, (k0_off398 v169_0 (BitVec.ofNat 32 (2 + r.val))) a + S1x1x8x128.size a ≤ S4x8x24x128.size a := fun v169_0 k0_hw27 r => k0_hw27.2.2.2.2.2.2.2.2.2.2.2.2.2.2.2.2.2.2.2.2.2.2.1 r
theorem k0_off399_inb : ∀ (v169_0 : BitVec 32) (k0_hw27 : k0_chk27 v169_0), ∀ (r : Fin 2), ∀ a, (k0_off399 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.1 r
theorem k0_off400_inb : ∀ (v169_0 : BitVec 32) (k0_hw27 : k0_chk27 v169_0), ∀ (r : Fin 2), ∀ a, (k0_off400 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.1 r
theorem k0_off401_inb : ∀ (v169_0 : BitVec 32) (k0_hw27 : k0_chk27 v169_0), ∀ (r : Fin 2), ∀ a, (k0_off401 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.1 r
theorem k0_off402_inb : ∀ (v169_0 : BitVec 32) (k0_hw27 : k0_chk27 v169_0), ∀ (r : Fin 2), ∀ a, (k0_off402 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.1 r
theorem k0_off403_inb : ∀ (v169_0 : BitVec 32) (k0_hw27 : k0_chk27 v169_0), ∀ (r : Fin 2), ∀ a, (k0_off403 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.2.1 r
theorem k0_off404_inb : ∀ (v169_0 : BitVec 32) (k0_hw27 : k0_chk27 v169_0), ∀ (r : Fin 2), ∀ a, (k0_off404 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.2.2.1 r
theorem k0_off405_inb : ∀ (v169_0 : BitVec 32) (k0_hw27 : k0_chk27 v169_0), ∀ (r : Fin 2), ∀ a, (k0_off405 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.2.2.2.1 r
theorem k0_off406_inb : ∀ (v169_0 : BitVec 32) (k0_hw27 : k0_chk27 v169_0), ∀ (r : Fin 2), ∀ a, (k0_off406 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.2.2.2.2.1 r
theorem k0_off407_inb : ∀ (v169_0 : BitVec 32) (k0_hw27 : k0_chk27 v169_0), ∀ (r : Fin 2), ∀ a, (k0_off407 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.2.2.2.2.2.1 r
theorem k0_off408_inb : ∀ (v169_0 : BitVec 32) (k0_hw27 : k0_chk27 v169_0), ∀ (r : Fin 2), ∀ a, (k0_off408 v169_0 (BitVec.ofNat 32 (2 + r.val))) a + S1x1x8x128.size a ≤ S4x8x24x128.size a := fun v169_0 k0_hw27 r => k0_hw27.2.2.2.2.2.2.2.2.2.2.2.2.2.2.2.2.2.2.2.2.2.2.2.2.2.2.2.2.2.2.2.2 r

def k0_off409 (v169_1 : BitVec 32) : Fin 3 → Nat :=
  let v857 : Index := Scalar.indexCast v169_1
  let c0_586 : Index := 0#32
  let c0_587 : Index := 0#32
  ![v857.toNat, 0, 0]
def k0_off410 (v169_1 : BitVec 32) : Fin 3 → Nat :=
  let v996 : Index := Scalar.indexCast v169_1
  let c0_644 : Index := 0#32
  let c0_645 : Index := 0#32
  ![v996.toNat, 0, 0]

def k0_chk29 (v169_1 : BitVec 32) : Prop :=
  (∀ a, (k0_off375 v169_1) a + S1x8x96.size a ≤ S96x8x96.size a) ∧
  (∀ a, (k0_off409 v169_1) a + S1x8x128.size a ≤ S97x8x128.size a) ∧
  (∀ a, (k0_off410 v169_1) a + S1x8x96.size a ≤ S97x8x96.size a)
theorem k0_off375_inb : ∀ (v169_1 : BitVec 32) (k0_hw29 : k0_chk29 v169_1), ∀ a, (k0_off375 v169_1) a + S1x8x96.size a ≤ S96x8x96.size a := fun v169_1 k0_hw29 => k0_hw29.1
theorem k0_off409_inb : ∀ (v169_1 : BitVec 32) (k0_hw29 : k0_chk29 v169_1), ∀ a, (k0_off409 v169_1) a + S1x8x128.size a ≤ S97x8x128.size a := fun v169_1 k0_hw29 => k0_hw29.2.1
theorem k0_off410_inb : ∀ (v169_1 : BitVec 32) (k0_hw29 : k0_chk29 v169_1), ∀ a, (k0_off410 v169_1) a + S1x8x96.size a ≤ S97x8x96.size a := fun v169_1 k0_hw29 => k0_hw29.2.2

@[reducible] def k0_t4_loop : Scf.Loop 32 :=
  let c0_i32_738 : BitVec 32 := 0#32
  let c12_i32 : BitVec 32 := 12#32
  let v1153 : BitVec 32 := Scalar.addi c0_i32_738 c12_i32
  let c1_i32_739 : BitVec 32 := 1#32
  ⟨c0_i32_738, v1153, c1_i32_739⟩
def k0_off411 (k0_t4 : Fin k0_t4_loop.trips) (c0_i32_741 : BitVec 32) : Fin 3 → Nat :=
  let c0_i32_738 : BitVec 32 := 0#32
  let c1_i32_739 : BitVec 32 := 1#32
  let arg27 : BitVec 32 := Scf.iv c0_i32_738 c1_i32_739 k0_t4
  let c8_i32 : BitVec 32 := 8#32
  let v1154 : BitVec 32 := Scalar.muli arg27 c8_i32
  let v1155 : BitVec 32 := Scalar.addi v1154 c0_i32_741
  let v1156 : Index := Scalar.indexCast v1155
  let c0_742 : Index := 0#32
  let c0_743 : Index := 0#32
  ![v1156.toNat, 0, 0]
def k0_off412 (k0_t4 : Fin k0_t4_loop.trips) (c0_i32_741 : BitVec 32) : Fin 3 → Nat :=
  let c0_i32_738 : BitVec 32 := 0#32
  let c1_i32_739 : BitVec 32 := 1#32
  let arg27 : BitVec 32 := Scf.iv c0_i32_738 c1_i32_739 k0_t4
  let c8_i32 : BitVec 32 := 8#32
  let v1154 : BitVec 32 := Scalar.muli arg27 c8_i32
  let v1155 : BitVec 32 := Scalar.addi v1154 c0_i32_741
  let v1161 : Index := Scalar.indexCast v1155
  let c0_745 : Index := 0#32
  let c0_746 : Index := 0#32
  ![v1161.toNat, 0, 0]
def k0_off413 (k0_t4 : Fin k0_t4_loop.trips) (c0_i32_741 : BitVec 32) : Fin 3 → Nat :=
  let c0_i32_738 : BitVec 32 := 0#32
  let c1_i32_739 : BitVec 32 := 1#32
  let arg27 : BitVec 32 := Scf.iv c0_i32_738 c1_i32_739 k0_t4
  let c8_i32 : BitVec 32 := 8#32
  let v1154 : BitVec 32 := Scalar.muli arg27 c8_i32
  let v1155 : BitVec 32 := Scalar.addi v1154 c0_i32_741
  let v1166 : Index := Scalar.indexCast v1155
  let c0_747 : Index := 0#32
  let c0_748 : Index := 0#32
  ![v1166.toNat, 0, 0]
abbrev stage0_0 : Fin 1 → Memref sig .tc .smem S26112 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x8x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x48x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x8x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x8x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S26112 : Shape := ⟨1, ![26112]⟩
abbrev S96x8x96 : Shape := ⟨3, ![96, 8, 96]⟩
abbrev S96x48x128 : Shape := ⟨3, ![96, 48, 128]⟩
abbrev S96x8x128 : Shape := ⟨3, ![96, 8, 128]⟩
abbrev S12x8x96x32768 : Shape := ⟨4, ![12, 8, 96, 32768]⟩
abbrev S24576x128 : Shape := ⟨2, ![24576, 128]⟩
abbrev S96x272 : Shape := ⟨2, ![96, 272]⟩
abbrev S96x1 : Shape := ⟨2, ![96, 1]⟩
abbrev S96x32768 : Shape := ⟨2, ![96, 32768]⟩
abbrev S_ : Shape := ⟨0, ![]⟩
abbrev S96x96x1 : Shape := ⟨3, ![96, 96, 1]⟩
abbrev S96x1x32768 : Shape := ⟨3, ![96, 1, 32768]⟩
abbrev S96x96x32768 : Shape := ⟨3, ![96, 96, 32768]⟩
abbrev S301989888 : Shape := ⟨1, ![301989888]⟩
abbrev S96x96x32768x1 : Shape := ⟨4, ![96, 96, 32768, 1]⟩
abbrev S96x48x128x2 : Shape := ⟨4, ![96, 48, 128, 2]⟩
abbrev S96x48x2x128 : Shape := ⟨4, ![96, 48, 2, 128]⟩
abbrev S1179648 : Shape := ⟨1, ![1179648]⟩
abbrev S96x8x32768 : Shape := ⟨3, ![96, 8, 32768]⟩
abbrev S96x8x1 : Shape := ⟨3, ![96, 8, 1]⟩
abbrev S96x8 : Shape := ⟨2, ![96, 8]⟩

abbrev nBuf : Space → Nat
  | .hbm => 124
  | .vmem => 0
  | .smem => 0
  | _ => 0

abbrev bufTy : (tb : Table) → Fin (tcTables nBuf tb) → BufTy
  | .hbm, ⟨0, _⟩ => ⟨S26112, .i32⟩
  | .hbm, ⟨1, _⟩ => ⟨S96x8x96, .bf16⟩
  | .hbm, ⟨2, _⟩ => ⟨S96x48x128, .i32⟩
  | .hbm, ⟨3, _⟩ => ⟨S96x8x128, .f32⟩
  | .hbm, ⟨4, _⟩ => ⟨S96x8x128, .f32⟩
  | .hbm, ⟨5, _⟩ => ⟨S96x8x96, .f32⟩
  | .hbm, ⟨6, _⟩ => ⟨S12x8x96x32768, .i8⟩
  | .hbm, ⟨7, _⟩ => ⟨S12x8x96x32768, .i8⟩
  | .hbm, ⟨8, _⟩ => ⟨S24576x128, .i32⟩
  | .hbm, ⟨9, _⟩ => ⟨S24576x128, .f32⟩
  | .hbm, ⟨10, _⟩ => ⟨S96x272, .i32⟩
  | .hbm, ⟨11, _⟩ => ⟨S96x1, .i32⟩
  | .hbm, ⟨12, _⟩ => ⟨S96x32768, .i32⟩
  | .hbm, ⟨13, _⟩ => ⟨S96x32768, .i32⟩
  | .hbm, ⟨14, _⟩ => ⟨S_, .i32⟩
  | .hbm, ⟨15, _⟩ => ⟨S96x32768, .i32⟩
  | .hbm, ⟨16, _⟩ => ⟨S96x32768, .i32⟩
  | .hbm, ⟨17, _⟩ => ⟨S_, .i32⟩
  | .hbm, ⟨18, _⟩ => ⟨S96x32768, .i32⟩
  | .hbm, ⟨19, _⟩ => ⟨S96x32768, .i1⟩
  | .hbm, ⟨20, _⟩ => ⟨S_, .i32⟩
  | .hbm, ⟨21, _⟩ => ⟨S96x32768, .i32⟩
  | .hbm, ⟨22, _⟩ => ⟨S96x32768, .i32⟩
  | .hbm, ⟨23, _⟩ => ⟨S_, .i32⟩
  | .hbm, ⟨24, _⟩ => ⟨S96x32768, .i32⟩
  | .hbm, ⟨25, _⟩ => ⟨S96x32768, .i32⟩
  | .hbm, ⟨26, _⟩ => ⟨S96x32768, .i32⟩
  | .hbm, ⟨27, _⟩ => ⟨S96x32768, .i1⟩
  | .hbm, ⟨28, _⟩ => ⟨S96x32768, .i1⟩
  | .hbm, ⟨29, _⟩ => ⟨S_, .i32⟩
  | .hbm, ⟨30, _⟩ => ⟨S96x32768, .i32⟩
  | .hbm, ⟨31, _⟩ => ⟨S96x32768, .i32⟩
  | .hbm, ⟨32, _⟩ => ⟨S_, .i32⟩
  | .hbm, ⟨33, _⟩ => ⟨S96x32768, .i32⟩
  | .hbm, ⟨34, _⟩ => ⟨S96x32768, .i32⟩
  | .hbm, ⟨35, _⟩ => ⟨S96x32768, .i32⟩
  | .hbm, ⟨36, _⟩ => ⟨S_, .i32⟩
  | .hbm, ⟨37, _⟩ => ⟨S96x32768, .i32⟩
  | .hbm, ⟨38, _⟩ => ⟨S96x32768, .i32⟩
  | .hbm, ⟨39, _⟩ => ⟨S_, .i32⟩
  | .hbm, ⟨40, _⟩ => ⟨S96x32768, .i32⟩
  | .hbm, ⟨41, _⟩ => ⟨S96x32768, .i32⟩
  | .hbm, ⟨42, _⟩ => ⟨S96x96x1, .i32⟩
  | .hbm, ⟨43, _⟩ => ⟨S_, .i32⟩
  | .hbm, ⟨44, _⟩ => ⟨S96x96x1, .i32⟩
  | .hbm, ⟨45, _⟩ => ⟨S96x96x1, .i32⟩
  | .hbm, ⟨46, _⟩ => ⟨S96x96x1, .i32⟩
  | .hbm, ⟨47, _⟩ => ⟨S96x96x1, .i32⟩
  | .hbm, ⟨48, _⟩ => ⟨S_, .i32⟩
  | .hbm, ⟨49, _⟩ => ⟨S96x96x1, .i32⟩
  | .hbm, ⟨50, _⟩ => ⟨S96x96x1, .i32⟩
  | .hbm, ⟨51, _⟩ => ⟨S96x1x32768, .i32⟩
  | .hbm, ⟨52, _⟩ => ⟨S96x96x32768, .i32⟩
  | .hbm, ⟨53, _⟩ => ⟨S96x96x32768, .i32⟩
  | .hbm, ⟨54, _⟩ => ⟨S96x96x32768, .i32⟩
  | .hbm, ⟨55, _⟩ => ⟨S301989888, .i8⟩
  | .hbm, ⟨56, _⟩ => ⟨S96x96x32768x1, .i32⟩
  | .hbm, ⟨57, _⟩ => ⟨S96x96x32768, .i8⟩
  | .hbm, ⟨58, _⟩ => ⟨S96x96x32768, .i32⟩
  | .hbm, ⟨59, _⟩ => ⟨S96x96x32768, .f32⟩
  | .hbm, ⟨60, _⟩ => ⟨S96x96x32768, .bf16⟩
  | .hbm, ⟨61, _⟩ => ⟨S301989888, .i8⟩
  | .hbm, ⟨62, _⟩ => ⟨S96x96x32768x1, .i32⟩
  | .hbm, ⟨63, _⟩ => ⟨S96x96x32768, .i8⟩
  | .hbm, ⟨64, _⟩ => ⟨S96x96x32768, .i32⟩
  | .hbm, ⟨65, _⟩ => ⟨S96x96x32768, .f32⟩
  | .hbm, ⟨66, _⟩ => ⟨S96x96x32768, .bf16⟩
  | .hbm, ⟨67, _⟩ => ⟨S96x48x128x2, .bf16⟩
  | .hbm, ⟨68, _⟩ => ⟨S96x48x2x128, .bf16⟩
  | .hbm, ⟨69, _⟩ => ⟨S1179648, .bf16⟩
  | .hbm, ⟨70, _⟩ => ⟨S_, .i32⟩
  | .hbm, ⟨71, _⟩ => ⟨S96x96x1, .i32⟩
  | .hbm, ⟨72, _⟩ => ⟨S96x96x1, .i32⟩
  | .hbm, ⟨73, _⟩ => ⟨S96x1x32768, .i32⟩
  | .hbm, ⟨74, _⟩ => ⟨S96x96x32768, .i32⟩
  | .hbm, ⟨75, _⟩ => ⟨S96x96x32768, .i32⟩
  | .hbm, ⟨76, _⟩ => ⟨S96x96x32768, .i32⟩
  | .hbm, ⟨77, _⟩ => ⟨S96x96x32768x1, .i32⟩
  | .hbm, ⟨78, _⟩ => ⟨S96x96x32768, .bf16⟩
  | .hbm, ⟨79, _⟩ => ⟨S96x96x32768, .bf16⟩
  | .hbm, ⟨80, _⟩ => ⟨S96x8x32768, .f32⟩
  | .hbm, ⟨81, _⟩ => ⟨S_, .f32⟩
  | .hbm, ⟨82, _⟩ => ⟨S96x8x32768, .f32⟩
  | .hbm, ⟨83, _⟩ => ⟨S96x8x32768, .f32⟩
  | .hbm, ⟨84, _⟩ => ⟨S96x1x32768, .i1⟩
  | .hbm, ⟨85, _⟩ => ⟨S_, .f32⟩
  | .hbm, ⟨86, _⟩ => ⟨S_, .f32⟩
  | .hbm, ⟨87, _⟩ => ⟨S96x8x32768, .i1⟩
  | .hbm, ⟨88, _⟩ => ⟨S96x8x32768, .f32⟩
  | .hbm, ⟨89, _⟩ => ⟨S96x8x32768, .f32⟩
  | .hbm, ⟨90, _⟩ => ⟨S96x8x1, .f32⟩
  | .hbm, ⟨91, _⟩ => ⟨S_, .f32⟩
  | .hbm, ⟨92, _⟩ => ⟨S96x8, .f32⟩
  | .hbm, ⟨93, _⟩ => ⟨S96x8x1, .f32⟩
  | .hbm, ⟨94, _⟩ => ⟨S96x8x1, .f32⟩
  | .hbm, ⟨95, _⟩ => ⟨S96x8x32768, .f32⟩
  | .hbm, ⟨96, _⟩ => ⟨S96x8x32768, .f32⟩
  | .hbm, ⟨97, _⟩ => ⟨S96x8x32768, .f32⟩
  | .hbm, ⟨98, _⟩ => ⟨S96x8x128, .f32⟩
  | .hbm, ⟨99, _⟩ => ⟨S96x8x128, .f32⟩
  | .hbm, ⟨100, _⟩ => ⟨S96x8x128, .f32⟩
  | .hbm, ⟨101, _⟩ => ⟨S96x8x128, .f32⟩
  | .hbm, ⟨102, _⟩ => ⟨S_, .f32⟩
  | .hbm, ⟨103, _⟩ => ⟨S96x8, .f32⟩
  | .hbm, ⟨104, _⟩ => ⟨S96x8x1, .f32⟩
  | .hbm, ⟨105, _⟩ => ⟨S_, .f32⟩
  | .hbm, ⟨106, _⟩ => ⟨S96x8, .f32⟩
  | .hbm, ⟨107, _⟩ => ⟨S96x8x1, .f32⟩
  | .hbm, ⟨108, _⟩ => ⟨S96x8x1, .f32⟩
  | .hbm, ⟨109, _⟩ => ⟨S96x8x32768, .f32⟩
  | .hbm, ⟨110, _⟩ => ⟨S96x8x32768, .f32⟩
  | .hbm, ⟨111, _⟩ => ⟨S96x1x32768, .f32⟩
  | .hbm, ⟨112, _⟩ => ⟨S96x8x32768, .f32⟩
  | .hbm, ⟨113, _⟩ => ⟨S96x8x32768, .f32⟩
  | .hbm, ⟨114, _⟩ => ⟨S96x8x32768, .bf16⟩
  | .hbm, ⟨115, _⟩ => ⟨S96x8x1, .f32⟩
  | .hbm, ⟨116, _⟩ => ⟨S96x8x1, .f32⟩
  | .hbm, ⟨117, _⟩ => ⟨S96x8x1, .f32⟩
  | .hbm, ⟨118, _⟩ => ⟨S96x8x96, .f32⟩
  | .hbm, ⟨119, _⟩ => ⟨S96x8x96, .f32⟩
  | .hbm, ⟨120, _⟩ => ⟨S96x8x96, .f32⟩
  | .hbm, ⟨121, _⟩ => ⟨S96x8x96, .f32⟩
  | .hbm, ⟨122, _⟩ => ⟨S96x8x96, .f32⟩
  | .hbm, ⟨123, _⟩ => ⟨S96x8x96, .f32⟩
  | _, _ => ⟨S26112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call2_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Proof.Compact.lean ====
/-
  The attend kernel's per-item work written compactly: the accumulation of the values, the running softmax, the scores
  and the gathering of eight rows, each as a short program in continuation style. The printed text of one item is this
  text by unfolding.
-/
module

public import proofs.«01_k».proof.Proof.Gen.Kernel.Skeleton

@[expose] public section

set_option maxRecDepth 65536
set_option synthInstance.maxSize 4096

noncomputable section

namespace Cert.Attend

open Idealize.ShloMosaic Idealize.SL.Sem
open Cert.Kernel Cert.Kernel.Gen

variable {F : FTy → Type} [FloatOps F]

/-- The kernel's memory arguments, each a whole buffer. -/
structure Bufs where
  win : Memref sig .tc .smem S26112 .i32
  hwin : win.IsWhole
  q : Memref sig .tc .vmem S96x8x96 .bf16
  hq : q.IsWhole
  ksel : Memref sig .tc .vmem S96x48x128 .i32
  hksel : ksel.IsWhole
  m0 : Memref sig .tc .vmem S96x8x128 .f32
  hm0 : m0.IsWhole
  l0 : Memref sig .tc .vmem S96x8x128 .f32
  hl0 : l0.IsWhole
  o0 : Memref sig .tc .vmem S96x8x96 .f32
  ho0 : o0.IsWhole
  kt : Memref sig .tc .hbm S12x8x96x32768 .i8
  hkt : kt.IsWhole
  vt : Memref sig .tc .hbm S12x8x96x32768 .i8
  hvt : vt.IsWhole
  tbl : Memref sig .tc .hbm S24576x128 .i32
  htbl : tbl.IsWhole
  vst : Memref sig .tc .hbm S24576x128 .f32
  hvst : vst.IsWhole
  out : Memref sig .tc .vmem S96x8x96 .f32
  hout : out.IsWhole
  kbuf : Memref sig .tc .vmem S4x96x32768 .i8
  hkbuf : kbuf.IsWhole
  vbuf : Memref sig .tc .vmem S4x96x32768 .i8
  hvbuf : vbuf.IsWhole
  tbuf : Memref sig .tc .vmem S4x256x128 .i32
  htbuf : tbuf.IsWhole
  sbuf : Memref sig .tc .vmem S4x256x128 .f32
  hsbuf : sbuf.IsWhole
  kscr : Memref sig .tc .vmem S4x96x256 .bf16
  hkscr : kscr.IsWhole
  vscr : Memref sig .tc .vmem S4x8x24x128 .i32
  hvscr : vscr.IsWhole
  cscr : Memref sig .tc .vmem S4x8x128 .i32
  hcscr : cscr.IsWhole
  vsscr : Memref sig .tc .vmem S4x8x128 .f32
  hvsscr : vsscr.IsWhole
  sscr : Memref sig .tc .vmem S8x8x128 .f32
  hsscr : sscr.IsWhole
  pscr : Memref sig .tc .vmem S4x8x256 .bf16
  hpscr : pscr.IsWhole
  ascr : Memref sig .tc .vmem S8x128 .f32
  hascr : ascr.IsWhole
  lscr : Memref sig .tc .vmem S8x128 .f32
  hlscr : lscr.IsWhole
  mst : Memref sig .tc .vmem S97x8x128 .f32
  hmst : mst.IsWhole
  lst : Memref sig .tc .vmem S97x8x128 .f32
  hlst : lst.IsWhole
  ost : Memref sig .tc .vmem S97x8x96 .f32
  host : ost.IsWhole

/-- A program of the kernel's core. -/
abbrev Pr (F : FTy → Type) [FloatOps F] (α : Type) := Prog (TpuEff nD τ sig (Elt F) Λ₀ .tc) α

/-! ## Bounds -/

theorem inb3 {n m l a b c x y z : Nat} (hx : x + a ≤ n) (hy : y + b ≤ m) (hz : z + c ≤ l) :
    ∀ i : Fin 3, (![x, y, z] : Fin 3 → Nat) i + (![a, b, c] : Fin 3 → Nat) i ≤ (![n, m, l] : Fin 3 → Nat) i := by
  intro i; fin_cases i <;> assumption

theorem inb4 {n m l k a b c d x y z w : Nat} (hx : x + a ≤ n) (hy : y + b ≤ m) (hz : z + c ≤ l) (hw : w + d ≤ k) :
    ∀ i : Fin 4, (![x, y, z, w] : Fin 4 → Nat) i + (![a, b, c, d] : Fin 4 → Nat) i ≤ (![n, m, l, k] : Fin 4 → Nat) i := by
  intro i; fin_cases i <;> assumption

theorem inb2 {n m a b x y : Nat} (hx : x + a ≤ n) (hy : y + b ≤ m) :
    ∀ i : Fin 2, (![x, y] : Fin 2 → Nat) i + (![a, b] : Fin 2 → Nat) i ≤ (![n, m] : Fin 2 → Nat) i := by
  intro i; fin_cases i <;> assumption

theorem inb1 {n a x : Nat} (hx : x + a ≤ n) :
    ∀ i : Fin 1, (![x] : Fin 1 → Nat) i + (![a] : Fin 1 → Nat) i ≤ (![n] : Fin 1 → Nat) i := by
  intro i; fin_cases i; assumption

/-- The ring position `n` after `r`, as the kernel computes it. -/
def ringOf (r n : BitVec 32) : BitVec 32 :=
  Scalar.select (Scalar.andi (Scalar.xori (Scalar.cmpi .slt (Scalar.remsi (Scalar.addi r n) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (Scalar.addi r n) (Scalar.select (Scalar.cmpi .eq 4#32 0#32) 1#32 4#32)) 0#32))
    (Scalar.addi (Scalar.remsi (Scalar.addi r n) (Scalar.select (Scalar.cmpi .eq 4#32 0#32) 1#32 4#32)) (Scalar.select (Scalar.cmpi .eq 4#32 0#32) 1#32 4#32))
    (Scalar.remsi (Scalar.addi r n) (Scalar.select (Scalar.cmpi .eq 4#32 0#32) 1#32 4#32))

/-- The same, as an index. -/
def ringIx (r n : BitVec 32) : Nat := (Scalar.indexCast (ringOf r n)).toNat

/-! ## Values -/

/-- Eight words of four codes, as 32 rows of numbers. -/
def unp (x : Vec F S1x1x8x128 .i32) : FVec F S32x128 .bf16 :=
  sitofp .bf16 (bitcast S32x128 8 (shapeCast S8x128 x shapeCasts_S1x1x8x128_S8x128 : IVec S8x128 32) bitcasts_S8x128_w32_S32x128_w8)

/-- One row of the table's 96 value rows. -/
def vcat (a b c : Vec F S1x1x8x128 .i32) : FVec F S96x128 .bf16 :=
  concatenate S96x128 0 [⟨S32x128, unp a⟩, ⟨S32x128, unp b⟩, ⟨S32x128, unp c⟩] concatenates_S32x128_S32x128_S32x128_S96x128_d0

/-- Two rows side by side. -/
def vpair (l r : FVec F S96x128 .bf16) : FVec F S96x256 .bf16 :=
  concatenate S96x256 1 [⟨S96x128, l⟩, ⟨S96x128, r⟩] concatenates_S96x128_S96x128_S96x256_d1

/-- The output with one pair of rows added. -/
def vadd (acc : FVec F S8x96 .f32) (l r : FVec F S96x128 .bf16) (p : Vec F S1x8x256 .bf16) : FVec F S8x96 .f32 :=
  addf acc (matmul dot_S8x256_S96x256_S8x96_1_1_0_0_n_n none (shapeCast S8x256 p shapeCasts_S1x8x256_S8x256 : FVec F S8x256 .bf16) (vpair l r)
    (constant S8x96 .f32 0x00000000#32))

/-- The output scaled by the running softmax's factor. -/
def vstart (o : Vec F S1x8x96 .f32) (a : Vec F S8x96 .f32) : FVec F S8x96 .f32 :=
  mulf (shapeCast S8x96 o shapeCasts_S1x8x96_S8x96) a

def vend (o : FVec F S8x96 .f32) : FVec F S1x8x96 .f32 := shapeCast S1x8x96 o shapeCasts_S8x96_S1x8x96

variable (B : Bufs) {β : Type}

def vhalfK (ro : Nat) (hro : ro + 1 ≤ 4) (j : Fin 8) (k : FVec F S96x128 .bf16 → Pr F β) : Pr F β :=
  .op (.load B.vscr (Rect.unit (s := S4x8x24x128) ![ro, j.val, 0, 0] S1x1x8x128.size (inb4 hro j.isLt (by decide) (by decide))).toLoadRect (View.loadsAt_vmem h_S1x1x8x128)) fun a =>
  .op (.load B.vscr (Rect.unit (s := S4x8x24x128) ![ro, j.val, 8, 0] S1x1x8x128.size (inb4 hro j.isLt (by decide) (by decide))).toLoadRect (View.loadsAt_vmem h_S1x1x8x128)) fun b =>
  .op (.load B.vscr (Rect.unit (s := S4x8x24x128) ![ro, j.val, 16, 0] S1x1x8x128.size (inb4 hro j.isLt (by decide) (by decide))).toLoadRect (View.loadsAt_vmem h_S1x1x8x128)) fun c =>
  k (vcat a b c)

def vstepK (ro : Nat) (hro : ro + 1 ≤ 4) (h : Fin 4) (acc : FVec F S8x96 .f32) (k : FVec F S8x96 .f32 → Pr F β) : Pr F β :=
  vhalfK B ro hro ⟨2 * h.val, by omega⟩ fun l =>
  vhalfK B ro hro ⟨2 * h.val + 1, by omega⟩ fun r =>
  .op (.load B.pscr (Rect.unit (s := S4x8x256) ![h.val, 0, 0] S1x8x256.size (inb3 h.isLt (by decide) (by decide))).toLoadRect (View.loadsAt_vmem h_S1x8x256)) fun p =>
  k (vadd acc l r p)

def valuesK (po ro : Nat) (hpo : po + 1 ≤ 97) (hro : ro + 1 ≤ 4) (k : PUnit → Pr F β) : Pr F β :=
  .op (.load B.ost (Rect.unit (s := S97x8x96) ![po, 0, 0] S1x8x96.size (inb3 hpo (by decide) (by decide))).toLoadRect (View.loadsAt_vmem h_S1x8x96)) fun o =>
  .op (.load B.ascr (Rect.unit (s := S8x128) ![0, 0] S8x96.size inb_S8x128_S8x96_0_0).toLoadRect (View.loadsAt_vmem h_S8x96)) fun a =>
  vstepK B ro hro 0 (vstart o a) fun o =>
  vstepK B ro hro 1 o fun o =>
  vstepK B ro hro 2 o fun o =>
  vstepK B ro hro 3 o fun o =>
  .op (.load B.ost (Rect.unit (s := S97x8x96) ![po, 0, 0] S1x8x96.size (inb3 hpo (by decide) (by decide))).toLoadRect (View.loadsAt_vmem h_S1x8x96)) fun _ =>
  .op (.store B.ost (Rect.unit (s := S97x8x96) ![po, 0, 0] S1x8x96.size (inb3 hpo (by decide) (by decide))) (vend o) Finset.univ (View.stores_vmem_bits_univ h_S1x8x96 rfl) (.inl rfl)) k

/-! ## Softmax -/

def s8 (x : Vec F S1x8x128 .f32) : FVec F S8x128 .f32 := shapeCast S8x128 x shapeCasts_S1x8x128_S8x128

def t8 (x : FVec F S8x128 .f32) : FVec F S1x8x128 .f32 := shapeCast S1x8x128 x shapeCasts_S8x128_S1x8x128

/-- The new running maximum. -/
def smax (s0 s1 s2 s3 s4 s5 s6 s7 m : FVec F S8x128 .f32) : FVec F S8x128 .f32 :=
  maximumf m (broadcastTo S8x128 (shapeCast S8x1 (multiReduction .maximumf [1] S8 (maximumf (maximumf (maximumf (maximumf (maximumf (maximumf (maximumf s0 s1) s2) s3) s4) s5) s6) s7)
    0xFF800000#32 reduces_S8x128_S8 (.inl rfl) rfl) shapeCasts_S8_S8x1 : FVec F S8x1 .f32) broadcasts_S8x1_S8x128)

def sexp (s m : FVec F S8x128 .f32) : FVec F S8x128 .f32 := exp (subf s m)

/-- The rounded product of the weights and the value scales of a row. -/
def sprod (e : FVec F S8x128 .f32) (vs : Vec F S1x1x128 .f32) : FVec F S1x8x128 .bf16 :=
  shapeCast S1x8x128 (truncf .bf16 (mulf e (broadcastTo S8x128 (shapeCast S1x128 (shapeCast S1x128 vs shapeCasts_S1x1x128_S1x128 : FVec F S1x128 .f32) shapeCasts_S1x128_S1x128 : FVec F S1x128 .f32)
    broadcasts_S1x128_S8x128)) bitsLt_bf16_f32) shapeCasts_S8x128_S1x8x128

theorem packedP (j : Fin 8) : (Rect.unit (s := S4x8x256) ![j.val / 2, 0, j.val % 2 * 128] S1x8x128.size
    (inb3 (by omega) (by decide) (by omega))).PackedRows (EltTy.packing .bf16) := by
  fin_cases j
  · exact packedbf16_S4x8x256_S1x8x128_0_0_0
  · exact packedbf16_S4x8x256_S1x8x128_0_0_128
  · exact packedbf16_S4x8x256_S1x8x128_1_0_0
  · exact packedbf16_S4x8x256_S1x8x128_1_0_128
  · exact packedbf16_S4x8x256_S1x8x128_2_0_0
  · exact packedbf16_S4x8x256_S1x8x128_2_0_128
  · exact packedbf16_S4x8x256_S1x8x128_3_0_0
  · exact packedbf16_S4x8x256_S1x8x128_3_0_128

def sprodK (ro : Nat) (hro : ro + 1 ≤ 4) (j : Fin 8) (e : FVec F S8x128 .f32) (k : PUnit → Pr F β) : Pr F β :=
  .op (.load B.vsscr (Rect.unit (s := S4x8x128) ![ro, j.val, 0] S1x1x128.size (inb3 hro j.isLt (by decide))).toLoadRect (View.loadsAt_vmem h_S1x1x128)) fun vs =>
  .op (.load B.pscr (Rect.unit (s := S4x8x256) ![j.val / 2, 0, j.val % 2 * 128] S1x8x128.size (inb3 (by omega) (by decide) (by omega))).toLoadRect (View.loadsAt_vmem h_S1x8x128)) fun _ =>
  .op (.store B.pscr (Rect.unit (s := S4x8x256) ![j.val / 2, 0, j.val % 2 * 128] S1x8x128.size (inb3 (by omega) (by decide) (by omega))) (sprod e vs) Finset.univ
    (View.stores_vmem h_S1x8x128 (B.hpscr.storeExact_slice rfl _ (packedP j)) (fun _ => rfl)) (.inl rfl)) k

def sloadK (j : Fin 8) (k : FVec F S8x128 .f32 → Pr F β) : Pr F β :=
  .op (.load B.sscr (Rect.unit (s := S8x8x128) ![j.val, 0, 0] S1x8x128.size (inb3 j.isLt (by decide) (by decide))).toLoadRect (View.loadsAt_vmem h_S1x8x128)) fun x => k (s8 x)

def softmaxK (po ro : Nat) (hpo : po + 1 ≤ 97) (hro : ro + 1 ≤ 4) (k : PUnit → Pr F β) : Pr F β :=
  sloadK B 0 fun s0 => sloadK B 1 fun s1 => sloadK B 2 fun s2 => sloadK B 3 fun s3 =>
  sloadK B 4 fun s4 => sloadK B 5 fun s5 => sloadK B 6 fun s6 => sloadK B 7 fun s7 =>
  .op (.load B.mst (Rect.unit (s := S97x8x128) ![po, 0, 0] S1x8x128.size (inb3 hpo (by decide) (by decide))).toLoadRect (View.loadsAt_vmem h_S1x8x128)) fun mo =>
  .op (.load B.lst (Rect.unit (s := S97x8x128) ![po, 0, 0] S1x8x128.size (inb3 hpo (by decide) (by decide))).toLoadRect (View.loadsAt_vmem h_S1x8x128)) fun lo =>
  let m := smax s0 s1 s2 s3 s4 s5 s6 s7 (s8 mo)
  sprodK B ro hro 0 (sexp s0 m) fun _ => sprodK B ro hro 1 (sexp s1 m) fun _ =>
  sprodK B ro hro 2 (sexp s2 m) fun _ => sprodK B ro hro 3 (sexp s3 m) fun _ =>
  sprodK B ro hro 4 (sexp s4 m) fun _ => sprodK B ro hro 5 (sexp s5 m) fun _ =>
  sprodK B ro hro 6 (sexp s6 m) fun _ => sprodK B ro hro 7 (sexp s7 m) fun _ =>
  .op (.load B.mst (Rect.unit (s := S97x8x128) ![po, 0, 0] S1x8x128.size (inb3 hpo (by decide) (by decide))).toLoadRect (View.loadsAt_vmem h_S1x8x128)) fun _ =>
  .op (.store B.mst (Rect.unit (s := S97x8x128) ![po, 0, 0] S1x8x128.size (inb3 hpo (by decide) (by decide))) (t8 m) Finset.univ (View.stores_vmem_bits_univ h_S1x8x128 rfl) (.inl rfl)) fun _ =>
  .op (.load B.lst (Rect.unit (s := S97x8x128) ![po, 0, 0] S1x8x128.size (inb3 hpo (by decide) (by decide))).toLoadRect (View.loadsAt_vmem h_S1x8x128)) fun _ =>
  .op (.store B.lst (Rect.unit (s := S97x8x128) ![po, 0, 0] S1x8x128.size (inb3 hpo (by decide) (by decide)))
    (t8 (addf (addf (addf (addf (addf (addf (addf (addf (mulf (s8 lo) (sexp (s8 mo) m)) (sexp s0 m)) (sexp s1 m)) (sexp s2 m)) (sexp s3 m)) (sexp s4 m)) (sexp s5 m)) (sexp s6 m)) (sexp s7 m)))
    Finset.univ (View.stores_vmem_bits_univ h_S1x8x128 rfl) (.inl rfl)) fun _ =>
  .op (.load B.ascr (Rect.unit (s := S8x128) ![0, 0] S8x128.size inb_S8x128_S8x128_0_0).toLoadRect (View.loadsAt_vmem h_S8x128)) fun _ =>
  .op (.store B.ascr (Rect.unit (s := S8x128) ![0, 0] S8x128.size inb_S8x128_S8x128_0_0) (shapeCast S8x128 (sexp (s8 mo) m) shapeCasts_S8x128_S8x128 : FVec F S8x128 .f32) Finset.univ
    (View.stores_vmem_bits_univ h_S8x128 rfl) (.inl rfl)) k

/-! ## Scores -/

/-- The scaled products of the queries with two rows of keys. -/
def kdot (q : FVec F S8x96 .bf16) (kk : Vec F S1x96x256 .bf16) : FVec F S8x256 .f32 :=
  mulf (matmul dot_S8x96_S96x256_S8x256_1_0_0_1_n_n none q (shapeCast S96x256 kk shapeCasts_S1x96x256_S96x256 : FVec F S96x256 .bf16) (constant S8x256 .f32 0x00000000#32))
    (broadcast S8x256 (Scalar.ofBits .f32 0x3DD105EC#32 : F .f32))

def live (x : Vec F S1x1x128 .i32) : IVec S8x128 1 :=
  cmpi .ne (andi (broadcastTo S8x128 (shapeCast S1x128 (shapeCast S1x128 x shapeCasts_S1x1x128_S1x128 : IVec S1x128 32) shapeCasts_S1x128_S1x128 : IVec S1x128 32) broadcasts_S1x128_S8x128 : IVec S8x128 32)
    (broadcast S8x128 511#32)) (broadcast S8x128 511#32)

def masked (l : IVec S8x128 1) (s : FVec F S8x128 .f32) : FVec F S1x8x128 .f32 :=
  t8 (select l s (broadcast S8x128 (Scalar.ofBits .f32 0xFF800000#32 : F .f32)))

def scoreK (ro : Nat) (hro : ro + 1 ≤ 4) (j : Fin 8) (s : FVec F S8x128 .f32) (k : PUnit → Pr F β) : Pr F β :=
  .op (.load B.cscr (Rect.unit (s := S4x8x128) ![ro, j.val, 0] S1x1x128.size (inb3 hro j.isLt (by decide))).toLoadRect (View.loadsAt_vmem h_S1x1x128)) fun cw =>
  .op (.load B.sscr (Rect.unit (s := S8x8x128) ![j.val, 0, 0] S1x8x128.size (inb3 j.isLt (by decide) (by decide))).toLoadRect (View.loadsAt_vmem h_S1x8x128)) fun _ =>
  .op (.store B.sscr (Rect.unit (s := S8x8x128) ![j.val, 0, 0] S1x8x128.size (inb3 j.isLt (by decide) (by decide))) (masked (live (F := F) cw) s) Finset.univ
    (View.stores_vmem_bits_univ h_S1x8x128 rfl) (.inl rfl)) k

def scores2K (ro : Nat) (hro : ro + 1 ≤ 4) (h : Fin 4) (q : FVec F S8x96 .bf16) (k : PUnit → Pr F β) : Pr F β :=
  .op (.load B.kscr (Rect.unit (s := S4x96x256) ![h.val, 0, 0] S1x96x256.size (inb3 h.isLt (by decide) (by decide))).toLoadRect (View.loadsAt_vmem h_S1x96x256)) fun kk =>
  scoreK B ro hro ⟨2 * h.val, by omega⟩ (extractStridedSlice S8x128 ![0, 0] (kdot q kk) slices_S8x256_o0_0_S8x128) fun _ =>
  scoreK B ro hro ⟨2 * h.val + 1, by omega⟩ (extractStridedSlice S8x128 ![0, 128] (kdot q kk) slices_S8x256_o0_128_S8x128) k

def scoresK (qo ro : Nat) (hqo : qo + 1 ≤ 96) (hro : ro + 1 ≤ 4) (k : PUnit → Pr F β) : Pr F β :=
  .op (.load B.q (Rect.unit (s := S96x8x96) ![qo, 0, 0] S1x8x96.size (inb3 hqo (by decide) (by decide))).toLoadRect (View.loadsAt_vmem h_S1x8x96)) fun qq =>
  let q : FVec F S8x96 .bf16 := shapeCast S8x96 qq shapeCasts_S1x8x96_S8x96
  scores2K B ro hro 0 q fun _ => scores2K B ro hro 1 q fun _ => scores2K B ro hro 2 q fun _ => scores2K B ro hro 3 q k

/-! ## Gathering rows -/

/-- Four rows of codes as words. -/
def pk (x : Vec F S1x32x128 .i8) : IVec S8x128 32 :=
  bitcast S8x128 32 (shapeCast S32x128 x shapeCasts_S1x32x128_S32x128 : IVec S32x128 8) bitcasts_S32x128_w8_S8x128_w32

/-- Six accumulated words. -/
structure Acc6 where
  k0 : IVec S8x128 32
  k1 : IVec S8x128 32
  k2 : IVec S8x128 32
  v0 : IVec S8x128 32
  v1 : IVec S8x128 32
  v2 : IVec S8x128 32

/-- The column of tile `i` of the window that starts at `a`. -/
def colOf (a i : BitVec 32) : Nat := (Scalar.indexCast (Scalar.muli (Scalar.addi a i) 128#32)).toNat

def tileK (sl : Nat) (hsl : sl + 1 ≤ 4) (a i : BitVec 32) (hc : colOf a i + 128 ≤ 32768) (k : Acc6 → Pr F β) : Pr F β :=
  .op (.load B.kbuf (Rect.unit (s := S4x96x32768) ![sl, 0, colOf a i] S1x32x128.size (inb3 hsl (by decide) hc)).toLoadRect (View.loadsAt_vmem h_S1x32x128)) fun k0 =>
  .op (.load B.kbuf (Rect.unit (s := S4x96x32768) ![sl, 32, colOf a i] S1x32x128.size (inb3 hsl (by decide) hc)).toLoadRect (View.loadsAt_vmem h_S1x32x128)) fun k1 =>
  .op (.load B.kbuf (Rect.unit (s := S4x96x32768) ![sl, 64, colOf a i] S1x32x128.size (inb3 hsl (by decide) hc)).toLoadRect (View.loadsAt_vmem h_S1x32x128)) fun k2 =>
  .op (.load B.vbuf (Rect.unit (s := S4x96x32768) ![sl, 0, colOf a i] S1x32x128.size (inb3 hsl (by decide) hc)).toLoadRect (View.loadsAt_vmem h_S1x32x128)) fun v0 =>
  .op (.load B.vbuf (Rect.unit (s := S4x96x32768) ![sl, 32, colOf a i] S1x32x128.size (inb3 hsl (by decide) hc)).toLoadRect (View.loadsAt_vmem h_S1x32x128)) fun v1 =>
  .op (.load B.vbuf (Rect.unit (s := S4x96x32768) ![sl, 64, colOf a i] S1x32x128.size (inb3 hsl (by decide) hc)).toLoadRect (View.loadsAt_vmem h_S1x32x128)) fun v2 =>
  k ⟨pk (F := F) k0, pk (F := F) k1, pk (F := F) k2, pk (F := F) v0, pk (F := F) v1, pk (F := F) v2⟩

def pick (rel : IVec S8x128 32) (i : BitVec 32) (n o : Acc6) : Acc6 :=
  let here : IVec S8x128 1 := cmpi .eq rel (broadcast S8x128 i)
  ⟨select here n.k0 o.k0, select here n.k1 o.k1, select here n.k2 o.k2, select here n.v0 o.v0, select here n.v1 o.v1, select here n.v2 o.v2⟩

def tilesK (sl : Nat) (hsl : sl + 1 ≤ 4) (a : BitVec 32) (hc : ∀ i : Fin 16, colOf a (BitVec.ofNat 32 i.val) + 128 ≤ 32768) (rel : IVec S8x128 32)
    (k : Acc6 → Pr F β) : Pr F β :=
  tileK B sl hsl a 0#32 (hc 0) fun acc =>
  tileK B sl hsl a 1#32 (hc 1) fun n => let acc := pick rel 1#32 n acc
  tileK B sl hsl a 2#32 (hc 2) fun n => let acc := pick rel 2#32 n acc
  tileK B sl hsl a 3#32 (hc 3) fun n => let acc := pick rel 3#32 n acc
  tileK B sl hsl a 4#32 (hc 4) fun n => let acc := pick rel 4#32 n acc
  tileK B sl hsl a 5#32 (hc 5) fun n => let acc := pick rel 5#32 n acc
  tileK B sl hsl a 6#32 (hc 6) fun n => let acc := pick rel 6#32 n acc
  tileK B sl hsl a 7#32 (hc 7) fun n => let acc := pick rel 7#32 n acc
  tileK B sl hsl a 8#32 (hc 8) fun n => let acc := pick rel 8#32 n acc
  tileK B sl hsl a 9#32 (hc 9) fun n => let acc := pick rel 9#32 n acc
  tileK B sl hsl a 10#32 (hc 10) fun n => let acc := pick rel 10#32 n acc
  tileK B sl hsl a 11#32 (hc 11) fun n => let acc := pick rel 11#32 n acc
  tileK B sl hsl a 12#32 (hc 12) fun n => let acc := pick rel 12#32 n acc
  tileK B sl hsl a 13#32 (hc 13) fun n => let acc := pick rel 13#32 n acc
  tileK B sl hsl a 14#32 (hc 14) fun n => let acc := pick rel 14#32 n acc
  tileK B sl hsl a 15#32 (hc 15) fun n => let acc := pick rel 15#32 n acc
  k acc

def codeOf (x : Vec F S1x1x128 .i32) : IVec S8x128 32 :=
  broadcastTo S8x128 (shapeCast S1x128 (shapeCast S1x128 x shapeCasts_S1x1x128_S1x128 : IVec S1x128 32) shapeCasts_S1x128_S1x128 : IVec S1x128 32) broadcasts_S1x128_S8x128

def idxOf (code : IVec S8x128 32) : IVec S8x128 32 := subi (shrsi code (broadcast S8x128 9#32)) (broadcast S8x128 1#32)

def relOf (code : IVec S8x128 32) (a : BitVec 32) : IVec S8x128 32 := subi (andi code (broadcast S8x128 511#32)) (broadcast S8x128 a)

/-- The scales an index names, of eight words of two. -/
def takeW (idx : IVec S8x128 32) (x : Vec F S1x8x128 .i32) : IVec S8x128 32 :=
  dynamicGather 1 (shapeCast S8x128 x shapeCasts_S1x8x128_S8x128 : IVec S8x128 32)
    (shapeCast S8x128 (shapeCast S8x128x1 (select (cmpi .slt idx (broadcast S8x128 0#32)) (addi idx (broadcast S8x128 128#32)) idx) shapeCasts_S8x128_S8x128x1 : IVec S8x128x1 32) shapeCasts_S8x128x1_S8x128 : IVec S8x128 32)

/-- 32 rows of keys: the codes times the scales. -/
def keys (idx acc : IVec S8x128 32) (x y : Vec F S1x8x128 .i32) : FVec F S1x32x128 .bf16 :=
  shapeCast S1x32x128 (mulf (sitofp .bf16 (bitcast S32x128 8 acc bitcasts_S8x128_w32_S32x128_w8))
    (concatenate S32x128 0 [⟨S16x128, (bitcastToFloat .bf16 (bitcast S16x128 16 (takeW (F := F) idx x) bitcasts_S8x128_w32_S16x128_w16) : FVec F S16x128 .bf16)⟩,
      ⟨S16x128, (bitcastToFloat .bf16 (bitcast S16x128 16 (takeW (F := F) idx y) bitcasts_S8x128_w32_S16x128_w16) : FVec F S16x128 .bf16)⟩] concatenates_S16x128_S16x128_S32x128_d0)) shapeCasts_S32x128_S1x32x128

theorem packedK (j : Fin 8) (r : Fin 3) : (Rect.unit (s := S4x96x256) ![j.val / 2, 32 * r.val, j.val % 2 * 128] S1x32x128.size
    (inb3 (by omega) (by omega) (by omega))).PackedRows (EltTy.packing .bf16) := by
  fin_cases j <;> fin_cases r
  · exact packedbf16_S4x96x256_S1x32x128_0_0_0
  · exact packedbf16_S4x96x256_S1x32x128_0_32_0
  · exact packedbf16_S4x96x256_S1x32x128_0_64_0
  · exact packedbf16_S4x96x256_S1x32x128_0_0_128
  · exact packedbf16_S4x96x256_S1x32x128_0_32_128
  · exact packedbf16_S4x96x256_S1x32x128_0_64_128
  · exact packedbf16_S4x96x256_S1x32x128_1_0_0
  · exact packedbf16_S4x96x256_S1x32x128_1_32_0
  · exact packedbf16_S4x96x256_S1x32x128_1_64_0
  · exact packedbf16_S4x96x256_S1x32x128_1_0_128
  · exact packedbf16_S4x96x256_S1x32x128_1_32_128
  · exact packedbf16_S4x96x256_S1x32x128_1_64_128
  · exact packedbf16_S4x96x256_S1x32x128_2_0_0
  · exact packedbf16_S4x96x256_S1x32x128_2_32_0
  · exact packedbf16_S4x96x256_S1x32x128_2_64_0
  · exact packedbf16_S4x96x256_S1x32x128_2_0_128
  · exact packedbf16_S4x96x256_S1x32x128_2_32_128
  · exact packedbf16_S4x96x256_S1x32x128_2_64_128
  · exact packedbf16_S4x96x256_S1x32x128_3_0_0
  · exact packedbf16_S4x96x256_S1x32x128_3_32_0
  · exact packedbf16_S4x96x256_S1x32x128_3_64_0
  · exact packedbf16_S4x96x256_S1x32x128_3_0_128
  · exact packedbf16_S4x96x256_S1x32x128_3_32_128
  · exact packedbf16_S4x96x256_S1x32x128_3_64_128

def thirdK (pi : Nat) (hpi : pi + 1 ≤ 96) (ro : Nat) (hro : ro + 1 ≤ 4) (j : Fin 8) (r : Fin 3) (idx ka va : IVec S8x128 32) (k : PUnit → Pr F β) : Pr F β :=
  .op (.load B.ksel (Rect.unit (s := S96x48x128) ![pi, 16 * r.val, 0] S1x8x128.size (inb3 hpi (by omega) (by decide))).toLoadRect (View.loadsAt_vmem h_S1x8x128)) fun x =>
  .op (.load B.ksel (Rect.unit (s := S96x48x128) ![pi, 16 * r.val + 8, 0] S1x8x128.size (inb3 hpi (by omega) (by decide))).toLoadRect (View.loadsAt_vmem h_S1x8x128)) fun y =>
  .op (.load B.kscr (Rect.unit (s := S4x96x256) ![j.val / 2, 32 * r.val, j.val % 2 * 128] S1x32x128.size (inb3 (by omega) (by omega) (by omega))).toLoadRect (View.loadsAt_vmem h_S1x32x128)) fun _ =>
  .op (.store B.kscr (Rect.unit (s := S4x96x256) ![j.val / 2, 32 * r.val, j.val % 2 * 128] S1x32x128.size (inb3 (by omega) (by omega) (by omega))) (keys idx ka x y) Finset.univ
    (View.stores_vmem h_S1x32x128 (B.hkscr.storeExact_slice rfl _ (packedK j r)) (fun _ => rfl)) (.inl rfl)) fun _ =>
  .op (.load B.vscr (Rect.unit (s := S4x8x24x128) ![ro, j.val, 8 * r.val, 0] S1x1x8x128.size (inb4 hro j.isLt (by omega) (by decide))).toLoadRect (View.loadsAt_vmem h_S1x1x8x128)) fun _ =>
  .op (.store B.vscr (Rect.unit (s := S4x8x24x128) ![ro, j.val, 8 * r.val, 0] S1x1x8x128.size (inb4 hro j.isLt (by omega) (by decide))) (shapeCast S1x1x8x128 va shapeCasts_S8x128_S1x1x8x128 : IVec S1x1x8x128 32)
    Finset.univ (View.stores_vmem_bits_univ h_S1x1x8x128 rfl) (.inl rfl)) k

theorem chk_col {p : Fin k0_t1_loop.trips} {a : BitVec 32} (h : k0_chk6 p a) (i : Fin 16) : colOf a (BitVec.ofNat 32 i.val) + 128 ≤ 32768 := h.2.1 i 2

theorem chk_slot {p : Fin k0_t1_loop.trips} {a : BitVec 32} (h : k0_chk6 p a) : (k0_off63 p a 0#32) 0 + 1 ≤ 4 := h.2.1 0 0

def rowK (p : Fin k0_t1_loop.trips) (pi : Nat) (hpi : pi + 1 ≤ 96) (sl : Nat) (hsl : sl + 1 ≤ 4) (ro : Nat) (hro : ro + 1 ≤ 4) (wo co : Nat) (hwo : wo + 1 ≤ 26112) (hco : co + 1 ≤ 256)
    (j : Fin 8) (k : PUnit → Pr F β) : Pr F β :=
  .op (.load B.win (Rect.unit (s := S26112) ![wo] S1.size (inb1 hwo)).toLoadRect (View.loadsAt_rect (View.loads_smem_one (by rfl) numel1_S1))) fun f =>
  let a : BitVec 32 := f (Shape.Idx.first (numel1_S1.symm ▸ Nat.one_pos))
  .op (.assume (k0_chk6 p a) (k0_chk6.dec p a)) fun h =>
  .op (.load B.tbuf (Rect.unit (s := S4x256x128) ![sl, co, 0] S1x1x128.size (inb3 hsl hco (by decide))).toLoadRect (View.loadsAt_vmem h_S1x1x128)) fun cw =>
  tilesK B sl hsl a (chk_col h.down) (relOf (codeOf (F := F) cw) a) fun acc =>
  thirdK B pi hpi ro hro j 0 (idxOf (codeOf (F := F) cw)) acc.k0 acc.v0 fun _ =>
  thirdK B pi hpi ro hro j 1 (idxOf (codeOf (F := F) cw)) acc.k1 acc.v1 fun _ =>
  thirdK B pi hpi ro hro j 2 (idxOf (codeOf (F := F) cw)) acc.k2 acc.v2 k

def copyK (sl : Nat) (hsl : sl + 1 ≤ 4) (ro : Nat) (hro : ro + 1 ≤ 4) (co : Nat) (hco : co + 8 ≤ 256) (k : PUnit → Pr F β) : Pr F β :=
  .op (.load B.tbuf (Rect.unit (s := S4x256x128) ![sl, co, 0] S1x8x128.size (inb3 hsl hco (by decide))).toLoadRect (View.loadsAt_vmem h_S1x8x128)) fun x =>
  .op (.load B.cscr (Rect.unit (s := S4x8x128) ![ro, 0, 0] S1x8x128.size (inb3 hro (by decide) (by decide))).toLoadRect (View.loadsAt_vmem h_S1x8x128)) fun _ =>
  .op (.store B.cscr (Rect.unit (s := S4x8x128) ![ro, 0, 0] S1x8x128.size (inb3 hro (by decide) (by decide)))
    (shapeCast S1x8x128 (shapeCast S8x128 x shapeCasts_S1x8x128_S8x128 : IVec S8x128 32) shapeCasts_S8x128_S1x8x128 : IVec S1x8x128 32) Finset.univ (View.stores_vmem_bits_univ h_S1x8x128 rfl) (.inl rfl)) fun _ =>
  .op (.load B.sbuf (Rect.unit (s := S4x256x128) ![sl, co, 0] S1x8x128.size (inb3 hsl hco (by decide))).toLoadRect (View.loadsAt_vmem h_S1x8x128)) fun y =>
  .op (.load B.vsscr (Rect.unit (s := S4x8x128) ![ro, 0, 0] S1x8x128.size (inb3 hro (by decide) (by decide))).toLoadRect (View.loadsAt_vmem h_S1x8x128)) fun _ =>
  .op (.store B.vsscr (Rect.unit (s := S4x8x128) ![ro, 0, 0] S1x8x128.size (inb3 hro (by decide) (by decide))) (t8 (s8 y)) Finset.univ (View.stores_vmem_bits_univ h_S1x8x128 rfl) (.inl rfl)) k

/-- The pair, as the kernel counts it. -/
def pairBv (p : Fin k0_t1_loop.trips) : BitVec 32 := Scf.iv 0#32 1#32 p

/-- The slot of a pair. -/
def slotBv (p : Fin k0_t1_loop.trips) : BitVec 32 :=
  Scalar.select (Scalar.andi (Scalar.xori (Scalar.cmpi .slt (Scalar.remsi (pairBv p) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (pairBv p) (Scalar.select (Scalar.cmpi .eq 4#32 0#32) 1#32 4#32)) 0#32))
    (Scalar.addi (Scalar.remsi (pairBv p) (Scalar.select (Scalar.cmpi .eq 4#32 0#32) 1#32 4#32)) (Scalar.select (Scalar.cmpi .eq 4#32 0#32) 1#32 4#32))
    (Scalar.remsi (pairBv p) (Scalar.select (Scalar.cmpi .eq 4#32 0#32) 1#32 4#32))

def slotIx (p : Fin k0_t1_loop.trips) : Nat := (Scalar.indexCast (slotBv p)).toNat

/-- The first row of the item. -/
def rowBv {v : BitVec 32} (c : Fin (k0_t2_loop v).trips) : BitVec 32 := Scalar.muli (Scf.iv 0#32 1#32 c) 8#32

def winIx {v : BitVec 32} (p : Fin k0_t1_loop.trips) (c : Fin (k0_t2_loop v).trips) (j : BitVec 32) : Nat :=
  (Scalar.indexCast (Scalar.addi (Scalar.addi (Scalar.muli (pairBv p) 272#32) (rowBv c)) j)).toNat

def rowIx {v : BitVec 32} (c : Fin (k0_t2_loop v).trips) (j : BitVec 32) : Nat := (Scalar.indexCast (Scalar.addi (rowBv c) j)).toNat

def itemK (p : Fin k0_t1_loop.trips) (v : BitVec 32) (h1 : k0_chk1 p v) (c : Fin (k0_t2_loop v).trips) (a33 a34 a35 a36 : BitVec 32)
    (k : BitVec 32 × BitVec 32 × BitVec 32 × BitVec 32 → Pr F β) : Pr F β :=
  .op (.assume (k0_chk5 a34) (k0_chk5.dec a34)) fun h5 =>
  .op (.assume (k0_chk4 a35) (k0_chk4.dec a35)) fun h4 =>
  .op (.assume (k0_chk3 a33) (k0_chk3.dec a33)) fun h3 =>
  .op (.assume (k0_chk2 a36) (k0_chk2.dec a36)) fun h2 =>
  valuesK B (Scalar.indexCast a36).toNat (ringIx a33 1#32) (k0_off15_inb a36 h2.down 0) (k0_off16_inb a33 h3.down 0) fun _ =>
  softmaxK B (Scalar.indexCast a35).toNat (ringIx a33 2#32) (k0_off41_inb a35 h4.down 0) (k0_off42_inb a33 h3.down 0) fun _ =>
  scoresK B (k0_off50 a34 0) (ringIx a33 3#32) (k0_off50_inb a34 h5.down 0) (k0_off51_inb a33 h3.down 0) fun _ =>
  copyK B (slotIx p) (k0_off59_inb p v h1 c 0) (Scalar.indexCast a33).toNat (k0_off60_inb a33 h3.down 0) (Scalar.indexCast (rowBv c)).toNat (k0_off59_inb p v h1 c 1) fun _ =>
  rowK B p (pairBv p).toNat (k0_off66_inb p 0) (slotIx p) (k0_off59_inb p v h1 c 0) (Scalar.indexCast a33).toNat (k0_off60_inb a33 h3.down 0) (winIx p c 0#32) (rowIx c 0#32) (k0_off61_inb p v h1 c 0) (k0_off62_inb p v h1 c 1) 0 fun _ =>
  rowK B p (pairBv p).toNat (k0_off66_inb p 0) (slotIx p) (k0_off59_inb p v h1 c 0) (Scalar.indexCast a33).toNat (k0_off60_inb a33 h3.down 0) (winIx p c 1#32) (rowIx c 1#32) (k0_off75_inb p v h1 c 0) (k0_off76_inb p v h1 c 1) 1 fun _ =>
  rowK B p (pairBv p).toNat (k0_off66_inb p 0) (slotIx p) (k0_off59_inb p v h1 c 0) (Scalar.indexCast a33).toNat (k0_off60_inb a33 h3.down 0) (winIx p c 2#32) (rowIx c 2#32) (k0_off89_inb p v h1 c 0) (k0_off90_inb p v h1 c 1) 2 fun _ =>
  rowK B p (pairBv p).toNat (k0_off66_inb p 0) (slotIx p) (k0_off59_inb p v h1 c 0) (Scalar.indexCast a33).toNat (k0_off60_inb a33 h3.down 0) (winIx p c 3#32) (rowIx c 3#32) (k0_off103_inb p v h1 c 0) (k0_off104_inb p v h1 c 1) 3 fun _ =>
  rowK B p (pairBv p).toNat (k0_off66_inb p 0) (slotIx p) (k0_off59_inb p v h1 c 0) (Scalar.indexCast a33).toNat (k0_off60_inb a33 h3.down 0) (winIx p c 4#32) (rowIx c 4#32) (k0_off117_inb p v h1 c 0) (k0_off118_inb p v h1 c 1) 4 fun _ =>
  rowK B p (pairBv p).toNat (k0_off66_inb p 0) (slotIx p) (k0_off59_inb p v h1 c 0) (Scalar.indexCast a33).toNat (k0_off60_inb a33 h3.down 0) (winIx p c 5#32) (rowIx c 5#32) (k0_off131_inb p v h1 c 0) (k0_off132_inb p v h1 c 1) 5 fun _ =>
  rowK B p (pairBv p).toNat (k0_off66_inb p 0) (slotIx p) (k0_off59_inb p v h1 c 0) (Scalar.indexCast a33).toNat (k0_off60_inb a33 h3.down 0) (winIx p c 6#32) (rowIx c 6#32) (k0_off145_inb p v h1 c 0) (k0_off146_inb p v h1 c 1) 6 fun _ =>
  rowK B p (pairBv p).toNat (k0_off66_inb p 0) (slotIx p) (k0_off59_inb p v h1 c 0) (Scalar.indexCast a33).toNat (k0_off60_inb a33 h3.down 0) (winIx p c 7#32) (rowIx c 7#32) (k0_off159_inb p v h1 c 0) (k0_off160_inb p v h1 c 1) 7 fun _ =>
  k (ringOf a33 1#32, pairBv p, a34, a35)

end Cert.Attend

end
-- ==== Proof.Item.lean ====
module

public import proofs.«01_k».proof.Proof.Compact

@[expose] public section

set_option maxRecDepth 1000000
set_option maxHeartbeats 0

noncomputable section

namespace Cert.Attend

open Idealize.ShloMosaic Idealize.SL.Sem
open Cert.Kernel Cert.Kernel.Gen

variable {F : FTy → Type} [FloatOps F]

/-- The printed text of one item is the compact text. -/
theorem item_eq (B : Bufs) (sems : DmaSems sig S4) (v148 : FVec F S4x8x256 .bf16) (p : Fin k0_t1_loop.trips) (v : BitVec 32) (h1 : k0_chk1 p v)
    (c : Fin (k0_t2_loop v).trips) (a33 a34 a35 a36 : BitVec 32) :
    k0_t2_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v148 p (pairBv p) (slotBv p) v h1 c (a33, a34, a35, a36)
      = itemK B p v h1 c a33 a34 a35 a36 .ret := by
  with_unfolding_all exact rfl

end Cert.Attend

end
-- ==== Proof.Main.lean ====
/-
  The attend kernel's whole text written compactly: the transfers of a slot started and waited for, the pairs' loop, the
  three last stages drained, and the division.
-/
module

public import proofs.«01_k».proof.Proof.Item

@[expose] public section

set_option maxRecDepth 1000000
set_option maxHeartbeats 0

noncomputable section

namespace Cert.Attend

open Idealize.ShloMosaic Idealize.SL.Sem
open Cert.Kernel Cert.Kernel.Gen

variable {F : FTy → Type} [FloatOps F]

variable (B : Bufs) (sems : DmaSems sig S4) {β : Type}

/-! ## The views of a slot and of a pair -/

def semOf (sl : Nat) (hsl : sl + 1 ≤ 4) : DmaSem sig :=
  ((sems.slice (Rect.unit (s := S4) ![sl] S1.size (inb1 hsl))).squeeze S_ squeezes_S1_S_).sem

def tHead (sl : Nat) (hsl : sl + 1 ≤ 4) : Memref sig .tc .vmem S80x128 .i32 :=
  (B.tbuf.slice (Rect.unit (s := S4x256x128) ![sl, 0, 0] S1x80x128.size (inb3 hsl (by decide) (by decide))) (fun _ => rfl)).squeeze S80x128 squeezes_S1x80x128_S80x128

def sHead (sl : Nat) (hsl : sl + 1 ≤ 4) : Memref sig .tc .vmem S80x128 .f32 :=
  (B.sbuf.slice (Rect.unit (s := S4x256x128) ![sl, 0, 0] S1x80x128.size (inb3 hsl (by decide) (by decide))) (fun _ => rfl)).squeeze S80x128 squeezes_S1x80x128_S80x128

def tTail (sl : Nat) (hsl : sl + 1 ≤ 4) : Memref sig .tc .vmem S176x128 .i32 :=
  (B.tbuf.slice (Rect.unit (s := S4x256x128) ![sl, 80, 0] S1x176x128.size (inb3 hsl (by decide) (by decide))) (fun _ => rfl)).squeeze S176x128 squeezes_S1x176x128_S176x128

def sTail (sl : Nat) (hsl : sl + 1 ≤ 4) : Memref sig .tc .vmem S176x128 .f32 :=
  (B.sbuf.slice (Rect.unit (s := S4x256x128) ![sl, 80, 0] S1x176x128.size (inb3 hsl (by decide) (by decide))) (fun _ => rfl)).squeeze S176x128 squeezes_S1x176x128_S176x128

def kSlot (sl : Nat) (hsl : sl + 1 ≤ 4) : Memref sig .tc .vmem S96x32768 .i8 :=
  (B.kbuf.slice (Rect.unit (s := S4x96x32768) ![sl, 0, 0] S1x96x32768.size (inb3 hsl (by decide) (by decide))) (fun _ => rfl)).squeeze S96x32768 squeezes_S1x96x32768_S96x32768

def vSlot (sl : Nat) (hsl : sl + 1 ≤ 4) : Memref sig .tc .vmem S96x32768 .i8 :=
  (B.vbuf.slice (Rect.unit (s := S4x96x32768) ![sl, 0, 0] S1x96x32768.size (inb3 hsl (by decide) (by decide))) (fun _ => rfl)).squeeze S96x32768 squeezes_S1x96x32768_S96x32768

def tblHead (r : Nat) (hr : r + 80 ≤ 24576) : Memref sig .tc .hbm S80x128 .i32 :=
  B.tbl.slice (Rect.unit (s := S24576x128) ![r, 0] S80x128.size (inb2 hr (by decide))) (fun _ => rfl)

def vstHead (r : Nat) (hr : r + 80 ≤ 24576) : Memref sig .tc .hbm S80x128 .f32 :=
  B.vst.slice (Rect.unit (s := S24576x128) ![r, 0] S80x128.size (inb2 hr (by decide))) (fun _ => rfl)

def tblTail (r : Nat) (hr : r + 176 ≤ 24576) : Memref sig .tc .hbm S176x128 .i32 :=
  B.tbl.slice (Rect.unit (s := S24576x128) ![r, 0] S176x128.size (inb2 hr (by decide))) (fun _ => rfl)

def vstTail (r : Nat) (hr : r + 176 ≤ 24576) : Memref sig .tc .hbm S176x128 .f32 :=
  B.vst.slice (Rect.unit (s := S24576x128) ![r, 0] S176x128.size (inb2 hr (by decide))) (fun _ => rfl)

def ktPair (b g : Nat) (hb : b + 1 ≤ 12) (hg : g + 1 ≤ 8) : Memref sig .tc .hbm S96x32768 .i8 :=
  (B.kt.slice (Rect.unit (s := S12x8x96x32768) ![b, g, 0, 0] S1x1x96x32768.size (inb4 hb hg (by decide) (by decide))) (fun _ => rfl)).squeeze S96x32768 squeezes_S1x1x96x32768_S96x32768

def vtPair (b g : Nat) (hb : b + 1 ≤ 12) (hg : g + 1 ≤ 8) : Memref sig .tc .hbm S96x32768 .i8 :=
  (B.vt.slice (Rect.unit (s := S12x8x96x32768) ![b, g, 0, 0] S1x1x96x32768.size (inb4 hb hg (by decide) (by decide))) (fun _ => rfl)).squeeze S96x32768 squeezes_S1x1x96x32768_S96x32768

theorem wordsSlot : ∀ sl : Fin 4, (Rect.unit (s := S4x96x32768) ![sl.val, 0, 0] S1x96x32768.size (inb3 sl.isLt (by decide) (by decide))).WholeWords (EltTy.packing .i8) := by
  decide

theorem wordsPair : ∀ (b : Fin 12) (g : Fin 8), (Rect.unit (s := S12x8x96x32768) ![b.val, g.val, 0, 0] S1x1x96x32768.size (inb4 b.isLt g.isLt (by decide) (by decide))).WholeWords (EltTy.packing .i8) := by
  decide

theorem kSlot_words (sl : Nat) (hsl : sl + 1 ≤ 4) : (kSlot B sl hsl).view.WordExact := (B.hkbuf.wordExact_slice rfl _ (wordsSlot ⟨sl, hsl⟩)).reshape _ _
theorem vSlot_words (sl : Nat) (hsl : sl + 1 ≤ 4) : (vSlot B sl hsl).view.WordExact := (B.hvbuf.wordExact_slice rfl _ (wordsSlot ⟨sl, hsl⟩)).reshape _ _
theorem ktPair_words (b g : Nat) (hb : b + 1 ≤ 12) (hg : g + 1 ≤ 8) : (ktPair B b g hb hg).view.WordExact := (B.hkt.wordExact_slice rfl _ (wordsPair ⟨b, hb⟩ ⟨g, hg⟩)).reshape _ _
theorem vtPair_words (b g : Nat) (hb : b + 1 ≤ 12) (hg : g + 1 ≤ 8) : (vtPair B b g hb hg).view.WordExact := (B.hvt.wordExact_slice rfl _ (wordsPair ⟨b, hb⟩ ⟨g, hg⟩)).reshape _ _

/-! ## A slot's transfers -/

/-- Whether the long tail of the tables is wanted. -/
def tailCond (f : BitVec 32) : BitVec 1 := Scalar.cmpi .ne (Scalar.extui (Scalar.cmpi .sgt f 80#32) : BitVec 32) 0#32

/-- One word of the windows' table. -/
def winK (wo : Nat) (hwo : wo + 1 ≤ 26112) (k : BitVec 32 → Pr F β) : Pr F β :=
  .op (.load B.win (Rect.unit (s := S26112) ![wo] S1.size (inb1 hwo)).toLoadRect (View.loadsAt_rect (View.loads_smem_one (by rfl) numel1_S1))) fun f =>
  k (f (Shape.Idx.first (numel1_S1.symm ▸ Nat.one_pos)))

def startTailK (sl : Nat) (hsl : sl + 1 ≤ 4) (r1 : Nat) (hr1 : r1 + 176 ≤ 24576) (k : PUnit.{1} → Pr F β) : Pr F β :=
  .op (.enqueueDma (tblTail B r1 hr1) (.here (tTail B sl hsl)) (.dma (semOf sems sl hsl)) (View.wordExact_bits rfl) ((View.wordExact_bits rfl).reshape _ _) ⟨Or.inl rfl, trivial⟩) fun _ =>
  .op (.enqueueDma (vstTail B r1 hr1) (.here (sTail B sl hsl)) (.dma (semOf sems sl hsl)) (View.wordExact_bits rfl) ((View.wordExact_bits rfl).reshape _ _) ⟨Or.inl rfl, trivial⟩) k

def startT (sl : Nat) (hsl : sl + 1 ≤ 4) (r0 : Nat) (hr0 : r0 + 80 ≤ 24576) (k : PUnit.{1} → Pr F β) : Pr F β :=
  .op (.enqueueDma (tblHead B r0 hr0) (.here (tHead B sl hsl)) (.dma (semOf sems sl hsl)) (View.wordExact_bits rfl) ((View.wordExact_bits rfl).reshape _ _) ⟨Or.inl rfl, trivial⟩) k

def startS (sl : Nat) (hsl : sl + 1 ≤ 4) (r0 : Nat) (hr0 : r0 + 80 ≤ 24576) (k : PUnit.{1} → Pr F β) : Pr F β :=
  .op (.enqueueDma (vstHead B r0 hr0) (.here (sHead B sl hsl)) (.dma (semOf sems sl hsl)) (View.wordExact_bits rfl) ((View.wordExact_bits rfl).reshape _ _) ⟨Or.inl rfl, trivial⟩) k

def startKt (sl : Nat) (hsl : sl + 1 ≤ 4) (b g : Nat) (hb : b + 1 ≤ 12) (hg : g + 1 ≤ 8) (k : PUnit.{1} → Pr F β) : Pr F β :=
  .op (.enqueueDma (ktPair B b g hb hg) (.here (kSlot B sl hsl)) (.dma (semOf sems sl hsl)) (ktPair_words B b g hb hg) (kSlot_words B sl hsl) ⟨Or.inl rfl, trivial⟩) k

def startVt (sl : Nat) (hsl : sl + 1 ≤ 4) (b g : Nat) (hb : b + 1 ≤ 12) (hg : g + 1 ≤ 8) (k : PUnit.{1} → Pr F β) : Pr F β :=
  .op (.enqueueDma (vtPair B b g hb hg) (.here (vSlot B sl hsl)) (.dma (semOf sems sl hsl)) (vtPair_words B b g hb hg) (vSlot_words B sl hsl) ⟨Or.inl rfl, trivial⟩) k

def startK (sl : Nat) (hsl : sl + 1 ≤ 4) (r0 b g wo r1 : Nat) (hr0 : r0 + 80 ≤ 24576) (hb : b + 1 ≤ 12) (hg : g + 1 ≤ 8) (hwo : wo + 1 ≤ 26112) (hr1 : r1 + 176 ≤ 24576)
    (k : PUnit.{1} → Pr F β) : Pr F β :=
  startT B sems sl hsl r0 hr0 fun _ => startS B sems sl hsl r0 hr0 fun _ => startKt B sems sl hsl b g hb hg fun _ => startVt B sems sl hsl b g hb hg fun _ =>
  winK B wo hwo fun f =>
  if tailCond f = 1#1 then startTailK B sems sl hsl r1 hr1 k else k ⟨⟩

def waitTailK (sl : Nat) (hsl : sl + 1 ≤ 4) (r1 : Nat) (hr1 : r1 + 176 ≤ 24576) (k : PUnit.{1} → Pr F β) : Pr F β :=
  .op (.waitDma2 (semOf sems sl hsl) (tblTail B r1 hr1) (tTail B sl hsl) (View.wordExact_bits rfl) ((View.wordExact_bits rfl).reshape _ _)) fun _ =>
  .op (.waitDma2 (semOf sems sl hsl) (vstTail B r1 hr1) (sTail B sl hsl) (View.wordExact_bits rfl) ((View.wordExact_bits rfl).reshape _ _)) k

def waitHeadK (sl : Nat) (hsl : sl + 1 ≤ 4) (r0 b g : Nat) (hr0 : r0 + 80 ≤ 24576) (hb : b + 1 ≤ 12) (hg : g + 1 ≤ 8) (k : PUnit.{1} → Pr F β) : Pr F β :=
  .op (.waitDma2 (semOf sems sl hsl) (tblHead B r0 hr0) (tHead B sl hsl) (View.wordExact_bits rfl) ((View.wordExact_bits rfl).reshape _ _)) fun _ =>
  .op (.waitDma2 (semOf sems sl hsl) (vstHead B r0 hr0) (sHead B sl hsl) (View.wordExact_bits rfl) ((View.wordExact_bits rfl).reshape _ _)) fun _ =>
  .op (.waitDma2 (semOf sems sl hsl) (ktPair B b g hb hg) (kSlot B sl hsl) (ktPair_words B b g hb hg) (kSlot_words B sl hsl)) fun _ =>
  .op (.waitDma2 (semOf sems sl hsl) (vtPair B b g hb hg) (vSlot B sl hsl) (vtPair_words B b g hb hg) (vSlot_words B sl hsl)) k

def waitK (sl : Nat) (hsl : sl + 1 ≤ 4) (r0 b g wo r1 : Nat) (hr0 : r0 + 80 ≤ 24576) (hb : b + 1 ≤ 12) (hg : g + 1 ≤ 8) (hwo : wo + 1 ≤ 26112) (hr1 : r1 + 176 ≤ 24576)
    (k : PUnit.{1} → Pr F β) : Pr F β :=
  waitHeadK B sems sl hsl r0 b g hr0 hb hg fun _ =>
  winK B wo hwo fun f =>
  if tailCond f = 1#1 then waitTailK B sems sl hsl r1 hr1 k else k ⟨⟩

/-! ## A pair -/

abbrev Carry := BitVec 32 × BitVec 32 × BitVec 32 × BitVec 32

def itemsK (v148 : FVec F S4x8x256 .bf16) (p : Fin k0_t1_loop.trips) (v : BitVec 32) (h1 : k0_chk1 p v) (a : Carry) : Pr F Carry :=
  Scf.Loop.for (k0_t2_loop v) (k0_t2_ok p v h1) a
    (k0_t2_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v148 p (pairBv p) (slotBv p) v h1)

/-- The number of items the rows `v` make, as the kernel counts it, less the rest a loop of step one leaves. -/
def lastBv (v : BitVec 32) : BitVec 32 :=
  Scalar.addi 0#32 (Scalar.muli (Scalar.divsi (Scalar.subi (Scalar.select
    (Scalar.andi (Scalar.cmpi .ne (Scalar.subi (Scalar.extui (Scalar.cmpi .sgt (Scalar.subi (Scalar.addi v 8#32) 1#32) 0#32)) (Scalar.extui (Scalar.cmpi .slt (Scalar.subi (Scalar.addi v 8#32) 1#32) 0#32)))
      (Scalar.subi (Scalar.extui (Scalar.cmpi .sgt 8#32 0#32)) (Scalar.extui (Scalar.cmpi .slt 8#32 0#32)) : BitVec 32))
      (Scalar.cmpi .ne (Scalar.remsi (Scalar.subi (Scalar.addi v 8#32) 1#32) 8#32) 0#32))
    (Scalar.subi (Scalar.divsi (Scalar.subi (Scalar.addi v 8#32) 1#32) 8#32) 1#32)
    (Scalar.divsi (Scalar.subi (Scalar.addi v 8#32) 1#32) 8#32)) 0#32) 1#32) 1#32)

def restK (v148 : FVec F S4x8x256 .bf16) (p : Fin k0_t1_loop.trips) (v : BitVec 32) (h1 : k0_chk1 p v) (a : Carry) : Pr F Carry :=
  Scf.Loop.for (k0_t3_loop v) (k0_t3_ok p v h1) a
    (k0_t3_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v148 p (pairBv p) (slotBv p) v h1 (lastBv v))

def pairK (v148 : FVec F S4x8x256 .bf16) (p : Fin k0_t1_loop.trips) (a : Carry) : Pr F Carry :=
  waitK B sems (slotIx p) (k0_off6_inb p 0) (k0_off7 p 0) (k0_off9 p 0) (k0_off9 p 1) (k0_off10 p 0) (k0_off13 p 0)
    (k0_off7_inb p 0) (k0_off9_inb p 0) (k0_off9_inb p 1) (k0_off10_inb p 0) (k0_off13_inb p 0) fun _ =>
  winK B (k0_off14 p 0) (k0_off14_inb p 0) fun v =>
  .op (.assume (k0_chk1 p v) (k0_chk1.dec p v)) fun h1 =>
  Prog.bind (itemsK B sems v148 p v h1.down a) fun a =>
  Prog.bind (restK B sems v148 p v h1.down a) fun a =>
  if h : k0_cond6 p = 1#1 then
      startK B sems (slotIx p) (k0_off332_inb p h 0) (k0_off333 p 0) (k0_off335 p 0) (k0_off335 p 1) (k0_off336 p 0) (k0_off339 p 0)
        (k0_off333_inb p h 0) (k0_off335_inb p h 0) (k0_off335_inb p h 1) (k0_off336_inb p h 0) (k0_off339_inb p h 0) fun _ => .ret a
    else .ret a

theorem ite_bind {α γ : Type} {c : Prop} [Decidable c] {a b : Pr F α} {k : α → Pr F γ} :
    (if c then a else b).bind k = if c then a.bind k else b.bind k := by
  split <;> rfl

theorem waitK_bind {γ : Type} (k' : β → Pr F γ) (sl : Nat) (hsl : sl + 1 ≤ 4) (r0 b g wo r1 : Nat) (hr0 : r0 + 80 ≤ 24576) (hb : b + 1 ≤ 12) (hg : g + 1 ≤ 8) (hwo : wo + 1 ≤ 26112) (hr1 : r1 + 176 ≤ 24576)
    (k : PUnit.{1} → Pr F β) :
    (waitK B sems sl hsl r0 b g wo r1 hr0 hb hg hwo hr1 k).bind k' = waitK B sems sl hsl r0 b g wo r1 hr0 hb hg hwo hr1 fun x => (k x).bind k' := by
  simp only [waitK, waitHeadK, winK, waitTailK, Prog.bind, ite_bind]

theorem wait_eq (p : Fin k0_t1_loop.trips) (x y : BitVec 32) (k : BitVec 32 → Pr F β) :
    (k0_part295 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems p x y).bind k
      = waitK B sems (slotIx p) (k0_off6_inb p 0) (k0_off7 p 0) (k0_off9 p 0) (k0_off9 p 1) (k0_off10 p 0) (k0_off13 p 0)
    (k0_off7_inb p 0) (k0_off9_inb p 0) (k0_off9_inb p 1) (k0_off10_inb p 0) (k0_off13_inb p 0) fun _ => k (Scalar.addi (Scalar.muli x 272#32) 256#32) := by
  refine Eq.trans (congrArg (fun z => Prog.bind z k) (?_ : _ = waitK B sems (slotIx p) (k0_off6_inb p 0) (k0_off7 p 0) (k0_off9 p 0) (k0_off9 p 1) (k0_off10 p 0) (k0_off13 p 0)
    (k0_off7_inb p 0) (k0_off9_inb p 0) (k0_off9_inb p 1) (k0_off10_inb p 0) (k0_off13_inb p 0) fun _ => .ret (Scalar.addi (Scalar.muli x 272#32) 256#32))) (waitK_bind B sems k _ _ _ _ _ _ _ _ _ _ _ _ _)
  rw [k0_part295_eq_skeleton]
  with_unfolding_all exact rfl

theorem pair_eq (v148 : FVec F S4x8x256 .bf16) (p : Fin k0_t1_loop.trips) (a : Carry) :
    k0_t1_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v148 p a = pairK B sems v148 p a := by
  obtain ⟨a28, a29, a30, a31⟩ := a
  refine Eq.trans ?_ (Eq.trans (wait_eq B sems p (pairBv p) (Scalar.muli (pairBv p) 256#32) (fun _ =>
     winK B (k0_off14 p 0) (k0_off14_inb p 0) fun v =>
  .op (.assume (k0_chk1 p v) (k0_chk1.dec p v)) fun h1 =>
  Prog.bind (itemsK B sems v148 p v h1.down (a28, a29, a30, a31)) fun a =>
  Prog.bind (restK B sems v148 p v h1.down a) fun a =>
  if h : k0_cond6 p = 1#1 then
      startK B sems (slotIx p) (k0_off332_inb p h 0) (k0_off333 p 0) (k0_off335 p 0) (k0_off335 p 1) (k0_off336 p 0) (k0_off339 p 0)
        (k0_off333_inb p h 0) (k0_off335_inb p h 0) (k0_off335_inb p h 1) (k0_off336_inb p h 0) (k0_off339_inb p h 0) fun _ => .ret a
    else .ret a)) ?_)
  · with_unfolding_all exact rfl
  · rfl

def init305K (k : PUnit.{1} → Pr F β) : Pr F β :=
  .op (.load B.pscr (Rect.unit (s := S4x8x256) ![0, 0, 0] S4x8x256.size inb_S4x8x256_S4x8x256_0_0_0).toLoadRect (View.loadsAt_vmem h_S4x8x256)) fun _ =>
  .op (.store B.pscr (Rect.unit (s := S4x8x256) ![0, 0, 0] S4x8x256.size inb_S4x8x256_S4x8x256_0_0_0) (k0_pay1953 (k0_pay1952 (F := F))) Finset.univ (View.stores_vmem h_S4x8x256 (B.hpscr.storeExact_slice rfl _ packedbf16_S4x8x256_S4x8x256_0_0_0) (fun _ => rfl)) (.inl rfl)) fun _ =>
  .op (.load B.ascr (Rect.unit (s := S8x128) ![0, 0] S8x128.size inb_S8x128_S8x128_0_0).toLoadRect (View.loadsAt_vmem h_S8x128)) fun _ =>
  .op (.store B.ascr (Rect.unit (s := S8x128) ![0, 0] S8x128.size inb_S8x128_S8x128_0_0) (k0_pay1954 (F := F)) Finset.univ (View.stores_vmem_bits_univ h_S8x128 rfl) (.inl rfl)) fun _ =>
  .op (.load B.mst (Rect.unit (s := S97x8x128) ![96, 0, 0] S1x8x128.size inb_S97x8x128_S1x8x128_96_0_0).toLoadRect (View.loadsAt_vmem h_S1x8x128)) fun _ =>
  .op (.store B.mst (Rect.unit (s := S97x8x128) ![96, 0, 0] S1x8x128.size inb_S97x8x128_S1x8x128_96_0_0) (k0_pay1955 (F := F)) Finset.univ (View.stores_vmem_bits_univ h_S1x8x128 rfl) (.inl rfl)) fun _ =>
  .op (.load B.lst (Rect.unit (s := S97x8x128) ![96, 0, 0] S1x8x128.size inb_S97x8x128_S1x8x128_96_0_0).toLoadRect (View.loadsAt_vmem h_S1x8x128)) fun _ =>
  .op (.store B.lst (Rect.unit (s := S97x8x128) ![96, 0, 0] S1x8x128.size inb_S97x8x128_S1x8x128_96_0_0) (k0_pay1956 (F := F)) Finset.univ (View.stores_vmem_bits_univ h_S1x8x128 rfl) (.inl rfl)) fun _ =>
  .op (.load B.ost (Rect.unit (s := S97x8x96) ![96, 0, 0] S1x8x96.size inb_S97x8x96_S1x8x96_96_0_0).toLoadRect (View.loadsAt_vmem h_S1x8x96)) fun _ =>
  .op (.store B.ost (Rect.unit (s := S97x8x96) ![96, 0, 0] S1x8x96.size inb_S97x8x96_S1x8x96_96_0_0) (k0_pay1957 (F := F)) Finset.univ (View.stores_vmem_bits_univ h_S1x8x96 rfl) (.inl rfl)) fun _ =>
  k ⟨⟩

def initHeadK (k : PUnit.{1} → Pr F β) : Pr F β :=
  .op (.load B.m0 (Rect.unit (s := S96x8x128) ![0, 0, 0] S96x8x128.size inb_S96x8x128_S96x8x128_0_0_0).toLoadRect (View.loadsAt_vmem h_S96x8x128)) fun x =>
  .op (.load B.mst (Rect.unit (s := S97x8x128) ![0, 0, 0] S96x8x128.size inb_S97x8x128_S96x8x128_0_0_0).toLoadRect (View.loadsAt_vmem h_S96x8x128)) fun _ =>
  .op (.store B.mst (Rect.unit (s := S97x8x128) ![0, 0, 0] S96x8x128.size inb_S97x8x128_S96x8x128_0_0_0) (k0_pay1944 x) Finset.univ (View.stores_vmem_bits_univ h_S96x8x128 rfl) (.inl rfl)) fun _ =>
  .op (.load B.l0 (Rect.unit (s := S96x8x128) ![0, 0, 0] S96x8x128.size inb_S96x8x128_S96x8x128_0_0_0).toLoadRect (View.loadsAt_vmem h_S96x8x128)) fun x =>
  .op (.load B.lst (Rect.unit (s := S97x8x128) ![0, 0, 0] S96x8x128.size inb_S97x8x128_S96x8x128_0_0_0).toLoadRect (View.loadsAt_vmem h_S96x8x128)) fun _ =>
  .op (.store B.lst (Rect.unit (s := S97x8x128) ![0, 0, 0] S96x8x128.size inb_S97x8x128_S96x8x128_0_0_0) (k0_pay1945 x) Finset.univ (View.stores_vmem_bits_univ h_S96x8x128 rfl) (.inl rfl)) fun _ =>
  .op (.load B.o0 (Rect.unit (s := S96x8x96) ![0, 0, 0] S96x8x96.size inb_S96x8x96_S96x8x96_0_0_0).toLoadRect (View.loadsAt_vmem h_S96x8x96)) fun x =>
  .op (.load B.ost (Rect.unit (s := S97x8x96) ![0, 0, 0] S96x8x96.size inb_S97x8x96_S96x8x96_0_0_0).toLoadRect (View.loadsAt_vmem h_S96x8x96)) fun _ =>
  .op (.store B.ost (Rect.unit (s := S97x8x96) ![0, 0, 0] S96x8x96.size inb_S97x8x96_S96x8x96_0_0_0) (k0_pay1946 x) Finset.univ (View.stores_vmem_bits_univ h_S96x8x96 rfl) (.inl rfl)) fun _ =>
  .op (.load B.kscr (Rect.unit (s := S4x96x256) ![0, 0, 0] S4x96x256.size inb_S4x96x256_S4x96x256_0_0_0).toLoadRect (View.loadsAt_vmem h_S4x96x256)) fun _ =>
  .op (.store B.kscr (Rect.unit (s := S4x96x256) ![0, 0, 0] S4x96x256.size inb_S4x96x256_S4x96x256_0_0_0) (k0_pay1947 (F := F)) Finset.univ (View.stores_vmem h_S4x96x256 (B.hkscr.storeExact_slice rfl _ packedbf16_S4x96x256_S4x96x256_0_0_0) (fun _ => rfl)) (.inl rfl)) fun _ =>
  .op (.load B.vscr (Rect.unit (s := S4x8x24x128) ![0, 0, 0, 0] S4x8x24x128.size inb_S4x8x24x128_S4x8x24x128_0_0_0_0).toLoadRect (View.loadsAt_vmem h_S4x8x24x128)) fun _ =>
  .op (.store B.vscr (Rect.unit (s := S4x8x24x128) ![0, 0, 0, 0] S4x8x24x128.size inb_S4x8x24x128_S4x8x24x128_0_0_0_0) k0_pay1948 Finset.univ (View.stores_vmem_bits_univ h_S4x8x24x128 rfl) (.inl rfl)) fun _ =>
  .op (.load B.cscr (Rect.unit (s := S4x8x128) ![0, 0, 0] S4x8x128.size inb_S4x8x128_S4x8x128_0_0_0).toLoadRect (View.loadsAt_vmem h_S4x8x128)) fun _ =>
  .op (.store B.cscr (Rect.unit (s := S4x8x128) ![0, 0, 0] S4x8x128.size inb_S4x8x128_S4x8x128_0_0_0) k0_pay1949 Finset.univ (View.stores_vmem_bits_univ h_S4x8x128 rfl) (.inl rfl)) fun _ =>
  .op (.load B.vsscr (Rect.unit (s := S4x8x128) ![0, 0, 0] S4x8x128.size inb_S4x8x128_S4x8x128_0_0_0).toLoadRect (View.loadsAt_vmem h_S4x8x128)) fun _ =>
  .op (.store B.vsscr (Rect.unit (s := S4x8x128) ![0, 0, 0] S4x8x128.size inb_S4x8x128_S4x8x128_0_0_0) (k0_pay1950 (F := F)) Finset.univ (View.stores_vmem_bits_univ h_S4x8x128 rfl) (.inl rfl)) fun _ =>
  .op (.load B.sscr (Rect.unit (s := S8x8x128) ![0, 0, 0] S8x8x128.size inb_S8x8x128_S8x8x128_0_0_0).toLoadRect (View.loadsAt_vmem h_S8x8x128)) fun _ =>
  .op (.store B.sscr (Rect.unit (s := S8x8x128) ![0, 0, 0] S8x8x128.size inb_S8x8x128_S8x8x128_0_0_0) (k0_pay1951 (F := F)) Finset.univ (View.stores_vmem_bits_univ h_S8x8x128 rfl) (.inl rfl)) fun _ =>
  k ⟨⟩

def initK (k : PUnit.{1} → Pr F β) : Pr F β := initHeadK B fun _ => init305K B k

/-- A pair's output: the weighted sum over the weights' sum. -/
def fin (l : Vec F S1x8x128 .f32) (o : Vec F S1x8x96 .f32) : FVec F S1x8x96 .f32 :=
  k0_pay3 l o

def finK (po : Nat) (hpo : po + 1 ≤ 96) (k : PUnit.{1} → Pr F β) : Pr F β :=
  .op (.load B.lst (Rect.unit (s := S97x8x128) ![po, 0, 0] S1x8x128.size (inb3 (by omega) (by decide) (by decide))).toLoadRect (View.loadsAt_vmem h_S1x8x128)) fun l =>
  .op (.load B.ost (Rect.unit (s := S97x8x96) ![po, 0, 0] S1x8x96.size (inb3 (by omega) (by decide) (by decide))).toLoadRect (View.loadsAt_vmem h_S1x8x96)) fun o =>
  .op (.load B.out (Rect.unit (s := S96x8x96) ![po, 0, 0] S1x8x96.size (inb3 hpo (by decide) (by decide))).toLoadRect (View.loadsAt_vmem h_S1x8x96)) fun _ =>
  .op (.store B.out (Rect.unit (s := S96x8x96) ![po, 0, 0] S1x8x96.size (inb3 hpo (by decide) (by decide))) (fin l o) Finset.univ (View.stores_vmem_bits_univ h_S1x8x96 rfl) (.inl rfl)) k

def groupK (i : Fin k0_t4_loop.trips) : Pr F Unit :=
  finK B (k0_off413 i 0#32 0) (k0_off413_inb i 0 0) fun _ =>
  finK B (k0_off413 i 1#32 0) (k0_off413_inb i 1 0) fun _ =>
  finK B (k0_off413 i 2#32 0) (k0_off413_inb i 2 0) fun _ =>
  finK B (k0_off413 i 3#32 0) (k0_off413_inb i 3 0) fun _ =>
  finK B (k0_off413 i 4#32 0) (k0_off413_inb i 4 0) fun _ =>
  finK B (k0_off413 i 5#32 0) (k0_off413_inb i 5 0) fun _ =>
  finK B (k0_off413 i 6#32 0) (k0_off413_inb i 6 0) fun _ =>
  finK B (k0_off413 i 7#32 0) (k0_off413_inb i 7 0) fun _ =>
  .ret ⟨⟩

def drainK (a : Carry) (k : PUnit.{1} → Pr F β) : Pr F β :=
  .op (.assume (k0_chk29 a.2.1) (k0_chk29.dec a.2.1)) fun h29 =>
  .op (.assume (k0_chk28 a.2.2.1) (k0_chk28.dec a.2.2.1)) fun h28 =>
  .op (.assume (k0_chk27 a.1) (k0_chk27.dec a.1)) fun h27 =>
  .op (.assume (k0_chk26 a.2.2.2) (k0_chk26.dec a.2.2.2)) fun h26 =>
  valuesK B (Scalar.indexCast a.2.2.2).toNat (ringIx a.1 1#32) (k0_off340_inb a.2.2.2 h26.down 0) (k0_off341_inb a.1 h27.down 0) fun _ =>
  softmaxK B (Scalar.indexCast a.2.2.1).toNat (ringIx a.1 2#32) (k0_off366_inb a.2.2.1 h28.down 0) (k0_off367_inb a.1 h27.down 0) fun _ =>
  scoresK B (k0_off375 a.2.1 0) (ringIx a.1 3#32) (k0_off375_inb a.2.1 h29.down 0) (k0_off376_inb a.1 h27.down 0) fun _ =>
  valuesK B (Scalar.indexCast a.2.2.1).toNat (ringIx a.1 2#32) (k0_off384_inb a.2.2.1 h28.down 0) (k0_off367_inb a.1 h27.down 0) fun _ =>
  softmaxK B (Scalar.indexCast a.2.1).toNat (ringIx a.1 3#32) (k0_off409_inb a.2.1 h29.down 0) (k0_off376_inb a.1 h27.down 0) fun _ =>
  valuesK B (Scalar.indexCast a.2.1).toNat (ringIx a.1 3#32) (k0_off410_inb a.2.1 h29.down 0) (k0_off376_inb a.1 h27.down 0) k

def pairsK : Pr F Carry :=
  Scf.Loop.for k0_t1_loop k0_t1_ok (0#32, 96#32, 96#32, 96#32) (k0_t1_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems k0_pay1952)

def groupsK : Pr F Unit :=
  Scf.Loop.for k0_t4_loop k0_t4_ok ⟨⟩ (k0_t4_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems)

def headK (k : PUnit.{1} → Pr F β) : Pr F β :=
  startK B sems 0 (by decide) 0 0 0 256 (k0_off1 0) (by decide) (by decide) (by decide) (by decide) (k0_off1_inb 0) fun _ =>
  startK B sems 1 (by decide) 256 0 1 528 (k0_off2 0) (by decide) (by decide) (by decide) (by decide) (k0_off2_inb 0) fun _ =>
  startK B sems 2 (by decide) 512 0 2 800 (k0_off3 0) (by decide) (by decide) (by decide) (by decide) (k0_off3_inb 0) fun _ =>
  startK B sems 3 (by decide) 768 0 3 1072 (k0_off4 0) (by decide) (by decide) (by decide) (by decide) (k0_off4_inb 0) fun _ =>
  initK B k

def attendK : Pr F PUnit.{1} :=
  headK B sems fun _ =>
  Prog.bind (pairsK B sems) fun a =>
  drainK B a fun _ =>
  Prog.bind (groupsK B sems) fun _ => .ret ⟨⟩

theorem group_eq (i : Fin k0_t4_loop.trips) : k0_t4_body (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems i ⟨⟩ = groupK B i := by
  with_unfolding_all exact rfl

theorem tail_bind {γ : Type} (sl : Nat) (hsl : sl + 1 ≤ 4) (r1 : Nat) (hr1 : r1 + 176 ≤ 24576) (v : BitVec 32) (x : PUnit.{1} → Pr F β) (k' : β → Pr F γ) :
    (if tailCond v = 1#1 then startTailK B sems sl hsl r1 hr1 x else x ⟨⟩ : Pr F β).bind k'
      = if tailCond v = 1#1 then startTailK B sems sl hsl r1 hr1 (fun u => (x u).bind k') else (x ⟨⟩).bind k' := by
  rw [ite_bind]; rfl

/-- The first two stores of the beginning. -/
def initMLK (k : PUnit.{1} → Pr F β) : Pr F β :=
  .op (.load B.m0 (Rect.unit (s := S96x8x128) ![0, 0, 0] S96x8x128.size inb_S96x8x128_S96x8x128_0_0_0).toLoadRect (View.loadsAt_vmem h_S96x8x128)) fun x =>
  .op (.load B.mst (Rect.unit (s := S97x8x128) ![0, 0, 0] S96x8x128.size inb_S97x8x128_S96x8x128_0_0_0).toLoadRect (View.loadsAt_vmem h_S96x8x128)) fun _ =>
  .op (.store B.mst (Rect.unit (s := S97x8x128) ![0, 0, 0] S96x8x128.size inb_S97x8x128_S96x8x128_0_0_0) (k0_pay1944 x) Finset.univ (View.stores_vmem_bits_univ h_S96x8x128 rfl) (.inl rfl)) fun _ =>
  .op (.load B.l0 (Rect.unit (s := S96x8x128) ![0, 0, 0] S96x8x128.size inb_S96x8x128_S96x8x128_0_0_0).toLoadRect (View.loadsAt_vmem h_S96x8x128)) fun x =>
  .op (.load B.lst (Rect.unit (s := S97x8x128) ![0, 0, 0] S96x8x128.size inb_S97x8x128_S96x8x128_0_0_0).toLoadRect (View.loadsAt_vmem h_S96x8x128)) fun _ =>
  .op (.store B.lst (Rect.unit (s := S97x8x128) ![0, 0, 0] S96x8x128.size inb_S97x8x128_S96x8x128_0_0_0) (k0_pay1945 x) Finset.univ (View.stores_vmem_bits_univ h_S96x8x128 rfl) (.inl rfl)) fun _ =>
  k ⟨⟩

theorem part300_bind (v : BitVec 32) (k : PUnit.{1} → Pr F β) :
    (k0_part300 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v).bind k = (fun x : PUnit.{1} → Pr F β => if tailCond v = 1#1 then startTailK B sems 0 (by decide) (k0_off1 0) (k0_off1_inb 0) x else x ⟨⟩) fun _ =>
      startT B sems 1 (by decide) 256 (by decide) fun _ => startS B sems 1 (by decide) 256 (by decide) fun _ =>
      startKt B sems 1 (by decide) 0 1 (by decide) (by decide) k := by
  refine Eq.trans (congrArg (fun z => Prog.bind z k) (?_ : _ = (fun x : PUnit.{1} → Pr F PUnit.{1} => if tailCond v = 1#1 then startTailK B sems 0 (by decide) (k0_off1 0) (k0_off1_inb 0) x else x ⟨⟩) fun _ =>
      startT B sems 1 (by decide) 256 (by decide) fun _ => startS B sems 1 (by decide) 256 (by decide) fun _ =>
      startKt B sems 1 (by decide) 0 1 (by decide) (by decide) .ret)) (tail_bind B sems _ _ _ _ v _ k)
  rw [k0_part300_eq_skeleton]
  with_unfolding_all exact rfl

theorem part301_bind (k : PUnit.{1} → Pr F β) :
    (k0_part301 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems).bind k = startVt B sems 1 (by decide) 0 1 (by decide) (by decide) fun _ => winK B 528 (by decide) fun v =>
      (fun x : PUnit.{1} → Pr F β => if tailCond v = 1#1 then startTailK B sems 1 (by decide) (k0_off2 0) (k0_off2_inb 0) x else x ⟨⟩) fun _ =>
      startT B sems 2 (by decide) 512 (by decide) fun _ => startS B sems 2 (by decide) 512 (by decide) k := by
  refine Eq.trans (congrArg (fun z => Prog.bind z k) (?_ : _ = startVt B sems 1 (by decide) 0 1 (by decide) (by decide) fun _ => winK B 528 (by decide) fun v =>
      (fun x : PUnit.{1} → Pr F PUnit.{1} => if tailCond v = 1#1 then startTailK B sems 1 (by decide) (k0_off2 0) (k0_off2_inb 0) x else x ⟨⟩) fun _ =>
      startT B sems 2 (by decide) 512 (by decide) fun _ => startS B sems 2 (by decide) 512 (by decide) .ret)) ?_
  · rw [k0_part301_eq_skeleton]
    with_unfolding_all exact rfl
  · simp only [startT, startS, startKt, startVt, startTailK, winK, Prog.bind, ite_bind]

theorem part302_bind (k : PUnit.{1} → Pr F β) :
    (k0_part302 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems).bind k = startKt B sems 2 (by decide) 0 2 (by decide) (by decide) fun _ => startVt B sems 2 (by decide) 0 2 (by decide) (by decide) fun _ => winK B 800 (by decide) fun v =>
      (fun x : PUnit.{1} → Pr F β => if tailCond v = 1#1 then startTailK B sems 2 (by decide) (k0_off3 0) (k0_off3_inb 0) x else x ⟨⟩) fun _ =>
      startT B sems 3 (by decide) 768 (by decide) fun _ => startS B sems 3 (by decide) 768 (by decide) k := by
  refine Eq.trans (congrArg (fun z => Prog.bind z k) (?_ : _ = startKt B sems 2 (by decide) 0 2 (by decide) (by decide) fun _ => startVt B sems 2 (by decide) 0 2 (by decide) (by decide) fun _ => winK B 800 (by decide) fun v =>
      (fun x : PUnit.{1} → Pr F PUnit.{1} => if tailCond v = 1#1 then startTailK B sems 2 (by decide) (k0_off3 0) (k0_off3_inb 0) x else x ⟨⟩) fun _ =>
      startT B sems 3 (by decide) 768 (by decide) fun _ => startS B sems 3 (by decide) 768 (by decide) .ret)) ?_
  · rw [k0_part302_eq_skeleton]
    with_unfolding_all exact rfl
  · simp only [startT, startS, startKt, startVt, startTailK, winK, Prog.bind, ite_bind]

theorem part303_bind (k : PUnit.{1} → Pr F β) :
    (k0_part303 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems).bind k = startKt B sems 3 (by decide) 0 3 (by decide) (by decide) fun _ => startVt B sems 3 (by decide) 0 3 (by decide) (by decide) fun _ => winK B 1072 (by decide) fun v =>
      (fun x : PUnit.{1} → Pr F β => if tailCond v = 1#1 then startTailK B sems 3 (by decide) (k0_off4 0) (k0_off4_inb 0) x else x ⟨⟩) fun _ => initMLK B k := by
  refine Eq.trans (congrArg (fun z => Prog.bind z k) (?_ : _ = startKt B sems 3 (by decide) 0 3 (by decide) (by decide) fun _ => startVt B sems 3 (by decide) 0 3 (by decide) (by decide) fun _ => winK B 1072 (by decide) fun v =>
      (fun x : PUnit.{1} → Pr F PUnit.{1} => if tailCond v = 1#1 then startTailK B sems 3 (by decide) (k0_off4 0) (k0_off4_inb 0) x else x ⟨⟩) fun _ => initMLK B .ret)) ?_
  · rw [k0_part303_eq_skeleton]
    with_unfolding_all exact rfl
  · simp only [startT, startS, startKt, startVt, startTailK, initMLK, winK, Prog.bind, ite_bind]

theorem head_bind (k : PUnit.{1} → Pr F β) : (Prog.bind (k0_part299 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) fun v => Prog.bind (k0_part300 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v) fun _ =>
    Prog.bind (k0_part301 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) fun _ => Prog.bind (k0_part302 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) fun _ => Prog.bind (k0_part303 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) k)
      = startK B sems 0 (by decide) 0 0 0 256 (k0_off1 0) (by decide) (by decide) (by decide) (by decide) (k0_off1_inb 0) fun _ =>
  startK B sems 1 (by decide) 256 0 1 528 (k0_off2 0) (by decide) (by decide) (by decide) (by decide) (k0_off2_inb 0) fun _ =>
  startK B sems 2 (by decide) 512 0 2 800 (k0_off3 0) (by decide) (by decide) (by decide) (by decide) (k0_off3_inb 0) fun _ =>
  startK B sems 3 (by decide) 768 0 3 1072 (k0_off4 0) (by decide) (by decide) (by decide) (by decide) (k0_off4_inb 0) fun _ => initMLK B k := by
  simp only [part300_bind, part301_bind, part302_bind, part303_bind]
  rw [k0_part299_eq_skeleton]
  with_unfolding_all exact rfl

def checksK (a : Carry) (k : (Σ' (v169_0 : BitVec 32) (v169_1 : BitVec 32) (v169_2 : BitVec 32) (v169_3 : BitVec 32) (k0_hw29 : k0_chk29 v169_1) (k0_hw28 : k0_chk28 v169_2) (k0_hw27 : k0_chk27 v169_0) (k0_hw26 : k0_chk26 v169_3) (v170 : BitVec 32), BitVec 32) → Pr F β) : Pr F β :=
  .op (.assume (k0_chk29 a.2.1) (k0_chk29.dec a.2.1)) fun h29 =>
  .op (.assume (k0_chk28 a.2.2.1) (k0_chk28.dec a.2.2.1)) fun h28 =>
  .op (.assume (k0_chk27 a.1) (k0_chk27.dec a.1)) fun h27 =>
  .op (.assume (k0_chk26 a.2.2.2) (k0_chk26.dec a.2.2.2)) fun h26 =>
  k ⟨a.1, a.2.1, a.2.2.1, a.2.2.2, h29.down, h28.down, h27.down, h26.down, Scalar.addi a.1 1#32, Scalar.select (Scalar.cmpi .eq 4#32 0#32) 1#32 4#32⟩

theorem part305_bind {γ : Type} (k : _ → Pr F γ) :
    Prog.bind (k0_part305 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems (k0_pay1952 (F := F))) k
      = init305K B fun _ => Prog.bind (pairsK B sems) fun a => checksK a k := by
  refine Eq.trans (congrArg (fun z => Prog.bind z k) (?_ : _ = init305K B fun _ => Prog.bind (pairsK (F := F) B sems) fun a => checksK a .ret)) ?_
  · rw [k0_part305_eq_skeleton]
    with_unfolding_all exact rfl
  · unfold init305K checksK
    refine congrArg (Prog.op _) (funext fun _ => congrArg (Prog.op _) (funext fun _ => congrArg (Prog.op _) (funext fun _ => congrArg (Prog.op _) (funext fun _ => congrArg (Prog.op _) (funext fun _ => congrArg (Prog.op _) (funext fun _ => congrArg (Prog.op _) (funext fun _ => congrArg (Prog.op _) (funext fun _ => congrArg (Prog.op _) (funext fun _ => congrArg (Prog.op _) (funext fun _ => ?_))))))))))
    exact Prog.bind_assoc _ _ _

set_option pp.maxSteps 400 in
theorem attend_eq : cc0_attend (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems = attendK B sems := by
  rw [cc0_attend_eq_skeleton]
  refine Eq.trans (b := Prog.bind (k0_part299 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) fun v => Prog.bind (k0_part300 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems v) fun _ =>
    Prog.bind (k0_part301 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) fun _ => Prog.bind (k0_part302 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) fun _ => Prog.bind (k0_part303 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems) (?R : PUnit.{1} → Pr F PUnit.{1})) ?_ ?_
  rotate_left
  · with_unfolding_all exact rfl
  refine (head_bind B sems _).trans ?_
  unfold attendK headK
  refine congrArg _ (funext fun _ => congrArg _ (funext fun _ => congrArg _ (funext fun _ => congrArg _ (funext fun _ => ?_))))
  refine Eq.trans (b := initHeadK B fun _ => Prog.bind (k0_part305 (F := F) B.win B.hwin B.q B.hq B.ksel B.hksel B.m0 B.hm0 B.l0 B.hl0 B.o0 B.ho0 B.kt B.hkt B.vt B.hvt B.tbl B.htbl B.vst B.hvst B.out B.hout B.kbuf B.hkbuf B.vbuf B.hvbuf B.tbuf B.htbuf B.sbuf B.hsbuf B.kscr B.hkscr B.vscr B.hvscr B.cscr B.hcscr B.vsscr B.hvsscr B.sscr B.hsscr B.pscr B.hpscr B.ascr B.hascr B.lscr B.hlscr B.mst B.hmst B.lst B.hlst B.ost B.host sems (k0_pay1952 (F := F))) (?K : _ → Pr F PUnit.{1})) ?_ ?_
  rotate_left
  · with_unfolding_all exact rfl
  unfold initK
  refine congrArg _ (funext fun _ => ?_)
  rw [part305_bind]
  refine congrArg _ (funext fun _ => congrArg _ (funext fun a => ?_))
  unfold checksK drainK
  refine congrArg (Prog.op _) (funext fun h29 => congrArg (Prog.op _) (funext fun h28 => congrArg (Prog.op _) (funext fun h27 => congrArg (Prog.op _) (funext fun h26 => ?_))))
  with_unfolding_all exact rfl

end Cert.Attend

end
-- ==== Proof.Wpp.lean ====
/-
  A weakest precondition without separation for straight-line code: `Wpp` says of a program made of loads, stores and
  stated side conditions, run on a memory `mem` of which the elements `own` are held, that every access is to elements
  held and that the result and the memory after it satisfy the post. `wpp_sound` turns it into the logic's `wp`.
-/
module

public import Idealize.ShloMosaic.Rules.Step
public import Idealize.ShloMosaic.Lib.Scf

@[expose] public section

noncomputable section

namespace Cert.Attend

open Idealize.ShloMosaic
open Idealize.SL Idealize.SL.RA Idealize.SL.Sem Idealize.SL.ProofMode
open Idealize.SL.BI (sProp bigSep bigSep_insert bigSep_erase bigSep_congr)
open scoped Idealize.SL.BI
open Idealize.SL.BI.BIBase Idealize.SL.BI.Laws
open Classical

section
variable {nD : Nat} {τ : Topo} {sig : RefSig} {Val : EltTy → Type} {Λ : Labels}

/-- The contents of every buffer. -/
abbrev Mem (nD : Nat) (τ : Topo) (sig : RefSig) (Val : EltTy → Type) : Type := (ℓ : Loc nD τ sig) → Buf Val ℓ

/-- The elements of each buffer that are held. -/
abbrev Own (nD : Nat) (τ : Topo) (sig : RefSig) : Type := (ℓ : Loc nD τ sig) → Finset (Idx ℓ)

/-- A memory with one buffer's contents replaced. -/
def Mem.set (mem : Mem nD τ sig Val) (ℓ : Loc nD τ sig) (f : Buf Val ℓ) : Mem nD τ sig Val := Function.update mem ℓ f

theorem Mem.set_same (mem : Mem nD τ sig Val) (ℓ : Loc nD τ sig) (f : Buf Val ℓ) : mem.set ℓ f ℓ = f := by
  simp [Mem.set]

theorem Mem.set_ne (mem : Mem nD τ sig Val) {ℓ ℓ' : Loc nD τ sig} (f : Buf Val ℓ) (h : ℓ' ≠ ℓ) : mem.set ℓ f ℓ' = mem ℓ' := by
  simp [Mem.set, h]

/-- One effect: an access to elements held of a buffer of `L`, or a side condition that holds. -/
def effP (c : Thread nD τ) (L : Finset (Loc nD τ sig)) (own : Own nD τ sig) {β : Type} (e : TpuEff nD τ sig Val Λ c.2 β)
    (mem : Mem nD τ sig Val) (K : β → Mem nD τ sig Val → Prop) : Prop :=
  match e with
  | .load m r _ => m.view.loc c ∈ L ∧ m.view.setOn r.set ⊆ own (m.view.loc c) ∧ K (m.view.readAt Val r (mem (m.view.loc c))) mem
  | .store m r w M _ _ => (m.access r).loc c ∈ L ∧ (m.access r).setOn M ⊆ own ((m.access r).loc c)
      ∧ K ⟨⟩ (mem.set ((m.access r).loc c) ((m.access r).write Val (mem ((m.access r).loc c)) w M))
  | .assume P _ => ∃ h : P, K ⟨h⟩ mem
  | _ => False

/-- The program's accesses are to elements held, its side conditions hold, and what it returns and leaves satisfies `Q`. -/
def Wpp (c : Thread nD τ) (L : Finset (Loc nD τ sig)) (own : Own nD τ sig) {α : Type} :
    Prog (TpuEff nD τ sig Val Λ c.2) α → Mem nD τ sig Val → (α → Mem nD τ sig Val → Prop) → Prop
  | .ret a, mem, Q => Q a mem
  | .op e k, mem, Q => effP c L own e mem fun x mem' => Wpp c L own (k x) mem' Q

variable {c : Thread nD τ} {L : Finset (Loc nD τ sig)} {own : Own nD τ sig}

theorem effP_mono {β : Type} {e : TpuEff nD τ sig Val Λ c.2 β} {mem : Mem nD τ sig Val} {K K' : β → Mem nD τ sig Val → Prop}
    (h : ∀ x m, K x m → K' x m) : effP c L own e mem K → effP c L own e mem K' := by
  cases e <;> simp only [effP] <;> try exact id
  · rintro ⟨a, b, d⟩; exact ⟨a, b, h _ _ d⟩
  · rintro ⟨a, b, d⟩; exact ⟨a, b, h _ _ d⟩
  · rintro ⟨a, d⟩; exact ⟨a, h _ _ d⟩

theorem wpp_mono {α : Type} {p : Prog (TpuEff nD τ sig Val Λ c.2) α} {mem : Mem nD τ sig Val} {Q Q' : α → Mem nD τ sig Val → Prop}
    (h : ∀ x m, Q x m → Q' x m) : Wpp c L own p mem Q → Wpp c L own p mem Q' := by
  induction p generalizing mem with
  | ret a => exact h _ _
  | op e k ih => exact effP_mono fun x m => ih x

theorem wpp_bind {α β : Type} {p : Prog (TpuEff nD τ sig Val Λ c.2) α} {f : α → Prog (TpuEff nD τ sig Val Λ c.2) β}
    {mem : Mem nD τ sig Val} {Q : β → Mem nD τ sig Val → Prop} :
    Wpp c L own p mem (fun x m => Wpp c L own (f x) m Q) → Wpp c L own (p >>= f) mem Q := by
  induction p generalizing mem with
  | ret a => exact id
  | op e k ih => exact effP_mono fun x m => ih x

/-- A counted loop, by an invariant on the carried values and the memory. -/
theorem wpp_for {w : Nat} {σ : Type} {l : Scf.Loop w} {hok : l.OK} {init : σ} {body : Fin l.trips → σ → Prog (TpuEff nD τ sig Val Λ c.2) σ}
    {mem : Mem nD τ sig Val} {Q : σ → Mem nD τ sig Val → Prop} (I : Nat → σ → Mem nD τ sig Val → Prop) (h0 : I 0 init mem)
    (hs : ∀ (k : Fin l.trips) a m, I k a m → Wpp c L own (body k a) m (I (k + 1))) (hQ : ∀ a m, I l.trips a m → Q a m) :
    Wpp c L own (Scf.Loop.for l hok init body) mem Q := by
  rw [Scf.Loop.for, Scf.for_eq]
  have key : ∀ (j n : Nat) (hn : n + j = l.trips) (a : σ) (m : Mem nD τ sig Val), I n a m →
      Wpp c L own (Scf.forFrom body ((List.finRange l.trips).drop n) a) m Q := by
    intro j
    induction j with
    | zero =>
      intro n hn a m h
      rw [List.drop_of_length_le (by simp; omega), Scf.forFrom_nil]
      exact hQ a m (by have : n = l.trips := by omega
                       exact this ▸ h)
    | succ j ih =>
      intro n hn a m h
      have hlt : n < l.trips := by omega
      rw [List.drop_eq_getElem_cons (by simpa using hlt), List.getElem_finRange, Fin.cast_mk, Scf.forFrom_cons]
      exact wpp_bind (wpp_mono (fun a' m' h' => ih (n + 1) (by omega) a' m' h') (hs ⟨n, hlt⟩ a m h))
  exact key l.trips 0 (by omega) init mem h0

end

/-! ## Soundness -/

section
variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)

/-- The elements `own` of the buffers `L`, at the contents `mem`. -/
def St (L : Finset (Loc nD τ sig)) (own : Own nD τ sig) (mem : Mem nD τ sig Val) : sProp 𝕄 :=
  bigSep L fun ℓ => (ℓ ↦[own ℓ]{fullShare} mem ℓ)

theorem St_split {L : Finset (Loc nD τ sig)} {own : Own nD τ sig} {ℓ : Loc nD τ sig} (h : ℓ ∈ L) (mem : Mem nD τ sig Val) (f : Buf Val ℓ) :
    (St L own (mem.set ℓ f) : sProp 𝕄) = iprop((ℓ ↦[own ℓ]{fullShare} f) ∗ St (L.erase ℓ) own mem) := by
  unfold St
  rw [bigSep_erase h, Mem.set_same]
  congr 1
  exact bigSep_congr fun ℓ' h' => by rw [Mem.set_ne _ _ (Finset.ne_of_mem_erase h')]

theorem St_split' {L : Finset (Loc nD τ sig)} {own : Own nD τ sig} {ℓ : Loc nD τ sig} (h : ℓ ∈ L) (mem : Mem nD τ sig Val) :
    (St L own mem : sProp 𝕄) = iprop((ℓ ↦[own ℓ]{fullShare} mem ℓ) ∗ St (L.erase ℓ) own mem) := by
  have := St_split (Ix := Ix) (Name := Name) (U := U) (Lvl := Lvl) (own := own) h mem (mem ℓ)
  rwa [show mem.set ℓ (mem ℓ) = mem from by simp [Mem.set]] at this

theorem wpp_sound {α : Type} {L : Finset (Loc nD τ sig)} {own : Own nD τ sig} {p : Prog (TpuEff nD τ sig Val Λ c.2) α}
    {mem : Mem nD τ sig Val} {Q : α → Mem nD τ sig Val → Prop} {K : α → sProp 𝕄} (h : Wpp c L own p mem Q) :
    St L own mem ⊢ iprop((∀ x mem', iprop(⌜Q x mem'⌝) -∗ St L own mem' -∗ K x) -∗ wp frame (wpE' defs 𝒱 c bd Γ) E p K) := by
  induction p generalizing mem with
  | ret a =>
    rw [wp_ret]
    iintro HS HK
    imodintro
    iapply HK $$ %a %mem [] HS
    ipureintro; exact h
  | op e k ih =>
    change effP c L own e mem _ at h
    cases e <;> simp only [effP] at h
    case load m r hl =>
      obtain ⟨hL, hS, hk⟩ := h
      rw [St_split' hL]
      iintro ⟨Hl, HR⟩ HK
      iapply (wp_load 𝒱 c bd E hS) $$ Hl
      iintro Hl
      iapply (ih _ hk) $$ [Hl HR] HK
      rw [St_split' hL]; iframe
    case store m r w M hx hm =>
      obtain ⟨hL, hS, hk⟩ := h
      rw [St_split' hL]
      iintro ⟨Hl, HR⟩ HK
      iapply (wp_store 𝒱 c bd E hS) $$ Hl
      iintro Hl
      iapply (ih _ hk) $$ [Hl HR] HK
      rw [St_split hL]; iframe
    case assume P d =>
      obtain ⟨hP, hk⟩ := h
      iintro HS HK
      iapply (wp_assume 𝒱 c bd E hP)
      iapply (ih _ hk) $$ HS HK

end

end Cert.Attend

end
-- ==== Proof.Slots.lean ====
/-
  The attend kernel's buffers, the four slots of its double buffering, and what a transfer lands in a slot.
-/
module

public import proofs.«01_k».proof.Proof.Main
public import proofs.«01_k».proof.Proof.Wpp
public import proofs.«01_k».proof.Proof.Gen.Kernel.Frame
public import Idealize.ShloMosaic.Lib.MixedBatch
public import Idealize.ShloMosaic.Lib.ShareLeaves
public import Idealize.ShloMosaic.Lib.ValueLayout

@[expose] public section

set_option maxRecDepth 100000

noncomputable section

namespace Cert.Attend

open Cert.Kernel Cert.Kernel.Gen
open Idealize.ShloMosaic Idealize.ShloMosaic.TcCoe Idealize.ShloMosaic.ValueIdx Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's buffers. -/
def B0 : Bufs where
  win := Memref.whole cc0_stg0_0
  hwin := Memref.isWhole_whole _
  q := Memref.whole cc0_stg1_0
  hq := Memref.isWhole_whole _
  ksel := Memref.whole cc0_stg2_0
  hksel := Memref.isWhole_whole _
  m0 := Memref.whole cc0_stg3_0
  hm0 := Memref.isWhole_whole _
  l0 := Memref.whole cc0_stg4_0
  hl0 := Memref.isWhole_whole _
  o0 := Memref.whole cc0_stg5_0
  ho0 := Memref.isWhole_whole _
  kt := Memref.whole main_arg6
  hkt := Memref.isWhole_whole _
  vt := Memref.whole main_arg7
  hvt := Memref.isWhole_whole _
  tbl := Memref.whole main_arg8
  htbl := Memref.isWhole_whole _
  vst := Memref.whole main_arg9
  hvst := Memref.isWhole_whole _
  out := Memref.whole cc0_stg6_0
  hout := Memref.isWhole_whole _
  kbuf := Memref.whole cc0_scratch0
  hkbuf := Memref.isWhole_whole _
  vbuf := Memref.whole cc0_scratch1
  hvbuf := Memref.isWhole_whole _
  tbuf := Memref.whole cc0_scratch2
  htbuf := Memref.isWhole_whole _
  sbuf := Memref.whole cc0_scratch3
  hsbuf := Memref.isWhole_whole _
  kscr := Memref.whole cc0_scratch4
  hkscr := Memref.isWhole_whole _
  vscr := Memref.whole cc0_scratch5
  hvscr := Memref.isWhole_whole _
  cscr := Memref.whole cc0_scratch6
  hcscr := Memref.isWhole_whole _
  vsscr := Memref.whole cc0_scratch7
  hvsscr := Memref.isWhole_whole _
  sscr := Memref.whole cc0_scratch8
  hsscr := Memref.isWhole_whole _
  pscr := Memref.whole cc0_scratch9
  hpscr := Memref.isWhole_whole _
  ascr := Memref.whole cc0_scratch10
  hascr := Memref.isWhole_whole _
  lscr := Memref.whole cc0_scratch11
  hlscr := Memref.isWhole_whole _
  mst := Memref.whole cc0_scratch12
  hmst := Memref.isWhole_whole _
  lst := Memref.whole cc0_scratch13
  hlst := Memref.isWhole_whole _
  ost := Memref.whole cc0_scratch14
  host := Memref.isWhole_whole _

theorem body_eq (t : Fin cfg0.N) : bodyAt0 (F := F) t = attendK B0 cc0_scratch15 :=
  Eq.trans (b := cc0_attend (F := F) B0.win B0.hwin B0.q B0.hq B0.ksel B0.hksel B0.m0 B0.hm0 B0.l0 B0.hl0 B0.o0 B0.ho0 B0.kt B0.hkt B0.vt B0.hvt B0.tbl B0.htbl B0.vst B0.hvst B0.out B0.hout B0.kbuf B0.hkbuf B0.vbuf B0.hvbuf B0.tbuf B0.htbuf B0.sbuf B0.hsbuf B0.kscr B0.hkscr B0.vscr B0.hvscr B0.cscr B0.hcscr B0.vsscr B0.hvsscr B0.sscr B0.hsscr B0.pscr B0.hpscr B0.ascr B0.hascr B0.lscr B0.hlscr B0.mst B0.hmst B0.lst B0.hlst B0.ost B0.host cc0_scratch15)
    rfl (attend_eq B0 cc0_scratch15)

/-! ## Where the views lie -/

/-- The elements of slot `sl` of a code buffer. -/
def kSet (sl : Nat) : Finset S4x96x32768.Idx := Finset.univ.filter fun x => (x 0).val = sl
/-- The first 80 rows of slot `sl` of a table buffer. -/
def hSet (sl : Nat) : Finset S4x256x128.Idx := Finset.univ.filter fun x => (x 0).val = sl ∧ (x 1).val < 80
/-- The other rows. -/
def lSet (sl : Nat) : Finset S4x256x128.Idx := Finset.univ.filter fun x => (x 0).val = sl ∧ 80 ≤ (x 1).val
/-- Both. -/
def tSet (sl : Nat) : Finset S4x256x128.Idx := Finset.univ.filter fun x => (x 0).val = sl

theorem squeeze_mem {κ : Kind} (b : Ref sig κ) (off size : Fin b.ty.shape.rank → Nat) (inb : ∀ a, off a + size a ≤ b.ty.shape.size a)
    (hr) (s' : Shape) (hq : (Rect.unit off size inb).shape.Squeezes s') (x : b.ty.shape.Idx) :
    x ∈ (((Memref.whole b).slice (Rect.unit off size inb) hr).squeeze s' hq).view.set ↔ ∀ a, off a ≤ (x a).val ∧ (x a).val < off a + size a := by
  refine (Iff.of_eq (congrArg (x ∈ ·) ((View.set_reshape _ _).trans (View.set_slice_whole _ _)))).trans ?_
  exact Rect.mem_set_unit

theorem k_rect (sl : Nat) (x : S4x96x32768.Idx) :
    (∀ a : Fin 3, (![sl, 0, 0] : Fin 3 → Nat) a ≤ (x a).val ∧ (x a).val < (![sl, 0, 0] : Fin 3 → Nat) a + (![1, 96, 32768] : Fin 3 → Nat) a) ↔ x ∈ kSet sl := by
  unfold kSet
  rw [Finset.mem_filter]
  have h1 : (x 1).val < 96 := (x 1).isLt
  have h2 : (x 2).val < 32768 := (x 2).isLt
  constructor
  · intro H; have := H 0; simp at this; simp; omega
  · rintro ⟨-, H⟩ a; fin_cases a <;> simp <;> omega

theorem h_rect (sl : Nat) (x : S4x256x128.Idx) :
    (∀ a : Fin 3, (![sl, 0, 0] : Fin 3 → Nat) a ≤ (x a).val ∧ (x a).val < (![sl, 0, 0] : Fin 3 → Nat) a + (![1, 80, 128] : Fin 3 → Nat) a) ↔ x ∈ hSet sl := by
  unfold hSet
  rw [Finset.mem_filter]
  have h1 : (x 1).val < 256 := (x 1).isLt
  have h2 : (x 2).val < 128 := (x 2).isLt
  constructor
  · intro H; have a := H 0; have b := H 1; simp at a b; refine ⟨Finset.mem_univ _, ?_, ?_⟩ <;> omega
  · rintro ⟨-, H⟩ a; fin_cases a <;> simp <;> omega

theorem l_rect (sl : Nat) (x : S4x256x128.Idx) :
    (∀ a : Fin 3, (![sl, 80, 0] : Fin 3 → Nat) a ≤ (x a).val ∧ (x a).val < (![sl, 80, 0] : Fin 3 → Nat) a + (![1, 176, 128] : Fin 3 → Nat) a) ↔ x ∈ lSet sl := by
  unfold lSet
  rw [Finset.mem_filter]
  have h1 : (x 1).val < 256 := (x 1).isLt
  have h2 : (x 2).val < 128 := (x 2).isLt
  constructor
  · intro H; have a := H 0; have b := H 1; simp at a b; refine ⟨Finset.mem_univ _, ?_, ?_⟩ <;> omega
  · rintro ⟨-, H⟩ a; fin_cases a <;> simp <;> omega

theorem kSlot_set (sl : Nat) (h : sl + 1 ≤ 4) : (kSlot B0 sl h).view.set = kSet sl :=
  Finset.ext fun (x : S4x96x32768.Idx) => (squeeze_mem cc0_scratch0 ![sl, 0, 0] S1x96x32768.size (inb3 h (by decide) (by decide)) (fun _ => rfl) S96x32768 squeezes_S1x96x32768_S96x32768 x).trans (k_rect sl x)
theorem vSlot_set (sl : Nat) (h : sl + 1 ≤ 4) : (vSlot B0 sl h).view.set = kSet sl :=
  Finset.ext fun (x : S4x96x32768.Idx) => (squeeze_mem cc0_scratch1 ![sl, 0, 0] S1x96x32768.size (inb3 h (by decide) (by decide)) (fun _ => rfl) S96x32768 squeezes_S1x96x32768_S96x32768 x).trans (k_rect sl x)
theorem tHead_set (sl : Nat) (h : sl + 1 ≤ 4) : (tHead B0 sl h).view.set = hSet sl :=
  Finset.ext fun (x : S4x256x128.Idx) => (squeeze_mem cc0_scratch2 ![sl, 0, 0] S1x80x128.size (inb3 h (by decide) (by decide)) (fun _ => rfl) S80x128 squeezes_S1x80x128_S80x128 x).trans (h_rect sl x)
theorem sHead_set (sl : Nat) (h : sl + 1 ≤ 4) : (sHead B0 sl h).view.set = hSet sl :=
  Finset.ext fun (x : S4x256x128.Idx) => (squeeze_mem cc0_scratch3 ![sl, 0, 0] S1x80x128.size (inb3 h (by decide) (by decide)) (fun _ => rfl) S80x128 squeezes_S1x80x128_S80x128 x).trans (h_rect sl x)
theorem tTail_set (sl : Nat) (h : sl + 1 ≤ 4) : (tTail B0 sl h).view.set = lSet sl :=
  Finset.ext fun (x : S4x256x128.Idx) => (squeeze_mem cc0_scratch2 ![sl, 80, 0] S1x176x128.size (inb3 h (by decide) (by decide)) (fun _ => rfl) S176x128 squeezes_S1x176x128_S176x128 x).trans (l_rect sl x)
theorem sTail_set (sl : Nat) (h : sl + 1 ≤ 4) : (sTail B0 sl h).view.set = lSet sl :=
  Finset.ext fun (x : S4x256x128.Idx) => (squeeze_mem cc0_scratch3 ![sl, 80, 0] S1x176x128.size (inb3 h (by decide) (by decide)) (fun _ => rfl) S176x128 squeezes_S1x176x128_S176x128 x).trans (l_rect sl x)

/-! ## What lands -/

abbrev tblIx (n : Nat) (l : Fin 128) : S24576x128.Idx := ix2 (⟨n % 24576, Nat.mod_lt _ (by decide)⟩ : Fin 24576) l

/-- Pair `p`'s codes as they lie in a slot. -/
def kImg (kt : Vec F S12x8x96x32768 .i8) (p : Nat) : Vec F S4x96x32768 .i8 := fun x =>
  kt (ix4 (⟨p / 8 % 12, Nat.mod_lt _ (by decide)⟩ : Fin 12) (⟨p % 8, Nat.mod_lt _ (by decide)⟩ : Fin 8) (x 1) (x 2))
/-- Pair `p`'s rows of a table as they lie in a slot. -/
def tImg {e : EltTy} (tbl : Vec F S24576x128 e) (p : Nat) : Vec F S4x256x128 e := fun x => tbl (tblIx (256 * p + (x 1).val) (x 2))

theorem emb2 {n m a b : Nat} (o0 o1 : Nat) (inb) (y : Fin a) (z : Fin b) (w : (⟨2, ![n, m]⟩ : Shape).Idx)
    (h0 : o0 + y.val = (w 0).val) (h1 : o1 + z.val = (w 1).val) :
    (Rect.unit (s := ⟨2, ![n, m]⟩) ![o0, o1] (⟨2, ![a, b]⟩ : Shape).size inb).emb (ix2 y z) = w := by
  funext i; apply Fin.ext; rw [Rect.emb_apply]
  fin_cases i
  · simpa using h0
  · simpa using h1

theorem emb3 {n m l a b c : Nat} (o0 o1 o2 : Nat) (inb) (x : Fin a) (y : Fin b) (z : Fin c) (w : (⟨3, ![n, m, l]⟩ : Shape).Idx)
    (h0 : o0 + x.val = (w 0).val) (h1 : o1 + y.val = (w 1).val) (h2 : o2 + z.val = (w 2).val) :
    (Rect.unit (s := ⟨3, ![n, m, l]⟩) ![o0, o1, o2] (⟨3, ![a, b, c]⟩ : Shape).size inb).emb (ix3 x y z) = w := by
  funext i; apply Fin.ext; rw [Rect.emb_apply]
  fin_cases i
  · simpa using h0
  · simpa using h1
  · simpa using h2

theorem emb4 {n m l k a b c d : Nat} (o0 o1 o2 o3 : Nat) (inb) (x : Fin a) (y : Fin b) (z : Fin c) (u : Fin d) (w : (⟨4, ![n, m, l, k]⟩ : Shape).Idx)
    (h0 : o0 + x.val = (w 0).val) (h1 : o1 + y.val = (w 1).val) (h2 : o2 + z.val = (w 2).val) (h3 : o3 + u.val = (w 3).val) :
    (Rect.unit (s := ⟨4, ![n, m, l, k]⟩) ![o0, o1, o2, o3] (⟨4, ![a, b, c, d]⟩ : Shape).size inb).emb (ix4 x y z u) = w := by
  funext i; apply Fin.ext; rw [Rect.emb_apply]
  fin_cases i
  · simpa using h0
  · simpa using h1
  · simpa using h2
  · simpa using h3

theorem write_at {κ : Kind} {ms : Space} {s : Shape} {e : EltTy} (v : View sig κ ms s e) (fd : v.ty.Contents (Elt F)) (w : s.Idx → Elt F e) {i : s.Idx} {j : v.ty.Idx}
    (h : v.emb i = j) : v.write (Elt F) fd w Finset.univ j = cast (congrArg (Elt F) v.elt_eq.symm) (w i) := by
  subst h; exact View.write_emb_of_mem fd w (Finset.mem_univ i)

theorem kSlot_emb (sl : Nat) (h : sl + 1 ≤ 4) (x : S4x96x32768.Idx) (hx : x ∈ kSet sl) : (kSlot B0 sl h).view.emb (ix2 (x 1) (x 2)) = x :=
  (congrArg (Rect.unit (s := S4x96x32768) ![sl, 0, 0] S1x96x32768.size (inb3 h (by decide) (by decide))).emb (reshapeEquiv_ix2_1ab _ _ _)).trans (emb3 _ _ _ _ _ _ _ _ (by have e := (Finset.mem_filter.mp hx).2; simp [e]) (by simp) (by simp))

theorem ktPair_emb (p : Nat) (hb : p / 8 + 1 ≤ 12) (hg : p % 8 + 1 ≤ 8) (r : Fin 96) (l : Fin 32768) : (ktPair B0 (p / 8) (p % 8) hb hg).view.emb (ix2 r l)
    = (ix4 (⟨p / 8 % 12, Nat.mod_lt _ (by decide)⟩ : Fin 12) (⟨p % 8, Nat.mod_lt _ (by decide)⟩ : Fin 8) r l : S12x8x96x32768.Idx) :=
  (congrArg (Rect.unit (s := S12x8x96x32768) ![p / 8, p % 8, 0, 0] S1x1x96x32768.size (inb4 hb hg (by decide) (by decide))).emb (reshapeEquiv_ix2_11ab _ _ _)).trans
    (emb4 _ _ _ _ _ _ _ _ _ _ (by simp [Nat.mod_eq_of_lt hb]) (by simp) (by simp) (by simp))

theorem land_k (kt : Vec F S12x8x96x32768 .i8) (fd : Vec F S4x96x32768 .i8) (sl : Nat) (h : sl + 1 ≤ 4) (p : Nat) (hb : p / 8 + 1 ≤ 12) (hg : p % 8 + 1 ≤ 8)
    (x : S4x96x32768.Idx) (hx : x ∈ kSet sl) :
    (kSlot B0 sl h).view.write (Elt F) fd (ReadAs.same.apply ((ktPair B0 (p / 8) (p % 8) hb hg).view.read (Elt F) kt)) Finset.univ x = kImg kt p x := by
  refine (write_at (kSlot B0 sl h).view fd _ (kSlot_emb sl h x hx)).trans ?_
  refine (congrArg kt (ktPair_emb _ _ _ _ _)).trans ?_; rfl

theorem vSlot_emb (sl : Nat) (h : sl + 1 ≤ 4) (x : S4x96x32768.Idx) (hx : x ∈ kSet sl) : (vSlot B0 sl h).view.emb (ix2 (x 1) (x 2)) = x :=
  (congrArg (Rect.unit (s := S4x96x32768) ![sl, 0, 0] S1x96x32768.size (inb3 h (by decide) (by decide))).emb (reshapeEquiv_ix2_1ab _ _ _)).trans (emb3 _ _ _ _ _ _ _ _ (by have e := (Finset.mem_filter.mp hx).2; simp [e]) (by simp) (by simp))

theorem vtPair_emb (p : Nat) (hb : p / 8 + 1 ≤ 12) (hg : p % 8 + 1 ≤ 8) (r : Fin 96) (l : Fin 32768) : (vtPair B0 (p / 8) (p % 8) hb hg).view.emb (ix2 r l)
    = (ix4 (⟨p / 8 % 12, Nat.mod_lt _ (by decide)⟩ : Fin 12) (⟨p % 8, Nat.mod_lt _ (by decide)⟩ : Fin 8) r l : S12x8x96x32768.Idx) :=
  (congrArg (Rect.unit (s := S12x8x96x32768) ![p / 8, p % 8, 0, 0] S1x1x96x32768.size (inb4 hb hg (by decide) (by decide))).emb (reshapeEquiv_ix2_11ab _ _ _)).trans
    (emb4 _ _ _ _ _ _ _ _ _ _ (by simp [Nat.mod_eq_of_lt hb]) (by simp) (by simp) (by simp))

theorem land_v (kt : Vec F S12x8x96x32768 .i8) (fd : Vec F S4x96x32768 .i8) (sl : Nat) (h : sl + 1 ≤ 4) (p : Nat) (hb : p / 8 + 1 ≤ 12) (hg : p % 8 + 1 ≤ 8)
    (x : S4x96x32768.Idx) (hx : x ∈ kSet sl) :
    (vSlot B0 sl h).view.write (Elt F) fd (ReadAs.same.apply ((vtPair B0 (p / 8) (p % 8) hb hg).view.read (Elt F) kt)) Finset.univ x = kImg kt p x := by
  refine (write_at (vSlot B0 sl h).view fd _ (vSlot_emb sl h x hx)).trans ?_
  refine (congrArg kt (vtPair_emb _ _ _ _ _)).trans ?_; rfl

theorem tHead_emb (sl : Nat) (h : sl + 1 ≤ 4) (x : S4x256x128.Idx) (hx : x ∈ hSet sl) (y : Fin 80) (hy : 0 + y.val = (x 1).val) : (tHead B0 sl h).view.emb (ix2 y (x 2)) = x :=
  (congrArg (Rect.unit (s := S4x256x128) ![sl, 0, 0] S1x80x128.size (inb3 h (by decide) (by decide))).emb (reshapeEquiv_ix2_1ab _ _ _)).trans (emb3 _ _ _ _ _ _ _ _ (by have e := (Finset.mem_filter.mp hx).2.1; simp [e]) (by simp [← hy]) (by simp))

theorem tblHead_emb (r : Nat) (hr : r + 80 ≤ 24576) (y : Fin 80) (l : Fin 128) : (tblHead B0 r hr).view.emb (ix2 y l) = tblIx (r + y.val) l :=
  emb2 _ _ _ _ _ _ (by simp [Nat.mod_eq_of_lt (show r + y.val < 24576 by omega)]) (by simp)

theorem land_tHead (kt : Vec F S24576x128 .i32) (fd : Vec F S4x256x128 .i32) (sl : Nat) (h : sl + 1 ≤ 4) (p : Nat) (hr : 256 * p + 0 + 80 ≤ 24576)
    (x : S4x256x128.Idx) (hx : x ∈ hSet sl) :
    (tHead B0 sl h).view.write (Elt F) fd (ReadAs.same.apply ((tblHead B0 (256 * p + 0) hr).view.read (Elt F) kt)) Finset.univ x = tImg kt p x := by
  obtain ⟨h0, h1⟩ := (Finset.mem_filter.mp hx).2
  have h1' : (x 1).val < 256 := (x 1).isLt
  have hy : 0 + ((⟨(x 1).val - 0, by omega⟩ : Fin 80)).val = (x 1).val := by simp only; omega
  refine (write_at (tHead B0 sl h).view fd _ (tHead_emb sl h x hx _ hy)).trans ?_
  refine (congrArg kt (tblHead_emb _ _ _ _)).trans ?_
  unfold tImg
  rw [Nat.add_assoc, hy]

theorem sHead_emb (sl : Nat) (h : sl + 1 ≤ 4) (x : S4x256x128.Idx) (hx : x ∈ hSet sl) (y : Fin 80) (hy : 0 + y.val = (x 1).val) : (sHead B0 sl h).view.emb (ix2 y (x 2)) = x :=
  (congrArg (Rect.unit (s := S4x256x128) ![sl, 0, 0] S1x80x128.size (inb3 h (by decide) (by decide))).emb (reshapeEquiv_ix2_1ab _ _ _)).trans (emb3 _ _ _ _ _ _ _ _ (by have e := (Finset.mem_filter.mp hx).2.1; simp [e]) (by simp [← hy]) (by simp))

theorem vstHead_emb (r : Nat) (hr : r + 80 ≤ 24576) (y : Fin 80) (l : Fin 128) : (vstHead B0 r hr).view.emb (ix2 y l) = tblIx (r + y.val) l :=
  emb2 _ _ _ _ _ _ (by simp [Nat.mod_eq_of_lt (show r + y.val < 24576 by omega)]) (by simp)

theorem land_sHead (kt : Vec F S24576x128 .f32) (fd : Vec F S4x256x128 .f32) (sl : Nat) (h : sl + 1 ≤ 4) (p : Nat) (hr : 256 * p + 0 + 80 ≤ 24576)
    (x : S4x256x128.Idx) (hx : x ∈ hSet sl) :
    (sHead B0 sl h).view.write (Elt F) fd (ReadAs.same.apply ((vstHead B0 (256 * p + 0) hr).view.read (Elt F) kt)) Finset.univ x = tImg kt p x := by
  obtain ⟨h0, h1⟩ := (Finset.mem_filter.mp hx).2
  have h1' : (x 1).val < 256 := (x 1).isLt
  have hy : 0 + ((⟨(x 1).val - 0, by omega⟩ : Fin 80)).val = (x 1).val := by simp only; omega
  refine (write_at (sHead B0 sl h).view fd _ (sHead_emb sl h x hx _ hy)).trans ?_
  refine (congrArg kt (vstHead_emb _ _ _ _)).trans ?_
  unfold tImg
  rw [Nat.add_assoc, hy]

theorem tTail_emb (sl : Nat) (h : sl + 1 ≤ 4) (x : S4x256x128.Idx) (hx : x ∈ lSet sl) (y : Fin 176) (hy : 80 + y.val = (x 1).val) : (tTail B0 sl h).view.emb (ix2 y (x 2)) = x :=
  (congrArg (Rect.unit (s := S4x256x128) ![sl, 80, 0] S1x176x128.size (inb3 h (by decide) (by decide))).emb (reshapeEquiv_ix2_1ab _ _ _)).trans (emb3 _ _ _ _ _ _ _ _ (by have e := (Finset.mem_filter.mp hx).2.1; simp [e]) (by simp [← hy]) (by simp))

theorem tblTail_emb (r : Nat) (hr : r + 176 ≤ 24576) (y : Fin 176) (l : Fin 128) : (tblTail B0 r hr).view.emb (ix2 y l) = tblIx (r + y.val) l :=
  emb2 _ _ _ _ _ _ (by simp [Nat.mod_eq_of_lt (show r + y.val < 24576 by omega)]) (by simp)

theorem land_tTail (kt : Vec F S24576x128 .i32) (fd : Vec F S4x256x128 .i32) (sl : Nat) (h : sl + 1 ≤ 4) (p : Nat) (hr : 256 * p + 80 + 176 ≤ 24576)
    (x : S4x256x128.Idx) (hx : x ∈ lSet sl) :
    (tTail B0 sl h).view.write (Elt F) fd (ReadAs.same.apply ((tblTail B0 (256 * p + 80) hr).view.read (Elt F) kt)) Finset.univ x = tImg kt p x := by
  obtain ⟨h0, h1⟩ := (Finset.mem_filter.mp hx).2
  have h1' : (x 1).val < 256 := (x 1).isLt
  have hy : 80 + ((⟨(x 1).val - 80, by omega⟩ : Fin 176)).val = (x 1).val := by simp only; omega
  refine (write_at (tTail B0 sl h).view fd _ (tTail_emb sl h x hx _ hy)).trans ?_
  refine (congrArg kt (tblTail_emb _ _ _ _)).trans ?_
  unfold tImg
  rw [Nat.add_assoc, hy]

theorem sTail_emb (sl : Nat) (h : sl + 1 ≤ 4) (x : S4x256x128.Idx) (hx : x ∈ lSet sl) (y : Fin 176) (hy : 80 + y.val = (x 1).val) : (sTail B0 sl h).view.emb (ix2 y (x 2)) = x :=
  (congrArg (Rect.unit (s := S4x256x128) ![sl, 80, 0] S1x176x128.size (inb3 h (by decide) (by decide))).emb (reshapeEquiv_ix2_1ab _ _ _)).trans (emb3 _ _ _ _ _ _ _ _ (by have e := (Finset.mem_filter.mp hx).2.1; simp [e]) (by simp [← hy]) (by simp))

theorem vstTail_emb (r : Nat) (hr : r + 176 ≤ 24576) (y : Fin 176) (l : Fin 128) : (vstTail B0 r hr).view.emb (ix2 y l) = tblIx (r + y.val) l :=
  emb2 _ _ _ _ _ _ (by simp [Nat.mod_eq_of_lt (show r + y.val < 24576 by omega)]) (by simp)

theorem land_sTail (kt : Vec F S24576x128 .f32) (fd : Vec F S4x256x128 .f32) (sl : Nat) (h : sl + 1 ≤ 4) (p : Nat) (hr : 256 * p + 80 + 176 ≤ 24576)
    (x : S4x256x128.Idx) (hx : x ∈ lSet sl) :
    (sTail B0 sl h).view.write (Elt F) fd (ReadAs.same.apply ((vstTail B0 (256 * p + 80) hr).view.read (Elt F) kt)) Finset.univ x = tImg kt p x := by
  obtain ⟨h0, h1⟩ := (Finset.mem_filter.mp hx).2
  have h1' : (x 1).val < 256 := (x 1).isLt
  have hy : 80 + ((⟨(x 1).val - 80, by omega⟩ : Fin 176)).val = (x 1).val := by simp only; omega
  refine (write_at (sTail B0 sl h).view fd _ (sTail_emb sl h x hx _ hy)).trans ?_
  refine (congrArg kt (vstTail_emb _ _ _ _)).trans ?_
  unfold tImg
  rw [Nat.add_assoc, hy]
end Cert.Attend

end
-- ==== Proof.Dma.lean ====
/-
  A slot's transfers: what a slot holds when nothing is under way (`Idle`), while a pair's transfers are under way
  (`Flight`), and when they have landed (`Landed`); starting takes the first to the second and waiting the second to the
  third.
-/
module

public import proofs.«01_k».proof.Proof.Slots

@[expose] public section

set_option maxRecDepth 100000

noncomputable section

namespace Cert.Attend

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.ShareLeaves Idealize.ShloMosaic.Transfers

variable {F : FTy → Type} [FloatOps F]

local notation "𝕄" => MT nD τ sig Unit (Elt F) ℕ (Pipeline.UD sig nD τ) ℕ
local notation "EC" => (countersEmb (U := Pipeline.UD sig nD τ))

/-- What the four arguments left in HBM hold. -/
structure Hbm (F : FTy → Type) [FloatOps F] where
  kt : Vec F S12x8x96x32768 .i8
  vt : Vec F S12x8x96x32768 .i8
  tbl : Vec F S24576x128 .i32
  vst : Vec F S24576x128 .f32

variable (c : Dev nD) (H : Hbm F)

/-! ## Elements held -/

abbrev at_ (b : Ref sig .tc) : Loc nD τ sig := (c : Thread nD τ).loc b

def pK (S : Finset S4x96x32768.Idx) (f : Vec F S4x96x32768 .i8) : sProp 𝕄 := at_ c cc0_scratch0 ↦[S]{fullShare} f
def pV (S : Finset S4x96x32768.Idx) (f : Vec F S4x96x32768 .i8) : sProp 𝕄 := at_ c cc0_scratch1 ↦[S]{fullShare} f
def pT (S : Finset S4x256x128.Idx) (f : Vec F S4x256x128 .i32) : sProp 𝕄 := at_ c cc0_scratch2 ↦[S]{fullShare} f
def pS (S : Finset S4x256x128.Idx) (f : Vec F S4x256x128 .f32) : sProp 𝕄 := at_ c cc0_scratch3 ↦[S]{fullShare} f
def hK (S : Finset S12x8x96x32768.Idx) (q : PosShare TreeShare) : sProp 𝕄 := at_ c main_arg6 ↦[S]{q} H.kt
def hV (S : Finset S12x8x96x32768.Idx) (q : PosShare TreeShare) : sProp 𝕄 := at_ c main_arg7 ↦[S]{q} H.vt
def hT (S : Finset S24576x128.Idx) (q : PosShare TreeShare) : sProp 𝕄 := at_ c main_arg8 ↦[S]{q} H.tbl
def hS (S : Finset S24576x128.Idx) (q : PosShare TreeShare) : sProp 𝕄 := at_ c main_arg9 ↦[S]{q} H.vst

/-- A slot's shares: of the codes, of the tables' first rows, of the tables' other rows. -/
def shK (s : Fin 4) : PosShare TreeShare := leaf 2 fullShare s
def shH (s : Fin 4) : PosShare TreeShare := leaf 3 fullShare ⟨s.val, by omega⟩
def shL (s : Fin 4) : PosShare TreeShare := leaf 3 fullShare ⟨4 + s.val, by omega⟩

theorem pb (p : Fin 96) : p.val / 8 + 1 ≤ 12 := by omega
theorem pg (p : Fin 96) : p.val % 8 + 1 ≤ 8 := by omega
theorem ph (p : Fin 96) : 256 * p.val + 80 ≤ 24576 := by omega
theorem pl (p : Fin 96) : 256 * p.val + 80 + 176 ≤ 24576 := by omega

def sKt (p : Fin 96) : Finset S12x8x96x32768.Idx := (ktPair B0 (p.val / 8) (p.val % 8) (pb p) (pg p)).view.set
def sVt (p : Fin 96) : Finset S12x8x96x32768.Idx := (vtPair B0 (p.val / 8) (p.val % 8) (pb p) (pg p)).view.set
def sTh (p : Fin 96) : Finset S24576x128.Idx := (tblHead B0 (256 * p.val) (ph p)).view.set
def sSh (p : Fin 96) : Finset S24576x128.Idx := (vstHead B0 (256 * p.val) (ph p)).view.set
def sTl (p : Fin 96) : Finset S24576x128.Idx := (tblTail B0 (256 * p.val + 80) (pl p)).view.set
def sSl (p : Fin 96) : Finset S24576x128.Idx := (vstTail B0 (256 * p.val + 80) (pl p)).view.set

/-! ## The batch -/

theorem h4 : 4 ≤ 6 := by decide

/-- The amounts of a slot's transfers, in order. -/
def A6 : Fin 6 → ℕ := ![1280, 1280, 98304, 98304, 2816, 2816]

/-- What each delivers. -/
def D6 (s : Fin 4) (p : Fin 96) : Fin 6 → sProp 𝕄
  | 0 => iprop(pT c (hSet s.val) (tImg H.tbl p.val) ∗ hT c H (sTh p) (shH s))
  | 1 => iprop(pS c (hSet s.val) (tImg H.vst p.val) ∗ hS c H (sSh p) (shH s))
  | 2 => iprop(pK c (kSet s.val) (kImg H.kt p.val) ∗ hK c H (sKt p) (shK s))
  | 3 => iprop(pV c (kSet s.val) (kImg H.vt p.val) ∗ hV c H (sVt p) (shK s))
  | 4 => iprop(pT c (lSet s.val) (tImg H.tbl p.val) ∗ hT c H (sTl p) (shL s))
  | 5 => iprop(pS c (lSet s.val) (tImg H.vst p.val) ∗ hS c H (sSl p) (shL s))

instance D6_storable (s : Fin 4) (p : Fin 96) (t : Fin 6) : Storable (upEmb : UEmb _ 𝕄) (D6 c H s p t) := by
  fin_cases t <;> simp only [D6, pK, pV, pT, pS, hK, hV, hT, hS] <;> infer_instance

abbrev cellOf' (s : Fin 4) : SemLoc sig := SemLoc.dma (semOf cc0_scratch15 s.val s.isLt)

def An (n : ℕ) (hn : n ≤ 6) : Fin n → ℕ := fun i => A6 (Fin.castLE hn i)
def Dn (n : ℕ) (hn : n ≤ 6) (s : Fin 4) (p : Fin 96) : Fin n → sProp 𝕄 := fun i => D6 c H s p (Fin.castLE hn i)
instance Dn_storable (n : ℕ) (hn : n ≤ 6) (s : Fin 4) (p : Fin 96) (t : Fin n) : Storable (upEmb : UEmb _ 𝕄) (Dn c H n hn s p t) :=
  D6_storable c H s p _

def MB (n : ℕ) (hn : n ≤ 6) (s : Fin 4) (p : Fin 96) (j u : ℕ) : sProp 𝕄 :=
  MixedBatch EC (c : Thread nD τ) (cellOf' s) () (An n hn) (Dn c H n hn s p) j u

theorem MB_alloc (n : ℕ) (hn : n ≤ 6) (s : Fin 4) (p : Fin 96) :
    (semVal ((c : Thread nD τ), cellOf' s) 0 : sProp 𝕄) ⊢ |={Set.univ}=> MB c H n hn s p 0 0 :=
  mixedBatch_alloc' (Lvl := ℕ) EC (c : Thread nD τ) () (An n hn) (Dn c H n hn s p) (sm := cellOf' s) (E := Set.univ)

variable {β : Type}

abbrev wpA (p : Pr F β) (Q : β → sProp 𝕄) : sProp 𝕄 := wp frame (wpE (defs₀ (F := F)) Variants.none (c : Thread nD τ) none) Set.univ p Q

theorem startT_spec (n : ℕ) (hn : n ≤ 6) (hj : 0 < n) (s : Fin 4) (p : Fin 96) (hsl : s.val + 1 ≤ 4) (hr : 256 * p.val + 80 ≤ 24576) (f : Vec F S4x256x128 .i32) (k : PUnit.{1} → Pr F β) (Q : β → sProp 𝕄) :
    iprop(hT c H (sTh p) (shH s) ∗ pT c (hSet s.val) f ∗ MB c H n hn s p 0 0)
      ⊢ iprop((MB c H n hn s p 1 0 -∗ wpA c (k ⟨⟩) Q) -∗ wpA c (startT B0 cc0_scratch15 s.val hsl (256 * p.val) hr k) Q) :=
  wp_dmaMixedBatch EC Variants.none (c : Thread nD τ) none (src := tblHead B0 (256 * p.val) hr) (dst := tHead B0 s.val hsl) (via := .same) () (An n hn)
    (Sd := hSet s.val) (subset_of_eq (tHead_set s.val hsl)) hj rfl (Nat.zero_le _)
    (sep_mono (Entails.of_eq (pointsTo_congr (land_tHead H.tbl f s.val hsl p.val hr))) .rfl)

theorem startS_spec (n : ℕ) (hn : n ≤ 6) (hj : 1 < n) (s : Fin 4) (p : Fin 96) (hsl : s.val + 1 ≤ 4) (hr : 256 * p.val + 80 ≤ 24576) (f : Vec F S4x256x128 .f32) (k : PUnit.{1} → Pr F β) (Q : β → sProp 𝕄) :
    iprop(hS c H (sSh p) (shH s) ∗ pS c (hSet s.val) f ∗ MB c H n hn s p 1 0)
      ⊢ iprop((MB c H n hn s p 2 0 -∗ wpA c (k ⟨⟩) Q) -∗ wpA c (startS B0 cc0_scratch15 s.val hsl (256 * p.val) hr k) Q) :=
  wp_dmaMixedBatch EC Variants.none (c : Thread nD τ) none (src := vstHead B0 (256 * p.val) hr) (dst := sHead B0 s.val hsl) (via := .same) () (An n hn)
    (Sd := hSet s.val) (subset_of_eq (sHead_set s.val hsl)) hj rfl (Nat.zero_le _)
    (sep_mono (Entails.of_eq (pointsTo_congr (land_sHead H.vst f s.val hsl p.val hr))) .rfl)

theorem startKt_spec (n : ℕ) (hn : n ≤ 6) (hj : 2 < n) (s : Fin 4) (p : Fin 96) (hsl : s.val + 1 ≤ 4) (hb : p.val / 8 + 1 ≤ 12) (hg : p.val % 8 + 1 ≤ 8) (f : Vec F S4x96x32768 .i8) (k : PUnit.{1} → Pr F β) (Q : β → sProp 𝕄) :
    iprop(hK c H (sKt p) (shK s) ∗ pK c (kSet s.val) f ∗ MB c H n hn s p 2 0)
      ⊢ iprop((MB c H n hn s p 3 0 -∗ wpA c (k ⟨⟩) Q) -∗ wpA c (startKt B0 cc0_scratch15 s.val hsl (p.val / 8) (p.val % 8) hb hg k) Q) :=
  wp_dmaMixedBatch EC Variants.none (c : Thread nD τ) none (src := ktPair B0 (p.val / 8) (p.val % 8) hb hg) (dst := kSlot B0 s.val hsl) (via := .same) () (An n hn)
    (Sd := kSet s.val) (subset_of_eq (kSlot_set s.val hsl)) hj rfl (Nat.zero_le _)
    (sep_mono (Entails.of_eq (pointsTo_congr (land_k H.kt f s.val hsl p.val hb hg))) .rfl)

theorem startVt_spec (n : ℕ) (hn : n ≤ 6) (hj : 3 < n) (s : Fin 4) (p : Fin 96) (hsl : s.val + 1 ≤ 4) (hb : p.val / 8 + 1 ≤ 12) (hg : p.val % 8 + 1 ≤ 8) (f : Vec F S4x96x32768 .i8) (k : PUnit.{1} → Pr F β) (Q : β → sProp 𝕄) :
    iprop(hV c H (sVt p) (shK s) ∗ pV c (kSet s.val) f ∗ MB c H n hn s p 3 0)
      ⊢ iprop((MB c H n hn s p 4 0 -∗ wpA c (k ⟨⟩) Q) -∗ wpA c (startVt B0 cc0_scratch15 s.val hsl (p.val / 8) (p.val % 8) hb hg k) Q) :=
  wp_dmaMixedBatch EC Variants.none (c : Thread nD τ) none (src := vtPair B0 (p.val / 8) (p.val % 8) hb hg) (dst := vSlot B0 s.val hsl) (via := .same) () (An n hn)
    (Sd := kSet s.val) (subset_of_eq (vSlot_set s.val hsl)) hj rfl (Nat.zero_le _)
    (sep_mono (Entails.of_eq (pointsTo_congr (land_v H.vt f s.val hsl p.val hb hg))) .rfl)

theorem startTl_spec (s : Fin 4) (p : Fin 96) (hsl : s.val + 1 ≤ 4) (hr : 256 * p.val + 80 + 176 ≤ 24576) (f : Vec F S4x256x128 .i32) (k : PUnit.{1} → Pr F β) (Q : β → sProp 𝕄) :
    iprop(hT c H (sTl p) (shL s) ∗ pT c (lSet s.val) f ∗ MB c H 6 le_rfl s p 4 0)
      ⊢ iprop((MB c H 6 le_rfl s p 5 0 -∗ wpA c (k ⟨⟩) Q) -∗ wpA c (.op (.enqueueDma (tblTail B0 (256 * p.val + 80) hr) (.here (tTail B0 s.val hsl)) (.dma (semOf cc0_scratch15 s.val hsl)) (View.wordExact_bits rfl) ((View.wordExact_bits rfl).reshape _ _) ⟨Or.inl rfl, trivial⟩) k) Q) :=
  wp_dmaMixedBatch EC Variants.none (c : Thread nD τ) none (src := tblTail B0 (256 * p.val + 80) hr) (dst := tTail B0 s.val hsl) (via := .same) () (An 6 le_rfl)
    (Sd := lSet s.val) (subset_of_eq (tTail_set s.val hsl)) (by decide) rfl (Nat.zero_le _)
    (sep_mono (Entails.of_eq (pointsTo_congr (land_tTail H.tbl f s.val hsl p.val hr))) .rfl)

theorem startSl_spec (s : Fin 4) (p : Fin 96) (hsl : s.val + 1 ≤ 4) (hr : 256 * p.val + 80 + 176 ≤ 24576) (f : Vec F S4x256x128 .f32) (k : PUnit.{1} → Pr F β) (Q : β → sProp 𝕄) :
    iprop(hS c H (sSl p) (shL s) ∗ pS c (lSet s.val) f ∗ MB c H 6 le_rfl s p 5 0)
      ⊢ iprop((MB c H 6 le_rfl s p 6 0 -∗ wpA c (k ⟨⟩) Q) -∗ wpA c (.op (.enqueueDma (vstTail B0 (256 * p.val + 80) hr) (.here (sTail B0 s.val hsl)) (.dma (semOf cc0_scratch15 s.val hsl)) (View.wordExact_bits rfl) ((View.wordExact_bits rfl).reshape _ _) ⟨Or.inl rfl, trivial⟩) k) Q) :=
  wp_dmaMixedBatch EC Variants.none (c : Thread nD τ) none (src := vstTail B0 (256 * p.val + 80) hr) (dst := sTail B0 s.val hsl) (via := .same) () (An 6 le_rfl)
    (Sd := lSet s.val) (subset_of_eq (sTail_set s.val hsl)) (by decide) rfl (Nat.zero_le _)
    (sep_mono (Entails.of_eq (pointsTo_congr (land_sTail H.vst f s.val hsl p.val hr))) .rfl)

theorem startTail_spec (s : Fin 4) (p : Fin 96) (hsl : s.val + 1 ≤ 4) (hr : 256 * p.val + 80 + 176 ≤ 24576) (f : Vec F S4x256x128 .i32) (g : Vec F S4x256x128 .f32) (k : PUnit.{1} → Pr F β) (Q : β → sProp 𝕄) :
    iprop(hT c H (sTl p) (shL s) ∗ pT c (lSet s.val) f ∗ hS c H (sSl p) (shL s) ∗ pS c (lSet s.val) g ∗ MB c H 6 le_rfl s p 4 0)
      ⊢ iprop((MB c H 6 le_rfl s p 6 0 -∗ wpA c (k ⟨⟩) Q) -∗ wpA c (startTailK B0 cc0_scratch15 s.val hsl (256 * p.val + 80) hr k) Q) := by
  unfold startTailK
  iintro ⟨H1, H2, H3, H4, HB⟩ Hk
  iapply (startTl_spec c H s p hsl hr f) $$ [H1 H2 HB]
  · iframe
  iintro HB
  iapply (startSl_spec c H s p hsl hr g) $$ [H3 H4 HB]
  · iframe
  iexact Hk

/-! ## Before, during and after -/

/-- The word of a pair's rows. -/
def rowsW (wv : Vec F S26112 .i32) (p : ℕ) : BitVec 32 := wv (ix1 (⟨(272 * p + 256) % 26112, Nat.mod_lt _ (by decide)⟩ : Fin 26112))

/-- Whether a pair's tables are long. -/
def long (wv : Vec F S26112 .i32) (p : ℕ) : Prop := tailCond (rowsW (F := F) wv p) = 1#1

instance (wv : Vec F S26112 .i32) (p : ℕ) : Decidable (long (F := F) wv p) := inferInstanceAs (Decidable (_ = _))

/-- A slot's shares of the arguments, whole. -/
def Shares (s : Fin 4) : sProp 𝕄 :=
  iprop(hT c H Finset.univ (shH s) ∗ hS c H Finset.univ (shH s) ∗ hK c H Finset.univ (shK s) ∗ hV c H Finset.univ (shK s)
    ∗ hT c H Finset.univ (shL s) ∗ hS c H Finset.univ (shL s))

/-- A slot with nothing under way. -/
def Idle (s : Fin 4) : sProp 𝕄 :=
  iprop(semVal ((c : Thread nD τ), cellOf' s) 0 ∗ Shares c H s ∗ (∃ f, pT c (hSet s.val) f) ∗ (∃ f, pS c (hSet s.val) f) ∗ (∃ f, pK c (kSet s.val) f) ∗ (∃ f, pV c (kSet s.val) f)
    ∗ (∃ f, pT c (lSet s.val) f) ∗ (∃ f, pS c (lSet s.val) f))

/-- What is left of a slot's shares while its transfers read. -/
def Rest (s : Fin 4) (p : Fin 96) : sProp 𝕄 :=
  iprop(hT c H (Finset.univ \ sTh p) (shH s) ∗ hS c H (Finset.univ \ sSh p) (shH s) ∗ hK c H (Finset.univ \ sKt p) (shK s) ∗ hV c H (Finset.univ \ sVt p) (shK s))

/-- A slot whose transfers of pair `p` are under way. -/
def Flight (wv : Vec F S26112 .i32) (s : Fin 4) (p : Fin 96) : sProp 𝕄 :=
  if long (F := F) wv p.val then
    iprop(MB c H 6 le_rfl s p 6 0 ∗ Rest c H s p ∗ hT c H (Finset.univ \ sTl p) (shL s) ∗ hS c H (Finset.univ \ sSl p) (shL s))
  else
    iprop(MB c H 4 (by decide) s p 4 0 ∗ Rest c H s p ∗ hT c H Finset.univ (shL s) ∗ hS c H Finset.univ (shL s)
      ∗ (∃ f, pT c (lSet s.val) f) ∗ (∃ f, pS c (lSet s.val) f))

/-- A slot whose transfers have landed. -/
def Landed (wv : Vec F S26112 .i32) (s : Fin 4) (p : Fin 96) : sProp 𝕄 :=
  iprop(semVal ((c : Thread nD τ), cellOf' s) 0 ∗ Shares c H s ∗ pT c (hSet s.val) (tImg H.tbl p.val) ∗ pS c (hSet s.val) (tImg H.vst p.val)
    ∗ pK c (kSet s.val) (kImg H.kt p.val) ∗ pV c (kSet s.val) (kImg H.vt p.val)
    ∗ (∃ f, ⌜long (F := F) wv p.val → f = tImg H.tbl p.val⌝ ∗ pT c (lSet s.val) f) ∗ (∃ f, ⌜long (F := F) wv p.val → f = tImg H.vst p.val⌝ ∗ pS c (lSet s.val) f))

/-- The windows' table, held. -/
def Win (wv : Vec F S26112 .i32) : sProp 𝕄 := at_ c cc0_stg0_0 ↦[Finset.univ]{fullShare} wv

theorem win_spec (wv : Vec F S26112 .i32) (p : ℕ) (hp : p < 96) (hwo : 272 * p + 256 + 1 ≤ 26112) (k : BitVec 32 → Pr F β) (Q : β → sProp 𝕄) :
    Win c wv ⊢ iprop((Win c wv -∗ wpA c (k (rowsW (F := F) wv p)) Q) -∗ wpA c (winK B0 (272 * p + 256) hwo k) Q) := by
  have e : rowsW (F := F) wv p = wv ((Rect.unit (s := S26112) ![272 * p + 256] S1.size (inb1 hwo)).emb (Shape.Idx.first (numel1_S1.symm ▸ Nat.one_pos))) :=
    congrArg wv (by funext i; apply Fin.ext; rw [Rect.emb_apply]; fin_cases i; simp [ix1]; omega)
  rw [e]
  unfold wpA winK
  exact wp_load (Ix := Unit) (Name := ℕ) (Val := Elt F) (Lvl := ℕ) (U := Pipeline.UD sig nD τ) (defs := defs₀ (F := F)) (m := B0.win)
    (r := (Rect.unit (s := S26112) ![272 * p + 256] S1.size (inb1 hwo)).toLoadRect) (hl := View.loadsAt_rect (View.loads_smem_one (by rfl) numel1_S1))
    (k := fun f => k (f (Shape.Idx.first (numel1_S1.symm ▸ Nat.one_pos)))) Variants.none (c : Thread nD τ) none Set.univ (S := Finset.univ) (f := wv) (q := fullShare) (Finset.subset_univ _)

theorem split_hT (S : Finset S24576x128.Idx) (q : PosShare TreeShare) : hT c H Finset.univ q = iprop(hT c H S q ∗ hT c H (Finset.univ \ S) q) :=
  Entails.antisymm (pointsTo_split_subset (Finset.subset_univ S)).1 (pointsTo_split_subset (Finset.subset_univ S)).2
theorem split_hS (S : Finset S24576x128.Idx) (q : PosShare TreeShare) : hS c H Finset.univ q = iprop(hS c H S q ∗ hS c H (Finset.univ \ S) q) :=
  Entails.antisymm (pointsTo_split_subset (Finset.subset_univ S)).1 (pointsTo_split_subset (Finset.subset_univ S)).2
theorem split_hK (S : Finset S12x8x96x32768.Idx) (q : PosShare TreeShare) : hK c H Finset.univ q = iprop(hK c H S q ∗ hK c H (Finset.univ \ S) q) :=
  Entails.antisymm (pointsTo_split_subset (Finset.subset_univ S)).1 (pointsTo_split_subset (Finset.subset_univ S)).2
theorem split_hV (S : Finset S12x8x96x32768.Idx) (q : PosShare TreeShare) : hV c H Finset.univ q = iprop(hV c H S q ∗ hV c H (Finset.univ \ S) q) :=
  Entails.antisymm (pointsTo_split_subset (Finset.subset_univ S)).1 (pointsTo_split_subset (Finset.subset_univ S)).2

theorem start_spec (wv : Vec F S26112 .i32) (s : Fin 4) (p : Fin 96) (sl r0 b g wo r1 : ℕ) (hsl : sl + 1 ≤ 4) (hr0 : r0 + 80 ≤ 24576) (hb : b + 1 ≤ 12) (hg : g + 1 ≤ 8) (hwo : wo + 1 ≤ 26112) (hr1 : r1 + 176 ≤ 24576)
    (e1 : sl = s.val) (e2 : r0 = 256 * p.val) (e3 : b = p.val / 8) (e4 : g = p.val % 8) (e5 : wo = 272 * p.val + 256) (e6 : r1 = 256 * p.val + 80) (k : PUnit.{1} → Pr F β) (Q : β → sProp 𝕄) :
    iprop(Idle c H s ∗ Win c wv) ⊢ iprop((Flight c H wv s p -∗ Win c wv -∗ wpA c (k ⟨⟩) Q) -∗ wpA c (startK B0 cc0_scratch15 sl hsl r0 b g wo r1 hr0 hb hg hwo hr1 k) Q) := by
  subst e1 e2 e3 e4 e5 e6
  unfold Idle Shares startK
  rw [split_hT c H (sTh p) (shH s), split_hS c H (sSh p) (shH s), split_hK c H (sKt p), split_hV c H (sVt p)]
  iintro ⟨⟨Hv, ⟨⟨H1, H1'⟩, ⟨H2, H2'⟩, ⟨H3, H3'⟩, ⟨H4, H4'⟩, H5, H6⟩, ⟨%f1, P1⟩, ⟨%f2, P2⟩, ⟨%f3, P3⟩, ⟨%f4, P4⟩, ⟨%f5, P5⟩, ⟨%f6, P6⟩⟩, HW⟩ Hk
  by_cases hl : long (F := F) wv p.val
  · imod (MB_alloc c H 6 le_rfl s p) $$ Hv with HB
    iapply (startT_spec c H 6 le_rfl (by decide) s p hsl hr0 f1) $$ [H1 P1 HB]
    · iframe
    iintro HB
    iapply (startS_spec c H 6 le_rfl (by decide) s p hsl hr0 f2) $$ [H2 P2 HB]
    · iframe
    iintro HB
    iapply (startKt_spec c H 6 le_rfl (by decide) s p hsl hb hg f3) $$ [H3 P3 HB]
    · iframe
    iintro HB
    iapply (startVt_spec c H 6 le_rfl (by decide) s p hsl hb hg f4) $$ [H4 P4 HB]
    · iframe
    iintro HB
    iapply (win_spec c wv p.val p.isLt hwo) $$ HW
    iintro HW
    rw [if_pos (show tailCond (rowsW (F := F) wv p.val) = 1#1 from hl)]
    ihave H5 := (Entails.of_eq (split_hT c H (sTl p) (shL s))) $$ H5
    ihave H6 := (Entails.of_eq (split_hS c H (sSl p) (shL s))) $$ H6
    icases H5 with ⟨H5, H5'⟩
    icases H6 with ⟨H6, H6'⟩
    iapply (startTail_spec c H s p hsl hr1 f5 f6) $$ [H5 P5 H6 P6 HB]
    · iframe
    iintro HB
    iapply Hk $$ [HB H1' H2' H3' H4' H5' H6'] HW
    unfold Flight Rest
    rw [if_pos hl]
    iframe
  · imod (MB_alloc c H 4 (by decide) s p) $$ Hv with HB
    iapply (startT_spec c H 4 (by decide) (by decide) s p hsl hr0 f1) $$ [H1 P1 HB]
    · iframe
    iintro HB
    iapply (startS_spec c H 4 (by decide) (by decide) s p hsl hr0 f2) $$ [H2 P2 HB]
    · iframe
    iintro HB
    iapply (startKt_spec c H 4 (by decide) (by decide) s p hsl hb hg f3) $$ [H3 P3 HB]
    · iframe
    iintro HB
    iapply (startVt_spec c H 4 (by decide) (by decide) s p hsl hb hg f4) $$ [H4 P4 HB]
    · iframe
    iintro HB
    iapply (win_spec c wv p.val p.isLt hwo) $$ HW
    iintro HW
    rw [if_neg (show ¬ tailCond (rowsW (F := F) wv p.val) = 1#1 from hl)]
    iapply Hk $$ [HB H1' H2' H3' H4' H5 H6 P5 P6] HW
    unfold Flight Rest
    rw [if_neg hl]
    iframe
    isplitl [P5]
    · iexists f5; iexact P5
    · iexists f6; iexact P6

/-! ## Waiting -/

/-- A core that owes nothing, whatever it has waited for. -/
def Ow : sProp 𝕄 := iprop(∃ W, owes (c : Thread nD τ) 0 W)

theorem wait_spec {sp sp' : Space} {S S' : Shape} {e e' : EltTy} (n : ℕ) (hn : n ≤ 6) (s : Fin 4) (p : Fin 96) (hsl : s.val + 1 ≤ 4) (u J : ℕ)
    (src : Memref sig .tc sp' S' e') (dst : Memref sig .tc sp S e) (hs) (hd) (hJ : dst.view.dmaCredit = J) (hu : u + J ≤ sumTo (An n hn) n) (k : PUnit.{1} → Pr F β) (Q : β → sProp 𝕄) :
    iprop(MB c H n hn s p n u ∗ Ow (F := F) c) ⊢ iprop((iprop(MB c H n hn s p n (u + J) ∗ Ow (F := F) c) -∗ wpA c (k ⟨⟩) Q)
      -∗ wpA c (.op (.waitDma2 (semOf cc0_scratch15 s.val hsl) src dst hs hd) k) Q) := by
  unfold Ow
  iintro ⟨HB, ⟨%W, HO⟩⟩ Hk
  have := wp_waitMixedBatch EC (defs := defs₀ (F := F)) (Val := Elt F) Variants.none (c : Thread nD τ) none (sem := semOf cc0_scratch15 s.val hsl) (srcw := src) (dstw := dst) (hsrc := hs) (hdst := hd) (k := k) (Q := Q)
    () (A := An n hn) (D := Dn c H n hn s p) hJ hu (W := W)
  iapply this $$ [HB HO]
  · unfold MB; iframe
  iintro ⟨HB, HO⟩
  iapply Hk
  unfold MB
  isplitl [HB]; · iexact HB
  iexists _; iexact HO

theorem A_pos (n : ℕ) (hn : n ≤ 6) (t : Fin n) : 0 < An n hn t := by
  have : ∀ i, 0 < A6 i := by decide
  exact this _

theorem waitAll_spec {sp sp' : Space} {S S' : Shape} {e e' : EltTy} (n : ℕ) (hn : n ≤ 6) (s : Fin 4) (p : Fin 96) (hsl : s.val + 1 ≤ 4) (u J : ℕ)
    (src : Memref sig .tc sp' S' e') (dst : Memref sig .tc sp S e) (hs) (hd) (hJ : dst.view.dmaCredit = J) (hu : u + J = sumTo (An n hn) n) (k : PUnit.{1} → Pr F β) (Q : β → sProp 𝕄) :
    iprop(MB c H n hn s p n u ∗ Ow (F := F) c) ⊢ iprop((iprop(bigSep Finset.univ (Dn c H n hn s p) ∗ semVal ((c : Thread nD τ), cellOf' s) 0 ∗ Ow (F := F) c) -∗ wpA c (k ⟨⟩) Q)
      -∗ wpA c (.op (.waitDma2 (semOf cc0_scratch15 s.val hsl) src dst hs hd) k) Q) := by
  unfold Ow
  iintro ⟨HB, ⟨%W, HO⟩⟩ Hk
  have := wp_waitMixedBatchAll EC (defs := defs₀ (F := F)) (Val := Elt F) Variants.none (c : Thread nD τ) none (sem := semOf cc0_scratch15 s.val hsl) (srcw := src) (dstw := dst) (hsrc := hs) (hdst := hd) (k := k) (Q := Q)
    () (A := An n hn) (D := Dn c H n hn s p) hJ (A_pos n hn) hu (W := W)
  iapply this $$ [HB HO]
  · unfold MB; iframe
  iintro ⟨HB, HV, HO⟩
  iapply Hk
  isplitl [HB]; · iexact HB
  isplitl [HV]; · iexact HV
  iexists _; iexact HO

theorem D6_eq (s : Fin 4) (p : Fin 96) : (bigSep Finset.univ (Dn c H 6 le_rfl s p) : sProp 𝕄)
    = iprop(iprop(pT c (hSet s.val) (tImg H.tbl p.val) ∗ hT c H (sTh p) (shH s)) ∗ iprop(pS c (hSet s.val) (tImg H.vst p.val) ∗ hS c H (sSh p) (shH s))
      ∗ iprop(pK c (kSet s.val) (kImg H.kt p.val) ∗ hK c H (sKt p) (shK s)) ∗ iprop(pV c (kSet s.val) (kImg H.vt p.val) ∗ hV c H (sVt p) (shK s))
      ∗ iprop(pT c (lSet s.val) (tImg H.tbl p.val) ∗ hT c H (sTl p) (shL s)) ∗ iprop(pS c (lSet s.val) (tImg H.vst p.val) ∗ hS c H (sSl p) (shL s))) := by
  rw [BI.bigSep_eq_bigSepL_of_eq [0, 1, 2, 3, 4, 5] (by decide) (by decide)]; rfl
theorem D4_eq (s : Fin 4) (p : Fin 96) : (bigSep Finset.univ (Dn c H 4 (by decide) s p) : sProp 𝕄)
    = iprop(iprop(pT c (hSet s.val) (tImg H.tbl p.val) ∗ hT c H (sTh p) (shH s)) ∗ iprop(pS c (hSet s.val) (tImg H.vst p.val) ∗ hS c H (sSh p) (shH s))
      ∗ iprop(pK c (kSet s.val) (kImg H.kt p.val) ∗ hK c H (sKt p) (shK s)) ∗ iprop(pV c (kSet s.val) (kImg H.vt p.val) ∗ hV c H (sVt p) (shK s))) := by
  rw [BI.bigSep_eq_bigSepL_of_eq [0, 1, 2, 3] (by decide) (by decide)]; rfl

theorem waitK_spec (wv : Vec F S26112 .i32) (s : Fin 4) (p : Fin 96) (sl r0 b g wo r1 : ℕ) (hsl : sl + 1 ≤ 4) (hr0 : r0 + 80 ≤ 24576) (hb : b + 1 ≤ 12) (hg : g + 1 ≤ 8) (hwo : wo + 1 ≤ 26112) (hr1 : r1 + 176 ≤ 24576)
    (e1 : sl = s.val) (e5 : wo = 272 * p.val + 256) (k : PUnit.{1} → Pr F β) (Q : β → sProp 𝕄) :
    iprop(Flight c H wv s p ∗ Win c wv ∗ Ow (F := F) c) ⊢ iprop((Landed c H wv s p -∗ Win c wv -∗ Ow (F := F) c -∗ wpA c (k ⟨⟩) Q) -∗ wpA c (waitK B0 cc0_scratch15 sl hsl r0 b g wo r1 hr0 hb hg hwo hr1 k) Q) := by
  subst e1 e5
  unfold waitK waitHeadK Flight
  by_cases hl : long (F := F) wv p.val
  · rw [if_pos hl]
    iintro ⟨⟨HB, HR, H5, H6⟩, HW, HO⟩ Hk
    iapply (wait_spec c H 6 le_rfl s p hsl 0 1280 (tblHead B0 r0 hr0) (tHead B0 s.val hsl) (View.wordExact_bits rfl) (View.wordExact_bits rfl) rfl (by decide)) $$ [HB HO]
    · iframe
    iintro HBO
    iapply (wait_spec c H 6 le_rfl s p hsl 1280 1280 (vstHead B0 r0 hr0) (sHead B0 s.val hsl) (View.wordExact_bits rfl) (View.wordExact_bits rfl) rfl (by decide)) $$ HBO
    iintro HBO
    iapply (wait_spec c H 6 le_rfl s p hsl 2560 98304 (ktPair B0 b g hb hg) (kSlot B0 s.val hsl) (ktPair_words B0 b g hb hg) (kSlot_words B0 s.val hsl) rfl (by decide)) $$ HBO
    iintro HBO
    iapply (wait_spec c H 6 le_rfl s p hsl 100864 98304 (vtPair B0 b g hb hg) (vSlot B0 s.val hsl) (vtPair_words B0 b g hb hg) (vSlot_words B0 s.val hsl) rfl (by decide)) $$ HBO
    iintro HBO
    iapply (win_spec c wv p.val p.isLt hwo) $$ HW
    iintro HW
    rw [if_pos (show tailCond (rowsW (F := F) wv p.val) = 1#1 from hl)]
    unfold waitTailK
    iapply (wait_spec c H 6 le_rfl s p hsl 199168 2816 (tblTail B0 r1 hr1) (tTail B0 s.val hsl) (View.wordExact_bits rfl) (View.wordExact_bits rfl) rfl (by decide)) $$ HBO
    iintro HBO
    iapply (waitAll_spec c H 6 le_rfl s p hsl 201984 2816 (vstTail B0 r1 hr1) (sTail B0 s.val hsl) (View.wordExact_bits rfl) (View.wordExact_bits rfl) rfl (by decide)) $$ HBO
    rw [D6_eq]
    iintro ⟨⟨⟨P1, S1⟩, ⟨P2, S2⟩, ⟨P3, S3⟩, ⟨P4, S4⟩, ⟨P5, S5⟩, ⟨P6, S6⟩⟩, HV, HO⟩
    iapply Hk $$ [P1 P2 P3 P4 P5 P6 S1 S2 S3 S4 S5 S6 HR HV H5 H6] HW HO
    unfold Landed Shares Rest
    rw [split_hT c H (sTh p) (shH s), split_hS c H (sSh p) (shH s), split_hK c H (sKt p), split_hV c H (sVt p), split_hT c H (sTl p) (shL s), split_hS c H (sSl p) (shL s)]
    icases HR with ⟨R1, R2, R3, R4⟩
    iframe
    isplitl [P5]
    · iexists _; isplitr; swap; · iexact P5
      ipureintro; exact fun _ => rfl
    · iexists _; isplitr; swap; · iexact P6
      ipureintro; exact fun _ => rfl
  · rw [if_neg hl]
    iintro ⟨⟨HB, HR, H5, H6, ⟨%f5, P5⟩, ⟨%f6, P6⟩⟩, HW, HO⟩ Hk
    iapply (wait_spec c H 4 h4 s p hsl 0 1280 (tblHead B0 r0 hr0) (tHead B0 s.val hsl) (View.wordExact_bits rfl) (View.wordExact_bits rfl) rfl (by decide)) $$ [HB HO]
    · iframe
    iintro HBO
    iapply (wait_spec c H 4 h4 s p hsl 1280 1280 (vstHead B0 r0 hr0) (sHead B0 s.val hsl) (View.wordExact_bits rfl) (View.wordExact_bits rfl) rfl (by decide)) $$ HBO
    iintro HBO
    iapply (wait_spec c H 4 h4 s p hsl 2560 98304 (ktPair B0 b g hb hg) (kSlot B0 s.val hsl) (ktPair_words B0 b g hb hg) (kSlot_words B0 s.val hsl) rfl (by decide)) $$ HBO
    iintro HBO
    iapply (waitAll_spec c H 4 h4 s p hsl 100864 98304 (vtPair B0 b g hb hg) (vSlot B0 s.val hsl) (vtPair_words B0 b g hb hg) (vSlot_words B0 s.val hsl) rfl (by decide)) $$ HBO
    rw [D4_eq]
    iintro ⟨⟨⟨P1, S1⟩, ⟨P2, S2⟩, ⟨P3, S3⟩, ⟨P4, S4⟩⟩, HV, HO⟩
    iapply (win_spec c wv p.val p.isLt hwo) $$ HW
    iintro HW
    rw [if_neg (show ¬ tailCond (rowsW (F := F) wv p.val) = 1#1 from hl)]
    iapply Hk $$ [P1 P2 P3 P4 P5 P6 S1 S2 S3 S4 HR HV H5 H6] HW HO
    unfold Landed Shares Rest
    rw [split_hT c H (sTh p) (shH s), split_hS c H (sSh p) (shH s), split_hK c H (sKt p), split_hV c H (sVt p)]
    icases HR with ⟨R1, R2, R3, R4⟩
    iframe
    isplitl [P5]
    · iexists f5; isplitr; swap; · iexact P5
      ipureintro; exact fun h => absurd h hl
    · iexists f6; isplitr; swap; · iexact P6
      ipureintro; exact fun h => absurd h hl

end Cert.Attend

end
-- ==== Proof.Steps.lean ====
/-
  The kernel's stages as functions of the buffers' contents. `AS` is what the buffers hold; for each stage a function
  says what it leaves, and a lemma says that the stage's program does so.
-/
module

public import proofs.«01_k».proof.Proof.Dma
public import proofs.«01_k».proof.Proof.Wpp
public import Idealize.ShloMosaic.Lib.VecWindow

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

variable {F : FTy → Type} [FloatOps F]

/-- The contents of the kernel's own buffers. -/
@[ext] structure AS (F : FTy → Type) [FloatOps F] where
  win : Vec F S26112 .i32
  q : Vec F S96x8x96 .bf16
  ksel : Vec F S96x48x128 .i32
  m0 : Vec F S96x8x128 .f32
  l0 : Vec F S96x8x128 .f32
  o0 : Vec F S96x8x96 .f32
  out : Vec F S96x8x96 .f32
  kbuf : Vec F S4x96x32768 .i8
  vbuf : Vec F S4x96x32768 .i8
  tbuf : Vec F S4x256x128 .i32
  sbuf : Vec F S4x256x128 .f32
  kscr : Vec F S4x96x256 .bf16
  vscr : Vec F S4x8x24x128 .i32
  cscr : Vec F S4x8x128 .i32
  vsscr : Vec F S4x8x128 .f32
  sscr : Vec F S8x8x128 .f32
  pscr : Vec F S4x8x256 .bf16
  ascr : Vec F S8x128 .f32
  lscr : Vec F S8x128 .f32
  mst : Vec F S97x8x128 .f32
  lst : Vec F S97x8x128 .f32
  ost : Vec F S97x8x96 .f32

/-- A memory that holds these contents. -/
structure Rep (c : Dev nD) (m : Mem nD τ sig (Elt F)) (A : AS F) : Prop where
  win : m (at_ c cc0_stg0_0) = A.win
  q : m (at_ c cc0_stg1_0) = A.q
  ksel : m (at_ c cc0_stg2_0) = A.ksel
  m0 : m (at_ c cc0_stg3_0) = A.m0
  l0 : m (at_ c cc0_stg4_0) = A.l0
  o0 : m (at_ c cc0_stg5_0) = A.o0
  out : m (at_ c cc0_stg6_0) = A.out
  kbuf : m (at_ c cc0_scratch0) = A.kbuf
  vbuf : m (at_ c cc0_scratch1) = A.vbuf
  tbuf : m (at_ c cc0_scratch2) = A.tbuf
  sbuf : m (at_ c cc0_scratch3) = A.sbuf
  kscr : m (at_ c cc0_scratch4) = A.kscr
  vscr : m (at_ c cc0_scratch5) = A.vscr
  cscr : m (at_ c cc0_scratch6) = A.cscr
  vsscr : m (at_ c cc0_scratch7) = A.vsscr
  sscr : m (at_ c cc0_scratch8) = A.sscr
  pscr : m (at_ c cc0_scratch9) = A.pscr
  ascr : m (at_ c cc0_scratch10) = A.ascr
  lscr : m (at_ c cc0_scratch11) = A.lscr
  mst : m (at_ c cc0_scratch12) = A.mst
  lst : m (at_ c cc0_scratch13) = A.lst
  ost : m (at_ c cc0_scratch14) = A.ost

theorem Rep.set_out {c : Dev nD} {m : Mem nD τ sig (Elt F)} {A : AS F} (R : Rep c m A) (f : Vec F S96x8x96 .f32) : Rep c (m.set (at_ c cc0_stg6_0) f) { A with out := f } := by
  obtain ⟨⟩ := R
  constructor <;> first | exact Mem.set_same _ _ _ | (refine (Mem.set_ne _ _ (by intro e; simp at e)).trans ?_; assumption)
theorem Rep.set_kbuf {c : Dev nD} {m : Mem nD τ sig (Elt F)} {A : AS F} (R : Rep c m A) (f : Vec F S4x96x32768 .i8) : Rep c (m.set (at_ c cc0_scratch0) f) { A with kbuf := f } := by
  obtain ⟨⟩ := R
  constructor <;> first | exact Mem.set_same _ _ _ | (refine (Mem.set_ne _ _ (by intro e; simp at e)).trans ?_; assumption)
theorem Rep.set_vbuf {c : Dev nD} {m : Mem nD τ sig (Elt F)} {A : AS F} (R : Rep c m A) (f : Vec F S4x96x32768 .i8) : Rep c (m.set (at_ c cc0_scratch1) f) { A with vbuf := f } := by
  obtain ⟨⟩ := R
  constructor <;> first | exact Mem.set_same _ _ _ | (refine (Mem.set_ne _ _ (by intro e; simp at e)).trans ?_; assumption)
theorem Rep.set_tbuf {c : Dev nD} {m : Mem nD τ sig (Elt F)} {A : AS F} (R : Rep c m A) (f : Vec F S4x256x128 .i32) : Rep c (m.set (at_ c cc0_scratch2) f) { A with tbuf := f } := by
  obtain ⟨⟩ := R
  constructor <;> first | exact Mem.set_same _ _ _ | (refine (Mem.set_ne _ _ (by intro e; simp at e)).trans ?_; assumption)
theorem Rep.set_sbuf {c : Dev nD} {m : Mem nD τ sig (Elt F)} {A : AS F} (R : Rep c m A) (f : Vec F S4x256x128 .f32) : Rep c (m.set (at_ c cc0_scratch3) f) { A with sbuf := f } := by
  obtain ⟨⟩ := R
  constructor <;> first | exact Mem.set_same _ _ _ | (refine (Mem.set_ne _ _ (by intro e; simp at e)).trans ?_; assumption)
theorem Rep.set_kscr {c : Dev nD} {m : Mem nD τ sig (Elt F)} {A : AS F} (R : Rep c m A) (f : Vec F S4x96x256 .bf16) : Rep c (m.set (at_ c cc0_scratch4) f) { A with kscr := f } := by
  obtain ⟨⟩ := R
  constructor <;> first | exact Mem.set_same _ _ _ | (refine (Mem.set_ne _ _ (by intro e; simp at e)).trans ?_; assumption)
theorem Rep.set_vscr {c : Dev nD} {m : Mem nD τ sig (Elt F)} {A : AS F} (R : Rep c m A) (f : Vec F S4x8x24x128 .i32) : Rep c (m.set (at_ c cc0_scratch5) f) { A with vscr := f } := by
  obtain ⟨⟩ := R
  constructor <;> first | exact Mem.set_same _ _ _ | (refine (Mem.set_ne _ _ (by intro e; simp at e)).trans ?_; assumption)
theorem Rep.set_cscr {c : Dev nD} {m : Mem nD τ sig (Elt F)} {A : AS F} (R : Rep c m A) (f : Vec F S4x8x128 .i32) : Rep c (m.set (at_ c cc0_scratch6) f) { A with cscr := f } := by
  obtain ⟨⟩ := R
  constructor <;> first | exact Mem.set_same _ _ _ | (refine (Mem.set_ne _ _ (by intro e; simp at e)).trans ?_; assumption)
theorem Rep.set_vsscr {c : Dev nD} {m : Mem nD τ sig (Elt F)} {A : AS F} (R : Rep c m A) (f : Vec F S4x8x128 .f32) : Rep c (m.set (at_ c cc0_scratch7) f) { A with vsscr := f } := by
  obtain ⟨⟩ := R
  constructor <;> first | exact Mem.set_same _ _ _ | (refine (Mem.set_ne _ _ (by intro e; simp at e)).trans ?_; assumption)
theorem Rep.set_sscr {c : Dev nD} {m : Mem nD τ sig (Elt F)} {A : AS F} (R : Rep c m A) (f : Vec F S8x8x128 .f32) : Rep c (m.set (at_ c cc0_scratch8) f) { A with sscr := f } := by
  obtain ⟨⟩ := R
  constructor <;> first | exact Mem.set_same _ _ _ | (refine (Mem.set_ne _ _ (by intro e; simp at e)).trans ?_; assumption)
theorem Rep.set_pscr {c : Dev nD} {m : Mem nD τ sig (Elt F)} {A : AS F} (R : Rep c m A) (f : Vec F S4x8x256 .bf16) : Rep c (m.set (at_ c cc0_scratch9) f) { A with pscr := f } := by
  obtain ⟨⟩ := R
  constructor <;> first | exact Mem.set_same _ _ _ | (refine (Mem.set_ne _ _ (by intro e; simp at e)).trans ?_; assumption)
theorem Rep.set_ascr {c : Dev nD} {m : Mem nD τ sig (Elt F)} {A : AS F} (R : Rep c m A) (f : Vec F S8x128 .f32) : Rep c (m.set (at_ c cc0_scratch10) f) { A with ascr := f } := by
  obtain ⟨⟩ := R
  constructor <;> first | exact Mem.set_same _ _ _ | (refine (Mem.set_ne _ _ (by intro e; simp at e)).trans ?_; assumption)
theorem Rep.set_mst {c : Dev nD} {m : Mem nD τ sig (Elt F)} {A : AS F} (R : Rep c m A) (f : Vec F S97x8x128 .f32) : Rep c (m.set (at_ c cc0_scratch12) f) { A with mst := f } := by
  obtain ⟨⟩ := R
  constructor <;> first | exact Mem.set_same _ _ _ | (refine (Mem.set_ne _ _ (by intro e; simp at e)).trans ?_; assumption)
theorem Rep.set_lst {c : Dev nD} {m : Mem nD τ sig (Elt F)} {A : AS F} (R : Rep c m A) (f : Vec F S97x8x128 .f32) : Rep c (m.set (at_ c cc0_scratch13) f) { A with lst := f } := by
  obtain ⟨⟩ := R
  constructor <;> first | exact Mem.set_same _ _ _ | (refine (Mem.set_ne _ _ (by intro e; simp at e)).trans ?_; assumption)
theorem Rep.set_ost {c : Dev nD} {m : Mem nD τ sig (Elt F)} {A : AS F} (R : Rep c m A) (f : Vec F S97x8x96 .f32) : Rep c (m.set (at_ c cc0_scratch14) f) { A with ost := f } := by
  obtain ⟨⟩ := R
  constructor <;> first | exact Mem.set_same _ _ _ | (refine (Mem.set_ne _ _ (by intro e; simp at e)).trans ?_; assumption)

variable {c : Dev nD} {L : Finset (Loc nD τ sig)} {own : Own nD τ sig} {β : Type}

/-! ## One access -/

variable {cs : CoreSpace} {i : Fin (sig.nNear .tc cs)} {hκ : sig.names .tc cs i = true}

theorem wld {off size : Fin (sig.tyNear .tc cs i).shape.rank → ℕ} {inb : ∀ a, off a + size a ≤ (sig.tyNear .tc cs i).shape.size a} {hl} {k : _ → Pr F β}
    {m : Mem nD τ sig (Elt F)} {Q : β → Mem nD τ sig (Elt F) → Prop} {X : (sig.tyNear .tc cs i).Contents (Elt F)} (hX : m (at_ c ⟨cs, i, hκ⟩) = X) (hL : at_ c ⟨cs, i, hκ⟩ ∈ L)
    (hO : (Rect.unit (s := (sig.tyNear .tc cs i).shape) off size inb).set ⊆ own (at_ c ⟨cs, i, hκ⟩))
    (h : Wpp (c : Thread nD τ) L own (k (window X off size inb)) m Q) :
    Wpp (c : Thread nD τ) L own (.op (.load (Memref.whole ⟨cs, i, hκ⟩) (Rect.unit off size inb).toLoadRect hl) k) m Q := by
  subst hX
  refine ⟨hL, ?_, h⟩
  refine Finset.Subset.trans (fun x hx => ?_) hO
  obtain ⟨y, hy, e⟩ := Finset.mem_map.1 hx
  exact e ▸ hy

theorem wst {off size : Fin (sig.tyNear .tc cs i).shape.rank → ℕ} {inb : ∀ a, off a + size a ≤ (sig.tyNear .tc cs i).shape.size a} {w hx hm} {k : PUnit.{1} → Pr F β}
    {m : Mem nD τ sig (Elt F)} {Q : β → Mem nD τ sig (Elt F) → Prop} {X : (sig.tyNear .tc cs i).Contents (Elt F)} (hX : m (at_ c ⟨cs, i, hκ⟩) = X) (hL : at_ c ⟨cs, i, hκ⟩ ∈ L) (hO : own (at_ c ⟨cs, i, hκ⟩) = Finset.univ)
    (h : Wpp (c : Thread nD τ) L own (k ⟨⟩) (m.set (at_ c ⟨cs, i, hκ⟩) (put X off size w)) Q) :
    Wpp (c : Thread nD τ) L own (.op (.store (Memref.whole ⟨cs, i, hκ⟩) (Rect.unit off size inb) w Finset.univ hx hm) k) m Q := by
  subst hX
  refine ⟨hL, ?_, ?_⟩
  · exact fun x _ => (congrArg (x ∈ ·) hO).mpr (Finset.mem_univ _)
  · have e : ((Memref.whole (⟨cs, i, hκ⟩ : Ref sig .tc)).access (Rect.unit off size inb)).write (Elt F) (m (at_ c ⟨cs, i, hκ⟩)) w Finset.univ = put (m (at_ c ⟨cs, i, hκ⟩)) off size w :=
      (View.write_whole_slice_unit ⟨cs, i, hκ⟩ off size inb _ w).trans (put_eq_updateSlice _ _ _ inb _).symm
    exact (congrArg (fun f => Wpp (c : Thread nD τ) L own (k ⟨⟩) (m.set (at_ c ⟨cs, i, hκ⟩) f) Q) e).mpr h

/-- The buffers held whole. -/
def fixedRefs : List (Ref sig .tc) := [cc0_stg0_0, cc0_stg1_0, cc0_stg2_0, cc0_stg3_0, cc0_stg4_0, cc0_stg5_0, cc0_stg6_0, cc0_scratch4, cc0_scratch5, cc0_scratch6, cc0_scratch7, cc0_scratch8, cc0_scratch9,
  cc0_scratch10, cc0_scratch11, cc0_scratch12, cc0_scratch13, cc0_scratch14]

def Held (c : Dev nD) (L : Finset (Loc nD τ sig)) (own : Own nD τ sig) (l : List (Ref sig .tc)) : Prop :=
  ∀ b ∈ l, at_ c b ∈ L ∧ own (at_ c b) = Finset.univ

theorem wldF {off size : Fin (sig.tyNear .tc cs i).shape.rank → ℕ} {inb : ∀ a, off a + size a ≤ (sig.tyNear .tc cs i).shape.size a} {hl} {k : _ → Pr F β}
    {m : Mem nD τ sig (Elt F)} {Q : β → Mem nD τ sig (Elt F) → Prop} {X : (sig.tyNear .tc cs i).Contents (Elt F)} {l : List (Ref sig .tc)} (HF : Held c L own l) (hb : ⟨cs, i, hκ⟩ ∈ l) (hX : m (at_ c ⟨cs, i, hκ⟩) = X)
    (h : Wpp (c : Thread nD τ) L own (k (window X off size inb)) m Q) :
    Wpp (c : Thread nD τ) L own (.op (.load (Memref.whole ⟨cs, i, hκ⟩) (Rect.unit off size inb).toLoadRect hl) k) m Q :=
  wld hX (HF _ hb).1 (fun x _ => (congrArg (x ∈ ·) (HF _ hb).2).mpr (Finset.mem_univ _)) h

theorem wstF {off size : Fin (sig.tyNear .tc cs i).shape.rank → ℕ} {inb : ∀ a, off a + size a ≤ (sig.tyNear .tc cs i).shape.size a} {w hx hm} {k : PUnit.{1} → Pr F β}
    {m : Mem nD τ sig (Elt F)} {Q : β → Mem nD τ sig (Elt F) → Prop} {X : (sig.tyNear .tc cs i).Contents (Elt F)} {l : List (Ref sig .tc)} (HF : Held c L own l) (hb : ⟨cs, i, hκ⟩ ∈ l) (hX : m (at_ c ⟨cs, i, hκ⟩) = X)
    (h : Wpp (c : Thread nD τ) L own (k ⟨⟩) (m.set (at_ c ⟨cs, i, hκ⟩) (put X off size w)) Q) :
    Wpp (c : Thread nD τ) L own (.op (.store (Memref.whole ⟨cs, i, hκ⟩) (Rect.unit off size inb) w Finset.univ hx hm) k) m Q :=
  wst hX (HF _ hb).1 (HF _ hb).2 h

theorem wstR {off size : Fin (sig.tyNear .tc cs i).shape.rank → ℕ} {inb : ∀ a, off a + size a ≤ (sig.tyNear .tc cs i).shape.size a} {w hx hm} {k : PUnit.{1} → Pr F β}
    {m : Mem nD τ sig (Elt F)} {Q : β → Mem nD τ sig (Elt F) → Prop} {X : (sig.tyNear .tc cs i).Contents (Elt F)} {l : List (Ref sig .tc)} {A' : (sig.tyNear .tc cs i).Contents (Elt F) → AS F}
    (HF : Held c L own l) (hb : ⟨cs, i, hκ⟩ ∈ l) (hX : m (at_ c ⟨cs, i, hκ⟩) = X) (hR : ∀ f, Rep c (m.set (at_ c ⟨cs, i, hκ⟩) f) (A' f))
    (h : ∀ m', Rep c m' (A' (put X off size w)) → Wpp (c : Thread nD τ) L own (k ⟨⟩) m' Q) :
    Wpp (c : Thread nD τ) L own (.op (.store (Memref.whole ⟨cs, i, hκ⟩) (Rect.unit off size inb) w Finset.univ hx hm) k) m Q :=
  wstF HF hb hX (h _ (hR _))

/-! ## Values -/

def vHalf (x : Vec F S4x8x24x128 .i32) (ro : Nat) (hro : ro + 1 ≤ 4) (j : Fin 8) : FVec F S96x128 .bf16 :=
  vcat (window x ![ro, j.val, 0, 0] S1x1x8x128.size (inb4 hro j.isLt (by decide) (by decide))) (window x ![ro, j.val, 8, 0] S1x1x8x128.size (inb4 hro j.isLt (by decide) (by decide)))
    (window x ![ro, j.val, 16, 0] S1x1x8x128.size (inb4 hro j.isLt (by decide) (by decide)))

def vStep (x : Vec F S4x8x24x128 .i32) (p : Vec F S4x8x256 .bf16) (ro : Nat) (hro : ro + 1 ≤ 4) (h : Fin 4) (acc : FVec F S8x96 .f32) : FVec F S8x96 .f32 :=
  vadd acc (vHalf x ro hro ⟨2 * h.val, by omega⟩) (vHalf x ro hro ⟨2 * h.val + 1, by omega⟩) (window p ![h.val, 0, 0] S1x8x256.size (inb3 h.isLt (by decide) (by decide)))

def oNew (o : Vec F S97x8x96 .f32) (a : Vec F S8x128 .f32) (x : Vec F S4x8x24x128 .i32) (p : Vec F S4x8x256 .bf16) (po ro : Nat) (hpo : po + 1 ≤ 97) (hro : ro + 1 ≤ 4) : FVec F S1x8x96 .f32 :=
  vend (vStep x p ro hro 3 (vStep x p ro hro 2 (vStep x p ro hro 1 (vStep x p ro hro 0
    (vstart (window o ![po, 0, 0] S1x8x96.size (inb3 hpo (by decide) (by decide))) (window a ![0, 0] S8x96.size inb_S8x128_S8x96_0_0))))))

def AS.values (A : AS F) (po ro : Nat) (hpo : po + 1 ≤ 97) (hro : ro + 1 ≤ 4) : AS F :=
  { A with ost := put A.ost ![po, 0, 0] S1x8x96.size (oNew A.ost A.ascr A.vscr A.pscr po ro hpo hro) }

theorem values_w {m : Mem nD τ sig (Elt F)} {A : AS F} (HF : Held c L own fixedRefs) (R : Rep c m A) {po ro : Nat} {hpo : po + 1 ≤ 97} {hro : ro + 1 ≤ 4} {k : PUnit.{1} → Pr F β} {Q : β → Mem nD τ sig (Elt F) → Prop}
    (h : ∀ m', Rep c m' (A.values po ro hpo hro) → Wpp (c : Thread nD τ) L own (k ⟨⟩) m' Q) : Wpp (c : Thread nD τ) L own (valuesK B0 po ro hpo hro k) m Q := by
  unfold valuesK vstepK vhalfK
  refine wldF HF (by decide) R.ost (wldF HF (by decide) R.ascr ?_)
  refine wldF HF (by decide) R.vscr (wldF HF (by decide) R.vscr (wldF HF (by decide) R.vscr (wldF HF (by decide) R.vscr (wldF HF (by decide) R.vscr (wldF HF (by decide) R.vscr (wldF HF (by decide) R.pscr ?_))))))
  refine wldF HF (by decide) R.vscr (wldF HF (by decide) R.vscr (wldF HF (by decide) R.vscr (wldF HF (by decide) R.vscr (wldF HF (by decide) R.vscr (wldF HF (by decide) R.vscr (wldF HF (by decide) R.pscr ?_))))))
  refine wldF HF (by decide) R.vscr (wldF HF (by decide) R.vscr (wldF HF (by decide) R.vscr (wldF HF (by decide) R.vscr (wldF HF (by decide) R.vscr (wldF HF (by decide) R.vscr (wldF HF (by decide) R.pscr ?_))))))
  refine wldF HF (by decide) R.vscr (wldF HF (by decide) R.vscr (wldF HF (by decide) R.vscr (wldF HF (by decide) R.vscr (wldF HF (by decide) R.vscr (wldF HF (by decide) R.vscr (wldF HF (by decide) R.pscr ?_))))))
  refine wldF HF (by decide) R.ost (wstF HF (by decide) R.ost ?_)
  exact h _ (R.set_ost _)

/-! ## Softmax -/

def sRow (s : Vec F S8x8x128 .f32) (j : Fin 8) : FVec F S8x128 .f32 := s8 (window s ![j.val, 0, 0] S1x8x128.size (inb3 j.isLt (by decide) (by decide)))

def pPut (vs : Vec F S4x8x128 .f32) (ro : Nat) (hro : ro + 1 ≤ 4) (j : Fin 8) (e : FVec F S8x128 .f32) (p : Vec F S4x8x256 .bf16) : Vec F S4x8x256 .bf16 :=
  put p ![j.val / 2, 0, j.val % 2 * 128] S1x8x128.size (sprod e (window vs ![ro, j.val, 0] S1x1x128.size (inb3 hro j.isLt (by decide))))

/-- A pair's running maximum and sum, as the state holds them. -/
def stRow (x : Vec F S97x8x128 .f32) (po : Nat) (hpo : po + 1 ≤ 97) : FVec F S8x128 .f32 := s8 (window x ![po, 0, 0] S1x8x128.size (inb3 hpo (by decide) (by decide)))

def mNew (s : Vec F S8x8x128 .f32) (mo : FVec F S8x128 .f32) : FVec F S8x128 .f32 :=
  smax (sRow s 0) (sRow s 1) (sRow s 2) (sRow s 3) (sRow s 4) (sRow s 5) (sRow s 6) (sRow s 7) mo

def lNew (s : Vec F S8x8x128 .f32) (lo mo m : FVec F S8x128 .f32) : FVec F S8x128 .f32 :=
  addf (addf (addf (addf (addf (addf (addf (addf (mulf lo (sexp mo m)) (sexp (sRow s 0) m)) (sexp (sRow s 1) m)) (sexp (sRow s 2) m)) (sexp (sRow s 3) m)) (sexp (sRow s 4) m)) (sexp (sRow s 5) m)) (sexp (sRow s 6) m)) (sexp (sRow s 7) m)

def pNew (s : Vec F S8x8x128 .f32) (vs : Vec F S4x8x128 .f32) (ro : Nat) (hro : ro + 1 ≤ 4) (m : FVec F S8x128 .f32) (p : Vec F S4x8x256 .bf16) : Vec F S4x8x256 .bf16 :=
  pPut vs ro hro 7 (sexp (sRow s 7) m) (pPut vs ro hro 6 (sexp (sRow s 6) m) (pPut vs ro hro 5 (sexp (sRow s 5) m) (pPut vs ro hro 4 (sexp (sRow s 4) m)
    (pPut vs ro hro 3 (sexp (sRow s 3) m) (pPut vs ro hro 2 (sexp (sRow s 2) m) (pPut vs ro hro 1 (sexp (sRow s 1) m) (pPut vs ro hro 0 (sexp (sRow s 0) m) p)))))))

def AS.softmax (A : AS F) (po ro : Nat) (hpo : po + 1 ≤ 97) (hro : ro + 1 ≤ 4) : AS F :=
  let m := mNew A.sscr (stRow A.mst po hpo)
  { A with
    pscr := pNew A.sscr A.vsscr ro hro m A.pscr
    mst := put A.mst ![po, 0, 0] S1x8x128.size (t8 m)
    lst := put A.lst ![po, 0, 0] S1x8x128.size (t8 (lNew A.sscr (stRow A.lst po hpo) (stRow A.mst po hpo) m))
    ascr := put A.ascr ![0, 0] S8x128.size (shapeCast S8x128 (sexp (stRow A.mst po hpo) m) shapeCasts_S8x128_S8x128 : FVec F S8x128 .f32) }

theorem sprod_w {m : Mem nD τ sig (Elt F)} {A : AS F} (HF : Held c L own fixedRefs) (R : Rep c m A) {ro : Nat} {hro : ro + 1 ≤ 4} {j : Fin 8} {e : FVec F S8x128 .f32} {k : PUnit.{1} → Pr F β} {Q : β → Mem nD τ sig (Elt F) → Prop}
    (h : ∀ m', Rep c m' { A with pscr := pPut A.vsscr ro hro j e A.pscr } → Wpp (c : Thread nD τ) L own (k ⟨⟩) m' Q) : Wpp (c : Thread nD τ) L own (sprodK B0 ro hro j e k) m Q := by
  unfold sprodK
  refine wldF HF (by decide) R.vsscr (wldF HF (by decide) R.pscr (wstF HF (by decide) R.pscr ?_))
  exact h _ (R.set_pscr _)

theorem softmax_w {m : Mem nD τ sig (Elt F)} {A : AS F} (HF : Held c L own fixedRefs) (R : Rep c m A) {po ro : Nat} {hpo : po + 1 ≤ 97} {hro : ro + 1 ≤ 4} {k : PUnit.{1} → Pr F β} {Q : β → Mem nD τ sig (Elt F) → Prop}
    (h : ∀ m', Rep c m' (A.softmax po ro hpo hro) → Wpp (c : Thread nD τ) L own (k ⟨⟩) m' Q) : Wpp (c : Thread nD τ) L own (softmaxK B0 po ro hpo hro k) m Q := by
  unfold softmaxK sloadK
  refine wldF HF (by decide) R.sscr (wldF HF (by decide) R.sscr (wldF HF (by decide) R.sscr (wldF HF (by decide) R.sscr ?_)))
  refine wldF HF (by decide) R.sscr (wldF HF (by decide) R.sscr (wldF HF (by decide) R.sscr (wldF HF (by decide) R.sscr ?_)))
  refine wldF HF (by decide) R.mst (wldF HF (by decide) R.lst ?_)
  refine sprod_w HF R fun m R => sprod_w HF R fun m R => sprod_w HF R fun m R => sprod_w HF R fun m R => ?_
  refine sprod_w HF R fun m R => sprod_w HF R fun m R => sprod_w HF R fun m R => sprod_w HF R fun m R => ?_
  refine wldF HF (by decide) R.mst (wstR HF (by decide) R.mst R.set_mst fun m R => ?_)
  refine wldF HF (by decide) R.lst (wstR HF (by decide) R.lst R.set_lst fun m R => ?_)
  refine wldF HF (by decide) R.ascr (wstR HF (by decide) R.ascr R.set_ascr fun m R => ?_)
  exact h _ R

/-! ## Scores -/

def sPut (cs : Vec F S4x8x128 .i32) (ro : Nat) (hro : ro + 1 ≤ 4) (j : Fin 8) (x : FVec F S8x128 .f32) (s : Vec F S8x8x128 .f32) : Vec F S8x8x128 .f32 :=
  put s ![j.val, 0, 0] S1x8x128.size (masked (live (F := F) (window cs ![ro, j.val, 0] S1x1x128.size (inb3 hro j.isLt (by decide)))) x)

def kDot (kk : Vec F S4x96x256 .bf16) (q : FVec F S8x96 .bf16) (h : Fin 4) : FVec F S8x256 .f32 := kdot q (window kk ![h.val, 0, 0] S1x96x256.size (inb3 h.isLt (by decide) (by decide)))

def sPut2 (kk : Vec F S4x96x256 .bf16) (cs : Vec F S4x8x128 .i32) (ro : Nat) (hro : ro + 1 ≤ 4) (q : FVec F S8x96 .bf16) (h : Fin 4) (s : Vec F S8x8x128 .f32) : Vec F S8x8x128 .f32 :=
  sPut cs ro hro ⟨2 * h.val + 1, by omega⟩ (extractStridedSlice S8x128 ![0, 128] (kDot kk q h) slices_S8x256_o0_128_S8x128)
    (sPut cs ro hro ⟨2 * h.val, by omega⟩ (extractStridedSlice S8x128 ![0, 0] (kDot kk q h) slices_S8x256_o0_0_S8x128) s)

def qRow (q : Vec F S96x8x96 .bf16) (qo : Nat) (hqo : qo + 1 ≤ 96) : FVec F S8x96 .bf16 :=
  shapeCast S8x96 (window q ![qo, 0, 0] S1x8x96.size (inb3 hqo (by decide) (by decide)) : FVec F S1x8x96 .bf16) shapeCasts_S1x8x96_S8x96

def AS.scores (A : AS F) (qo ro : Nat) (hqo : qo + 1 ≤ 96) (hro : ro + 1 ≤ 4) : AS F :=
  let q := qRow A.q qo hqo
  { A with sscr := sPut2 A.kscr A.cscr ro hro q 3 (sPut2 A.kscr A.cscr ro hro q 2 (sPut2 A.kscr A.cscr ro hro q 1 (sPut2 A.kscr A.cscr ro hro q 0 A.sscr))) }

theorem score_w {m : Mem nD τ sig (Elt F)} {A : AS F} (HF : Held c L own fixedRefs) (R : Rep c m A) {ro : Nat} {hro : ro + 1 ≤ 4} {j : Fin 8} {s : FVec F S8x128 .f32} {k : PUnit.{1} → Pr F β} {Q : β → Mem nD τ sig (Elt F) → Prop}
    (h : ∀ m', Rep c m' { A with sscr := sPut A.cscr ro hro j s A.sscr } → Wpp (c : Thread nD τ) L own (k ⟨⟩) m' Q) : Wpp (c : Thread nD τ) L own (scoreK B0 ro hro j s k) m Q := by
  unfold scoreK
  refine wldF HF (by decide) R.cscr (wldF HF (by decide) R.sscr (wstF HF (by decide) R.sscr ?_))
  exact h _ (R.set_sscr _)

theorem scores_w {m : Mem nD τ sig (Elt F)} {A : AS F} (HF : Held c L own fixedRefs) (R : Rep c m A) {qo ro : Nat} {hqo : qo + 1 ≤ 96} {hro : ro + 1 ≤ 4} {k : PUnit.{1} → Pr F β} {Q : β → Mem nD τ sig (Elt F) → Prop}
    (h : ∀ m', Rep c m' (A.scores qo ro hqo hro) → Wpp (c : Thread nD τ) L own (k ⟨⟩) m' Q) : Wpp (c : Thread nD τ) L own (scoresK B0 qo ro hqo hro k) m Q := by
  unfold scoresK scores2K
  refine wldF HF (by decide) R.q ?_
  refine wldF HF (by decide) R.kscr (score_w HF R fun m R => score_w HF R fun m R => ?_)
  refine wldF HF (by decide) R.kscr (score_w HF R fun m R => score_w HF R fun m R => ?_)
  refine wldF HF (by decide) R.kscr (score_w HF R fun m R => score_w HF R fun m R => ?_)
  refine wldF HF (by decide) R.kscr (score_w HF R fun m R => score_w HF R fun m R => ?_)
  exact h _ R

/-! ## Gathering -/

/-- Slot `sl` of the transfers' buffers is held. -/
structure HeldS (c : Dev nD) (L : Finset (Loc nD τ sig)) (own : Own nD τ sig) (sl : Nat) : Prop where
  k : at_ c cc0_scratch0 ∈ L
  v : at_ c cc0_scratch1 ∈ L
  t : at_ c cc0_scratch2 ∈ L
  s : at_ c cc0_scratch3 ∈ L
  ok : kSet sl ⊆ own (at_ c cc0_scratch0)
  ov : kSet sl ⊆ own (at_ c cc0_scratch1)
  ot : tSet sl ⊆ own (at_ c cc0_scratch2)
  os : tSet sl ⊆ own (at_ c cc0_scratch3)

theorem k_sub {sl y z a b : Nat} (inb : ∀ i : Fin 3, (![sl, y, z] : Fin 3 → Nat) i + (![1, a, b] : Fin 3 → Nat) i ≤ S4x96x32768.size i) : (Rect.unit (s := S4x96x32768) ![sl, y, z] ![1, a, b] inb).set ⊆ kSet sl := by
  intro x hx
  have := Rect.mem_set_unit.1 hx 0
  simp at this
  exact Finset.mem_filter.2 ⟨Finset.mem_univ _, by omega⟩

theorem t_sub {sl y z a b : Nat} (inb : ∀ i : Fin 3, (![sl, y, z] : Fin 3 → Nat) i + (![1, a, b] : Fin 3 → Nat) i ≤ S4x256x128.size i) : (Rect.unit (s := S4x256x128) ![sl, y, z] ![1, a, b] inb).set ⊆ tSet sl := by
  intro x hx
  have := Rect.mem_set_unit.1 hx 0
  simp at this
  exact Finset.mem_filter.2 ⟨Finset.mem_univ _, by omega⟩

def tileF (kb vb : Vec F S4x96x32768 .i8) (sl : Nat) (hsl : sl + 1 ≤ 4) (a i : BitVec 32) (hc : colOf a i + 128 ≤ 32768) : Acc6 :=
  ⟨pk (F := F) (window kb ![sl, 0, colOf a i] S1x32x128.size (inb3 hsl (by decide) hc)), pk (F := F) (window kb ![sl, 32, colOf a i] S1x32x128.size (inb3 hsl (by decide) hc)),
   pk (F := F) (window kb ![sl, 64, colOf a i] S1x32x128.size (inb3 hsl (by decide) hc)), pk (F := F) (window vb ![sl, 0, colOf a i] S1x32x128.size (inb3 hsl (by decide) hc)),
   pk (F := F) (window vb ![sl, 32, colOf a i] S1x32x128.size (inb3 hsl (by decide) hc)), pk (F := F) (window vb ![sl, 64, colOf a i] S1x32x128.size (inb3 hsl (by decide) hc))⟩

def tilesF (kb vb : Vec F S4x96x32768 .i8) (sl : Nat) (hsl : sl + 1 ≤ 4) (a : BitVec 32) (hc : ∀ i : Fin 16, colOf a (BitVec.ofNat 32 i.val) + 128 ≤ 32768) (rel : IVec S8x128 32) : Acc6 :=
  pick rel 15#32 (tileF kb vb sl hsl a 15#32 (hc 15)) (pick rel 14#32 (tileF kb vb sl hsl a 14#32 (hc 14)) (pick rel 13#32 (tileF kb vb sl hsl a 13#32 (hc 13)) (pick rel 12#32 (tileF kb vb sl hsl a 12#32 (hc 12))
  (pick rel 11#32 (tileF kb vb sl hsl a 11#32 (hc 11)) (pick rel 10#32 (tileF kb vb sl hsl a 10#32 (hc 10)) (pick rel 9#32 (tileF kb vb sl hsl a 9#32 (hc 9)) (pick rel 8#32 (tileF kb vb sl hsl a 8#32 (hc 8))
  (pick rel 7#32 (tileF kb vb sl hsl a 7#32 (hc 7)) (pick rel 6#32 (tileF kb vb sl hsl a 6#32 (hc 6)) (pick rel 5#32 (tileF kb vb sl hsl a 5#32 (hc 5)) (pick rel 4#32 (tileF kb vb sl hsl a 4#32 (hc 4))
  (pick rel 3#32 (tileF kb vb sl hsl a 3#32 (hc 3)) (pick rel 2#32 (tileF kb vb sl hsl a 2#32 (hc 2)) (pick rel 1#32 (tileF kb vb sl hsl a 1#32 (hc 1)) (tileF kb vb sl hsl a 0#32 (hc 0))))))))))))))))

theorem tile_w {m : Mem nD τ sig (Elt F)} {A : AS F} {sl : Nat} (HS : HeldS c L own sl) (R : Rep c m A) {hsl : sl + 1 ≤ 4} {a i : BitVec 32} {hc : colOf a i + 128 ≤ 32768} {k : Acc6 → Pr F β} {Q : β → Mem nD τ sig (Elt F) → Prop}
    (h : Wpp (c : Thread nD τ) L own (k (tileF A.kbuf A.vbuf sl hsl a i hc)) m Q) : Wpp (c : Thread nD τ) L own (tileK B0 sl hsl a i hc k) m Q := by
  unfold tileK
  refine wld R.kbuf HS.k ((k_sub _).trans HS.ok) (wld R.kbuf HS.k ((k_sub _).trans HS.ok) (wld R.kbuf HS.k ((k_sub _).trans HS.ok) ?_))
  refine wld R.vbuf HS.v ((k_sub _).trans HS.ov) (wld R.vbuf HS.v ((k_sub _).trans HS.ov) (wld R.vbuf HS.v ((k_sub _).trans HS.ov) ?_))
  exact h

theorem tiles_w {m : Mem nD τ sig (Elt F)} {A : AS F} {sl : Nat} (HS : HeldS c L own sl) (R : Rep c m A) {hsl : sl + 1 ≤ 4} {a : BitVec 32} {hc : ∀ i : Fin 16, colOf a (BitVec.ofNat 32 i.val) + 128 ≤ 32768} {rel : IVec S8x128 32}
    {k : Acc6 → Pr F β} {Q : β → Mem nD τ sig (Elt F) → Prop}
    (h : Wpp (c : Thread nD τ) L own (k (tilesF A.kbuf A.vbuf sl hsl a hc rel)) m Q) : Wpp (c : Thread nD τ) L own (tilesK B0 sl hsl a hc rel k) m Q := by
  unfold tilesK
  refine tile_w HS R (tile_w HS R (tile_w HS R (tile_w HS R (tile_w HS R (tile_w HS R (tile_w HS R (tile_w HS R ?_)))))))
  refine tile_w HS R (tile_w HS R (tile_w HS R (tile_w HS R (tile_w HS R (tile_w HS R (tile_w HS R (tile_w HS R ?_)))))))
  exact h

def AS.third (A : AS F) (pi : Nat) (hpi : pi + 1 ≤ 96) (ro : Nat) (j : Fin 8) (r : Fin 3) (idx ka va : IVec S8x128 32) : AS F :=
  { A with
    kscr := put A.kscr ![j.val / 2, 32 * r.val, j.val % 2 * 128] S1x32x128.size (keys idx ka (window A.ksel ![pi, 16 * r.val, 0] S1x8x128.size (inb3 hpi (by omega) (by decide)))
      (window A.ksel ![pi, 16 * r.val + 8, 0] S1x8x128.size (inb3 hpi (by omega) (by decide))))
    vscr := put A.vscr ![ro, j.val, 8 * r.val, 0] S1x1x8x128.size (shapeCast S1x1x8x128 va shapeCasts_S8x128_S1x1x8x128 : IVec S1x1x8x128 32) }

theorem third_w {m : Mem nD τ sig (Elt F)} {A : AS F} (HF : Held c L own fixedRefs) (R : Rep c m A) {pi : Nat} {hpi : pi + 1 ≤ 96} {ro : Nat} {hro : ro + 1 ≤ 4} {j : Fin 8} {r : Fin 3} {idx ka va : IVec S8x128 32}
    {k : PUnit.{1} → Pr F β} {Q : β → Mem nD τ sig (Elt F) → Prop}
    (h : ∀ m', Rep c m' (A.third pi hpi ro j r idx ka va) → Wpp (c : Thread nD τ) L own (k ⟨⟩) m' Q) : Wpp (c : Thread nD τ) L own (thirdK B0 pi hpi ro hro j r idx ka va k) m Q := by
  unfold thirdK
  refine wldF HF (by decide) R.ksel (wldF HF (by decide) R.ksel (wldF HF (by decide) R.kscr (wstR HF (by decide) R.kscr R.set_kscr fun m R => ?_)))
  refine wldF HF (by decide) R.vscr (wstR HF (by decide) R.vscr R.set_vscr fun m R => ?_)
  exact h _ R

/-- The window's first tile, of a row. -/
def winAt (w : Vec F S26112 .i32) (wo : Nat) (hwo : wo + 1 ≤ 26112) : BitVec 32 :=
  window w ![wo] S1.size (inb1 hwo) (Shape.Idx.first (numel1_S1.symm ▸ Nat.one_pos))

def codeAt (t : Vec F S4x256x128 .i32) (sl co : Nat) (hsl : sl + 1 ≤ 4) (hco : co + 1 ≤ 256) : IVec S8x128 32 :=
  codeOf (F := F) (window t ![sl, co, 0] S1x1x128.size (inb3 hsl hco (by decide)))

def AS.row (A : AS F) (pi : Nat) (hpi : pi + 1 ≤ 96) (sl : Nat) (hsl : sl + 1 ≤ 4) (ro : Nat) (wo co : Nat) (hwo : wo + 1 ≤ 26112) (hco : co + 1 ≤ 256) (j : Fin 8)
    (hc : ∀ i : Fin 16, colOf (winAt (F := F) A.win wo hwo) (BitVec.ofNat 32 i.val) + 128 ≤ 32768) : AS F :=
  let a := winAt (F := F) A.win wo hwo
  let code := codeAt (F := F) A.tbuf sl co hsl hco
  let acc := tilesF A.kbuf A.vbuf sl hsl a hc (relOf code a)
  ((A.third pi hpi ro j 0 (idxOf code) acc.k0 acc.v0).third pi hpi ro j 1 (idxOf code) acc.k1 acc.v1).third pi hpi ro j 2 (idxOf code) acc.k2 acc.v2

theorem row_w {m : Mem nD τ sig (Elt F)} {A : AS F} (HF : Held c L own fixedRefs) {sl : Nat} (HS : HeldS c L own sl) (R : Rep c m A) {p : Fin k0_t1_loop.trips} {pi : Nat} {hpi : pi + 1 ≤ 96} {hsl : sl + 1 ≤ 4} {ro : Nat} {hro : ro + 1 ≤ 4} {wo co : Nat}
    {hwo : wo + 1 ≤ 26112} {hco : co + 1 ≤ 256} {j : Fin 8} {k : PUnit.{1} → Pr F β} {Q : β → Mem nD τ sig (Elt F) → Prop} (h6 : k0_chk6 p (winAt (F := F) A.win wo hwo))
    (h : ∀ m', Rep c m' (A.row pi hpi sl hsl ro wo co hwo hco j (chk_col h6)) → Wpp (c : Thread nD τ) L own (k ⟨⟩) m' Q) :
    Wpp (c : Thread nD τ) L own (rowK B0 p pi hpi sl hsl ro hro wo co hwo hco j k) m Q := by
  unfold rowK
  refine wldF HF (by decide) R.win ⟨h6, ?_⟩
  refine wld R.tbuf HS.t ((t_sub _).trans HS.ot) (tiles_w HS R ?_)
  exact third_w HF R fun m R => third_w HF R fun m R => third_w HF R fun m R => h _ R

def AS.copy (A : AS F) (sl : Nat) (hsl : sl + 1 ≤ 4) (ro : Nat) (co : Nat) (hco : co + 8 ≤ 256) : AS F :=
  { A with
    cscr := put A.cscr ![ro, 0, 0] S1x8x128.size (shapeCast S1x8x128 (shapeCast S8x128 (window A.tbuf ![sl, co, 0] S1x8x128.size (inb3 hsl hco (by decide)) : IVec S1x8x128 32) shapeCasts_S1x8x128_S8x128 : IVec S8x128 32) shapeCasts_S8x128_S1x8x128 : IVec S1x8x128 32)
    vsscr := put A.vsscr ![ro, 0, 0] S1x8x128.size (t8 (s8 (window A.sbuf ![sl, co, 0] S1x8x128.size (inb3 hsl hco (by decide))))) }

theorem copy_w {m : Mem nD τ sig (Elt F)} {A : AS F} (HF : Held c L own fixedRefs) {sl : Nat} (HS : HeldS c L own sl) (R : Rep c m A) {hsl : sl + 1 ≤ 4} {ro : Nat} {hro : ro + 1 ≤ 4} {co : Nat} {hco : co + 8 ≤ 256}
    {k : PUnit.{1} → Pr F β} {Q : β → Mem nD τ sig (Elt F) → Prop}
    (h : ∀ m', Rep c m' (A.copy sl hsl ro co hco) → Wpp (c : Thread nD τ) L own (k ⟨⟩) m' Q) : Wpp (c : Thread nD τ) L own (copyK B0 sl hsl ro hro co hco k) m Q := by
  unfold copyK
  refine wld R.tbuf HS.t ((t_sub _).trans HS.ot) (wldF HF (by decide) R.cscr (wstR HF (by decide) R.cscr R.set_cscr fun m R => ?_))
  refine wld R.sbuf HS.s ((t_sub _).trans HS.os) (wldF HF (by decide) R.vsscr (wstR HF (by decide) R.vsscr R.set_vsscr fun m R => ?_))
  exact h _ R

/-! ## The beginning -/

def AS.init (A : AS F) : AS F :=
  { A with
    mst := put (put A.mst ![0, 0, 0] S96x8x128.size (k0_pay1944 (window A.m0 ![0, 0, 0] S96x8x128.size inb_S96x8x128_S96x8x128_0_0_0))) ![96, 0, 0] S1x8x128.size (k0_pay1955 (F := F))
    lst := put (put A.lst ![0, 0, 0] S96x8x128.size (k0_pay1945 (window A.l0 ![0, 0, 0] S96x8x128.size inb_S96x8x128_S96x8x128_0_0_0))) ![96, 0, 0] S1x8x128.size (k0_pay1956 (F := F))
    ost := put (put A.ost ![0, 0, 0] S96x8x96.size (k0_pay1946 (window A.o0 ![0, 0, 0] S96x8x96.size inb_S96x8x96_S96x8x96_0_0_0))) ![96, 0, 0] S1x8x96.size (k0_pay1957 (F := F))
    kscr := put A.kscr ![0, 0, 0] S4x96x256.size (k0_pay1947 (F := F))
    vscr := put A.vscr ![0, 0, 0, 0] S4x8x24x128.size k0_pay1948
    cscr := put A.cscr ![0, 0, 0] S4x8x128.size k0_pay1949
    vsscr := put A.vsscr ![0, 0, 0] S4x8x128.size (k0_pay1950 (F := F))
    sscr := put A.sscr ![0, 0, 0] S8x8x128.size (k0_pay1951 (F := F))
    pscr := put A.pscr ![0, 0, 0] S4x8x256.size (k0_pay1953 (k0_pay1952 (F := F)))
    ascr := put A.ascr ![0, 0] S8x128.size (k0_pay1954 (F := F)) }

theorem init_w {m : Mem nD τ sig (Elt F)} {A : AS F} (HF : Held c L own fixedRefs) (R : Rep c m A) {k : PUnit.{1} → Pr F β} {Q : β → Mem nD τ sig (Elt F) → Prop}
    (h : ∀ m', Rep c m' A.init → Wpp (c : Thread nD τ) L own (k ⟨⟩) m' Q) : Wpp (c : Thread nD τ) L own (initK B0 k) m Q := by
  unfold initK initHeadK init305K
  refine wldF HF (by decide) R.m0 (wldF HF (by decide) R.mst (wstR HF (by decide) R.mst R.set_mst fun m R => ?_))
  refine wldF HF (by decide) R.l0 (wldF HF (by decide) R.lst (wstR HF (by decide) R.lst R.set_lst fun m R => ?_))
  refine wldF HF (by decide) R.o0 (wldF HF (by decide) R.ost (wstR HF (by decide) R.ost R.set_ost fun m R => ?_))
  refine wldF HF (by decide) R.kscr (wstR HF (by decide) R.kscr R.set_kscr fun m R => ?_)
  refine wldF HF (by decide) R.vscr (wstR HF (by decide) R.vscr R.set_vscr fun m R => ?_)
  refine wldF HF (by decide) R.cscr (wstR HF (by decide) R.cscr R.set_cscr fun m R => ?_)
  refine wldF HF (by decide) R.vsscr (wstR HF (by decide) R.vsscr R.set_vsscr fun m R => ?_)
  refine wldF HF (by decide) R.sscr (wstR HF (by decide) R.sscr R.set_sscr fun m R => ?_)
  refine wldF HF (by decide) R.pscr (wstR HF (by decide) R.pscr R.set_pscr fun m R => ?_)
  refine wldF HF (by decide) R.ascr (wstR HF (by decide) R.ascr R.set_ascr fun m R => ?_)
  refine wldF HF (by decide) R.mst (wstR HF (by decide) R.mst R.set_mst fun m R => ?_)
  refine wldF HF (by decide) R.lst (wstR HF (by decide) R.lst R.set_lst fun m R => ?_)
  refine wldF HF (by decide) R.ost (wstF HF (by decide) R.ost ?_)
  exact h _ (R.set_ost _)

/-! ## The end -/

def AS.fin (A : AS F) (po : Nat) (hpo : po + 1 ≤ 96) : AS F :=
  { A with out := put A.out ![po, 0, 0] S1x8x96.size (Attend.fin (window A.lst ![po, 0, 0] S1x8x128.size (inb3 (by omega) (by decide) (by decide))) (window A.ost ![po, 0, 0] S1x8x96.size (inb3 (by omega) (by decide) (by decide)))) }

theorem fin_w {m : Mem nD τ sig (Elt F)} {A : AS F} (HF : Held c L own fixedRefs) (R : Rep c m A) {po : Nat} {hpo : po + 1 ≤ 96} {k : PUnit.{1} → Pr F β} {Q : β → Mem nD τ sig (Elt F) → Prop}
    (h : ∀ m', Rep c m' (A.fin po hpo) → Wpp (c : Thread nD τ) L own (k ⟨⟩) m' Q) : Wpp (c : Thread nD τ) L own (finK B0 po hpo k) m Q := by
  unfold finK
  refine wldF HF (by decide) R.lst (wldF HF (by decide) R.ost (wldF HF (by decide) R.out (wstF HF (by decide) R.out ?_)))
  exact h _ (R.set_out _)

end Cert.Attend

end
-- ==== Proof.Bounds.lean ====
/-
  The kernel's index arithmetic in closed form, and the side conditions it states, from bounds on the words of the
  windows' table.
-/
module

public import proofs.«01_k».proof.Proof.Steps

@[expose] public section

set_option maxRecDepth 1000000

noncomputable section

namespace Cert.Attend

open Cert.Kernel Cert.Kernel.Gen
open Idealize.ShloMosaic Idealize.ShloMosaic.TcCoe
open Idealize.SL.Sem

/-! ## Words -/

theorem trips1 : k0_t1_loop.trips = 96 := by decide
theorem trips4 : k0_t4_loop.trips = 12 := by decide

theorem trips23 : ∀ n : Fin 257, (k0_t2_loop (BitVec.ofNat 32 n.val)).OK ∧ (k0_t2_loop (BitVec.ofNat 32 n.val)).trips = (n.val + 7) / 8
    ∧ (k0_t3_loop (BitVec.ofNat 32 n.val)).OK ∧ (k0_t3_loop (BitVec.ofNat 32 n.val)).trips = 0 := by
  decide +kernel

theorem ring_eq : ∀ r n : Fin 4, ringIx (BitVec.ofNat 32 r.val) (BitVec.ofNat 32 n.val) = (r.val + n.val) % 4
    ∧ ringOf (BitVec.ofNat 32 r.val) (BitVec.ofNat 32 n.val) = BitVec.ofNat 32 ((r.val + n.val) % 4) := by
  decide +kernel

theorem carry_ok : ∀ q : Fin 97, k0_chk2 (BitVec.ofNat 32 q.val) ∧ k0_chk4 (BitVec.ofNat 32 q.val) ∧ k0_chk5 (BitVec.ofNat 32 q.val)
    ∧ k0_chk26 (BitVec.ofNat 32 q.val) ∧ k0_chk28 (BitVec.ofNat 32 q.val) ∧ k0_chk29 (BitVec.ofNat 32 q.val)
    ∧ (Scalar.indexCast (BitVec.ofNat 32 q.val)).toNat = q.val ∧ k0_off50 (BitVec.ofNat 32 q.val) 0 = min q.val 95 ∧ k0_off375 (BitVec.ofNat 32 q.val) 0 = min q.val 95 := by
  decide +kernel

theorem ring_ok : ∀ r : Fin 4, k0_chk3 (BitVec.ofNat 32 r.val) ∧ k0_chk27 (BitVec.ofNat 32 r.val) ∧ (Scalar.indexCast (BitVec.ofNat 32 r.val)).toNat = r.val := by
  decide +kernel

theorem pair_ix : ∀ p : Fin 96, pairBv (p.cast trips1.symm) = BitVec.ofNat 32 p.val ∧ slotIx (p.cast trips1.symm) = p.val % 4 ∧ (pairBv (p.cast trips1.symm)).toNat = p.val := by
  decide +kernel

theorem off_pair : ∀ p : Fin 96, k0_off9 (p.cast trips1.symm) 0 = p.val / 8 ∧ k0_off9 (p.cast trips1.symm) 1 = p.val % 8
    ∧ k0_off7 (p.cast trips1.symm) 0 = 256 * p.val ∧ k0_off10 (p.cast trips1.symm) 0 = 272 * p.val + 256 ∧ k0_off14 (p.cast trips1.symm) 0 = 272 * p.val + 256
    ∧ k0_off13 (p.cast trips1.symm) 0 = 256 * p.val + 80 := by
  decide +kernel

theorem off_next : ∀ p : Fin 96, (k0_cond6 (p.cast trips1.symm) = 1#1 ↔ p.val + 4 < 96) ∧ k0_off335 (p.cast trips1.symm) 0 = (p.val + 4) / 8 ∧ k0_off335 (p.cast trips1.symm) 1 = (p.val + 4) % 8
    ∧ k0_off333 (p.cast trips1.symm) 0 = 256 * (p.val + 4) ∧ k0_off336 (p.cast trips1.symm) 0 = 272 * (p.val + 4) + 256 ∧ k0_off339 (p.cast trips1.symm) 0 = 256 * (p.val + 4) + 80 := by
  decide +kernel

theorem off_fin : ∀ i : Fin 12, ∀ u : Fin 8, k0_off413 (i.cast trips4.symm) (BitVec.ofNat 32 u.val) 0 = 8 * i.val + u.val := by
  decide +kernel

/-! ## The rows of an item -/

variable {v : BitVec 32}

theorem row_bv (c : Fin (k0_t2_loop v).trips) : rowBv c = BitVec.ofNat 32 (8 * c.val) := by
  unfold rowBv Scf.iv Scalar.muli IntOp.muli
  apply BitVec.eq_of_toNat_eq
  simp [BitVec.toNat_mul, BitVec.toNat_add, Nat.mul_comm]

theorem row_ix (c : Fin (k0_t2_loop v).trips) (hc : c.val < 32) (j : Fin 8) : rowIx c (BitVec.ofNat 32 j.val) = 8 * c.val + j.val := by
  unfold rowIx Scalar.addi Scalar.indexCast IntOp.addi
  rw [row_bv]
  simp [BitVec.toNat_add]
  omega

theorem rowBv_toNat (c : Fin (k0_t2_loop v).trips) (hc : c.val < 32) : (Scalar.indexCast (rowBv c)).toNat = 8 * c.val := by
  unfold Scalar.indexCast
  rw [row_bv]
  exact (BitVec.toNat_ofNat _ _).trans (by omega)

theorem win_ix (p : Fin k0_t1_loop.trips) (c : Fin (k0_t2_loop v).trips) (hc : c.val < 32) (j : Fin 8) : winIx p c (BitVec.ofNat 32 j.val) = 272 * p.val + 8 * c.val + j.val := by
  have hp : p.val < 96 := trips1 ▸ p.isLt
  have e := (pair_ix ⟨p.val, hp⟩).1
  rw [show Fin.cast trips1.symm ⟨p.val, hp⟩ = p from rfl] at e
  unfold winIx Scalar.addi Scalar.indexCast Scalar.muli IntOp.addi IntOp.muli
  rw [row_bv, e]
  simp [BitVec.toNat_add, BitVec.toNat_mul]
  omega

theorem inb_t {o : Fin 3 → ℕ} {a b n : ℕ} (h0 : o 0 < 4) (h1 : o 1 + n ≤ 256) (h2 : o 2 = 0) : ∀ i : Fin 3, o i + (![1, n, 128] : Fin 3 → ℕ) i ≤ S4x256x128.size i := by
  intro i
  fin_cases i
  · exact Nat.succ_le_of_lt h0
  · exact h1
  · simp [h2]

theorem inb_w {o : Fin 1 → ℕ} (h0 : o 0 < 26112) : ∀ i : Fin 1, o i + (![1] : Fin 1 → ℕ) i ≤ S26112.size i := by
  intro i
  fin_cases i
  exact Nat.succ_le_of_lt h0

theorem chk1_ok (p : Fin k0_t1_loop.trips) (v : BitVec 32) (hv : v.toNat ≤ 256) : k0_chk1 p v := by
  have hp : p.val < 96 := trips1 ▸ p.isLt
  obtain ⟨h1, h2, h3, h4⟩ := trips23 ⟨v.toNat, by omega⟩
  rw [show BitVec.ofNat 32 (⟨v.toNat, by omega⟩ : Fin 257).val = v from by simp] at h1 h2 h3 h4
  have hs : slotIx p < 4 := by
    have := (pair_ix ⟨p.val, hp⟩).2.1
    rw [show Fin.cast trips1.symm ⟨p.val, hp⟩ = p from rfl] at this
    omega
  have hc : ∀ c : Fin (k0_t2_loop v).trips, c.val < 32 := fun c => by have := c.isLt; simp only at h2; omega
  have hw : ∀ (c : Fin (k0_t2_loop v).trips) (j : Fin 8), winIx p c (BitVec.ofNat 32 j.val) < 26112 := fun c j => by
    rw [win_ix p c (hc c) j]; have := hc c; omega
  have hr : ∀ (c : Fin (k0_t2_loop v).trips) (j : Fin 8), rowIx c (BitVec.ofNat 32 j.val) + 1 ≤ 256 := fun c j => by
    rw [row_ix c (hc c) j]; have := hc c; omega
  have h0 : ∀ c : Fin (k0_t3_loop v).trips, False := fun c => by have := c.isLt; omega
  refine ⟨⟨h1, fun c => ?_, fun c => inb_t (a := 0) (b := 0) hs (?_ : (Scalar.indexCast (rowBv c)).toNat + 8 ≤ 256) rfl,
    fun c => inb_w (hw c 0), fun c => inb_t (a := 0) (b := 0) hs (hr c 0) rfl, fun c => inb_w (hw c 1), fun c => inb_t (a := 0) (b := 0) hs (hr c 1) rfl,
    fun c => inb_w (hw c 2), fun c => inb_t (a := 0) (b := 0) hs (hr c 2) rfl, fun c => inb_w (hw c 3), fun c => inb_t (a := 0) (b := 0) hs (hr c 3) rfl,
    fun c => inb_w (hw c 4), fun c => inb_t (a := 0) (b := 0) hs (hr c 4) rfl, fun c => inb_w (hw c 5), fun c => inb_t (a := 0) (b := 0) hs (hr c 5) rfl,
    fun c => inb_w (hw c 6), fun c => inb_t (a := 0) (b := 0) hs (hr c 6) rfl, fun c => inb_w (hw c 7), fun c => inb_t (a := 0) (b := 0) hs (hr c 7) rfl, h3, ?_⟩, ?_⟩
  · have := rowBv_toNat c (hc c)
    change 8 ∣ (Scalar.indexCast (rowBv c)).toNat
    rw [this]; exact Dvd.intro _ rfl
  · rw [rowBv_toNat c (hc c)]; have := hc c; omega
  · exact ⟨fun c => (h0 c).elim, fun c => (h0 c).elim, fun c => (h0 c).elim, fun c => (h0 c).elim, fun c => (h0 c).elim, fun c => (h0 c).elim, fun c => (h0 c).elim, fun c => (h0 c).elim,
      fun c => (h0 c).elim, fun c => (h0 c).elim, fun c => (h0 c).elim, fun c => (h0 c).elim⟩
  · exact ⟨fun c => (h0 c).elim, fun c => (h0 c).elim, fun c => (h0 c).elim, fun c => (h0 c).elim, fun c => (h0 c).elim, fun c => (h0 c).elim⟩

/-! ## A row's window -/

theorem col_eq (a : BitVec 32) (ha : a.toNat ≤ 240) (i : Fin 16) : colOf a (BitVec.ofNat 32 i.val) = 128 * (a.toNat + i.val) := by
  unfold colOf Scalar.addi Scalar.indexCast Scalar.muli IntOp.addi IntOp.muli
  simp [BitVec.toNat_add, BitVec.toNat_mul]
  omega

theorem inb_c {o : Fin 3 → ℕ} (h0 : o 0 < 4) (h1 : o 1 + 32 ≤ 96) (h2 : o 2 + 128 ≤ 32768) : ∀ i : Fin 3, o i + (![1, 32, 128] : Fin 3 → ℕ) i ≤ S4x96x32768.size i := by
  intro i
  fin_cases i
  · exact Nat.succ_le_of_lt h0
  · exact h1
  · exact h2

theorem chk6_ok (p : Fin k0_t1_loop.trips) (a : BitVec 32) (ha : a.toNat ≤ 240) : k0_chk6 p a := by
  have hp : p.val < 96 := trips1 ▸ p.isLt
  have hs : slotIx p < 4 := by
    have := (pair_ix ⟨p.val, hp⟩).2.1
    rw [show Fin.cast trips1.symm ⟨p.val, hp⟩ = p from rfl] at this
    omega
  have hc : ∀ i : Fin 16, colOf a (BitVec.ofNat 32 i.val) + 128 ≤ 32768 := fun i => by rw [col_eq a ha i]; omega
  have hd : ∀ i : Fin 16, 128 ∣ colOf a (BitVec.ofNat 32 i.val) := fun i => by rw [col_eq a ha i]; exact Dvd.intro _ rfl
  exact ⟨hd 0, fun r => inb_c hs (by decide : 0 + 32 ≤ 96) (hc r), fun r => inb_c hs (by decide : 32 + 32 ≤ 96) (hc r), fun r => inb_c hs (by decide : 64 + 32 ≤ 96) (hc r), hd 1, hd 2, hd 3, hd 4, hd 5, hd 6, hd 7, hd 8, hd 9, hd 10, hd 11, hd 12, hd 13, hd 14, hd 15⟩

end Cert.Attend

end
-- ==== Proof.Items.lean ====
/-
  One item, the items of a pair, the drained stages and the divisions, as functions of the buffers' contents.
-/
module

public import proofs.«01_k».proof.Proof.Bounds

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

variable {F : FTy → Type} [FloatOps F]

/-! ## The carried values -/

/-- The ring's place and the pairs of the three items before this one. -/
structure Cy where
  r : Fin 4
  p1 : Fin 97
  p2 : Fin 97
  p3 : Fin 97

def Cy.bv (y : Cy) : Carry := (BitVec.ofNat 32 y.r.val, BitVec.ofNat 32 y.p1.val, BitVec.ofNat 32 y.p2.val, BitVec.ofNat 32 y.p3.val)

def rot (r : Fin 4) (n : ℕ) : Fin 4 := ⟨(r.val + n) % 4, Nat.mod_lt _ (by decide)⟩

def Cy.next (y : Cy) (p : Fin 96) : Cy := ⟨rot y.r 1, p.castSucc, y.p1, y.p2⟩

def cy0 : Cy := ⟨0, 96, 96, 96⟩

/-- The number of items of pair `p`. -/
def nit (wv : Vec F S26112 .i32) (p : ℕ) : ℕ := ((rowsW (F := F) wv p).toNat + 7) / 8

/-- What the windows' table must say: at most 256 rows for a pair, and a window that lies in the pair's codes for each row
    of each of its items. -/
structure WOk (wv : Vec F S26112 .i32) : Prop where
  rows : ∀ p < 96, (rowsW (F := F) wv p).toNat ≤ 256
  start : ∀ p < 96, ∀ r < 8 * nit (F := F) wv p, ∀ hwo, (winAt (F := F) wv (272 * p + r) hwo).toNat ≤ 240

theorem WOk.nit_le {wv : Vec F S26112 .i32} (h : WOk wv) {p : ℕ} (hp : p < 96) : nit (F := F) wv p ≤ 32 := by
  have := h.rows p hp
  unfold nit; omega

/-! ## An item -/

theorem wo_lt (p : Fin 96) {k : ℕ} (hk : k < 32) (j : Fin 8) : 272 * p.val + 8 * k + j.val + 1 ≤ 26112 := by omega
theorem co_lt {k : ℕ} (hk : k < 32) (j : Fin 8) : 8 * k + j.val + 1 ≤ 256 := by omega
theorem co8_lt {k : ℕ} (hk : k < 32) : 8 * k + 8 ≤ 256 := by omega
theorem sl_lt (p : Fin 96) : p.val % 4 + 1 ≤ 4 := by omega
theorem pp_lt (p : Fin 96) : p.val + 1 ≤ 96 := p.isLt
theorem rr_lt (r : Fin 4) : r.val + 1 ≤ 4 := r.isLt
theorem qq_lt (q : Fin 97) : q.val + 1 ≤ 97 := q.isLt
theorem mm_lt (q : Fin 97) : min q.val 95 + 1 ≤ 96 := by omega

theorem col_ok {a : BitVec 32} (ha : a.toNat ≤ 240) (i : Fin 16) : colOf a (BitVec.ofNat 32 i.val) + 128 ≤ 32768 := by
  rw [col_eq a ha i]; omega

/-- Every row of item `k` of pair `p` has its window in the pair's codes. -/
def WIn (w : Vec F S26112 .i32) (p : Fin 96) (k : ℕ) (hk : k < 32) : Prop :=
  ∀ j : Fin 8, (winAt (F := F) w (272 * p.val + 8 * k + j.val) (wo_lt p hk j)).toNat ≤ 240

/-- Contents whose windows' table is `w`. -/
abbrev ASw (w : Vec F S26112 .i32) := { A : AS F // A.win = w }

variable {w : Vec F S26112 .i32}

def ASw.rowOf (A : ASw w) (p : Fin 96) (k : ℕ) (hk : k < 32) (r : Fin 4) (hW : WIn w p k hk) (j : Fin 8) : ASw w :=
  ⟨A.1.row p.val (pp_lt p) (p.val % 4) (sl_lt p) r.val (272 * p.val + 8 * k + j.val) (8 * k + j.val) (wo_lt p hk j) (co_lt hk j) j (fun i => by rw [A.2]; exact col_ok (hW j) i), A.2⟩

def ASw.copyOf (A : ASw w) (p : Fin 96) (k : ℕ) (hk : k < 32) (r : Fin 4) : ASw w :=
  ⟨A.1.copy (p.val % 4) (sl_lt p) r.val (8 * k) (co8_lt hk), A.2⟩

def ASw.values (A : ASw w) (q : Fin 97) (r : Fin 4) : ASw w := ⟨A.1.values q.val r.val (qq_lt q) (rr_lt r), A.2⟩
def ASw.softmax (A : ASw w) (q : Fin 97) (r : Fin 4) : ASw w := ⟨A.1.softmax q.val r.val (qq_lt q) (rr_lt r), A.2⟩
def ASw.scores (A : ASw w) (q : Fin 97) (r : Fin 4) : ASw w := ⟨A.1.scores (min q.val 95) r.val (mm_lt q) (rr_lt r), A.2⟩

/-- The first `n` rows of an item gathered. -/
def ASw.rowsOf (A : ASw w) (p : Fin 96) (k : ℕ) (hk : k < 32) (r : Fin 4) (hW : WIn w p k hk) : ℕ → ASw w
  | 0 => A
  | n + 1 => (A.rowsOf p k hk r hW n).rowOf p k hk r hW ⟨n % 8, Nat.mod_lt _ (by decide)⟩

def ASw.gather (A : ASw w) (p : Fin 96) (k : ℕ) (hk : k < 32) (r : Fin 4) (hW : WIn w p k hk) : ASw w :=
  (A.copyOf p k hk r).rowsOf p k hk r hW 8

def ASw.item (A : ASw w) (p : Fin 96) (k : ℕ) (hk : k < 32) (y : Cy) (hW : WIn w p k hk) : ASw w :=
  (((A.values y.p3 (rot y.r 1)).softmax y.p2 (rot y.r 2)).scores y.p1 (rot y.r 3)).gather p k hk y.r hW

variable {c : Dev nD} {L : Finset (Loc nD τ sig)} {own : Own nD τ sig} {β : Type}

theorem values_e {m : Mem nD τ sig (Elt F)} {A : AS F} (HF : Held c L own fixedRefs) (R : Rep c m A) {po ro po' ro' : Nat} {hpo : po + 1 ≤ 97} {hro : ro + 1 ≤ 4} (e1 : po = po') (e2 : ro = ro') (hpo' : po' + 1 ≤ 97) (hro' : ro' + 1 ≤ 4)
    {k : PUnit.{1} → Pr F β} {Q : β → Mem nD τ sig (Elt F) → Prop}
    (h : ∀ m', Rep c m' (A.values po' ro' hpo' hro') → Wpp (c : Thread nD τ) L own (k ⟨⟩) m' Q) : Wpp (c : Thread nD τ) L own (valuesK B0 po ro hpo hro k) m Q := by
  subst e1 e2; exact values_w HF R h

theorem softmax_e {m : Mem nD τ sig (Elt F)} {A : AS F} (HF : Held c L own fixedRefs) (R : Rep c m A) {po ro po' ro' : Nat} {hpo : po + 1 ≤ 97} {hro : ro + 1 ≤ 4} (e1 : po = po') (e2 : ro = ro') (hpo' : po' + 1 ≤ 97) (hro' : ro' + 1 ≤ 4)
    {k : PUnit.{1} → Pr F β} {Q : β → Mem nD τ sig (Elt F) → Prop}
    (h : ∀ m', Rep c m' (A.softmax po' ro' hpo' hro') → Wpp (c : Thread nD τ) L own (k ⟨⟩) m' Q) : Wpp (c : Thread nD τ) L own (softmaxK B0 po ro hpo hro k) m Q := by
  subst e1 e2; exact softmax_w HF R h

theorem scores_e {m : Mem nD τ sig (Elt F)} {A : AS F} (HF : Held c L own fixedRefs) (R : Rep c m A) {po ro po' ro' : Nat} {hpo : po + 1 ≤ 96} {hro : ro + 1 ≤ 4} (e1 : po = po') (e2 : ro = ro') (hpo' : po' + 1 ≤ 96) (hro' : ro' + 1 ≤ 4)
    {k : PUnit.{1} → Pr F β} {Q : β → Mem nD τ sig (Elt F) → Prop}
    (h : ∀ m', Rep c m' (A.scores po' ro' hpo' hro') → Wpp (c : Thread nD τ) L own (k ⟨⟩) m' Q) : Wpp (c : Thread nD τ) L own (scoresK B0 po ro hpo hro k) m Q := by
  subst e1 e2; exact scores_w HF R h

theorem copy_e {m : Mem nD τ sig (Elt F)} {A : AS F} (HF : Held c L own fixedRefs) {sl sl' : Nat} (HS : HeldS c L own sl') (R : Rep c m A) {hsl : sl + 1 ≤ 4} {ro ro' : Nat} {hro : ro + 1 ≤ 4} {co co' : Nat} {hco : co + 8 ≤ 256}
    (e1 : sl = sl') (e2 : ro = ro') (e3 : co = co') (hsl' : sl' + 1 ≤ 4) (hco' : co' + 8 ≤ 256)
    {k : PUnit.{1} → Pr F β} {Q : β → Mem nD τ sig (Elt F) → Prop}
    (h : ∀ m', Rep c m' (A.copy sl' hsl' ro' co' hco') → Wpp (c : Thread nD τ) L own (k ⟨⟩) m' Q) : Wpp (c : Thread nD τ) L own (copyK B0 sl hsl ro hro co hco k) m Q := by
  subst e1 e2 e3; exact copy_w HF HS R h

theorem row_e {m : Mem nD τ sig (Elt F)} {A : ASw w} (HF : Held c L own fixedRefs) {p : Fin 96} (HS : HeldS c L own (p.val % 4)) {k : ℕ} {hk : k < 32} {r : Fin 4} (hW : WIn w p k hk) (n : ℕ)
    (R : Rep c m (A.rowsOf p k hk r hW n).1) {j : Fin 8} (ej : j = ⟨n % 8, Nat.mod_lt _ (by decide)⟩)
    {p' : Fin k0_t1_loop.trips} {pi sl ro wo co : Nat} {hpi : pi + 1 ≤ 96} {hsl : sl + 1 ≤ 4} {hro : ro + 1 ≤ 4} {hwo : wo + 1 ≤ 26112} {hco : co + 1 ≤ 256}
    (e1 : pi = p.val) (e2 : sl = p.val % 4) (e3 : ro = r.val) (e4 : wo = 272 * p.val + 8 * k + j.val) (e5 : co = 8 * k + j.val)
    {kk : PUnit.{1} → Pr F β} {Q : β → Mem nD τ sig (Elt F) → Prop}
    (h : ∀ m', Rep c m' (A.rowsOf p k hk r hW (n + 1)).1 → Wpp (c : Thread nD τ) L own (kk ⟨⟩) m' Q) :
    Wpp (c : Thread nD τ) L own (rowK B0 p' pi hpi sl hsl ro hro wo co hwo hco j kk) m Q := by
  subst e1 e2 e3 e4 e5 ej
  have hw := (A.rowsOf p k hk r hW n).2
  exact row_w HF HS R (chk6_ok p' _ (by rw [hw]; exact hW _)) h

theorem item_w {m : Mem nD τ sig (Elt F)} {A : ASw w} (HF : Held c L own fixedRefs) {p : Fin 96} (HS : HeldS c L own (p.val % 4)) (R : Rep c m A.1) {v : BitVec 32} {h1 : k0_chk1 (p.cast trips1.symm) v}
    (k : Fin (k0_t2_loop v).trips) (hk : k.val < 32) (y : Cy) (hW : WIn w p k.val hk) {kk : Carry → Pr F β} {Q : β → Mem nD τ sig (Elt F) → Prop}
    (h : ∀ m', Rep c m' (A.item p k.val hk y hW).1 → Wpp (c : Thread nD τ) L own (kk (y.next p).bv) m' Q) :
    Wpp (c : Thread nD τ) L own (itemK B0 (p.cast trips1.symm) v h1 k (BitVec.ofNat 32 y.r.val) (BitVec.ofNat 32 y.p1.val) (BitVec.ofNat 32 y.p2.val) (BitVec.ofNat 32 y.p3.val) kk) m Q := by
  unfold itemK
  have eP := pair_ix p
  have eR := ring_ok y.r
  refine ⟨(carry_ok y.p1).2.2.1, ⟨(carry_ok y.p2).2.1, ⟨eR.1, ⟨(carry_ok y.p3).1, ?_⟩⟩⟩⟩
  refine values_e HF R (carry_ok y.p3).2.2.2.2.2.2.1 (ring_eq y.r 1).1 (qq_lt y.p3) (rr_lt (rot y.r 1)) fun m R => ?_
  replace R : Rep c m (A.values y.p3 (rot y.r 1)).1 := R
  refine softmax_e HF R (carry_ok y.p2).2.2.2.2.2.2.1 (ring_eq y.r 2).1 (qq_lt y.p2) (rr_lt (rot y.r 2)) fun m R => ?_
  replace R : Rep c m ((A.values y.p3 (rot y.r 1)).softmax y.p2 (rot y.r 2)).1 := R
  refine scores_e HF R (carry_ok y.p1).2.2.2.2.2.2.2.1 (ring_eq y.r 3).1 (mm_lt y.p1) (rr_lt (rot y.r 3)) fun m R => ?_
  replace R : Rep c m (((A.values y.p3 (rot y.r 1)).softmax y.p2 (rot y.r 2)).scores y.p1 (rot y.r 3)).1 := R
  unfold ASw.item at h
  generalize ((A.values y.p3 (rot y.r 1)).softmax y.p2 (rot y.r 2)).scores y.p1 (rot y.r 3) = A' at R h
  refine copy_e HF HS R eP.2.1 eR.2.2 (rowBv_toNat k hk) (sl_lt p) (co8_lt hk) fun m R => ?_
  replace R : Rep c m (A'.copyOf p k.val hk y.r).1 := R
  unfold ASw.gather at h
  generalize A'.copyOf p k.val hk y.r = A'' at R h
  refine row_e HF HS hW 0 R rfl eP.2.2 eP.2.1 eR.2.2 (win_ix _ k hk 0) (row_ix k hk 0) fun m R => ?_
  refine row_e HF HS hW 1 R rfl eP.2.2 eP.2.1 eR.2.2 (win_ix _ k hk 1) (row_ix k hk 1) fun m R => ?_
  refine row_e HF HS hW 2 R rfl eP.2.2 eP.2.1 eR.2.2 (win_ix _ k hk 2) (row_ix k hk 2) fun m R => ?_
  refine row_e HF HS hW 3 R rfl eP.2.2 eP.2.1 eR.2.2 (win_ix _ k hk 3) (row_ix k hk 3) fun m R => ?_
  refine row_e HF HS hW 4 R rfl eP.2.2 eP.2.1 eR.2.2 (win_ix _ k hk 4) (row_ix k hk 4) fun m R => ?_
  refine row_e HF HS hW 5 R rfl eP.2.2 eP.2.1 eR.2.2 (win_ix _ k hk 5) (row_ix k hk 5) fun m R => ?_
  refine row_e HF HS hW 6 R rfl eP.2.2 eP.2.1 eR.2.2 (win_ix _ k hk 6) (row_ix k hk 6) fun m R => ?_
  refine row_e HF HS hW 7 R rfl eP.2.2 eP.2.1 eR.2.2 (win_ix _ k hk 7) (row_ix k hk 7) fun m R => ?_
  have e : (ringOf (BitVec.ofNat 32 y.r.val) 1#32, pairBv (p.cast trips1.symm), BitVec.ofNat 32 y.p1.val, BitVec.ofNat 32 y.p2.val) = (y.next p).bv :=
    congrArg₂ (fun a b => ((a, b, BitVec.ofNat 32 y.p1.val, BitVec.ofNat 32 y.p2.val) : Carry)) (ring_eq y.r 1).2 eP.1
  rw [e]
  exact h _ R

/-! ## The items of a pair -/

/-- Slot `p % 4` holds pair `p`'s codes and tables; the tables' later rows only if the pair has them. -/
structure SlotHas (H : Hbm F) (wv : Vec F S26112 .i32) (p : Fin 96) (A : AS F) : Prop where
  k : ∀ x ∈ kSet (p.val % 4), A.kbuf x = kImg H.kt p.val x
  v : ∀ x ∈ kSet (p.val % 4), A.vbuf x = kImg H.vt p.val x
  th : ∀ x ∈ hSet (p.val % 4), A.tbuf x = tImg H.tbl p.val x
  sh : ∀ x ∈ hSet (p.val % 4), A.sbuf x = tImg H.vst p.val x
  tl : long (F := F) wv p.val → ∀ x ∈ lSet (p.val % 4), A.tbuf x = tImg H.tbl p.val x
  sl : long (F := F) wv p.val → ∀ x ∈ lSet (p.val % 4), A.sbuf x = tImg H.vst p.val x

theorem wIn {wv : Vec F S26112 .i32} (hw : WOk wv) (p : Fin 96) (k : ℕ) (hk : k < nit (F := F) wv p.val) (hk' : k < 32) : WIn wv p k hk' := fun j => by
  have := hw.start p.val p.isLt (8 * k + j.val) (by omega) (by have := wo_lt p hk' j; omega)
  simpa only [Nat.add_assoc] using this

/-- What the transfers' buffers hold is left alone. -/
def Same (A A' : AS F) : Prop := A'.kbuf = A.kbuf ∧ A'.vbuf = A.vbuf ∧ A'.tbuf = A.tbuf ∧ A'.sbuf = A.sbuf

theorem same_rows (A : ASw w) (p : Fin 96) (k : ℕ) (hk : k < 32) (r : Fin 4) (hW : WIn w p k hk) (n : ℕ) : Same A.1 (A.rowsOf p k hk r hW n).1 := by
  induction n with
  | zero => exact ⟨rfl, rfl, rfl, rfl⟩
  | succ n ih => exact ih

theorem Same.trans {A B C : AS F} (h : Same A B) (h' : Same B C) : Same A C :=
  ⟨h'.1.trans h.1, h'.2.1.trans h.2.1, h'.2.2.1.trans h.2.2.1, h'.2.2.2.trans h.2.2.2⟩

theorem same_values (A : ASw w) (q : Fin 97) (r : Fin 4) : Same A.1 (A.values q r).1 := ⟨rfl, rfl, rfl, rfl⟩
theorem same_softmax (A : ASw w) (q : Fin 97) (r : Fin 4) : Same A.1 (A.softmax q r).1 := ⟨rfl, rfl, rfl, rfl⟩
theorem same_scores (A : ASw w) (q : Fin 97) (r : Fin 4) : Same A.1 (A.scores q r).1 := ⟨rfl, rfl, rfl, rfl⟩
theorem same_copy (A : ASw w) (p : Fin 96) (k : ℕ) (hk : k < 32) (r : Fin 4) : Same A.1 (A.copyOf p k hk r).1 := ⟨rfl, rfl, rfl, rfl⟩

theorem same_item (A : ASw w) (p : Fin 96) (k : ℕ) (hk : k < 32) (y : Cy) (hW : WIn w p k hk) : Same A.1 (A.item p k hk y hW).1 :=
  (same_values A y.p3 (rot y.r 1)).trans ((same_softmax (A.values y.p3 (rot y.r 1)) y.p2 (rot y.r 2)).trans ((same_scores ((A.values y.p3 (rot y.r 1)).softmax y.p2 (rot y.r 2)) y.p1 (rot y.r 3)).trans
    ((same_copy (((A.values y.p3 (rot y.r 1)).softmax y.p2 (rot y.r 2)).scores y.p1 (rot y.r 3)) p k hk y.r).trans (same_rows ((((A.values y.p3 (rot y.r 1)).softmax y.p2 (rot y.r 2)).scores y.p1 (rot y.r 3)).copyOf p k hk y.r) p k hk y.r hW 8))))

theorem SlotHas.same {H : Hbm F} {wv : Vec F S26112 .i32} {p : Fin 96} {A A' : AS F} (h : SlotHas H wv p A) (e : Same A A') : SlotHas H wv p A' := by
  obtain ⟨h1, h2, h3, h4⟩ := e
  exact ⟨by rw [h1]; exact h.k, by rw [h2]; exact h.v, by rw [h3]; exact h.th, by rw [h4]; exact h.sh, by rw [h3]; exact h.tl, by rw [h4]; exact h.sl⟩

/-- An invariant of the items, by pair and by item of the pair. -/
structure Inv (H : Hbm F) (wv : Vec F S26112 .i32) where
  J : ℕ → ℕ → Cy → AS F → Prop
  item : ∀ (p : Fin 96) (k : ℕ) (hk : k < nit (F := F) wv p.val) (hk' : k < 32) (y : Cy) (A : ASw wv) (hW : WIn wv p k hk'), J p.val k y A.1 → SlotHas H wv p A.1 →
    J p.val (k + 1) (y.next p) (A.item p k hk' y hW).1
  pair : ∀ (p : Fin 96) (y : Cy) (A : AS F), J p.val (nit (F := F) wv p.val) y A → J (p.val + 1) 0 y A
  bufs : ∀ (p k : ℕ) (y : Cy) (A : AS F) (kb vb tb sb), J p k y A → J p k y { A with kbuf := kb, vbuf := vb, tbuf := tb, sbuf := sb }

theorem items_w {H : Hbm F} {wv : Vec F S26112 .i32} (hw : WOk wv) (I : Inv H wv) {m : Mem nD τ sig (Elt F)} {A : AS F} (HF : Held c L own fixedRefs) {p : Fin 96} (HS : HeldS c L own (p.val % 4)) (R : Rep c m A) (y : Cy)
    (hA : A.win = wv) (hJ : I.J p.val 0 y A) (hS : SlotHas H wv p A) (v148 : FVec F S4x8x256 .bf16) {h1 : k0_chk1 (p.cast trips1.symm) (rowsW (F := F) wv p.val)} {Q : Carry → Mem nD τ sig (Elt F) → Prop}
    (h : ∀ y m' A', Rep c m' A' → A'.win = wv → I.J (p.val + 1) 0 y A' → Q y.bv m') :
    Wpp (c : Thread nD τ) L own (itemsK B0 cc0_scratch15 v148 (p.cast trips1.symm) (rowsW (F := F) wv p.val) h1 y.bv) m Q := by
  have hr := hw.rows p.val p.isLt
  have ht : (k0_t2_loop (rowsW (F := F) wv p.val)).trips = nit (F := F) wv p.val := by
    have := (trips23 ⟨(rowsW (F := F) wv p.val).toNat, by omega⟩).2.1
    rwa [show BitVec.ofNat 32 (⟨(rowsW (F := F) wv p.val).toNat, by omega⟩ : Fin 257).val = rowsW (F := F) wv p.val from by simp] at this
  refine wpp_for (fun k a m => ∃ y A, a = y.bv ∧ Rep c m A ∧ A.win = wv ∧ I.J p.val k y A ∧ SlotHas H wv p A) ⟨y, A, rfl, R, hA, hJ, hS⟩ ?_ ?_
  · rintro k _ m ⟨y, A, rfl, R, hA, hJ, hS⟩
    have hk : k.val < nit (F := F) wv p.val := ht ▸ k.isLt
    have hk' : k.val < 32 := Nat.lt_of_lt_of_le hk (hw.nit_le p.isLt)
    have hW : WIn wv p k.val hk' := wIn hw p k.val hk hk'
    rw [show y.bv = (BitVec.ofNat 32 y.r.val, BitVec.ofNat 32 y.p1.val, BitVec.ofNat 32 y.p2.val, BitVec.ofNat 32 y.p3.val) from rfl]
    rw [item_eq B0 cc0_scratch15 v148 (p.cast trips1.symm)]
    refine item_w (A := (⟨A, hA⟩ : ASw wv)) HF HS R k hk' y hW fun m' R' => ⟨y.next p, _, rfl, R', (ASw.item ⟨A, hA⟩ p k.val hk' y hW).2, I.item p k.val hk hk' y ⟨A, hA⟩ hW hJ hS, ?_⟩
    exact hS.same (same_item ⟨A, hA⟩ p k.val hk' y hW)
  · rintro _ m ⟨y, A, rfl, R, hA, hJ, hS⟩
    rw [ht] at hJ
    exact h y m A R hA (I.pair p y A hJ)

theorem rest_w {m : Mem nD τ sig (Elt F)} (v148 : FVec F S4x8x256 .bf16) (p : Fin k0_t1_loop.trips) (v : BitVec 32) (hv : v.toNat ≤ 256) {h1 : k0_chk1 p v} (a : Carry) {Q : Carry → Mem nD τ sig (Elt F) → Prop} (h : Q a m) :
    Wpp (c : Thread nD τ) L own (restK B0 cc0_scratch15 v148 p v h1 a) m Q := by
  have ht : (k0_t3_loop v).trips = 0 := by
    have := (trips23 ⟨v.toNat, by omega⟩).2.2.2
    rwa [show BitVec.ofNat 32 (⟨v.toNat, by omega⟩ : Fin 257).val = v from by simp] at this
  refine wpp_for (fun k a' m' => Q a' m') h (fun k => absurd k.isLt (by omega)) fun a m h => h

/-- The part of a pair between its wait and the next start. -/
def midK (v148 : FVec F S4x8x256 .bf16) (p : Fin k0_t1_loop.trips) (a : Carry) : Pr F Carry :=
  winK B0 (k0_off14 p 0) (k0_off14_inb p 0) fun v =>
  .op (.assume (k0_chk1 p v) (k0_chk1.dec p v)) fun h1 =>
  Prog.bind (itemsK B0 cc0_scratch15 v148 p v h1.down a) fun a => restK B0 cc0_scratch15 v148 p v h1.down a

theorem win_e {wo p : ℕ} {hwo : wo + 1 ≤ 26112} {m : Mem nD τ sig (Elt F)} {A : AS F} (HF : Held c L own fixedRefs) (R : Rep c m A) (e : wo = 272 * p + 256) {k : BitVec 32 → Pr F β} {Q : β → Mem nD τ sig (Elt F) → Prop}
    (h : Wpp (c : Thread nD τ) L own (k (rowsW (F := F) A.win p)) m Q) : Wpp (c : Thread nD τ) L own (winK B0 wo hwo k) m Q := by
  subst e
  have e : rowsW (F := F) A.win p = winAt (F := F) A.win (272 * p + 256) hwo :=
    congrArg A.win (by funext i; apply Fin.ext; rw [Rect.emb_apply]; fin_cases i; simp [ValueIdx.ix1]; omega)
  unfold winK
  refine wldF HF (by decide) R.win ?_
  rw [e] at h
  exact h

theorem mid_w {H : Hbm F} {wv : Vec F S26112 .i32} (hw : WOk wv) (I : Inv H wv) {m : Mem nD τ sig (Elt F)} {A : AS F} (HF : Held c L own fixedRefs) {p : Fin 96} (HS : HeldS c L own (p.val % 4)) (R : Rep c m A) (y : Cy)
    (hA : A.win = wv) (hJ : I.J p.val 0 y A) (hS : SlotHas H wv p A) (v148 : FVec F S4x8x256 .bf16) :
    Wpp (c : Thread nD τ) L own (midK v148 (p.cast trips1.symm) y.bv) m fun a m' => ∃ y' A', a = y'.bv ∧ Rep c m' A' ∧ A'.win = wv ∧ I.J (p.val + 1) 0 y' A' := by
  unfold midK
  refine win_e HF R (off_pair p).2.2.2.2.1 ?_
  rw [hA]
  refine ⟨chk1_ok _ _ (hw.rows p.val p.isLt), ?_⟩
  refine wpp_bind (items_w hw I HF HS R y hA hJ hS v148 fun y' m' A' R' hA' hJ' => ?_)
  exact rest_w v148 _ _ (hw.rows p.val p.isLt) _ ⟨y', A', rfl, R', hA', hJ'⟩

/-! ## The drained stages and the divisions -/

def ASw.drain (A : ASw w) (y : Cy) : ASw w :=
  (((((A.values y.p3 (rot y.r 1)).softmax y.p2 (rot y.r 2)).scores y.p1 (rot y.r 3)).values y.p2 (rot y.r 2)).softmax y.p1 (rot y.r 3)).values y.p1 (rot y.r 3)

def AS.drain (A : AS F) (y : Cy) : AS F := (ASw.drain ⟨A, rfl⟩ y).1

theorem win_drain (A : AS F) (y : Cy) : (A.drain y).win = A.win := (ASw.drain ⟨A, rfl⟩ y).2

theorem drain_w {m : Mem nD τ sig (Elt F)} {A : AS F} (HF : Held c L own fixedRefs) (R : Rep c m A) (y : Cy) {kk : PUnit.{1} → Pr F β} {Q : β → Mem nD τ sig (Elt F) → Prop}
    (h : ∀ m', Rep c m' (A.drain y) → Wpp (c : Thread nD τ) L own (kk ⟨⟩) m' Q) : Wpp (c : Thread nD τ) L own (drainK B0 y.bv kk) m Q := by
  unfold drainK
  refine ⟨(carry_ok y.p1).2.2.2.2.2.1, ⟨(carry_ok y.p2).2.2.2.2.1, ⟨(ring_ok y.r).2.1, ⟨(carry_ok y.p3).2.2.2.1, ?_⟩⟩⟩⟩
  refine values_e HF R (carry_ok y.p3).2.2.2.2.2.2.1 (ring_eq y.r 1).1 (qq_lt y.p3) (rr_lt (rot y.r 1)) fun m R => ?_
  refine softmax_e HF R (carry_ok y.p2).2.2.2.2.2.2.1 (ring_eq y.r 2).1 (qq_lt y.p2) (rr_lt (rot y.r 2)) fun m R => ?_
  refine scores_e HF R (carry_ok y.p1).2.2.2.2.2.2.2.2 (ring_eq y.r 3).1 (mm_lt y.p1) (rr_lt (rot y.r 3)) fun m R => ?_
  refine values_e HF R (carry_ok y.p2).2.2.2.2.2.2.1 (ring_eq y.r 2).1 (qq_lt y.p2) (rr_lt (rot y.r 2)) fun m R => ?_
  refine softmax_e HF R (carry_ok y.p1).2.2.2.2.2.2.1 (ring_eq y.r 3).1 (qq_lt y.p1) (rr_lt (rot y.r 3)) fun m R => ?_
  refine values_e HF R (carry_ok y.p1).2.2.2.2.2.2.1 (ring_eq y.r 3).1 (qq_lt y.p1) (rr_lt (rot y.r 3)) fun m R => ?_
  exact h _ R

def AS.fin1 (A : AS F) (p : Fin 96) : AS F := A.fin p.val (pp_lt p)

theorem fin_e {m : Mem nD τ sig (Elt F)} {A : AS F} (HF : Held c L own fixedRefs) (R : Rep c m A) (p : Fin 96) {po : Nat} {hpo : po + 1 ≤ 96} (e1 : po = p.val) {k : PUnit.{1} → Pr F β} {Q : β → Mem nD τ sig (Elt F) → Prop}
    (h : ∀ m', Rep c m' (A.fin1 p) → Wpp (c : Thread nD τ) L own (k ⟨⟩) m' Q) : Wpp (c : Thread nD τ) L own (finK B0 po hpo k) m Q := by
  subst e1; exact fin_w HF R h

/-- The divisions of the first `n` pairs. -/
def AS.fins (A : AS F) : ℕ → AS F
  | 0 => A
  | n + 1 => if h : n < 96 then (A.fins n).fin1 ⟨n, h⟩ else A.fins n

theorem fins_succ (A : AS F) (n : ℕ) (h : n < 96) : A.fins (n + 1) = (A.fins n).fin1 ⟨n, h⟩ := dif_pos h

theorem groups_w {m : Mem nD τ sig (Elt F)} {A : AS F} (HF : Held c L own fixedRefs) (R : Rep c m A) {Q : Unit → Mem nD τ sig (Elt F) → Prop} (h : ∀ m', Rep c m' (A.fins 96) → Q ⟨⟩ m') :
    Wpp (c : Thread nD τ) L own (groupsK B0 cc0_scratch15) m Q := by
  refine wpp_for (fun k a m => Rep c m (A.fins (8 * k))) R ?_ ?_
  · rintro i ⟨⟩ m R
    have hi : i.val < 12 := trips4 ▸ i.isLt
    have eo : ∀ u : Fin 8, k0_off413 i (BitVec.ofNat 32 u.val) 0 = 8 * i.val + u.val := fun u => off_fin ⟨i.val, hi⟩ u
    rw [group_eq]
    unfold groupK
    refine fin_e HF R ⟨8 * i.val, by omega⟩ (eo 0) fun m R => ?_
    rw [← fins_succ] at R
    refine fin_e HF R ⟨8 * i.val + 1, by omega⟩ (eo 1) fun m R => ?_
    rw [← fins_succ] at R
    refine fin_e HF R ⟨8 * i.val + 2, by omega⟩ (eo 2) fun m R => ?_
    rw [← fins_succ] at R
    refine fin_e HF R ⟨8 * i.val + 3, by omega⟩ (eo 3) fun m R => ?_
    rw [← fins_succ] at R
    refine fin_e HF R ⟨8 * i.val + 4, by omega⟩ (eo 4) fun m R => ?_
    rw [← fins_succ] at R
    refine fin_e HF R ⟨8 * i.val + 5, by omega⟩ (eo 5) fun m R => ?_
    rw [← fins_succ] at R
    refine fin_e HF R ⟨8 * i.val + 6, by omega⟩ (eo 6) fun m R => ?_
    rw [← fins_succ] at R
    refine fin_e HF R ⟨8 * i.val + 7, by omega⟩ (eo 7) fun m R => ?_
    rw [← fins_succ] at R
    exact R
  · rintro ⟨⟩ m R
    rw [trips4] at R
    exact h m R

end Cert.Attend

end
-- ==== Proof.Pairs.lean ====
/-
  The pairs' loop: between two pairs every slot has its next pair's transfers under way, or is idle when there is none;
  a pair waits for its slot, works on it and starts the transfers of the pair four further on.
-/
module

public import proofs.«01_k».proof.Proof.Items

@[expose] public section

set_option maxRecDepth 100000

noncomputable section

namespace Cert.Attend

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.ShareLeaves Idealize.ShloMosaic.Transfers

variable {F : FTy → Type} [FloatOps F]

local notation "𝕄" => MT nD τ sig Unit (Elt F) ℕ (Pipeline.UD sig nD τ) ℕ
local notation "EC" => (countersEmb (U := Pipeline.UD sig nD τ))

variable (c : Dev nD) (H : Hbm F)

/-! ## The buffers held -/

theorem St_insert {L : Finset (Loc nD τ sig)} {own : Own nD τ sig} {ℓ : Loc nD τ sig} (S : Finset (Idx ℓ)) (h : ℓ ∉ L) (mem : Mem nD τ sig (Elt F)) :
    (St (insert ℓ L) (Function.update own ℓ S) mem : sProp 𝕄) = iprop((ℓ ↦[S]{fullShare} mem ℓ) ∗ St L own mem) := by
  unfold St
  rw [bigSep_insert h, Function.update_self]
  congr 1
  exact bigSep_congr fun ℓ' h' => by rw [Function.update_of_ne (by rintro rfl; exact h h')]

theorem St_set {L : Finset (Loc nD τ sig)} {own : Own nD τ sig} {ℓ : Loc nD τ sig} (h : ℓ ∉ L) (mem : Mem nD τ sig (Elt F)) (f : Buf (Elt F) ℓ) :
    (St L own (mem.set ℓ f) : sProp 𝕄) = St L own mem := by
  unfold St
  exact bigSep_congr fun ℓ' h' => by rw [Mem.set_ne _ _ (by rintro rfl; exact h h')]

/-- The buffers no transfer touches, but the windows' table. -/
def L0 : Finset (Loc nD τ sig) := (fixedRefs.tail.map (at_ c)).toFinset

def own0 : Own nD τ sig := fun _ => Finset.univ

def LW : Finset (Loc nD τ sig) := insert (at_ c cc0_stg0_0) (L0 c)
def ownW : Own nD τ sig := Function.update own0 (at_ c cc0_stg0_0) Finset.univ

def LA : Finset (Loc nD τ sig) := insert (at_ c cc0_scratch0) (insert (at_ c cc0_scratch1) (insert (at_ c cc0_scratch2) (insert (at_ c cc0_scratch3) (LW c))))
def ownA (s : ℕ) : Own nD τ sig :=
  Function.update (Function.update (Function.update (Function.update (ownW c) (at_ c cc0_scratch3) (tSet s : Finset S4x256x128.Idx)) (at_ c cc0_scratch2) (tSet s : Finset S4x256x128.Idx))
    (at_ c cc0_scratch1) (kSet s : Finset S4x96x32768.Idx)) (at_ c cc0_scratch0) (kSet s : Finset S4x96x32768.Idx)

theorem nW : at_ c cc0_stg0_0 ∉ L0 c := by simp [L0, fixedRefs]
theorem nS : at_ c cc0_scratch3 ∉ LW c := by simp [LW, L0, fixedRefs]
theorem nT : at_ c cc0_scratch2 ∉ insert (at_ c cc0_scratch3) (LW c) := by simp [LW, L0, fixedRefs]
theorem nV : at_ c cc0_scratch1 ∉ insert (at_ c cc0_scratch2) (insert (at_ c cc0_scratch3) (LW c)) := by simp [LW, L0, fixedRefs]
theorem nK : at_ c cc0_scratch0 ∉ insert (at_ c cc0_scratch1) (insert (at_ c cc0_scratch2) (insert (at_ c cc0_scratch3) (LW c))) := by simp [LW, L0, fixedRefs]

theorem StW_eq (mem : Mem nD τ sig (Elt F)) : (St (LW c) (ownW c) mem : sProp 𝕄) = iprop(Win c (mem (at_ c cc0_stg0_0)) ∗ St (L0 c) own0 mem) :=
  St_insert (at_ c cc0_stg0_0 |> fun _ => Finset.univ) (nW c) mem

theorem StA_eq (s : ℕ) (mem : Mem nD τ sig (Elt F)) : (St (LA c) (ownA c s) mem : sProp 𝕄)
    = iprop(pK c (kSet s) (mem (at_ c cc0_scratch0)) ∗ pV c (kSet s) (mem (at_ c cc0_scratch1)) ∗ pT c (tSet s) (mem (at_ c cc0_scratch2)) ∗ pS c (tSet s) (mem (at_ c cc0_scratch3)) ∗ St (LW c) (ownW c) mem) := by
  unfold LA ownA
  rw [St_insert _ (nK c), St_insert _ (nV c), St_insert _ (nT c), St_insert _ (nS c)]
  rfl

theorem heldW : Held c (LW c) (ownW c) fixedRefs := by
  intro b hb
  rcases List.mem_cons.1 (show b ∈ cc0_stg0_0 :: fixedRefs.tail from hb) with rfl | hb'
  · exact ⟨Finset.mem_insert_self _ _, Function.update_self _ _ _⟩
  · have hm : at_ c b ∈ L0 c := List.mem_toFinset.2 (List.mem_map.2 ⟨b, hb', rfl⟩)
    exact ⟨Finset.mem_insert_of_mem hm, Function.update_of_ne (by intro e; rw [e] at hm; exact nW c hm) _ _⟩

theorem heldA (s : ℕ) : Held c (LA c) (ownA c s) fixedRefs := by
  intro b hb
  obtain ⟨h1, h2⟩ := heldW c b hb
  have hm : ∀ {ℓ : Loc nD τ sig}, ℓ ∉ LW c → at_ c b ≠ ℓ := fun hn e => hn (e ▸ h1)
  have m3 := hm (nS c)
  have m2 := hm (fun h => nT c (Finset.mem_insert_of_mem h))
  have m1 := hm (fun h => nV c (Finset.mem_insert_of_mem (Finset.mem_insert_of_mem h)))
  have m0 := hm (fun h => nK c (Finset.mem_insert_of_mem (Finset.mem_insert_of_mem (Finset.mem_insert_of_mem h))))
  refine ⟨Finset.mem_insert_of_mem (Finset.mem_insert_of_mem (Finset.mem_insert_of_mem (Finset.mem_insert_of_mem h1))), ?_⟩
  unfold ownA
  rw [Function.update_of_ne m0, Function.update_of_ne m1, Function.update_of_ne m2, Function.update_of_ne m3]
  exact h2

theorem heldSA (s : ℕ) : HeldS c (LA c) (ownA c s) s where
  k := by simp [LA]
  v := by simp [LA]
  t := by simp [LA]
  s := by simp [LA]
  ok := by unfold ownA; rw [Function.update_self]
  ov := by unfold ownA; rw [Function.update_of_ne (by intro e; simp at e), Function.update_self]
  ot := by unfold ownA; rw [Function.update_of_ne (by intro e; simp at e), Function.update_of_ne (by intro e; simp at e), Function.update_self]
  os := by unfold ownA; rw [Function.update_of_ne (by intro e; simp at e), Function.update_of_ne (by intro e; simp at e), Function.update_of_ne (by intro e; simp at e), Function.update_self]

/-! ## A slot's rows together -/

theorem hl_disj (s : ℕ) : Disjoint (hSet s) (lSet s) := by
  rw [Finset.disjoint_left]
  intro x hx hy
  have := (Finset.mem_filter.1 hx).2
  have := (Finset.mem_filter.1 hy).2
  omega

theorem hl_union (s : ℕ) : hSet s ∪ lSet s = tSet s := by
  ext x
  simp only [hSet, lSet, tSet, Finset.mem_union, Finset.mem_filter, Finset.mem_univ, true_and]
  omega

theorem joinT (s : ℕ) (f g : Vec F S4x256x128 .i32) : iprop(pT c (hSet s) f ∗ pT c (lSet s) g) ⊢ (pT c (tSet s) ((lSet s).piecewise g f) : sProp 𝕄) := by
  rw [← hl_union]; exact pointsTo_join (hl_disj s)

theorem joinS (s : ℕ) (f g : Vec F S4x256x128 .f32) : iprop(pS c (hSet s) f ∗ pS c (lSet s) g) ⊢ (pS c (tSet s) ((lSet s).piecewise g f) : sProp 𝕄) := by
  rw [← hl_union]; exact pointsTo_join (hl_disj s)

theorem splitT (s : ℕ) (f : Vec F S4x256x128 .i32) : (pT c (tSet s) f : sProp 𝕄) ⊢ iprop(pT c (hSet s) f ∗ pT c (lSet s) f) := by
  rw [← hl_union]; exact (pointsTo_union (hl_disj s)).1

theorem splitS (s : ℕ) (f : Vec F S4x256x128 .f32) : (pS c (tSet s) f : sProp 𝕄) ⊢ iprop(pS c (hSet s) f ∗ pS c (lSet s) f) := by
  rw [← hl_union]; exact (pointsTo_union (hl_disj s)).1

theorem pw_l (s : ℕ) {e : EltTy} (f g : Vec F S4x256x128 e) {x : S4x256x128.Idx} (hx : x ∈ lSet s) : (lSet s).piecewise g f x = g x := Finset.piecewise_eq_of_mem _ _ _ hx
theorem pw_h (s : ℕ) {e : EltTy} (f g : Vec F S4x256x128 e) {x : S4x256x128.Idx} (hx : x ∈ hSet s) : (lSet s).piecewise g f x = f x :=
  Finset.piecewise_eq_of_notMem _ _ _ fun h => Finset.disjoint_left.1 (hl_disj s) hx h

/-! ## A pair's work -/

variable {β : Type}

theorem wpA_bind {α : Type} (p : Pr F α) (f : α → Pr F β) (Q : β → sProp 𝕄) : wpA c p (fun a => wpA c (f a) Q) ⊢ wpA c (Prog.bind p f) Q :=
  Entails.of_eq (wp_bind _ _ _ p f Q).symm

def slotOf (p : Fin 96) : Fin 4 := ⟨p.val % 4, Nat.mod_lt _ (by decide)⟩

/-- The buffers of the transfers replaced. -/
def AS.slots (A : AS F) (kb : Vec F S4x96x32768 .i8) (vb : Vec F S4x96x32768 .i8) (tb : Vec F S4x256x128 .i32) (sb : Vec F S4x256x128 .f32) : AS F :=
  { A with kbuf := kb, vbuf := vb, tbuf := tb, sbuf := sb }

def slotsM (mem : Mem nD τ sig (Elt F)) (kb : Vec F S4x96x32768 .i8) (vb : Vec F S4x96x32768 .i8) (tb : Vec F S4x256x128 .i32) (sb : Vec F S4x256x128 .f32) : Mem nD τ sig (Elt F) :=
  (((mem.set (at_ c cc0_scratch0) kb).set (at_ c cc0_scratch1) vb).set (at_ c cc0_scratch2) tb).set (at_ c cc0_scratch3) sb

theorem rep_slots {mem : Mem nD τ sig (Elt F)} {A : AS F} (R : Rep c mem A) (kb : Vec F S4x96x32768 .i8) (vb : Vec F S4x96x32768 .i8) (tb : Vec F S4x256x128 .i32) (sb : Vec F S4x256x128 .f32) :
    Rep c (slotsM c mem kb vb tb sb) (A.slots kb vb tb sb) :=
  (((R.set_kbuf kb).set_vbuf vb).set_tbuf tb).set_sbuf sb

theorem StA_slots (s : ℕ) (mem : Mem nD τ sig (Elt F)) (kb : Vec F S4x96x32768 .i8) (vb : Vec F S4x96x32768 .i8) (tb : Vec F S4x256x128 .i32) (sb : Vec F S4x256x128 .f32) :
    (St (LA c) (ownA c s) (slotsM c mem kb vb tb sb) : sProp 𝕄)
      = iprop(pK c (kSet s) kb ∗ pV c (kSet s) vb ∗ pT c (tSet s) tb ∗ pS c (tSet s) sb ∗ Win c (mem (at_ c cc0_stg0_0)) ∗ St (L0 c) own0 mem) := by
  have e0 : slotsM c mem kb vb tb sb (at_ c cc0_scratch0) = kb := by
    unfold slotsM
    rw [Mem.set_ne _ _ (by intro e; simp at e), Mem.set_ne _ _ (by intro e; simp at e), Mem.set_ne _ _ (by intro e; simp at e), Mem.set_same]
  have e1 : slotsM c mem kb vb tb sb (at_ c cc0_scratch1) = vb := by
    unfold slotsM
    rw [Mem.set_ne _ _ (by intro e; simp at e), Mem.set_ne _ _ (by intro e; simp at e), Mem.set_same]
  have e2 : slotsM c mem kb vb tb sb (at_ c cc0_scratch2) = tb := by
    unfold slotsM
    rw [Mem.set_ne _ _ (by intro e; simp at e), Mem.set_same]
  have e3 : slotsM c mem kb vb tb sb (at_ c cc0_scratch3) = sb := by
    unfold slotsM
    rw [Mem.set_same]
  rw [StA_eq, e0, e1, e2, e3]
  unfold slotsM
  rw [St_set (nS c), St_set (fun h => nT c (Finset.mem_insert_of_mem h)), St_set (fun h => nV c (Finset.mem_insert_of_mem (Finset.mem_insert_of_mem h))),
    St_set (fun h => nK c (Finset.mem_insert_of_mem (Finset.mem_insert_of_mem (Finset.mem_insert_of_mem h)))), StW_eq]

def MidPost (wv : Vec F S26112 .i32) (I : Inv H wv) (n : ℕ) (a : Carry) (mem : Mem nD τ sig (Elt F)) : Prop :=
  ∃ y A, a = Cy.bv y ∧ Rep c mem A ∧ A.win = wv ∧ I.J n 0 y A

theorem mid_wp (wv : Vec F S26112 .i32) (hw : WOk wv) (I : Inv H wv) (p : Fin 96) (y : Cy) (mem : Mem nD τ sig (Elt F)) (A : AS F) (R : Rep c mem A) (hA : A.win = wv) (hJ : I.J p.val 0 y A) (v148 : FVec F S4x8x256 .bf16)
    (kb : Vec F S4x96x32768 .i8) (vb : Vec F S4x96x32768 .i8) (tb : Vec F S4x256x128 .i32) (sb : Vec F S4x256x128 .f32) (hS : SlotHas H wv p (A.slots kb vb tb sb)) (K : Carry → sProp 𝕄) :
    iprop(pK c (kSet (slotOf p).val) kb ∗ pV c (kSet (slotOf p).val) vb ∗ pT c (tSet (slotOf p).val) tb ∗ pS c (tSet (slotOf p).val) sb ∗ Win c wv ∗ St (L0 c) own0 mem)
      ⊢ iprop((∀ a mem', iprop(⌜MidPost c H wv I (p.val + 1) a mem'⌝) -∗ St (LA c) (ownA c (slotOf p).val) mem' -∗ K a) -∗ wpA c (midK v148 (p.cast trips1.symm) y.bv) K) := by
  have hmid := mid_w hw I (heldA c (slotOf p).val) (p := p) (heldSA c (slotOf p).val) (rep_slots c R kb vb tb sb) y hA (I.bufs p.val 0 y A kb vb tb sb hJ) hS v148
  have hwin : mem (at_ c cc0_stg0_0) = wv := R.win.trans hA
  have e := StA_slots c (slotOf p).val mem kb vb tb sb
  rw [hwin] at e
  exact (Entails.of_eq e.symm).trans (wpp_sound (Ix := Unit) (Name := ℕ) (Lvl := ℕ) (U := Pipeline.UD sig nD τ) (defs := defs₀ (F := F)) Variants.none (c : Thread nD τ) none Set.univ hmid)

theorem mid_spec (wv : Vec F S26112 .i32) (hw : WOk wv) (I : Inv H wv) (p : Fin 96) (y : Cy) (mem : Mem nD τ sig (Elt F)) (A : AS F) (R : Rep c mem A) (hA : A.win = wv) (hJ : I.J p.val 0 y A) (v148 : FVec F S4x8x256 .bf16)
    (K : Carry → sProp 𝕄) :
    iprop(Landed c H wv (slotOf p) p ∗ Win c wv ∗ St (L0 c) own0 mem)
      ⊢ iprop((∀ a mem', iprop(⌜MidPost c H wv I (p.val + 1) a mem'⌝) -∗ Idle c H (slotOf p) -∗ Win c wv -∗ St (L0 c) own0 mem' -∗ K a) -∗ wpA c (midK v148 (p.cast trips1.symm) y.bv) K) := by
  unfold Landed
  iintro ⟨⟨Hv, HSh, HT1, HS1, HK, HV, ⟨%ft, %hft, HT2⟩, ⟨%fs, %hfs, HS2⟩⟩, HW, HM⟩ Hk
  ihave HT := (joinT c (slotOf p).val _ _) $$ [HT1 HT2]
  · iframe
  ihave HS := (joinS c (slotOf p).val _ _) $$ [HS1 HS2]
  · iframe
  have hS : SlotHas H wv p (A.slots (kImg H.kt p.val) (kImg H.vt p.val) ((lSet (slotOf p).val).piecewise ft (tImg H.tbl p.val)) ((lSet (slotOf p).val).piecewise fs (tImg H.vst p.val))) :=
    ⟨fun x _ => rfl, fun x _ => rfl, fun x hx => pw_h _ _ _ hx, fun x hx => pw_h _ _ _ hx,
      fun hl x hx => (pw_l _ _ _ hx).trans (congrFun (hft hl) x), fun hl x hx => (pw_l _ _ _ hx).trans (congrFun (hfs hl) x)⟩
  iapply (mid_wp c H wv hw I p y mem A R hA hJ v148 _ _ _ _ hS K) $$ [HT HS HK HV HW HM]
  · iframe
  iintro %a %mem' %hP HM
  have hwin : mem' (at_ c cc0_stg0_0) = wv := by obtain ⟨y', A', -, R', h, -⟩ := hP; exact R'.win.trans h
  ihave HM := (Entails.of_eq (StA_eq c (slotOf p).val mem')) $$ HM
  icases HM with ⟨HK, HV, HT, HS, HM⟩
  ihave HT := (splitT c (slotOf p).val _) $$ HT
  ihave HS := (splitS c (slotOf p).val _) $$ HS
  icases HT with ⟨HT1, HT2⟩
  icases HS with ⟨HS1, HS2⟩
  ihave HM := (Entails.of_eq ((StW_eq c mem').trans (by rw [hwin]))) $$ HM
  icases HM with ⟨HW, HM⟩
  iapply Hk $$ %a %mem' %hP [Hv HSh HK HV HT1 HT2 HS1 HS2] HW HM
  unfold Idle
  iframe Hv HSh
  isplitl [HT1]
  · iexists _; iexact HT1
  isplitl [HS1]
  · iexists _; iexact HS1
  isplitl [HK]
  · iexists _; iexact HK
  isplitl [HV]
  · iexists _; iexact HV
  isplitl [HT2]
  · iexists _; iexact HT2
  iexists _; iexact HS2

/-! ## The slots between two pairs -/

/-- The next pair, from pair n on, of a slot. -/
def nextOf (n : ℕ) (s : Fin 4) : ℕ := n + (s.val + 4 - n % 4) % 4

open Classical in
def slotSt (wv : Vec F S26112 .i32) (n : ℕ) (s : Fin 4) : sProp 𝕄 :=
  if h : nextOf n s < 96 then Flight c H wv s ⟨nextOf n s, h⟩ else Idle c H s

theorem slot_flight (wv : Vec F S26112 .i32) (n : ℕ) (s : Fin 4) (p : Fin 96) (h : nextOf n s = p.val) : slotSt c H wv n s = Flight c H wv s p := by
  unfold slotSt
  rw [dif_pos (h ▸ p.isLt)]
  congr 1
  exact Fin.ext h

theorem slot_idle (wv : Vec F S26112 .i32) (n : ℕ) (s : Fin 4) (h : 96 ≤ nextOf n s) : slotSt c H wv n s = Idle c H s := by
  unfold slotSt
  rw [dif_neg (by omega)]

theorem slot_other (wv : Vec F S26112 .i32) (p : Fin 96) (s : Fin 4) (h : s ≠ slotOf p) : slotSt c H wv p.val s = slotSt c H wv (p.val + 1) s := by
  have e : nextOf p.val s = nextOf (p.val + 1) s := by
    have : s.val ≠ p.val % 4 := fun e => h (Fin.ext e)
    have := s.isLt
    unfold nextOf
    omega
  unfold slotSt
  rw [e]

theorem next_self (p : Fin 96) : nextOf p.val (slotOf p) = p.val := by
  unfold nextOf slotOf; show p.val + (p.val % 4 + 4 - p.val % 4) % 4 = _; omega

theorem next_self' (p : Fin 96) : nextOf (p.val + 1) (slotOf p) = p.val + 4 := by
  unfold nextOf slotOf; show p.val + 1 + (p.val % 4 + 4 - (p.val + 1) % 4) % 4 = _; omega

def Slots (wv : Vec F S26112 .i32) (n : ℕ) : sProp 𝕄 := bigSep (Finset.univ : Finset (Fin 4)) (slotSt c H wv n)

theorem slots_out (wv : Vec F S26112 .i32) (p : Fin 96) :
    Slots c H wv p.val = iprop(Flight c H wv (slotOf p) p ∗ bigSep (Finset.univ.erase (slotOf p)) (slotSt c H wv (p.val + 1))) := by
  unfold Slots
  rw [bigSep_erase (Finset.mem_univ (slotOf p)), slot_flight c H wv _ _ p (next_self p)]
  congr 1
  exact bigSep_congr fun s hs => slot_other c H wv p s (Finset.ne_of_mem_erase hs)

theorem slots_in (wv : Vec F S26112 .i32) (p : Fin 96) :
    Slots c H wv (p.val + 1) = iprop(slotSt c H wv (p.val + 1) (slotOf p) ∗ bigSep (Finset.univ.erase (slotOf p)) (slotSt c H wv (p.val + 1))) := by
  unfold Slots
  rw [bigSep_erase (Finset.mem_univ (slotOf p))]
  rfl

/-- What holds before pair n. -/
def PairSt (wv : Vec F S26112 .i32) (I : Inv H wv) (n : ℕ) (a : Carry) : sProp 𝕄 :=
  iprop(∃ mem, ⌜MidPost c H wv I n a mem⌝ ∗ St (L0 c) own0 mem ∗ Win c wv ∗ Ow (F := F) c ∗ Slots c H wv n)

/-- The transfers a pair starts at its end. -/
def nextK (p : Fin k0_t1_loop.trips) (a : Carry) : Pr F Carry :=
  if h : k0_cond6 p = 1#1 then
      startK B0 cc0_scratch15 (slotIx p) (k0_off332_inb p h 0) (k0_off333 p 0) (k0_off335 p 0) (k0_off335 p 1) (k0_off336 p 0) (k0_off339 p 0)
        (k0_off333_inb p h 0) (k0_off335_inb p h 0) (k0_off335_inb p h 1) (k0_off336_inb p h 0) (k0_off339_inb p h 0) fun _ => .ret a
    else .ret a

theorem pairK_split (v148 : FVec F S4x8x256 .bf16) (p : Fin k0_t1_loop.trips) (a : Carry) :
    pairK B0 cc0_scratch15 v148 p a = waitK B0 cc0_scratch15 (slotIx p) (k0_off6_inb p 0) (k0_off7 p 0) (k0_off9 p 0) (k0_off9 p 1) (k0_off10 p 0) (k0_off13 p 0)
    (k0_off7_inb p 0) (k0_off9_inb p 0) (k0_off9_inb p 1) (k0_off10_inb p 0) (k0_off13_inb p 0) fun _ => Prog.bind (midK v148 p a) (nextK p) := by
  unfold pairK midK
  exact congrArg _ (funext fun _ => congrArg (winK B0 _ _) (funext fun v => congrArg (Prog.op _) (funext fun h1 => (Prog.bind_assoc _ _ _).symm)))

theorem next_spec (wv : Vec F S26112 .i32) (p : Fin 96) (a : Carry) (Q : Carry → sProp 𝕄) :
    iprop(Idle c H (slotOf p) ∗ Win c wv) ⊢ iprop((slotSt c H wv (p.val + 1) (slotOf p) -∗ Win c wv -∗ Q a) -∗ wpA c (nextK (p.cast trips1.symm) a) Q) := by
  obtain ⟨hc, o1, o2, o3, o4, o5⟩ := off_next p
  unfold nextK
  by_cases h : k0_cond6 (p.cast trips1.symm) = 1#1
  · rw [dif_pos h, slot_flight c H wv _ _ ⟨p.val + 4, hc.1 h⟩ (next_self' p)]
    iintro ⟨HI, HW⟩ Hk
    iapply (start_spec c H wv (slotOf p) ⟨p.val + 4, hc.1 h⟩ _ _ _ _ _ _ (k0_off332_inb _ h 0) (k0_off333_inb _ h 0) (k0_off335_inb _ h 0) (k0_off335_inb _ h 1) (k0_off336_inb _ h 0) (k0_off339_inb _ h 0)
      (pair_ix p).2.1 o3 o1 o2 o4 o5 (fun _ => .ret a) Q) $$ [HI HW]
    · iframe
    iintro HF HW
    unfold wpA
    rw [wp_ret]
    imodintro
    iapply Hk $$ HF HW
  · rw [dif_neg h, slot_idle c H wv _ _ (by rw [next_self']; have := mt hc.2 h; omega)]
    iintro ⟨HI, HW⟩ Hk
    unfold wpA
    rw [wp_ret]
    imodintro
    iapply Hk $$ HI HW

theorem pair_spec (wv : Vec F S26112 .i32) (hw : WOk wv) (I : Inv H wv) (p : Fin 96) (v148 : FVec F S4x8x256 .bf16) (a : Carry) :
    PairSt c H wv I p.val a ⊢ wpA c (pairK B0 cc0_scratch15 v148 (p.cast trips1.symm) a) (PairSt c H wv I (p.val + 1)) := by
  obtain ⟨o1, o2, o3, o4, o5, o6⟩ := off_pair p
  rw [pairK_split]
  unfold PairSt
  rw [slots_out]
  iintro ⟨%mem, %hP, HM, HW, HO, HF, HR⟩
  obtain ⟨y, A, rfl, R, hA, hJ⟩ := hP
  iapply (waitK_spec c H wv (slotOf p) p _ _ _ _ _ _ (k0_off6_inb _ 0) (k0_off7_inb _ 0) (k0_off9_inb _ 0) (k0_off9_inb _ 1) (k0_off10_inb _ 0) (k0_off13_inb _ 0) (pair_ix p).2.1 o4
    (fun _ => Prog.bind (midK v148 (p.cast trips1.symm) y.bv) (nextK (p.cast trips1.symm))) _) $$ [HF HW HO]
  · iframe
  iintro HL HW HO
  iapply (wpA_bind c (midK v148 (p.cast trips1.symm) y.bv) (nextK (p.cast trips1.symm)) _)
  iapply (mid_spec c H wv hw I p y mem A R hA hJ v148 _) $$ [HL HW HM]
  · iframe
  iintro %a %mem' %hP' HI HW HM
  iapply (next_spec c H wv p a _) $$ [HI HW]
  · iframe
  iintro HF HW
  iexists mem'
  ihave HS := (Entails.of_eq (slots_in c H wv p).symm) $$ [HF HR]
  · iframe
  iframe
  ipureintro
  exact hP'

theorem pairs_spec (wv : Vec F S26112 .i32) (hw : WOk wv) (I : Inv H wv) (Q : Carry → sProp 𝕄) :
    PairSt c H wv I 0 (0#32, 96#32, 96#32, 96#32) ⊢ iprop((∀ a, PairSt c H wv I 96 a -∗ Q a) -∗ wpA c (pairsK B0 cc0_scratch15) Q) := by
  unfold pairsK Scf.Loop.for
  iintro H0 Hk
  iapply (Scf.wp_for frame (wpE (defs₀ (F := F)) Variants.none (c : Thread nD τ) none) Set.univ _ _ _ _ _ _ (PairSt c H wv I) (fun i a => by
    rw [pair_eq]
    exact pair_spec c H wv hw I ⟨i.val, trips1 ▸ i.isLt⟩ _ a)) $$ [H0 Hk]
  isplitl [H0]
  · iexact H0
  · iexact Hk

/-! ## The whole body -/

theorem four (Φ : Fin 4 → sProp 𝕄) : bigSep (Finset.univ : Finset (Fin 4)) Φ = iprop(Φ 0 ∗ Φ 1 ∗ Φ 2 ∗ Φ 3) := by
  rw [BI.bigSep_eq_bigSepL_of_eq [0, 1, 2, 3] (by decide) (by decide)]; rfl

theorem slots_end (wv : Vec F S26112 .i32) : Slots c H wv 96 = bigSep (Finset.univ : Finset (Fin 4)) (Idle c H) :=
  bigSep_congr fun s _ => slot_idle c H wv 96 s (by unfold nextOf; omega)

theorem slots_start (wv : Vec F S26112 .i32) : Slots c H wv 0 = iprop(Flight c H wv 0 0 ∗ Flight c H wv 1 1 ∗ Flight c H wv 2 2 ∗ Flight c H wv 3 3) := by
  unfold Slots
  rw [four, slot_flight c H wv 0 0 0 rfl, slot_flight c H wv 0 1 1 rfl, slot_flight c H wv 0 2 2 rfl, slot_flight c H wv 0 3 3 rfl]

theorem head_spec (wv : Vec F S26112 .i32) (k : PUnit.{1} → Pr F β) (Q : β → sProp 𝕄) :
    iprop(bigSep (Finset.univ : Finset (Fin 4)) (Idle c H) ∗ Win c wv) ⊢ iprop((Slots c H wv 0 -∗ Win c wv -∗ wpA c (initK B0 k) Q) -∗ wpA c (headK B0 cc0_scratch15 k) Q) := by
  rw [four, slots_start]
  unfold headK
  iintro ⟨⟨H0, H1, H2, H3⟩, HW⟩ Hk
  iapply (start_spec c H wv 0 0 0 0 0 0 256 (k0_off1 0) (Nat.le_of_ble_eq_true rfl) (Nat.le_of_ble_eq_true rfl) (Nat.le_of_ble_eq_true rfl) (Nat.le_of_ble_eq_true rfl) (Nat.le_of_ble_eq_true rfl) (k0_off1_inb 0) rfl rfl rfl rfl rfl rfl _ Q) $$ [H0 HW]
  · iframe
  iintro F0 HW
  iapply (start_spec c H wv 1 1 1 256 0 1 528 (k0_off2 0) (Nat.le_of_ble_eq_true rfl) (Nat.le_of_ble_eq_true rfl) (Nat.le_of_ble_eq_true rfl) (Nat.le_of_ble_eq_true rfl) (Nat.le_of_ble_eq_true rfl) (k0_off2_inb 0) rfl rfl rfl rfl rfl rfl _ Q) $$ [H1 HW]
  · iframe
  iintro F1 HW
  iapply (start_spec c H wv 2 2 2 512 0 2 800 (k0_off3 0) (Nat.le_of_ble_eq_true rfl) (Nat.le_of_ble_eq_true rfl) (Nat.le_of_ble_eq_true rfl) (Nat.le_of_ble_eq_true rfl) (Nat.le_of_ble_eq_true rfl) (k0_off3_inb 0) rfl rfl rfl rfl rfl rfl _ Q) $$ [H2 HW]
  · iframe
  iintro F2 HW
  iapply (start_spec c H wv 3 3 3 768 0 3 1072 (k0_off4 0) (Nat.le_of_ble_eq_true rfl) (Nat.le_of_ble_eq_true rfl) (Nat.le_of_ble_eq_true rfl) (Nat.le_of_ble_eq_true rfl) (Nat.le_of_ble_eq_true rfl) (k0_off4_inb 0) rfl rfl rfl rfl rfl rfl _ Q) $$ [H3 HW]
  · iframe
  iintro F3 HW
  iapply Hk $$ [F0 F1 F2 F3] HW
  iframe

theorem init_bind (k : PUnit.{1} → Pr F β) : initK B0 k = Prog.bind (initK B0 fun _ => .ret ⟨⟩) k := rfl
theorem drain_bind (a : Carry) (k : PUnit.{1} → Pr F β) : drainK B0 a k = Prog.bind (drainK B0 a fun _ => .ret ⟨⟩) k := rfl

/-- A program of the buffers no transfer touches. -/
theorem fixed_spec {α : Type} (wv : Vec F S26112 .i32) (mem : Mem nD τ sig (Elt F)) (hwin : mem (at_ c cc0_stg0_0) = wv) (p : Pr F α) (Q : α → Mem nD τ sig (Elt F) → Prop) (hQ : ∀ a m, Q a m → m (at_ c cc0_stg0_0) = wv)
    (h : Wpp (c : Thread nD τ) (LW c) (ownW c) p mem Q) (K : α → sProp 𝕄) :
    iprop(Win c wv ∗ St (L0 c) own0 mem) ⊢ iprop((∀ a mem', iprop(⌜Q a mem'⌝) -∗ Win c wv -∗ St (L0 c) own0 mem' -∗ K a) -∗ wpA c p K) := by
  have e := StW_eq c mem
  rw [hwin] at e
  have h2 : iprop(Win c wv ∗ St (L0 c) own0 mem) ⊢ iprop((∀ a mem', iprop(⌜Q a mem'⌝) -∗ St (LW c) (ownW c) mem' -∗ K a) -∗ wpA c p K) :=
    (Entails.of_eq e.symm).trans (wpp_sound (Ix := Unit) (Name := ℕ) (Lvl := ℕ) (U := Pipeline.UD sig nD τ) (defs := defs₀ (F := F)) Variants.none (c : Thread nD τ) none Set.univ h)
  iintro HH Hk
  iapply h2 $$ HH
  iintro %a %mem' %hP HM
  ihave HM := (Entails.of_eq ((StW_eq c mem').trans (by rw [hQ a mem' hP]))) $$ HM
  icases HM with ⟨HW, HM⟩
  iapply Hk $$ %a %mem' %hP HW HM

theorem win_fins (A : AS F) (n : ℕ) : (A.fins n).win = A.win := by
  induction n with
  | zero => rfl
  | succ n ih =>
    unfold AS.fins
    split
    · exact ih
    · exact ih

/-- The body, run from idle slots: it ends with idle slots, the buffers being what the invariant says after the last pair, drained and divided. -/
theorem attend_spec (wv : Vec F S26112 .i32) (hw : WOk wv) (I : Inv H wv) (mem : Mem nD τ sig (Elt F)) (A : AS F) (R : Rep c mem A) (hA : A.win = wv) (hJ : I.J 0 0 cy0 A.init) (Q : PUnit.{1} → sProp 𝕄) :
    iprop(bigSep (Finset.univ : Finset (Fin 4)) (Idle c H) ∗ Win c wv ∗ Ow (F := F) c ∗ St (L0 c) own0 mem)
      ⊢ iprop((∀ y mem' A', iprop(⌜Rep c mem' ((AS.drain A' y).fins 96) ∧ A'.win = wv ∧ I.J 96 0 y A'⌝) -∗ bigSep (Finset.univ : Finset (Fin 4)) (Idle c H) -∗ Win c wv -∗ Ow (F := F) c -∗ St (L0 c) own0 mem' -∗ Q ⟨⟩)
        -∗ wpA c (attendK B0 cc0_scratch15) Q) := by
  unfold attendK
  iintro ⟨HI, HW, HO, HM⟩ Hk
  iapply (head_spec c H wv _ Q) $$ [HI HW]
  · iframe
  iintro HS HW
  rw [init_bind]
  iapply (wpA_bind c (initK B0 fun _ => .ret ⟨⟩) _ Q)
  iapply (fixed_spec c wv mem (R.win.trans hA) (initK B0 fun _ => .ret ⟨⟩) (fun _ m => Rep c m A.init) (fun _ m h => h.win.trans hA) (init_w (heldW c) R fun m' R' => R') _) $$ [HW HM]
  · iframe
  iintro %u %mem1 %R1 HW HM
  iapply (wpA_bind c (pairsK B0 cc0_scratch15) _ Q)
  iapply (pairs_spec c H wv hw I _) $$ [HS HW HO HM]
  · unfold PairSt
    iexists mem1
    iframe
    ipureintro
    exact ⟨cy0, A.init, rfl, R1, hA, hJ⟩
  iintro %a HP
  unfold PairSt
  rw [slots_end]
  icases HP with ⟨%mem2, %hP, HM, HW, HO, HS⟩
  obtain ⟨y, A2, rfl, R2, hA2, hJ2⟩ := hP
  rw [drain_bind]
  iapply (wpA_bind c (drainK B0 y.bv fun _ => .ret ⟨⟩) _ Q)
  iapply (fixed_spec c wv mem2 (R2.win.trans hA2) (drainK B0 y.bv fun _ => .ret ⟨⟩) (fun _ m => Rep c m (A2.drain y)) (fun _ m h => h.win.trans ((win_drain A2 y).trans hA2)) (drain_w (heldW c) R2 y fun m' R' => R') _) $$ [HW HM]
  · iframe
  iintro %u2 %mem3 %R3 HW HM
  iapply (wpA_bind c (groupsK B0 cc0_scratch15) _ Q)
  iapply (fixed_spec c wv mem3 (R3.win.trans ((win_drain A2 y).trans hA2)) (groupsK B0 cc0_scratch15) (fun _ m => Rep c m ((A2.drain y).fins 96)) (fun _ m h => h.win.trans ((win_fins _ _).trans ((win_drain A2 y).trans hA2))) (groups_w (heldW c) R3 fun m' R' => R') _) $$ [HW HM]
  · iframe
  iintro %u3 %mem4 %R4 HW HM
  unfold wpA
  rw [wp_ret]
  imodintro
  iapply Hk $$ %y %mem4 %A2 %(And.intro R4 (And.intro hA2 hJ2)) HS HW HO HM

end Cert.Attend

end
-- ==== Proof.Body.lean ====
/-
  The body run from what a launch gives: every scoped buffer whole, the four cells at zero, the arguments left in HBM whole.
-/
module

public import proofs.«01_k».proof.Proof.Pairs

@[expose] public section

set_option maxRecDepth 100000

noncomputable section

namespace Cert.Attend

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.ShareLeaves Idealize.ShloMosaic.Transfers

variable {F : FTy → Type} [FloatOps F]

local notation "𝕄" => MT nD τ sig Unit (Elt F) ℕ (Pipeline.UD sig nD τ) ℕ
local notation "EC" => (countersEmb (U := Pipeline.UD sig nD τ))

variable (c : Dev nD) (H : Hbm F)

theorem bieq {P Q : sProp 𝕄} (h : P ⊢ Q) (h' : Q ⊢ P) : P = Q := Entails.antisymm h h'

/-! ## The inputs are left alone -/

/-- The staged inputs are the same. -/
structure Ins (A A' : AS F) : Prop where
  q : A'.q = A.q
  ksel : A'.ksel = A.ksel
  m0 : A'.m0 = A.m0
  l0 : A'.l0 = A.l0
  o0 : A'.o0 = A.o0

theorem Ins.refl (A : AS F) : Ins A A := ⟨rfl, rfl, rfl, rfl, rfl⟩
theorem Ins.trans {A B C : AS F} (h : Ins A B) (h' : Ins B C) : Ins A C :=
  ⟨h'.q.trans h.q, h'.ksel.trans h.ksel, h'.m0.trans h.m0, h'.l0.trans h.l0, h'.o0.trans h.o0⟩

variable {w : Vec F S26112 .i32}

theorem ins_rows (A : ASw w) (p : Fin 96) (k : ℕ) (hk : k < 32) (r : Fin 4) (hW : WIn w p k hk) (n : ℕ) : Ins A.1 (A.rowsOf p k hk r hW n).1 := by
  induction n with
  | zero => exact Ins.refl _
  | succ n ih => exact ⟨ih.1, ih.2, ih.3, ih.4, ih.5⟩
theorem ins_values (A : ASw w) (q : Fin 97) (r : Fin 4) : Ins A.1 (A.values q r).1 := ⟨rfl, rfl, rfl, rfl, rfl⟩
theorem ins_softmax (A : ASw w) (q : Fin 97) (r : Fin 4) : Ins A.1 (A.softmax q r).1 := ⟨rfl, rfl, rfl, rfl, rfl⟩
theorem ins_scores (A : ASw w) (q : Fin 97) (r : Fin 4) : Ins A.1 (A.scores q r).1 := ⟨rfl, rfl, rfl, rfl, rfl⟩
theorem ins_copy (A : ASw w) (p : Fin 96) (k : ℕ) (hk : k < 32) (r : Fin 4) : Ins A.1 (A.copyOf p k hk r).1 := ⟨rfl, rfl, rfl, rfl, rfl⟩

theorem ins_item (A : ASw w) (p : Fin 96) (k : ℕ) (hk : k < 32) (y : Cy) (hW : WIn w p k hk) : Ins A.1 (A.item p k hk y hW).1 :=
  (ins_values A y.p3 (rot y.r 1)).trans ((ins_softmax (A.values y.p3 (rot y.r 1)) y.p2 (rot y.r 2)).trans ((ins_scores ((A.values y.p3 (rot y.r 1)).softmax y.p2 (rot y.r 2)) y.p1 (rot y.r 3)).trans
    ((ins_copy (((A.values y.p3 (rot y.r 1)).softmax y.p2 (rot y.r 2)).scores y.p1 (rot y.r 3)) p k hk y.r).trans (ins_rows ((((A.values y.p3 (rot y.r 1)).softmax y.p2 (rot y.r 2)).scores y.p1 (rot y.r 3)).copyOf p k hk y.r) p k hk y.r hW 8))))

theorem ins_drain' (A : ASw w) (y : Cy) : Ins A.1 (A.drain y).1 :=
  (ins_values A y.p3 (rot y.r 1)).trans ((ins_softmax (A.values y.p3 (rot y.r 1)) y.p2 (rot y.r 2)).trans ((ins_scores ((A.values y.p3 (rot y.r 1)).softmax y.p2 (rot y.r 2)) y.p1 (rot y.r 3)).trans
    ((ins_values (((A.values y.p3 (rot y.r 1)).softmax y.p2 (rot y.r 2)).scores y.p1 (rot y.r 3)) y.p2 (rot y.r 2)).trans ((ins_softmax ((((A.values y.p3 (rot y.r 1)).softmax y.p2 (rot y.r 2)).scores y.p1 (rot y.r 3)).values y.p2 (rot y.r 2)) y.p1 (rot y.r 3)).trans
      (ins_values (((((A.values y.p3 (rot y.r 1)).softmax y.p2 (rot y.r 2)).scores y.p1 (rot y.r 3)).values y.p2 (rot y.r 2)).softmax y.p1 (rot y.r 3)) y.p1 (rot y.r 3))))))

theorem ins_drain (A : AS F) (y : Cy) : Ins A (A.drain y) := ins_drain' ⟨A, rfl⟩ y

theorem ins_fins (A : AS F) (n : ℕ) : Ins A (A.fins n) := by
  induction n with
  | zero => exact Ins.refl _
  | succ n ih =>
    unfold AS.fins
    split
    · exact ⟨ih.1, ih.2, ih.3, ih.4, ih.5⟩
    · exact ih

theorem ins_init (A : AS F) : Ins A A.init := ⟨rfl, rfl, rfl, rfl, rfl⟩

/-- An invariant together with the inputs being those of `A0`. -/
def Inv.ins {H : Hbm F} {wv : Vec F S26112 .i32} (I : Inv H wv) (A0 : AS F) : Inv H wv where
  J p k y A := I.J p k y A ∧ Ins A0 A
  item p k hk hk' y A hW h hS := ⟨I.item p k hk hk' y A hW h.1 hS, h.2.trans (ins_item A p k hk' y hW)⟩
  pair p y A h := ⟨I.pair p y A h.1, h.2⟩
  bufs p k y A kb vb tb sb h := ⟨I.bufs p k y A kb vb tb sb h.1, ⟨h.2.1, h.2.2, h.2.3, h.2.4, h.2.5⟩⟩

/-! ## The buffers no transfer touches, one by one -/

theorem nodup_L0 : (fixedRefs.tail.map (at_ c)).Nodup := by
  simp [fixedRefs]

theorem St_list (mem : Mem nD τ sig (Elt F)) : (St (L0 c) own0 mem : sProp 𝕄)
    = iprop((at_ c cc0_stg1_0 ↦{fullShare} mem (at_ c cc0_stg1_0)) ∗ (at_ c cc0_stg2_0 ↦{fullShare} mem (at_ c cc0_stg2_0)) ∗ (at_ c cc0_stg3_0 ↦{fullShare} mem (at_ c cc0_stg3_0))
      ∗ (at_ c cc0_stg4_0 ↦{fullShare} mem (at_ c cc0_stg4_0)) ∗ (at_ c cc0_stg5_0 ↦{fullShare} mem (at_ c cc0_stg5_0)) ∗ (at_ c cc0_stg6_0 ↦{fullShare} mem (at_ c cc0_stg6_0))
      ∗ (at_ c cc0_scratch4 ↦{fullShare} mem (at_ c cc0_scratch4)) ∗ (at_ c cc0_scratch5 ↦{fullShare} mem (at_ c cc0_scratch5)) ∗ (at_ c cc0_scratch6 ↦{fullShare} mem (at_ c cc0_scratch6))
      ∗ (at_ c cc0_scratch7 ↦{fullShare} mem (at_ c cc0_scratch7)) ∗ (at_ c cc0_scratch8 ↦{fullShare} mem (at_ c cc0_scratch8)) ∗ (at_ c cc0_scratch9 ↦{fullShare} mem (at_ c cc0_scratch9))
      ∗ (at_ c cc0_scratch10 ↦{fullShare} mem (at_ c cc0_scratch10)) ∗ (at_ c cc0_scratch11 ↦{fullShare} mem (at_ c cc0_scratch11)) ∗ (at_ c cc0_scratch12 ↦{fullShare} mem (at_ c cc0_scratch12))
      ∗ (at_ c cc0_scratch13 ↦{fullShare} mem (at_ c cc0_scratch13)) ∗ (at_ c cc0_scratch14 ↦{fullShare} mem (at_ c cc0_scratch14))) := by
  unfold St
  exact (BI.bigSep_eq_bigSepL_of_eq (fixedRefs.tail.map (at_ c)) (show L0 c = _ from rfl) (nodup_L0 c) _).trans rfl

theorem St_rep {mem : Mem nD τ sig (Elt F)} {A : AS F} (R : Rep c mem A) : (St (L0 c) own0 mem : sProp 𝕄)
    = iprop((at_ c cc0_stg1_0 ↦{fullShare} A.q) ∗ (at_ c cc0_stg2_0 ↦{fullShare} A.ksel) ∗ (at_ c cc0_stg3_0 ↦{fullShare} A.m0)
      ∗ (at_ c cc0_stg4_0 ↦{fullShare} A.l0) ∗ (at_ c cc0_stg5_0 ↦{fullShare} A.o0) ∗ (at_ c cc0_stg6_0 ↦{fullShare} A.out)
      ∗ (at_ c cc0_scratch4 ↦{fullShare} A.kscr) ∗ (at_ c cc0_scratch5 ↦{fullShare} A.vscr) ∗ (at_ c cc0_scratch6 ↦{fullShare} A.cscr)
      ∗ (at_ c cc0_scratch7 ↦{fullShare} A.vsscr) ∗ (at_ c cc0_scratch8 ↦{fullShare} A.sscr) ∗ (at_ c cc0_scratch9 ↦{fullShare} A.pscr)
      ∗ (at_ c cc0_scratch10 ↦{fullShare} A.ascr) ∗ (at_ c cc0_scratch11 ↦{fullShare} A.lscr) ∗ (at_ c cc0_scratch12 ↦{fullShare} A.mst)
      ∗ (at_ c cc0_scratch13 ↦{fullShare} A.lst) ∗ (at_ c cc0_scratch14 ↦{fullShare} A.ost)) := by
  rw [St_list, R.q, R.ksel, R.m0, R.l0, R.o0, R.out, R.kscr, R.vscr, R.cscr, R.vsscr, R.sscr, R.pscr, R.ascr, R.lscr, R.mst, R.lst, R.ost]

/-- A memory at which every buffer holds what `A` says. -/
theorem rep_of (m : Mem nD τ sig (Elt F)) (A : AS F) : ∃ mem, Rep c mem A := by
  refine ⟨((((((((((((((((((((((m.set (at_ c cc0_stg0_0) A.win).set (at_ c cc0_stg1_0) A.q).set (at_ c cc0_stg2_0) A.ksel).set (at_ c cc0_stg3_0) A.m0).set (at_ c cc0_stg4_0) A.l0).set (at_ c cc0_stg5_0) A.o0).set (at_ c cc0_stg6_0) A.out).set (at_ c cc0_scratch0) A.kbuf).set (at_ c cc0_scratch1) A.vbuf).set (at_ c cc0_scratch2) A.tbuf).set (at_ c cc0_scratch3) A.sbuf).set (at_ c cc0_scratch4) A.kscr).set (at_ c cc0_scratch5) A.vscr).set (at_ c cc0_scratch6) A.cscr).set (at_ c cc0_scratch7) A.vsscr).set (at_ c cc0_scratch8) A.sscr).set (at_ c cc0_scratch9) A.pscr).set (at_ c cc0_scratch10) A.ascr).set (at_ c cc0_scratch11) A.lscr).set (at_ c cc0_scratch12) A.mst).set (at_ c cc0_scratch13) A.lst).set (at_ c cc0_scratch14) A.ost), ?_⟩
  constructor <;> repeat (first | exact Mem.set_same _ _ _ | refine (Mem.set_ne _ _ (by intro e; simp at e)).trans ?_)

/-! ## The slots' buffers and the shares -/

theorem four_join {ℓ : Loc nD τ sig} (K : Fin 4 → Finset (Idx ℓ)) (h : ∀ t t', t ≠ t' → Disjoint (K t) (K t')) (hU : Finset.univ.biUnion K = Finset.univ) :
    (bigSep (Finset.univ : Finset (Fin 4)) (fun s => iprop(∃ f : Buf (Elt F) ℓ, ℓ ↦[K s]{fullShare} f)) : sProp 𝕄) ⊢ iprop(∃ f : Buf (Elt F) ℓ, ℓ ↦{fullShare} f) := by
  rw [four]
  iintro ⟨⟨%f0, H0⟩, ⟨%f1, H1⟩, ⟨%f2, H2⟩, ⟨%f3, H3⟩⟩
  ihave HH := ((Entails.of_eq (four (F := F) (fun s => ℓ ↦[K s]{fullShare} (![f0, f1, f2, f3] : Fin 4 → Buf (Elt F) ℓ) s)).symm).trans
    (pointsTo_biUnion_join Finset.univ K (![f0, f1, f2, f3] : Fin 4 → Buf (Elt F) ℓ) f0 fun t _ t' _ => h t t')) $$ [H0 H1 H2 H3]
  · isplitl [H0]
    · iexact H0
    isplitl [H1]
    · iexact H1
    isplitl [H2]
    · iexact H2
    iexact H3
  icases HH with ⟨%g, -, HH⟩
  rw [hU]
  iexists g
  iexact HH

theorem four_split {ℓ : Loc nD τ sig} (K : Fin 4 → Finset (Idx ℓ)) (h : ∀ t t', t ≠ t' → Disjoint (K t) (K t')) (hU : Finset.univ.biUnion K = Finset.univ) :
    (iprop(∃ f : Buf (Elt F) ℓ, ℓ ↦{fullShare} f) : sProp 𝕄) ⊢ bigSep (Finset.univ : Finset (Fin 4)) (fun s => iprop(∃ f : Buf (Elt F) ℓ, ℓ ↦[K s]{fullShare} f)) := by
  iintro ⟨%f, HH⟩
  ihave HH := (Entails.of_eq ((congrArg (fun S => (ℓ ↦[S]{fullShare} f : sProp 𝕄)) hU.symm).trans (pointsTo_biUnion Finset.univ K fun t _ t' _ => h t t'))) $$ HH
  have hm : (bigSep (Finset.univ : Finset (Fin 4)) (fun s => ℓ ↦[K s]{fullShare} f) : sProp 𝕄) ⊢ bigSep (Finset.univ : Finset (Fin 4)) (fun s => iprop(∃ f : Buf (Elt F) ℓ, ℓ ↦[K s]{fullShare} f)) :=
    bigSep_mono fun s _ => show (ℓ ↦[K s]{fullShare} f : sProp 𝕄) ⊢ iprop(∃ f : Buf (Elt F) ℓ, ℓ ↦[K s]{fullShare} f) by iintro H; iexists f; iexact H
  iapply hm $$ HH

theorem kSet_disj (t t' : Fin 4) (h : t ≠ t') : Disjoint (kSet t.val) (kSet t'.val) := by
  rw [Finset.disjoint_left]
  intro x hx hy
  exact h (Fin.ext ((Finset.mem_filter.1 hx).2.symm.trans (Finset.mem_filter.1 hy).2))
theorem tSet_disj (t t' : Fin 4) (h : t ≠ t') : Disjoint (tSet t.val) (tSet t'.val) := by
  rw [Finset.disjoint_left]
  intro x hx hy
  exact h (Fin.ext ((Finset.mem_filter.1 hx).2.symm.trans (Finset.mem_filter.1 hy).2))
theorem kSet_univ : (Finset.univ : Finset (Fin 4)).biUnion (fun s => kSet s.val) = Finset.univ := by
  ext x
  simp only [Finset.mem_biUnion, Finset.mem_univ, true_and, iff_true]
  exact ⟨⟨(x 0).val, (x 0).isLt⟩, Finset.mem_filter.2 ⟨Finset.mem_univ _, rfl⟩⟩
theorem tSet_univ : (Finset.univ : Finset (Fin 4)).biUnion (fun s => tSet s.val) = Finset.univ := by
  ext x
  simp only [Finset.mem_biUnion, Finset.mem_univ, true_and, iff_true]
  exact ⟨⟨(x 0).val, (x 0).isLt⟩, Finset.mem_filter.2 ⟨Finset.mem_univ _, rfl⟩⟩

theorem hl_T (s : Fin 4) : (iprop((∃ f, pT c (hSet s.val) f) ∗ (∃ f, pT c (lSet s.val) f)) : sProp 𝕄) = iprop(∃ f, pT (F := F) c (tSet s.val) f) := by
  refine bieq ?_ ?_
  · iintro ⟨⟨%f, H⟩, ⟨%g, H'⟩⟩
    iexists _
    iapply (joinT c s.val f g)
    iframe
  · iintro ⟨%f, H⟩
    ihave H := (splitT c s.val f) $$ H
    icases H with ⟨H, H'⟩
    isplitl [H]
    · iexists f; iexact H
    · iexists f; iexact H'
theorem hl_S (s : Fin 4) : (iprop((∃ f, pS c (hSet s.val) f) ∗ (∃ f, pS c (lSet s.val) f)) : sProp 𝕄) = iprop(∃ f, pS (F := F) c (tSet s.val) f) := by
  refine bieq ?_ ?_
  · iintro ⟨⟨%f, H⟩, ⟨%g, H'⟩⟩
    iexists _
    iapply (joinS c s.val f g)
    iframe
  · iintro ⟨%f, H⟩
    ihave H := (splitS c s.val f) $$ H
    icases H with ⟨H, H'⟩
    isplitl [H]
    · iexists f; iexact H
    · iexists f; iexact H'

theorem all_K : (bigSep (Finset.univ : Finset (Fin 4)) (fun s => iprop(∃ f, pK c (kSet s.val) f)) : sProp 𝕄) = iprop(∃ f : Vec F S4x96x32768 .i8, at_ c cc0_scratch0 ↦{fullShare} f) :=
  bieq (four_join (ℓ := at_ c cc0_scratch0) (fun s => kSet s.val) kSet_disj kSet_univ) (four_split (ℓ := at_ c cc0_scratch0) (fun s => kSet s.val) kSet_disj kSet_univ)
theorem all_V : (bigSep (Finset.univ : Finset (Fin 4)) (fun s => iprop(∃ f, pV c (kSet s.val) f)) : sProp 𝕄) = iprop(∃ f : Vec F S4x96x32768 .i8, at_ c cc0_scratch1 ↦{fullShare} f) :=
  bieq (four_join (ℓ := at_ c cc0_scratch1) (fun s => kSet s.val) kSet_disj kSet_univ) (four_split (ℓ := at_ c cc0_scratch1) (fun s => kSet s.val) kSet_disj kSet_univ)
theorem all_T : (bigSep (Finset.univ : Finset (Fin 4)) (fun s => iprop(∃ f, pT c (tSet s.val) f)) : sProp 𝕄) = iprop(∃ f : Vec F S4x256x128 .i32, at_ c cc0_scratch2 ↦{fullShare} f) :=
  bieq (four_join (ℓ := at_ c cc0_scratch2) (fun s => tSet s.val) tSet_disj tSet_univ) (four_split (ℓ := at_ c cc0_scratch2) (fun s => tSet s.val) tSet_disj tSet_univ)
theorem all_S : (bigSep (Finset.univ : Finset (Fin 4)) (fun s => iprop(∃ f, pS c (tSet s.val) f)) : sProp 𝕄) = iprop(∃ f : Vec F S4x256x128 .f32, at_ c cc0_scratch3 ↦{fullShare} f) :=
  bieq (four_join (ℓ := at_ c cc0_scratch3) (fun s => tSet s.val) tSet_disj tSet_univ) (four_split (ℓ := at_ c cc0_scratch3) (fun s => tSet s.val) tSet_disj tSet_univ)

theorem eight (Φ : Fin 8 → sProp 𝕄) : bigSep (Finset.univ : Finset (Fin 8)) Φ
    = iprop(bigSep (Finset.univ : Finset (Fin 4)) (fun s => Φ ⟨s.val, by omega⟩) ∗ bigSep (Finset.univ : Finset (Fin 4)) (fun s => Φ ⟨4 + s.val, by omega⟩)) := by
  rw [BI.bigSep_eq_bigSepL_of_eq [0, 1, 2, 3, 4, 5, 6, 7] (by decide) (by decide), four, four]
  refine bieq ?_ ?_
  · show iprop(Φ 0 ∗ Φ 1 ∗ Φ 2 ∗ Φ 3 ∗ Φ 4 ∗ Φ 5 ∗ Φ 6 ∗ Φ 7) ⊢ iprop((Φ 0 ∗ Φ 1 ∗ Φ 2 ∗ Φ 3) ∗ (Φ 4 ∗ Φ 5 ∗ Φ 6 ∗ Φ 7))
    iintro ⟨H0, H1, H2, H3, H4, H5, H6, H7⟩
    iframe
  · show iprop((Φ 0 ∗ Φ 1 ∗ Φ 2 ∗ Φ 3) ∗ (Φ 4 ∗ Φ 5 ∗ Φ 6 ∗ Φ 7)) ⊢ iprop(Φ 0 ∗ Φ 1 ∗ Φ 2 ∗ Φ 3 ∗ Φ 4 ∗ Φ 5 ∗ Φ 6 ∗ Φ 7)
    iintro ⟨⟨H0, H1, H2, H3⟩, ⟨H4, H5, H6, H7⟩⟩
    iframe

theorem all_hK : (hK c H Finset.univ fullShare : sProp 𝕄) = bigSep (Finset.univ : Finset (Fin 4)) (fun s => hK c H Finset.univ (shK s)) := pointsTo_leaves _ _ 2 fullShare
theorem all_hV : (hV c H Finset.univ fullShare : sProp 𝕄) = bigSep (Finset.univ : Finset (Fin 4)) (fun s => hV c H Finset.univ (shK s)) := pointsTo_leaves _ _ 2 fullShare
theorem all_hT : (hT c H Finset.univ fullShare : sProp 𝕄) = iprop(bigSep (Finset.univ : Finset (Fin 4)) (fun s => hT c H Finset.univ (shH s)) ∗ bigSep (Finset.univ : Finset (Fin 4)) (fun s => hT c H Finset.univ (shL s))) :=
  (pointsTo_leaves _ _ 3 fullShare).trans (eight _)
theorem all_hS : (hS c H Finset.univ fullShare : sProp 𝕄) = iprop(bigSep (Finset.univ : Finset (Fin 4)) (fun s => hS c H Finset.univ (shH s)) ∗ bigSep (Finset.univ : Finset (Fin 4)) (fun s => hS c H Finset.univ (shL s))) :=
  (pointsTo_leaves _ _ 3 fullShare).trans (eight _)

theorem seps (Φ Ψ : Fin 4 → sProp 𝕄) : bigSep (Finset.univ : Finset (Fin 4)) (fun s => iprop(Φ s ∗ Ψ s))
    = iprop(bigSep (Finset.univ : Finset (Fin 4)) Φ ∗ bigSep (Finset.univ : Finset (Fin 4)) Ψ) := BI.bigSep_sep _ _ _

/-- The four slots idle are the cells at zero, the arguments whole and the transfers' buffers whole at anything. -/
theorem idle_eq : (bigSep (Finset.univ : Finset (Fin 4)) (Idle c H) : sProp 𝕄)
    ⊣⊢ iprop(bigSep (Finset.univ : Finset (Fin 4)) (fun s => semVal ((c : Thread nD τ), cellOf' s) 0)
      ∗ (hK c H Finset.univ fullShare ∗ hV c H Finset.univ fullShare ∗ hT c H Finset.univ fullShare ∗ hS c H Finset.univ fullShare)
      ∗ ((∃ f : Vec F S4x96x32768 .i8, at_ c cc0_scratch0 ↦{fullShare} f) ∗ (∃ f : Vec F S4x96x32768 .i8, at_ c cc0_scratch1 ↦{fullShare} f)
        ∗ (∃ f : Vec F S4x256x128 .i32, at_ c cc0_scratch2 ↦{fullShare} f) ∗ (∃ f : Vec F S4x256x128 .f32, at_ c cc0_scratch3 ↦{fullShare} f))) := by
  have e : (bigSep (Finset.univ : Finset (Fin 4)) (Idle c H) : sProp 𝕄) = bigSep (Finset.univ : Finset (Fin 4)) (fun s =>
      iprop(semVal ((c : Thread nD τ), cellOf' s) 0 ∗ (hT c H Finset.univ (shH s) ∗ hS c H Finset.univ (shH s) ∗ hK c H Finset.univ (shK s) ∗ hV c H Finset.univ (shK s) ∗ hT c H Finset.univ (shL s) ∗ hS c H Finset.univ (shL s))
        ∗ (∃ f, pT (F := F) c (tSet s.val) f) ∗ (∃ f, pS (F := F) c (tSet s.val) f) ∗ (∃ f, pK (F := F) c (kSet s.val) f) ∗ (∃ f, pV (F := F) c (kSet s.val) f))) :=
    bigSep_congr fun s _ => by
      rw [← hl_T, ← hl_S]
      unfold Idle Shares
      refine bieq ?_ ?_
      · iintro ⟨H0, H1, H2, H3, H4, H5, H6, H7⟩
        iframe
      · iintro ⟨H0, H1, ⟨H2, H6⟩, ⟨H3, H7⟩, H4, H5⟩
        iframe
  rw [e, all_hK, all_hV, all_hT, all_hS, ← all_K, ← all_V, ← all_T, ← all_S]
  rw [seps, seps, seps, seps, seps, seps, seps, seps, seps, seps]
  constructor
  · iintro ⟨H0, ⟨H1, H2, H3, H4, H5, H6⟩, H7, H8, H9, H10⟩
    iframe
  · iintro ⟨H0, ⟨H3, H4, ⟨H1, H5⟩, ⟨H2, H6⟩⟩, H9, H10, H7, H8⟩
    iframe

/-! ## The body, from the staged inputs and buffers at anything -/

/-- The buffers no transfer touches and nothing stages, at anything. -/
def Scr : sProp 𝕄 :=
  iprop((∃ f, at_ c cc0_scratch4 ↦{fullShare} f) ∗ (∃ f, at_ c cc0_scratch5 ↦{fullShare} f) ∗ (∃ f, at_ c cc0_scratch6 ↦{fullShare} f)
      ∗ (∃ f, at_ c cc0_scratch7 ↦{fullShare} f) ∗ (∃ f, at_ c cc0_scratch8 ↦{fullShare} f) ∗ (∃ f, at_ c cc0_scratch9 ↦{fullShare} f)
      ∗ (∃ f, at_ c cc0_scratch10 ↦{fullShare} f) ∗ (∃ f, at_ c cc0_scratch11 ↦{fullShare} f) ∗ (∃ f, at_ c cc0_scratch12 ↦{fullShare} f)
      ∗ (∃ f, at_ c cc0_scratch13 ↦{fullShare} f) ∗ (∃ f, at_ c cc0_scratch14 ↦{fullShare} f))

/-- The staged inputs but the windows' table. -/
def Stg (A : AS F) : sProp 𝕄 :=
  iprop((at_ c cc0_stg1_0 ↦{fullShare} A.q) ∗ (at_ c cc0_stg2_0 ↦{fullShare} A.ksel) ∗ (at_ c cc0_stg3_0 ↦{fullShare} A.m0)
      ∗ (at_ c cc0_stg4_0 ↦{fullShare} A.l0) ∗ (at_ c cc0_stg5_0 ↦{fullShare} A.o0))

theorem st_in (m : Mem nD τ sig (Elt F)) (A : AS F) : (iprop(Stg c A ∗ (∃ f : Vec F S96x8x96 .f32, at_ c cc0_stg6_0 ↦{fullShare} f) ∗ Scr c) : sProp 𝕄)
    ⊢ iprop(∃ mem A', ⌜Rep c mem A' ∧ A'.win = A.win ∧ Ins A A'⌝ ∗ St (L0 c) own0 mem) := by
  unfold Stg Scr
  iintro ⟨⟨H1, H2, H3, H4, H5⟩, ⟨%o, H6⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩⟩
  obtain ⟨mem, R⟩ := rep_of c m (⟨A.win, A.q, A.ksel, A.m0, A.l0, A.o0, o, A.kbuf, A.vbuf, A.tbuf, A.sbuf, s4, s5, s6, s7, s8, s9, s10, s11, s12, s13, s14⟩ : AS F)
  iexists mem
  iexists _
  isplitr
  · ipureintro
    exact ⟨R, rfl, rfl, rfl, rfl, rfl, rfl⟩
  rw [St_rep c R]
  iframe

theorem st_out {mem : Mem nD τ sig (Elt F)} {A A' : AS F} (R : Rep c mem A') (h : Ins A A') : (St (L0 c) own0 mem : sProp 𝕄)
    ⊢ iprop(Stg c A ∗ (at_ c cc0_stg6_0 ↦{fullShare} A'.out) ∗ Scr c) := by
  unfold Stg Scr
  rw [St_rep c R, ← h.q, ← h.ksel, ← h.m0, ← h.l0, ← h.o0]
  iintro ⟨H1, H2, H3, H4, H5, H6, S4, S5, S6, S7, S8, S9, S10, S11, S12, S13, S14⟩
  isplitl [H1 H2 H3 H4 H5]
  · iframe
  isplitl [H6]
  · iexact H6
  isplitl [S4]
  · iexists _; iexact S4
  isplitl [S5]
  · iexists _; iexact S5
  isplitl [S6]
  · iexists _; iexact S6
  isplitl [S7]
  · iexists _; iexact S7
  isplitl [S8]
  · iexists _; iexact S8
  isplitl [S9]
  · iexists _; iexact S9
  isplitl [S10]
  · iexists _; iexact S10
  isplitl [S11]
  · iexists _; iexact S11
  isplitl [S12]
  · iexists _; iexact S12
  isplitl [S13]
  · iexists _; iexact S13
  iexists _; iexact S14

/-- The body from the slots idle and the staged inputs, the rest at anything: the same again, the result what the last pair's state says. -/
theorem body_core (m : Mem nD τ sig (Elt F)) (A : AS F) (hw : WOk A.win) (I : Inv H A.win) (hJ : ∀ A' : AS F, A'.win = A.win → Ins A A' → I.J 0 0 cy0 A'.init) (Q : PUnit.{1} → sProp 𝕄) :
    iprop(bigSep (Finset.univ : Finset (Fin 4)) (Idle c H) ∗ Win c A.win ∗ Ow (F := F) c ∗ Stg c A ∗ (∃ f : Vec F S96x8x96 .f32, at_ c cc0_stg6_0 ↦{fullShare} f) ∗ Scr c)
      ⊢ iprop((∀ y A', iprop(⌜A'.win = A.win ∧ I.J 96 0 y A' ∧ Ins A A'⌝) -∗ iprop(bigSep (Finset.univ : Finset (Fin 4)) (Idle c H) ∗ Win c A.win ∗ Ow (F := F) c ∗ Stg c A ∗ (at_ c cc0_stg6_0 ↦{fullShare} ((AS.drain A' y).fins 96).out) ∗ Scr c) -∗ Q ⟨⟩)
        -∗ wpA c (attendK B0 cc0_scratch15) Q) := by
  iintro ⟨HI, HW, HO, HS⟩
  ihave HS := (st_in c m A) $$ HS
  icases HS with ⟨%mem, %A1, %hR, HS⟩
  obtain ⟨R, hA1, hI1⟩ := hR
  have hwA : A1.win = A.win := hA1
  iintro HQ
  iapply (attend_spec c H A.win hw (I.ins A) mem A1 R hwA ⟨hJ A1 hwA hI1, hI1.trans (ins_init A1)⟩ Q) $$ [HI HW HO HS]
  · iframe
  iintro %y %mem' %A' %h HI HW HO HS
  obtain ⟨R', hw', hJ', hI'⟩ := h
  ihave HS := (st_out c R' ((hI'.trans (ins_drain A' y)).trans (ins_fins (AS.drain A' y) 96))) $$ HS
  icases HS with ⟨HS, HO6, HC⟩
  iapply HQ $$ %y %A' %⟨hw', hJ', hI'⟩
  iframe

end Cert.Attend

end
-- ==== Proof.Frame.lean ====
/-
  The launch: the proof data of the one pipeline, its body from `body_core`, and the run of the program.
-/
module

public import proofs.«01_k».proof.Proof.Body
public import proofs.«01_k».proof.Proof.Gen.Kernel.Launch
public import Idealize.ShloMosaic.Lib.Pipeline.FrameBody
public import Idealize.ShloMosaic.Lib.Tactic

@[expose] public section

set_option maxRecDepth 100000

noncomputable section

namespace Cert.Attend

open Cert.Kernel Cert.Kernel.Gen
open Idealize.ShloMosaic.Rounds Idealize.ShloMosaic.Tactic
open Idealize.ShloMosaic.Pipeline (Dat Cfg Window BodyObligation BodyObligationLoose)
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.ShareLeaves Idealize.ShloMosaic.Transfers

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (o : Dev nD → Vec F S96x8x96 .f32)

/-! ## The program up to the region -/

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- A window's block, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem idx_zero0 : ∀ t : Fin cfg0.N, ∀ a : Fin 1, win0_0.index t a = 0 := (by decide +kernel : ∀ t : Fin grid0.N, _)
theorem blkEmb0 (t : Fin cfg0.N) (j : S26112.Idx) : ((cfg0.win 0).blk t).view.emb j = j := by
  funext a; apply Fin.ext
  match a with
  | ⟨0, _⟩ => show win0_0.index t (0 : Fin 1) * 26112 + 1 * (j 0).val = (j 0).val; rw [idx_zero0]; omega
theorem iblk0_eq (c : Dev nD) (t : Fin cfg0.N) : iblk m c 0 t = V m c main_arg0 := by
  funext j; show V m c main_arg0 (((cfg0.win 0).blk t).view.emb j) = V m c main_arg0 j; rw [blkEmb0]
theorem idx_zero1 : ∀ t : Fin cfg0.N, ∀ a : Fin 3, win0_1.index t a = 0 := (by decide +kernel : ∀ t : Fin grid0.N, _)
theorem blkEmb1 (t : Fin cfg0.N) (j : S96x8x96.Idx) : ((cfg0.win 1).blk t).view.emb j = j := by
  funext a; apply Fin.ext
  match a with
  | ⟨0, _⟩ => show win0_1.index t (0 : Fin 3) * 96 + 1 * (j 0).val = (j 0).val; rw [idx_zero1]; omega
  | ⟨1, _⟩ => show win0_1.index t (1 : Fin 3) * 8 + 1 * (j 1).val = (j 1).val; rw [idx_zero1]; omega
  | ⟨2, _⟩ => show win0_1.index t (2 : Fin 3) * 96 + 1 * (j 2).val = (j 2).val; rw [idx_zero1]; omega
theorem iblk1_eq (c : Dev nD) (t : Fin cfg0.N) : iblk m c 1 t = V m c main_arg1 := by
  funext j; show V m c main_arg1 (((cfg0.win 1).blk t).view.emb j) = V m c main_arg1 j; rw [blkEmb1]
theorem idx_zero2 : ∀ t : Fin cfg0.N, ∀ a : Fin 3, win0_2.index t a = 0 := (by decide +kernel : ∀ t : Fin grid0.N, _)
theorem blkEmb2 (t : Fin cfg0.N) (j : S96x48x128.Idx) : ((cfg0.win 2).blk t).view.emb j = j := by
  funext a; apply Fin.ext
  match a with
  | ⟨0, _⟩ => show win0_2.index t (0 : Fin 3) * 96 + 1 * (j 0).val = (j 0).val; rw [idx_zero2]; omega
  | ⟨1, _⟩ => show win0_2.index t (1 : Fin 3) * 48 + 1 * (j 1).val = (j 1).val; rw [idx_zero2]; omega
  | ⟨2, _⟩ => show win0_2.index t (2 : Fin 3) * 128 + 1 * (j 2).val = (j 2).val; rw [idx_zero2]; omega
theorem iblk2_eq (c : Dev nD) (t : Fin cfg0.N) : iblk m c 2 t = V m c main_arg2 := by
  funext j; show V m c main_arg2 (((cfg0.win 2).blk t).view.emb j) = V m c main_arg2 j; rw [blkEmb2]
theorem idx_zero3 : ∀ t : Fin cfg0.N, ∀ a : Fin 3, win0_3.index t a = 0 := (by decide +kernel : ∀ t : Fin grid0.N, _)
theorem blkEmb3 (t : Fin cfg0.N) (j : S96x8x128.Idx) : ((cfg0.win 3).blk t).view.emb j = j := by
  funext a; apply Fin.ext
  match a with
  | ⟨0, _⟩ => show win0_3.index t (0 : Fin 3) * 96 + 1 * (j 0).val = (j 0).val; rw [idx_zero3]; omega
  | ⟨1, _⟩ => show win0_3.index t (1 : Fin 3) * 8 + 1 * (j 1).val = (j 1).val; rw [idx_zero3]; omega
  | ⟨2, _⟩ => show win0_3.index t (2 : Fin 3) * 128 + 1 * (j 2).val = (j 2).val; rw [idx_zero3]; omega
theorem iblk3_eq (c : Dev nD) (t : Fin cfg0.N) : iblk m c 3 t = V m c main_arg3 := by
  funext j; show V m c main_arg3 (((cfg0.win 3).blk t).view.emb j) = V m c main_arg3 j; rw [blkEmb3]
theorem idx_zero4 : ∀ t : Fin cfg0.N, ∀ a : Fin 3, win0_4.index t a = 0 := (by decide +kernel : ∀ t : Fin grid0.N, _)
theorem blkEmb4 (t : Fin cfg0.N) (j : S96x8x128.Idx) : ((cfg0.win 4).blk t).view.emb j = j := by
  funext a; apply Fin.ext
  match a with
  | ⟨0, _⟩ => show win0_4.index t (0 : Fin 3) * 96 + 1 * (j 0).val = (j 0).val; rw [idx_zero4]; omega
  | ⟨1, _⟩ => show win0_4.index t (1 : Fin 3) * 8 + 1 * (j 1).val = (j 1).val; rw [idx_zero4]; omega
  | ⟨2, _⟩ => show win0_4.index t (2 : Fin 3) * 128 + 1 * (j 2).val = (j 2).val; rw [idx_zero4]; omega
theorem iblk4_eq (c : Dev nD) (t : Fin cfg0.N) : iblk m c 4 t = V m c main_arg4 := by
  funext j; show V m c main_arg4 (((cfg0.win 4).blk t).view.emb j) = V m c main_arg4 j; rw [blkEmb4]
theorem idx_zero5 : ∀ t : Fin cfg0.N, ∀ a : Fin 3, win0_5.index t a = 0 := (by decide +kernel : ∀ t : Fin grid0.N, _)
theorem blkEmb5 (t : Fin cfg0.N) (j : S96x8x96.Idx) : ((cfg0.win 5).blk t).view.emb j = j := by
  funext a; apply Fin.ext
  match a with
  | ⟨0, _⟩ => show win0_5.index t (0 : Fin 3) * 96 + 1 * (j 0).val = (j 0).val; rw [idx_zero5]; omega
  | ⟨1, _⟩ => show win0_5.index t (1 : Fin 3) * 8 + 1 * (j 1).val = (j 1).val; rw [idx_zero5]; omega
  | ⟨2, _⟩ => show win0_5.index t (2 : Fin 3) * 96 + 1 * (j 2).val = (j 2).val; rw [idx_zero5]; omega
theorem iblk5_eq (c : Dev nD) (t : Fin cfg0.N) : iblk m c 5 t = V m c main_arg5 := by
  funext j; show V m c main_arg5 (((cfg0.win 5).blk t).view.emb j) = V m c main_arg5 j; rw [blkEmb5]
theorem idx_zero6 : ∀ t : Fin cfg0.N, ∀ a : Fin 3, win0_6.index t a = 0 := (by decide +kernel : ∀ t : Fin grid0.N, _)
theorem blkEmb6 (t : Fin cfg0.N) (j : S96x8x96.Idx) : ((cfg0.win 6).blk t).view.emb j = j := by
  funext a; apply Fin.ext
  match a with
  | ⟨0, _⟩ => show win0_6.index t (0 : Fin 3) * 96 + 1 * (j 0).val = (j 0).val; rw [idx_zero6]; omega
  | ⟨1, _⟩ => show win0_6.index t (1 : Fin 3) * 8 + 1 * (j 1).val = (j 1).val; rw [idx_zero6]; omega
  | ⟨2, _⟩ => show win0_6.index t (2 : Fin 3) * 96 + 1 * (j 2).val = (j 2).val; rw [idx_zero6]; omega

/-! ## The body's cells and the arguments left in HBM -/

abbrev osem0 : Fin 4 → SemLoc sig := fun j => (![SemLoc.dma 7, SemLoc.dma 8, SemLoc.dma 9, SemLoc.dma 10] : Fin 4 → SemLoc sig) j
theorem ownSemFacts0 : Pipeline.OwnSemFacts spec0 osem0 := by decide
theorem ownSems_eq (c : Dev nD) : (Pipeline.ownSems0 (Ix := Unit) (Name := ℕ) (U := Pipeline.UD sig nD τ) (Lvl := ℕ) (Val := Elt F) (τ := τ) osem0 c : sProp 𝕄)
    = bigSep (Finset.univ : Finset (Fin 4)) (fun s => semVal ((c : Thread nD τ), cellOf' s) 0) := by
  rw [Pipeline.ownSems0_eq_of_list c osem0 [0, 1, 2, 3] (by decide) (by decide), four]; rfl
def H0 : Finset (Ref sig .tc) := {main_arg6, main_arg7, main_arg8, main_arg9}
theorem H0_sub : H0 ⊆ Pipeline.restRefs sig spec0 := by decide

/-- The arguments left in HBM. -/
def hbm (c : Dev nD) : Hbm F := ⟨V m c main_arg6, V m c main_arg7, V m c main_arg8, V m c main_arg9⟩

theorem hbmPts_eq (c : Dev nD) : (bigSep H0 (fun b => ((c : Thread nD τ).loc b) ↦{fullShare} V m c b) : sProp 𝕄)
    = iprop(hK c (hbm m c) Finset.univ fullShare ∗ hV c (hbm m c) Finset.univ fullShare ∗ hT c (hbm m c) Finset.univ fullShare ∗ hS c (hbm m c) Finset.univ fullShare) := by
  rw [BI.bigSep_eq_bigSepL_of_eq [main_arg6, main_arg7, main_arg8, main_arg9] (by decide) (by decide)]; rfl

/-- Between points: the slots idle, the buffers at anything and the generator's register. -/
theorem Phi_eq (c : Dev nD) : (Pipeline.ΦD osem0 spec0 H0 (V m) c : sProp 𝕄)
    = iprop(bigSep (Finset.univ : Finset (Fin 4)) (Idle c (hbm m c)) ∗ Scr (F := F) c ∗ (∃ r, prngReg c r)) := by
  rw [Pipeline.ΦD_eq, scopedRest0_eq, ownSems_eq, hbmPts_eq]
  refine bieq ?_ ?_
  · iintro ⟨⟨S0, S1, S2, S3, S4⟩, HR, HO, HH⟩
    isplitl [S0 S1 S2 S3 HO HH]
    · iapply (idle_eq c (hbm m c)).2
      iframe
    isplitl [S4]
    · unfold Scr
      iexact S4
    iexact HR
  · iintro ⟨HI, HS, HR⟩
    ihave HI := (idle_eq c (hbm m c)).1 $$ HI
    icases HI with ⟨HO, HH, S0, S1, S2, S3⟩
    unfold Scr
    isplitl [S0 S1 S2 S3 HS]
    · isplitl [S0]
      · iexact S0
      isplitl [S1]
      · iexact S1
      isplitl [S2]
      · iexact S2
      isplitl [S3]
      · iexact S3
      iexact HS
    iframe

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o c
    | ⟨_ + 7, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m o 0 c).A w = V m c (Pipeline.arrRef spec0 w) := by dsimp only [dats]
theorem after0 (c : Dev nD) (t : Fin cfg0.N) : (dats m o 0 c).after 0 t = iblk m c 0 t := by dsimp only [dats]
theorem after1 (c : Dev nD) (t : Fin cfg0.N) : (dats m o 0 c).after 1 t = iblk m c 1 t := by dsimp only [dats]
theorem after2 (c : Dev nD) (t : Fin cfg0.N) : (dats m o 0 c).after 2 t = iblk m c 2 t := by dsimp only [dats]
theorem after3 (c : Dev nD) (t : Fin cfg0.N) : (dats m o 0 c).after 3 t = iblk m c 3 t := by dsimp only [dats]
theorem after4 (c : Dev nD) (t : Fin cfg0.N) : (dats m o 0 c).after 4 t = iblk m c 4 t := by dsimp only [dats]
theorem after5 (c : Dev nD) (t : Fin cfg0.N) : (dats m o 0 c).after 5 t = iblk m c 5 t := by dsimp only [dats]
theorem after6 (c : Dev nD) (t : Fin cfg0.N) : (dats m o 0 c).after 6 t = o c := by dsimp only [dats]
theorem before0 (c : Dev nD) (t : Fin cfg0.N) (d) : (dats m o 0 c).before 0 t d = V m c main_arg0 :=
  (((dats m o 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)).trans (iblk0_eq m c t)
theorem before1 (c : Dev nD) (t : Fin cfg0.N) (d) : (dats m o 0 c).before 1 t d = V m c main_arg1 :=
  (((dats m o 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)).trans (iblk1_eq m c t)
theorem before2 (c : Dev nD) (t : Fin cfg0.N) (d) : (dats m o 0 c).before 2 t d = V m c main_arg2 :=
  (((dats m o 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)).trans (iblk2_eq m c t)
theorem before3 (c : Dev nD) (t : Fin cfg0.N) (d) : (dats m o 0 c).before 3 t d = V m c main_arg3 :=
  (((dats m o 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)).trans (iblk3_eq m c t)
theorem before4 (c : Dev nD) (t : Fin cfg0.N) (d) : (dats m o 0 c).before 4 t d = V m c main_arg4 :=
  (((dats m o 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)).trans (iblk4_eq m c t)
theorem before5 (c : Dev nD) (t : Fin cfg0.N) (d) : (dats m o 0 c).before 5 t d = V m c main_arg5 :=
  (((dats m o 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)).trans (iblk5_eq m c t)

/-- What the staged buffers hold when the body starts, the others at anything. -/
def inA (c : Dev nD) : AS F :=
  ⟨V m c main_arg0, V m c main_arg1, V m c main_arg2, V m c main_arg3, V m c main_arg4, V m c main_arg5, m (at_ c cc0_stg6_0), m (at_ c cc0_scratch0), m (at_ c cc0_scratch1), m (at_ c cc0_scratch2), m (at_ c cc0_scratch3),
    m (at_ c cc0_scratch4), m (at_ c cc0_scratch5), m (at_ c cc0_scratch6), m (at_ c cc0_scratch7), m (at_ c cc0_scratch8), m (at_ c cc0_scratch9), m (at_ c cc0_scratch10), m (at_ c cc0_scratch11), m (at_ c cc0_scratch12), m (at_ c cc0_scratch13), m (at_ c cc0_scratch14)⟩

/-- The body at the one point: the staged inputs as they were, the result what the last pair's state says. -/
theorem body_run (c : Dev nD) (t : Fin cfg0.N) (hw : WOk (inA m c).win) (I : Inv (hbm m c) (inA m c).win) (hJ : ∀ A' : AS F, A'.win = (inA m c).win → Ins (inA m c) A' → I.J 0 0 cy0 A'.init)
    (Q : PUnit.{1} → sProp 𝕄) :
    iprop(Pipeline.ΦD osem0 spec0 H0 (V m) c ∗ Ow (F := F) c ∗ Win c (V m c main_arg0) ∗ Stg c (inA m c) ∗ (∃ f : Vec F S96x8x96 .f32, at_ c cc0_stg6_0 ↦{fullShare} f))
      ⊢ iprop((∀ y A', iprop(⌜A'.win = (inA m c).win ∧ I.J 96 0 y A' ∧ Ins (inA m c) A'⌝) -∗ iprop(Pipeline.ΦD osem0 spec0 H0 (V m) c ∗ Ow (F := F) c ∗ Win c (V m c main_arg0) ∗ Stg c (inA m c) ∗ (at_ c cc0_stg6_0 ↦{fullShare} ((AS.drain A' y).fins 96).out)) -∗ Q ⟨⟩)
        -∗ wpA c (bodyAt0 (F := F) t) Q) := by
  rw [Phi_eq, body_eq]
  iintro ⟨⟨HI, HS, HR⟩, HO, HW, HG, H6⟩ HQ
  iapply (body_core c (hbm m c) m (inA m c) hw I hJ Q) $$ [HI HS HO HW HG H6]
  · isplitl [HI]
    · iexact HI
    isplitl [HW]
    · iexact HW
    iframe
  iintro %y %A' %h ⟨HI, HW, HO, HG, H6, HS⟩
  iapply HQ $$ %y %A' %h
  isplitl [HI HS HR]
  · iframe
  isplitl [HO]
  · iexact HO
  isplitl [HW]
  · iexact HW
  iframe

/-! ## The body's obligation -/

theorem in0 (c : Dev nD) (t : Fin cfg0.N) : (iprop(∃ d, owns (c : Thread nD τ) (win0_0.stage (cfg0.slots t 0)) fullShare ((dats m o 0 c).before 0 t d)) : sProp 𝕄) ⊢ (at_ c cc0_stg0_0 ↦{fullShare} V m c main_arg0) := by
  iintro ⟨%d, H⟩
  rw [before0]
  iapply (Entails.of_eq (owns_whole (c : Thread nD τ) cc0_stg0_0 fullShare (V m c main_arg0))) $$ H
theorem out0 (c : Dev nD) (t : Fin cfg0.N) : (at_ c cc0_stg0_0 ↦{fullShare} V m c main_arg0 : sProp 𝕄) ⊢ owns (c : Thread nD τ) (win0_0.stage (cfg0.slots t 0)) fullShare ((dats m o 0 c).after 0 t) := by
  rw [after0, iblk0_eq]
  exact Entails.of_eq (owns_whole (c : Thread nD τ) cc0_stg0_0 fullShare (V m c main_arg0)).symm
theorem in1 (c : Dev nD) (t : Fin cfg0.N) : (iprop(∃ d, owns (c : Thread nD τ) (win0_1.stage (cfg0.slots t 1)) fullShare ((dats m o 0 c).before 1 t d)) : sProp 𝕄) ⊢ (at_ c cc0_stg1_0 ↦{fullShare} V m c main_arg1) := by
  iintro ⟨%d, H⟩
  rw [before1]
  iapply (Entails.of_eq (owns_whole (c : Thread nD τ) cc0_stg1_0 fullShare (V m c main_arg1))) $$ H
theorem out1 (c : Dev nD) (t : Fin cfg0.N) : (at_ c cc0_stg1_0 ↦{fullShare} (inA m c).q : sProp 𝕄) ⊢ owns (c : Thread nD τ) (win0_1.stage (cfg0.slots t 1)) fullShare ((dats m o 0 c).after 1 t) := by
  rw [after1, iblk1_eq]
  exact Entails.of_eq (owns_whole (c : Thread nD τ) cc0_stg1_0 fullShare (V m c main_arg1)).symm
theorem in2 (c : Dev nD) (t : Fin cfg0.N) : (iprop(∃ d, owns (c : Thread nD τ) (win0_2.stage (cfg0.slots t 2)) fullShare ((dats m o 0 c).before 2 t d)) : sProp 𝕄) ⊢ (at_ c cc0_stg2_0 ↦{fullShare} V m c main_arg2) := by
  iintro ⟨%d, H⟩
  rw [before2]
  iapply (Entails.of_eq (owns_whole (c : Thread nD τ) cc0_stg2_0 fullShare (V m c main_arg2))) $$ H
theorem out2 (c : Dev nD) (t : Fin cfg0.N) : (at_ c cc0_stg2_0 ↦{fullShare} (inA m c).ksel : sProp 𝕄) ⊢ owns (c : Thread nD τ) (win0_2.stage (cfg0.slots t 2)) fullShare ((dats m o 0 c).after 2 t) := by
  rw [after2, iblk2_eq]
  exact Entails.of_eq (owns_whole (c : Thread nD τ) cc0_stg2_0 fullShare (V m c main_arg2)).symm
theorem in3 (c : Dev nD) (t : Fin cfg0.N) : (iprop(∃ d, owns (c : Thread nD τ) (win0_3.stage (cfg0.slots t 3)) fullShare ((dats m o 0 c).before 3 t d)) : sProp 𝕄) ⊢ (at_ c cc0_stg3_0 ↦{fullShare} V m c main_arg3) := by
  iintro ⟨%d, H⟩
  rw [before3]
  iapply (Entails.of_eq (owns_whole (c : Thread nD τ) cc0_stg3_0 fullShare (V m c main_arg3))) $$ H
theorem out3 (c : Dev nD) (t : Fin cfg0.N) : (at_ c cc0_stg3_0 ↦{fullShare} (inA m c).m0 : sProp 𝕄) ⊢ owns (c : Thread nD τ) (win0_3.stage (cfg0.slots t 3)) fullShare ((dats m o 0 c).after 3 t) := by
  rw [after3, iblk3_eq]
  exact Entails.of_eq (owns_whole (c : Thread nD τ) cc0_stg3_0 fullShare (V m c main_arg3)).symm
theorem in4 (c : Dev nD) (t : Fin cfg0.N) : (iprop(∃ d, owns (c : Thread nD τ) (win0_4.stage (cfg0.slots t 4)) fullShare ((dats m o 0 c).before 4 t d)) : sProp 𝕄) ⊢ (at_ c cc0_stg4_0 ↦{fullShare} V m c main_arg4) := by
  iintro ⟨%d, H⟩
  rw [before4]
  iapply (Entails.of_eq (owns_whole (c : Thread nD τ) cc0_stg4_0 fullShare (V m c main_arg4))) $$ H
theorem out4 (c : Dev nD) (t : Fin cfg0.N) : (at_ c cc0_stg4_0 ↦{fullShare} (inA m c).l0 : sProp 𝕄) ⊢ owns (c : Thread nD τ) (win0_4.stage (cfg0.slots t 4)) fullShare ((dats m o 0 c).after 4 t) := by
  rw [after4, iblk4_eq]
  exact Entails.of_eq (owns_whole (c : Thread nD τ) cc0_stg4_0 fullShare (V m c main_arg4)).symm
theorem in5 (c : Dev nD) (t : Fin cfg0.N) : (iprop(∃ d, owns (c : Thread nD τ) (win0_5.stage (cfg0.slots t 5)) fullShare ((dats m o 0 c).before 5 t d)) : sProp 𝕄) ⊢ (at_ c cc0_stg5_0 ↦{fullShare} V m c main_arg5) := by
  iintro ⟨%d, H⟩
  rw [before5]
  iapply (Entails.of_eq (owns_whole (c : Thread nD τ) cc0_stg5_0 fullShare (V m c main_arg5))) $$ H
theorem out5 (c : Dev nD) (t : Fin cfg0.N) : (at_ c cc0_stg5_0 ↦{fullShare} (inA m c).o0 : sProp 𝕄) ⊢ owns (c : Thread nD τ) (win0_5.stage (cfg0.slots t 5)) fullShare ((dats m o 0 c).after 5 t) := by
  rw [after5, iblk5_eq]
  exact Entails.of_eq (owns_whole (c : Thread nD τ) cc0_stg5_0 fullShare (V m c main_arg5)).symm
theorem in6 (c : Dev nD) (t : Fin cfg0.N) : (iprop(∃ X, owns (c : Thread nD τ) (win0_6.stage (cfg0.slots t 6)) fullShare X) : sProp 𝕄) ⊢ iprop(∃ f : Vec F S96x8x96 .f32, at_ c cc0_stg6_0 ↦{fullShare} f) := by
  iintro ⟨%d, H⟩
  iexists d
  iapply (Entails.of_eq (owns_whole (c : Thread nD τ) cc0_stg6_0 fullShare d)) $$ H
theorem out6 (c : Dev nD) (t : Fin cfg0.N) (f : Vec F S96x8x96 .f32) : (at_ c cc0_stg6_0 ↦{fullShare} f : sProp 𝕄) ⊢ owns (c : Thread nD τ) (win0_6.stage (cfg0.slots t 6)) fullShare f :=
  Entails.of_eq (owns_whole (c : Thread nD τ) cc0_stg6_0 fullShare f).symm

/-- Before the body: what is kept between points and each staged buffer, the result's as `P6` says. -/
def pre (c : Dev nD) (t : Fin cfg0.N) (P6 : sProp 𝕄) : sProp 𝕄 :=
  iprop((dats m o 0 c).Φ t.castSucc ∗ (dats m o 0 c).owesAt () t.castSucc ∗ (∃ d, owns (c : Thread nD τ) (win0_0.stage (cfg0.slots t 0)) fullShare ((dats m o 0 c).before 0 t d)) ∗ (∃ d, owns (c : Thread nD τ) (win0_1.stage (cfg0.slots t 1)) fullShare ((dats m o 0 c).before 1 t d)) ∗ (∃ d, owns (c : Thread nD τ) (win0_2.stage (cfg0.slots t 2)) fullShare ((dats m o 0 c).before 2 t d)) ∗ (∃ d, owns (c : Thread nD τ) (win0_3.stage (cfg0.slots t 3)) fullShare ((dats m o 0 c).before 3 t d)) ∗ (∃ d, owns (c : Thread nD τ) (win0_4.stage (cfg0.slots t 4)) fullShare ((dats m o 0 c).before 4 t d)) ∗ (∃ d, owns (c : Thread nD τ) (win0_5.stage (cfg0.slots t 5)) fullShare ((dats m o 0 c).before 5 t d)) ∗ P6)

/-- After it: the same with each input's block in place. -/
def post (c : Dev nD) (t : Fin cfg0.N) (P6 : sProp 𝕄) : sProp 𝕄 :=
  iprop((dats m o 0 c).Φ t.succ ∗ (dats m o 0 c).owesAt () t.succ ∗ owns (c : Thread nD τ) (win0_0.stage (cfg0.slots t 0)) fullShare ((dats m o 0 c).after 0 t) ∗ owns (c : Thread nD τ) (win0_1.stage (cfg0.slots t 1)) fullShare ((dats m o 0 c).after 1 t) ∗ owns (c : Thread nD τ) (win0_2.stage (cfg0.slots t 2)) fullShare ((dats m o 0 c).after 2 t) ∗ owns (c : Thread nD τ) (win0_3.stage (cfg0.slots t 3)) fullShare ((dats m o 0 c).after 3 t) ∗ owns (c : Thread nD τ) (win0_4.stage (cfg0.slots t 4)) fullShare ((dats m o 0 c).after 4 t) ∗ owns (c : Thread nD τ) (win0_5.stage (cfg0.slots t 5)) fullShare ((dats m o 0 c).after 5 t) ∗ P6)

theorem sound_body (c : Dev nD) (t : Fin cfg0.N) (hw : WOk (inA m c).win) (I : Inv (hbm m c) (inA m c).win) (hJ : ∀ A' : AS F, A'.win = (inA m c).win → Ins (inA m c) A' → I.J 0 0 cy0 A'.init) (P6 P6' : sProp 𝕄)
    (h6 : P6 ⊢ iprop(∃ X, owns (c : Thread nD τ) (win0_6.stage (cfg0.slots t 6)) fullShare X))
    (h6' : ∀ y A', A'.win = (inA m c).win → I.J 96 0 y A' → Ins (inA m c) A' → owns (c : Thread nD τ) (win0_6.stage (cfg0.slots t 6)) fullShare ((AS.drain A' y).fins 96).out ⊢ P6') :
    pre m o c t P6 ⊢ wp frame (wpE (defs₀ (F := F)) Variants.none c none) Set.univ (bodyAt0 t) (fun _ => post m o c t P6') := by
  unfold pre post
  rw [show (dats m o 0 c).Φ t.succ = Pipeline.ΦD osem0 spec0 H0 (V m) c from rfl, show (dats m o 0 c).Φ t.castSucc = Pipeline.ΦD osem0 spec0 H0 (V m) c from rfl]
  unfold Dat.owesAt Pipeline.owesWithin
  rw [show (dats m o 0 c).owed t.castSucc = 0 from rfl, show (dats m o 0 c).owed t.succ = 0 from rfl]
  iintro ⟨HP, ⟨%W, -, HO⟩, G0, G1, G2, G3, G4, G5, G6⟩
  ihave G0 := (in0 m o c t) $$ G0
  ihave G1 := (in1 m o c t) $$ G1
  ihave G2 := (in2 m o c t) $$ G2
  ihave G3 := (in3 m o c t) $$ G3
  ihave G4 := (in4 m o c t) $$ G4
  ihave G5 := (in5 m o c t) $$ G5
  ihave G6 := (h6.trans (in6 c t)) $$ G6
  iapply (body_run m c t hw I hJ _) $$ [HP HO G0 G1 G2 G3 G4 G5 G6]
  · isplitl [HP]
    · iexact HP
    isplitl [HO]
    · unfold Ow
      iexists W
      iexact HO
    isplitl [G0]
    · unfold Win
      iexact G0
    isplitl [G1 G2 G3 G4 G5]
    · unfold Stg
      isplitl [G1]
      · iexact G1
      isplitl [G2]
      · iexact G2
      isplitl [G3]
      · iexact G3
      isplitl [G4]
      · iexact G4
      iexact G5
    iexact G6
  iintro %y %A' %h
  obtain ⟨ha, hb, hc⟩ := h
  unfold Ow Win Stg
  iintro ⟨HP, ⟨%W', HO⟩, G0, ⟨G1, G2, G3, G4, G5⟩, G6⟩
  isplitl [HP]
  · iexact HP
  isplitl [HO]
  · iexists W'
    isplitr
    · ipureintro
      exact fun _ _ => Or.inl trivial
    iexact HO
  isplitl [G0]
  · iapply (out0 m o c t) $$ G0
  isplitl [G1]
  · iapply (out1 m o c t) $$ G1
  isplitl [G2]
  · iapply (out2 m o c t) $$ G2
  isplitl [G3]
  · iapply (out3 m o c t) $$ G3
  isplitl [G4]
  · iapply (out4 m o c t) $$ G4
  isplitl [G5]
  · iapply (out5 m o c t) $$ G5
  iapply (h6' y A' ha hb hc)
  iapply (out6 c t _) $$ G6

theorem defs₀_row (t : Fin cfg0.N) : defs₀ (F := F) .tc cfg0.body (cfg0.bodyArgs t (cfg0.slots t)) = bodyAt0 t := by
  unfold defs₀; rw [Defs.onTc_tc]

/-- The window of the result, of which the frame says nothing. -/
def fgt : Fin cfg0.W → Bool := fun w => match w with
  | ⟨6, _⟩ => true
  | _ => false

/-- The invariant that says nothing. -/
def Inv.none (H : Hbm F) (wv : Vec F S26112 .i32) : Inv H wv where
  J _ _ _ _ := True
  item _ _ _ _ _ _ _ _ _ := trivial
  pair _ _ _ _ := trivial
  bufs _ _ _ _ _ _ _ _ _ := trivial

set_option maxHeartbeats 1000000 in
theorem body_loose (c : Dev nD) (hw : WOk (V m c main_arg0)) : BodyObligationLoose (dats m o 0 c) defs₀ Variants.none () Set.univ fgt := fun t => by
  rw [bigSep_W0, bigSep_W0, defs₀_row]
  exact triple_restated (sound_body m o c t hw (Inv.none _ _) (fun _ _ _ => trivial) _ _ .rfl fun y A' _ _ _ => show _ ⊢ iprop(∃ X, owns (c : Thread nD τ) (win0_6.stage (cfg0.slots t 6)) fullShare X) by iintro H; iexists _; iexact H) rfl .rfl fun _ => .rfl

set_option backward.isDefEq.respectTransparency.types false in
theorem run_forget (hw : ∀ c, WOk (V m c main_arg0)) : θ_run defs (onTc (τ := τ) (main (F := F))) (s₀ m ρ)
    (fun r => Pipeline.RDat.FramePost (cfgs 0) (fun c => (dats m o 0 c).toRForget fgt) (V m) r ∧ r.2.sem = fun _ => 0) :=
  Pipeline.θ_run_frame_dma_forget (Q' := _) cfgs (dats m o) (0 : Fin 1) launch0 osem0 defs₀ Variants.none fgt ownSemFacts0 H0 H0_sub m ρ main
    (hbody := fun c => body_loose m o c (hw c)) (hshare := fun c => (dats m o 0 c).share_full fun _ => rfl) (howed := fun _ _ => rfl) (V := V m)
    (hmain := hmain m Variants.none) (hA := A_eq m o) (hin := fun _ => .rfl) (hout := fun _ => .rfl)

/-- The program terminates, its arguments end as they were and every counter at zero. -/
theorem frame (hw : ∀ c, WOk (V m c main_arg0)) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  (θ_run defs _ _).mono (fun r h => ⟨fun c => ⟨(h.1.arr_in c 0 rfl).trans (A_eq m (fun c => m (at_ c cc0_stg6_0)) c 0), (h.1.arr_in c 1 rfl).trans (A_eq m (fun c => m (at_ c cc0_stg6_0)) c 1), (h.1.arr_in c 2 rfl).trans (A_eq m (fun c => m (at_ c cc0_stg6_0)) c 2), (h.1.arr_in c 3 rfl).trans (A_eq m (fun c => m (at_ c cc0_stg6_0)) c 3), (h.1.arr_in c 4 rfl).trans (A_eq m (fun c => m (at_ c cc0_stg6_0)) c 4), (h.1.arr_in c 5 rfl).trans (A_eq m (fun c => m (at_ c cc0_stg6_0)) c 5),
      (h.1 c).2 main_arg6 (Pipeline.mem_restRefs_of main_arg6 (by decide) (by decide)), (h.1 c).2 main_arg7 (Pipeline.mem_restRefs_of main_arg7 (by decide) (by decide)), (h.1 c).2 main_arg8 (Pipeline.mem_restRefs_of main_arg8 (by decide) (by decide)), (h.1 c).2 main_arg9 (Pipeline.mem_restRefs_of main_arg9 (by decide) (by decide))⟩, h.2⟩) (run_forget m ρ (fun c => m (at_ c cc0_stg6_0)) hw)

end Cert.Attend

end
-- ==== Proof.Inside.lean ====
/-
  The precondition read: the windows' table it is stated of is one the body can run on.
-/
module

public import proofs.«01_k».proof.Proof.Frame
public import proofs.«01_k».proof.Pre_windows_inside
public import Idealize.ShloMosaic.Lib.Affine

@[expose] public section

set_option maxRecDepth 100000

noncomputable section

namespace Cert.Pre_windows_inside

/-- The shapes' side conditions. -/
theorem facts : Facts := ⟨by decide, by decide, by decide, by decide, by decide, by decide⟩

end Cert.Pre_windows_inside

namespace Cert.Attend

open Cert.Kernel Cert.Kernel.Gen
open Idealize.ShloMosaic Idealize.ShloMosaic.TcCoe Idealize.ShloMosaic.ValueIdx

variable {F : FTy → Type} [FloatOps F]

/-- The condition on one row's window: `rows` the pair's number of rows, `first` the window's first column, `r` the row. -/
def insideB (rows first : BitVec 32) (r : ℕ) : BitVec 1 :=
  (IntOp.cmpi .sge rows 0#32 &&& IntOp.cmpi .sle rows 256#32)
    &&& ((IntOp.cmpi .sge first 0#32 &&& IntOp.cmpi .sle first 240#32) ||| IntOp.cmpi .sge (BitVec.ofNat 32 r &&& 4294967288#32) rows)

theorem inside_at [Cert.Pre_windows_inside.Facts] (w : IVec S26112 32) (a1 : FVec F S96x8x96 .bf16) (a2 : IVec S96x48x128 32) (a3 a4 : FVec F S96x8x128 .f32) (a5 : FVec F S96x8x96 .f32)
    (a6 a7 : IVec S12x8x96x32768 8) (a8 : IVec S24576x128 32) (a9 : FVec F S24576x128 .f32) (p : Fin 96) (r : Fin 256) :
    Cert.Pre_windows_inside.fn (F := F) w a1 a2 a3 a4 a5 a6 a7 a8 a9 (ix2 p r)
      = insideB (w (ix1 (⟨272 * p.val + 256, by omega⟩ : Fin 26112))) (w (ix1 (⟨272 * p.val + r.val, by omega⟩ : Fin 26112))) r.val := by
  have e (j : Fin 272) : shapeCast Cert.Pre_windows_inside.S96x272 w Cert.Pre_windows_inside.Facts.shapeCasts_S26112_S96x272 (ix2 p j) = w (ix1 (⟨272 * p.val + j.val, by omega⟩ : Fin 26112)) :=
    shapeCast_apply w _ _ _ (by
      rw [Shape.rowMajor_val_two, Shape.rowMajor_val_one]
      show 272 * p.val + j.val = p.val * 272 + j.val
      omega)
  have e0 := e ⟨256, by omega⟩
  have e1 := e ⟨r.val, by omega⟩
  rw [← e0, ← e1]
  unfold Cert.Pre_windows_inside.fn Cert.Pre_windows_inside.fn_part1
  dsimp only
  generalize shapeCast Cert.Pre_windows_inside.S96x272 w _ = v
  have s1 : extractStridedSlice Cert.Pre_windows_inside.S96x1 ![0, 256] v Cert.Pre_windows_inside.Facts.slices_S96x272_S96x1_0_256 (ix2 p (0 : Fin 1)) = v (ix2 p (⟨256, by omega⟩ : Fin 272)) :=
    congrArg v (funext fun a => match a with
      | ⟨0, _⟩ => Fin.ext (by show 0 + p.val = p.val; omega)
      | ⟨1, _⟩ => rfl)
  have s2 : extractStridedSlice Cert.Pre_windows_inside.S96x256 ![0, 0] v Cert.Pre_windows_inside.Facts.slices_S96x272_S96x256_0_0 (ix2 p r) = v (ix2 p (⟨r.val, by omega⟩ : Fin 272)) :=
    congrArg v (funext fun a => match a with
      | ⟨0, _⟩ => Fin.ext (by show 0 + p.val = p.val; omega)
      | ⟨1, _⟩ => Fin.ext (by show 0 + r.val = r.val; omega))
  have b (n : ℕ) (x : IVec Cert.Pre_windows_inside.S96x1 n) : broadcastInDim Cert.Pre_windows_inside.S96x256 ![0, 1] Cert.Pre_windows_inside.Facts.bcast_S96x1_S96x256_0_1 x (ix2 p r) = x (ix2 p (0 : Fin 1)) :=
    congrArg x (funext fun a => match a with
      | ⟨0, _⟩ => rfl
      | ⟨1, _⟩ => rfl)
  rw [← s1, ← s2]
  generalize extractStridedSlice Cert.Pre_windows_inside.S96x1 ![0, 256] v _ = x1
  generalize extractStridedSlice Cert.Pre_windows_inside.S96x256 ![0, 0] v _ = x2
  unfold insideB
  exact congrArg₂ (· &&& ·) (b 1 _) (congrArg₂ (· ||| ·) rfl (congrArg (IntOp.cmpi .sge _) (b 32 x1)))

theorem one_and {a b : BitVec 1} (h : a &&& b = 1#1) : a = 1#1 ∧ b = 1#1 := by
  revert a b; decide
theorem one_or {a b : BitVec 1} (h : a ||| b = 1#1) : a = 1#1 ∨ b = 1#1 := by
  revert a b; decide

theorem low_mask : ∀ r : Fin 256, (BitVec.ofNat 32 r.val &&& 4294967288#32).toInt = 8 * (r.val / 8 : ℕ) := by decide +kernel

theorem ofBool_one {b : Bool} : BitVec.ofBool b = 1#1 ↔ b = true := by cases b <;> decide

theorem insideB_rows {rows first : BitVec 32} {r : ℕ} (h : insideB rows first r = 1#1) : rows.toNat ≤ 256 := by
  obtain ⟨h1, h2⟩ := one_and (one_and h).1
  have h1' : (0#32).toInt ≤ rows.toInt := BitVec.sle_iff_toInt_le.1 (ofBool_one.1 h1)
  have h2' : rows.toInt ≤ (256#32).toInt := BitVec.sle_iff_toInt_le.1 (ofBool_one.1 h2)
  have a : (0#32).toInt = 0 := by decide
  have b : (256#32).toInt = 256 := by decide
  rw [a] at h1'; rw [b] at h2'
  have := BitVec.toInt_eq_toNat_cond rows
  have := rows.isLt
  split at * <;> omega

theorem insideB_first {rows first : BitVec 32} {r : ℕ} (hr : r < 256) (h : insideB rows first r = 1#1) (hl : r < 8 * ((rows.toNat + 7) / 8)) : first.toNat ≤ 240 := by
  have hrows := insideB_rows h
  rcases one_or (one_and h).2 with h' | h'
  · obtain ⟨h1, h2⟩ := one_and h'
    have h1' : (0#32).toInt ≤ first.toInt := BitVec.sle_iff_toInt_le.1 (ofBool_one.1 h1)
    have h2' : first.toInt ≤ (240#32).toInt := BitVec.sle_iff_toInt_le.1 (ofBool_one.1 h2)
    have a : (0#32).toInt = 0 := by decide
    have b : (240#32).toInt = 240 := by decide
    rw [a] at h1'; rw [b] at h2'
    have := BitVec.toInt_eq_toNat_cond first
    have := first.isLt
    split at * <;> omega
  · exfalso
    have h1' : rows.toInt ≤ (BitVec.ofNat 32 r &&& 4294967288#32).toInt := BitVec.sle_iff_toInt_le.1 (ofBool_one.1 h')
    have hm : (BitVec.ofNat 32 r &&& 4294967288#32).toInt = 8 * (r / 8 : ℕ) := low_mask ⟨r, hr⟩
    rw [hm] at h1'
    have ht := BitVec.toInt_eq_toNat_cond rows
    rw [if_pos (by omega)] at ht
    omega

/-- A windows' table the precondition holds of. -/
theorem wok_of [Cert.Pre_windows_inside.Facts] (w : IVec S26112 32) (a1 : FVec F S96x8x96 .bf16) (a2 : IVec S96x48x128 32) (a3 a4 : FVec F S96x8x128 .f32) (a5 : FVec F S96x8x96 .f32)
    (a6 a7 : IVec S12x8x96x32768 8) (a8 : IVec S24576x128 32) (a9 : FVec F S24576x128 .f32)
    (h : Cert.Pre_windows_inside.fn (F := F) w a1 a2 a3 a4 a5 a6 a7 a8 a9 = fun _ => 1#1) : WOk (F := F) w := by
  have hp (p : Fin 96) (r : Fin 256) := (inside_at w a1 a2 a3 a4 a5 a6 a7 a8 a9 p r).symm.trans (congrFun h (ix2 p r))
  have er (p : ℕ) (hp : p < 96) : rowsW (F := F) w p = w (ix1 (⟨272 * p + 256, by omega⟩ : Fin 26112)) := by
    unfold rowsW
    exact congrArg w (congrArg ix1 (Fin.ext (Nat.mod_eq_of_lt (by omega))))
  have hrows (p : ℕ) (hp96 : p < 96) : (rowsW (F := F) w p).toNat ≤ 256 := by
    rw [er p hp96]
    exact insideB_rows (hp ⟨p, hp96⟩ ⟨0, by omega⟩)
  refine ⟨hrows, fun p hp96 r hr hwo => ?_⟩
  have hn : nit (F := F) w p ≤ 32 := by
    have := hrows p hp96
    unfold nit; omega
  have hr' : r < 256 := by omega
  have ew : winAt (F := F) w (272 * p + r) hwo = w (ix1 (⟨272 * p + r, by omega⟩ : Fin 26112)) := by
    unfold winAt
    show w _ = w _
    refine congrArg w (funext fun a => Fin.ext ?_)
    match a with
    | ⟨0, _⟩ => show 272 * p + r + 1 * 0 = 272 * p + r; omega
  rw [ew]
  refine insideB_first hr' (hp ⟨p, hp96⟩ ⟨r, hr'⟩) ?_
  have := er p hp96
  unfold nit at hr
  rw [this] at hr
  exact hr

end Cert.Attend

end
-- ==== Proof.Reads.lean ====
/-
  The vector functions of the kernel's steps read at an index, over the extended reals.
-/
module

public import proofs.«01_k».proof.Proof.Steps
public import Idealize.ShloMosaic.Lib.Pointwise
public import Idealize.ShloMosaic.Lib.BitcastFour

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

theorem negInf : Ideal.ofBits .f32 0xFF800000#32 = ⊥ := by
  simp [Ideal.ofBits, Ideal.ieee]

/-- The scores' factor. -/
def scl : EReal := Ideal.ofBits .f32 0x3DD105EC#32

/-- Words whose bytes are `f`'s, read as bytes. -/
theorem unbit (x : IVec S8x128 32) (f : Fin 32 → BitVec 8) (l : Fin 128)
    (h : ∀ a : Fin 8, ∀ b, (hb : b < 32) → (x (ix2 a l)).getLsbD b = (f ⟨4 * a.val + b / 8, by omega⟩).getLsbD (b % 8)) (p : Fin 32) :
    bitcast S32x128 8 x bitcasts_S8x128_w32_S32x128_w8 (ix2 p l) = f p := by
  refine BitVec.eq_of_getLsbD_eq fun q hq => ?_
  have hp := p.isLt
  rw [bitcast_getLsbD x bitcasts_S8x128_w32_S32x128_w8 (ix2 p l) q hq (by decide)]
  have e : bitcasts_S8x128_w32_S32x128_w8.srcIdx (ix2 p l) ((S32x128.row (ix2 p l) * 8 + q) / 32) (fun a ha =>
      (Nat.div_lt_iff_lt_mul (by decide)).2 (bitcasts_S8x128_w32_S32x128_w8.pos_lt (ix2 p l) q hq a ha)) = ix2 (⟨p.val / 4, by omega⟩ : Fin 8) l := by
    funext c
    match c with
    | ⟨0, _⟩ => exact Fin.ext ((bitcasts_S8x128_w32_S32x128_w8.srcIdx_row _ _ _ ⟨0, Nat.zero_lt_two⟩ rfl).trans (by show (p.val * 8 + q) / 32 = p.val / 4; omega))
    | ⟨1, _⟩ => exact Fin.ext (bitcasts_S8x128_w32_S32x128_w8.srcIdx_other _ _ _ ⟨1, Nat.one_lt_two⟩ (by show ¬ 1 + 2 = 2; omega))
  rw [e]
  show (x (ix2 (⟨p.val / 4, by omega⟩ : Fin 8) l)).getLsbD ((p.val * 8 + q) % 32) = _
  rw [h _ _ (by omega)]
  have e1 : (⟨4 * (p.val / 4) + (p.val * 8 + q) % 32 / 8, by omega⟩ : Fin 32) = p := Fin.ext (by show 4 * (p.val / 4) + (p.val * 8 + q) % 32 / 8 = p.val; omega)
  have e2 : (p.val * 8 + q) % 32 % 8 = q := by omega
  rw [e2]
  exact congrArg (fun z => (f z).getLsbD q) e1

/-- Words read as halves. -/
theorem half_at (x : IVec S8x128 32) (a : Fin 16) (l : Fin 128) :
    bitcast S16x128 16 x bitcasts_S8x128_w32_S16x128_w16 (ix2 a l) = (x (ix2 (⟨a.val / 2, by omega⟩ : Fin 8) l)).extractLsb' (a.val % 2 * 16) 16 := by
  refine BitVec.eq_of_getLsbD_eq fun q hq => ?_
  have hp := a.isLt
  rw [bitcast_getLsbD x bitcasts_S8x128_w32_S16x128_w16 (ix2 a l) q hq (by decide)]
  have e : bitcasts_S8x128_w32_S16x128_w16.srcIdx (ix2 a l) ((S16x128.row (ix2 a l) * 16 + q) / 32) (fun c hc =>
      (Nat.div_lt_iff_lt_mul (by decide)).2 (bitcasts_S8x128_w32_S16x128_w16.pos_lt (ix2 a l) q hq c hc)) = ix2 (⟨a.val / 2, by omega⟩ : Fin 8) l := by
    funext c
    match c with
    | ⟨0, _⟩ => exact Fin.ext ((bitcasts_S8x128_w32_S16x128_w16.srcIdx_row _ _ _ ⟨0, Nat.zero_lt_two⟩ rfl).trans (by show (a.val * 16 + q) / 32 = a.val / 2; omega))
    | ⟨1, _⟩ => exact Fin.ext (bitcasts_S8x128_w32_S16x128_w16.srcIdx_other _ _ _ ⟨1, Nat.one_lt_two⟩ (by show ¬ 1 + 2 = 2; omega))
  rw [e]
  show (x (ix2 (⟨a.val / 2, by omega⟩ : Fin 8) l)).getLsbD ((a.val * 16 + q) % 32) = _
  rw [BitVec.getLsbD_extractLsb', show (a.val * 16 + q) % 32 = a.val % 2 * 16 + q by omega]
  simp [hq]

theorem pk_at (x : Vec Ideal S1x32x128 .i8) (a : Fin 8) (l : Fin 128) (b : ℕ) (hb : b < 32) :
    (pk (F := Ideal) x (ix2 a l)).getLsbD b = (x (ix3 0 (⟨4 * a.val + b / 8, by omega⟩ : Fin 32) l)).getLsbD (b % 8) := by
  unfold pk
  have e := bitcast_8_32_getLsbD_ix2 (shapeCast S32x128 x shapeCasts_S1x32x128_S32x128 : IVec S32x128 8) bitcasts_S32x128_w8_S8x128_w32 a l b hb ⟨4 * a.val + b / 8, by omega⟩ rfl
  rw [← ix2_eq_valueIdx, ← ix2_eq_valueIdx] at e
  rw [e]
  pointwise

theorem takeW_at (idx : IVec S8x128 32) (x : Vec Ideal S1x8x128 .i32) (a : Fin 8) (l c : Fin 128) (h : idx (ix2 a l) = BitVec.ofNat 32 c.val) :
    takeW (F := Ideal) idx x (ix2 a l) = x (ix3 0 a c) := by
  have hs : Scalar.select (IntOp.cmpi .slt (BitVec.ofNat 32 c.val) 0#32) (IntOp.addi (BitVec.ofNat 32 c.val) 128#32) (BitVec.ofNat 32 c.val) = BitVec.ofNat 32 c.val := by
    have : ∀ c : Fin 128, Scalar.select (IntOp.cmpi .slt (BitVec.ofNat 32 c.val) 0#32) (IntOp.addi (BitVec.ofNat 32 c.val) 128#32) (BitVec.ofNat 32 c.val) = BitVec.ofNat 32 c.val := by decide +kernel
    exact this c
  pointwise [takeW]
  refine congrArg (fun z => x (ix3 0 a z)) (Fin.ext ?_)
  show (Scalar.select (IntOp.cmpi .slt (idx (ix2 a l)) 0#32) (IntOp.addi (idx (ix2 a l)) 128#32) (idx (ix2 a l))).toNat % 128 = c.val
  have := c.isLt
  rw [h, hs, BitVec.toNat_ofNat]; omega

theorem keys_at (idx acc : IVec S8x128 32) (x y : Vec Ideal S1x8x128 .i32) (f : Fin 32 → BitVec 8) (p : Fin 32) (l c : Fin 128)
    (hi : ∀ a : Fin 8, idx (ix2 a l) = BitVec.ofNat 32 c.val)
    (h : ∀ a : Fin 8, ∀ b, (hb : b < 32) → (acc (ix2 a l)).getLsbD b = (f ⟨4 * a.val + b / 8, by omega⟩).getLsbD (b % 8)) :
    keys (F := Ideal) idx acc x y (ix3 0 p l) = (((f p).toInt : ℝ) : EReal) *
      Ideal.ofBits .bf16 ((if hp : p.val < 16 then x (ix3 0 (⟨p.val / 2, by omega⟩ : Fin 8) c) else y (ix3 0 (⟨(p.val - 16) / 2, by omega⟩ : Fin 8) c)).extractLsb' (p.val % 2 * 16) 16) := by
  have e := unbit acc f l h p
  pointwise [keys]
  refine congrArg₂ (· * ·) (congrArg (fun z : BitVec 8 => ((z.toInt : ℝ) : EReal)) e) ?_
  split
  · rw [half_at, takeW_at _ _ _ _ c (hi _)]
  · rw [half_at, takeW_at _ _ _ _ c (hi _)]
    have : (p.val - 16) % 2 = p.val % 2 := by omega
    simp only [this]

theorem vadd_at (acc : FVec Ideal S8x96 .f32) (L R : FVec Ideal S96x128 .bf16) (p : Vec Ideal S1x8x256 .bf16) (r : Fin 8) (d : Fin 96) :
    vadd acc L R p (ix2 r d) = acc (ix2 r d) + ((∑ l : Fin 128, p (ix3 0 r (⟨l.val, by omega⟩ : Fin 256)) * L (ix2 d l)) + ∑ l : Fin 128, p (ix3 0 r (⟨128 + l.val, by omega⟩ : Fin 256)) * R (ix2 d l)) := by
  pointwise [vadd, vpair]

theorem kdot_at (q : FVec Ideal S8x96 .bf16) (kk : Vec Ideal S1x96x256 .bf16) (r : Fin 8) (c : Fin 256) :
    kdot q kk (ix2 r c) = (∑ d : Fin 96, q (ix2 r d) * kk (ix3 0 d c)) * scl := by
  pointwise [kdot, scl]

theorem smax_at (s0 s1 s2 s3 s4 s5 s6 s7 m : FVec Ideal S8x128 .f32) (r : Fin 8) (l : Fin 128) :
    smax s0 s1 s2 s3 s4 s5 s6 s7 m (ix2 r l) = max (m (ix2 r l)) ((Finset.univ : Finset (Fin 128)).fold max ⊥ fun l => max (max (max (max (max (max (max (s0 (ix2 r l)) (s1 (ix2 r l))) (s2 (ix2 r l))) (s3 (ix2 r l))) (s4 (ix2 r l))) (s5 (ix2 r l))) (s6 (ix2 r l))) (s7 (ix2 r l))) := by
  pointwise [smax]
  rw [negInf]

theorem sexp_at (s m : FVec Ideal S8x128 .f32) (r : Fin 8) (l : Fin 128) : sexp s m (ix2 r l) = Ideal.exp (s (ix2 r l) - m (ix2 r l)) := by
  pointwise [sexp]

theorem sel_aux (v : BitVec 32) (a b : EReal) : Scalar.select (BitVec.ofBool (v &&& 511#32 != 511#32)) a b = if v &&& 511#32 ≠ 511#32 then a else b := by
  by_cases h : v &&& 511#32 = 511#32
  · rw [h]; rfl
  · have hb : (v &&& 511#32 != 511#32) = true := bne_iff_ne.mpr h
    rw [hb, if_pos h]; rfl

theorem masked_at (x : Vec Ideal S1x1x128 .i32) (s : FVec Ideal S8x128 .f32) (r : Fin 8) (l : Fin 128) :
    masked (live (F := Ideal) x) s (ix3 0 r l) = if x (ix3 0 0 l) &&& 511#32 ≠ 511#32 then s (ix2 r l) else ⊥ := by
  pointwise [masked, live, t8]
  rw [negInf]
  exact sel_aux _ _ _

theorem sprod_at (e : FVec Ideal S8x128 .f32) (vs : Vec Ideal S1x1x128 .f32) (r : Fin 8) (l : Fin 128) :
    sprod e vs (ix3 0 r l) = e (ix2 r l) * vs (ix3 0 0 l) := by
  pointwise [sprod]

theorem fin_at (l : Vec Ideal S1x8x128 .f32) (o : Vec Ideal S1x8x96 .f32) (r : Fin 8) (d : Fin 96) :
    Attend.fin l o (ix3 0 r d) = Ideal.div (o (ix3 0 r d)) (∑ k : Fin 128, l (ix3 0 r k)) := by
  pointwise [Attend.fin, k0_pay3]

theorem s8_at (x : Vec Ideal S1x8x128 .f32) (r : Fin 8) (l : Fin 128) : s8 x (ix2 r l) = x (ix3 0 r l) := by
  pointwise [s8]
theorem t8_at (x : Vec Ideal S8x128 .f32) (r : Fin 8) (l : Fin 128) : t8 (F := Ideal) x (ix3 0 r l) = x (ix2 r l) := by
  pointwise [t8]
theorem vstart_at (o : Vec Ideal S1x8x96 .f32) (a : Vec Ideal S8x96 .f32) (r : Fin 8) (d : Fin 96) : vstart (F := Ideal) o a (ix2 r d) = o (ix3 0 r d) * a (ix2 r d) := by
  pointwise [vstart]
theorem vend_at (o : FVec Ideal S8x96 .f32) (r : Fin 8) (d : Fin 96) : vend o (ix3 0 r d) = o (ix2 r d) := by
  pointwise [vend]

theorem vcat_at (a b c : Vec Ideal S1x1x8x128 .i32) (f : Fin 96 → BitVec 8) (l : Fin 128)
    (ha : ∀ w : Fin 8, ∀ i, (hi : i < 32) → (a (ix4 0 0 w l)).getLsbD i = (f ⟨4 * w.val + i / 8, by omega⟩).getLsbD (i % 8))
    (hb : ∀ w : Fin 8, ∀ i, (hi : i < 32) → (b (ix4 0 0 w l)).getLsbD i = (f ⟨32 + (4 * w.val + i / 8), by omega⟩).getLsbD (i % 8))
    (hc : ∀ w : Fin 8, ∀ i, (hi : i < 32) → (c (ix4 0 0 w l)).getLsbD i = (f ⟨64 + (4 * w.val + i / 8), by omega⟩).getLsbD (i % 8)) (d : Fin 96) :
    vcat (F := Ideal) a b c (ix2 d l) = (((f d).toInt : ℝ) : EReal) := by
  have hu : ∀ (x : Vec Ideal S1x1x8x128 .i32) (g : Fin 32 → BitVec 8) (hx : ∀ w : Fin 8, ∀ i, (hi : i < 32) → (x (ix4 0 0 w l)).getLsbD i = (g ⟨4 * w.val + i / 8, by omega⟩).getLsbD (i % 8)) (p : Fin 32),
      unp (F := Ideal) x (ix2 p l) = (((g p).toInt : ℝ) : EReal) := fun x g hx p => by
    have e := unbit (shapeCast S8x128 x shapeCasts_S1x1x8x128_S8x128 : IVec S8x128 32) g l (fun w i hi => by
      rw [← hx w i hi]; pointwise) p
    pointwise [unp]
    exact congrArg (fun z : BitVec 8 => ((z.toInt : ℝ) : EReal)) e
  have hd := d.isLt
  pointwise [vcat]
  split
  · exact hu a (fun p => f ⟨p.val, by omega⟩) ha _
  split
  · rw [hu b (fun p => f ⟨32 + p.val, by omega⟩) hb]
    refine congrArg (fun z => (((f z).toInt : ℝ) : EReal)) (Fin.ext ?_)
    show 32 + (d.val - 32) = d.val; omega
  · rw [hu c (fun p => f ⟨64 + p.val, by omega⟩) hc]
    refine congrArg (fun z => (((f z).toInt : ℝ) : EReal)) (Fin.ext ?_)
    show 64 + (d.val - 32 - 32) = d.val; omega

end Cert.Attend

end
-- ==== Proof.Stream.lean ====
/-
  A softmax taken eight rows at a time: the running maximum, the running sum of weights and the running weighted sum, and
  what each is after `n` steps. Everything is over the extended reals; the only assumption is that the first maximum is a
  real number.
-/
module

public import Idealize.ShloMosaic.PureOps.Ideal.Laws

@[expose] public section

noncomputable section

namespace Cert.Attend

open Idealize.ShloMosaic
open Finset (range univ)

theorem sub_top' (a : EReal) : a - ⊤ = ⊥ := by rw [sub_eq_add_neg, EReal.neg_top, EReal.add_bot]
theorem bot_sub' (a : EReal) : ⊥ - a = ⊥ := by rw [sub_eq_add_neg, EReal.bot_add]

theorem exp_sub_coe (a b : ℝ) : Ideal.exp ((a : EReal) - (b : EReal)) = ((Real.exp (a - b) : ℝ) : EReal) := by
  rw [← EReal.coe_sub]; rfl

theorem exp_nonneg (x : EReal) : 0 ≤ Ideal.exp x := by
  induction x using EReal.rec with
  | bot => exact le_rfl
  | top => exact le_top
  | coe r => exact EReal.coe_nonneg.mpr (Real.exp_pos r).le

theorem exp_sub_ne_top {a b : EReal} (h : a ≤ b) : Ideal.exp (a - b) ≠ ⊤ := by
  by_cases hb : b = ⊤
  · rw [hb, sub_top', Ideal.exp_bot]; exact EReal.zero_ne_top
  by_cases ha : a = ⊥
  · rw [ha, bot_sub', Ideal.exp_bot]; exact EReal.zero_ne_top
  have ha' : a ≠ ⊤ := fun e => hb (top_le_iff.mp (e ▸ h))
  have hb' : b ≠ ⊥ := fun e => ha (le_bot_iff.mp (e ▸ h))
  lift a to ℝ using ⟨ha', ha⟩
  lift b to ℝ using ⟨hb, hb'⟩
  rw [exp_sub_coe]; exact EReal.coe_ne_top _

/-- Weights compose along increasing maxima. -/
theorem exp_comp {a b c : EReal} (h : a ≤ b) (h' : b ≤ c) : Ideal.exp (a - b) * Ideal.exp (b - c) = Ideal.exp (a - c) := by
  by_cases hc : c = ⊤
  · rw [hc, sub_top', sub_top', Ideal.exp_bot, mul_zero]
  by_cases ha : a = ⊥
  · rw [ha, bot_sub', bot_sub', Ideal.exp_bot, zero_mul]
  have hb : b ≠ ⊤ := fun e => hc (top_le_iff.mp (e ▸ h'))
  have ha' : a ≠ ⊤ := fun e => hb (top_le_iff.mp (e ▸ h))
  have hb' : b ≠ ⊥ := fun e => ha (le_bot_iff.mp (e ▸ h))
  have hc' : c ≠ ⊥ := fun e => hb' (le_bot_iff.mp (e ▸ h'))
  lift a to ℝ using ⟨ha', ha⟩
  lift b to ℝ using ⟨hb, hb'⟩
  lift c to ℝ using ⟨hc, hc'⟩
  rw [exp_sub_coe, exp_sub_coe, exp_sub_coe, ← EReal.coe_mul, ← Real.exp_add]
  congr 2; ring

/-- A weight that is a nonnegative real distributes over a sum. -/
theorem sum_mul' {ι : Type} (S : Finset ι) (f : ι → EReal) {t : EReal} (h0 : 0 ≤ t) (ht : t ≠ ⊤) : (∑ i ∈ S, f i) * t = ∑ i ∈ S, f i * t := by
  classical
  induction S using Finset.induction_on with
  | empty => rw [Finset.sum_empty, Finset.sum_empty, zero_mul]
  | insert a S ha ih => rw [Finset.sum_insert ha, Finset.sum_insert ha, EReal.right_distrib_of_nonneg_of_ne_top h0 ht, ih]

variable (m0 : EReal) (s : ℕ → Fin 128 → EReal)

/-- The largest score of eight rows. -/
def rowMax8 (n : ℕ) : EReal := (univ : Finset (Fin 128)).fold max ⊥ fun l =>
  max (max (max (max (max (max (max (s (8 * n + 0) l) (s (8 * n + 1) l)) (s (8 * n + 2) l)) (s (8 * n + 3) l)) (s (8 * n + 4) l)) (s (8 * n + 5) l)) (s (8 * n + 6) l)) (s (8 * n + 7) l)

/-- The running maximum. -/
def MX : ℕ → EReal
  | 0 => m0
  | n + 1 => max (MX n) (rowMax8 s n)

/-- The running sum of a lane's weights. -/
def LS (l0 : EReal) (l : Fin 128) : ℕ → EReal
  | 0 => l0
  | n + 1 => LS l0 l n * Ideal.exp (MX m0 s n - MX m0 s (n + 1)) + ∑ j : Fin 8, Ideal.exp (s (8 * n + j.val) l - MX m0 s (n + 1))

/-- The running weighted sum. -/
def OS (o0 : EReal) (vs v : ℕ → Fin 128 → EReal) : ℕ → EReal
  | 0 => o0
  | n + 1 => OS o0 vs v n * Ideal.exp (MX m0 s n - MX m0 s (n + 1))
      + ∑ j : Fin 8, ∑ l, Ideal.exp (s (8 * n + j.val) l - MX m0 s (n + 1)) * vs (8 * n + j.val) l * v (8 * n + j.val) l

theorem MX_step (n : ℕ) : MX m0 s n ≤ MX m0 s (n + 1) := le_max_left _ _

theorem m0_le (n : ℕ) : m0 ≤ MX m0 s n := by
  induction n with
  | zero => exact le_rfl
  | succ n ih => exact ih.trans (MX_step m0 s n)

theorem row8_le (n : ℕ) (j : Fin 8) (l : Fin 128) : s (8 * n + j.val) l ≤ rowMax8 s n := by
  refine le_trans ?_ (((Finset.fold_max_le _).mp le_rfl).2 l (Finset.mem_univ l))
  fin_cases j <;> simp

theorem le_MX (n row : ℕ) (h : row < 8 * n) (l : Fin 128) : s row l ≤ MX m0 s n := by
  induction n with
  | zero => omega
  | succ n ih =>
    by_cases h' : row < 8 * n
    · exact (ih h').trans (MX_step m0 s n)
    · have := row8_le s n ⟨row - 8 * n, by omega⟩ l
      rw [show 8 * n + (row - 8 * n) = row by omega] at this
      exact this.trans (le_max_right _ _)

theorem MX_le (n : ℕ) (x : EReal) (hm : m0 ≤ x) (h : ∀ row, row < 8 * n → ∀ l, s row l ≤ x) : MX m0 s n ≤ x := by
  induction n with
  | zero => exact hm
  | succ n ih =>
    refine max_le (ih fun row hr l => h row (by omega) l) ((Finset.fold_max_le _).mpr ⟨bot_le, fun l _ => ?_⟩)
    simp only [max_le_iff]
    exact ⟨⟨⟨⟨⟨⟨⟨h _ (by omega) l, h _ (by omega) l⟩, h _ (by omega) l⟩, h _ (by omega) l⟩, h _ (by omega) l⟩, h _ (by omega) l⟩, h _ (by omega) l⟩, h _ (by omega) l⟩

theorem range8 (f : ℕ → EReal) (n : ℕ) : ∑ row ∈ range (8 * (n + 1)), f row = ∑ row ∈ range (8 * n), f row + ∑ j : Fin 8, f (8 * n + j.val) := by
  rw [show 8 * (n + 1) = 8 * n + 8 by ring, Finset.sum_range_add, Finset.sum_range (fun x => f (8 * n + x))]

variable {m0} (hm : m0 ≠ ⊥) (hm' : m0 ≠ ⊤)
include hm hm'

theorem exp_self : Ideal.exp (m0 - m0) = 1 := by
  lift m0 to ℝ using ⟨hm', hm⟩
  rw [exp_sub_coe, sub_self, Real.exp_zero]; rfl

theorem LS_eq (l0 : EReal) (l : Fin 128) (n : ℕ) :
    LS m0 s l0 l n = l0 * Ideal.exp (m0 - MX m0 s n) + ∑ row ∈ range (8 * n), Ideal.exp (s row l - MX m0 s n) := by
  induction n with
  | zero => simp only [LS, MX, exp_self hm hm', mul_one, Nat.mul_zero, Finset.range_zero, Finset.sum_empty, add_zero]
  | succ n ih =>
    have ht := exp_sub_ne_top (MX_step m0 s n)
    rw [range8, LS, ih, EReal.right_distrib_of_nonneg_of_ne_top (exp_nonneg _) ht, sum_mul' _ _ (exp_nonneg _) ht, mul_assoc,
      exp_comp (m0_le m0 s n) (MX_step m0 s n), add_assoc]
    congr 2
    exact Finset.sum_congr rfl fun row hr => exp_comp (le_MX m0 s n row (Finset.mem_range.mp hr) l) (MX_step m0 s n)

theorem OS_eq (o0 : EReal) (vs v : ℕ → Fin 128 → EReal) (n : ℕ) :
    OS m0 s o0 vs v n = o0 * Ideal.exp (m0 - MX m0 s n) + ∑ row ∈ range (8 * n), ∑ l, Ideal.exp (s row l - MX m0 s n) * vs row l * v row l := by
  induction n with
  | zero => simp only [OS, MX, exp_self hm hm', mul_one, Nat.mul_zero, Finset.range_zero, Finset.sum_empty, add_zero]
  | succ n ih =>
    have ht := exp_sub_ne_top (MX_step m0 s n)
    rw [range8, OS, ih, EReal.right_distrib_of_nonneg_of_ne_top (exp_nonneg _) ht, sum_mul' _ _ (exp_nonneg _) ht, mul_assoc,
      exp_comp (m0_le m0 s n) (MX_step m0 s n), add_assoc]
    congr 2
    refine Finset.sum_congr rfl fun row hr => ?_
    rw [sum_mul' _ _ (exp_nonneg _) ht]
    refine Finset.sum_congr rfl fun l _ => ?_
    rw [mul_right_comm, mul_right_comm _ (vs row l), exp_comp (le_MX m0 s n row (Finset.mem_range.mp hr) l) (MX_step m0 s n)]

omit hm hm'

/-- A sum over a pair's slots, of which only those of the first `8 N` rows count. -/
theorem sum_slots (f : ℕ → Fin 128 → EReal) (N : ℕ) (hN : N ≤ 32) (h : ∀ row, 8 * N ≤ row → row < 256 → ∀ l, f row l = 0) :
    ∑ k : Fin 32768, f (k.val / 128) ⟨k.val % 128, Nat.mod_lt _ (by decide)⟩ = ∑ row ∈ range (8 * N), ∑ l, f row l := by
  have e : ∑ k : Fin (256 * 128), f (k.val / 128) ⟨k.val % 128, Nat.mod_lt _ (by decide)⟩ = ∑ row ∈ range 256, ∑ l, f row l := by
    rw [← Equiv.sum_comp finProdFinEquiv, Fintype.sum_prod_type, Finset.sum_range]
    refine Finset.sum_congr rfl fun i _ => Finset.sum_congr rfl fun l _ => ?_
    have hl := l.isLt
    have e1 : (finProdFinEquiv (i, l)).val = l.val + 128 * i.val := rfl
    have e2 : (finProdFinEquiv (i, l)).val / 128 = i.val := by rw [e1]; omega
    have e3 : (⟨(finProdFinEquiv (i, l)).val % 128, Nat.mod_lt _ (by decide)⟩ : Fin 128) = l := Fin.ext (by rw [e1]; show (l.val + 128 * i.val) % 128 = l.val; omega)
    rw [e2, e3]
  refine Eq.trans e (Finset.sum_subset (Finset.range_subset_range.mpr (by omega)) fun row hr hr' => ?_).symm
  exact Finset.sum_eq_zero fun l _ => h row (by simpa using hr') (Finset.mem_range.mp hr) l

/-- The running maximum after all rows is the maximum over a pair's slots. -/
theorem MX_slots (m0 : EReal) (N : ℕ) (hN : N ≤ 32) (f : Fin 32768 → EReal)
    (h : ∀ k, f k = if k.val / 128 < 8 * N then s (k.val / 128) ⟨k.val % 128, Nat.mod_lt _ (by decide)⟩ else ⊥) :
    max m0 ((univ : Finset (Fin 32768)).fold max ⊥ f) = MX m0 s N := by
  refine le_antisymm (max_le (m0_le m0 s N) ((Finset.fold_max_le _).mpr ⟨bot_le, fun k _ => ?_⟩)) (MX_le m0 s N _ (le_max_left _ _) fun row hr l => ?_)
  · rw [h]
    split
    · exact le_MX m0 s N _ ‹_› _
    · exact bot_le
  · refine le_trans ?_ (le_max_right _ _)
    have hl := l.isLt
    have := ((Finset.fold_max_le _).mp (le_refl ((univ : Finset (Fin 32768)).fold max ⊥ f))).2 ⟨row * 128 + l.val, by omega⟩ (Finset.mem_univ _)
    rw [h] at this
    have e1 : (row * 128 + l.val) / 128 = row := by omega
    have e2 : (⟨(row * 128 + l.val) % 128, Nat.mod_lt _ (by decide)⟩ : Fin 128) = l := Fin.ext (by show (row * 128 + l.val) % 128 = l.val; omega)
    simp only [e1, e2, if_pos hr] at this
    exact this

end Cert.Attend

end
-- ==== Proof.Sem.lean ====
/-
  What the kernel computes, slot by slot: codes, keys, values, scores and the running sums, as functions of the arguments.
-/
module

public import proofs.«01_k».proof.Proof.Reads
public import proofs.«01_k».proof.Proof.Stream
public import proofs.«01_k».proof.Proof.Items

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

/-- The arguments. -/
structure Src where
  win : Vec Ideal S26112 .i32
  q : Vec Ideal S96x8x96 .bf16
  ksel : Vec Ideal S96x48x128 .i32
  m0 : Vec Ideal S96x8x128 .f32
  l0 : Vec Ideal S96x8x128 .f32
  o0 : Vec Ideal S96x8x96 .f32
  kt : Vec Ideal S12x8x96x32768 .i8
  vt : Vec Ideal S12x8x96x32768 .i8
  tbl : Vec Ideal S24576x128 .i32
  vst : Vec Ideal S24576x128 .f32

abbrev pq (p : ℕ) : Fin 96 := ⟨p % 96, Nat.mod_lt _ (by decide)⟩
abbrev pr (p : ℕ) : Fin 97 := ⟨p % 97, Nat.mod_lt _ (by decide)⟩
/-- Where a token's feature lies in the codes. -/
abbrev kIx (p : ℕ) (d : Fin 96) (n : ℕ) : S12x8x96x32768.Idx :=
  ix4 (⟨p / 8 % 12, Nat.mod_lt _ (by decide)⟩ : Fin 12) (⟨p % 8, Nat.mod_lt _ (by decide)⟩ : Fin 8) d (⟨n % 32768, Nat.mod_lt _ (by decide)⟩ : Fin 32768)

namespace Src

variable (D : Src)

def code (p row : ℕ) (l : Fin 128) : BitVec 32 := D.tbl (tblIx (256 * p + row) l)
def vs (p row : ℕ) (l : Fin 128) : EReal := D.vst (tblIx (256 * p + row) l)
/-- Whether a slot holds a token. -/
def live (p row : ℕ) (l : Fin 128) : Prop := D.code p row l &&& 511#32 ≠ 511#32
instance (p row : ℕ) (l : Fin 128) : Decidable (D.live p row l) := inferInstanceAs (Decidable (_ ≠ _))
def tok (p row : ℕ) (l : Fin 128) : ℕ := (D.code p row l &&& 511#32).toNat * 128 + l.val
def clus (p row : ℕ) (l : Fin 128) : BitVec 32 := (D.code p row l).sshiftRight 9 - 1#32
def kc (p row : ℕ) (l : Fin 128) (d : Fin 96) : BitVec 8 := D.kt (kIx p d (D.tok p row l))
def vc (p row : ℕ) (l : Fin 128) (d : Fin 96) : BitVec 8 := D.vt (kIx p d (D.tok p row l))
def scale (p row : ℕ) (l : Fin 128) (d : Fin 96) : EReal :=
  Ideal.ofBits .bf16 ((D.ksel (ix3 (pq p) (⟨d.val / 2, by omega⟩ : Fin 48) (⟨(D.clus p row l).toNat % 128, Nat.mod_lt _ (by decide)⟩ : Fin 128)) : BitVec 32).extractLsb' (d.val % 2 * 16) 16)
def key (p row : ℕ) (l : Fin 128) (d : Fin 96) : EReal := (((D.kc p row l d).toInt : ℝ) : EReal) * D.scale p row l d
def sc (p : ℕ) (r : Fin 8) (row : ℕ) (l : Fin 128) : EReal :=
  if D.live p row l then (∑ d : Fin 96, D.q (ix3 (pq p) r d) * D.key p row l d) * scl else ⊥
def v (p : ℕ) (d : Fin 96) (row : ℕ) (l : Fin 128) : EReal := (((D.vc p row l d).toInt : ℝ) : EReal)
def M (p : ℕ) (r : Fin 8) (n : ℕ) : EReal := MX (D.m0 (ix3 (pq p) r 0)) (D.sc p r) n
def L (p : ℕ) (r : Fin 8) (l : Fin 128) (n : ℕ) : EReal := LS (D.m0 (ix3 (pq p) r 0)) (D.sc p r) (D.l0 (ix3 (pq p) r l)) l n
def O (p : ℕ) (r : Fin 8) (d : Fin 96) (n : ℕ) : EReal := OS (D.m0 (ix3 (pq p) r 0)) (D.sc p r) (D.o0 (ix3 (pq p) r d)) (D.vs p) (D.v p d) n

/-- What the claim asks of the tables. -/
structure Good : Prop where
  wok : WOk D.win
  ahead : ∀ p < 96, ∀ row < 8 * nit (F := Ideal) D.win p, ∀ l, D.live p row l → ∀ hwo, ∃ n : Fin 16, (D.code p row l &&& 511#32) - winAt (F := Ideal) D.win (272 * p + row) hwo = BitVec.ofNat 32 n.val
  clus : ∀ p < 96, ∀ row < 8 * nit (F := Ideal) D.win p, ∀ l, D.live p row l → (D.clus p row l).toNat < 128
  level : ∀ p r l, D.m0 (ix3 p r l) = D.m0 (ix3 p r 0)
  fin : ∀ p r, (D.m0 (ix3 p r 0) : EReal) ≠ ⊥ ∧ (D.m0 (ix3 p r 0) : EReal) ≠ ⊤
  begun : ∀ p r, (0 : EReal) < ∑ l, (D.l0 (ix3 p r l) : EReal)

end Src

/-! ## Windows and puts at an index -/

theorem window_at {s : Shape} {α : Type} (x : s.Idx → α) (off size : Fin s.rank → ℕ) (inb) (y : (Rect.unit off size inb).shape.Idx) (i : s.Idx)
    (h : ∀ a, (i a).val = off a + (y a).val) : window x off size inb y = x i :=
  congrArg x (funext fun a => Fin.ext (by rw [h]; show off a + 1 * (y a).val = _; omega))

theorem put_at {s : Shape} {α : Type} (x : s.Idx → α) (off size : Fin s.rank → ℕ) (w : ((a : Fin s.rank) → Fin (size a)) → α) (i : s.Idx) (y : (a : Fin s.rank) → Fin (size a))
    (h : ∀ a, (i a).val = off a + (y a).val) : put x off size w i = w y := by
  unfold put
  rw [dif_pos (fun a => by rw [h]; have := (y a).isLt; omega)]
  refine congrArg w (funext fun a => Fin.ext ?_)
  show (i a).val - off a = (y a).val
  rw [h]; omega

theorem put_at3 {α : Type} {n0 n1 n2 m0 m1 m2 : ℕ} {x : (⟨3, ![n0, n1, n2]⟩ : Shape).Idx → α} {off : Fin 3 → ℕ} {w : (⟨3, ![m0, m1, m2]⟩ : Shape).Idx → α} {i : (⟨3, ![n0, n1, n2]⟩ : Shape).Idx}
    (y0 : Fin m0) (y1 : Fin m1) (y2 : Fin m2) (h : ∀ a : Fin 3, (i a).val = off a + ((ix3 y0 y1 y2 : (⟨3, ![m0, m1, m2]⟩ : Shape).Idx) a).val) : put x off ![m0, m1, m2] w i = w (ix3 y0 y1 y2) :=
  put_at (s := ⟨3, ![n0, n1, n2]⟩) x off ![m0, m1, m2] w i (ix3 y0 y1 y2) h

theorem put_at4 {α : Type} {n0 n1 n2 n3 m0 m1 m2 m3 : ℕ} {x : (⟨4, ![n0, n1, n2, n3]⟩ : Shape).Idx → α} {off : Fin 4 → ℕ} {w : (⟨4, ![m0, m1, m2, m3]⟩ : Shape).Idx → α} {i : (⟨4, ![n0, n1, n2, n3]⟩ : Shape).Idx}
    (y0 : Fin m0) (y1 : Fin m1) (y2 : Fin m2) (y3 : Fin m3) (h : ∀ a : Fin 4, (i a).val = off a + ((ix4 y0 y1 y2 y3 : (⟨4, ![m0, m1, m2, m3]⟩ : Shape).Idx) a).val) : put x off ![m0, m1, m2, m3] w i = w (ix4 y0 y1 y2 y3) :=
  put_at (s := ⟨4, ![n0, n1, n2, n3]⟩) x off ![m0, m1, m2, m3] w i (ix4 y0 y1 y2 y3) h

theorem put_off {s : Shape} {α : Type} (x : s.Idx → α) (off size : Fin s.rank → ℕ) (w : ((a : Fin s.rank) → Fin (size a)) → α) (i : s.Idx) (a : Fin s.rank)
    (h : (i a).val < off a ∨ off a + size a ≤ (i a).val) : put x off size w i = x i := by
  unfold put
  exact dif_neg fun hall => by have := hall a; omega

theorem all1 {P : Fin 1 → Prop} (h0 : P 0) : ∀ a, P a := fun a => match a with | ⟨0, _⟩ => h0
theorem all2 {P : Fin 2 → Prop} (h0 : P 0) (h1 : P 1) : ∀ a, P a := fun a => match a with | ⟨0, _⟩ => h0 | ⟨1, _⟩ => h1
theorem all3 {P : Fin 3 → Prop} (h0 : P 0) (h1 : P 1) (h2 : P 2) : ∀ a, P a := fun a => match a with | ⟨0, _⟩ => h0 | ⟨1, _⟩ => h1 | ⟨2, _⟩ => h2
theorem all4 {P : Fin 4 → Prop} (h0 : P 0) (h1 : P 1) (h2 : P 2) (h3 : P 3) : ∀ a, P a := fun a => match a with | ⟨0, _⟩ => h0 | ⟨1, _⟩ => h1 | ⟨2, _⟩ => h2 | ⟨3, _⟩ => h3

/-! ## What the buffers hold -/

variable (D : Src)

/-- A row's place in the keys' and the weights' buffers. -/
abbrev jh (j : Fin 8) : Fin 4 := ⟨j.val / 2, by omega⟩
abbrev jl (j : Fin 8) (l : Fin 128) : Fin 256 := ⟨j.val % 2 * 128 + l.val, by omega⟩

def HasK (k : Vec Ideal S4x96x256 .bf16) (q n : ℕ) : Prop :=
  ∀ (j : Fin 8) (d : Fin 96) (l : Fin 128), D.live q (8 * n + j.val) l → k (ix3 (jh j) d (jl j l)) = D.key q (8 * n + j.val) l d
def HasV (x : Vec Ideal S4x8x24x128 .i32) (ρ : Fin 4) (q n : ℕ) : Prop :=
  ∀ (j : Fin 8) (w : Fin 24) (l : Fin 128), D.live q (8 * n + j.val) l → ∀ b, (hb : b < 32) →
    (x (ix4 ρ j w l) : BitVec 32).getLsbD b = (D.vc q (8 * n + j.val) l ⟨4 * w.val + b / 8, by omega⟩).getLsbD (b % 8)
def HasC (x : Vec Ideal S4x8x128 .i32) (ρ : Fin 4) (q n : ℕ) : Prop := ∀ (j : Fin 8) (l : Fin 128), x (ix3 ρ j l) = D.code q (8 * n + j.val) l
def HasVS (x : Vec Ideal S4x8x128 .f32) (ρ : Fin 4) (q n : ℕ) : Prop := ∀ (j : Fin 8) (l : Fin 128), x (ix3 ρ j l) = D.vs q (8 * n + j.val) l
def HasS (x : Vec Ideal S8x8x128 .f32) (q n : ℕ) : Prop := ∀ (j r : Fin 8) (l : Fin 128), x (ix3 j r l) = D.sc q r (8 * n + j.val) l
def HasP (x : Vec Ideal S4x8x256 .bf16) (q n : ℕ) : Prop := ∀ (j r : Fin 8) (l : Fin 128),
  x (ix3 (jh j) r (jl j l)) = Ideal.exp (D.sc q r (8 * n + j.val) l - D.M q r (n + 1)) * D.vs q (8 * n + j.val) l
def HasA (x : Vec Ideal S8x128 .f32) (q n : ℕ) : Prop := ∀ (r : Fin 8) (l : Fin 128), x (ix2 r l) = Ideal.exp (D.M q r n - D.M q r (n + 1))
def RowM (x : Vec Ideal S97x8x128 .f32) (q n : ℕ) : Prop := ∀ (r : Fin 8) (l : Fin 128), x (ix3 (pr q) r l) = D.M q r n
def RowL (x : Vec Ideal S97x8x128 .f32) (q n : ℕ) : Prop := ∀ (r : Fin 8) (l : Fin 128), x (ix3 (pr q) r l) = D.L q r l n
def RowO (x : Vec Ideal S97x8x96 .f32) (q n : ℕ) : Prop := ∀ (r : Fin 8) (d : Fin 96), x (ix3 (pr q) r d) = D.O q r d n

end Cert.Attend

end
-- ==== Proof.Sound.lean ====
/-
  The precondition read: what it says of the windows, of the slots' codes and of the starting maxima.
-/
module

public import proofs.«01_k».proof.Proof.Inside
public import proofs.«01_k».proof.Proof.Sem
public import proofs.«01_k».proof.Pre_tables_sound

@[expose] public section

set_option maxRecDepth 100000

noncomputable section

namespace Cert.Pre_tables_sound

/-- The shapes' side conditions. -/
theorem facts : Facts := ⟨by decide, by decide, by decide, by decide, by decide, by decide, by decide, by decide, by decide, by decide, by decide, by decide, by decide, by decide, by decide, by decide, by decide, by decide⟩

end Cert.Pre_tables_sound

namespace Cert.Attend

open Cert.Kernel Cert.Kernel.Gen
open Idealize.ShloMosaic Idealize.ShloMosaic.TcCoe

/-- The condition on a slot's code. -/
def codeB (rows first code : BitVec 32) (r : ℕ) : BitVec 1 :=
  (IntOp.cmpi .sge (BitVec.ofNat 32 r &&& 4294967288#32) rows ||| IntOp.cmpi .eq (code &&& 511#32) 511#32)
    ||| (((IntOp.cmpi .sge ((code &&& 511#32) - first) 0#32 &&& IntOp.cmpi .slt ((code &&& 511#32) - first) 16#32) &&& IntOp.cmpi .sge (IntOp.shrsi .host code 9#32 - 1#32) 0#32) &&& IntOp.cmpi .slt (IntOp.shrsi .host code 9#32 - 1#32) 128#32)

theorem sound_at [Cert.Pre_tables_sound.Facts] (w : IVec S26112 32) (a1 : FVec Ideal S96x8x96 .bf16) (a2 : IVec S96x48x128 32) (a3 a4 : FVec Ideal S96x8x128 .f32) (a5 : FVec Ideal S96x8x96 .f32)
    (a6 a7 : IVec S12x8x96x32768 8) (a8 : IVec S24576x128 32) (a9 : FVec Ideal S24576x128 .f32) (p : Fin 96) (r : Fin 256) (l : Fin 128) :
    Cert.Pre_tables_sound.fn (F := Ideal) w a1 a2 a3 a4 a5 a6 a7 a8 a9 (ix3 p (⟨r.val, by omega⟩ : Fin 272) l)
      = insideB (w (ix1 (⟨272 * p.val + 256, by omega⟩ : Fin 26112))) (w (ix1 (⟨272 * p.val + r.val, by omega⟩ : Fin 26112))) r.val
        &&& codeB (w (ix1 (⟨272 * p.val + 256, by omega⟩ : Fin 26112))) (w (ix1 (⟨272 * p.val + r.val, by omega⟩ : Fin 26112))) (a8 (ix2 (⟨256 * p.val + r.val, by omega⟩ : Fin 24576) l)) r.val := by
  pointwise [Cert.Pre_tables_sound.fn, Cert.Pre_tables_sound.fn_part1, Cert.Pre_tables_sound.fn_part2, Cert.Pre_tables_sound.fn_part3]
  simp only [Nat.mul_comm p.val 272, Nat.mul_comm p.val 256]
  rfl

theorem level_at [Cert.Pre_tables_sound.Facts] (w : IVec S26112 32) (a1 : FVec Ideal S96x8x96 .bf16) (a2 : IVec S96x48x128 32) (a3 a4 : FVec Ideal S96x8x128 .f32) (a5 : FVec Ideal S96x8x96 .f32)
    (a6 a7 : IVec S12x8x96x32768 8) (a8 : IVec S24576x128 32) (a9 : FVec Ideal S24576x128 .f32) (p : Fin 96) (r : Fin 8) (l : Fin 128) :
    Cert.Pre_tables_sound.fn (F := Ideal) w a1 a2 a3 a4 a5 a6 a7 a8 a9 (ix3 p (⟨256 + r.val, by omega⟩ : Fin 272) l)
      = Ideal.cmp .oeq (a3 (ix3 p r l) - a3 (ix3 p r 0)) 0 := by
  pointwise [Cert.Pre_tables_sound.fn, Cert.Pre_tables_sound.fn_part1, Cert.Pre_tables_sound.fn_part2, Cert.Pre_tables_sound.fn_part3]

theorem begun_at [Cert.Pre_tables_sound.Facts] (w : IVec S26112 32) (a1 : FVec Ideal S96x8x96 .bf16) (a2 : IVec S96x48x128 32) (a3 a4 : FVec Ideal S96x8x128 .f32) (a5 : FVec Ideal S96x8x96 .f32)
    (a6 a7 : IVec S12x8x96x32768 8) (a8 : IVec S24576x128 32) (a9 : FVec Ideal S24576x128 .f32) (p : Fin 96) (r : Fin 8) (l : Fin 128) :
    Cert.Pre_tables_sound.fn (F := Ideal) w a1 a2 a3 a4 a5 a6 a7 a8 a9 (ix3 p (⟨264 + r.val, by omega⟩ : Fin 272) l) = Ideal.cmp .ogt (∑ k, (a4 (ix3 p r k) : EReal)) 0 := by
  pointwise [Cert.Pre_tables_sound.fn, Cert.Pre_tables_sound.fn_part1, Cert.Pre_tables_sound.fn_part2, Cert.Pre_tables_sound.fn_part3]
  have e (h : 264 + r.val - 256 - 8 < 8) : (⟨264 + r.val - 256 - 8, h⟩ : Fin 8) = r := Fin.ext (by show 264 + r.val - 256 - 8 = r.val; omega)
  rw [dif_neg (show ¬ 264 + r.val < 256 by omega), dif_neg (show ¬ 264 + r.val - 256 < 8 by omega)]
  simp only [e]

theorem ahead_of {a first : BitVec 32} (h0 : IntOp.cmpi .sge (a - first) 0#32 = 1#1) (h1 : IntOp.cmpi .slt (a - first) 16#32 = 1#1) : ∃ n : Fin 16, a - first = BitVec.ofNat 32 n.val := by
  generalize a - first = x at h0 h1 ⊢
  have h1' : (0#32).toInt ≤ x.toInt := BitVec.sle_iff_toInt_le.1 (ofBool_one.1 h0)
  have h2' : x.toInt < (16#32).toInt := BitVec.slt_iff_toInt_lt.1 (ofBool_one.1 h1)
  have e0 : (0#32).toInt = 0 := by decide
  have e1 : (16#32).toInt = 16 := by decide
  rw [e0] at h1'; rw [e1] at h2'
  have := BitVec.toInt_eq_toNat_cond x
  have := x.isLt
  have hx : x.toNat < 16 := by split at * <;> omega
  exact ⟨⟨x.toNat, hx⟩, BitVec.eq_of_toNat_eq (by rw [BitVec.toNat_ofNat]; show x.toNat = x.toNat % 2 ^ 32; omega)⟩

theorem clus_of {x : BitVec 32} (h0 : IntOp.cmpi .sge x 0#32 = 1#1) (h1 : IntOp.cmpi .slt x 128#32 = 1#1) : x.toNat < 128 := by
  have h1' : (0#32).toInt ≤ x.toInt := BitVec.sle_iff_toInt_le.1 (ofBool_one.1 h0)
  have h2' : x.toInt < (128#32).toInt := BitVec.slt_iff_toInt_lt.1 (ofBool_one.1 h1)
  have e0 : (0#32).toInt = 0 := by decide
  have e1 : (128#32).toInt = 128 := by decide
  rw [e0] at h1'; rw [e1] at h2'
  have := BitVec.toInt_eq_toNat_cond x
  have := x.isLt
  split at * <;> omega

theorem codeB_of {rows first code : BitVec 32} {r : ℕ} (hr : r < 256) (hrows : rows.toNat ≤ 256) (h : codeB rows first code r = 1#1) (hl : r < 8 * ((rows.toNat + 7) / 8)) (hc : code &&& 511#32 ≠ 511#32) :
    (∃ n : Fin 16, (code &&& 511#32) - first = BitVec.ofNat 32 n.val) ∧ (code.sshiftRight 9 - 1#32).toNat < 128 := by
  rcases one_or h with h' | h'
  · exfalso
    rcases one_or h' with h2 | h2
    · have h1' : rows.toInt ≤ (BitVec.ofNat 32 r &&& 4294967288#32).toInt := BitVec.sle_iff_toInt_le.1 (ofBool_one.1 h2)
      have hm : (BitVec.ofNat 32 r &&& 4294967288#32).toInt = 8 * (r / 8 : ℕ) := low_mask ⟨r, hr⟩
      rw [hm] at h1'
      have ht := BitVec.toInt_eq_toNat_cond rows
      rw [if_pos (by omega)] at ht
      omega
    · exact hc (eq_of_beq (ofBool_one.1 h2))
  · obtain ⟨h1, h2⟩ := one_and h'
    obtain ⟨h1, h3⟩ := one_and h1
    obtain ⟨h1, h4⟩ := one_and h1
    exact ⟨ahead_of h1 h4, clus_of h3 h2⟩

theorem cmp_oeq {x : EReal} (h : Ideal.cmp .oeq x 0 = 1#1) : x = 0 := by
  by_contra hx
  have : Ideal.cmp .oeq x 0 = 0#1 := by
    unfold Ideal.cmp
    simp [hx]
  rw [this] at h
  exact absurd h (by decide)

theorem cmp_ogt {x : EReal} (h : Ideal.cmp .ogt x 0 = 1#1) : 0 < x := by
  by_contra hx
  have : Ideal.cmp .ogt x 0 = 0#1 := by
    show BitVec.ofBool (decide (x > 0)) = 0#1
    rw [decide_eq_false hx]; rfl
  rw [this] at h
  exact absurd h (by decide)

theorem sub_self_zero {x : EReal} (h : x - x = 0) : x ≠ ⊥ ∧ x ≠ ⊤ := by
  refine ⟨fun e => ?_, fun e => ?_⟩ <;> subst e <;> simp at h

theorem good_of [Cert.Pre_tables_sound.Facts] (D : Src)
    (h : Cert.Pre_tables_sound.fn (F := Ideal) D.win D.q D.ksel D.m0 D.l0 D.o0 D.kt D.vt D.tbl D.vst = fun _ => 1#1) : D.Good := by
  have hp (p : Fin 96) (r : Fin 256) (l : Fin 128) := one_and ((sound_at D.win D.q D.ksel D.m0 D.l0 D.o0 D.kt D.vt D.tbl D.vst p r l).symm.trans (congrFun h _))
  have hm (p : Fin 96) (r : Fin 8) (l : Fin 128) : D.m0 (ix3 p r l) - D.m0 (ix3 p r 0) = (0 : EReal) := cmp_oeq ((level_at D.win D.q D.ksel D.m0 D.l0 D.o0 D.kt D.vt D.tbl D.vst p r l).symm.trans (congrFun h _))
  have er (p : ℕ) (hp : p < 96) : rowsW (F := Ideal) D.win p = D.win (ix1 (⟨272 * p + 256, by omega⟩ : Fin 26112)) := by
    unfold rowsW
    rw [← ix1_eq_valueIdx]
    exact congrArg D.win (congrArg ix1 (Fin.ext (Nat.mod_eq_of_lt (by omega))))
  have hrows (p : ℕ) (hp96 : p < 96) : (rowsW (F := Ideal) D.win p).toNat ≤ 256 := by
    rw [er p hp96]
    exact insideB_rows (hp ⟨p, hp96⟩ ⟨0, by omega⟩ 0).1
  have ew (p r : ℕ) (hp96 : p < 96) (hr : r < 256) (hwo) : winAt (F := Ideal) D.win (272 * p + r) hwo = D.win (ix1 (⟨272 * p + r, by omega⟩ : Fin 26112)) := by
    unfold winAt
    exact window_at D.win _ _ _ _ _ (all1 (by show 272 * p + r = 272 * p + r + 0; omega))
  have hn (p : ℕ) (hp96 : p < 96) : nit (F := Ideal) D.win p ≤ 32 := by
    have := hrows p hp96
    unfold nit; omega
  have hfin (p : Fin 96) (r : Fin 8) : (D.m0 (ix3 p r 0) : EReal) ≠ ⊥ ∧ (D.m0 (ix3 p r 0) : EReal) ≠ ⊤ := sub_self_zero (hm p r 0)
  have hlt (p row : ℕ) (hp96 : p < 96) (hr : row < 8 * nit (F := Ideal) D.win p) : row < 8 * (((D.win (ix1 (⟨272 * p + 256, by omega⟩ : Fin 26112)) : BitVec 32).toNat + 7) / 8) := by
    have := er p hp96
    unfold nit at hr
    rw [this] at hr
    exact hr
  have ec (p row : ℕ) (hp96 : p < 96) (hr : row < 256) (l : Fin 128) : D.code p row l = D.tbl (ix2 (⟨256 * p + row, by omega⟩ : Fin 24576) l) := by
    unfold Src.code tblIx
    rw [← ix2_eq_valueIdx]
    exact congrArg D.tbl (congrArg (fun z => ix2 z l) (Fin.ext (Nat.mod_eq_of_lt (by omega))))
  have hcode (p row : ℕ) (hp96 : p < 96) (hr : row < 8 * nit (F := Ideal) D.win p) (l : Fin 128) (hl : D.live p row l) :
      (∃ n : Fin 16, (D.code p row l &&& 511#32) - D.win (ix1 (⟨272 * p + row, by have := hn p hp96; omega⟩ : Fin 26112)) = BitVec.ofNat 32 n.val) ∧ (D.clus p row l).toNat < 128 := by
    have hr' : row < 256 := by have := hn p hp96; omega
    have := (hp ⟨p, hp96⟩ ⟨row, hr'⟩ l).2
    unfold Src.clus
    unfold Src.live at hl
    rw [ec p row hp96 hr' l] at hl ⊢
    refine codeB_of hr' ?_ this (hlt p row hp96 hr) hl
    have := hrows p hp96
    rw [er p hp96] at this
    exact this
  refine ⟨⟨hrows, fun p hp96 r hr hwo => ?_⟩, fun p hp96 row hr l hl hwo => ?_, fun p hp96 row hr l hl => (hcode p row hp96 hr l hl).2, fun p r l => ?_, fun p r => hfin p r,
    fun p r => cmp_ogt ((begun_at D.win D.q D.ksel D.m0 D.l0 D.o0 D.kt D.vt D.tbl D.vst p r 0).symm.trans (congrFun h _))⟩
  · have hr' : r < 256 := by have := hn p hp96; omega
    rw [ew p r hp96 hr']
    exact insideB_first hr' (hp ⟨p, hp96⟩ ⟨r, hr'⟩ 0).1 (hlt p r hp96 hr)
  · rw [ew p row hp96 (by have := hn p hp96; omega)]
    exact (hcode p row hp96 hr l hl).1
  · have h1 := hm p r l
    obtain ⟨hb, ht⟩ := hfin p r
    generalize (D.m0 (ix3 p r 0) : EReal) = y at h1 hb ht
    show (D.m0 (ix3 p r l) : EReal) = y
    generalize (D.m0 (ix3 p r l) : EReal) = x at h1
    lift y to ℝ using ⟨ht, hb⟩
    induction x using EReal.rec with
    | bot => simp at h1
    | top => simp at h1
    | coe x =>
      rw [← EReal.coe_sub] at h1
      have h2 : x - y = 0 := EReal.coe_eq_zero.1 h1
      rw [sub_eq_zero.1 h2]

end Cert.Attend

end
-- ==== Proof.StepK.lean ====
/-
  The gathering of eight rows of slots: what the buffers of keys, values, codes and value scales hold after it.
-/
module

public import proofs.«01_k».proof.Proof.Sem

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

variable {D : Src}

theorem mem_k {sl : ℕ} (x : S4x96x32768.Idx) (h : (x 0).val = sl) : x ∈ kSet sl := by
  simpa [kSet] using h
theorem mem_h {sl : ℕ} (x : S4x256x128.Idx) (h : (x 0).val = sl) (h1 : (x 1).val < 80) : x ∈ hSet sl := by
  simpa [hSet] using And.intro h h1
theorem mem_l {sl : ℕ} (x : S4x256x128.Idx) (h : (x 0).val = sl) (h1 : 80 ≤ (x 1).val) : x ∈ lSet sl := by
  simpa [lSet] using And.intro h h1

/-! ## The tile a slot's code points at -/

/-- The third `r` of the keys, and of the values. -/
def Acc6.kf (a : Acc6) (r : Fin 3) : IVec S8x128 32 := match r with | ⟨0, _⟩ => a.k0 | ⟨1, _⟩ => a.k1 | ⟨2, _⟩ => a.k2
def Acc6.vf (a : Acc6) (r : Fin 3) : IVec S8x128 32 := match r with | ⟨0, _⟩ => a.v0 | ⟨1, _⟩ => a.v1 | ⟨2, _⟩ => a.v2

/-- Two gathered tiles agree at a place. -/
def Acc6.Same (a b : Acc6) (i : S8x128.Idx) : Prop := ∀ r, a.kf r i = b.kf r i ∧ a.vf r i = b.vf r i

theorem select_pos {α : Type} {c : BitVec 1} (h : c = 1#1) (a b : α) : Scalar.select c a b = a := by subst h; rfl
theorem select_neg {α : Type} {c : BitVec 1} (h : c = 0#1) (a b : α) : Scalar.select c a b = b := by subst h; rfl

theorem pick_hit {rel : IVec S8x128 32} {i : BitVec 32} {n o b : Acc6} {j : S8x128.Idx} (h : rel j = i) (hb : n.Same b j) : (pick rel i n o).Same b j := by
  have hc : IntOp.cmpi .eq (rel j) i = 1#1 := by rw [h]; show BitVec.ofBool (i == i) = 1#1; rw [beq_self_eq_true]; rfl
  intro r
  refine ⟨Eq.trans ?_ (hb r).1, Eq.trans ?_ (hb r).2⟩
  · match r with
    | ⟨0, _⟩ => exact select_pos hc _ _
    | ⟨1, _⟩ => exact select_pos hc _ _
    | ⟨2, _⟩ => exact select_pos hc _ _
  · match r with
    | ⟨0, _⟩ => exact select_pos hc _ _
    | ⟨1, _⟩ => exact select_pos hc _ _
    | ⟨2, _⟩ => exact select_pos hc _ _

theorem pick_miss {rel : IVec S8x128 32} {i : BitVec 32} {n o b : Acc6} {j : S8x128.Idx} (h : rel j ≠ i) (hb : o.Same b j) : (pick rel i n o).Same b j := by
  have hc : IntOp.cmpi .eq (rel j) i = 0#1 := by show BitVec.ofBool (rel j == i) = 0#1; rw [beq_eq_false_iff_ne.2 h]; rfl
  intro r
  refine ⟨Eq.trans ?_ (hb r).1, Eq.trans ?_ (hb r).2⟩
  · match r with
    | ⟨0, _⟩ => exact select_neg hc _ _
    | ⟨1, _⟩ => exact select_neg hc _ _
    | ⟨2, _⟩ => exact select_neg hc _ _
  · match r with
    | ⟨0, _⟩ => exact select_neg hc _ _
    | ⟨1, _⟩ => exact select_neg hc _ _
    | ⟨2, _⟩ => exact select_neg hc _ _

theorem pick_at {rel : IVec S8x128 32} {i : BitVec 32} {n o b : Acc6} {j : S8x128.Idx} (hn : rel j = i → n.Same b j) (ho : rel j ≠ i → o.Same b j) : (pick rel i n o).Same b j := by
  by_cases h : rel j = i
  · exact pick_hit h (hn h)
  · exact pick_miss h (ho h)

theorem nat_of_eq {n : Fin 16} {i : ℕ} (hi : i < 16) (h : BitVec.ofNat 32 n.val = BitVec.ofNat 32 i) : n = ⟨i, hi⟩ := by
  have := congrArg BitVec.toNat h
  rw [BitVec.toNat_ofNat, BitVec.toNat_ofNat] at this
  exact Fin.ext (by show n.val = i; omega)

theorem tilesF_at {kb vb : Vec Ideal S4x96x32768 .i8} {sl : ℕ} {hsl : sl + 1 ≤ 4} {a : BitVec 32} (hc : ∀ i : Fin 16, colOf a (BitVec.ofNat 32 i.val) + 128 ≤ 32768) {rel : IVec S8x128 32} {j : S8x128.Idx} (n : Fin 16)
    (h : rel j = BitVec.ofNat 32 n.val) : (tilesF (F := Ideal) kb vb sl hsl a hc rel).Same (tileF (F := Ideal) kb vb sl hsl a (BitVec.ofNat 32 n.val) (hc n)) j := by
  have key (i : ℕ) (hi : i < 16) (e : rel j = BitVec.ofNat 32 i) : (tileF (F := Ideal) kb vb sl hsl a (BitVec.ofNat 32 i) (hc ⟨i, hi⟩)).Same (tileF (F := Ideal) kb vb sl hsl a (BitVec.ofNat 32 n.val) (hc n)) j := by
    obtain rfl := nat_of_eq hi (h.symm.trans e)
    exact fun r => ⟨rfl, rfl⟩
  unfold tilesF
  refine pick_at (key 15 (by decide)) fun h15 => pick_at (key 14 (by decide)) fun h14 => pick_at (key 13 (by decide)) fun h13 => pick_at (key 12 (by decide)) fun h12 => ?_
  refine pick_at (key 11 (by decide)) fun h11 => pick_at (key 10 (by decide)) fun h10 => pick_at (key 9 (by decide)) fun h9 => pick_at (key 8 (by decide)) fun h8 => ?_
  refine pick_at (key 7 (by decide)) fun h7 => pick_at (key 6 (by decide)) fun h6 => pick_at (key 5 (by decide)) fun h5 => pick_at (key 4 (by decide)) fun h4 => ?_
  refine pick_at (key 3 (by decide)) fun h3 => pick_at (key 2 (by decide)) fun h2 => pick_at (key 1 (by decide)) fun h1 => key 0 (by decide) ?_
  rw [h] at *
  have hn := n.isLt
  rcases n with ⟨n, hn⟩
  interval_cases n <;> first | rfl | contradiction

/-! ## One row's parts at a place -/

theorem code_at (x : Vec Ideal S1x1x128 .i32) (a : Fin 8) (l : Fin 128) : codeOf (F := Ideal) x (ix2 a l) = x (ix3 0 0 l) := by
  pointwise [codeOf]

theorem idxOf_at (code : IVec S8x128 32) (i : S8x128.Idx) : idxOf code i = (code i).sshiftRight 9 - 1#32 := rfl
theorem relOf_at (code : IVec S8x128 32) (a : BitVec 32) (i : S8x128.Idx) : relOf code a i = (code i &&& 511#32) - a := rfl

theorem cast_v (va : IVec S8x128 32) (w : Fin 8) (l : Fin 128) : (shapeCast S1x1x8x128 va shapeCasts_S8x128_S1x1x8x128 : IVec S1x1x8x128 32) (ix4 0 0 w l) = va (ix2 w l) := by
  pointwise

theorem third_k (A : AS Ideal) (pi : ℕ) (hpi : pi + 1 ≤ 96) (ro : ℕ) (j : Fin 8) (r : Fin 3) (idx ka va : IVec S8x128 32) (d : Fin 96) (l : Fin 128) (hd : d.val / 32 = r.val) :
    (A.third pi hpi ro j r idx ka va).kscr (ix3 (jh j) d (jl j l)) = keys (F := Ideal) idx ka (window A.ksel ![pi, 16 * r.val, 0] S1x8x128.size (inb3 hpi (by omega) (by decide)))
      (window A.ksel ![pi, 16 * r.val + 8, 0] S1x8x128.size (inb3 hpi (by omega) (by decide))) (ix3 (0 : Fin 1) (⟨d.val % 32, Nat.mod_lt _ (by decide)⟩ : Fin 32) l) :=
  put_at3 (0 : Fin 1) (⟨d.val % 32, Nat.mod_lt _ (by decide)⟩ : Fin 32) l (all3 rfl (by show d.val = 32 * r.val + d.val % 32; omega) rfl)

theorem third_k_other (A : AS Ideal) (pi : ℕ) (hpi : pi + 1 ≤ 96) (ro : ℕ) (j j' : Fin 8) (r : Fin 3) (idx ka va : IVec S8x128 32) (d : Fin 96) (l : Fin 128) (hd : j' ≠ j ∨ d.val / 32 ≠ r.val) :
    (A.third pi hpi ro j r idx ka va).kscr (ix3 (jh j') d (jl j' l)) = A.kscr (ix3 (jh j') d (jl j' l)) := by
  have hl := l.isLt
  by_cases hj : j' = j
  · have hd := hd.resolve_left (fun h => h hj)
    refine put_off _ _ _ _ _ (1 : Fin 3) ?_
    show d.val < 32 * r.val ∨ 32 * r.val + 32 ≤ d.val
    omega
  · have hn : j'.val ≠ j.val := fun e => hj (Fin.ext e)
    by_cases h2 : j'.val / 2 = j.val / 2
    · refine put_off _ _ _ _ _ (2 : Fin 3) ?_
      show j'.val % 2 * 128 + l.val < j.val % 2 * 128 ∨ j.val % 2 * 128 + 128 ≤ j'.val % 2 * 128 + l.val
      omega
    · refine put_off _ _ _ _ _ (0 : Fin 3) ?_
      show j'.val / 2 < j.val / 2 ∨ j.val / 2 + 1 ≤ j'.val / 2
      omega

theorem third_v (A : AS Ideal) (pi : ℕ) (hpi : pi + 1 ≤ 96) (ρ : Fin 4) (j : Fin 8) (r : Fin 3) (idx ka va : IVec S8x128 32) (w : Fin 24) (l : Fin 128) (hw : w.val / 8 = r.val) :
    (A.third pi hpi ρ.val j r idx ka va).vscr (ix4 ρ j w l) = va (ix2 (⟨w.val % 8, Nat.mod_lt _ (by decide)⟩ : Fin 8) l) :=
  (put_at4 (0 : Fin 1) (0 : Fin 1) (⟨w.val % 8, Nat.mod_lt _ (by decide)⟩ : Fin 8) l (all4 rfl rfl (by show w.val = 8 * r.val + w.val % 8; omega) (by show l.val = 0 + l.val; omega))).trans (cast_v va _ l)

theorem third_v_other (A : AS Ideal) (pi : ℕ) (hpi : pi + 1 ≤ 96) (ρ ρ' : Fin 4) (j j' : Fin 8) (r : Fin 3) (idx ka va : IVec S8x128 32) (w : Fin 24) (l : Fin 128) (hd : ρ' ≠ ρ ∨ j' ≠ j ∨ w.val / 8 ≠ r.val) :
    (A.third pi hpi ρ.val j r idx ka va).vscr (ix4 ρ' j' w l) = A.vscr (ix4 ρ' j' w l) := by
  by_cases hr : ρ' = ρ
  · by_cases hj : j' = j
    · have hd := (hd.resolve_left (fun h => h hr)).resolve_left (fun h => h hj)
      refine put_off _ _ _ _ _ (2 : Fin 4) ?_
      show w.val < 8 * r.val ∨ 8 * r.val + 8 ≤ w.val
      omega
    · have hn : j'.val ≠ j.val := fun e => hj (Fin.ext e)
      refine put_off _ _ _ _ _ (1 : Fin 4) ?_
      show j'.val < j.val ∨ j.val + 1 ≤ j'.val
      omega
  · have hn : ρ'.val ≠ ρ.val := fun e => hr (Fin.ext e)
    refine put_off _ _ _ _ _ (0 : Fin 4) ?_
    show ρ'.val < ρ.val ∨ ρ.val + 1 ≤ ρ'.val
    omega

/-! ## One row -/

/-- The row as three thirds of one gathered tile. -/
def AS.thirds (A : AS Ideal) (pi : ℕ) (hpi : pi + 1 ≤ 96) (ro : ℕ) (j : Fin 8) (idx : IVec S8x128 32) (acc : Acc6) : AS Ideal :=
  ((A.third pi hpi ro j 0 idx (acc.kf 0) (acc.vf 0)).third pi hpi ro j 1 idx (acc.kf 1) (acc.vf 1)).third pi hpi ro j 2 idx (acc.kf 2) (acc.vf 2)

theorem thirds_k (A : AS Ideal) (pi : ℕ) (hpi : pi + 1 ≤ 96) (ro : ℕ) (j : Fin 8) (idx : IVec S8x128 32) (acc : Acc6) (d : Fin 96) (l : Fin 128) (r : Fin 3) (hd : d.val / 32 = r.val) :
    (A.thirds pi hpi ro j idx acc).kscr (ix3 (jh j) d (jl j l)) = keys (F := Ideal) idx (acc.kf r) (window A.ksel ![pi, 16 * r.val, 0] S1x8x128.size (inb3 hpi (by omega) (by decide)))
      (window A.ksel ![pi, 16 * r.val + 8, 0] S1x8x128.size (inb3 hpi (by omega) (by decide))) (ix3 (0 : Fin 1) (⟨d.val % 32, Nat.mod_lt _ (by decide)⟩ : Fin 32) l) := by
  unfold AS.thirds
  match r, hd with
  | ⟨0, _⟩, hd =>
    rw [third_k_other _ _ _ _ _ _ 2 _ _ _ _ _ (.inr (by rw [hd]; exact (by decide : (0 : ℕ) ≠ 2))), third_k_other _ _ _ _ _ _ 1 _ _ _ _ _ (.inr (by rw [hd]; exact (by decide : (0 : ℕ) ≠ 1)))]
    exact third_k _ _ _ _ _ 0 _ _ _ _ _ hd
  | ⟨1, _⟩, hd =>
    rw [third_k_other _ _ _ _ _ _ 2 _ _ _ _ _ (.inr (by rw [hd]; exact (by decide : (1 : ℕ) ≠ 2)))]
    exact third_k _ _ _ _ _ 1 _ _ _ _ _ hd
  | ⟨2, _⟩, hd => exact third_k _ _ _ _ _ 2 _ _ _ _ _ hd

theorem thirds_v (A : AS Ideal) (pi : ℕ) (hpi : pi + 1 ≤ 96) (ρ : Fin 4) (j : Fin 8) (idx : IVec S8x128 32) (acc : Acc6) (w : Fin 24) (l : Fin 128) (r : Fin 3) (hw : w.val / 8 = r.val) :
    (A.thirds pi hpi ρ.val j idx acc).vscr (ix4 ρ j w l) = acc.vf r (ix2 (⟨w.val % 8, Nat.mod_lt _ (by decide)⟩ : Fin 8) l) := by
  unfold AS.thirds
  match r, hw with
  | ⟨0, _⟩, hw =>
    rw [third_v_other _ _ _ _ _ _ _ 2 _ _ _ _ _ (.inr (.inr (by rw [hw]; exact (by decide : (0 : ℕ) ≠ 2)))), third_v_other _ _ _ _ _ _ _ 1 _ _ _ _ _ (.inr (.inr (by rw [hw]; exact (by decide : (0 : ℕ) ≠ 1))))]
    exact third_v _ _ _ _ _ 0 _ _ _ _ _ hw
  | ⟨1, _⟩, hw =>
    rw [third_v_other _ _ _ _ _ _ _ 2 _ _ _ _ _ (.inr (.inr (by rw [hw]; exact (by decide : (1 : ℕ) ≠ 2))))]
    exact third_v _ _ _ _ _ 1 _ _ _ _ _ hw
  | ⟨2, _⟩, hw => exact third_v _ _ _ _ _ 2 _ _ _ _ _ hw

theorem thirds_k_other (A : AS Ideal) (pi : ℕ) (hpi : pi + 1 ≤ 96) (ro : ℕ) (j j' : Fin 8) (hj : j' ≠ j) (idx : IVec S8x128 32) (acc : Acc6) (d : Fin 96) (l : Fin 128) :
    (A.thirds pi hpi ro j idx acc).kscr (ix3 (jh j') d (jl j' l)) = A.kscr (ix3 (jh j') d (jl j' l)) := by
  unfold AS.thirds
  rw [third_k_other _ _ _ _ _ _ 2 _ _ _ _ _ (.inl hj), third_k_other _ _ _ _ _ _ 1 _ _ _ _ _ (.inl hj), third_k_other _ _ _ _ _ _ 0 _ _ _ _ _ (.inl hj)]

theorem thirds_v_other (A : AS Ideal) (pi : ℕ) (hpi : pi + 1 ≤ 96) (ρ ρ' : Fin 4) (j j' : Fin 8) (hj : ρ' ≠ ρ ∨ j' ≠ j) (idx : IVec S8x128 32) (acc : Acc6) (w : Fin 24) (l : Fin 128) :
    (A.thirds pi hpi ρ.val j idx acc).vscr (ix4 ρ' j' w l) = A.vscr (ix4 ρ' j' w l) := by
  unfold AS.thirds
  have h (r : Fin 3) : ρ' ≠ ρ ∨ j' ≠ j ∨ w.val / 8 ≠ r.val := hj.imp_right .inl
  rw [third_v_other _ _ _ _ _ _ _ 2 _ _ _ _ _ (h _), third_v_other _ _ _ _ _ _ _ 1 _ _ _ _ _ (h _), third_v_other _ _ _ _ _ _ _ 0 _ _ _ _ _ (h _)]

/-- What a row's gathered tile holds at a slot. -/
def TileHas (D : Src) (acc : Acc6) (p row : ℕ) (l : Fin 128) : Prop :=
  ∀ (r : Fin 3) (a : Fin 8) (b : ℕ) (hb : b < 32),
    (acc.kf r (ix2 a l)).getLsbD b = (D.kc p row l ⟨32 * r.val + (4 * a.val + b / 8), by omega⟩).getLsbD (b % 8) ∧
    (acc.vf r (ix2 a l)).getLsbD b = (D.vc p row l ⟨32 * r.val + (4 * a.val + b / 8), by omega⟩).getLsbD (b % 8)

theorem tok_eq {tile a : BitVec 32} {n : Fin 16} (ha : a.toNat ≤ 240) (h : tile - a = BitVec.ofNat 32 n.val) : tile.toNat = a.toNat + n.val := by
  have e : tile = BitVec.ofNat 32 n.val + a := by rw [← h, BitVec.sub_add_cancel]
  have hn := n.isLt
  rw [e, BitVec.toNat_add, BitVec.toNat_ofNat]
  omega

theorem tile_has {kb vb : Vec Ideal S4x96x32768 .i8} {p row sl : ℕ} {hsl : sl + 1 ≤ 4} {a : BitVec 32} (ha : a.toNat ≤ 240) (hc : ∀ i : Fin 16, colOf a (BitVec.ofNat 32 i.val) + 128 ≤ 32768)
    (hk : ∀ x ∈ kSet sl, kb x = kImg D.kt p x) (hv : ∀ x ∈ kSet sl, vb x = kImg D.vt p x) {code : IVec S8x128 32} {l : Fin 128}
    (ec : ∀ i : Fin 8, code (ix2 i l) = D.code p row l) (n : Fin 16) (hn : (D.code p row l &&& 511#32) - a = BitVec.ofNat 32 n.val) :
    TileHas D (tilesF (F := Ideal) kb vb sl hsl a hc (relOf code a)) p row l := by
  intro r i b hb
  have hs := tilesF_at (kb := kb) (vb := vb) (hsl := hsl) hc (rel := relOf code a) (j := ix2 i l) n (by rw [relOf_at, ec]; exact hn) r
  rw [hs.1, hs.2]
  have et := tok_eq ha hn
  have hl := l.isLt
  have hn' := n.isLt
  have ek (o : ℕ) (ho : o + 32 ≤ 96) (x : Fin 32) (y : Fin 96) (hy : y.val = o + x.val) (z : Vec Ideal S4x96x32768 .i8) (zt : Vec Ideal S12x8x96x32768 .i8) (hz : ∀ x ∈ kSet sl, z x = kImg zt p x) (inb) :
      (window z ![sl, o, colOf a (BitVec.ofNat 32 n.val)] S1x32x128.size inb (ix3 (0 : Fin 1) x l) : BitVec 8) = zt (kIx p y (D.tok p row l)) := by
    have hcol := col_eq a ha n
    rw [window_at z ![sl, o, colOf a (BitVec.ofNat 32 n.val)] S1x32x128.size inb (ix3 (0 : Fin 1) x l) (ix3 (⟨sl, by omega⟩ : Fin 4) y (⟨128 * (a.toNat + n.val) + l.val, by omega⟩ : Fin 32768)) (all3 rfl hy (by show 128 * (a.toNat + n.val) + l.val = colOf a (BitVec.ofNat 32 n.val) + l.val; rw [hcol]))]
    rw [hz _ (mem_k _ rfl)]
    show zt (ValueIdx.ix4 (⟨p / 8 % 12, Nat.mod_lt _ (by decide)⟩ : Fin 12) (⟨p % 8, Nat.mod_lt _ (by decide)⟩ : Fin 8) y (⟨128 * (a.toNat + n.val) + l.val, by omega⟩ : Fin 32768)) = _
    rw [← ix4_eq_valueIdx]
    refine congrArg zt (congrArg (ix4 _ _ y) (Fin.ext ?_))
    show 128 * (a.toNat + n.val) + l.val = D.tok p row l % 32768
    unfold Src.tok
    rw [et]; omega
  match r with
  | ⟨0, _⟩ =>
    refine ⟨(pk_at _ i l b hb).trans ?_, (pk_at _ i l b hb).trans ?_⟩
    · exact congrArg (fun z : BitVec 8 => z.getLsbD (b % 8)) (ek 0 (by decide) _ _ rfl kb D.kt hk _)
    · exact congrArg (fun z : BitVec 8 => z.getLsbD (b % 8)) (ek 0 (by decide) _ _ rfl vb D.vt hv _)
  | ⟨1, _⟩ =>
    refine ⟨(pk_at _ i l b hb).trans ?_, (pk_at _ i l b hb).trans ?_⟩
    · exact congrArg (fun z : BitVec 8 => z.getLsbD (b % 8)) (ek 32 (by decide) _ _ rfl kb D.kt hk _)
    · exact congrArg (fun z : BitVec 8 => z.getLsbD (b % 8)) (ek 32 (by decide) _ _ rfl vb D.vt hv _)
  | ⟨2, _⟩ =>
    refine ⟨(pk_at _ i l b hb).trans ?_, (pk_at _ i l b hb).trans ?_⟩
    · exact congrArg (fun z : BitVec 8 => z.getLsbD (b % 8)) (ek 64 (by decide) _ _ rfl kb D.kt hk _)
    · exact congrArg (fun z : BitVec 8 => z.getLsbD (b % 8)) (ek 64 (by decide) _ _ rfl vb D.vt hv _)

theorem thirds_key (A : AS Ideal) (ek : A.ksel = D.ksel) {p : ℕ} (hp : p < 96) (hpi : p + 1 ≤ 96) (ro : ℕ) (j : Fin 8) {row : ℕ} {idx : IVec S8x128 32} {acc : Acc6} (d : Fin 96) (l : Fin 128)
    (hi : ∀ a : Fin 8, idx (ix2 a l) = D.clus p row l) (hclus : (D.clus p row l).toNat < 128) (hT : TileHas D acc p row l) :
    (A.thirds p hpi ro j idx acc).kscr (ix3 (jh j) d (jl j l)) = D.key p row l d := by
  have hd := d.isLt
  rw [thirds_k A p hpi ro j idx acc d l ⟨d.val / 32, by omega⟩ rfl]
  have hx (i : Fin 8) (c : Fin 128) (inb) : window A.ksel ![p, 16 * (d.val / 32), 0] S1x8x128.size inb (ix3 (0 : Fin 1) i c) = D.ksel (ix3 (pq p) (⟨16 * (d.val / 32) + i.val, by omega⟩ : Fin 48) c) := by
    rw [← ek]
    exact window_at A.ksel ![p, 16 * (d.val / 32), 0] S1x8x128.size inb _ _ (all3 (by show p % 96 = p + 0; omega) rfl (by show c.val = 0 + c.val; omega))
  have hy (i : Fin 8) (c : Fin 128) (inb) : window A.ksel ![p, 16 * (d.val / 32) + 8, 0] S1x8x128.size inb (ix3 (0 : Fin 1) i c) = D.ksel (ix3 (pq p) (⟨16 * (d.val / 32) + 8 + i.val, by omega⟩ : Fin 48) c) := by
    rw [← ek]
    exact window_at A.ksel ![p, 16 * (d.val / 32) + 8, 0] S1x8x128.size inb _ _ (all3 (by show p % 96 = p + 0; omega) rfl (by show c.val = 0 + c.val; omega))
  have hx' := fun i c => hx i c (inb3 hpi (by omega) (by decide))
  have hy' := fun i c => hy i c (inb3 hpi (by omega) (by decide))
  clear hx hy
  dsimp only at hx' hy' ⊢
  generalize window A.ksel ![p, 16 * (d.val / 32), 0] S1x8x128.size _ = X at hx' ⊢
  generalize window A.ksel ![p, 16 * (d.val / 32) + 8, 0] S1x8x128.size _ = Y at hy' ⊢
  have hk := keys_at idx (acc.kf ⟨d.val / 32, by omega⟩) X Y (fun x => D.kc p row l ⟨32 * (d.val / 32) + x.val, by omega⟩) (⟨d.val % 32, Nat.mod_lt _ (by decide)⟩ : Fin 32) l (⟨(D.clus p row l).toNat % 128, Nat.mod_lt _ (by decide)⟩ : Fin 128)
    (fun a => by rw [hi a]; exact BitVec.eq_of_toNat_eq (by rw [BitVec.toNat_ofNat]; show _ = (D.clus p row l).toNat % 128 % 2 ^ 32; omega)) (fun a b hb => (hT ⟨d.val / 32, by omega⟩ a b hb).1)
  refine hk.trans ?_
  clear hk
  unfold Src.key Src.scale
  refine congrArg₂ (· * ·) (congrArg (fun z => (((D.kc p row l z).toInt : ℝ) : EReal)) (Fin.ext (by show 32 * (d.val / 32) + d.val % 32 = d.val; omega))) ?_
  have e2 : d.val % 32 % 2 = d.val % 2 := by omega
  dsimp only
  rw [e2]
  refine congrArg (fun z : BitVec 32 => Ideal.ofBits .bf16 (z.extractLsb' (d.val % 2 * 16) 16)) ?_
  split
  · next h =>
    rw [hx']
    exact congrArg (fun z => D.ksel (ix3 (pq p) z _)) (Fin.ext (by show 16 * (d.val / 32) + d.val % 32 / 2 = d.val / 2; omega))
  · next h =>
    rw [hy']
    exact congrArg (fun z => D.ksel (ix3 (pq p) z _)) (Fin.ext (by show 16 * (d.val / 32) + 8 + (d.val % 32 - 16) / 2 = d.val / 2; omega))

theorem thirds_val (A : AS Ideal) {p : ℕ} (hpi : p + 1 ≤ 96) (ρ : Fin 4) (j : Fin 8) {row : ℕ} {idx : IVec S8x128 32} {acc : Acc6} (w : Fin 24) (l : Fin 128) (hT : TileHas D acc p row l) (b : ℕ) (hb : b < 32) :
    ((A.thirds p hpi ρ.val j idx acc).vscr (ix4 ρ j w l) : BitVec 32).getLsbD b = (D.vc p row l ⟨4 * w.val + b / 8, by omega⟩).getLsbD (b % 8) := by
  have hw := w.isLt
  rw [thirds_v A p hpi ρ j idx acc w l ⟨w.val / 8, by omega⟩ rfl]
  refine (hT ⟨w.val / 8, by omega⟩ ⟨w.val % 8, by omega⟩ b hb).2.trans (congrArg (fun z => (D.vc p row l z).getLsbD (b % 8)) (Fin.ext ?_))
  show 32 * (w.val / 8) + (4 * (w.val % 8) + b / 8) = 4 * w.val + b / 8
  omega

end Cert.Attend

end
-- ==== Proof.StepV.lean ====
/-
  The three steps on the buffers of scores, weights and running sums.
-/
module

public import proofs.«01_k».proof.Proof.Sem

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

variable {D : Src}

theorem pr_val {q : ℕ} (h : q < 97) : (pr q).val = q := Nat.mod_eq_of_lt h

/-! ## The weighted sums -/

theorem vHalf_at {x : Vec Ideal S4x8x24x128 .i32} {ρ : Fin 4} {q n : ℕ} (hV : HasV D x ρ q n) (hro : ρ.val + 1 ≤ 4) (j : Fin 8) (d : Fin 96) (l : Fin 128)
    (hl : D.live q (8 * n + j.val) l) : vHalf (F := Ideal) x ρ.val hro j (ix2 d l) = D.v q d (8 * n + j.val) l := by
  have hr := ρ.isLt
  unfold vHalf
  refine vcat_at _ _ _ (D.vc q (8 * n + j.val) l) l (fun w i hi => ?_) (fun w i hi => ?_) (fun w i hi => ?_) d
  · rw [window_at x _ _ _ _ (ix4 ρ j (⟨w.val, by omega⟩ : Fin 24) l) (all4 rfl rfl (by show w.val = 0 + w.val; omega) (by show l.val = 0 + l.val; omega))]
    exact hV j ⟨w.val, by omega⟩ l hl i hi
  · rw [window_at x _ _ _ _ (ix4 ρ j (⟨8 + w.val, by omega⟩ : Fin 24) l) (all4 rfl rfl rfl (by show l.val = 0 + l.val; omega))]
    refine (hV j ⟨8 + w.val, by omega⟩ l hl i hi).trans (congrArg (fun z => (D.vc q (8 * n + j.val) l z).getLsbD (i % 8)) (Fin.ext ?_))
    show 4 * (8 + w.val) + i / 8 = 32 + (4 * w.val + i / 8); omega
  · rw [window_at x _ _ _ _ (ix4 ρ j (⟨16 + w.val, by omega⟩ : Fin 24) l) (all4 rfl rfl rfl (by show l.val = 0 + l.val; omega))]
    refine (hV j ⟨16 + w.val, by omega⟩ l hl i hi).trans (congrArg (fun z => (D.vc q (8 * n + j.val) l z).getLsbD (i % 8)) (Fin.ext ?_))
    show 4 * (16 + w.val) + i / 8 = 64 + (4 * w.val + i / 8); omega

theorem half_term {x : Vec Ideal S4x8x24x128 .i32} {p : Vec Ideal S4x8x256 .bf16} {ρ : Fin 4} {q n : ℕ} (hV : HasV D x ρ q n) (hP : HasP D p q n) (hro : ρ.val + 1 ≤ 4)
    (h : Fin 4) (j : Fin 8) (hj : h.val = j.val / 2) (l : Fin 128) (c : Fin 256) (hc : c.val = j.val % 2 * 128 + l.val) (r : Fin 8) (d : Fin 96) (inb) :
    window p ![h.val, 0, 0] S1x8x256.size inb (ix3 0 r c) * vHalf (F := Ideal) x ρ.val hro j (ix2 d l)
      = Ideal.exp (D.sc q r (8 * n + j.val) l - D.M q r (n + 1)) * D.vs q (8 * n + j.val) l * D.v q d (8 * n + j.val) l := by
  have e : window p ![h.val, 0, 0] S1x8x256.size inb (ix3 0 r c) = Ideal.exp (D.sc q r (8 * n + j.val) l - D.M q r (n + 1)) * D.vs q (8 * n + j.val) l :=
    (window_at p _ _ inb _ (ix3 (jh j) r (jl j l)) (all3 (by show j.val / 2 = h.val + 0; omega) (by show r.val = 0 + r.val; omega) (by show j.val % 2 * 128 + l.val = 0 + c.val; omega))).trans (hP j r l)
  rw [e]
  by_cases hl : D.live q (8 * n + j.val) l
  · rw [vHalf_at hV hro j d l hl]
  · have : D.sc q r (8 * n + j.val) l = ⊥ := if_neg hl
    rw [this, bot_sub', Ideal.exp_bot, zero_mul, zero_mul, zero_mul]

/-- One row's part of a weighted sum. -/
def term (D : Src) (q n : ℕ) (r : Fin 8) (d : Fin 96) (j : Fin 8) : EReal :=
  ∑ l, Ideal.exp (D.sc q r (8 * n + j.val) l - D.M q r (n + 1)) * D.vs q (8 * n + j.val) l * D.v q d (8 * n + j.val) l

theorem vStep_at {x : Vec Ideal S4x8x24x128 .i32} {p : Vec Ideal S4x8x256 .bf16} {ρ : Fin 4} {q n : ℕ} (hV : HasV D x ρ q n) (hP : HasP D p q n) (hro : ρ.val + 1 ≤ 4)
    (h : Fin 4) (acc : FVec Ideal S8x96 .f32) (r : Fin 8) (d : Fin 96) :
    vStep x p ρ.val hro h acc (ix2 r d) = acc (ix2 r d) + (term D q n r d ⟨2 * h.val, by omega⟩ + term D q n r d ⟨2 * h.val + 1, by omega⟩) := by
  unfold vStep
  rw [vadd_at]
  congr 2
  · exact Finset.sum_congr rfl fun l _ => half_term hV hP hro h _ (by show h.val = 2 * h.val / 2; omega) l _ (by show l.val = 2 * h.val % 2 * 128 + l.val; omega) r d _
  · exact Finset.sum_congr rfl fun l _ => half_term hV hP hro h _ (by show h.val = (2 * h.val + 1) / 2; omega) l _ (by show 128 + l.val = (2 * h.val + 1) % 2 * 128 + l.val; omega) r d _

theorem values_O {A : AS Ideal} {ρ : Fin 4} {q n : ℕ} (hq : q < 97) (hpo : q + 1 ≤ 97) (hro : ρ.val + 1 ≤ 4) (hV : HasV D A.vscr ρ q n) (hP : HasP D A.pscr q n)
    (hA : HasA D A.ascr q n) (hO : RowO D A.ost q n) : RowO D (A.values q ρ.val hpo hro).ost q (n + 1) := by
  intro r d
  refine (put_at3 (0 : Fin 1) r d ?_).trans ?_
  · exact all3 (by show (pr q).val = q + 0; rw [pr_val hq]; rfl) (by show r.val = 0 + r.val; omega) (by show d.val = 0 + d.val; omega)
  unfold oNew
  rw [vend_at, vStep_at hV hP, vStep_at hV hP, vStep_at hV hP, vStep_at hV hP, vstart_at,
    window_at A.ost _ _ _ _ (ix3 (pr q) r d) (all3 (by show (pr q).val = q + 0; rw [pr_val hq]; rfl) (by show r.val = 0 + r.val; omega) (by show d.val = 0 + d.val; omega)),
    window_at A.ascr _ _ _ _ (ix2 r (⟨d.val, by omega⟩ : Fin 128)) (all2 (by show r.val = 0 + r.val; omega) (by show d.val = 0 + d.val; omega)), hO r d, hA r _]
  have e : D.O q r d (n + 1) = D.O q r d n * Ideal.exp (D.M q r n - D.M q r (n + 1)) + ∑ j : Fin 8, term D q n r d j := rfl
  rw [e, Fin.sum_univ_eight]
  simp only [add_assoc]
  rfl

theorem values_other {A : AS Ideal} {ρ q q' n : ℕ} (hq' : q' < 97) (hne : q' ≠ q) (hpo : q + 1 ≤ 97) (hro : ρ + 1 ≤ 4) (hO : RowO D A.ost q' n) : RowO D (A.values q ρ hpo hro).ost q' n := by
  intro r d
  refine (put_off _ _ _ _ _ (0 : Fin 3) ?_).trans (hO r d)
  show (pr q').val < q ∨ q + 1 ≤ (pr q').val
  rw [pr_val hq']; omega

/-! ## The softmax step -/

theorem sRow_at (s : Vec Ideal S8x8x128 .f32) (j r : Fin 8) (l : Fin 128) : sRow (F := Ideal) s j (ix2 r l) = s (ix3 j r l) := by
  unfold sRow
  rw [s8_at]
  exact window_at s _ _ _ _ _ (all3 rfl (by show r.val = 0 + r.val; omega) (by show l.val = 0 + l.val; omega))

theorem stRow_at (x : Vec Ideal S97x8x128 .f32) {q : ℕ} (hq : q < 97) (hpo : q + 1 ≤ 97) (r : Fin 8) (l : Fin 128) : stRow (F := Ideal) x q hpo (ix2 r l) = x (ix3 (pr q) r l) := by
  unfold stRow
  rw [s8_at]
  exact window_at x _ _ _ _ _ (all3 (by show (pr q).val = q + 0; rw [pr_val hq]; rfl) (by show r.val = 0 + r.val; omega) (by show l.val = 0 + l.val; omega))

theorem mNew_at {s : Vec Ideal S8x8x128 .f32} {mo : FVec Ideal S8x128 .f32} {q n : ℕ} (hS : HasS D s q n) (hM : ∀ r l, mo (ix2 r l) = D.M q r n) (r : Fin 8) (l : Fin 128) :
    mNew (F := Ideal) s mo (ix2 r l) = D.M q r (n + 1) := by
  unfold mNew
  rw [smax_at, hM]
  simp only [sRow_at, hS _ r _]
  rfl

theorem pPut_at (vs : Vec Ideal S4x8x128 .f32) (ρ : Fin 4) (hro : ρ.val + 1 ≤ 4) (j j' : Fin 8) (e : FVec Ideal S8x128 .f32) (p : Vec Ideal S4x8x256 .bf16) (r : Fin 8) (l : Fin 128) :
    pPut vs ρ.val hro j e p (ix3 (jh j') r (jl j' l)) = if j' = j then e (ix2 r l) * vs (ix3 ρ j l) else p (ix3 (jh j') r (jl j' l)) := by
  unfold pPut
  split
  · next h =>
    subst h
    refine (put_at3 (0 : Fin 1) r l ?_).trans ?_
    · exact all3 rfl (by show r.val = 0 + r.val; omega) rfl
    rw [sprod_at]
    rw [window_at vs _ _ _ _ (ix3 ρ j' l) (all3 rfl rfl (by show l.val = 0 + l.val; omega))]
  · next h =>
    have hn : j'.val ≠ j.val := fun e => h (Fin.ext e)
    by_cases h2 : j'.val / 2 = j.val / 2
    · refine put_off _ _ _ _ _ (2 : Fin 3) ?_
      have := l.isLt
      show j'.val % 2 * 128 + l.val < j.val % 2 * 128 ∨ j.val % 2 * 128 + 128 ≤ j'.val % 2 * 128 + l.val
      omega
    · refine put_off _ _ _ _ _ (0 : Fin 3) ?_
      show j'.val / 2 < j.val / 2 ∨ j.val / 2 + 1 ≤ j'.val / 2
      omega

theorem pNew_at (s : Vec Ideal S8x8x128 .f32) (vs : Vec Ideal S4x8x128 .f32) (ρ : Fin 4) (hro : ρ.val + 1 ≤ 4) (m : FVec Ideal S8x128 .f32) (p : Vec Ideal S4x8x256 .bf16) (j r : Fin 8) (l : Fin 128) :
    pNew (F := Ideal) s vs ρ.val hro m p (ix3 (jh j) r (jl j l)) = Ideal.exp (s (ix3 j r l) - m (ix2 r l)) * vs (ix3 ρ j l) := by
  unfold pNew
  simp only [pPut_at, sexp_at, sRow_at]
  split_ifs with h7 h6 h5 h4 h3 h2 h1 h0
  · rw [h7]
  · rw [h6]
  · rw [h5]
  · rw [h4]
  · rw [h3]
  · rw [h2]
  · rw [h1]
  · rw [h0]
  · exfalso
    have hj := j.isLt
    have n7 : j.val ≠ 7 := fun e => h7 (Fin.ext e)
    have n6 : j.val ≠ 6 := fun e => h6 (Fin.ext e)
    have n5 : j.val ≠ 5 := fun e => h5 (Fin.ext e)
    have n4 : j.val ≠ 4 := fun e => h4 (Fin.ext e)
    have n3 : j.val ≠ 3 := fun e => h3 (Fin.ext e)
    have n2 : j.val ≠ 2 := fun e => h2 (Fin.ext e)
    have n1 : j.val ≠ 1 := fun e => h1 (Fin.ext e)
    have n0 : j.val ≠ 0 := fun e => h0 (Fin.ext e)
    omega

theorem lNew_at (s : Vec Ideal S8x8x128 .f32) (lo mo m : FVec Ideal S8x128 .f32) (r : Fin 8) (l : Fin 128) :
    lNew (F := Ideal) s lo mo m (ix2 r l) = lo (ix2 r l) * Ideal.exp (mo (ix2 r l) - m (ix2 r l)) + ∑ j : Fin 8, Ideal.exp (s (ix3 j r l) - m (ix2 r l)) := by
  have e : lNew (F := Ideal) s lo mo m (ix2 r l) = lo (ix2 r l) * sexp mo m (ix2 r l) + sexp (sRow s 0) m (ix2 r l) + sexp (sRow s 1) m (ix2 r l) + sexp (sRow s 2) m (ix2 r l) + sexp (sRow s 3) m (ix2 r l)
      + sexp (sRow s 4) m (ix2 r l) + sexp (sRow s 5) m (ix2 r l) + sexp (sRow s 6) m (ix2 r l) + sexp (sRow s 7) m (ix2 r l) := rfl
  rw [e]
  simp only [sexp_at, sRow_at, Fin.sum_univ_eight, add_assoc]

theorem softmax_ok {A : AS Ideal} {ρ : Fin 4} {q n : ℕ} (hq : q < 97) (hpo : q + 1 ≤ 97) (hro : ρ.val + 1 ≤ 4) (hS : HasS D A.sscr q n) (hVS : HasVS D A.vsscr ρ q n)
    (hM : RowM D A.mst q n) (hL : RowL D A.lst q n) :
    HasP D (A.softmax q ρ.val hpo hro).pscr q n ∧ HasA D (A.softmax q ρ.val hpo hro).ascr q n ∧ RowM D (A.softmax q ρ.val hpo hro).mst q (n + 1) ∧ RowL D (A.softmax q ρ.val hpo hro).lst q (n + 1) := by
  have em : ∀ r l, mNew (F := Ideal) A.sscr (stRow A.mst q hpo) (ix2 r l) = D.M q r (n + 1) := mNew_at hS fun r l => (stRow_at A.mst hq hpo r l).trans (hM r l)
  refine ⟨fun j r l => ?_, fun r l => ?_, fun r l => ?_, fun r l => ?_⟩
  · refine (pNew_at A.sscr A.vsscr ρ hro _ A.pscr j r l).trans ?_
    rw [em, hS j r l, hVS j l]
  · refine (put_at _ _ _ _ _ (ix2 r l) ?_).trans ?_
    · exact all2 (by show r.val = 0 + r.val; omega) (by show l.val = 0 + l.val; omega)
    have e : (shapeCast S8x128 (sexp (stRow A.mst q hpo) (mNew (F := Ideal) A.sscr (stRow A.mst q hpo))) shapeCasts_S8x128_S8x128 : FVec Ideal S8x128 .f32) (ix2 r l)
        = sexp (stRow A.mst q hpo) (mNew (F := Ideal) A.sscr (stRow A.mst q hpo)) (ix2 r l) := by
      generalize sexp (stRow A.mst q hpo) (mNew (F := Ideal) A.sscr (stRow A.mst q hpo)) = z
      pointwise
    refine e.trans ?_
    rw [sexp_at, em, stRow_at _ hq, hM r l]
  · refine (put_at3 (0 : Fin 1) r l ?_).trans ?_
    · exact all3 (by show (pr q).val = q + 0; rw [pr_val hq]; rfl) (by show r.val = 0 + r.val; omega) (by show l.val = 0 + l.val; omega)
    rw [t8_at, em]
  · refine (put_at3 (0 : Fin 1) r l ?_).trans ?_
    · exact all3 (by show (pr q).val = q + 0; rw [pr_val hq]; rfl) (by show r.val = 0 + r.val; omega) (by show l.val = 0 + l.val; omega)
    rw [t8_at, lNew_at, em, stRow_at _ hq, stRow_at _ hq, hM r l, hL r l]
    simp only [hS _ r l]
    rfl

theorem softmax_other {A : AS Ideal} {ρ q q' n : ℕ} (hq' : q' < 97) (hne : q' ≠ q) (hpo : q + 1 ≤ 97) (hro : ρ + 1 ≤ 4) :
    (RowM D A.mst q' n → RowM D (A.softmax q ρ hpo hro).mst q' n) ∧ (RowL D A.lst q' n → RowL D (A.softmax q ρ hpo hro).lst q' n) := by
  refine ⟨fun h r d => (put_off _ _ _ _ _ (0 : Fin 3) ?_).trans (h r d), fun h r d => (put_off _ _ _ _ _ (0 : Fin 3) ?_).trans (h r d)⟩ <;>
  · show (pr q').val < q ∨ q + 1 ≤ (pr q').val
    rw [pr_val hq']; omega

/-! ## The scores -/

theorem cast_q (z : FVec Ideal S1x8x96 .bf16) (r : Fin 8) (d : Fin 96) : shapeCast S8x96 z shapeCasts_S1x8x96_S8x96 (ix2 r d) = z (ix3 0 r d) := by
  pointwise

theorem qRow_at (x : Vec Ideal S96x8x96 .bf16) {q : ℕ} (hq : q < 96) (hqo : q + 1 ≤ 96) (r : Fin 8) (d : Fin 96) : qRow (F := Ideal) x q hqo (ix2 r d) = x (ix3 (pq q) r d) := by
  have e : qRow (F := Ideal) x q hqo (ix2 r d) = window x ![q, 0, 0] S1x8x96.size (inb3 hqo (by decide) (by decide)) (ix3 0 r d) := by
    unfold qRow
    exact cast_q _ r d
  rw [e]
  exact window_at x _ _ _ _ _ (all3 (by show q % 96 = q + 0; omega) (by show r.val = 0 + r.val; omega) (by show d.val = 0 + d.val; omega))

theorem sPut_at (cs : Vec Ideal S4x8x128 .i32) (ρ : Fin 4) (hro : ρ.val + 1 ≤ 4) (j j' : Fin 8) (x : FVec Ideal S8x128 .f32) (s : Vec Ideal S8x8x128 .f32) (r : Fin 8) (l : Fin 128) :
    sPut (F := Ideal) cs ρ.val hro j x s (ix3 j' r l) = if j' = j then (if (cs (ix3 ρ j l) : BitVec 32) &&& 511#32 ≠ 511#32 then x (ix2 r l) else ⊥) else s (ix3 j' r l) := by
  unfold sPut
  split
  · next h =>
    subst h
    refine (put_at3 (0 : Fin 1) r l ?_).trans ?_
    · exact all3 rfl (by show r.val = 0 + r.val; omega) (by show l.val = 0 + l.val; omega)
    rw [masked_at]
    rw [window_at cs _ _ _ _ (ix3 ρ j' l) (all3 rfl rfl (by show l.val = 0 + l.val; omega))]
  · next h =>
    have hn : j'.val ≠ j.val := fun e => h (Fin.ext e)
    refine put_off _ _ _ _ _ (0 : Fin 3) ?_
    show j'.val < j.val ∨ j.val + 1 ≤ j'.val
    omega

theorem kDot_at (kk : Vec Ideal S4x96x256 .bf16) (q : FVec Ideal S8x96 .bf16) (h : Fin 4) (r : Fin 8) (c : Fin 256) :
    kDot (F := Ideal) kk q h (ix2 r c) = (∑ d : Fin 96, q (ix2 r d) * kk (ix3 h d c)) * scl := by
  unfold kDot
  rw [kdot_at]
  refine congrArg (· * scl) (Finset.sum_congr rfl fun d _ => congrArg (q (ix2 r d) * ·) ?_)
  exact window_at kk _ _ _ _ _ (all3 rfl (by show d.val = 0 + d.val; omega) (by show c.val = 0 + c.val; omega))

theorem sPut2_at (kk : Vec Ideal S4x96x256 .bf16) (cs : Vec Ideal S4x8x128 .i32) (ρ : Fin 4) (hro : ρ.val + 1 ≤ 4) (q : FVec Ideal S8x96 .bf16) (h : Fin 4) (s : Vec Ideal S8x8x128 .f32) (j r : Fin 8) (l : Fin 128) :
    sPut2 (F := Ideal) kk cs ρ.val hro q h s (ix3 j r l) = if j.val / 2 = h.val then (if (cs (ix3 ρ j l) : BitVec 32) &&& 511#32 ≠ 511#32 then (∑ d : Fin 96, q (ix2 r d) * kk (ix3 (jh j) d (jl j l))) * scl else ⊥) else s (ix3 j r l) := by
  have e0 : extractStridedSlice S8x128 ![0, 0] (kDot (F := Ideal) kk q h) slices_S8x256_o0_0_S8x128 (ix2 r l) = kDot kk q h (ix2 r (⟨l.val, by omega⟩ : Fin 256)) := by
    generalize kDot (F := Ideal) kk q h = z
    pointwise
  have e1 : extractStridedSlice S8x128 ![0, 128] (kDot (F := Ideal) kk q h) slices_S8x256_o0_128_S8x128 (ix2 r l) = kDot kk q h (ix2 r (⟨128 + l.val, by omega⟩ : Fin 256)) := by
    generalize kDot (F := Ideal) kk q h = z
    pointwise
  have hh := h.isLt
  unfold sPut2
  rw [sPut_at, sPut_at, e0, e1, kDot_at, kDot_at]
  by_cases hj1 : j.val = 2 * h.val + 1
  · have ej : j = ⟨2 * h.val + 1, by omega⟩ := Fin.ext hj1
    have eh : h = jh j := Fin.ext (by show h.val = j.val / 2; omega)
    have ec : ∀ c : Fin 256, c.val = 128 + l.val → c = jl j l := fun c hc => Fin.ext (by show c.val = j.val % 2 * 128 + l.val; omega)
    rw [if_pos ej, if_pos (show j.val / 2 = h.val by omega), ← ej, ec ⟨128 + l.val, by omega⟩ rfl, ← eh]
  · have ej : ¬ j = ⟨2 * h.val + 1, by omega⟩ := fun e => hj1 (congrArg Fin.val e)
    rw [if_neg ej]
    by_cases hj0 : j.val = 2 * h.val
    · have ej : j = ⟨2 * h.val, by omega⟩ := Fin.ext hj0
      have eh : h = jh j := Fin.ext (by show h.val = j.val / 2; omega)
      have ec : ∀ c : Fin 256, c.val = l.val → c = jl j l := fun c hc => Fin.ext (by show c.val = j.val % 2 * 128 + l.val; omega)
      rw [if_pos ej, if_pos (show j.val / 2 = h.val by omega), ← ej, ec ⟨l.val, by omega⟩ rfl, ← eh]
    · have ej : ¬ j = ⟨2 * h.val, by omega⟩ := fun e => hj0 (congrArg Fin.val e)
      rw [if_neg ej, if_neg (show ¬ j.val / 2 = h.val by omega)]

theorem scores_ok {A : AS Ideal} {ρ : Fin 4} {q n : ℕ} (hq : q < 96) (hqo : q + 1 ≤ 96) (hro : ρ.val + 1 ≤ 4) (eq : A.q = D.q) (hK : HasK D A.kscr q n) (hC : HasC D A.cscr ρ q n) :
    HasS D (A.scores q ρ.val hqo hro).sscr q n := by
  intro j r l
  have hv : (if (A.cscr (ix3 ρ j l) : BitVec 32) &&& 511#32 ≠ 511#32 then (∑ d : Fin 96, qRow (F := Ideal) A.q q hqo (ix2 r d) * A.kscr (ix3 (jh j) d (jl j l))) * scl else ⊥) = D.sc q r (8 * n + j.val) l := by
    rw [hC j l]
    unfold Src.sc
    by_cases hl : D.live q (8 * n + j.val) l
    · refine (if_pos hl).trans (Eq.trans ?_ (if_pos hl).symm)
      refine congrArg (· * scl) (Finset.sum_congr rfl fun d _ => ?_)
      rw [qRow_at _ hq, eq, hK j d l hl]
    · exact (if_neg hl).trans (if_neg hl).symm
  have e : (A.scores q ρ.val hqo hro).sscr (ix3 j r l) = (sPut2 A.kscr A.cscr ρ.val hro (qRow A.q q hqo) 3 (sPut2 A.kscr A.cscr ρ.val hro (qRow A.q q hqo) 2 (sPut2 A.kscr A.cscr ρ.val hro (qRow A.q q hqo) 1 (sPut2 A.kscr A.cscr ρ.val hro (qRow A.q q hqo) 0 A.sscr)))) (ix3 j r l) := rfl
  rw [e, sPut2_at, sPut2_at, sPut2_at, sPut2_at, hv]
  have hj := j.isLt
  by_cases h3 : j.val / 2 = 3
  · exact if_pos h3
  rw [if_neg (show ¬ j.val / 2 = (3 : Fin 4).val from h3)]
  by_cases h2 : j.val / 2 = 2
  · exact if_pos h2
  rw [if_neg (show ¬ j.val / 2 = (2 : Fin 4).val from h2)]
  by_cases h1 : j.val / 2 = 1
  · exact if_pos h1
  rw [if_neg (show ¬ j.val / 2 = (1 : Fin 4).val from h1)]
  exact if_pos (show j.val / 2 = 0 by omega)

/-! ## The start and the divisions -/

theorem fin_out {A : AS Ideal} {q n : ℕ} (hq : q < 96) (hpo : q + 1 ≤ 96) (hL : RowL D A.lst q n) (hO : RowO D A.ost q n) (r : Fin 8) (d : Fin 96) :
    (A.fin q hpo).out (ix3 (pq q) r d) = Ideal.div (D.O q r d n) (∑ l, D.L q r l n) := by
  refine (put_at3 (0 : Fin 1) r d ?_).trans ?_
  · exact all3 (by show q % 96 = q + 0; omega) (by show r.val = 0 + r.val; omega) (by show d.val = 0 + d.val; omega)
  rw [fin_at]
  have eo := (window_at A.ost ![q, 0, 0] S1x8x96.size (inb3 (by omega) (by decide) (by decide)) (ix3 (0 : Fin 1) r d) (ix3 (pr q) r d) (all3 (by show q % 97 = q + 0; omega) (by show r.val = 0 + r.val; omega) (by show d.val = 0 + d.val; omega))).trans (hO r d)
  have el := fun l : Fin 128 => (window_at A.lst ![q, 0, 0] S1x8x128.size (inb3 (by omega) (by decide) (by decide)) (ix3 (0 : Fin 1) r l) (ix3 (pr q) r l) (all3 (by show q % 97 = q + 0; omega) (by show r.val = 0 + r.val; omega) (by show l.val = 0 + l.val; omega))).trans (hL r l)
  exact congrArg₂ Ideal.div eo (Finset.sum_congr rfl fun l _ => el l)

theorem fin_other {A : AS Ideal} {q q' : ℕ} (hq' : q' < 96) (hne : q' ≠ q) (hpo : q + 1 ≤ 96) (r : Fin 8) (d : Fin 96) :
    (A.fin q hpo).out (ix3 (pq q') r d) = A.out (ix3 (pq q') r d) := by
  refine put_off _ _ _ _ _ (0 : Fin 3) ?_
  show q' % 96 < q ∨ q + 1 ≤ q' % 96
  omega

theorem init_ok {A : AS Ideal} (hD : D.Good) (em : A.m0 = D.m0) (el : A.l0 = D.l0) (eo : A.o0 = D.o0) {q : ℕ} (hq : q < 96) :
    RowM D A.init.mst q 0 ∧ RowL D A.init.lst q 0 ∧ RowO D A.init.ost q 0 := by
  refine ⟨fun r l => ?_, fun r l => ?_, fun r d => ?_⟩
  · refine (put_off _ _ _ _ _ (0 : Fin 3) (by show q % 97 < 96 ∨ 96 + 1 ≤ q % 97; omega)).trans ?_
    refine (put_at3 (pq q) r l ?_).trans ?_
    · exact all3 (by show q % 97 = 0 + q % 96; omega) (by show r.val = 0 + r.val; omega) (by show l.val = 0 + l.val; omega)
    refine (congrFun (shapeCast_self (s := S96x8x128) (window A.m0 ![0, 0, 0] S96x8x128.size inb_S96x8x128_S96x8x128_0_0_0) _) _).trans ?_
    rw [window_at A.m0 _ _ _ _ (ix3 (pq q) r l) (all3 (by show q % 96 = 0 + q % 96; omega) (by show r.val = 0 + r.val; omega) (by show l.val = 0 + l.val; omega)), em]
    exact hD.level _ _ _
  · refine (put_off _ _ _ _ _ (0 : Fin 3) (by show q % 97 < 96 ∨ 96 + 1 ≤ q % 97; omega)).trans ?_
    refine (put_at3 (pq q) r l ?_).trans ?_
    · exact all3 (by show q % 97 = 0 + q % 96; omega) (by show r.val = 0 + r.val; omega) (by show l.val = 0 + l.val; omega)
    refine (congrFun (shapeCast_self (s := S96x8x128) (window A.l0 ![0, 0, 0] S96x8x128.size inb_S96x8x128_S96x8x128_0_0_0) _) _).trans ?_
    rw [window_at A.l0 _ _ _ _ (ix3 (pq q) r l) (all3 (by show q % 96 = 0 + q % 96; omega) (by show r.val = 0 + r.val; omega) (by show l.val = 0 + l.val; omega)), el]
    rfl
  · refine (put_off _ _ _ _ _ (0 : Fin 3) (by show q % 97 < 96 ∨ 96 + 1 ≤ q % 97; omega)).trans ?_
    refine (put_at3 (pq q) r d ?_).trans ?_
    · exact all3 (by show q % 97 = 0 + q % 96; omega) (by show r.val = 0 + r.val; omega) (by show d.val = 0 + d.val; omega)
    refine (congrFun (shapeCast_self (s := S96x8x96) (window A.o0 ![0, 0, 0] S96x8x96.size inb_S96x8x96_S96x8x96_0_0_0) _) _).trans ?_
    rw [window_at A.o0 _ _ _ _ (ix3 (pq q) r d) (all3 (by show q % 96 = 0 + q % 96; omega) (by show r.val = 0 + r.val; omega) (by show d.val = 0 + d.val; omega)), eo]
    rfl

end Cert.Attend

end
-- ==== Proof.Gather.lean ====
/-
  A pair's slots once transferred, and the gathering of eight rows of them.
-/
module

public import proofs.«01_k».proof.Proof.StepK
public import proofs.«01_k».proof.Proof.StepV

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

variable {D : Src}

/-- The arguments in the large memory. -/
def Src.hbm (D : Src) : Hbm Ideal := ⟨D.kt, D.vt, D.tbl, D.vst⟩

/-- What a pair's buffers hold of it once transferred. -/
structure Slot (D : Src) (p : ℕ) (A : AS Ideal) : Prop where
  k : ∀ x ∈ kSet (p % 4), A.kbuf x = kImg D.kt p x
  v : ∀ x ∈ kSet (p % 4), A.vbuf x = kImg D.vt p x
  t : ∀ row < 8 * nit (F := Ideal) D.win p, ∀ l, A.tbuf (ix3 (⟨p % 4, Nat.mod_lt _ (by decide)⟩ : Fin 4) (⟨row % 256, Nat.mod_lt _ (by decide)⟩ : Fin 256) l) = D.code p row l
  s : ∀ row < 8 * nit (F := Ideal) D.win p, ∀ l, A.sbuf (ix3 (⟨p % 4, Nat.mod_lt _ (by decide)⟩ : Fin 4) (⟨row % 256, Nat.mod_lt _ (by decide)⟩ : Fin 256) l) = D.vs p row l

theorem tail_long : ∀ f : Fin 257, 80 < f.val → tailCond (BitVec.ofNat 32 f.val) = 1#1 := by decide +kernel

theorem long_of (hW : WOk (F := Ideal) D.win) {p : ℕ} (hp : p < 96) {row : ℕ} (hr : row < 8 * nit (F := Ideal) D.win p) (h80 : 80 ≤ row) : long (F := Ideal) D.win p := by
  have h1 := hW.rows p hp
  unfold nit at hr
  unfold long
  have := tail_long ⟨(rowsW (F := Ideal) D.win p).toNat, by omega⟩ (by show 80 < (rowsW (F := Ideal) D.win p).toNat; omega)
  rwa [show BitVec.ofNat 32 (⟨(rowsW (F := Ideal) D.win p).toNat, by omega⟩ : Fin 257).val = rowsW (F := Ideal) D.win p from BitVec.ofNat_toNat _ _ |>.trans (BitVec.setWidth_eq _)] at this

theorem slot_of (hW : WOk (F := Ideal) D.win) {p : Fin 96} {A : AS Ideal} (h : SlotHas D.hbm D.win p A) : Slot D p.val A := by
  have hn : nit (F := Ideal) D.win p.val ≤ 32 := by
    have := hW.rows p.val p.isLt
    unfold nit; omega
  refine ⟨h.k, h.v, fun row hr l => ?_, fun row hr l => ?_⟩
  · by_cases h80 : row < 80
    · refine (h.th _ (mem_h _ rfl (by show row % 256 < 80; omega))).trans ?_
      show D.tbl (tblIx (256 * p.val + row % 256) l) = D.tbl (tblIx (256 * p.val + row) l)
      rw [Nat.mod_eq_of_lt (by omega : row < 256)]
    · refine (h.tl (long_of hW p.isLt hr (by omega)) _ (mem_l _ rfl (by show 80 ≤ row % 256; omega))).trans ?_
      show D.tbl (tblIx (256 * p.val + row % 256) l) = D.tbl (tblIx (256 * p.val + row) l)
      rw [Nat.mod_eq_of_lt (by omega : row < 256)]
  · by_cases h80 : row < 80
    · refine (h.sh _ (mem_h _ rfl (by show row % 256 < 80; omega))).trans ?_
      show D.vst (tblIx (256 * p.val + row % 256) l) = D.vst (tblIx (256 * p.val + row) l)
      rw [Nat.mod_eq_of_lt (by omega : row < 256)]
    · refine (h.sl (long_of hW p.isLt hr (by omega)) _ (mem_l _ rfl (by show 80 ≤ row % 256; omega))).trans ?_
      show D.vst (tblIx (256 * p.val + row % 256) l) = D.vst (tblIx (256 * p.val + row) l)
      rw [Nat.mod_eq_of_lt (by omega : row < 256)]

/-! ## The codes and the value scales -/

theorem cast_c (z : IVec S1x8x128 32) (j : Fin 8) (l : Fin 128) : (shapeCast S1x8x128 (shapeCast S8x128 z shapeCasts_S1x8x128_S8x128 : IVec S8x128 32) shapeCasts_S8x128_S1x8x128 : IVec S1x8x128 32) (ix3 0 j l) = z (ix3 0 j l) := by
  pointwise

theorem copy_c {A : AS Ideal} {p : Fin 96} {k : ℕ} (hk : k < 32) (hn : k < nit (F := Ideal) D.win p.val) (ρ : Fin 4) (hs : Slot D p.val A) :
    HasC D (A.copy (p.val % 4) (sl_lt p) ρ.val (8 * k) (co8_lt hk)).cscr ρ p.val k := by
  intro j l
  have hj := j.isLt
  refine (put_at3 (0 : Fin 1) j l (all3 rfl (by show j.val = 0 + j.val; omega) (by show l.val = 0 + l.val; omega))).trans ?_
  rw [cast_c]
  refine (window_at A.tbuf _ _ _ _ _ (all3 rfl (by show (8 * k + j.val) % 256 = 8 * k + j.val; omega) (by show l.val = 0 + l.val; omega))).trans (hs.t (8 * k + j.val) (by omega) l)

theorem copy_vs {A : AS Ideal} {p : Fin 96} {k : ℕ} (hk : k < 32) (hn : k < nit (F := Ideal) D.win p.val) (ρ : Fin 4) (hs : Slot D p.val A) :
    HasVS D (A.copy (p.val % 4) (sl_lt p) ρ.val (8 * k) (co8_lt hk)).vsscr ρ p.val k := by
  intro j l
  have hj := j.isLt
  refine (put_at3 (0 : Fin 1) j l (all3 rfl (by show j.val = 0 + j.val; omega) (by show l.val = 0 + l.val; omega))).trans ?_
  rw [t8_at, s8_at]
  refine (window_at A.sbuf _ _ _ _ _ (all3 rfl (by show (8 * k + j.val) % 256 = 8 * k + j.val; omega) (by show l.val = 0 + l.val; omega))).trans (hs.s (8 * k + j.val) (by omega) l)

theorem copy_c_other {A : AS Ideal} {p : Fin 96} {k : ℕ} (hk : k < 32) (ρ ρ' : Fin 4) (hr : ρ' ≠ ρ) (q n : ℕ) :
    (HasC D A.cscr ρ' q n → HasC D (A.copy (p.val % 4) (sl_lt p) ρ.val (8 * k) (co8_lt hk)).cscr ρ' q n) ∧
    (HasVS D A.vsscr ρ' q n → HasVS D (A.copy (p.val % 4) (sl_lt p) ρ.val (8 * k) (co8_lt hk)).vsscr ρ' q n) := by
  have hn : ρ'.val ≠ ρ.val := fun e => hr (Fin.ext e)
  refine ⟨fun h j l => (put_off _ _ _ _ _ (0 : Fin 3) ?_).trans (h j l), fun h j l => (put_off _ _ _ _ _ (0 : Fin 3) ?_).trans (h j l)⟩ <;>
  · show ρ'.val < ρ.val ∨ ρ.val + 1 ≤ ρ'.val
    omega

/-! ## The rows -/

/-- The state `B` reached from `A` by gathering the first `n` rows. -/
structure Gath (D : Src) (A B : AS Ideal) (ρ : Fin 4) (p k n : ℕ) : Prop where
  q : B.q = A.q
  ksel : B.ksel = A.ksel
  kbuf : B.kbuf = A.kbuf
  vbuf : B.vbuf = A.vbuf
  tbuf : B.tbuf = A.tbuf
  sscr : B.sscr = A.sscr
  pscr : B.pscr = A.pscr
  ascr : B.ascr = A.ascr
  mst : B.mst = A.mst
  lst : B.lst = A.lst
  ost : B.ost = A.ost
  cscr : B.cscr = A.cscr
  vsscr : B.vsscr = A.vsscr
  v : ∀ ρ', ρ' ≠ ρ → ∀ j w l, B.vscr (ix4 ρ' j w l) = A.vscr (ix4 ρ' j w l)
  hk : ∀ j : Fin 8, j.val < n → ∀ d l, D.live p (8 * k + j.val) l → B.kscr (ix3 (jh j) d (jl j l)) = D.key p (8 * k + j.val) l d
  hv : ∀ j : Fin 8, j.val < n → ∀ w l, D.live p (8 * k + j.val) l → ∀ b, (hb : b < 32) →
    (B.vscr (ix4 ρ j w l) : BitVec 32).getLsbD b = (D.vc p (8 * k + j.val) l ⟨4 * w.val + b / 8, by omega⟩).getLsbD (b % 8)

theorem codeAt_at {A : AS Ideal} {p : Fin 96} {k : ℕ} (hk : k < 32) (hn : k < nit (F := Ideal) D.win p.val) (ht : ∀ row < 8 * nit (F := Ideal) D.win p.val, ∀ l, A.tbuf (ix3 (⟨p.val % 4, Nat.mod_lt _ (by decide)⟩ : Fin 4) (⟨row % 256, Nat.mod_lt _ (by decide)⟩ : Fin 256) l) = D.code p.val row l)
    (j i : Fin 8) (l : Fin 128) : codeAt (F := Ideal) A.tbuf (p.val % 4) (8 * k + j.val) (sl_lt p) (co_lt hk j) (ix2 i l) = D.code p.val (8 * k + j.val) l := by
  have hj := j.isLt
  unfold codeAt
  rw [code_at]
  exact (window_at A.tbuf _ _ _ _ _ (all3 rfl (by show (8 * k + j.val) % 256 = 8 * k + j.val; omega) (by show l.val = 0 + l.val; omega))).trans (ht (8 * k + j.val) (by omega) l)

set_option maxHeartbeats 4000000 in
theorem row_step (hD : D.Good) {A : AS Ideal} {B : ASw (F := Ideal) D.win} {p : Fin 96} {k : ℕ} (hk : k < 32) (hn : k < nit (F := Ideal) D.win p.val) (ρ : Fin 4) (hW : WIn (F := Ideal) D.win p k hk) (j : Fin 8)
    (ek : A.ksel = D.ksel) (hs : Slot D p.val A) (h : Gath D A B.1 ρ p.val k j.val) : Gath D A (B.rowOf p k hk ρ hW j).1 ρ p.val k (j.val + 1) := by
  have hj := j.isLt
  have e : ∃ hc, (B.rowOf p k hk ρ hW j).1 = B.1.thirds p.val (pp_lt p) ρ.val j (idxOf (codeAt (F := Ideal) B.1.tbuf (p.val % 4) (8 * k + j.val) (sl_lt p) (co_lt hk j)))
      (tilesF (F := Ideal) B.1.kbuf B.1.vbuf (p.val % 4) (sl_lt p) (winAt (F := Ideal) B.1.win (272 * p.val + 8 * k + j.val) (wo_lt p hk j)) hc
        (relOf (codeAt (F := Ideal) B.1.tbuf (p.val % 4) (8 * k + j.val) (sl_lt p) (co_lt hk j)) (winAt (F := Ideal) B.1.win (272 * p.val + 8 * k + j.val) (wo_lt p hk j)))) :=
    ⟨fun i => by rw [B.2]; exact col_ok (hW j) i, rfl⟩
  obtain ⟨hc, e⟩ := e
  rw [e]
  have ht : ∀ row < 8 * nit (F := Ideal) D.win p.val, ∀ l, B.1.tbuf (ix3 (⟨p.val % 4, Nat.mod_lt _ (by decide)⟩ : Fin 4) (⟨row % 256, Nat.mod_lt _ (by decide)⟩ : Fin 256) l) = D.code p.val row l := by
    rw [h.tbuf]; exact hs.t
  have ec : ∀ (i : Fin 8) (l : Fin 128), codeAt (F := Ideal) B.1.tbuf (p.val % 4) (8 * k + j.val) (sl_lt p) (co_lt hk j) (ix2 i l) = D.code p.val (8 * k + j.val) l := codeAt_at hk hn ht j
  have ew : (winAt (F := Ideal) B.1.win (272 * p.val + 8 * k + j.val) (wo_lt p hk j)) = winAt (F := Ideal) D.win (272 * p.val + (8 * k + j.val)) (by omega) := by
    have : ∀ (w : Vec Ideal S26112 .i32) (a b : ℕ) (ha : a + 1 ≤ 26112) (hb : b + 1 ≤ 26112), a = b → winAt (F := Ideal) w a ha = winAt (F := Ideal) w b hb := by
      intro w a b ha hb e; subst e; rfl
    rw [B.2]
    exact this _ _ _ _ _ (by omega)
  have ha : (winAt (F := Ideal) B.1.win (272 * p.val + 8 * k + j.val) (wo_lt p hk j)).toNat ≤ 240 := by rw [B.2]; exact hW j
  have hT : ∀ l, D.live p.val (8 * k + j.val) l → TileHas D (tilesF (F := Ideal) B.1.kbuf B.1.vbuf (p.val % 4) (sl_lt p) (winAt (F := Ideal) B.1.win (272 * p.val + 8 * k + j.val) (wo_lt p hk j)) hc
        (relOf (codeAt (F := Ideal) B.1.tbuf (p.val % 4) (8 * k + j.val) (sl_lt p) (co_lt hk j)) (winAt (F := Ideal) B.1.win (272 * p.val + 8 * k + j.val) (wo_lt p hk j)))) p.val (8 * k + j.val) l := by
    intro l hl
    obtain ⟨n, hn'⟩ := hD.ahead p.val p.isLt (8 * k + j.val) (by omega) l hl (by omega)
    refine tile_has ha hc (by rw [h.kbuf]; exact hs.k) (by rw [h.vbuf]; exact hs.v) (fun i => ec i l) n ?_
    rw [ew]; exact hn'
  have eks : B.1.ksel = D.ksel := h.ksel.trans ek
  generalize tilesF (F := Ideal) B.1.kbuf B.1.vbuf (p.val % 4) (sl_lt p) (winAt (F := Ideal) B.1.win (272 * p.val + 8 * k + j.val) (wo_lt p hk j)) hc
        (relOf (codeAt (F := Ideal) B.1.tbuf (p.val % 4) (8 * k + j.val) (sl_lt p) (co_lt hk j)) (winAt (F := Ideal) B.1.win (272 * p.val + 8 * k + j.val) (wo_lt p hk j))) = acc at hT
  have ei : ∀ (i : Fin 8) (l : Fin 128), idxOf (codeAt (F := Ideal) B.1.tbuf (p.val % 4) (8 * k + j.val) (sl_lt p) (co_lt hk j)) (ix2 i l) = D.clus p.val (8 * k + j.val) l := fun i l => by
    rw [idxOf_at, ec]; rfl
  generalize idxOf (codeAt (F := Ideal) B.1.tbuf (p.val % 4) (8 * k + j.val) (sl_lt p) (co_lt hk j)) = idx at ei
  refine ⟨h.q, h.ksel, h.kbuf, h.vbuf, h.tbuf, h.sscr, h.pscr, h.ascr, h.mst, h.lst, h.ost, h.cscr, h.vsscr, fun ρ' hρ j' w l => ?_, fun j' hj' d l hl => ?_, fun j' hj' w l hl b hb => ?_⟩
  · rw [thirds_v_other _ _ _ _ _ _ _ (.inl hρ)]
    exact h.v ρ' hρ j' w l
  · by_cases hjj : j' = j
    · subst hjj
      exact thirds_key _ eks p.isLt _ _ _ d l (fun a => ei a l) (hD.clus p.val p.isLt _ (by omega) l hl) (hT l hl)
    · rw [thirds_k_other _ _ _ _ _ _ hjj]
      exact h.hk j' (by have : j'.val ≠ j.val := fun e => hjj (Fin.ext e); omega) d l hl
  · by_cases hjj : j' = j
    · subst hjj
      exact thirds_val _ _ ρ _ w l (hT l hl) b hb
    · rw [thirds_v_other _ _ _ _ _ _ _ (.inr hjj)]
      exact h.hv j' (by have : j'.val ≠ j.val := fun e => hjj (Fin.ext e); omega) w l hl b hb

theorem rows_step (hD : D.Good) {A : ASw (F := Ideal) D.win} {p : Fin 96} {k : ℕ} (hk : k < 32) (hn : k < nit (F := Ideal) D.win p.val) (ρ : Fin 4) (hW : WIn (F := Ideal) D.win p k hk)
    (ek : A.1.ksel = D.ksel) (hs : Slot D p.val A.1) : ∀ n, n ≤ 8 → Gath D A.1 (A.rowsOf p k hk ρ hW n).1 ρ p.val k n
  | 0, _ => ⟨rfl, rfl, rfl, rfl, rfl, rfl, rfl, rfl, rfl, rfl, rfl, rfl, rfl, fun _ _ _ _ _ => rfl, fun _ h => absurd h (Nat.not_lt_zero _), fun _ h => absurd h (Nat.not_lt_zero _)⟩
  | n + 1, h => by
    have ih := rows_step hD hk hn ρ hW ek hs n (by omega)
    have e : n % 8 = n := by omega
    have := row_step hD hk hn ρ hW (B := A.rowsOf p k hk ρ hW n) ⟨n % 8, Nat.mod_lt _ (by decide)⟩ ek hs (by show Gath D A.1 _ ρ p.val k (n % 8); rw [e]; exact ih)
    have e2 : (⟨n % 8, Nat.mod_lt _ (by decide)⟩ : Fin 8).val + 1 = n + 1 := by show n % 8 + 1 = n + 1; omega
    rw [e2] at this
    exact this

end Cert.Attend

end
-- ==== Proof.Counts.lean ====
/-
  The pipeline's invariant: how many groups of rows each pair's running maximum and sums, and its weighted sums, have taken in.
-/
module

public import proofs.«01_k».proof.Proof.Gather

@[expose] public section

set_option maxRecDepth 100000

noncomputable section

namespace Cert.Attend

open Cert.Kernel Cert.Kernel.Gen
open Idealize.ShloMosaic Idealize.ShloMosaic.TcCoe Idealize.ShloMosaic.VecWindow
open Idealize.SL.Sem

variable {D : Src}

/-- One more group for a pair. -/
def add (n : ℕ → ℕ) (q : Fin 97) : ℕ → ℕ := fun x => n x + if x = q.val then 1 else 0

theorem add_self (n : ℕ → ℕ) (q : Fin 97) : add n q q.val = n q.val + 1 := by unfold add; rw [if_pos rfl]
theorem add_ne (n : ℕ → ℕ) {q : Fin 97} {x : ℕ} (h : x ≠ q.val) : add n q x = n x := by unfold add; rw [if_neg h]; rfl

theorem values_all {A : ASw (F := Ideal) D.win} {n : ℕ → ℕ} {q : Fin 97} {ρ : Fin 4} (hO : ∀ x < 96, RowO D A.1.ost x (n x))
    (h : q.val < 96 → HasP D A.1.pscr q.val (n q.val) ∧ HasA D A.1.ascr q.val (n q.val) ∧ HasV D A.1.vscr ρ q.val (n q.val)) :
    ∀ x < 96, RowO D (A.values q ρ).1.ost x (add n q x) := by
  intro x hx
  by_cases e : x = q.val
  · subst e
    rw [add_self]
    obtain ⟨hP, hA, hV⟩ := h hx
    exact values_O (by omega) _ _ hV hP hA (hO _ hx)
  · rw [add_ne _ e]
    exact values_other (by omega) e _ _ (hO x hx)

theorem softmax_all {A : ASw (F := Ideal) D.win} {n : ℕ → ℕ} {q : Fin 97} {ρ : Fin 4} (hM : ∀ x < 96, RowM D A.1.mst x (n x) ∧ RowL D A.1.lst x (n x))
    (h : q.val < 96 → HasS D A.1.sscr q.val (n q.val) ∧ HasVS D A.1.vsscr ρ q.val (n q.val)) :
    (∀ x < 96, RowM D (A.softmax q ρ).1.mst x (add n q x) ∧ RowL D (A.softmax q ρ).1.lst x (add n q x)) ∧
    (q.val < 96 → HasP D (A.softmax q ρ).1.pscr q.val (n q.val) ∧ HasA D (A.softmax q ρ).1.ascr q.val (n q.val)) := by
  have key : (hq : q.val < 96) → _ := fun hq => softmax_ok (A := A.1) (ρ := ρ) (n := n q.val) (by omega) (qq_lt q) (rr_lt ρ) (h hq).1 (h hq).2 (hM _ hq).1 (hM _ hq).2
  refine ⟨fun x hx => ?_, fun hq => ⟨(key hq).1, (key hq).2.1⟩⟩
  by_cases e : x = q.val
  · subst e
    rw [add_self]
    exact (key hx).2.2
  · rw [add_ne _ e]
    have := softmax_other (D := D) (A := A.1) (ρ := ρ.val) (q := q.val) (q' := x) (n := n x) (by omega) e (qq_lt q) (rr_lt ρ)
    exact ⟨this.1 (hM x hx).1, this.2 (hM x hx).2⟩

theorem scores_all {A : ASw (F := Ideal) D.win} {n : ℕ} {q : Fin 97} {ρ : Fin 4} (eq : A.1.q = D.q) (h : q.val < 96 → HasK D A.1.kscr q.val n ∧ HasC D A.1.cscr ρ q.val n) :
    q.val < 96 → HasS D (A.scores q ρ).1.sscr q.val n := by
  intro hq
  have e : min q.val 95 = q.val := by omega
  have key : ∀ (x : ℕ) (hx : x + 1 ≤ 96), x = q.val → HasS D (A.1.scores x ρ.val hx (rr_lt ρ)).sscr q.val n := by
    rintro x hx rfl
    exact scores_ok hq hx (rr_lt ρ) eq (h hq).1 (h hq).2
  exact key _ (mm_lt q) e

/-- The state between two items. -/
def JJ (D : Src) (p k : ℕ) (y : Cy) (A : AS Ideal) : Prop :=
  A.q = D.q ∧ A.ksel = D.ksel ∧ ∃ n : ℕ → ℕ,
    (∀ x < 96, add (add (add n y.p3) y.p2) y.p1 x = if x < p then nit (F := Ideal) D.win x else if x = p then k else 0) ∧
    (∀ x < 96, RowO D A.ost x (n x)) ∧
    (∀ x < 96, RowM D A.mst x (add n y.p3 x) ∧ RowL D A.lst x (add n y.p3 x)) ∧
    (y.p3.val < 96 → HasP D A.pscr y.p3.val (n y.p3.val) ∧ HasA D A.ascr y.p3.val (n y.p3.val) ∧ HasV D A.vscr (rot y.r 1) y.p3.val (n y.p3.val)) ∧
    (y.p2.val < 96 → HasS D A.sscr y.p2.val (add n y.p3 y.p2.val) ∧ HasV D A.vscr (rot y.r 2) y.p2.val (add n y.p3 y.p2.val) ∧ HasVS D A.vsscr (rot y.r 2) y.p2.val (add n y.p3 y.p2.val)) ∧
    (y.p1.val < 96 → HasK D A.kscr y.p1.val (add (add n y.p3) y.p2 y.p1.val) ∧ HasV D A.vscr (rot y.r 3) y.p1.val (add (add n y.p3) y.p2 y.p1.val) ∧
      HasC D A.cscr (rot y.r 3) y.p1.val (add (add n y.p3) y.p2 y.p1.val) ∧ HasVS D A.vsscr (rot y.r 3) y.p1.val (add (add n y.p3) y.p2 y.p1.val))

theorem rot_ne (r : Fin 4) : rot r 1 ≠ r ∧ rot r 2 ≠ r ∧ rot r 3 ≠ r := by revert r; decide
theorem rot_next (r : Fin 4) : rot (rot r 1) 1 = rot r 2 ∧ rot (rot r 1) 2 = rot r 3 ∧ rot (rot r 1) 3 = r := by revert r; decide

theorem hasV_of {x x' : Vec Ideal S4x8x24x128 .i32} {ρ : Fin 4} {q n : ℕ} (e : ∀ j w l, x' (ix4 ρ j w l) = x (ix4 ρ j w l)) (h : HasV D x ρ q n) : HasV D x' ρ q n := by
  intro j w l hl b hb
  rw [e]
  exact h j w l hl b hb

theorem gather_all (hD : D.Good) {A : ASw (F := Ideal) D.win} {p : Fin 96} {k : ℕ} (hk : k < 32) (hn : k < nit (F := Ideal) D.win p.val) (ρ : Fin 4) (hW : WIn (F := Ideal) D.win p k hk)
    (ek : A.1.ksel = D.ksel) (hs : Slot D p.val A.1) :
    ∃ C : AS Ideal, C = A.1.copy (p.val % 4) (sl_lt p) ρ.val (8 * k) (co8_lt hk) ∧ Gath D C (A.gather p k hk ρ hW).1 ρ p.val k 8 :=
  ⟨_, rfl, rows_step (A := A.copyOf p k hk ρ) hD hk hn ρ hW ek ⟨hs.k, hs.v, hs.t, hs.s⟩ 8 (by decide)⟩

theorem JJ_item (hD : D.Good) {p : Fin 96} {k : ℕ} (hk : k < nit (F := Ideal) D.win p.val) (hk' : k < 32) {y : Cy} {A : ASw (F := Ideal) D.win} (hW : WIn (F := Ideal) D.win p k hk')
    (h : JJ D p.val k y A.1) (hS : SlotHas D.hbm D.win p A.1) : JJ D p.val (k + 1) (y.next p) (A.item p k hk' y hW).1 := by
  obtain ⟨eq, ek, n, hc, hO, hM, h3, h2, h1⟩ := h
  have hs := slot_of hD.wok hS
  unfold ASw.item
  have a1 := values_all (A := A) (ρ := rot y.r 1) hO h3
  have s1 : Slot D p.val (A.values y.p3 (rot y.r 1)).1 := ⟨hs.k, hs.v, hs.t, hs.s⟩
  have f1 : (A.values y.p3 (rot y.r 1)).1.q = D.q ∧ (A.values y.p3 (rot y.r 1)).1.ksel = D.ksel := ⟨eq, ek⟩
  have M1 : ∀ x < 96, RowM D (A.values y.p3 (rot y.r 1)).1.mst x (add n y.p3 x) ∧ RowL D (A.values y.p3 (rot y.r 1)).1.lst x (add n y.p3 x) := hM
  have g2 : y.p2.val < 96 → HasS D (A.values y.p3 (rot y.r 1)).1.sscr y.p2.val (add n y.p3 y.p2.val) ∧ HasV D (A.values y.p3 (rot y.r 1)).1.vscr (rot y.r 2) y.p2.val (add n y.p3 y.p2.val) ∧ HasVS D (A.values y.p3 (rot y.r 1)).1.vsscr (rot y.r 2) y.p2.val (add n y.p3 y.p2.val) := h2
  have g1 : y.p1.val < 96 → HasK D (A.values y.p3 (rot y.r 1)).1.kscr y.p1.val (add (add n y.p3) y.p2 y.p1.val) ∧ HasV D (A.values y.p3 (rot y.r 1)).1.vscr (rot y.r 3) y.p1.val (add (add n y.p3) y.p2 y.p1.val) ∧
      HasC D (A.values y.p3 (rot y.r 1)).1.cscr (rot y.r 3) y.p1.val (add (add n y.p3) y.p2 y.p1.val) ∧ HasVS D (A.values y.p3 (rot y.r 1)).1.vsscr (rot y.r 3) y.p1.val (add (add n y.p3) y.p2 y.p1.val) := h1
  generalize A.values y.p3 (rot y.r 1) = B at a1 s1 f1 M1 g2 g1 ⊢
  clear hO hM h3 h2 h1 hs hS eq ek
  obtain ⟨M2, P2⟩ := softmax_all (A := B) (ρ := rot y.r 2) M1 fun hq => ⟨(g2 hq).1, (g2 hq).2.2⟩
  have a2 : ∀ x < 96, RowO D (B.softmax y.p2 (rot y.r 2)).1.ost x (add n y.p3 x) := a1
  have s2 : Slot D p.val (B.softmax y.p2 (rot y.r 2)).1 := ⟨s1.k, s1.v, s1.t, s1.s⟩
  have f2 : (B.softmax y.p2 (rot y.r 2)).1.q = D.q ∧ (B.softmax y.p2 (rot y.r 2)).1.ksel = D.ksel := f1
  have v2 : y.p2.val < 96 → HasV D (B.softmax y.p2 (rot y.r 2)).1.vscr (rot y.r 2) y.p2.val (add n y.p3 y.p2.val) := fun hq => (g2 hq).2.1
  have g1' : y.p1.val < 96 → HasK D (B.softmax y.p2 (rot y.r 2)).1.kscr y.p1.val (add (add n y.p3) y.p2 y.p1.val) ∧ HasV D (B.softmax y.p2 (rot y.r 2)).1.vscr (rot y.r 3) y.p1.val (add (add n y.p3) y.p2 y.p1.val) ∧
      HasC D (B.softmax y.p2 (rot y.r 2)).1.cscr (rot y.r 3) y.p1.val (add (add n y.p3) y.p2 y.p1.val) ∧ HasVS D (B.softmax y.p2 (rot y.r 2)).1.vsscr (rot y.r 3) y.p1.val (add (add n y.p3) y.p2 y.p1.val) := g1
  generalize B.softmax y.p2 (rot y.r 2) = C at M2 P2 a2 s2 f2 v2 g1' ⊢
  clear a1 s1 f1 M1 g2 g1
  have S3 := scores_all (A := C) (ρ := rot y.r 3) f2.1 fun hq => ⟨(g1' hq).1, (g1' hq).2.2.1⟩
  have M3 : ∀ x < 96, RowM D (C.scores y.p1 (rot y.r 3)).1.mst x (add (add n y.p3) y.p2 x) ∧ RowL D (C.scores y.p1 (rot y.r 3)).1.lst x (add (add n y.p3) y.p2 x) := M2
  have P3 : y.p2.val < 96 → HasP D (C.scores y.p1 (rot y.r 3)).1.pscr y.p2.val (add n y.p3 y.p2.val) ∧ HasA D (C.scores y.p1 (rot y.r 3)).1.ascr y.p2.val (add n y.p3 y.p2.val) := P2
  have a3 : ∀ x < 96, RowO D (C.scores y.p1 (rot y.r 3)).1.ost x (add n y.p3 x) := a2
  have s3 : Slot D p.val (C.scores y.p1 (rot y.r 3)).1 := ⟨s2.k, s2.v, s2.t, s2.s⟩
  have f3 : (C.scores y.p1 (rot y.r 3)).1.q = D.q ∧ (C.scores y.p1 (rot y.r 3)).1.ksel = D.ksel := f2
  have v3 : y.p2.val < 96 → HasV D (C.scores y.p1 (rot y.r 3)).1.vscr (rot y.r 2) y.p2.val (add n y.p3 y.p2.val) := v2
  have w3 : y.p1.val < 96 → HasV D (C.scores y.p1 (rot y.r 3)).1.vscr (rot y.r 3) y.p1.val (add (add n y.p3) y.p2 y.p1.val) ∧ HasVS D (C.scores y.p1 (rot y.r 3)).1.vsscr (rot y.r 3) y.p1.val (add (add n y.p3) y.p2 y.p1.val) := fun hq => ⟨(g1' hq).2.1, (g1' hq).2.2.2⟩
  generalize C.scores y.p1 (rot y.r 3) = E at S3 M3 P3 a3 s3 f3 v3 w3 ⊢
  clear M2 P2 a2 s2 f2 v2 g1'
  obtain ⟨X, hX, hG⟩ := gather_all hD hk' hk y.r hW f3.2 s3
  have hC := copy_c (A := E.1) hk' hk y.r s3
  have hVS := copy_vs (A := E.1) hk' hk y.r s3
  have hVSo := (copy_c_other (D := D) (A := E.1) (p := p) hk' y.r (rot y.r 3) (rot_ne y.r).2.2 y.p1.val (add (add n y.p3) y.p2 y.p1.val)).2
  have eXq : X.q = E.1.q := by rw [hX]; rfl
  have eXk : X.ksel = E.1.ksel := by rw [hX]; rfl
  have eXo : X.ost = E.1.ost := by rw [hX]; rfl
  have eXm : X.mst = E.1.mst := by rw [hX]; rfl
  have eXl : X.lst = E.1.lst := by rw [hX]; rfl
  have eXs : X.sscr = E.1.sscr := by rw [hX]; rfl
  have eXp : X.pscr = E.1.pscr := by rw [hX]; rfl
  have eXa : X.ascr = E.1.ascr := by rw [hX]; rfl
  have eXv : X.vscr = E.1.vscr := by rw [hX]; rfl
  rw [← hX] at hC hVS hVSo
  clear hX
  generalize E.gather p k hk' y.r hW = G at hG ⊢
  have hn0 : add (add (add n y.p3) y.p2) y.p1 p.val = k := by rw [hc p.val p.isLt, if_neg (Nat.lt_irrefl _), if_pos rfl]
  refine ⟨hG.q.trans (eXq.trans f3.1), hG.ksel.trans (eXk.trans f3.2), add n y.p3, fun x hx => ?_, fun x hx => ?_, fun x hx => ?_, fun hq => ?_, fun hq => ?_, fun hq => ?_⟩
  · show add (add (add (add n y.p3) y.p2) y.p1) p.castSucc x = _
    by_cases e : x = p.val
    · subst e
      rw [if_neg (Nat.lt_irrefl _), if_pos rfl]
      exact (add_self _ p.castSucc).trans (congrArg (· + 1) hn0)
    · rw [add_ne _ (show x ≠ p.castSucc.val from e), hc x hx, if_neg e, if_neg e]
  · rw [hG.ost, eXo]; exact a3 x hx
  · rw [hG.mst, eXm, hG.lst, eXl]; exact M3 x hx
  · rw [hG.pscr, eXp, hG.ascr, eXa]
    refine ⟨(P3 hq).1, (P3 hq).2, ?_⟩
    show HasV D G.1.vscr (rot (rot y.r 1) 1) _ _
    rw [(rot_next y.r).1]
    exact hasV_of (fun j w l => hG.v _ (rot_ne y.r).2.1 j w l) (by rw [eXv]; exact v3 hq)
  · rw [hG.sscr, eXs, hG.vsscr]
    refine ⟨S3 hq, ?_, ?_⟩
    · show HasV D G.1.vscr (rot (rot y.r 1) 2) _ _
      rw [(rot_next y.r).2.1]
      exact hasV_of (fun j w l => hG.v _ (rot_ne y.r).2.2 j w l) (by rw [eXv]; exact (w3 hq).1)
    · show HasVS D X.vsscr (rot (rot y.r 1) 2) _ _
      rw [(rot_next y.r).2.1]
      exact hVSo (w3 hq).2
  · show HasK D G.1.kscr p.val (add (add (add n y.p3) y.p2) y.p1 p.val) ∧ HasV D G.1.vscr (rot (rot y.r 1) 3) p.val (add (add (add n y.p3) y.p2) y.p1 p.val) ∧
      HasC D G.1.cscr (rot (rot y.r 1) 3) p.val (add (add (add n y.p3) y.p2) y.p1 p.val) ∧ HasVS D G.1.vsscr (rot (rot y.r 1) 3) p.val (add (add (add n y.p3) y.p2) y.p1 p.val)
    rw [hn0, (rot_next y.r).2.2, hG.cscr, hG.vsscr]
    exact ⟨fun j d l hl => hG.hk j j.isLt d l hl, fun j w l hl b hb => hG.hv j j.isLt w l hl b hb, hC, hVS⟩

/-- The invariant. -/
def inv (hD : D.Good) : Inv D.hbm D.win where
  J := JJ D
  item p k hk hk' y A hW h hS := JJ_item hD hk hk' hW h hS
  pair p y A h := by
    obtain ⟨eq, ek, n, hc, hO, hM, h3, h2, h1⟩ := h
    refine ⟨eq, ek, n, fun x hx => (hc x hx).trans ?_, hO, hM, h3, h2, h1⟩
    by_cases e : x = p.val
    · subst e; rw [if_neg (Nat.lt_irrefl _), if_pos rfl, if_pos (Nat.lt_succ_self _)]
    · rw [if_neg e]
      by_cases e2 : x < p.val
      · rw [if_pos e2, if_pos (by omega)]
      · rw [if_neg e2, if_neg (by omega)]
        split <;> rfl
  bufs p k y A kb vb tb sb h := h

theorem JJ_init (hD : D.Good) {A : AS Ideal} (eq : A.q = D.q) (ek : A.ksel = D.ksel) (em : A.m0 = D.m0) (el : A.l0 = D.l0) (eo : A.o0 = D.o0) : JJ D 0 0 cy0 A.init := by
  have h0 (x : ℕ) (hx : x < 96) (n : ℕ → ℕ) : add n (96 : Fin 97) x = n x := add_ne n (by show x ≠ 96; omega)
  refine ⟨eq, ek, fun _ => 0, fun x hx => ?_, fun x hx => (init_ok hD em el eo hx).2.2, fun x hx => ?_, fun h => absurd h (by decide), fun h => absurd h (by decide), fun h => absurd h (by decide)⟩
  · show add (add (add (fun _ => 0) 96) 96) 96 x = _
    rw [h0 x hx, h0 x hx, h0 x hx, if_neg (Nat.not_lt_zero _)]
    split <;> rfl
  · show RowM D A.init.mst x (add (fun _ => 0) 96 x) ∧ RowL D A.init.lst x (add (fun _ => 0) 96 x)
    rw [h0 x hx]
    exact ⟨(init_ok hD em el eo hx).1, (init_ok hD em el eo hx).2.1⟩

/-- Once the pipeline has run dry every pair has taken in all its groups. -/
theorem drained {y : Cy} {A : AS Ideal} (ew : A.win = D.win) (h : JJ D 96 0 y A) :
    ∀ x < 96, RowL D (A.drain y).lst x (nit (F := Ideal) D.win x) ∧ RowO D (A.drain y).ost x (nit (F := Ideal) D.win x) := by
  obtain ⟨eq, ek, n, hc, hO, hM, h3, h2, h1⟩ := h
  have hc' : ∀ x < 96, add (add (add n y.p3) y.p2) y.p1 x = nit (F := Ideal) D.win x := fun x hx => (hc x hx).trans (if_pos hx)
  have e : ∃ A' : ASw (F := Ideal) D.win, A'.1 = A ∧ A.drain y = (ASw.drain A' y).1 := by
    revert ew
    generalize D.win = w
    rintro rfl
    exact ⟨⟨A, rfl⟩, rfl, rfl⟩
  obtain ⟨A', rfl, e⟩ := e
  rw [e]
  unfold ASw.drain
  have a1 := values_all (A := A') (ρ := rot y.r 1) hO h3
  have f1 : (A'.values y.p3 (rot y.r 1)).1.q = D.q := eq
  have M1 : ∀ x < 96, RowM D (A'.values y.p3 (rot y.r 1)).1.mst x (add n y.p3 x) ∧ RowL D (A'.values y.p3 (rot y.r 1)).1.lst x (add n y.p3 x) := hM
  have g2 : y.p2.val < 96 → HasS D (A'.values y.p3 (rot y.r 1)).1.sscr y.p2.val (add n y.p3 y.p2.val) ∧ HasV D (A'.values y.p3 (rot y.r 1)).1.vscr (rot y.r 2) y.p2.val (add n y.p3 y.p2.val) ∧ HasVS D (A'.values y.p3 (rot y.r 1)).1.vsscr (rot y.r 2) y.p2.val (add n y.p3 y.p2.val) := h2
  have g1 : y.p1.val < 96 → HasK D (A'.values y.p3 (rot y.r 1)).1.kscr y.p1.val (add (add n y.p3) y.p2 y.p1.val) ∧ HasV D (A'.values y.p3 (rot y.r 1)).1.vscr (rot y.r 3) y.p1.val (add (add n y.p3) y.p2 y.p1.val) ∧
      HasC D (A'.values y.p3 (rot y.r 1)).1.cscr (rot y.r 3) y.p1.val (add (add n y.p3) y.p2 y.p1.val) ∧ HasVS D (A'.values y.p3 (rot y.r 1)).1.vsscr (rot y.r 3) y.p1.val (add (add n y.p3) y.p2 y.p1.val) := h1
  generalize A'.values y.p3 (rot y.r 1) = B at a1 f1 M1 g2 g1 ⊢
  clear hO hM h3 h2 h1 e eq ek ew
  obtain ⟨M2, P2⟩ := softmax_all (A := B) (ρ := rot y.r 2) M1 fun hq => ⟨(g2 hq).1, (g2 hq).2.2⟩
  have a2 : ∀ x < 96, RowO D (B.softmax y.p2 (rot y.r 2)).1.ost x (add n y.p3 x) := a1
  have f2 : (B.softmax y.p2 (rot y.r 2)).1.q = D.q := f1
  have v2 : y.p2.val < 96 → HasV D (B.softmax y.p2 (rot y.r 2)).1.vscr (rot y.r 2) y.p2.val (add n y.p3 y.p2.val) := fun hq => (g2 hq).2.1
  have g1' : y.p1.val < 96 → HasK D (B.softmax y.p2 (rot y.r 2)).1.kscr y.p1.val (add (add n y.p3) y.p2 y.p1.val) ∧ HasV D (B.softmax y.p2 (rot y.r 2)).1.vscr (rot y.r 3) y.p1.val (add (add n y.p3) y.p2 y.p1.val) ∧
      HasC D (B.softmax y.p2 (rot y.r 2)).1.cscr (rot y.r 3) y.p1.val (add (add n y.p3) y.p2 y.p1.val) ∧ HasVS D (B.softmax y.p2 (rot y.r 2)).1.vsscr (rot y.r 3) y.p1.val (add (add n y.p3) y.p2 y.p1.val) := g1
  generalize B.softmax y.p2 (rot y.r 2) = C at M2 P2 a2 f2 v2 g1' ⊢
  clear a1 f1 M1 g2 g1
  have S3 := scores_all (A := C) (ρ := rot y.r 3) f2 fun hq => ⟨(g1' hq).1, (g1' hq).2.2.1⟩
  have M3 : ∀ x < 96, RowM D (C.scores y.p1 (rot y.r 3)).1.mst x (add (add n y.p3) y.p2 x) ∧ RowL D (C.scores y.p1 (rot y.r 3)).1.lst x (add (add n y.p3) y.p2 x) := M2
  have P3 : y.p2.val < 96 → HasP D (C.scores y.p1 (rot y.r 3)).1.pscr y.p2.val (add n y.p3 y.p2.val) ∧ HasA D (C.scores y.p1 (rot y.r 3)).1.ascr y.p2.val (add n y.p3 y.p2.val) ∧ HasV D (C.scores y.p1 (rot y.r 3)).1.vscr (rot y.r 2) y.p2.val (add n y.p3 y.p2.val) := fun hq => ⟨(P2 hq).1, (P2 hq).2, v2 hq⟩
  have a3 : ∀ x < 96, RowO D (C.scores y.p1 (rot y.r 3)).1.ost x (add n y.p3 x) := a2
  have w3 : y.p1.val < 96 → HasV D (C.scores y.p1 (rot y.r 3)).1.vscr (rot y.r 3) y.p1.val (add (add n y.p3) y.p2 y.p1.val) ∧ HasVS D (C.scores y.p1 (rot y.r 3)).1.vsscr (rot y.r 3) y.p1.val (add (add n y.p3) y.p2 y.p1.val) := fun hq => ⟨(g1' hq).2.1, (g1' hq).2.2.2⟩
  generalize C.scores y.p1 (rot y.r 3) = E at S3 M3 P3 a3 w3 ⊢
  clear M2 P2 a2 f2 v2 g1'
  have a4 := values_all (A := E) (ρ := rot y.r 2) a3 P3
  have M4 : ∀ x < 96, RowM D (E.values y.p2 (rot y.r 2)).1.mst x (add (add n y.p3) y.p2 x) ∧ RowL D (E.values y.p2 (rot y.r 2)).1.lst x (add (add n y.p3) y.p2 x) := M3
  have S4 : y.p1.val < 96 → HasS D (E.values y.p2 (rot y.r 2)).1.sscr y.p1.val (add (add n y.p3) y.p2 y.p1.val) ∧ HasVS D (E.values y.p2 (rot y.r 2)).1.vsscr (rot y.r 3) y.p1.val (add (add n y.p3) y.p2 y.p1.val) := fun hq => ⟨S3 hq, (w3 hq).2⟩
  have v4 : y.p1.val < 96 → HasV D (E.values y.p2 (rot y.r 2)).1.vscr (rot y.r 3) y.p1.val (add (add n y.p3) y.p2 y.p1.val) := fun hq => (w3 hq).1
  generalize E.values y.p2 (rot y.r 2) = F at a4 M4 S4 v4 ⊢
  clear S3 M3 P3 a3 w3
  obtain ⟨M5, P5⟩ := softmax_all (A := F) (ρ := rot y.r 3) M4 S4
  have a5 : ∀ x < 96, RowO D (F.softmax y.p1 (rot y.r 3)).1.ost x (add (add n y.p3) y.p2 x) := a4
  have v5 : y.p1.val < 96 → HasV D (F.softmax y.p1 (rot y.r 3)).1.vscr (rot y.r 3) y.p1.val (add (add n y.p3) y.p2 y.p1.val) := v4
  generalize F.softmax y.p1 (rot y.r 3) = G at M5 P5 a5 v5 ⊢
  have a6 := values_all (A := G) (ρ := rot y.r 3) a5 fun hq => ⟨(P5 hq).1, (P5 hq).2, v5 hq⟩
  intro x hx
  have := a6 x hx
  rw [hc' x hx] at this
  have hL := (M5 x hx).2
  rw [hc' x hx] at hL
  exact ⟨hL, this⟩

/-- The result, from the weighted sums and the sums. -/
theorem fins_out {A : AS Ideal} {N : ℕ → ℕ} (h : ∀ x < 96, RowL D A.lst x (N x) ∧ RowO D A.ost x (N x)) : ∀ n ≤ 96,
    (∀ x < 96, RowL D (A.fins n).lst x (N x) ∧ RowO D (A.fins n).ost x (N x)) ∧ ∀ x < n, ∀ (r : Fin 8) (d : Fin 96), (A.fins n).out (ix3 (pq x) r d) = Ideal.div (D.O x r d (N x)) (∑ l, D.L x r l (N x)) := by
  intro n
  induction n with
  | zero => exact fun _ => ⟨h, fun x hx => absurd hx (Nat.not_lt_zero _)⟩
  | succ n ih =>
    intro hn
    obtain ⟨i1, i2⟩ := ih (by omega)
    have e : ∃ hpo, A.fins (n + 1) = (A.fins n).fin n hpo := ⟨by omega, fins_succ _ _ (by omega)⟩
    obtain ⟨hpo, e⟩ := e
    rw [e]
    refine ⟨i1, fun x hx r d => ?_⟩
    by_cases ex : x = n
    · subst ex
      exact fin_out (by omega) hpo (i1 x (by omega)).1 (i1 x (by omega)).2 r d
    · rw [fin_other (by omega) ex]
      exact i2 x (by omega) r d

end Cert.Attend

end
-- ==== Proof.Value.lean ====
/-
  The run's result: at sound tables the result array is the quotient of the weighted sum and the sum of the weights.
-/
module

public import proofs.«01_k».proof.Proof.Frame
public import proofs.«01_k».proof.Proof.Counts

@[expose] public section

set_option maxRecDepth 100000

noncomputable section

namespace Cert.Attend

open Cert.Kernel Cert.Kernel.Gen
open Idealize.ShloMosaic.Rounds Idealize.ShloMosaic.Tactic
open Idealize.ShloMosaic.Pipeline (Dat Cfg Window BodyObligation BodyObligationLoose)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The result. -/
def Src.out (D : Src) : Vec Ideal S96x8x96 .f32 := fun i =>
  Ideal.div (D.O (i 0).val (⟨(i 1).val, (i 1).isLt⟩ : Fin 8) (⟨(i 2).val, (i 2).isLt⟩ : Fin 96) (nit (F := Ideal) D.win (i 0).val))
    (∑ l, D.L (i 0).val (⟨(i 1).val, (i 1).isLt⟩ : Fin 8) l (nit (F := Ideal) D.win (i 0).val))

variable (m : (ℓ : Loc nD τ sig) → Buf (Elt Ideal) ℓ) (ρ : Dev nD → PrngReg)

/-- The arguments as launched. -/
def src (c : Dev nD) : Src :=
  ⟨V m c main_arg0, V m c main_arg1, V m c main_arg2, V m c main_arg3, V m c main_arg4, V m c main_arg5, V m c main_arg6, V m c main_arg7, V m c main_arg8, V m c main_arg9⟩

theorem out_at (D : Src) {y : Cy} {A : AS Ideal} (ew : A.win = D.win) (h : JJ D 96 0 y A) : ((AS.drain A y).fins 96).out = D.out := by
  have := (fins_out (drained ew h) 96 le_rfl).2
  funext i
  have e : i = ix3 (pq (i 0).val) (⟨(i 1).val, (i 1).isLt⟩ : Fin 8) (⟨(i 2).val, (i 2).isLt⟩ : Fin 96) := by
    funext a
    have h0 : (i 0).val < 96 := (i 0).isLt
    match a with
    | ⟨0, _⟩ => exact Fin.ext (by show (i 0).val = (i 0).val % 96; omega)
    | ⟨1, _⟩ => rfl
    | ⟨2, _⟩ => rfl
  rw [e]
  refine (this (i 0).val (i 0).isLt _ _).trans ?_
  have h0 : (i 0).val % 96 = (i 0).val := Nat.mod_eq_of_lt (i 0).isLt
  unfold Src.out
  show _ = Ideal.div (D.O ((i 0).val % 96) _ _ (nit (F := Ideal) D.win ((i 0).val % 96))) (∑ l, D.L ((i 0).val % 96) _ l (nit (F := Ideal) D.win ((i 0).val % 96)))
  rw [h0]
  rfl

abbrev outs : Dev nD → Vec Ideal S96x8x96 .f32 := fun c => (src m c).out

set_option maxHeartbeats 1000000 in
theorem body_value (c : Dev nD) (hD : (src m c).Good) : BodyObligationLoose (dats m (outs m) 0 c) defs₀ Variants.none () Set.univ := fun t => by
  rw [bigSep_W0, bigSep_W0, defs₀_row]
  refine triple_restated (sound_body m (outs m) c t hD.wok (inv hD)
    (fun A' _ hi => JJ_init hD hi.q hi.ksel hi.m0 hi.l0 hi.o0)
    (iprop(∃ d, owns (c : Thread nD τ) (win0_6.stage (cfg0.slots t 6)) fullShare ((dats m (outs m) 0 c).before 6 t d)))
    (owns (c : Thread nD τ) (win0_6.stage (cfg0.slots t 6)) fullShare ((dats m (outs m) 0 c).after 6 t))
    (by iintro ⟨%d, H⟩; iexists _; iexact H) fun y A' ew h _ => ?_) rfl .rfl fun _ => .rfl
  rw [after6, out_at (src m c) ew h]

theorem flushed6 (c : Dev nD) (t : Fin cfg0.N) : (dats m (outs m) 0 c).flushed 6 t = ((cfg0.win 6).blk t).view.read (Elt Ideal) (outs m c) := by
  show (cfg0.win 6).cut (grid0.coords t) ((dats m (outs m) 0 c).after 6 t) = _
  rw [after6]
  funext j
  show outs m c j = outs m c (((cfg0.win 6).blk t).view.emb j)
  rw [blkEmb6]

theorem covered6 (i : S96x8x96.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [blkEmb6] at h⟩

theorem final6 (c : Dev nD) : (dats m (outs m) 0 c).arrAt 6 cfg0.N = outs m c :=
  (dats m (outs m) 0 c).arrAt_eq_of_cover 6 (outs m c) (fun t _ => flushed6 m c t) covered6

set_option backward.isDefEq.respectTransparency.types false in
theorem run_value (hD : ∀ c, (src m c).Good) : θ_run defs (onTc (τ := τ) (main (F := Ideal))) (s₀ m ρ)
    (fun r => Pipeline.FramePost cfgs (dats m (outs m)) (0 : Fin 1) (V m) r ∧ r.2.sem = fun _ => 0) :=
  Pipeline.θ_run_frame_dma (Q' := _) cfgs (dats m (outs m)) (0 : Fin 1) launch0 osem0 defs₀ Variants.none ownSemFacts0 H0 H0_sub m ρ main
    (hbody := fun c => body_value m c (hD c)) (hshare := fun c => (dats m (outs m) 0 c).share_full fun _ => rfl) (howed := fun _ _ => rfl) (V := V m)
    (hmain := hmain m Variants.none) (hA := A_eq m (outs m)) (hin := fun _ => .rfl) (hout := fun _ => .rfl)

/-- At sound tables the program terminates with the result in place and its arguments as they were. -/
theorem value (hD : ∀ c, (src m c).Good) : θ_run defs (onTc (τ := τ) (main (F := Ideal))) ⟨m, fun _ => 0, ρ⟩ (fun r => (∀ c : Dev nD,
      r.2.mem ((c.tc : Thread nD τ).loc main_v0) = (src m c).out ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))) :=
  (θ_run defs _ _).mono (fun r h => fun c => ⟨((h.1 c).1 6).trans (final6 m c), ((h.1 c).1 0).trans (((dats m (outs m) 0 c).arrAt_in 0 rfl _).trans (A_eq m (outs m) c 0)), ((h.1 c).1 1).trans (((dats m (outs m) 0 c).arrAt_in 1 rfl _).trans (A_eq m (outs m) c 1)), ((h.1 c).1 2).trans (((dats m (outs m) 0 c).arrAt_in 2 rfl _).trans (A_eq m (outs m) c 2)), ((h.1 c).1 3).trans (((dats m (outs m) 0 c).arrAt_in 3 rfl _).trans (A_eq m (outs m) c 3)), ((h.1 c).1 4).trans (((dats m (outs m) 0 c).arrAt_in 4 rfl _).trans (A_eq m (outs m) c 4)), ((h.1 c).1 5).trans (((dats m (outs m) 0 c).arrAt_in 5 rfl _).trans (A_eq m (outs m) c 5)), (h.1 c).2 main_arg6 (Pipeline.mem_restRefs_of main_arg6 (by decide) (by decide)), (h.1 c).2 main_arg7 (Pipeline.mem_restRefs_of main_arg7 (by decide) (by decide)), (h.1 c).2 main_arg8 (Pipeline.mem_restRefs_of main_arg8 (by decide) (by decide)), (h.1 c).2 main_arg9 (Pipeline.mem_restRefs_of main_arg9 (by decide) (by decide))⟩) (run_value m ρ hD)

end Cert.Attend

end
-- ==== Proof.Ref.lean ====
/-
  The reference read slot by slot: its result is the quotient of the same weighted sum and the same sum of weights.
-/
module

public import proofs.«01_k».proof.Proof.Inside
public import proofs.«01_k».proof.Proof.Sem
public import proofs.«01_k».proof.Proof.Gen.ReferenceIdeal.Read
public import Idealize.ShloMosaic.Lib.BitcastConvert

@[expose] public section

set_option maxRecDepth 100000

noncomputable section

namespace Cert.Attend

open Cert.ReferenceIdeal Cert.ReferenceIdeal.Gen Cert.ReferenceIdeal.Read
open Idealize.ShloMosaic Idealize.ShloMosaic.TcCoe
open Finset (range)

/-! ## Elements picked from a flat array by an array of indices -/

/-- The numbers of a gather of single elements of a flat array at an array of indices. -/
def take3 (N A B C : ℕ) (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

def take3Idx {A B C : ℕ} (y : (⟨3, ![A, B, C]⟩ : Shape).Idx) : (⟨4, ![A, B, C, 1]⟩ : Shape).Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨0, Nat.one_pos⟩

theorem take3_apply {α : Type} {w N A B C : ℕ} (hN : 0 < N) (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (y : (⟨3, ![A, B, C]⟩ : Shape).Idx) :
    Host.gather (take3 N A B C wf) x idx y = x (ix1 ⟨min (idx (take3Idx y)).toInt.toNat (N - 1), by omega⟩) := by
  unfold Host.gather
  congr 1
  funext a
  obtain rfl : a = 0 := Subsingleton.elim _ _
  refine Fin.ext ?_
  show (take3 N A B C wf).start y idx 0 + (take3 N A B C wf).batchCoord y 0 + (take3 N A B C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take3 N A B C wf).startIndexMap from List.mem_singleton.mpr rfl)]
  have hsi : (take3 N A B C wf).siIdx y ⟨List.idxOf (0 : Fin 1) (take3 N A B C wf).startIndexMap,
      List.idxOf_lt_length_iff.2 (List.mem_singleton.mpr rfl)⟩ = take3Idx y := by
    funext b; refine Fin.ext ?_
    match b with
    | ⟨0, _⟩ => rfl
    | ⟨1, _⟩ => rfl
    | ⟨2, _⟩ => rfl
    | ⟨3, _⟩ => rfl
  rw [hsi]
  rfl

/-! ## Words -/

theorem toInt_nat {n : ℕ} (h : n < 2147483648) : (BitVec.ofNat 32 n).toInt = n := by
  rw [BitVec.toInt_eq_toNat_cond, BitVec.toNat_ofNat, Nat.mod_eq_of_lt (by omega), if_pos (by omega)]

theorem toInt_toNat {x : BitVec 32} (h : x.toNat < 2147483648) : x.toInt.toNat = x.toNat := by
  rw [BitVec.toInt_eq_toNat_cond, if_pos (by omega)]; exact Int.toNat_natCast _

theorem shr9 (x : BitVec 32) : IntOp.shrsi .host x 9#32 = x.sshiftRight 9 := by
  unfold IntOp.shrsi
  rw [if_pos (by decide)]
  rfl

theorem shr7 {k : ℕ} (hk : k < 32768) : IntOp.shrsi .host (BitVec.ofNat 32 k) 7#32 = BitVec.ofNat 32 (k / 128) := by
  unfold IntOp.shrsi
  rw [if_pos (by decide)]
  show (BitVec.ofNat 32 k).sshiftRight 7 = _
  refine BitVec.eq_of_toInt_eq ?_
  rw [BitVec.toInt_sshiftRight, toInt_nat (by omega), toInt_nat (by omega), Int.shiftRight_eq_div_pow]
  norm_num

theorem and127 {k : ℕ} (hk : k < 32768) : (BitVec.ofNat 32 k &&& 127#32).toNat = k % 128 := by
  rw [BitVec.toNat_and, BitVec.toNat_ofNat, Nat.mod_eq_of_lt (by omega)]
  exact Nat.and_two_pow_sub_one_eq_mod k 7

/-- A slot's lane. -/
abbrev ln (k : ℕ) : Fin 128 := ⟨k % 128, Nat.mod_lt _ (by decide)⟩

variable {D : Src}

/-! ## The slots -/

theorem r_code (i : S96x32768.Idx) : val_main_v2 (F := Ideal) D.tbl i = D.code (i 0).val ((i 1).val / 128) (ln (i 1).val) := by
  have h0 : (i 0).val < 96 := (i 0).isLt
  have h1 : (i 1).val < 32768 := (i 1).isLt
  rw [val_main_v2_apply]
  unfold Src.code tblIx
  refine congrArg D.tbl (funext fun a => Fin.ext ?_)
  match a with
  | ⟨0, _⟩ => show ((i 0).val * 32768 + (i 1).val) / 128 = (256 * (i 0).val + (i 1).val / 128) % 24576; omega
  | ⟨1, _⟩ => show ((i 0).val * 32768 + (i 1).val) % 128 = (i 1).val % 128; omega

theorem r_rows (i : S96x32768.Idx) : val_main_v12 (F := Ideal) D.win i = rowsW (F := Ideal) D.win (i 0).val := by
  have h0 : (i 0).val < 96 := (i 0).isLt
  rw [val_main_v12_apply, val_main_v1_apply, val_main_v0_apply]
  unfold rowsW
  refine congrArg D.win (funext fun a => Fin.ext ?_)
  match a with
  | ⟨0, _⟩ => show (i 0).val * 272 + (256 + 0) = (272 * (i 0).val + 256) % 26112; omega

/-- Whether a slot counts. -/
abbrev Src.on (D : Src) (p row : ℕ) (l : Fin 128) : Prop := row < 8 * nit (F := Ideal) D.win p ∧ D.live p row l

theorem r_slt (hD : D.Good) {p row : ℕ} (hp : p < 96) (hr : row < 256) :
    IntOp.cmpi .slt (BitVec.ofNat 32 row &&& 4294967288#32) (rowsW (F := Ideal) D.win p) = BitVec.ofBool (decide (row < 8 * nit (F := Ideal) D.win p)) := by
  refine congrArg BitVec.ofBool ?_
  have h := hD.wok.rows p hp
  have hm : (BitVec.ofNat 32 row &&& 4294967288#32).toInt = 8 * (row / 8 : ℕ) := low_mask ⟨row, hr⟩
  have ht := BitVec.toInt_eq_toNat_cond (rowsW (F := Ideal) D.win p)
  rw [if_pos (by omega)] at ht
  refine Bool.eq_iff_iff.mpr ((BitVec.slt_iff_toInt_lt).trans ?_)
  rw [decide_eq_true_iff, hm, ht]
  unfold nit
  omega

theorem r_live (hD : D.Good) (i : S96x32768.Idx) : val_main_v14 (F := Ideal) D.win D.tbl i = BitVec.ofBool (decide (D.on (i 0).val ((i 1).val / 128) (ln (i 1).val))) := by
  have h0 : (i 0).val < 96 := (i 0).isLt
  have h1 : (i 1).val < 32768 := (i 1).isLt
  rw [val_main_v14_apply, val_main_v13_apply, r_rows, val_main_v11_apply, val_main_v9_apply, val_main_v8_apply, val_main_c_1_apply, val_main_v3_apply, shr7 h1,
    val_main_v10_apply, val_main_c_2_apply, val_main_v7_apply, val_main_v5_apply, val_main_v4_apply, val_main_c_apply, val_main_v6_apply, val_main_c_0_apply, r_code]
  show IntOp.cmpi .ne (D.code (i 0).val ((i 1).val / 128) (ln (i 1).val) &&& 511#32) 511#32
    &&& IntOp.cmpi .slt (BitVec.ofNat 32 ((i 1).val / 128) &&& 4294967288#32) (rowsW (F := Ideal) D.win (i 0).val) = _
  rw [r_slt hD h0 (by omega)]
  by_cases hr : (i 1).val / 128 < 8 * nit (F := Ideal) D.win (i 0).val
  · by_cases hl : D.live (i 0).val ((i 1).val / 128) (ln (i 1).val)
    · rw [decide_eq_true hr, decide_eq_true (show D.on _ _ _ from ⟨hr, hl⟩)]
      have hb : (D.code (i 0).val ((i 1).val / 128) (ln (i 1).val) &&& 511#32 != 511#32) = true := bne_iff_ne.mpr hl
      show BitVec.ofBool (D.code (i 0).val ((i 1).val / 128) (ln (i 1).val) &&& 511#32 != 511#32) &&& _ = _
      rw [hb]; rfl
    · rw [decide_eq_true hr, decide_eq_false (show ¬ D.on _ _ _ from fun h => hl h.2)]
      have he : D.code (i 0).val ((i 1).val / 128) (ln (i 1).val) &&& 511#32 = 511#32 := not_not.mp hl
      rw [he]; rfl
  · rw [decide_eq_false hr, decide_eq_false (show ¬ D.on _ _ _ from fun h => hr h.1)]
    exact BitVec.and_zero

theorem tok_lt (hD : D.Good) {p row : ℕ} (hp : p < 96) {l : Fin 128} (h : D.on p row l) : D.tok p row l < 32768 := by
  have hn := hD.wok.nit_le hp
  have hwo : 272 * p + row + 1 ≤ 26112 := by have := h.1; omega
  obtain ⟨n, hn⟩ := hD.ahead p hp row h.1 l h.2 hwo
  have ha := hD.wok.start p hp row h.1 hwo
  have e : D.code p row l &&& 511#32 = BitVec.ofNat 32 n.val + winAt (F := Ideal) D.win (272 * p + row) hwo := by
    rw [← hn, BitVec.sub_add_cancel]
  have hl := l.isLt
  have hn16 := n.isLt
  unfold Src.tok
  rw [e, BitVec.toNat_add, BitVec.toNat_ofNat]
  omega

theorem r_idx (hD : D.Good) (i : S96x96x32768.Idx) (h : D.on (i 0).val ((i 2).val / 128) (ln (i 2).val)) :
    (val_main_v34 (F := Ideal) D.tbl i).toNat = ((i 0).val * 96 + (i 1).val) * 32768 + D.tok (i 0).val ((i 2).val / 128) (ln (i 2).val) := by
  have h0 : (i 0).val < 96 := (i 0).isLt
  have h1 : (i 1).val < 96 := (i 1).isLt
  have h2 : (i 2).val < 32768 := (i 2).isLt
  have ht := tok_lt hD h0 h
  rw [val_main_v34_apply, val_main_v32_apply, val_main_v30_apply, val_main_v29_apply, val_main_c_8_apply, val_main_v28_apply, val_main_v27_apply, val_main_v26_apply, val_main_v25_apply, val_main_c_7_apply, val_main_v24_apply,
    val_main_v33_apply, val_main_v31_apply, val_main_v19_apply, val_main_v18_apply, val_main_v17_apply, val_main_c_4_apply, val_main_v3_apply, val_main_v16_apply, val_main_v15_apply, val_main_c_3_apply, val_main_v5_apply, val_main_v4_apply, val_main_c_apply, r_code]
  show ((BitVec.ofNat 32 (i 0).val * 96#32 + BitVec.ofNat 32 (i 1).val) * 32768#32
    + ((D.code (i 0).val ((i 2).val / 128) (ln (i 2).val) &&& 511#32) * 128#32 + (BitVec.ofNat 32 (i 2).val &&& 127#32))).toNat = _
  unfold Src.tok at ht ⊢
  generalize D.code (i 0).val ((i 2).val / 128) (ln (i 2).val) &&& 511#32 = t at ht ⊢
  have e1 : (96#32 : BitVec 32).toNat = 96 := rfl
  have e2 : (32768#32 : BitVec 32).toNat = 32768 := rfl
  have e3 : (128#32 : BitVec 32).toNat = 128 := rfl
  have e4 : (BitVec.ofNat 32 (i 0).val).toNat = (i 0).val := by rw [BitVec.toNat_ofNat]; omega
  have e5 : (BitVec.ofNat 32 (i 1).val).toNat = (i 1).val := by rw [BitVec.toNat_ofNat]; omega
  have ht' : t.toNat * 128 + (i 2).val % 128 < 32768 := ht
  show _ = ((i 0).val * 96 + (i 1).val) * 32768 + (t.toNat * 128 + (i 2).val % 128)
  simp only [BitVec.toNat_add, BitVec.toNat_mul, e1, e2, e3, e4, e5, and127 h2]
  omega

theorem r_clus (i : S96x32768.Idx) : val_main_v23 (F := Ideal) D.tbl i = D.clus (i 0).val ((i 1).val / 128) (ln (i 1).val) := by
  rw [val_main_v23_apply, val_main_v22_apply, val_main_c_6_apply, val_main_v21_apply, val_main_v20_apply, val_main_c_5_apply, r_code, shr9]
  rfl

theorem r_sidx (hD : D.Good) (i : S96x96x32768.Idx) (h : D.on (i 0).val ((i 2).val / 128) (ln (i 2).val)) :
    (val_main_v53 (F := Ideal) D.tbl i).toNat = ((i 0).val * 96 + (i 1).val) * 128 + (D.clus (i 0).val ((i 2).val / 128) (ln (i 2).val)).toNat := by
  have h0 : (i 0).val < 96 := (i 0).isLt
  have h1 : (i 1).val < 96 := (i 1).isLt
  have hc := hD.clus _ h0 _ h.1 _ h.2
  rw [val_main_v53_apply, val_main_v51_apply, val_main_v49_apply, val_main_v48_apply, val_main_c_9_apply, val_main_v28_apply, val_main_v27_apply, val_main_v26_apply, val_main_v25_apply, val_main_c_7_apply, val_main_v24_apply,
    val_main_v52_apply, val_main_v50_apply, r_clus]
  show ((BitVec.ofNat 32 (i 0).val * 96#32 + BitVec.ofNat 32 (i 1).val) * 128#32 + D.clus (i 0).val ((i 2).val / 128) (ln (i 2).val)).toNat = _
  have e1 : (96#32 : BitVec 32).toNat = 96 := rfl
  have e3 : (128#32 : BitVec 32).toNat = 128 := rfl
  have e4 : (BitVec.ofNat 32 (i 0).val).toNat = (i 0).val := by rw [BitVec.toNat_ofNat]; omega
  have e5 : (BitVec.ofNat 32 (i 1).val).toNat = (i 1).val := by rw [BitVec.toNat_ofNat]; omega
  simp only [BitVec.toNat_add, BitVec.toNat_mul, e1, e3, e4, e5]
  omega

/-! ## Keys, scales and values -/

theorem r_kc (hD : D.Good) (i : S96x96x32768.Idx) (h : D.on (i 0).val ((i 2).val / 128) (ln (i 2).val)) :
    val_main_v36 (F := Ideal) D.kt D.tbl i = D.kc (i 0).val ((i 2).val / 128) (ln (i 2).val) (⟨(i 1).val, (i 1).isLt⟩ : Fin 96) := by
  have h0 : (i 0).val < 96 := (i 0).isLt
  have h1 : (i 1).val < 96 := (i 1).isLt
  have ht := tok_lt hD h0 h
  have hi : (val_main_v34 (F := Ideal) D.tbl (idx_main_call0_v0 (take3Idx i))).toNat = ((i 0).val * 96 + (i 1).val) * 32768 + D.tok (i 0).val ((i 2).val / 128) (ln (i 2).val) :=
    r_idx hD (idx_main_call0_v0 (take3Idx i)) h
  have hx : min (val_main_call0_v0 (F := Ideal) D.tbl (take3Idx i)).toInt.toNat (301989888 - 1) = ((i 0).val * 96 + (i 1).val) * 32768 + D.tok (i 0).val ((i 2).val / 128) (ln (i 2).val) := by
    rw [val_main_call0_v0_apply, toInt_toNat (by omega), hi]; omega
  refine (take3_apply (N := 301989888) (A := 96) (B := 96) (C := 32768) (by decide) gather_S301989888_S96x96x32768x1_S96x96x32768_n_0_n_n_0_3_1_wf (val_main_v35 (F := Ideal) D.kt) (val_main_call0_v0 (F := Ideal) D.tbl) i).trans ?_
  rw [val_main_v35_apply]
  unfold Src.kc kIx
  refine congrArg D.kt (funext fun a => Fin.ext ?_)
  match a with
  | ⟨0, _⟩ => show min (val_main_call0_v0 (F := Ideal) D.tbl (take3Idx i)).toInt.toNat (301989888 - 1) / 25165824 = (i 0).val / 8 % 12; rw [hx]; omega
  | ⟨1, _⟩ => show min (val_main_call0_v0 (F := Ideal) D.tbl (take3Idx i)).toInt.toNat (301989888 - 1) / 3145728 % 8 = (i 0).val % 8; rw [hx]; omega
  | ⟨2, _⟩ => show min (val_main_call0_v0 (F := Ideal) D.tbl (take3Idx i)).toInt.toNat (301989888 - 1) / 32768 % 96 = (i 1).val; rw [hx]; omega
  | ⟨3, _⟩ => show min (val_main_call0_v0 (F := Ideal) D.tbl (take3Idx i)).toInt.toNat (301989888 - 1) % 32768 = D.tok (i 0).val ((i 2).val / 128) (ln (i 2).val) % 32768; rw [hx]; omega

theorem r_vc (hD : D.Good) (i : S96x96x32768.Idx) (h : D.on (i 0).val ((i 2).val / 128) (ln (i 2).val)) :
    val_main_v41 (F := Ideal) D.vt D.tbl i = D.vc (i 0).val ((i 2).val / 128) (ln (i 2).val) (⟨(i 1).val, (i 1).isLt⟩ : Fin 96) :=
  r_kc (D := { D with kt := D.vt }) ⟨hD.wok, hD.ahead, hD.clus, hD.level, hD.fin, hD.begun⟩ i h

theorem r_scale (hD : D.Good) (i : S96x96x32768.Idx) (h : D.on (i 0).val ((i 2).val / 128) (ln (i 2).val)) :
    val_main_v54 (F := Ideal) D.ksel D.tbl i = D.scale (i 0).val ((i 2).val / 128) (ln (i 2).val) (⟨(i 1).val, (i 1).isLt⟩ : Fin 96) := by
  have h0 : (i 0).val < 96 := (i 0).isLt
  have h1 : (i 1).val < 96 := (i 1).isLt
  have hc := hD.clus _ h0 _ h.1 _ h.2
  have hi : (val_main_v53 (F := Ideal) D.tbl (idx_main_call2_v0 (take3Idx i))).toNat = ((i 0).val * 96 + (i 1).val) * 128 + (D.clus (i 0).val ((i 2).val / 128) (ln (i 2).val)).toNat :=
    r_sidx hD (idx_main_call2_v0 (take3Idx i)) h
  have hx : min (val_main_call2_v0 (F := Ideal) D.tbl (take3Idx i)).toInt.toNat (1179648 - 1) = ((i 0).val * 96 + (i 1).val) * 128 + (D.clus (i 0).val ((i 2).val / 128) (ln (i 2).val)).toNat := by
    rw [val_main_call2_v0_apply, toInt_toNat (by omega), hi]; omega
  refine (take3_apply (N := 1179648) (A := 96) (B := 96) (C := 32768) (by decide) gather_S1179648_S96x96x32768x1_S96x96x32768_n_0_n_n_0_3_1_wf (val_main_v47 (F := Ideal) D.ksel) (val_main_call2_v0 (F := Ideal) D.tbl) i).trans ?_
  rw [val_main_v47_apply, val_main_v46_apply]
  unfold Src.scale
  refine congrArg (Ideal.ofBits .bf16) (congrArg₂ (fun (x : S96x48x128.Idx) (n : ℕ) => ((D.ksel x : BitVec 32).extractLsb' (n * 16) 16)) (funext fun a => Fin.ext ?_) ?_)
  · match a with
    | ⟨0, _⟩ => show min (val_main_call2_v0 (F := Ideal) D.tbl (take3Idx i)).toInt.toNat (1179648 - 1) / 12288 = (i 0).val % 96; rw [hx]; omega
    | ⟨1, _⟩ => show min (val_main_call2_v0 (F := Ideal) D.tbl (take3Idx i)).toInt.toNat (1179648 - 1) / 256 % 48 = (i 1).val / 2; rw [hx]; omega
    | ⟨2, _⟩ => show min (val_main_call2_v0 (F := Ideal) D.tbl (take3Idx i)).toInt.toNat (1179648 - 1) % 128 = (D.clus (i 0).val ((i 2).val / 128) (ln (i 2).val)).toNat % 128; rw [hx]; omega
  · show min (val_main_call2_v0 (F := Ideal) D.tbl (take3Idx i)).toInt.toNat (1179648 - 1) / 128 % 2 = (i 1).val % 2; rw [hx]; omega

theorem r_key (hD : D.Good) (i : S96x96x32768.Idx) (h : D.on (i 0).val ((i 2).val / 128) (ln (i 2).val)) :
    val_main_v55 (F := Ideal) D.ksel D.kt D.tbl i = D.key (i 0).val ((i 2).val / 128) (ln (i 2).val) (⟨(i 1).val, (i 1).isLt⟩ : Fin 96) := by
  rw [val_main_v55_apply, val_main_v39_apply, val_main_v38_apply, val_main_v37_apply, r_kc hD i h, r_scale hD i h]
  show ((((D.kc (i 0).val ((i 2).val / 128) (ln (i 2).val) (⟨(i 1).val, (i 1).isLt⟩ : Fin 96)).signExtend 32).toInt : ℝ) : EReal) * _ = _
  rw [BitVec.toInt_signExtend_of_le (by decide)]
  rfl

theorem r_v (hD : D.Good) (i : S96x96x32768.Idx) (h : D.on (i 0).val ((i 2).val / 128) (ln (i 2).val)) :
    val_main_v44 (F := Ideal) D.vt D.tbl i = D.v (i 0).val (⟨(i 1).val, (i 1).isLt⟩ : Fin 96) ((i 2).val / 128) (ln (i 2).val) := by
  rw [val_main_v44_apply, val_main_v43_apply, val_main_v42_apply, r_vc hD i h]
  show ((((D.vc (i 0).val ((i 2).val / 128) (ln (i 2).val) (⟨(i 1).val, (i 1).isLt⟩ : Fin 96)).signExtend 32).toInt : ℝ) : EReal) = _
  rw [BitVec.toInt_signExtend_of_le (by decide)]
  rfl

/-! ## Scores, maximum and weights -/

abbrev rr (x : ℕ) (h : x < 8) : Fin 8 := ⟨x, h⟩

theorem r_s (hD : D.Good) (i : S96x8x32768.Idx) : val_main_v60 (F := Ideal) D.win D.q D.ksel D.kt D.tbl i
    = if (i 2).val / 128 < 8 * nit (F := Ideal) D.win (i 0).val then D.sc (i 0).val (rr (i 1).val (i 1).isLt) ((i 2).val / 128) (ln (i 2).val) else ⊥ := by
  have h0 : (i 0).val < 96 := (i 0).isLt
  rw [val_main_v60_apply, val_main_call3_v1_apply, val_main_v59_apply, r_live hD, val_main_call3_v2_apply, val_main_call3_v0_apply, val_main_cst_10_apply]
  show Scalar.select (BitVec.ofBool (decide (D.on (i 0).val ((i 2).val / 128) (ln (i 2).val)))) _ (Ideal.ofBits .f32 0xFF800000#32) = _
  rw [negInf]
  by_cases h : D.on (i 0).val ((i 2).val / 128) (ln (i 2).val)
  · rw [decide_eq_true h, if_pos h.1]
    unfold Src.sc
    rw [if_pos h.2]
    show val_main_v58 (F := Ideal) D.q D.ksel D.kt D.tbl i = _
    rw [val_main_v58_apply, val_main_v57_apply, val_main_cst_apply, val_main_v56_apply]
    refine congrArg (· * scl) (Finset.sum_congr rfl fun d _ => ?_)
    have ek : val_main_v55 (F := Ideal) D.ksel D.kt D.tbl (ridx_main_v56 i d) = D.key (i 0).val ((i 2).val / 128) (ln (i 2).val) d := r_key hD (ridx_main_v56 i d) h
    rw [ek]
    refine congrArg (· * _) (congrArg D.q (funext fun a => Fin.ext ?_))
    match a with
    | ⟨0, _⟩ => show (i 0).val = (i 0).val % 96; omega
    | ⟨1, _⟩ => rfl
    | ⟨2, _⟩ => rfl
  · rw [decide_eq_false h]
    show (⊥ : EReal) = _
    by_cases hr : (i 2).val / 128 < 8 * nit (F := Ideal) D.win (i 0).val
    · rw [if_pos hr]
      unfold Src.sc
      rw [if_neg fun hl => h ⟨hr, hl⟩]
    · rw [if_neg hr]

theorem red : S96x8x32768.Reduces [2] S96x8 := by decide

theorem r_max (hD : D.Good) (i : S96x8x1.Idx) : val_main_v64 (F := Ideal) D.win D.q D.ksel D.m0 D.kt D.tbl i
    = D.M (i 0).val (rr (i 1).val (i 1).isLt) (nit (F := Ideal) D.win (i 0).val) := by
  have h0 : (i 0).val < 96 := (i 0).isLt
  have h2 : (i 2).val < 1 := (i 2).isLt
  rw [val_main_v64_apply, val_main_v61_apply, val_main_v63_apply]
  unfold val_main_v62
  rw [Host.reduce_eq_fold_single FloatOps.maximumf _ _ reducesTo_S96x8x32768_S96x8_d2 red h_S_]
  have em : D.m0 (idx_main_v61 i) = D.m0 (ix3 (pq (i 0).val) (rr (i 1).val (i 1).isLt) 0) := congrArg D.m0 (funext fun a => Fin.ext (by
    match a with
    | ⟨0, _⟩ => show (i 0).val = (i 0).val % 96; omega
    | ⟨1, _⟩ => rfl
    | ⟨2, _⟩ => show (i 2).val = 0; omega))
  rw [em]
  have ei : (val_main_cst_11 (F := Ideal)) (Shape.Idx.first h_S_) = (⊥ : EReal) := (val_main_cst_11_apply _).trans negInf
  rw [ei]
  unfold Src.M
  exact MX_slots _ _ _ (hD.wok.nit_le h0) (fun k => val_main_v60 (F := Ideal) D.win D.q D.ksel D.kt D.tbl (red.lift (idx_main_v63 i) k)) (fun k => r_s hD (red.lift (idx_main_v63 i) k))

/-- The maximum over all of a pair's rows. -/
abbrev Src.T (D : Src) (p : ℕ) (r : Fin 8) : EReal := D.M p r (nit (F := Ideal) D.win p)

theorem r_e (hD : D.Good) (i : S96x8x32768.Idx) : val_main_v67 (F := Ideal) D.win D.q D.ksel D.m0 D.kt D.tbl i
    = if (i 2).val / 128 < 8 * nit (F := Ideal) D.win (i 0).val then Ideal.exp (D.sc (i 0).val (rr (i 1).val (i 1).isLt) ((i 2).val / 128) (ln (i 2).val) - D.T (i 0).val (rr (i 1).val (i 1).isLt)) else 0 := by
  rw [val_main_v67_apply, val_main_v66_apply, val_main_v65_apply, r_max hD, r_s hD]
  show Ideal.exp ((if _ then _ else ⊥) - D.T (i 0).val (rr (i 1).val (i 1).isLt)) = _
  split
  · rfl
  · rw [bot_sub', Ideal.exp_bot]

theorem r_m0 (hD : D.Good) {p : ℕ} (hp : p < 96) {r : Fin 8} (x : S96x8x128.Idx) (h0 : (x 0).val = p) (h1 : (x 1).val = r.val) : D.m0 x = D.m0 (ix3 (pq p) r 0) := by
  refine (congrArg D.m0 (?_ : x = ix3 (pq p) r (⟨(x 2).val, (x 2).isLt⟩ : Fin 128))).trans (hD.level _ _ _)
  funext a
  match a with
  | ⟨0, _⟩ => exact Fin.ext (by show (x 0).val = p % 96; omega)
  | ⟨1, _⟩ => exact Fin.ext h1
  | ⟨2, _⟩ => rfl

theorem r_den (hD : D.Good) (i : S96x8x1.Idx) : val_main_v76 (F := Ideal) D.win D.q D.ksel D.m0 D.l0 D.kt D.tbl i
    = ∑ l, D.L (i 0).val (rr (i 1).val (i 1).isLt) l (nit (F := Ideal) D.win (i 0).val) := by
  have h0 : (i 0).val < 96 := (i 0).isLt
  obtain ⟨hm, hm'⟩ := hD.fin (pq (i 0).val) (rr (i 1).val (i 1).isLt)
  unfold Src.L
  simp only [LS_eq _ hm hm']
  rw [Finset.sum_add_distrib, Finset.sum_comm, val_main_v76_apply, val_main_v73_apply, val_main_v75_apply, val_main_v72_apply, val_main_v74_apply]
  have e1 : (val_main_cst_12 (F := Ideal)) (Shape.Idx.first h_S_) = (0 : EReal) := (val_main_cst_12_apply _).trans Ideal.ofBits_zero_f32
  have e2 : (val_main_cst_13 (F := Ideal)) (Shape.Idx.first h_S_) = (0 : EReal) := (val_main_cst_13_apply _).trans Ideal.ofBits_zero_f32
  rw [e1, e2, zero_add, zero_add]
  refine congrArg₂ (fun a b : EReal => a + b) (Finset.sum_congr rfl fun l _ => ?_) ?_
  · rw [val_main_v71_apply, val_main_v70_apply, val_main_v69_apply, val_main_v68_apply, r_max hD]
    have em : D.m0 (idx_main_v72 (idx_main_v73 i) l) = D.m0 (ix3 (pq (i 0).val) (rr (i 1).val (i 1).isLt) 0) := r_m0 hD h0 _ rfl rfl
    rw [em]
    refine congrArg₂ (fun a b : EReal => a * b) (congrArg D.l0 (funext fun a => Fin.ext ?_)) rfl
    match a with
    | ⟨0, _⟩ => show (i 0).val = (i 0).val % 96; omega
    | ⟨1, _⟩ => rfl
    | ⟨2, _⟩ => rfl
  · refine (Finset.sum_congr rfl fun k _ => r_e hD (idx_main_v74 (idx_main_v75 i) k)).trans ?_
    refine (sum_slots (fun row l => if row < 8 * nit (F := Ideal) D.win (i 0).val then Ideal.exp (D.sc (i 0).val (rr (i 1).val (i 1).isLt) row l - D.T (i 0).val (rr (i 1).val (i 1).isLt)) else 0)
      (nit (F := Ideal) D.win (i 0).val) (hD.wok.nit_le h0) fun row hr _ l => if_neg (by omega)).trans ?_
    refine Finset.sum_congr rfl fun row hr => Finset.sum_congr rfl fun l _ => ?_
    exact if_pos (Finset.mem_range.mp hr)

/-! ## The quotient -/

theorem inv_nonneg' {x : EReal} (h : 0 < x) : 0 ≤ x⁻¹ := EReal.inv_nonneg_of_nonneg h.le

theorem inv_ne_top' {x : EReal} (h : 0 < x) : x⁻¹ ≠ ⊤ := by
  induction x using EReal.rec with
  | bot => exact absurd h (by simp)
  | top => rw [EReal.inv_top]; exact EReal.zero_ne_top
  | coe r => rw [← EReal.coe_inv]; exact EReal.coe_ne_top _

/-- A sum over a positive number, divided term by term. -/
theorem div_sum {ι : Type} (S : Finset ι) (A : EReal) (E w v : ι → EReal) {x : EReal} (h : 0 < x) :
    Ideal.div (A + ∑ k ∈ S, E k * w k * v k) x = Ideal.div A x + ∑ k ∈ S, Ideal.div (E k) x * w k * v k := by
  have e (y : EReal) : Ideal.div y x = y * x⁻¹ := if_neg h.ne'
  simp only [e]
  rw [EReal.right_distrib_of_nonneg_of_ne_top (inv_nonneg' h) (inv_ne_top' h), sum_mul' _ _ (inv_nonneg' h) (inv_ne_top' h)]
  refine congrArg (_ + ·) (Finset.sum_congr rfl fun k _ => ?_)
  rw [mul_right_comm (E k * w k), mul_right_comm (E k)]

/-- The sum of a row's weights. -/
abbrev Src.W (D : Src) (p : ℕ) (r : Fin 8) : EReal := ∑ l, D.L p r l (nit (F := Ideal) D.win p)

theorem W_eq (hD : D.Good) (p : ℕ) (r : Fin 8) : D.W p r = (∑ l, (D.l0 (ix3 (pq p) r l) : EReal)) * Ideal.exp (D.m0 (ix3 (pq p) r 0) - D.T p r)
    + ∑ l, ∑ row ∈ range (8 * nit (F := Ideal) D.win p), Ideal.exp (D.sc p r row l - D.T p r) := by
  obtain ⟨hm, hm'⟩ := hD.fin (pq p) r
  unfold Src.W Src.L
  simp only [LS_eq _ hm hm']
  rw [Finset.sum_add_distrib]
  refine congrArg (· + _) (sum_mul' _ _ (exp_nonneg _) (exp_sub_ne_top (m0_le _ _ _))).symm

theorem W_top (hD : D.Good) {p : ℕ} {r : Fin 8} (h : D.T p r = ⊤) : D.W p r = 0 := by
  rw [W_eq hD, h]
  simp only [sub_top', Ideal.exp_bot, mul_zero, Finset.sum_const_zero, add_zero]

theorem W_pos (hD : D.Good) {p : ℕ} {r : Fin 8} (h : D.T p r ≠ ⊤) : 0 < D.W p r := by
  obtain ⟨hm, hm'⟩ := hD.fin (pq p) r
  have hT : (D.m0 (ix3 (pq p) r 0) : EReal) ≤ D.T p r := m0_le _ _ _
  have he : 0 < Ideal.exp (D.m0 (ix3 (pq p) r 0) - D.T p r) := by
    generalize D.T p r = T at h hT
    generalize (D.m0 (ix3 (pq p) r 0) : EReal) = y at hm hm' hT
    lift y to ℝ using ⟨hm', hm⟩
    induction T using EReal.rec with
    | bot => exact absurd hT (by simp)
    | top => exact absurd rfl h
    | coe t => rw [← EReal.coe_sub]; exact EReal.coe_pos.mpr (Real.exp_pos _)
  rw [W_eq hD]
  refine lt_of_lt_of_le (EReal.mul_pos (hD.begun (pq p) r) he) (le_add_of_nonneg_right ?_)
  exact Finset.sum_nonneg fun l _ => Finset.sum_nonneg fun row _ => exp_nonneg _

theorem r_start (hD : D.Good) (i : S96x8x96.Idx) : val_main_v89 (F := Ideal) D.win D.q D.ksel D.m0 D.l0 D.o0 D.kt D.tbl i
    = Ideal.div (D.o0 (ix3 (pq (i 0).val) (rr (i 1).val (i 1).isLt) (⟨(i 2).val, (i 2).isLt⟩ : Fin 96)) * Ideal.exp (D.m0 (ix3 (pq (i 0).val) (rr (i 1).val (i 1).isLt) 0) - D.T (i 0).val (rr (i 1).val (i 1).isLt)))
      (D.W (i 0).val (rr (i 1).val (i 1).isLt)) := by
  have h0 : (i 0).val < 96 := (i 0).isLt
  rw [val_main_v89_apply, val_main_v88_apply, r_den hD, val_main_v87_apply, val_main_v86_apply, val_main_v85_apply, val_main_v84_apply, val_main_v83_apply, r_max hD]
  have em : D.m0 (idx_main_v83 (idx_main_v86 i)) = D.m0 (ix3 (pq (i 0).val) (rr (i 1).val (i 1).isLt) 0) := r_m0 hD h0 _ rfl rfl
  rw [em]
  refine congrArg₂ Ideal.div (congrArg₂ (fun a b : EReal => a * b) (congrArg D.o0 (funext fun a => Fin.ext ?_)) rfl) rfl
  match a with
  | ⟨0, _⟩ => show (i 0).val = (i 0).val % 96; omega
  | ⟨1, _⟩ => rfl
  | ⟨2, _⟩ => rfl

theorem r_sum (hD : D.Good) (i : S96x8x96.Idx) (hW : 0 < D.W (i 0).val (rr (i 1).val (i 1).isLt)) : val_main_v90 (F := Ideal) D.win D.q D.ksel D.m0 D.l0 D.kt D.vt D.tbl D.vst i
    = ∑ row ∈ range (8 * nit (F := Ideal) D.win (i 0).val), ∑ l, Ideal.div (Ideal.exp (D.sc (i 0).val (rr (i 1).val (i 1).isLt) row l - D.T (i 0).val (rr (i 1).val (i 1).isLt))) (D.W (i 0).val (rr (i 1).val (i 1).isLt))
        * D.vs (i 0).val row l * D.v (i 0).val (⟨(i 2).val, (i 2).isLt⟩ : Fin 96) row l := by
  have h0 : (i 0).val < 96 := (i 0).isLt
  have hz : Ideal.div 0 (D.W (i 0).val (rr (i 1).val (i 1).isLt)) = 0 := (if_neg hW.ne').trans (zero_mul _)
  rw [val_main_v90_apply]
  refine Eq.trans ?_ ((sum_slots (fun row l => if row < 8 * nit (F := Ideal) D.win (i 0).val then
        Ideal.div (Ideal.exp (D.sc (i 0).val (rr (i 1).val (i 1).isLt) row l - D.T (i 0).val (rr (i 1).val (i 1).isLt))) (D.W (i 0).val (rr (i 1).val (i 1).isLt)) * D.vs (i 0).val row l * D.v (i 0).val (⟨(i 2).val, (i 2).isLt⟩ : Fin 96) row l else 0)
      (nit (F := Ideal) D.win (i 0).val) (hD.wok.nit_le h0) fun row hr _ l => if_neg (by omega)).trans ?_)
  · refine Finset.sum_congr rfl fun k _ => ?_
    have hk := k.isLt
    rw [val_main_v82_apply, val_main_v81_apply, val_main_v80_apply, val_main_v79_apply, val_main_v78_apply, val_main_v77_apply, r_den hD]
    have ee := r_e hD (lidx_main_v90 i k)
    have evs : D.vst (idx_main_v79 (idx_main_v80 (lidx_main_v90 i k))) = D.vs (i 0).val (k.val / 128) (ln k.val) := by
      unfold Src.vs tblIx
      refine congrArg D.vst (funext fun a => Fin.ext ?_)
      match a with
      | ⟨0, _⟩ => show (((i 0).val * 1 + 0) * 32768 + k.val) / 128 = (256 * (i 0).val + k.val / 128) % 24576; omega
      | ⟨1, _⟩ => show (((i 0).val * 1 + 0) * 32768 + k.val) % 128 = k.val % 128; omega
    show Ideal.div (val_main_v67 (F := Ideal) D.win D.q D.ksel D.m0 D.kt D.tbl (lidx_main_v90 i k)) (D.W (i 0).val (rr (i 1).val (i 1).isLt)) * D.vst (idx_main_v79 (idx_main_v80 (lidx_main_v90 i k))) * val_main_v44 (F := Ideal) D.vt D.tbl (ridx_main_v90 i k) = _
    rw [ee, evs]
    show Ideal.div (if k.val / 128 < 8 * nit (F := Ideal) D.win (i 0).val then Ideal.exp (D.sc (i 0).val (rr (i 1).val (i 1).isLt) (k.val / 128) (ln k.val) - D.T (i 0).val (rr (i 1).val (i 1).isLt)) else 0) _ * _ * _
      = if k.val / 128 < 8 * nit (F := Ideal) D.win (i 0).val then _ else 0
    by_cases hr : k.val / 128 < 8 * nit (F := Ideal) D.win (i 0).val
    · rw [if_pos hr, if_pos hr]
      by_cases hl : D.live (i 0).val (k.val / 128) (ln k.val)
      · exact congrArg (_ * ·) (r_v hD (ridx_main_v90 i k) ⟨hr, hl⟩)
      · have es : D.sc (i 0).val (rr (i 1).val (i 1).isLt) (k.val / 128) (ln k.val) = ⊥ := if_neg hl
        rw [es, bot_sub', Ideal.exp_bot, hz, zero_mul, zero_mul, zero_mul]
    · rw [if_neg hr, if_neg hr, hz, zero_mul, zero_mul]
  · refine Finset.sum_congr rfl fun row hr => Finset.sum_congr rfl fun l _ => ?_
    exact if_pos (Finset.mem_range.mp hr)

/-- The reference's result. -/
theorem ref_eq (hD : D.Good) : val_main_v91 (F := Ideal) D.win D.q D.ksel D.m0 D.l0 D.o0 D.kt D.vt D.tbl D.vst = fun i =>
    Ideal.div (D.O (i 0).val (⟨(i 1).val, (i 1).isLt⟩ : Fin 8) (⟨(i 2).val, (i 2).isLt⟩ : Fin 96) (nit (F := Ideal) D.win (i 0).val))
      (∑ l, D.L (i 0).val (⟨(i 1).val, (i 1).isLt⟩ : Fin 8) l (nit (F := Ideal) D.win (i 0).val)) := by
  funext i
  obtain ⟨hm, hm'⟩ := hD.fin (pq (i 0).val) (rr (i 1).val (i 1).isLt)
  rw [val_main_v91_apply, r_start hD]
  show Ideal.div _ (D.W (i 0).val (rr (i 1).val (i 1).isLt)) + val_main_v90 (F := Ideal) D.win D.q D.ksel D.m0 D.l0 D.kt D.vt D.tbl D.vst i
    = Ideal.div (D.O (i 0).val (rr (i 1).val (i 1).isLt) (⟨(i 2).val, (i 2).isLt⟩ : Fin 96) (nit (F := Ideal) D.win (i 0).val)) (D.W (i 0).val (rr (i 1).val (i 1).isLt))
  have hO : D.O (i 0).val (rr (i 1).val (i 1).isLt) (⟨(i 2).val, (i 2).isLt⟩ : Fin 96) (nit (F := Ideal) D.win (i 0).val)
      = D.o0 (ix3 (pq (i 0).val) (rr (i 1).val (i 1).isLt) (⟨(i 2).val, (i 2).isLt⟩ : Fin 96)) * Ideal.exp (D.m0 (ix3 (pq (i 0).val) (rr (i 1).val (i 1).isLt) 0) - D.T (i 0).val (rr (i 1).val (i 1).isLt))
        + ∑ row ∈ range (8 * nit (F := Ideal) D.win (i 0).val), ∑ l, Ideal.exp (D.sc (i 0).val (rr (i 1).val (i 1).isLt) row l - D.T (i 0).val (rr (i 1).val (i 1).isLt)) * D.vs (i 0).val row l * D.v (i 0).val (⟨(i 2).val, (i 2).isLt⟩ : Fin 96) row l :=
    OS_eq _ hm hm' _ _ _ _
  rw [hO]
  by_cases hT : D.T (i 0).val (rr (i 1).val (i 1).isLt) = ⊤
  · rw [W_top hD hT, hT]
    simp only [sub_top', Ideal.exp_bot, mul_zero, zero_mul, Finset.sum_const_zero, add_zero]
    have hz : Ideal.div 0 0 = ⊥ := (if_pos rfl).trans (if_neg (lt_irrefl _))
    rw [hz, EReal.bot_add]
  · have hW := W_pos hD hT
    rw [r_sum hD i hW, ← Finset.sum_product', ← Finset.sum_product']
    exact (div_sum _ _ _ _ _ hW).symm

end Cert.Attend

end
-- ==== Proof.Same.lean ====
/-
  The idealized program is the program's own text: the pass rewrote nothing. So the two body tables and the two launches
  are equal at any float operations, and a run of the one is a run of the other.
-/
module

public import proofs.«01_k».proof.Proof.Gen.Kernel
public import proofs.«01_k».proof.Proof.Gen.KernelIdeal

@[expose] public section

set_option maxRecDepth 100000

noncomputable section

namespace Cert.Same

open Idealize.ShloMosaic Idealize.ShloMosaic.TcCoe
open Idealize.SL.Sem (Labels Prog)

attribute [local instance] Cert.Kernel.Gen.facts Cert.KernelIdeal.Gen.facts

variable (F : FTy → Type) [FloatOps F]

set_option maxHeartbeats 4000000 in
/-- The bodies are one function. -/
theorem attend_eq : @Cert.Kernel.cc0_attend F _ _ = @Cert.KernelIdeal.cc0_attend F _ _ := rfl

set_option maxHeartbeats 4000000 in
/-- So are the body tables. -/
theorem defs₀_eq : @Cert.Kernel.defs₀ F _ _ = @Cert.KernelIdeal.defs₀ F _ _ := by
  refine congrArg Defs.onTc (funext fun l => funext fun a => ?_)
  match l, a with
  | 0, (t, s) =>
    dsimp only
    iterate 53 refine congrFun ?_ _
    exact attend_eq F
  | ⟨n + 1, h⟩, _ => exact absurd h (Nat.not_lt.2 (Nat.le_add_left _ _))

set_option maxHeartbeats 4000000 in
/-- And the tables with the pipeline's labels. -/
theorem defs_eq : @Cert.Kernel.defs F _ _ = @Cert.KernelIdeal.defs F _ _ :=
  congrArg (Pipeline.defs (Cert.Kernel.pcfgs (F := F))) (defs₀_eq F)

/-- The hosts' programs are one program. -/
theorem main_eq : (Cert.Kernel.main (F := F)) = Cert.KernelIdeal.main (F := F) := rfl

/-- A run of equal programs on equal tables. -/
theorem run_of {nD : ℕ} {τ : Topo} {sig : RefSig} {Val : EltTy → Type} {Λ : Labels}
    {d d' : Defs nD τ sig Val Λ} {p p' : Dev nD → Prog (TpuEff nD τ sig Val Λ .tc) PUnit}
    (e : d = d') (f : p = p') {s : MemSt nD τ sig Val} {Q : PUnit × MemSt nD τ sig Val → Prop}
    (h : θ_run d (onTc (τ := τ) p) s Q) : θ_run d' (onTc (τ := τ) p') s Q := by
  subst e f; exact h

end Cert.Same

end
-- ==== Proof.lean ====
/-
  The claims' proof. The frames come from the body's run (`Cert.Attend.frame`) at a windows' table the precondition holds
  of, the value claim from the run's result at sound tables (`Cert.Attend.value`) and the reference read slot by slot
  (`Cert.Attend.ref_eq`). The idealized program is the program itself, so its runs are the program's at ideal values.
-/
module

public import proofs.«01_k».proof.Defs
public import proofs.«01_k».proof.Proof.Inside
public import proofs.«01_k».proof.Proof.Sound
public import proofs.«01_k».proof.Proof.Value
public import proofs.«01_k».proof.Proof.Ref
public import proofs.«01_k».proof.Proof.Gen.Kernel
public import proofs.«01_k».proof.Proof.Gen.KernelIdeal
public import proofs.«01_k».proof.Proof.Same
public import proofs.«01_k».proof.Proof.Gen.ReferenceIdeal
public import proofs.«01_k».proof.Proof.Gen.ReferenceIdeal.Run
public import proofs.«01_k».proof.Proof.Gen.ReferenceIdeal.Read

@[expose] public section

set_option maxRecDepth 100000

noncomputable section

namespace Cert.Proof

open Idealize.ShloMosaic Idealize.ShloMosaic.TcCoe Idealize.SL.Sem

instance : Cert.Pre_windows_inside.Facts := Cert.Pre_windows_inside.facts

instance : Cert.Pre_tables_sound.Facts := Cert.Pre_tables_sound.facts

theorem frame_Kernel : Cert.quiescent_Kernel := fun m g h =>
  Cert.Attend.frame (F := Bits) m g fun c => Cert.Attend.wok_of _ _ _ _ _ _ _ _ _ _ (h c)

set_option maxHeartbeats 4000000 in
theorem frame_KernelIdeal : Cert.quiescent_KernelIdeal := fun m g h =>
  Cert.Same.run_of (Cert.Same.defs_eq Ideal) (Cert.Same.main_eq Ideal)
    (Cert.Attend.frame (F := Ideal) m g fun c => Cert.Attend.wok_of _ _ _ _ _ _ _ _ _ _ (h c))

set_option maxHeartbeats 4000000 in
theorem frame_KernelIdeal_sound : Cert.quiescent_KernelIdeal_pre_tables_sound := fun m g h =>
  Cert.Same.run_of (Cert.Same.defs_eq Ideal) (Cert.Same.main_eq Ideal)
    (Cert.Attend.frame (F := Ideal) m g fun c => (Cert.Attend.good_of (Cert.Attend.src m c) (h c)).wok)

theorem frame_ReferenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_ReferenceIdeal_sound : Cert.quiescent_ReferenceIdeal_pre_tables_sound := fun m g _ => frame_ReferenceIdeal m g trivial

set_option maxHeartbeats 4000000 in
/-- The reference's result at the kernel's arguments. -/
theorem reference_out (m : (ℓ : Loc Cert.KernelIdeal.nD Cert.KernelIdeal.τ Cert.KernelIdeal.sig) → Buf (Elt Ideal) ℓ) (h : Cert.Pre_KernelIdeal_tables_sound m) (c : Dev Cert.KernelIdeal.nD) :
    Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = (Cert.Attend.src m c).out :=
  Cert.Attend.ref_eq (D := Cert.Attend.src m c) (Cert.Attend.good_of (Cert.Attend.src m c) (h c))

set_option maxHeartbeats 4000000 in
theorem algebraic : Cert.algebraic_KernelIdeal_ReferenceIdeal_pre_tables_sound := by
  intro m g m' g' hpre hargs
  refine ⟨fun c => (Cert.Attend.src m c).out, Cert.Same.run_of (Cert.Same.defs_eq Ideal) (Cert.Same.main_eq Ideal)
    (Cert.Attend.value m g fun c => Cert.Attend.good_of (Cert.Attend.src m c) (hpre c)),
    (θ_run Cert.ReferenceIdeal.defs _ _).mono (fun r h c => ⟨(h c).1.trans ?_, (h c).2⟩) (Cert.ReferenceIdeal.Value.run (F := Ideal) m' g')⟩
  rw [Cert.ReferenceIdeal.Read.val_main_v91_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
  exact reference_out m hpre c

theorem claim : Cert.Claim :=
  ⟨Cert.Kernel.Gen.facts, Cert.KernelIdeal.Gen.facts, Cert.ReferenceIdeal.Gen.facts, Cert.Pre_windows_inside.facts, Cert.Pre_tables_sound.facts,
    frame_Kernel, frame_KernelIdeal, frame_KernelIdeal_sound, frame_ReferenceIdeal, frame_ReferenceIdeal_sound, trivial, algebraic⟩

end Cert.Proof

end
